-- ==== Defs.lean ====
def Pre_MemRms (m : (ℓ : Loc Cert.MemRms.nD Cert.MemRms.τ Cert.MemRms.sig) → Buf (Elt Bits) ℓ) : Prop :=
  True

def Pre_MemRmsIdeal (m : (ℓ : Loc Cert.MemRmsIdeal.nD Cert.MemRmsIdeal.τ Cert.MemRmsIdeal.sig) → Buf (Elt Ideal) ℓ) : Prop :=
  True

def Pre_MemRmsRefIdeal (m : (ℓ : Loc Cert.MemRmsRefIdeal.nD Cert.MemRmsRefIdeal.τ Cert.MemRmsRefIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_InE (m : (ℓ : Loc Cert.InE.nD Cert.InE.τ Cert.InE.sig) → Buf (Elt Bits) ℓ) : Prop :=
  True

def Pre_InEIdeal (m : (ℓ : Loc Cert.InEIdeal.nD Cert.InEIdeal.τ Cert.InEIdeal.sig) → Buf (Elt Ideal) ℓ) : Prop :=
  True

def Pre_InERefIdeal (m : (ℓ : Loc Cert.InERefIdeal.nD Cert.InERefIdeal.τ Cert.InERefIdeal.sig) → Buf (Elt Ideal) ℓ) : Prop :=
  True

def Pre_InO (m : (ℓ : Loc Cert.InO.nD Cert.InO.τ Cert.InO.sig) → Buf (Elt Bits) ℓ) : Prop :=
  True

def Pre_InOIdeal (m : (ℓ : Loc Cert.InOIdeal.nD Cert.InOIdeal.τ Cert.InOIdeal.sig) → Buf (Elt Ideal) ℓ) : Prop :=
  True

def Pre_InORefIdeal (m : (ℓ : Loc Cert.InORefIdeal.nD Cert.InORefIdeal.τ Cert.InORefIdeal.sig) → Buf (Elt Ideal) ℓ) : Prop :=
  True

def Pre_OutE (m : (ℓ : Loc Cert.OutE.nD Cert.OutE.τ Cert.OutE.sig) → Buf (Elt Bits) ℓ) : Prop :=
  True

def Pre_OutEIdeal (m : (ℓ : Loc Cert.OutEIdeal.nD Cert.OutEIdeal.τ Cert.OutEIdeal.sig) → Buf (Elt Ideal) ℓ) : Prop :=
  True

def Pre_OutERefIdeal (m : (ℓ : Loc Cert.OutERefIdeal.nD Cert.OutERefIdeal.τ Cert.OutERefIdeal.sig) → Buf (Elt Ideal) ℓ) : Prop :=
  True

def Pre_OutO (m : (ℓ : Loc Cert.OutO.nD Cert.OutO.τ Cert.OutO.sig) → Buf (Elt Bits) ℓ) : Prop :=
  True

def Pre_OutOIdeal (m : (ℓ : Loc Cert.OutOIdeal.nD Cert.OutOIdeal.τ Cert.OutOIdeal.sig) → Buf (Elt Ideal) ℓ) : Prop :=
  True

def Pre_OutORefIdeal (m : (ℓ : Loc Cert.OutORefIdeal.nD Cert.OutORefIdeal.τ Cert.OutORefIdeal.sig) → Buf (Elt Ideal) ℓ) : Prop :=
  True

def Pre_MemAttn (m : (ℓ : Loc Cert.MemAttn.nD Cert.MemAttn.τ Cert.MemAttn.sig) → Buf (Elt Bits) ℓ) : Prop :=
  True

def Pre_MemAttnIdeal (m : (ℓ : Loc Cert.MemAttnIdeal.nD Cert.MemAttnIdeal.τ Cert.MemAttnIdeal.sig) → Buf (Elt Ideal) ℓ) : Prop :=
  True

def Pre_MemAttnRefIdeal (m : (ℓ : Loc Cert.MemAttnRefIdeal.nD Cert.MemAttnRefIdeal.τ Cert.MemAttnRefIdeal.sig) → Buf (Elt Ideal) ℓ) : Prop :=
  True

def Pre_MemFwd (m : (ℓ : Loc Cert.MemFwd.nD Cert.MemFwd.τ Cert.MemFwd.sig) → Buf (Elt Bits) ℓ) : Prop :=
  True

def Pre_MemFwdIdeal (m : (ℓ : Loc Cert.MemFwdIdeal.nD Cert.MemFwdIdeal.τ Cert.MemFwdIdeal.sig) → Buf (Elt Ideal) ℓ) : Prop :=
  True

def Pre_MemFwdRefIdeal (m : (ℓ : Loc Cert.MemFwdRefIdeal.nD Cert.MemFwdRefIdeal.τ Cert.MemFwdRefIdeal.sig) → Buf (Elt Ideal) ℓ) : Prop :=
  True

def Pre_AttnFwd (m : (ℓ : Loc Cert.AttnFwd.nD Cert.AttnFwd.τ Cert.AttnFwd.sig) → Buf (Elt Bits) ℓ) : Prop :=
  True

def Pre_AttnFwdIdeal (m : (ℓ : Loc Cert.AttnFwdIdeal.nD Cert.AttnFwdIdeal.τ Cert.AttnFwdIdeal.sig) → Buf (Elt Ideal) ℓ) : Prop :=
  True

def Pre_AttnFwdRefIdeal (m : (ℓ : Loc Cert.AttnFwdRefIdeal.nD Cert.AttnFwdRefIdeal.τ Cert.AttnFwdRefIdeal.sig) → Buf (Elt Ideal) ℓ) : Prop :=
  True

def Pre_OutEFwd (m : (ℓ : Loc Cert.OutEFwd.nD Cert.OutEFwd.τ Cert.OutEFwd.sig) → Buf (Elt Bits) ℓ) : Prop :=
  True

def Pre_OutEFwdIdeal (m : (ℓ : Loc Cert.OutEFwdIdeal.nD Cert.OutEFwdIdeal.τ Cert.OutEFwdIdeal.sig) → Buf (Elt Ideal) ℓ) : Prop :=
  True

def Pre_OutEFwdRefIdeal (m : (ℓ : Loc Cert.OutEFwdRefIdeal.nD Cert.OutEFwdRefIdeal.τ Cert.OutEFwdRefIdeal.sig) → Buf (Elt Ideal) ℓ) : Prop :=
  True

def Pre_OutOFwd (m : (ℓ : Loc Cert.OutOFwd.nD Cert.OutOFwd.τ Cert.OutOFwd.sig) → Buf (Elt Bits) ℓ) : Prop :=
  True

def Pre_OutOFwdIdeal (m : (ℓ : Loc Cert.OutOFwdIdeal.nD Cert.OutOFwdIdeal.τ Cert.OutOFwdIdeal.sig) → Buf (Elt Ideal) ℓ) : Prop :=
  True

def Pre_OutOFwdRefIdeal (m : (ℓ : Loc Cert.OutOFwdRefIdeal.nD Cert.OutOFwdRefIdeal.τ Cert.OutOFwdRefIdeal.sig) → Buf (Elt Ideal) ℓ) : Prop :=
  True

def Pre_InEFwd (m : (ℓ : Loc Cert.InEFwd.nD Cert.InEFwd.τ Cert.InEFwd.sig) → Buf (Elt Bits) ℓ) : Prop :=
  True

def Pre_InEFwdIdeal (m : (ℓ : Loc Cert.InEFwdIdeal.nD Cert.InEFwdIdeal.τ Cert.InEFwdIdeal.sig) → Buf (Elt Ideal) ℓ) : Prop :=
  True

def Pre_InEFwdRefIdeal (m : (ℓ : Loc Cert.InEFwdRefIdeal.nD Cert.InEFwdRefIdeal.τ Cert.InEFwdRefIdeal.sig) → Buf (Elt Ideal) ℓ) : Prop :=
  True

def Pre_InOFwd (m : (ℓ : Loc Cert.InOFwd.nD Cert.InOFwd.τ Cert.InOFwd.sig) → Buf (Elt Bits) ℓ) : Prop :=
  True

def Pre_InOFwdIdeal (m : (ℓ : Loc Cert.InOFwdIdeal.nD Cert.InOFwdIdeal.τ Cert.InOFwdIdeal.sig) → Buf (Elt Ideal) ℓ) : Prop :=
  True

def Pre_InOFwdRefIdeal (m : (ℓ : Loc Cert.InOFwdRefIdeal.nD Cert.InOFwdRefIdeal.τ Cert.InOFwdRefIdeal.sig) → Buf (Elt Ideal) ℓ) : Prop :=
  True

def Pre_MemRmsFwd (m : (ℓ : Loc Cert.MemRmsFwd.nD Cert.MemRmsFwd.τ Cert.MemRmsFwd.sig) → Buf (Elt Bits) ℓ) : Prop :=
  True

def Pre_MemRmsFwdIdeal (m : (ℓ : Loc Cert.MemRmsFwdIdeal.nD Cert.MemRmsFwdIdeal.τ Cert.MemRmsFwdIdeal.sig) → Buf (Elt Ideal) ℓ) : Prop :=
  True

def Pre_MemRmsFwdRefIdeal (m : (ℓ : Loc Cert.MemRmsFwdRefIdeal.nD Cert.MemRmsFwdRefIdeal.τ Cert.MemRmsFwdRefIdeal.sig) → Buf (Elt Ideal) ℓ) : Prop :=
  True

def quiescent_MemRms [hMemRms : Cert.MemRms.Facts] : Prop :=
  ∀ (m : (ℓ : Loc Cert.MemRms.nD Cert.MemRms.τ Cert.MemRms.sig) → Buf (Elt Bits) ℓ) (g : Dev Cert.MemRms.nD → PrngReg), Pre_MemRms m →
    θ_run (Cert.MemRms.defs (F := Bits)) (onTc (τ := Cert.MemRms.τ) (Cert.MemRms.main (F := Bits))) ⟨m, fun _ => 0, g⟩ (fun r => (∀ c : Dev Cert.MemRms.nD,
      r.2.mem ((c.tc : Thread Cert.MemRms.nD Cert.MemRms.τ).loc Cert.MemRms.main_arg0) = m ((c.tc : Thread Cert.MemRms.nD Cert.MemRms.τ).loc Cert.MemRms.main_arg0)
      ∧ r.2.mem ((c.tc : Thread Cert.MemRms.nD Cert.MemRms.τ).loc Cert.MemRms.main_arg1) = m ((c.tc : Thread Cert.MemRms.nD Cert.MemRms.τ).loc Cert.MemRms.main_arg1)
      ∧ r.2.mem ((c.tc : Thread Cert.MemRms.nD Cert.MemRms.τ).loc Cert.MemRms.main_arg2) = m ((c.tc : Thread Cert.MemRms.nD Cert.MemRms.τ).loc Cert.MemRms.main_arg2))
      ∧ r.2.sem = fun _ => 0)

def quiescent_MemRmsIdeal [hMemRmsIdeal : Cert.MemRmsIdeal.Facts] : Prop :=
  ∀ (m : (ℓ : Loc Cert.MemRmsIdeal.nD Cert.MemRmsIdeal.τ Cert.MemRmsIdeal.sig) → Buf (Elt Ideal) ℓ) (g : Dev Cert.MemRmsIdeal.nD → PrngReg), Pre_MemRmsIdeal m →
    θ_run (Cert.MemRmsIdeal.defs (F := Ideal)) (onTc (τ := Cert.MemRmsIdeal.τ) (Cert.MemRmsIdeal.main (F := Ideal))) ⟨m, fun _ => 0, g⟩ (fun r => (∀ c : Dev Cert.MemRmsIdeal.nD,
      r.2.mem ((c.tc : Thread Cert.MemRmsIdeal.nD Cert.MemRmsIdeal.τ).loc Cert.MemRmsIdeal.main_arg0) = m ((c.tc : Thread Cert.MemRmsIdeal.nD Cert.MemRmsIdeal.τ).loc Cert.MemRmsIdeal.main_arg0)
      ∧ r.2.mem ((c.tc : Thread Cert.MemRmsIdeal.nD Cert.MemRmsIdeal.τ).loc Cert.MemRmsIdeal.main_arg1) = m ((c.tc : Thread Cert.MemRmsIdeal.nD Cert.MemRmsIdeal.τ).loc Cert.MemRmsIdeal.main_arg1)
      ∧ r.2.mem ((c.tc : Thread Cert.MemRmsIdeal.nD Cert.MemRmsIdeal.τ).loc Cert.MemRmsIdeal.main_arg2) = m ((c.tc : Thread Cert.MemRmsIdeal.nD Cert.MemRmsIdeal.τ).loc Cert.MemRmsIdeal.main_arg2))
      ∧ r.2.sem = fun _ => 0)

def quiescent_MemRmsRefIdeal [hMemRmsRefIdeal : Cert.MemRmsRefIdeal.Facts] : Prop :=
  ∀ (m : (ℓ : Loc Cert.MemRmsRefIdeal.nD Cert.MemRmsRefIdeal.τ Cert.MemRmsRefIdeal.sig) → Buf (Elt Ideal) ℓ) (g : Dev Cert.MemRmsRefIdeal.nD → PrngReg), Pre_MemRmsRefIdeal m →
    θ_run (Cert.MemRmsRefIdeal.defs (F := Ideal)) (onTc (τ := Cert.MemRmsRefIdeal.τ) (Cert.MemRmsRefIdeal.main (F := Ideal))) ⟨m, fun _ => 0, g⟩ (fun r => (∀ c : Dev Cert.MemRmsRefIdeal.nD,
      r.2.mem ((c.tc : Thread Cert.MemRmsRefIdeal.nD Cert.MemRmsRefIdeal.τ).loc Cert.MemRmsRefIdeal.main_arg0) = m ((c.tc : Thread Cert.MemRmsRefIdeal.nD Cert.MemRmsRefIdeal.τ).loc Cert.MemRmsRefIdeal.main_arg0)
      ∧ r.2.mem ((c.tc : Thread Cert.MemRmsRefIdeal.nD Cert.MemRmsRefIdeal.τ).loc Cert.MemRmsRefIdeal.main_arg1) = m ((c.tc : Thread Cert.MemRmsRefIdeal.nD Cert.MemRmsRefIdeal.τ).loc Cert.MemRmsRefIdeal.main_arg1)
      ∧ r.2.mem ((c.tc : Thread Cert.MemRmsRefIdeal.nD Cert.MemRmsRefIdeal.τ).loc Cert.MemRmsRefIdeal.main_arg2) = m ((c.tc : Thread Cert.MemRmsRefIdeal.nD Cert.MemRmsRefIdeal.τ).loc Cert.MemRmsRefIdeal.main_arg2))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2))
      ∧ r.2.sem = fun _ => 0)

def quiescent_InE [hInE : Cert.InE.Facts] : Prop :=
  ∀ (m : (ℓ : Loc Cert.InE.nD Cert.InE.τ Cert.InE.sig) → Buf (Elt Bits) ℓ) (g : Dev Cert.InE.nD → PrngReg), Pre_InE m →
    θ_run (Cert.InE.defs (F := Bits)) (onTc (τ := Cert.InE.τ) (Cert.InE.main (F := Bits))) ⟨m, fun _ => 0, g⟩ (fun r => (∀ c : Dev Cert.InE.nD,
      r.2.mem ((c.tc : Thread Cert.InE.nD Cert.InE.τ).loc Cert.InE.main_arg0) = m ((c.tc : Thread Cert.InE.nD Cert.InE.τ).loc Cert.InE.main_arg0)
      ∧ r.2.mem ((c.tc : Thread Cert.InE.nD Cert.InE.τ).loc Cert.InE.main_arg1) = m ((c.tc : Thread Cert.InE.nD Cert.InE.τ).loc Cert.InE.main_arg1)
      ∧ r.2.mem ((c.tc : Thread Cert.InE.nD Cert.InE.τ).loc Cert.InE.main_arg2) = m ((c.tc : Thread Cert.InE.nD Cert.InE.τ).loc Cert.InE.main_arg2)
      ∧ r.2.mem ((c.tc : Thread Cert.InE.nD Cert.InE.τ).loc Cert.InE.main_arg3) = m ((c.tc : Thread Cert.InE.nD Cert.InE.τ).loc Cert.InE.main_arg3)
      ∧ r.2.mem ((c.tc : Thread Cert.InE.nD Cert.InE.τ).loc Cert.InE.main_arg4) = m ((c.tc : Thread Cert.InE.nD Cert.InE.τ).loc Cert.InE.main_arg4)
      ∧ r.2.mem ((c.tc : Thread Cert.InE.nD Cert.InE.τ).loc Cert.InE.main_arg5) = m ((c.tc : Thread Cert.InE.nD Cert.InE.τ).loc Cert.InE.main_arg5)
      ∧ r.2.mem ((c.tc : Thread Cert.InE.nD Cert.InE.τ).loc Cert.InE.main_arg6) = m ((c.tc : Thread Cert.InE.nD Cert.InE.τ).loc Cert.InE.main_arg6)
      ∧ r.2.mem ((c.tc : Thread Cert.InE.nD Cert.InE.τ).loc Cert.InE.main_arg7) = m ((c.tc : Thread Cert.InE.nD Cert.InE.τ).loc Cert.InE.main_arg7)
      ∧ r.2.mem ((c.tc : Thread Cert.InE.nD Cert.InE.τ).loc Cert.InE.main_arg8) = m ((c.tc : Thread Cert.InE.nD Cert.InE.τ).loc Cert.InE.main_arg8)
      ∧ r.2.mem ((c.tc : Thread Cert.InE.nD Cert.InE.τ).loc Cert.InE.main_arg9) = m ((c.tc : Thread Cert.InE.nD Cert.InE.τ).loc Cert.InE.main_arg9)
      ∧ r.2.mem ((c.tc : Thread Cert.InE.nD Cert.InE.τ).loc Cert.InE.main_arg10) = m ((c.tc : Thread Cert.InE.nD Cert.InE.τ).loc Cert.InE.main_arg10)
      ∧ r.2.mem ((c.tc : Thread Cert.InE.nD Cert.InE.τ).loc Cert.InE.main_arg11) = m ((c.tc : Thread Cert.InE.nD Cert.InE.τ).loc Cert.InE.main_arg11)
      ∧ r.2.mem ((c.tc : Thread Cert.InE.nD Cert.InE.τ).loc Cert.InE.main_arg12) = m ((c.tc : Thread Cert.InE.nD Cert.InE.τ).loc Cert.InE.main_arg12)
      ∧ r.2.mem ((c.tc : Thread Cert.InE.nD Cert.InE.τ).loc Cert.InE.main_arg13) = m ((c.tc : Thread Cert.InE.nD Cert.InE.τ).loc Cert.InE.main_arg13)
      ∧ r.2.mem ((c.tc : Thread Cert.InE.nD Cert.InE.τ).loc Cert.InE.main_arg14) = m ((c.tc : Thread Cert.InE.nD Cert.InE.τ).loc Cert.InE.main_arg14)
      ∧ r.2.mem ((c.tc : Thread Cert.InE.nD Cert.InE.τ).loc Cert.InE.main_arg15) = m ((c.tc : Thread Cert.InE.nD Cert.InE.τ).loc Cert.InE.main_arg15))
      ∧ r.2.sem = fun _ => 0)

def quiescent_InEIdeal [hInEIdeal : Cert.InEIdeal.Facts] : Prop :=
  ∀ (m : (ℓ : Loc Cert.InEIdeal.nD Cert.InEIdeal.τ Cert.InEIdeal.sig) → Buf (Elt Ideal) ℓ) (g : Dev Cert.InEIdeal.nD → PrngReg), Pre_InEIdeal m →
    θ_run (Cert.InEIdeal.defs (F := Ideal)) (onTc (τ := Cert.InEIdeal.τ) (Cert.InEIdeal.main (F := Ideal))) ⟨m, fun _ => 0, g⟩ (fun r => (∀ c : Dev Cert.InEIdeal.nD,
      r.2.mem ((c.tc : Thread Cert.InEIdeal.nD Cert.InEIdeal.τ).loc Cert.InEIdeal.main_arg0) = m ((c.tc : Thread Cert.InEIdeal.nD Cert.InEIdeal.τ).loc Cert.InEIdeal.main_arg0)
      ∧ r.2.mem ((c.tc : Thread Cert.InEIdeal.nD Cert.InEIdeal.τ).loc Cert.InEIdeal.main_arg1) = m ((c.tc : Thread Cert.InEIdeal.nD Cert.InEIdeal.τ).loc Cert.InEIdeal.main_arg1)
      ∧ r.2.mem ((c.tc : Thread Cert.InEIdeal.nD Cert.InEIdeal.τ).loc Cert.InEIdeal.main_arg2) = m ((c.tc : Thread Cert.InEIdeal.nD Cert.InEIdeal.τ).loc Cert.InEIdeal.main_arg2)
      ∧ r.2.mem ((c.tc : Thread Cert.InEIdeal.nD Cert.InEIdeal.τ).loc Cert.InEIdeal.main_arg3) = m ((c.tc : Thread Cert.InEIdeal.nD Cert.InEIdeal.τ).loc Cert.InEIdeal.main_arg3)
      ∧ r.2.mem ((c.tc : Thread Cert.InEIdeal.nD Cert.InEIdeal.τ).loc Cert.InEIdeal.main_arg4) = m ((c.tc : Thread Cert.InEIdeal.nD Cert.InEIdeal.τ).loc Cert.InEIdeal.main_arg4)
      ∧ r.2.mem ((c.tc : Thread Cert.InEIdeal.nD Cert.InEIdeal.τ).loc Cert.InEIdeal.main_arg5) = m ((c.tc : Thread Cert.InEIdeal.nD Cert.InEIdeal.τ).loc Cert.InEIdeal.main_arg5)
      ∧ r.2.mem ((c.tc : Thread Cert.InEIdeal.nD Cert.InEIdeal.τ).loc Cert.InEIdeal.main_arg6) = m ((c.tc : Thread Cert.InEIdeal.nD Cert.InEIdeal.τ).loc Cert.InEIdeal.main_arg6)
      ∧ r.2.mem ((c.tc : Thread Cert.InEIdeal.nD Cert.InEIdeal.τ).loc Cert.InEIdeal.main_arg7) = m ((c.tc : Thread Cert.InEIdeal.nD Cert.InEIdeal.τ).loc Cert.InEIdeal.main_arg7)
      ∧ r.2.mem ((c.tc : Thread Cert.InEIdeal.nD Cert.InEIdeal.τ).loc Cert.InEIdeal.main_arg8) = m ((c.tc : Thread Cert.InEIdeal.nD Cert.InEIdeal.τ).loc Cert.InEIdeal.main_arg8)
      ∧ r.2.mem ((c.tc : Thread Cert.InEIdeal.nD Cert.InEIdeal.τ).loc Cert.InEIdeal.main_arg9) = m ((c.tc : Thread Cert.InEIdeal.nD Cert.InEIdeal.τ).loc Cert.InEIdeal.main_arg9)
      ∧ r.2.mem ((c.tc : Thread Cert.InEIdeal.nD Cert.InEIdeal.τ).loc Cert.InEIdeal.main_arg10) = m ((c.tc : Thread Cert.InEIdeal.nD Cert.InEIdeal.τ).loc Cert.InEIdeal.main_arg10)
      ∧ r.2.mem ((c.tc : Thread Cert.InEIdeal.nD Cert.InEIdeal.τ).loc Cert.InEIdeal.main_arg11) = m ((c.tc : Thread Cert.InEIdeal.nD Cert.InEIdeal.τ).loc Cert.InEIdeal.main_arg11)
      ∧ r.2.mem ((c.tc : Thread Cert.InEIdeal.nD Cert.InEIdeal.τ).loc Cert.InEIdeal.main_arg12) = m ((c.tc : Thread Cert.InEIdeal.nD Cert.InEIdeal.τ).loc Cert.InEIdeal.main_arg12)
      ∧ r.2.mem ((c.tc : Thread Cert.InEIdeal.nD Cert.InEIdeal.τ).loc Cert.InEIdeal.main_arg13) = m ((c.tc : Thread Cert.InEIdeal.nD Cert.InEIdeal.τ).loc Cert.InEIdeal.main_arg13)
      ∧ r.2.mem ((c.tc : Thread Cert.InEIdeal.nD Cert.InEIdeal.τ).loc Cert.InEIdeal.main_arg14) = m ((c.tc : Thread Cert.InEIdeal.nD Cert.InEIdeal.τ).loc Cert.InEIdeal.main_arg14)
      ∧ r.2.mem ((c.tc : Thread Cert.InEIdeal.nD Cert.InEIdeal.τ).loc Cert.InEIdeal.main_arg15) = m ((c.tc : Thread Cert.InEIdeal.nD Cert.InEIdeal.τ).loc Cert.InEIdeal.main_arg15))
      ∧ r.2.sem = fun _ => 0)

def quiescent_InERefIdeal [hInERefIdeal : Cert.InERefIdeal.Facts] : Prop :=
  ∀ (m : (ℓ : Loc Cert.InERefIdeal.nD Cert.InERefIdeal.τ Cert.InERefIdeal.sig) → Buf (Elt Ideal) ℓ) (g : Dev Cert.InERefIdeal.nD → PrngReg), Pre_InERefIdeal m →
    θ_run (Cert.InERefIdeal.defs (F := Ideal)) (onTc (τ := Cert.InERefIdeal.τ) (Cert.InERefIdeal.main (F := Ideal))) ⟨m, fun _ => 0, g⟩ (fun r => (∀ c : Dev Cert.InERefIdeal.nD,
      r.2.mem ((c.tc : Thread Cert.InERefIdeal.nD Cert.InERefIdeal.τ).loc Cert.InERefIdeal.main_arg0) = m ((c.tc : Thread Cert.InERefIdeal.nD Cert.InERefIdeal.τ).loc Cert.InERefIdeal.main_arg0)
      ∧ r.2.mem ((c.tc : Thread Cert.InERefIdeal.nD Cert.InERefIdeal.τ).loc Cert.InERefIdeal.main_arg1) = m ((c.tc : Thread Cert.InERefIdeal.nD Cert.InERefIdeal.τ).loc Cert.InERefIdeal.main_arg1)
      ∧ r.2.mem ((c.tc : Thread Cert.InERefIdeal.nD Cert.InERefIdeal.τ).loc Cert.InERefIdeal.main_arg2) = m ((c.tc : Thread Cert.InERefIdeal.nD Cert.InERefIdeal.τ).loc Cert.InERefIdeal.main_arg2)
      ∧ r.2.mem ((c.tc : Thread Cert.InERefIdeal.nD Cert.InERefIdeal.τ).loc Cert.InERefIdeal.main_arg3) = m ((c.tc : Thread Cert.InERefIdeal.nD Cert.InERefIdeal.τ).loc Cert.InERefIdeal.main_arg3)
      ∧ r.2.mem ((c.tc : Thread Cert.InERefIdeal.nD Cert.InERefIdeal.τ).loc Cert.InERefIdeal.main_arg4) = m ((c.tc : Thread Cert.InERefIdeal.nD Cert.InERefIdeal.τ).loc Cert.InERefIdeal.main_arg4)
      ∧ r.2.mem ((c.tc : Thread Cert.InERefIdeal.nD Cert.InERefIdeal.τ).loc Cert.InERefIdeal.main_arg5) = m ((c.tc : Thread Cert.InERefIdeal.nD Cert.InERefIdeal.τ).loc Cert.InERefIdeal.main_arg5)
      ∧ r.2.mem ((c.tc : Thread Cert.InERefIdeal.nD Cert.InERefIdeal.τ).loc Cert.InERefIdeal.main_arg6) = m ((c.tc : Thread Cert.InERefIdeal.nD Cert.InERefIdeal.τ).loc Cert.InERefIdeal.main_arg6)
      ∧ r.2.mem ((c.tc : Thread Cert.InERefIdeal.nD Cert.InERefIdeal.τ).loc Cert.InERefIdeal.main_arg7) = m ((c.tc : Thread Cert.InERefIdeal.nD Cert.InERefIdeal.τ).loc Cert.InERefIdeal.main_arg7)
      ∧ r.2.mem ((c.tc : Thread Cert.InERefIdeal.nD Cert.InERefIdeal.τ).loc Cert.InERefIdeal.main_arg8) = m ((c.tc : Thread Cert.InERefIdeal.nD Cert.InERefIdeal.τ).loc Cert.InERefIdeal.main_arg8)
      ∧ r.2.mem ((c.tc : Thread Cert.InERefIdeal.nD Cert.InERefIdeal.τ).loc Cert.InERefIdeal.main_arg9) = m ((c.tc : Thread Cert.InERefIdeal.nD Cert.InERefIdeal.τ).loc Cert.InERefIdeal.main_arg9)
      ∧ r.2.mem ((c.tc : Thread Cert.InERefIdeal.nD Cert.InERefIdeal.τ).loc Cert.InERefIdeal.main_arg10) = m ((c.tc : Thread Cert.InERefIdeal.nD Cert.InERefIdeal.τ).loc Cert.InERefIdeal.main_arg10)
      ∧ r.2.mem ((c.tc : Thread Cert.InERefIdeal.nD Cert.InERefIdeal.τ).loc Cert.InERefIdeal.main_arg11) = m ((c.tc : Thread Cert.InERefIdeal.nD Cert.InERefIdeal.τ).loc Cert.InERefIdeal.main_arg11)
      ∧ r.2.mem ((c.tc : Thread Cert.InERefIdeal.nD Cert.InERefIdeal.τ).loc Cert.InERefIdeal.main_arg12) = m ((c.tc : Thread Cert.InERefIdeal.nD Cert.InERefIdeal.τ).loc Cert.InERefIdeal.main_arg12)
      ∧ r.2.mem ((c.tc : Thread Cert.InERefIdeal.nD Cert.InERefIdeal.τ).loc Cert.InERefIdeal.main_arg13) = m ((c.tc : Thread Cert.InERefIdeal.nD Cert.InERefIdeal.τ).loc Cert.InERefIdeal.main_arg13)
      ∧ r.2.mem ((c.tc : Thread Cert.InERefIdeal.nD Cert.InERefIdeal.τ).loc Cert.InERefIdeal.main_arg14) = m ((c.tc : Thread Cert.InERefIdeal.nD Cert.InERefIdeal.τ).loc Cert.InERefIdeal.main_arg14)
      ∧ r.2.mem ((c.tc : Thread Cert.InERefIdeal.nD Cert.InERefIdeal.τ).loc Cert.InERefIdeal.main_arg15) = m ((c.tc : Thread Cert.InERefIdeal.nD Cert.InERefIdeal.τ).loc Cert.InERefIdeal.main_arg15))
      ∧ r.2.sem = fun _ => 0)

def quiescent_InO [hInO : Cert.InO.Facts] : Prop :=
  ∀ (m : (ℓ : Loc Cert.InO.nD Cert.InO.τ Cert.InO.sig) → Buf (Elt Bits) ℓ) (g : Dev Cert.InO.nD → PrngReg), Pre_InO m →
    θ_run (Cert.InO.defs (F := Bits)) (onTc (τ := Cert.InO.τ) (Cert.InO.main (F := Bits))) ⟨m, fun _ => 0, g⟩ (fun r => (∀ c : Dev Cert.InO.nD,
      r.2.mem ((c.tc : Thread Cert.InO.nD Cert.InO.τ).loc Cert.InO.main_arg0) = m ((c.tc : Thread Cert.InO.nD Cert.InO.τ).loc Cert.InO.main_arg0)
      ∧ r.2.mem ((c.tc : Thread Cert.InO.nD Cert.InO.τ).loc Cert.InO.main_arg1) = m ((c.tc : Thread Cert.InO.nD Cert.InO.τ).loc Cert.InO.main_arg1)
      ∧ r.2.mem ((c.tc : Thread Cert.InO.nD Cert.InO.τ).loc Cert.InO.main_arg2) = m ((c.tc : Thread Cert.InO.nD Cert.InO.τ).loc Cert.InO.main_arg2)
      ∧ r.2.mem ((c.tc : Thread Cert.InO.nD Cert.InO.τ).loc Cert.InO.main_arg3) = m ((c.tc : Thread Cert.InO.nD Cert.InO.τ).loc Cert.InO.main_arg3)
      ∧ r.2.mem ((c.tc : Thread Cert.InO.nD Cert.InO.τ).loc Cert.InO.main_arg4) = m ((c.tc : Thread Cert.InO.nD Cert.InO.τ).loc Cert.InO.main_arg4)
      ∧ r.2.mem ((c.tc : Thread Cert.InO.nD Cert.InO.τ).loc Cert.InO.main_arg5) = m ((c.tc : Thread Cert.InO.nD Cert.InO.τ).loc Cert.InO.main_arg5)
      ∧ r.2.mem ((c.tc : Thread Cert.InO.nD Cert.InO.τ).loc Cert.InO.main_arg6) = m ((c.tc : Thread Cert.InO.nD Cert.InO.τ).loc Cert.InO.main_arg6)
      ∧ r.2.mem ((c.tc : Thread Cert.InO.nD Cert.InO.τ).loc Cert.InO.main_arg7) = m ((c.tc : Thread Cert.InO.nD Cert.InO.τ).loc Cert.InO.main_arg7)
      ∧ r.2.mem ((c.tc : Thread Cert.InO.nD Cert.InO.τ).loc Cert.InO.main_arg8) = m ((c.tc : Thread Cert.InO.nD Cert.InO.τ).loc Cert.InO.main_arg8)
      ∧ r.2.mem ((c.tc : Thread Cert.InO.nD Cert.InO.τ).loc Cert.InO.main_arg9) = m ((c.tc : Thread Cert.InO.nD Cert.InO.τ).loc Cert.InO.main_arg9)
      ∧ r.2.mem ((c.tc : Thread Cert.InO.nD Cert.InO.τ).loc Cert.InO.main_arg10) = m ((c.tc : Thread Cert.InO.nD Cert.InO.τ).loc Cert.InO.main_arg10)
      ∧ r.2.mem ((c.tc : Thread Cert.InO.nD Cert.InO.τ).loc Cert.InO.main_arg11) = m ((c.tc : Thread Cert.InO.nD Cert.InO.τ).loc Cert.InO.main_arg11)
      ∧ r.2.mem ((c.tc : Thread Cert.InO.nD Cert.InO.τ).loc Cert.InO.main_arg12) = m ((c.tc : Thread Cert.InO.nD Cert.InO.τ).loc Cert.InO.main_arg12)
      ∧ r.2.mem ((c.tc : Thread Cert.InO.nD Cert.InO.τ).loc Cert.InO.main_arg13) = m ((c.tc : Thread Cert.InO.nD Cert.InO.τ).loc Cert.InO.main_arg13)
      ∧ r.2.mem ((c.tc : Thread Cert.InO.nD Cert.InO.τ).loc Cert.InO.main_arg14) = m ((c.tc : Thread Cert.InO.nD Cert.InO.τ).loc Cert.InO.main_arg14))
      ∧ r.2.sem = fun _ => 0)

def quiescent_InOIdeal [hInOIdeal : Cert.InOIdeal.Facts] : Prop :=
  ∀ (m : (ℓ : Loc Cert.InOIdeal.nD Cert.InOIdeal.τ Cert.InOIdeal.sig) → Buf (Elt Ideal) ℓ) (g : Dev Cert.InOIdeal.nD → PrngReg), Pre_InOIdeal m →
    θ_run (Cert.InOIdeal.defs (F := Ideal)) (onTc (τ := Cert.InOIdeal.τ) (Cert.InOIdeal.main (F := Ideal))) ⟨m, fun _ => 0, g⟩ (fun r => (∀ c : Dev Cert.InOIdeal.nD,
      r.2.mem ((c.tc : Thread Cert.InOIdeal.nD Cert.InOIdeal.τ).loc Cert.InOIdeal.main_arg0) = m ((c.tc : Thread Cert.InOIdeal.nD Cert.InOIdeal.τ).loc Cert.InOIdeal.main_arg0)
      ∧ r.2.mem ((c.tc : Thread Cert.InOIdeal.nD Cert.InOIdeal.τ).loc Cert.InOIdeal.main_arg1) = m ((c.tc : Thread Cert.InOIdeal.nD Cert.InOIdeal.τ).loc Cert.InOIdeal.main_arg1)
      ∧ r.2.mem ((c.tc : Thread Cert.InOIdeal.nD Cert.InOIdeal.τ).loc Cert.InOIdeal.main_arg2) = m ((c.tc : Thread Cert.InOIdeal.nD Cert.InOIdeal.τ).loc Cert.InOIdeal.main_arg2)
      ∧ r.2.mem ((c.tc : Thread Cert.InOIdeal.nD Cert.InOIdeal.τ).loc Cert.InOIdeal.main_arg3) = m ((c.tc : Thread Cert.InOIdeal.nD Cert.InOIdeal.τ).loc Cert.InOIdeal.main_arg3)
      ∧ r.2.mem ((c.tc : Thread Cert.InOIdeal.nD Cert.InOIdeal.τ).loc Cert.InOIdeal.main_arg4) = m ((c.tc : Thread Cert.InOIdeal.nD Cert.InOIdeal.τ).loc Cert.InOIdeal.main_arg4)
      ∧ r.2.mem ((c.tc : Thread Cert.InOIdeal.nD Cert.InOIdeal.τ).loc Cert.InOIdeal.main_arg5) = m ((c.tc : Thread Cert.InOIdeal.nD Cert.InOIdeal.τ).loc Cert.InOIdeal.main_arg5)
      ∧ r.2.mem ((c.tc : Thread Cert.InOIdeal.nD Cert.InOIdeal.τ).loc Cert.InOIdeal.main_arg6) = m ((c.tc : Thread Cert.InOIdeal.nD Cert.InOIdeal.τ).loc Cert.InOIdeal.main_arg6)
      ∧ r.2.mem ((c.tc : Thread Cert.InOIdeal.nD Cert.InOIdeal.τ).loc Cert.InOIdeal.main_arg7) = m ((c.tc : Thread Cert.InOIdeal.nD Cert.InOIdeal.τ).loc Cert.InOIdeal.main_arg7)
      ∧ r.2.mem ((c.tc : Thread Cert.InOIdeal.nD Cert.InOIdeal.τ).loc Cert.InOIdeal.main_arg8) = m ((c.tc : Thread Cert.InOIdeal.nD Cert.InOIdeal.τ).loc Cert.InOIdeal.main_arg8)
      ∧ r.2.mem ((c.tc : Thread Cert.InOIdeal.nD Cert.InOIdeal.τ).loc Cert.InOIdeal.main_arg9) = m ((c.tc : Thread Cert.InOIdeal.nD Cert.InOIdeal.τ).loc Cert.InOIdeal.main_arg9)
      ∧ r.2.mem ((c.tc : Thread Cert.InOIdeal.nD Cert.InOIdeal.τ).loc Cert.InOIdeal.main_arg10) = m ((c.tc : Thread Cert.InOIdeal.nD Cert.InOIdeal.τ).loc Cert.InOIdeal.main_arg10)
      ∧ r.2.mem ((c.tc : Thread Cert.InOIdeal.nD Cert.InOIdeal.τ).loc Cert.InOIdeal.main_arg11) = m ((c.tc : Thread Cert.InOIdeal.nD Cert.InOIdeal.τ).loc Cert.InOIdeal.main_arg11)
      ∧ r.2.mem ((c.tc : Thread Cert.InOIdeal.nD Cert.InOIdeal.τ).loc Cert.InOIdeal.main_arg12) = m ((c.tc : Thread Cert.InOIdeal.nD Cert.InOIdeal.τ).loc Cert.InOIdeal.main_arg12)
      ∧ r.2.mem ((c.tc : Thread Cert.InOIdeal.nD Cert.InOIdeal.τ).loc Cert.InOIdeal.main_arg13) = m ((c.tc : Thread Cert.InOIdeal.nD Cert.InOIdeal.τ).loc Cert.InOIdeal.main_arg13)
      ∧ r.2.mem ((c.tc : Thread Cert.InOIdeal.nD Cert.InOIdeal.τ).loc Cert.InOIdeal.main_arg14) = m ((c.tc : Thread Cert.InOIdeal.nD Cert.InOIdeal.τ).loc Cert.InOIdeal.main_arg14))
      ∧ r.2.sem = fun _ => 0)

def quiescent_InORefIdeal [hInORefIdeal : Cert.InORefIdeal.Facts] : Prop :=
  ∀ (m : (ℓ : Loc Cert.InORefIdeal.nD Cert.InORefIdeal.τ Cert.InORefIdeal.sig) → Buf (Elt Ideal) ℓ) (g : Dev Cert.InORefIdeal.nD → PrngReg), Pre_InORefIdeal m →
    θ_run (Cert.InORefIdeal.defs (F := Ideal)) (onTc (τ := Cert.InORefIdeal.τ) (Cert.InORefIdeal.main (F := Ideal))) ⟨m, fun _ => 0, g⟩ (fun r => (∀ c : Dev Cert.InORefIdeal.nD,
      r.2.mem ((c.tc : Thread Cert.InORefIdeal.nD Cert.InORefIdeal.τ).loc Cert.InORefIdeal.main_arg0) = m ((c.tc : Thread Cert.InORefIdeal.nD Cert.InORefIdeal.τ).loc Cert.InORefIdeal.main_arg0)
      ∧ r.2.mem ((c.tc : Thread Cert.InORefIdeal.nD Cert.InORefIdeal.τ).loc Cert.InORefIdeal.main_arg1) = m ((c.tc : Thread Cert.InORefIdeal.nD Cert.InORefIdeal.τ).loc Cert.InORefIdeal.main_arg1)
      ∧ r.2.mem ((c.tc : Thread Cert.InORefIdeal.nD Cert.InORefIdeal.τ).loc Cert.InORefIdeal.main_arg2) = m ((c.tc : Thread Cert.InORefIdeal.nD Cert.InORefIdeal.τ).loc Cert.InORefIdeal.main_arg2)
      ∧ r.2.mem ((c.tc : Thread Cert.InORefIdeal.nD Cert.InORefIdeal.τ).loc Cert.InORefIdeal.main_arg3) = m ((c.tc : Thread Cert.InORefIdeal.nD Cert.InORefIdeal.τ).loc Cert.InORefIdeal.main_arg3)
      ∧ r.2.mem ((c.tc : Thread Cert.InORefIdeal.nD Cert.InORefIdeal.τ).loc Cert.InORefIdeal.main_arg4) = m ((c.tc : Thread Cert.InORefIdeal.nD Cert.InORefIdeal.τ).loc Cert.InORefIdeal.main_arg4)
      ∧ r.2.mem ((c.tc : Thread Cert.InORefIdeal.nD Cert.InORefIdeal.τ).loc Cert.InORefIdeal.main_arg5) = m ((c.tc : Thread Cert.InORefIdeal.nD Cert.InORefIdeal.τ).loc Cert.InORefIdeal.main_arg5)
      ∧ r.2.mem ((c.tc : Thread Cert.InORefIdeal.nD Cert.InORefIdeal.τ).loc Cert.InORefIdeal.main_arg6) = m ((c.tc : Thread Cert.InORefIdeal.nD Cert.InORefIdeal.τ).loc Cert.InORefIdeal.main_arg6)
      ∧ r.2.mem ((c.tc : Thread Cert.InORefIdeal.nD Cert.InORefIdeal.τ).loc Cert.InORefIdeal.main_arg7) = m ((c.tc : Thread Cert.InORefIdeal.nD Cert.InORefIdeal.τ).loc Cert.InORefIdeal.main_arg7)
      ∧ r.2.mem ((c.tc : Thread Cert.InORefIdeal.nD Cert.InORefIdeal.τ).loc Cert.InORefIdeal.main_arg8) = m ((c.tc : Thread Cert.InORefIdeal.nD Cert.InORefIdeal.τ).loc Cert.InORefIdeal.main_arg8)
      ∧ r.2.mem ((c.tc : Thread Cert.InORefIdeal.nD Cert.InORefIdeal.τ).loc Cert.InORefIdeal.main_arg9) = m ((c.tc : Thread Cert.InORefIdeal.nD Cert.InORefIdeal.τ).loc Cert.InORefIdeal.main_arg9)
      ∧ r.2.mem ((c.tc : Thread Cert.InORefIdeal.nD Cert.InORefIdeal.τ).loc Cert.InORefIdeal.main_arg10) = m ((c.tc : Thread Cert.InORefIdeal.nD Cert.InORefIdeal.τ).loc Cert.InORefIdeal.main_arg10)
      ∧ r.2.mem ((c.tc : Thread Cert.InORefIdeal.nD Cert.InORefIdeal.τ).loc Cert.InORefIdeal.main_arg11) = m ((c.tc : Thread Cert.InORefIdeal.nD Cert.InORefIdeal.τ).loc Cert.InORefIdeal.main_arg11)
      ∧ r.2.mem ((c.tc : Thread Cert.InORefIdeal.nD Cert.InORefIdeal.τ).loc Cert.InORefIdeal.main_arg12) = m ((c.tc : Thread Cert.InORefIdeal.nD Cert.InORefIdeal.τ).loc Cert.InORefIdeal.main_arg12)
      ∧ r.2.mem ((c.tc : Thread Cert.InORefIdeal.nD Cert.InORefIdeal.τ).loc Cert.InORefIdeal.main_arg13) = m ((c.tc : Thread Cert.InORefIdeal.nD Cert.InORefIdeal.τ).loc Cert.InORefIdeal.main_arg13)
      ∧ r.2.mem ((c.tc : Thread Cert.InORefIdeal.nD Cert.InORefIdeal.τ).loc Cert.InORefIdeal.main_arg14) = m ((c.tc : Thread Cert.InORefIdeal.nD Cert.InORefIdeal.τ).loc Cert.InORefIdeal.main_arg14))
      ∧ r.2.sem = fun _ => 0)

def quiescent_OutE [hOutE : Cert.OutE.Facts] : Prop :=
  ∀ (m : (ℓ : Loc Cert.OutE.nD Cert.OutE.τ Cert.OutE.sig) → Buf (Elt Bits) ℓ) (g : Dev Cert.OutE.nD → PrngReg), Pre_OutE m →
    θ_run (Cert.OutE.defs (F := Bits)) (onTc (τ := Cert.OutE.τ) (Cert.OutE.main (F := Bits))) ⟨m, fun _ => 0, g⟩ (fun r => (∀ c : Dev Cert.OutE.nD,
      r.2.mem ((c.tc : Thread Cert.OutE.nD Cert.OutE.τ).loc Cert.OutE.main_arg0) = m ((c.tc : Thread Cert.OutE.nD Cert.OutE.τ).loc Cert.OutE.main_arg0)
      ∧ r.2.mem ((c.tc : Thread Cert.OutE.nD Cert.OutE.τ).loc Cert.OutE.main_arg1) = m ((c.tc : Thread Cert.OutE.nD Cert.OutE.τ).loc Cert.OutE.main_arg1)
      ∧ r.2.mem ((c.tc : Thread Cert.OutE.nD Cert.OutE.τ).loc Cert.OutE.main_arg2) = m ((c.tc : Thread Cert.OutE.nD Cert.OutE.τ).loc Cert.OutE.main_arg2)
      ∧ r.2.mem ((c.tc : Thread Cert.OutE.nD Cert.OutE.τ).loc Cert.OutE.main_arg3) = m ((c.tc : Thread Cert.OutE.nD Cert.OutE.τ).loc Cert.OutE.main_arg3)
      ∧ r.2.mem ((c.tc : Thread Cert.OutE.nD Cert.OutE.τ).loc Cert.OutE.main_arg4) = m ((c.tc : Thread Cert.OutE.nD Cert.OutE.τ).loc Cert.OutE.main_arg4)
      ∧ r.2.mem ((c.tc : Thread Cert.OutE.nD Cert.OutE.τ).loc Cert.OutE.main_arg5) = m ((c.tc : Thread Cert.OutE.nD Cert.OutE.τ).loc Cert.OutE.main_arg5)
      ∧ r.2.mem ((c.tc : Thread Cert.OutE.nD Cert.OutE.τ).loc Cert.OutE.main_arg6) = m ((c.tc : Thread Cert.OutE.nD Cert.OutE.τ).loc Cert.OutE.main_arg6)
      ∧ r.2.mem ((c.tc : Thread Cert.OutE.nD Cert.OutE.τ).loc Cert.OutE.main_arg7) = m ((c.tc : Thread Cert.OutE.nD Cert.OutE.τ).loc Cert.OutE.main_arg7))
      ∧ r.2.sem = fun _ => 0)

def quiescent_OutEIdeal [hOutEIdeal : Cert.OutEIdeal.Facts] : Prop :=
  ∀ (m : (ℓ : Loc Cert.OutEIdeal.nD Cert.OutEIdeal.τ Cert.OutEIdeal.sig) → Buf (Elt Ideal) ℓ) (g : Dev Cert.OutEIdeal.nD → PrngReg), Pre_OutEIdeal m →
    θ_run (Cert.OutEIdeal.defs (F := Ideal)) (onTc (τ := Cert.OutEIdeal.τ) (Cert.OutEIdeal.main (F := Ideal))) ⟨m, fun _ => 0, g⟩ (fun r => (∀ c : Dev Cert.OutEIdeal.nD,
      r.2.mem ((c.tc : Thread Cert.OutEIdeal.nD Cert.OutEIdeal.τ).loc Cert.OutEIdeal.main_arg0) = m ((c.tc : Thread Cert.OutEIdeal.nD Cert.OutEIdeal.τ).loc Cert.OutEIdeal.main_arg0)
      ∧ r.2.mem ((c.tc : Thread Cert.OutEIdeal.nD Cert.OutEIdeal.τ).loc Cert.OutEIdeal.main_arg1) = m ((c.tc : Thread Cert.OutEIdeal.nD Cert.OutEIdeal.τ).loc Cert.OutEIdeal.main_arg1)
      ∧ r.2.mem ((c.tc : Thread Cert.OutEIdeal.nD Cert.OutEIdeal.τ).loc Cert.OutEIdeal.main_arg2) = m ((c.tc : Thread Cert.OutEIdeal.nD Cert.OutEIdeal.τ).loc Cert.OutEIdeal.main_arg2)
      ∧ r.2.mem ((c.tc : Thread Cert.OutEIdeal.nD Cert.OutEIdeal.τ).loc Cert.OutEIdeal.main_arg3) = m ((c.tc : Thread Cert.OutEIdeal.nD Cert.OutEIdeal.τ).loc Cert.OutEIdeal.main_arg3)
      ∧ r.2.mem ((c.tc : Thread Cert.OutEIdeal.nD Cert.OutEIdeal.τ).loc Cert.OutEIdeal.main_arg4) = m ((c.tc : Thread Cert.OutEIdeal.nD Cert.OutEIdeal.τ).loc Cert.OutEIdeal.main_arg4)
      ∧ r.2.mem ((c.tc : Thread Cert.OutEIdeal.nD Cert.OutEIdeal.τ).loc Cert.OutEIdeal.main_arg5) = m ((c.tc : Thread Cert.OutEIdeal.nD Cert.OutEIdeal.τ).loc Cert.OutEIdeal.main_arg5)
      ∧ r.2.mem ((c.tc : Thread Cert.OutEIdeal.nD Cert.OutEIdeal.τ).loc Cert.OutEIdeal.main_arg6) = m ((c.tc : Thread Cert.OutEIdeal.nD Cert.OutEIdeal.τ).loc Cert.OutEIdeal.main_arg6)
      ∧ r.2.mem ((c.tc : Thread Cert.OutEIdeal.nD Cert.OutEIdeal.τ).loc Cert.OutEIdeal.main_arg7) = m ((c.tc : Thread Cert.OutEIdeal.nD Cert.OutEIdeal.τ).loc Cert.OutEIdeal.main_arg7))
      ∧ r.2.sem = fun _ => 0)

def quiescent_OutERefIdeal [hOutERefIdeal : Cert.OutERefIdeal.Facts] : Prop :=
  ∀ (m : (ℓ : Loc Cert.OutERefIdeal.nD Cert.OutERefIdeal.τ Cert.OutERefIdeal.sig) → Buf (Elt Ideal) ℓ) (g : Dev Cert.OutERefIdeal.nD → PrngReg), Pre_OutERefIdeal m →
    θ_run (Cert.OutERefIdeal.defs (F := Ideal)) (onTc (τ := Cert.OutERefIdeal.τ) (Cert.OutERefIdeal.main (F := Ideal))) ⟨m, fun _ => 0, g⟩ (fun r => (∀ c : Dev Cert.OutERefIdeal.nD,
      r.2.mem ((c.tc : Thread Cert.OutERefIdeal.nD Cert.OutERefIdeal.τ).loc Cert.OutERefIdeal.main_arg0) = m ((c.tc : Thread Cert.OutERefIdeal.nD Cert.OutERefIdeal.τ).loc Cert.OutERefIdeal.main_arg0)
      ∧ r.2.mem ((c.tc : Thread Cert.OutERefIdeal.nD Cert.OutERefIdeal.τ).loc Cert.OutERefIdeal.main_arg1) = m ((c.tc : Thread Cert.OutERefIdeal.nD Cert.OutERefIdeal.τ).loc Cert.OutERefIdeal.main_arg1)
      ∧ r.2.mem ((c.tc : Thread Cert.OutERefIdeal.nD Cert.OutERefIdeal.τ).loc Cert.OutERefIdeal.main_arg2) = m ((c.tc : Thread Cert.OutERefIdeal.nD Cert.OutERefIdeal.τ).loc Cert.OutERefIdeal.main_arg2)
      ∧ r.2.mem ((c.tc : Thread Cert.OutERefIdeal.nD Cert.OutERefIdeal.τ).loc Cert.OutERefIdeal.main_arg3) = m ((c.tc : Thread Cert.OutERefIdeal.nD Cert.OutERefIdeal.τ).loc Cert.OutERefIdeal.main_arg3)
      ∧ r.2.mem ((c.tc : Thread Cert.OutERefIdeal.nD Cert.OutERefIdeal.τ).loc Cert.OutERefIdeal.main_arg4) = m ((c.tc : Thread Cert.OutERefIdeal.nD Cert.OutERefIdeal.τ).loc Cert.OutERefIdeal.main_arg4)
      ∧ r.2.mem ((c.tc : Thread Cert.OutERefIdeal.nD Cert.OutERefIdeal.τ).loc Cert.OutERefIdeal.main_arg5) = m ((c.tc : Thread Cert.OutERefIdeal.nD Cert.OutERefIdeal.τ).loc Cert.OutERefIdeal.main_arg5)
      ∧ r.2.mem ((c.tc : Thread Cert.OutERefIdeal.nD Cert.OutERefIdeal.τ).loc Cert.OutERefIdeal.main_arg6) = m ((c.tc : Thread Cert.OutERefIdeal.nD Cert.OutERefIdeal.τ).loc Cert.OutERefIdeal.main_arg6)
      ∧ r.2.mem ((c.tc : Thread Cert.OutERefIdeal.nD Cert.OutERefIdeal.τ).loc Cert.OutERefIdeal.main_arg7) = m ((c.tc : Thread Cert.OutERefIdeal.nD Cert.OutERefIdeal.τ).loc Cert.OutERefIdeal.main_arg7))
      ∧ r.2.sem = fun _ => 0)

def quiescent_OutO [hOutO : Cert.OutO.Facts] : Prop :=
  ∀ (m : (ℓ : Loc Cert.OutO.nD Cert.OutO.τ Cert.OutO.sig) → Buf (Elt Bits) ℓ) (g : Dev Cert.OutO.nD → PrngReg), Pre_OutO m →
    θ_run (Cert.OutO.defs (F := Bits)) (onTc (τ := Cert.OutO.τ) (Cert.OutO.main (F := Bits))) ⟨m, fun _ => 0, g⟩ (fun r => (∀ c : Dev Cert.OutO.nD,
      r.2.mem ((c.tc : Thread Cert.OutO.nD Cert.OutO.τ).loc Cert.OutO.main_arg0) = m ((c.tc : Thread Cert.OutO.nD Cert.OutO.τ).loc Cert.OutO.main_arg0)
      ∧ r.2.mem ((c.tc : Thread Cert.OutO.nD Cert.OutO.τ).loc Cert.OutO.main_arg1) = m ((c.tc : Thread Cert.OutO.nD Cert.OutO.τ).loc Cert.OutO.main_arg1)
      ∧ r.2.mem ((c.tc : Thread Cert.OutO.nD Cert.OutO.τ).loc Cert.OutO.main_arg2) = m ((c.tc : Thread Cert.OutO.nD Cert.OutO.τ).loc Cert.OutO.main_arg2)
      ∧ r.2.mem ((c.tc : Thread Cert.OutO.nD Cert.OutO.τ).loc Cert.OutO.main_arg3) = m ((c.tc : Thread Cert.OutO.nD Cert.OutO.τ).loc Cert.OutO.main_arg3)
      ∧ r.2.mem ((c.tc : Thread Cert.OutO.nD Cert.OutO.τ).loc Cert.OutO.main_arg4) = m ((c.tc : Thread Cert.OutO.nD Cert.OutO.τ).loc Cert.OutO.main_arg4)
      ∧ r.2.mem ((c.tc : Thread Cert.OutO.nD Cert.OutO.τ).loc Cert.OutO.main_arg5) = m ((c.tc : Thread Cert.OutO.nD Cert.OutO.τ).loc Cert.OutO.main_arg5)
      ∧ r.2.mem ((c.tc : Thread Cert.OutO.nD Cert.OutO.τ).loc Cert.OutO.main_arg6) = m ((c.tc : Thread Cert.OutO.nD Cert.OutO.τ).loc Cert.OutO.main_arg6))
      ∧ r.2.sem = fun _ => 0)

def quiescent_OutOIdeal [hOutOIdeal : Cert.OutOIdeal.Facts] : Prop :=
  ∀ (m : (ℓ : Loc Cert.OutOIdeal.nD Cert.OutOIdeal.τ Cert.OutOIdeal.sig) → Buf (Elt Ideal) ℓ) (g : Dev Cert.OutOIdeal.nD → PrngReg), Pre_OutOIdeal m →
    θ_run (Cert.OutOIdeal.defs (F := Ideal)) (onTc (τ := Cert.OutOIdeal.τ) (Cert.OutOIdeal.main (F := Ideal))) ⟨m, fun _ => 0, g⟩ (fun r => (∀ c : Dev Cert.OutOIdeal.nD,
      r.2.mem ((c.tc : Thread Cert.OutOIdeal.nD Cert.OutOIdeal.τ).loc Cert.OutOIdeal.main_arg0) = m ((c.tc : Thread Cert.OutOIdeal.nD Cert.OutOIdeal.τ).loc Cert.OutOIdeal.main_arg0)
      ∧ r.2.mem ((c.tc : Thread Cert.OutOIdeal.nD Cert.OutOIdeal.τ).loc Cert.OutOIdeal.main_arg1) = m ((c.tc : Thread Cert.OutOIdeal.nD Cert.OutOIdeal.τ).loc Cert.OutOIdeal.main_arg1)
      ∧ r.2.mem ((c.tc : Thread Cert.OutOIdeal.nD Cert.OutOIdeal.τ).loc Cert.OutOIdeal.main_arg2) = m ((c.tc : Thread Cert.OutOIdeal.nD Cert.OutOIdeal.τ).loc Cert.OutOIdeal.main_arg2)
      ∧ r.2.mem ((c.tc : Thread Cert.OutOIdeal.nD Cert.OutOIdeal.τ).loc Cert.OutOIdeal.main_arg3) = m ((c.tc : Thread Cert.OutOIdeal.nD Cert.OutOIdeal.τ).loc Cert.OutOIdeal.main_arg3)
      ∧ r.2.mem ((c.tc : Thread Cert.OutOIdeal.nD Cert.OutOIdeal.τ).loc Cert.OutOIdeal.main_arg4) = m ((c.tc : Thread Cert.OutOIdeal.nD Cert.OutOIdeal.τ).loc Cert.OutOIdeal.main_arg4)
      ∧ r.2.mem ((c.tc : Thread Cert.OutOIdeal.nD Cert.OutOIdeal.τ).loc Cert.OutOIdeal.main_arg5) = m ((c.tc : Thread Cert.OutOIdeal.nD Cert.OutOIdeal.τ).loc Cert.OutOIdeal.main_arg5)
      ∧ r.2.mem ((c.tc : Thread Cert.OutOIdeal.nD Cert.OutOIdeal.τ).loc Cert.OutOIdeal.main_arg6) = m ((c.tc : Thread Cert.OutOIdeal.nD Cert.OutOIdeal.τ).loc Cert.OutOIdeal.main_arg6))
      ∧ r.2.sem = fun _ => 0)

def quiescent_OutORefIdeal [hOutORefIdeal : Cert.OutORefIdeal.Facts] : Prop :=
  ∀ (m : (ℓ : Loc Cert.OutORefIdeal.nD Cert.OutORefIdeal.τ Cert.OutORefIdeal.sig) → Buf (Elt Ideal) ℓ) (g : Dev Cert.OutORefIdeal.nD → PrngReg), Pre_OutORefIdeal m →
    θ_run (Cert.OutORefIdeal.defs (F := Ideal)) (onTc (τ := Cert.OutORefIdeal.τ) (Cert.OutORefIdeal.main (F := Ideal))) ⟨m, fun _ => 0, g⟩ (fun r => (∀ c : Dev Cert.OutORefIdeal.nD,
      r.2.mem ((c.tc : Thread Cert.OutORefIdeal.nD Cert.OutORefIdeal.τ).loc Cert.OutORefIdeal.main_arg0) = m ((c.tc : Thread Cert.OutORefIdeal.nD Cert.OutORefIdeal.τ).loc Cert.OutORefIdeal.main_arg0)
      ∧ r.2.mem ((c.tc : Thread Cert.OutORefIdeal.nD Cert.OutORefIdeal.τ).loc Cert.OutORefIdeal.main_arg1) = m ((c.tc : Thread Cert.OutORefIdeal.nD Cert.OutORefIdeal.τ).loc Cert.OutORefIdeal.main_arg1)
      ∧ r.2.mem ((c.tc : Thread Cert.OutORefIdeal.nD Cert.OutORefIdeal.τ).loc Cert.OutORefIdeal.main_arg2) = m ((c.tc : Thread Cert.OutORefIdeal.nD Cert.OutORefIdeal.τ).loc Cert.OutORefIdeal.main_arg2)
      ∧ r.2.mem ((c.tc : Thread Cert.OutORefIdeal.nD Cert.OutORefIdeal.τ).loc Cert.OutORefIdeal.main_arg3) = m ((c.tc : Thread Cert.OutORefIdeal.nD Cert.OutORefIdeal.τ).loc Cert.OutORefIdeal.main_arg3)
      ∧ r.2.mem ((c.tc : Thread Cert.OutORefIdeal.nD Cert.OutORefIdeal.τ).loc Cert.OutORefIdeal.main_arg4) = m ((c.tc : Thread Cert.OutORefIdeal.nD Cert.OutORefIdeal.τ).loc Cert.OutORefIdeal.main_arg4)
      ∧ r.2.mem ((c.tc : Thread Cert.OutORefIdeal.nD Cert.OutORefIdeal.τ).loc Cert.OutORefIdeal.main_arg5) = m ((c.tc : Thread Cert.OutORefIdeal.nD Cert.OutORefIdeal.τ).loc Cert.OutORefIdeal.main_arg5)
      ∧ r.2.mem ((c.tc : Thread Cert.OutORefIdeal.nD Cert.OutORefIdeal.τ).loc Cert.OutORefIdeal.main_arg6) = m ((c.tc : Thread Cert.OutORefIdeal.nD Cert.OutORefIdeal.τ).loc Cert.OutORefIdeal.main_arg6))
      ∧ r.2.sem = fun _ => 0)

def quiescent_MemAttn [hMemAttn : Cert.MemAttn.Facts] : Prop :=
  ∀ (m : (ℓ : Loc Cert.MemAttn.nD Cert.MemAttn.τ Cert.MemAttn.sig) → Buf (Elt Bits) ℓ) (g : Dev Cert.MemAttn.nD → PrngReg), Pre_MemAttn m →
    θ_run (Cert.MemAttn.defs (F := Bits)) (onTc (τ := Cert.MemAttn.τ) (Cert.MemAttn.main (F := Bits))) ⟨m, fun _ => 0, g⟩ (fun r => (∀ c : Dev Cert.MemAttn.nD,
      r.2.mem ((c.tc : Thread Cert.MemAttn.nD Cert.MemAttn.τ).loc Cert.MemAttn.main_arg0) = m ((c.tc : Thread Cert.MemAttn.nD Cert.MemAttn.τ).loc Cert.MemAttn.main_arg0)
      ∧ r.2.mem ((c.tc : Thread Cert.MemAttn.nD Cert.MemAttn.τ).loc Cert.MemAttn.main_arg1) = m ((c.tc : Thread Cert.MemAttn.nD Cert.MemAttn.τ).loc Cert.MemAttn.main_arg1)
      ∧ r.2.mem ((c.tc : Thread Cert.MemAttn.nD Cert.MemAttn.τ).loc Cert.MemAttn.main_arg2) = m ((c.tc : Thread Cert.MemAttn.nD Cert.MemAttn.τ).loc Cert.MemAttn.main_arg2))
      ∧ r.2.sem = fun _ => 0)

def quiescent_MemAttnIdeal [hMemAttnIdeal : Cert.MemAttnIdeal.Facts] : Prop :=
  ∀ (m : (ℓ : Loc Cert.MemAttnIdeal.nD Cert.MemAttnIdeal.τ Cert.MemAttnIdeal.sig) → Buf (Elt Ideal) ℓ) (g : Dev Cert.MemAttnIdeal.nD → PrngReg), Pre_MemAttnIdeal m →
    θ_run (Cert.MemAttnIdeal.defs (F := Ideal)) (onTc (τ := Cert.MemAttnIdeal.τ) (Cert.MemAttnIdeal.main (F := Ideal))) ⟨m, fun _ => 0, g⟩ (fun r => (∀ c : Dev Cert.MemAttnIdeal.nD,
      r.2.mem ((c.tc : Thread Cert.MemAttnIdeal.nD Cert.MemAttnIdeal.τ).loc Cert.MemAttnIdeal.main_arg0) = m ((c.tc : Thread Cert.MemAttnIdeal.nD Cert.MemAttnIdeal.τ).loc Cert.MemAttnIdeal.main_arg0)
      ∧ r.2.mem ((c.tc : Thread Cert.MemAttnIdeal.nD Cert.MemAttnIdeal.τ).loc Cert.MemAttnIdeal.main_arg1) = m ((c.tc : Thread Cert.MemAttnIdeal.nD Cert.MemAttnIdeal.τ).loc Cert.MemAttnIdeal.main_arg1)
      ∧ r.2.mem ((c.tc : Thread Cert.MemAttnIdeal.nD Cert.MemAttnIdeal.τ).loc Cert.MemAttnIdeal.main_arg2) = m ((c.tc : Thread Cert.MemAttnIdeal.nD Cert.MemAttnIdeal.τ).loc Cert.MemAttnIdeal.main_arg2))
      ∧ r.2.sem = fun _ => 0)

def quiescent_MemAttnRefIdeal [hMemAttnRefIdeal : Cert.MemAttnRefIdeal.Facts] : Prop :=
  ∀ (m : (ℓ : Loc Cert.MemAttnRefIdeal.nD Cert.MemAttnRefIdeal.τ Cert.MemAttnRefIdeal.sig) → Buf (Elt Ideal) ℓ) (g : Dev Cert.MemAttnRefIdeal.nD → PrngReg), Pre_MemAttnRefIdeal m →
    θ_run (Cert.MemAttnRefIdeal.defs (F := Ideal)) (onTc (τ := Cert.MemAttnRefIdeal.τ) (Cert.MemAttnRefIdeal.main (F := Ideal))) ⟨m, fun _ => 0, g⟩ (fun r => (∀ c : Dev Cert.MemAttnRefIdeal.nD,
      r.2.mem ((c.tc : Thread Cert.MemAttnRefIdeal.nD Cert.MemAttnRefIdeal.τ).loc Cert.MemAttnRefIdeal.main_arg0) = m ((c.tc : Thread Cert.MemAttnRefIdeal.nD Cert.MemAttnRefIdeal.τ).loc Cert.MemAttnRefIdeal.main_arg0)
      ∧ r.2.mem ((c.tc : Thread Cert.MemAttnRefIdeal.nD Cert.MemAttnRefIdeal.τ).loc Cert.MemAttnRefIdeal.main_arg1) = m ((c.tc : Thread Cert.MemAttnRefIdeal.nD Cert.MemAttnRefIdeal.τ).loc Cert.MemAttnRefIdeal.main_arg1)
      ∧ r.2.mem ((c.tc : Thread Cert.MemAttnRefIdeal.nD Cert.MemAttnRefIdeal.τ).loc Cert.MemAttnRefIdeal.main_arg2) = m ((c.tc : Thread Cert.MemAttnRefIdeal.nD Cert.MemAttnRefIdeal.τ).loc Cert.MemAttnRefIdeal.main_arg2))
      ∧ r.2.sem = fun _ => 0)

def quiescent_MemFwd [hMemFwd : Cert.MemFwd.Facts] : Prop :=
  ∀ (m : (ℓ : Loc Cert.MemFwd.nD Cert.MemFwd.τ Cert.MemFwd.sig) → Buf (Elt Bits) ℓ) (g : Dev Cert.MemFwd.nD → PrngReg), Pre_MemFwd m →
    θ_run (Cert.MemFwd.defs (F := Bits)) (onTc (τ := Cert.MemFwd.τ) (Cert.MemFwd.main (F := Bits))) ⟨m, fun _ => 0, g⟩ (fun r => (∀ c : Dev Cert.MemFwd.nD,
      r.2.mem ((c.tc : Thread Cert.MemFwd.nD Cert.MemFwd.τ).loc Cert.MemFwd.main_arg0) = m ((c.tc : Thread Cert.MemFwd.nD Cert.MemFwd.τ).loc Cert.MemFwd.main_arg0)
      ∧ r.2.mem ((c.tc : Thread Cert.MemFwd.nD Cert.MemFwd.τ).loc Cert.MemFwd.main_arg1) = m ((c.tc : Thread Cert.MemFwd.nD Cert.MemFwd.τ).loc Cert.MemFwd.main_arg1))
      ∧ r.2.sem = fun _ => 0)

def quiescent_MemFwdIdeal [hMemFwdIdeal : Cert.MemFwdIdeal.Facts] : Prop :=
  ∀ (m : (ℓ : Loc Cert.MemFwdIdeal.nD Cert.MemFwdIdeal.τ Cert.MemFwdIdeal.sig) → Buf (Elt Ideal) ℓ) (g : Dev Cert.MemFwdIdeal.nD → PrngReg), Pre_MemFwdIdeal m →
    θ_run (Cert.MemFwdIdeal.defs (F := Ideal)) (onTc (τ := Cert.MemFwdIdeal.τ) (Cert.MemFwdIdeal.main (F := Ideal))) ⟨m, fun _ => 0, g⟩ (fun r => (∀ c : Dev Cert.MemFwdIdeal.nD,
      r.2.mem ((c.tc : Thread Cert.MemFwdIdeal.nD Cert.MemFwdIdeal.τ).loc Cert.MemFwdIdeal.main_arg0) = m ((c.tc : Thread Cert.MemFwdIdeal.nD Cert.MemFwdIdeal.τ).loc Cert.MemFwdIdeal.main_arg0)
      ∧ r.2.mem ((c.tc : Thread Cert.MemFwdIdeal.nD Cert.MemFwdIdeal.τ).loc Cert.MemFwdIdeal.main_arg1) = m ((c.tc : Thread Cert.MemFwdIdeal.nD Cert.MemFwdIdeal.τ).loc Cert.MemFwdIdeal.main_arg1))
      ∧ r.2.sem = fun _ => 0)

def quiescent_MemFwdRefIdeal [hMemFwdRefIdeal : Cert.MemFwdRefIdeal.Facts] : Prop :=
  ∀ (m : (ℓ : Loc Cert.MemFwdRefIdeal.nD Cert.MemFwdRefIdeal.τ Cert.MemFwdRefIdeal.sig) → Buf (Elt Ideal) ℓ) (g : Dev Cert.MemFwdRefIdeal.nD → PrngReg), Pre_MemFwdRefIdeal m →
    θ_run (Cert.MemFwdRefIdeal.defs (F := Ideal)) (onTc (τ := Cert.MemFwdRefIdeal.τ) (Cert.MemFwdRefIdeal.main (F := Ideal))) ⟨m, fun _ => 0, g⟩ (fun r => (∀ c : Dev Cert.MemFwdRefIdeal.nD,
      r.2.mem ((c.tc : Thread Cert.MemFwdRefIdeal.nD Cert.MemFwdRefIdeal.τ).loc Cert.MemFwdRefIdeal.main_arg0) = m ((c.tc : Thread Cert.MemFwdRefIdeal.nD Cert.MemFwdRefIdeal.τ).loc Cert.MemFwdRefIdeal.main_arg0)
      ∧ r.2.mem ((c.tc : Thread Cert.MemFwdRefIdeal.nD Cert.MemFwdRefIdeal.τ).loc Cert.MemFwdRefIdeal.main_arg1) = m ((c.tc : Thread Cert.MemFwdRefIdeal.nD Cert.MemFwdRefIdeal.τ).loc Cert.MemFwdRefIdeal.main_arg1))
      ∧ r.2.sem = fun _ => 0)

def quiescent_AttnFwd [hAttnFwd : Cert.AttnFwd.Facts] : Prop :=
  ∀ (m : (ℓ : Loc Cert.AttnFwd.nD Cert.AttnFwd.τ Cert.AttnFwd.sig) → Buf (Elt Bits) ℓ) (g : Dev Cert.AttnFwd.nD → PrngReg), Pre_AttnFwd m →
    θ_run (Cert.AttnFwd.defs (F := Bits)) (onTc (τ := Cert.AttnFwd.τ) (Cert.AttnFwd.main (F := Bits))) ⟨m, fun _ => 0, g⟩ (fun r => (∀ c : Dev Cert.AttnFwd.nD,
      r.2.mem ((c.tc : Thread Cert.AttnFwd.nD Cert.AttnFwd.τ).loc Cert.AttnFwd.main_arg0) = m ((c.tc : Thread Cert.AttnFwd.nD Cert.AttnFwd.τ).loc Cert.AttnFwd.main_arg0)
      ∧ r.2.mem ((c.tc : Thread Cert.AttnFwd.nD Cert.AttnFwd.τ).loc Cert.AttnFwd.main_arg1) = m ((c.tc : Thread Cert.AttnFwd.nD Cert.AttnFwd.τ).loc Cert.AttnFwd.main_arg1))
      ∧ r.2.sem = fun _ => 0)

def quiescent_AttnFwdIdeal [hAttnFwdIdeal : Cert.AttnFwdIdeal.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1))
      ∧ r.2.sem = fun _ => 0)

def quiescent_AttnFwdRefIdeal [hAttnFwdRefIdeal : Cert.AttnFwdRefIdeal.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1))
      ∧ r.2.sem = fun _ => 0)

def quiescent_OutEFwd [hOutEFwd : Cert.OutEFwd.Facts] : Prop :=
  ∀ (m : (ℓ : Loc Cert.OutEFwd.nD Cert.OutEFwd.τ Cert.OutEFwd.sig) → Buf (Elt Bits) ℓ) (g : Dev Cert.OutEFwd.nD → PrngReg), Pre_OutEFwd m →
    θ_run (Cert.OutEFwd.defs (F := Bits)) (onTc (τ := Cert.OutEFwd.τ) (Cert.OutEFwd.main (F := Bits))) ⟨m, fun _ => 0, g⟩ (fun r => (∀ c : Dev Cert.OutEFwd.nD,
      r.2.mem ((c.tc : Thread Cert.OutEFwd.nD Cert.OutEFwd.τ).loc Cert.OutEFwd.main_arg0) = m ((c.tc : Thread Cert.OutEFwd.nD Cert.OutEFwd.τ).loc Cert.OutEFwd.main_arg0)
      ∧ r.2.mem ((c.tc : Thread Cert.OutEFwd.nD Cert.OutEFwd.τ).loc Cert.OutEFwd.main_arg1) = m ((c.tc : Thread Cert.OutEFwd.nD Cert.OutEFwd.τ).loc Cert.OutEFwd.main_arg1)
      ∧ r.2.mem ((c.tc : Thread Cert.OutEFwd.nD Cert.OutEFwd.τ).loc Cert.OutEFwd.main_arg2) = m ((c.tc : Thread Cert.OutEFwd.nD Cert.OutEFwd.τ).loc Cert.OutEFwd.main_arg2)
      ∧ r.2.mem ((c.tc : Thread Cert.OutEFwd.nD Cert.OutEFwd.τ).loc Cert.OutEFwd.main_arg3) = m ((c.tc : Thread Cert.OutEFwd.nD Cert.OutEFwd.τ).loc Cert.OutEFwd.main_arg3)
      ∧ r.2.mem ((c.tc : Thread Cert.OutEFwd.nD Cert.OutEFwd.τ).loc Cert.OutEFwd.main_arg4) = m ((c.tc : Thread Cert.OutEFwd.nD Cert.OutEFwd.τ).loc Cert.OutEFwd.main_arg4)
      ∧ r.2.mem ((c.tc : Thread Cert.OutEFwd.nD Cert.OutEFwd.τ).loc Cert.OutEFwd.main_arg5) = m ((c.tc : Thread Cert.OutEFwd.nD Cert.OutEFwd.τ).loc Cert.OutEFwd.main_arg5)
      ∧ r.2.mem ((c.tc : Thread Cert.OutEFwd.nD Cert.OutEFwd.τ).loc Cert.OutEFwd.main_arg6) = m ((c.tc : Thread Cert.OutEFwd.nD Cert.OutEFwd.τ).loc Cert.OutEFwd.main_arg6)
      ∧ r.2.mem ((c.tc : Thread Cert.OutEFwd.nD Cert.OutEFwd.τ).loc Cert.OutEFwd.main_arg7) = m ((c.tc : Thread Cert.OutEFwd.nD Cert.OutEFwd.τ).loc Cert.OutEFwd.main_arg7))
      ∧ r.2.sem = fun _ => 0)

def quiescent_OutEFwdIdeal [hOutEFwdIdeal : Cert.OutEFwdIdeal.Facts] : Prop :=
  ∀ (m : (ℓ : Loc Cert.OutEFwdIdeal.nD Cert.OutEFwdIdeal.τ Cert.OutEFwdIdeal.sig) → Buf (Elt Ideal) ℓ) (g : Dev Cert.OutEFwdIdeal.nD → PrngReg), Pre_OutEFwdIdeal m →
    θ_run (Cert.OutEFwdIdeal.defs (F := Ideal)) (onTc (τ := Cert.OutEFwdIdeal.τ) (Cert.OutEFwdIdeal.main (F := Ideal))) ⟨m, fun _ => 0, g⟩ (fun r => (∀ c : Dev Cert.OutEFwdIdeal.nD,
      r.2.mem ((c.tc : Thread Cert.OutEFwdIdeal.nD Cert.OutEFwdIdeal.τ).loc Cert.OutEFwdIdeal.main_arg0) = m ((c.tc : Thread Cert.OutEFwdIdeal.nD Cert.OutEFwdIdeal.τ).loc Cert.OutEFwdIdeal.main_arg0)
      ∧ r.2.mem ((c.tc : Thread Cert.OutEFwdIdeal.nD Cert.OutEFwdIdeal.τ).loc Cert.OutEFwdIdeal.main_arg1) = m ((c.tc : Thread Cert.OutEFwdIdeal.nD Cert.OutEFwdIdeal.τ).loc Cert.OutEFwdIdeal.main_arg1)
      ∧ r.2.mem ((c.tc : Thread Cert.OutEFwdIdeal.nD Cert.OutEFwdIdeal.τ).loc Cert.OutEFwdIdeal.main_arg2) = m ((c.tc : Thread Cert.OutEFwdIdeal.nD Cert.OutEFwdIdeal.τ).loc Cert.OutEFwdIdeal.main_arg2)
      ∧ r.2.mem ((c.tc : Thread Cert.OutEFwdIdeal.nD Cert.OutEFwdIdeal.τ).loc Cert.OutEFwdIdeal.main_arg3) = m ((c.tc : Thread Cert.OutEFwdIdeal.nD Cert.OutEFwdIdeal.τ).loc Cert.OutEFwdIdeal.main_arg3)
      ∧ r.2.mem ((c.tc : Thread Cert.OutEFwdIdeal.nD Cert.OutEFwdIdeal.τ).loc Cert.OutEFwdIdeal.main_arg4) = m ((c.tc : Thread Cert.OutEFwdIdeal.nD Cert.OutEFwdIdeal.τ).loc Cert.OutEFwdIdeal.main_arg4)
      ∧ r.2.mem ((c.tc : Thread Cert.OutEFwdIdeal.nD Cert.OutEFwdIdeal.τ).loc Cert.OutEFwdIdeal.main_arg5) = m ((c.tc : Thread Cert.OutEFwdIdeal.nD Cert.OutEFwdIdeal.τ).loc Cert.OutEFwdIdeal.main_arg5)
      ∧ r.2.mem ((c.tc : Thread Cert.OutEFwdIdeal.nD Cert.OutEFwdIdeal.τ).loc Cert.OutEFwdIdeal.main_arg6) = m ((c.tc : Thread Cert.OutEFwdIdeal.nD Cert.OutEFwdIdeal.τ).loc Cert.OutEFwdIdeal.main_arg6)
      ∧ r.2.mem ((c.tc : Thread Cert.OutEFwdIdeal.nD Cert.OutEFwdIdeal.τ).loc Cert.OutEFwdIdeal.main_arg7) = m ((c.tc : Thread Cert.OutEFwdIdeal.nD Cert.OutEFwdIdeal.τ).loc Cert.OutEFwdIdeal.main_arg7))
      ∧ r.2.sem = fun _ => 0)

def quiescent_OutEFwdRefIdeal [hOutEFwdRefIdeal : Cert.OutEFwdRefIdeal.Facts] : Prop :=
  ∀ (m : (ℓ : Loc Cert.OutEFwdRefIdeal.nD Cert.OutEFwdRefIdeal.τ Cert.OutEFwdRefIdeal.sig) → Buf (Elt Ideal) ℓ) (g : Dev Cert.OutEFwdRefIdeal.nD → PrngReg), Pre_OutEFwdRefIdeal m →
    θ_run (Cert.OutEFwdRefIdeal.defs (F := Ideal)) (onTc (τ := Cert.OutEFwdRefIdeal.τ) (Cert.OutEFwdRefIdeal.main (F := Ideal))) ⟨m, fun _ => 0, g⟩ (fun r => (∀ c : Dev Cert.OutEFwdRefIdeal.nD,
      r.2.mem ((c.tc : Thread Cert.OutEFwdRefIdeal.nD Cert.OutEFwdRefIdeal.τ).loc Cert.OutEFwdRefIdeal.main_arg0) = m ((c.tc : Thread Cert.OutEFwdRefIdeal.nD Cert.OutEFwdRefIdeal.τ).loc Cert.OutEFwdRefIdeal.main_arg0)
      ∧ r.2.mem ((c.tc : Thread Cert.OutEFwdRefIdeal.nD Cert.OutEFwdRefIdeal.τ).loc Cert.OutEFwdRefIdeal.main_arg1) = m ((c.tc : Thread Cert.OutEFwdRefIdeal.nD Cert.OutEFwdRefIdeal.τ).loc Cert.OutEFwdRefIdeal.main_arg1)
      ∧ r.2.mem ((c.tc : Thread Cert.OutEFwdRefIdeal.nD Cert.OutEFwdRefIdeal.τ).loc Cert.OutEFwdRefIdeal.main_arg2) = m ((c.tc : Thread Cert.OutEFwdRefIdeal.nD Cert.OutEFwdRefIdeal.τ).loc Cert.OutEFwdRefIdeal.main_arg2)
      ∧ r.2.mem ((c.tc : Thread Cert.OutEFwdRefIdeal.nD Cert.OutEFwdRefIdeal.τ).loc Cert.OutEFwdRefIdeal.main_arg3) = m ((c.tc : Thread Cert.OutEFwdRefIdeal.nD Cert.OutEFwdRefIdeal.τ).loc Cert.OutEFwdRefIdeal.main_arg3)
      ∧ r.2.mem ((c.tc : Thread Cert.OutEFwdRefIdeal.nD Cert.OutEFwdRefIdeal.τ).loc Cert.OutEFwdRefIdeal.main_arg4) = m ((c.tc : Thread Cert.OutEFwdRefIdeal.nD Cert.OutEFwdRefIdeal.τ).loc Cert.OutEFwdRefIdeal.main_arg4)
      ∧ r.2.mem ((c.tc : Thread Cert.OutEFwdRefIdeal.nD Cert.OutEFwdRefIdeal.τ).loc Cert.OutEFwdRefIdeal.main_arg5) = m ((c.tc : Thread Cert.OutEFwdRefIdeal.nD Cert.OutEFwdRefIdeal.τ).loc Cert.OutEFwdRefIdeal.main_arg5)
      ∧ r.2.mem ((c.tc : Thread Cert.OutEFwdRefIdeal.nD Cert.OutEFwdRefIdeal.τ).loc Cert.OutEFwdRefIdeal.main_arg6) = m ((c.tc : Thread Cert.OutEFwdRefIdeal.nD Cert.OutEFwdRefIdeal.τ).loc Cert.OutEFwdRefIdeal.main_arg6)
      ∧ r.2.mem ((c.tc : Thread Cert.OutEFwdRefIdeal.nD Cert.OutEFwdRefIdeal.τ).loc Cert.OutEFwdRefIdeal.main_arg7) = m ((c.tc : Thread Cert.OutEFwdRefIdeal.nD Cert.OutEFwdRefIdeal.τ).loc Cert.OutEFwdRefIdeal.main_arg7))
      ∧ r.2.sem = fun _ => 0)

def quiescent_OutOFwd [hOutOFwd : Cert.OutOFwd.Facts] : Prop :=
  ∀ (m : (ℓ : Loc Cert.OutOFwd.nD Cert.OutOFwd.τ Cert.OutOFwd.sig) → Buf (Elt Bits) ℓ) (g : Dev Cert.OutOFwd.nD → PrngReg), Pre_OutOFwd m →
    θ_run (Cert.OutOFwd.defs (F := Bits)) (onTc (τ := Cert.OutOFwd.τ) (Cert.OutOFwd.main (F := Bits))) ⟨m, fun _ => 0, g⟩ (fun r => (∀ c : Dev Cert.OutOFwd.nD,
      r.2.mem ((c.tc : Thread Cert.OutOFwd.nD Cert.OutOFwd.τ).loc Cert.OutOFwd.main_arg0) = m ((c.tc : Thread Cert.OutOFwd.nD Cert.OutOFwd.τ).loc Cert.OutOFwd.main_arg0)
      ∧ r.2.mem ((c.tc : Thread Cert.OutOFwd.nD Cert.OutOFwd.τ).loc Cert.OutOFwd.main_arg1) = m ((c.tc : Thread Cert.OutOFwd.nD Cert.OutOFwd.τ).loc Cert.OutOFwd.main_arg1)
      ∧ r.2.mem ((c.tc : Thread Cert.OutOFwd.nD Cert.OutOFwd.τ).loc Cert.OutOFwd.main_arg2) = m ((c.tc : Thread Cert.OutOFwd.nD Cert.OutOFwd.τ).loc Cert.OutOFwd.main_arg2)
      ∧ r.2.mem ((c.tc : Thread Cert.OutOFwd.nD Cert.OutOFwd.τ).loc Cert.OutOFwd.main_arg3) = m ((c.tc : Thread Cert.OutOFwd.nD Cert.OutOFwd.τ).loc Cert.OutOFwd.main_arg3)
      ∧ r.2.mem ((c.tc : Thread Cert.OutOFwd.nD Cert.OutOFwd.τ).loc Cert.OutOFwd.main_arg4) = m ((c.tc : Thread Cert.OutOFwd.nD Cert.OutOFwd.τ).loc Cert.OutOFwd.main_arg4)
      ∧ r.2.mem ((c.tc : Thread Cert.OutOFwd.nD Cert.OutOFwd.τ).loc Cert.OutOFwd.main_arg5) = m ((c.tc : Thread Cert.OutOFwd.nD Cert.OutOFwd.τ).loc Cert.OutOFwd.main_arg5)
      ∧ r.2.mem ((c.tc : Thread Cert.OutOFwd.nD Cert.OutOFwd.τ).loc Cert.OutOFwd.main_arg6) = m ((c.tc : Thread Cert.OutOFwd.nD Cert.OutOFwd.τ).loc Cert.OutOFwd.main_arg6))
      ∧ r.2.sem = fun _ => 0)

def quiescent_OutOFwdIdeal [hOutOFwdIdeal : Cert.OutOFwdIdeal.Facts] : Prop :=
  ∀ (m : (ℓ : Loc Cert.OutOFwdIdeal.nD Cert.OutOFwdIdeal.τ Cert.OutOFwdIdeal.sig) → Buf (Elt Ideal) ℓ) (g : Dev Cert.OutOFwdIdeal.nD → PrngReg), Pre_OutOFwdIdeal m →
    θ_run (Cert.OutOFwdIdeal.defs (F := Ideal)) (onTc (τ := Cert.OutOFwdIdeal.τ) (Cert.OutOFwdIdeal.main (F := Ideal))) ⟨m, fun _ => 0, g⟩ (fun r => (∀ c : Dev Cert.OutOFwdIdeal.nD,
      r.2.mem ((c.tc : Thread Cert.OutOFwdIdeal.nD Cert.OutOFwdIdeal.τ).loc Cert.OutOFwdIdeal.main_arg0) = m ((c.tc : Thread Cert.OutOFwdIdeal.nD Cert.OutOFwdIdeal.τ).loc Cert.OutOFwdIdeal.main_arg0)
      ∧ r.2.mem ((c.tc : Thread Cert.OutOFwdIdeal.nD Cert.OutOFwdIdeal.τ).loc Cert.OutOFwdIdeal.main_arg1) = m ((c.tc : Thread Cert.OutOFwdIdeal.nD Cert.OutOFwdIdeal.τ).loc Cert.OutOFwdIdeal.main_arg1)
      ∧ r.2.mem ((c.tc : Thread Cert.OutOFwdIdeal.nD Cert.OutOFwdIdeal.τ).loc Cert.OutOFwdIdeal.main_arg2) = m ((c.tc : Thread Cert.OutOFwdIdeal.nD Cert.OutOFwdIdeal.τ).loc Cert.OutOFwdIdeal.main_arg2)
      ∧ r.2.mem ((c.tc : Thread Cert.OutOFwdIdeal.nD Cert.OutOFwdIdeal.τ).loc Cert.OutOFwdIdeal.main_arg3) = m ((c.tc : Thread Cert.OutOFwdIdeal.nD Cert.OutOFwdIdeal.τ).loc Cert.OutOFwdIdeal.main_arg3)
      ∧ r.2.mem ((c.tc : Thread Cert.OutOFwdIdeal.nD Cert.OutOFwdIdeal.τ).loc Cert.OutOFwdIdeal.main_arg4) = m ((c.tc : Thread Cert.OutOFwdIdeal.nD Cert.OutOFwdIdeal.τ).loc Cert.OutOFwdIdeal.main_arg4)
      ∧ r.2.mem ((c.tc : Thread Cert.OutOFwdIdeal.nD Cert.OutOFwdIdeal.τ).loc Cert.OutOFwdIdeal.main_arg5) = m ((c.tc : Thread Cert.OutOFwdIdeal.nD Cert.OutOFwdIdeal.τ).loc Cert.OutOFwdIdeal.main_arg5)
      ∧ r.2.mem ((c.tc : Thread Cert.OutOFwdIdeal.nD Cert.OutOFwdIdeal.τ).loc Cert.OutOFwdIdeal.main_arg6) = m ((c.tc : Thread Cert.OutOFwdIdeal.nD Cert.OutOFwdIdeal.τ).loc Cert.OutOFwdIdeal.main_arg6))
      ∧ r.2.sem = fun _ => 0)

def quiescent_OutOFwdRefIdeal [hOutOFwdRefIdeal : Cert.OutOFwdRefIdeal.Facts] : Prop :=
  ∀ (m : (ℓ : Loc Cert.OutOFwdRefIdeal.nD Cert.OutOFwdRefIdeal.τ Cert.OutOFwdRefIdeal.sig) → Buf (Elt Ideal) ℓ) (g : Dev Cert.OutOFwdRefIdeal.nD → PrngReg), Pre_OutOFwdRefIdeal m →
    θ_run (Cert.OutOFwdRefIdeal.defs (F := Ideal)) (onTc (τ := Cert.OutOFwdRefIdeal.τ) (Cert.OutOFwdRefIdeal.main (F := Ideal))) ⟨m, fun _ => 0, g⟩ (fun r => (∀ c : Dev Cert.OutOFwdRefIdeal.nD,
      r.2.mem ((c.tc : Thread Cert.OutOFwdRefIdeal.nD Cert.OutOFwdRefIdeal.τ).loc Cert.OutOFwdRefIdeal.main_arg0) = m ((c.tc : Thread Cert.OutOFwdRefIdeal.nD Cert.OutOFwdRefIdeal.τ).loc Cert.OutOFwdRefIdeal.main_arg0)
      ∧ r.2.mem ((c.tc : Thread Cert.OutOFwdRefIdeal.nD Cert.OutOFwdRefIdeal.τ).loc Cert.OutOFwdRefIdeal.main_arg1) = m ((c.tc : Thread Cert.OutOFwdRefIdeal.nD Cert.OutOFwdRefIdeal.τ).loc Cert.OutOFwdRefIdeal.main_arg1)
      ∧ r.2.mem ((c.tc : Thread Cert.OutOFwdRefIdeal.nD Cert.OutOFwdRefIdeal.τ).loc Cert.OutOFwdRefIdeal.main_arg2) = m ((c.tc : Thread Cert.OutOFwdRefIdeal.nD Cert.OutOFwdRefIdeal.τ).loc Cert.OutOFwdRefIdeal.main_arg2)
      ∧ r.2.mem ((c.tc : Thread Cert.OutOFwdRefIdeal.nD Cert.OutOFwdRefIdeal.τ).loc Cert.OutOFwdRefIdeal.main_arg3) = m ((c.tc : Thread Cert.OutOFwdRefIdeal.nD Cert.OutOFwdRefIdeal.τ).loc Cert.OutOFwdRefIdeal.main_arg3)
      ∧ r.2.mem ((c.tc : Thread Cert.OutOFwdRefIdeal.nD Cert.OutOFwdRefIdeal.τ).loc Cert.OutOFwdRefIdeal.main_arg4) = m ((c.tc : Thread Cert.OutOFwdRefIdeal.nD Cert.OutOFwdRefIdeal.τ).loc Cert.OutOFwdRefIdeal.main_arg4)
      ∧ r.2.mem ((c.tc : Thread Cert.OutOFwdRefIdeal.nD Cert.OutOFwdRefIdeal.τ).loc Cert.OutOFwdRefIdeal.main_arg5) = m ((c.tc : Thread Cert.OutOFwdRefIdeal.nD Cert.OutOFwdRefIdeal.τ).loc Cert.OutOFwdRefIdeal.main_arg5)
      ∧ r.2.mem ((c.tc : Thread Cert.OutOFwdRefIdeal.nD Cert.OutOFwdRefIdeal.τ).loc Cert.OutOFwdRefIdeal.main_arg6) = m ((c.tc : Thread Cert.OutOFwdRefIdeal.nD Cert.OutOFwdRefIdeal.τ).loc Cert.OutOFwdRefIdeal.main_arg6))
      ∧ r.2.sem = fun _ => 0)

def quiescent_InEFwd [hInEFwd : Cert.InEFwd.Facts] : Prop :=
  ∀ (m : (ℓ : Loc Cert.InEFwd.nD Cert.InEFwd.τ Cert.InEFwd.sig) → Buf (Elt Bits) ℓ) (g : Dev Cert.InEFwd.nD → PrngReg), Pre_InEFwd m →
    θ_run (Cert.InEFwd.defs (F := Bits)) (onTc (τ := Cert.InEFwd.τ) (Cert.InEFwd.main (F := Bits))) ⟨m, fun _ => 0, g⟩ (fun r => (∀ c : Dev Cert.InEFwd.nD,
      r.2.mem ((c.tc : Thread Cert.InEFwd.nD Cert.InEFwd.τ).loc Cert.InEFwd.main_arg0) = m ((c.tc : Thread Cert.InEFwd.nD Cert.InEFwd.τ).loc Cert.InEFwd.main_arg0)
      ∧ r.2.mem ((c.tc : Thread Cert.InEFwd.nD Cert.InEFwd.τ).loc Cert.InEFwd.main_arg1) = m ((c.tc : Thread Cert.InEFwd.nD Cert.InEFwd.τ).loc Cert.InEFwd.main_arg1)
      ∧ r.2.mem ((c.tc : Thread Cert.InEFwd.nD Cert.InEFwd.τ).loc Cert.InEFwd.main_arg2) = m ((c.tc : Thread Cert.InEFwd.nD Cert.InEFwd.τ).loc Cert.InEFwd.main_arg2))
      ∧ r.2.sem = fun _ => 0)

def quiescent_InEFwdIdeal [hInEFwdIdeal : Cert.InEFwdIdeal.Facts] : Prop :=
  ∀ (m : (ℓ : Loc Cert.InEFwdIdeal.nD Cert.InEFwdIdeal.τ Cert.InEFwdIdeal.sig) → Buf (Elt Ideal) ℓ) (g : Dev Cert.InEFwdIdeal.nD → PrngReg), Pre_InEFwdIdeal m →
    θ_run (Cert.InEFwdIdeal.defs (F := Ideal)) (onTc (τ := Cert.InEFwdIdeal.τ) (Cert.InEFwdIdeal.main (F := Ideal))) ⟨m, fun _ => 0, g⟩ (fun r => (∀ c : Dev Cert.InEFwdIdeal.nD,
      r.2.mem ((c.tc : Thread Cert.InEFwdIdeal.nD Cert.InEFwdIdeal.τ).loc Cert.InEFwdIdeal.main_arg0) = m ((c.tc : Thread Cert.InEFwdIdeal.nD Cert.InEFwdIdeal.τ).loc Cert.InEFwdIdeal.main_arg0)
      ∧ r.2.mem ((c.tc : Thread Cert.InEFwdIdeal.nD Cert.InEFwdIdeal.τ).loc Cert.InEFwdIdeal.main_arg1) = m ((c.tc : Thread Cert.InEFwdIdeal.nD Cert.InEFwdIdeal.τ).loc Cert.InEFwdIdeal.main_arg1)
      ∧ r.2.mem ((c.tc : Thread Cert.InEFwdIdeal.nD Cert.InEFwdIdeal.τ).loc Cert.InEFwdIdeal.main_arg2) = m ((c.tc : Thread Cert.InEFwdIdeal.nD Cert.InEFwdIdeal.τ).loc Cert.InEFwdIdeal.main_arg2))
      ∧ r.2.sem = fun _ => 0)

def quiescent_InEFwdRefIdeal [hInEFwdRefIdeal : Cert.InEFwdRefIdeal.Facts] : Prop :=
  ∀ (m : (ℓ : Loc Cert.InEFwdRefIdeal.nD Cert.InEFwdRefIdeal.τ Cert.InEFwdRefIdeal.sig) → Buf (Elt Ideal) ℓ) (g : Dev Cert.InEFwdRefIdeal.nD → PrngReg), Pre_InEFwdRefIdeal m →
    θ_run (Cert.InEFwdRefIdeal.defs (F := Ideal)) (onTc (τ := Cert.InEFwdRefIdeal.τ) (Cert.InEFwdRefIdeal.main (F := Ideal))) ⟨m, fun _ => 0, g⟩ (fun r => (∀ c : Dev Cert.InEFwdRefIdeal.nD,
      r.2.mem ((c.tc : Thread Cert.InEFwdRefIdeal.nD Cert.InEFwdRefIdeal.τ).loc Cert.InEFwdRefIdeal.main_arg0) = m ((c.tc : Thread Cert.InEFwdRefIdeal.nD Cert.InEFwdRefIdeal.τ).loc Cert.InEFwdRefIdeal.main_arg0)
      ∧ r.2.mem ((c.tc : Thread Cert.InEFwdRefIdeal.nD Cert.InEFwdRefIdeal.τ).loc Cert.InEFwdRefIdeal.main_arg1) = m ((c.tc : Thread Cert.InEFwdRefIdeal.nD Cert.InEFwdRefIdeal.τ).loc Cert.InEFwdRefIdeal.main_arg1)
      ∧ r.2.mem ((c.tc : Thread Cert.InEFwdRefIdeal.nD Cert.InEFwdRefIdeal.τ).loc Cert.InEFwdRefIdeal.main_arg2) = m ((c.tc : Thread Cert.InEFwdRefIdeal.nD Cert.InEFwdRefIdeal.τ).loc Cert.InEFwdRefIdeal.main_arg2))
      ∧ r.2.sem = fun _ => 0)

def quiescent_InOFwd [hInOFwd : Cert.InOFwd.Facts] : Prop :=
  ∀ (m : (ℓ : Loc Cert.InOFwd.nD Cert.InOFwd.τ Cert.InOFwd.sig) → Buf (Elt Bits) ℓ) (g : Dev Cert.InOFwd.nD → PrngReg), Pre_InOFwd m →
    θ_run (Cert.InOFwd.defs (F := Bits)) (onTc (τ := Cert.InOFwd.τ) (Cert.InOFwd.main (F := Bits))) ⟨m, fun _ => 0, g⟩ (fun r => (∀ c : Dev Cert.InOFwd.nD,
      r.2.mem ((c.tc : Thread Cert.InOFwd.nD Cert.InOFwd.τ).loc Cert.InOFwd.main_arg0) = m ((c.tc : Thread Cert.InOFwd.nD Cert.InOFwd.τ).loc Cert.InOFwd.main_arg0)
      ∧ r.2.mem ((c.tc : Thread Cert.InOFwd.nD Cert.InOFwd.τ).loc Cert.InOFwd.main_arg1) = m ((c.tc : Thread Cert.InOFwd.nD Cert.InOFwd.τ).loc Cert.InOFwd.main_arg1)
      ∧ r.2.mem ((c.tc : Thread Cert.InOFwd.nD Cert.InOFwd.τ).loc Cert.InOFwd.main_arg2) = m ((c.tc : Thread Cert.InOFwd.nD Cert.InOFwd.τ).loc Cert.InOFwd.main_arg2))
      ∧ r.2.sem = fun _ => 0)

def quiescent_InOFwdIdeal [hInOFwdIdeal : Cert.InOFwdIdeal.Facts] : Prop :=
  ∀ (m : (ℓ : Loc Cert.InOFwdIdeal.nD Cert.InOFwdIdeal.τ Cert.InOFwdIdeal.sig) → Buf (Elt Ideal) ℓ) (g : Dev Cert.InOFwdIdeal.nD → PrngReg), Pre_InOFwdIdeal m →
    θ_run (Cert.InOFwdIdeal.defs (F := Ideal)) (onTc (τ := Cert.InOFwdIdeal.τ) (Cert.InOFwdIdeal.main (F := Ideal))) ⟨m, fun _ => 0, g⟩ (fun r => (∀ c : Dev Cert.InOFwdIdeal.nD,
      r.2.mem ((c.tc : Thread Cert.InOFwdIdeal.nD Cert.InOFwdIdeal.τ).loc Cert.InOFwdIdeal.main_arg0) = m ((c.tc : Thread Cert.InOFwdIdeal.nD Cert.InOFwdIdeal.τ).loc Cert.InOFwdIdeal.main_arg0)
      ∧ r.2.mem ((c.tc : Thread Cert.InOFwdIdeal.nD Cert.InOFwdIdeal.τ).loc Cert.InOFwdIdeal.main_arg1) = m ((c.tc : Thread Cert.InOFwdIdeal.nD Cert.InOFwdIdeal.τ).loc Cert.InOFwdIdeal.main_arg1)
      ∧ r.2.mem ((c.tc : Thread Cert.InOFwdIdeal.nD Cert.InOFwdIdeal.τ).loc Cert.InOFwdIdeal.main_arg2) = m ((c.tc : Thread Cert.InOFwdIdeal.nD Cert.InOFwdIdeal.τ).loc Cert.InOFwdIdeal.main_arg2))
      ∧ r.2.sem = fun _ => 0)

def quiescent_InOFwdRefIdeal [hInOFwdRefIdeal : Cert.InOFwdRefIdeal.Facts] : Prop :=
  ∀ (m : (ℓ : Loc Cert.InOFwdRefIdeal.nD Cert.InOFwdRefIdeal.τ Cert.InOFwdRefIdeal.sig) → Buf (Elt Ideal) ℓ) (g : Dev Cert.InOFwdRefIdeal.nD → PrngReg), Pre_InOFwdRefIdeal m →
    θ_run (Cert.InOFwdRefIdeal.defs (F := Ideal)) (onTc (τ := Cert.InOFwdRefIdeal.τ) (Cert.InOFwdRefIdeal.main (F := Ideal))) ⟨m, fun _ => 0, g⟩ (fun r => (∀ c : Dev Cert.InOFwdRefIdeal.nD,
      r.2.mem ((c.tc : Thread Cert.InOFwdRefIdeal.nD Cert.InOFwdRefIdeal.τ).loc Cert.InOFwdRefIdeal.main_arg0) = m ((c.tc : Thread Cert.InOFwdRefIdeal.nD Cert.InOFwdRefIdeal.τ).loc Cert.InOFwdRefIdeal.main_arg0)
      ∧ r.2.mem ((c.tc : Thread Cert.InOFwdRefIdeal.nD Cert.InOFwdRefIdeal.τ).loc Cert.InOFwdRefIdeal.main_arg1) = m ((c.tc : Thread Cert.InOFwdRefIdeal.nD Cert.InOFwdRefIdeal.τ).loc Cert.InOFwdRefIdeal.main_arg1)
      ∧ r.2.mem ((c.tc : Thread Cert.InOFwdRefIdeal.nD Cert.InOFwdRefIdeal.τ).loc Cert.InOFwdRefIdeal.main_arg2) = m ((c.tc : Thread Cert.InOFwdRefIdeal.nD Cert.InOFwdRefIdeal.τ).loc Cert.InOFwdRefIdeal.main_arg2))
      ∧ r.2.sem = fun _ => 0)

def quiescent_MemRmsFwd [hMemRmsFwd : Cert.MemRmsFwd.Facts] : Prop :=
  ∀ (m : (ℓ : Loc Cert.MemRmsFwd.nD Cert.MemRmsFwd.τ Cert.MemRmsFwd.sig) → Buf (Elt Bits) ℓ) (g : Dev Cert.MemRmsFwd.nD → PrngReg), Pre_MemRmsFwd m →
    θ_run (Cert.MemRmsFwd.defs (F := Bits)) (onTc (τ := Cert.MemRmsFwd.τ) (Cert.MemRmsFwd.main (F := Bits))) ⟨m, fun _ => 0, g⟩ (fun r => (∀ c : Dev Cert.MemRmsFwd.nD,
      r.2.mem ((c.tc : Thread Cert.MemRmsFwd.nD Cert.MemRmsFwd.τ).loc Cert.MemRmsFwd.main_arg0) = m ((c.tc : Thread Cert.MemRmsFwd.nD Cert.MemRmsFwd.τ).loc Cert.MemRmsFwd.main_arg0)
      ∧ r.2.mem ((c.tc : Thread Cert.MemRmsFwd.nD Cert.MemRmsFwd.τ).loc Cert.MemRmsFwd.main_arg1) = m ((c.tc : Thread Cert.MemRmsFwd.nD Cert.MemRmsFwd.τ).loc Cert.MemRmsFwd.main_arg1))
      ∧ r.2.sem = fun _ => 0)

def quiescent_MemRmsFwdIdeal [hMemRmsFwdIdeal : Cert.MemRmsFwdIdeal.Facts] : Prop :=
  ∀ (m : (ℓ : Loc Cert.MemRmsFwdIdeal.nD Cert.MemRmsFwdIdeal.τ Cert.MemRmsFwdIdeal.sig) → Buf (Elt Ideal) ℓ) (g : Dev Cert.MemRmsFwdIdeal.nD → PrngReg), Pre_MemRmsFwdIdeal m →
    θ_run (Cert.MemRmsFwdIdeal.defs (F := Ideal)) (onTc (τ := Cert.MemRmsFwdIdeal.τ) (Cert.MemRmsFwdIdeal.main (F := Ideal))) ⟨m, fun _ => 0, g⟩ (fun r => (∀ c : Dev Cert.MemRmsFwdIdeal.nD,
      r.2.mem ((c.tc : Thread Cert.MemRmsFwdIdeal.nD Cert.MemRmsFwdIdeal.τ).loc Cert.MemRmsFwdIdeal.main_arg0) = m ((c.tc : Thread Cert.MemRmsFwdIdeal.nD Cert.MemRmsFwdIdeal.τ).loc Cert.MemRmsFwdIdeal.main_arg0)
      ∧ r.2.mem ((c.tc : Thread Cert.MemRmsFwdIdeal.nD Cert.MemRmsFwdIdeal.τ).loc Cert.MemRmsFwdIdeal.main_arg1) = m ((c.tc : Thread Cert.MemRmsFwdIdeal.nD Cert.MemRmsFwdIdeal.τ).loc Cert.MemRmsFwdIdeal.main_arg1))
      ∧ r.2.sem = fun _ => 0)

def quiescent_MemRmsFwdRefIdeal [hMemRmsFwdRefIdeal : Cert.MemRmsFwdRefIdeal.Facts] : Prop :=
  ∀ (m : (ℓ : Loc Cert.MemRmsFwdRefIdeal.nD Cert.MemRmsFwdRefIdeal.τ Cert.MemRmsFwdRefIdeal.sig) → Buf (Elt Ideal) ℓ) (g : Dev Cert.MemRmsFwdRefIdeal.nD → PrngReg), Pre_MemRmsFwdRefIdeal m →
    θ_run (Cert.MemRmsFwdRefIdeal.defs (F := Ideal)) (onTc (τ := Cert.MemRmsFwdRefIdeal.τ) (Cert.MemRmsFwdRefIdeal.main (F := Ideal))) ⟨m, fun _ => 0, g⟩ (fun r => (∀ c : Dev Cert.MemRmsFwdRefIdeal.nD,
      r.2.mem ((c.tc : Thread Cert.MemRmsFwdRefIdeal.nD Cert.MemRmsFwdRefIdeal.τ).loc Cert.MemRmsFwdRefIdeal.main_arg0) = m ((c.tc : Thread Cert.MemRmsFwdRefIdeal.nD Cert.MemRmsFwdRefIdeal.τ).loc Cert.MemRmsFwdRefIdeal.main_arg0)
      ∧ r.2.mem ((c.tc : Thread Cert.MemRmsFwdRefIdeal.nD Cert.MemRmsFwdRefIdeal.τ).loc Cert.MemRmsFwdRefIdeal.main_arg1) = m ((c.tc : Thread Cert.MemRmsFwdRefIdeal.nD Cert.MemRmsFwdRefIdeal.τ).loc Cert.MemRmsFwdRefIdeal.main_arg1))
      ∧ r.2.sem = fun _ => 0)

def preserves_MemRms_MemRmsIdeal : Prop :=
  True

def algebraic_MemRmsIdeal_MemRmsRefIdeal [hMemRmsIdeal : Cert.MemRmsIdeal.Facts] [hMemRmsRefIdeal : Cert.MemRmsRefIdeal.Facts] : Prop :=
  ∀ (m : (ℓ : Loc Cert.MemRmsIdeal.nD Cert.MemRmsIdeal.τ Cert.MemRmsIdeal.sig) → Buf (Elt Ideal) ℓ) (g : Dev Cert.MemRmsIdeal.nD → PrngReg)
    (m' : (ℓ : Loc Cert.MemRmsRefIdeal.nD Cert.MemRmsRefIdeal.τ Cert.MemRmsRefIdeal.sig) → Buf (Elt Ideal) ℓ) (g' : Dev Cert.MemRmsRefIdeal.nD → PrngReg), Pre_MemRmsIdeal m →
    (∀ c : Dev Cert.MemRmsIdeal.nD,
      m' ((c.tc : Thread Cert.MemRmsRefIdeal.nD Cert.MemRmsRefIdeal.τ).loc Cert.MemRmsRefIdeal.main_arg0) = m ((c.tc : Thread Cert.MemRmsIdeal.nD Cert.MemRmsIdeal.τ).loc Cert.MemRmsIdeal.main_arg0)
      ∧ m' ((c.tc : Thread Cert.MemRmsRefIdeal.nD Cert.MemRmsRefIdeal.τ).loc Cert.MemRmsRefIdeal.main_arg1) = m ((c.tc : Thread Cert.MemRmsIdeal.nD Cert.MemRmsIdeal.τ).loc Cert.MemRmsIdeal.main_arg1)
      ∧ m' ((c.tc : Thread Cert.MemRmsRefIdeal.nD Cert.MemRmsRefIdeal.τ).loc Cert.MemRmsRefIdeal.main_arg2) = m ((c.tc : Thread Cert.MemRmsIdeal.nD Cert.MemRmsIdeal.τ).loc Cert.MemRmsIdeal.main_arg2)) →
    ∃ (v0 : (c : Dev Cert.MemRmsIdeal.nD) → Buf (Elt Ideal) ((c.tc : Thread Cert.MemRmsIdeal.nD Cert.MemRmsIdeal.τ).loc Cert.MemRmsIdeal.main_v1)),
      θ_run (Cert.MemRmsIdeal.defs (F := Ideal)) (onTc (τ := Cert.MemRmsIdeal.τ) (Cert.MemRmsIdeal.main (F := Ideal))) ⟨m, fun _ => 0, g⟩ (fun r => ∀ c : Dev Cert.MemRmsIdeal.nD,
          r.2.mem ((c.tc : Thread Cert.MemRmsIdeal.nD Cert.MemRmsIdeal.τ).loc Cert.MemRmsIdeal.main_v1) = v0 c
          ∧ r.2.mem ((c.tc : Thread Cert.MemRmsIdeal.nD Cert.MemRmsIdeal.τ).loc Cert.MemRmsIdeal.main_arg0) = m ((c.tc : Thread Cert.MemRmsIdeal.nD Cert.MemRmsIdeal.τ).loc Cert.MemRmsIdeal.main_arg0)
          ∧ r.2.mem ((c.tc : Thread Cert.MemRmsIdeal.nD Cert.MemRmsIdeal.τ).loc Cert.MemRmsIdeal.main_arg1) = m ((c.tc : Thread Cert.MemRmsIdeal.nD Cert.MemRmsIdeal.τ).loc Cert.MemRmsIdeal.main_arg1)
          ∧ r.2.mem ((c.tc : Thread Cert.MemRmsIdeal.nD Cert.MemRmsIdeal.τ).loc Cert.MemRmsIdeal.main_arg2) = m ((c.tc : Thread Cert.MemRmsIdeal.nD Cert.MemRmsIdeal.τ).loc Cert.MemRmsIdeal.main_arg2))
      ∧ θ_run (Cert.MemRmsRefIdeal.defs (F := Ideal)) (onTc (τ := Cert.MemRmsRefIdeal.τ) (Cert.MemRmsRefIdeal.main (F := Ideal))) ⟨m', fun _ => 0, g'⟩ (fun r => ∀ c : Dev Cert.MemRmsRefIdeal.nD,
          r.2.mem ((c.tc : Thread Cert.MemRmsRefIdeal.nD Cert.MemRmsRefIdeal.τ).loc Cert.MemRmsRefIdeal.main_v17) = v0 c
          ∧ r.2.mem ((c.tc : Thread Cert.MemRmsRefIdeal.nD Cert.MemRmsRefIdeal.τ).loc Cert.MemRmsRefIdeal.main_arg0) = m' ((c.tc : Thread Cert.MemRmsRefIdeal.nD Cert.MemRmsRefIdeal.τ).loc Cert.MemRmsRefIdeal.main_arg0)
          ∧ r.2.mem ((c.tc : Thread Cert.MemRmsRefIdeal.nD Cert.MemRmsRefIdeal.τ).loc Cert.MemRmsRefIdeal.main_arg1) = m' ((c.tc : Thread Cert.MemRmsRefIdeal.nD Cert.MemRmsRefIdeal.τ).loc Cert.MemRmsRefIdeal.main_arg1)
          ∧ r.2.mem ((c.tc : Thread Cert.MemRmsRefIdeal.nD Cert.MemRmsRefIdeal.τ).loc Cert.MemRmsRefIdeal.main_arg2) = m' ((c.tc : Thread Cert.MemRmsRefIdeal.nD Cert.MemRmsRefIdeal.τ).loc Cert.MemRmsRefIdeal.main_arg2))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)) →
    ∃ (v0 : (c : Dev Cert.LossIdeal.nD) → Buf (Elt Ideal) ((c.tc : Thread Cert.LossIdeal.nD Cert.LossIdeal.τ).loc Cert.LossIdeal.main_v1_0)) (v1 : (c : Dev Cert.LossIdeal.nD) → Buf (Elt Ideal) ((c.tc : Thread Cert.LossIdeal.nD Cert.LossIdeal.τ).loc Cert.LossIdeal.main_v1_1)) (v2 : (c : Dev Cert.LossIdeal.nD) → Buf (Elt Ideal) ((c.tc : Thread Cert.LossIdeal.nD Cert.LossIdeal.τ).loc Cert.LossIdeal.main_v1_2)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v1_0) = v0 c
          ∧ r.2.mem ((c.tc : Thread Cert.LossIdeal.nD Cert.LossIdeal.τ).loc Cert.LossIdeal.main_v1_1) = v1 c
          ∧ r.2.mem ((c.tc : Thread Cert.LossIdeal.nD Cert.LossIdeal.τ).loc Cert.LossIdeal.main_v1_2) = v2 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v51) = v0 c
          ∧ r.2.mem ((c.tc : Thread Cert.LossRefIdeal.nD Cert.LossRefIdeal.τ).loc Cert.LossRefIdeal.main_v50) = v1 c
          ∧ r.2.mem ((c.tc : Thread Cert.LossRefIdeal.nD Cert.LossRefIdeal.τ).loc Cert.LossRefIdeal.main_v52) = v2 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2))

def preserves_InE_InEIdeal : Prop :=
  True

def algebraic_InEIdeal_InERefIdeal [hInEIdeal : Cert.InEIdeal.Facts] [hInERefIdeal : Cert.InERefIdeal.Facts] : Prop :=
  ∀ (m : (ℓ : Loc Cert.InEIdeal.nD Cert.InEIdeal.τ Cert.InEIdeal.sig) → Buf (Elt Ideal) ℓ) (g : Dev Cert.InEIdeal.nD → PrngReg)
    (m' : (ℓ : Loc Cert.InERefIdeal.nD Cert.InERefIdeal.τ Cert.InERefIdeal.sig) → Buf (Elt Ideal) ℓ) (g' : Dev Cert.InERefIdeal.nD → PrngReg), Pre_InEIdeal m →
    (∀ c : Dev Cert.InEIdeal.nD,
      m' ((c.tc : Thread Cert.InERefIdeal.nD Cert.InERefIdeal.τ).loc Cert.InERefIdeal.main_arg0) = m ((c.tc : Thread Cert.InEIdeal.nD Cert.InEIdeal.τ).loc Cert.InEIdeal.main_arg0)
      ∧ m' ((c.tc : Thread Cert.InERefIdeal.nD Cert.InERefIdeal.τ).loc Cert.InERefIdeal.main_arg1) = m ((c.tc : Thread Cert.InEIdeal.nD Cert.InEIdeal.τ).loc Cert.InEIdeal.main_arg1)
      ∧ m' ((c.tc : Thread Cert.InERefIdeal.nD Cert.InERefIdeal.τ).loc Cert.InERefIdeal.main_arg2) = m ((c.tc : Thread Cert.InEIdeal.nD Cert.InEIdeal.τ).loc Cert.InEIdeal.main_arg2)
      ∧ m' ((c.tc : Thread Cert.InERefIdeal.nD Cert.InERefIdeal.τ).loc Cert.InERefIdeal.main_arg3) = m ((c.tc : Thread Cert.InEIdeal.nD Cert.InEIdeal.τ).loc Cert.InEIdeal.main_arg3)
      ∧ m' ((c.tc : Thread Cert.InERefIdeal.nD Cert.InERefIdeal.τ).loc Cert.InERefIdeal.main_arg4) = m ((c.tc : Thread Cert.InEIdeal.nD Cert.InEIdeal.τ).loc Cert.InEIdeal.main_arg4)
      ∧ m' ((c.tc : Thread Cert.InERefIdeal.nD Cert.InERefIdeal.τ).loc Cert.InERefIdeal.main_arg5) = m ((c.tc : Thread Cert.InEIdeal.nD Cert.InEIdeal.τ).loc Cert.InEIdeal.main_arg5)
      ∧ m' ((c.tc : Thread Cert.InERefIdeal.nD Cert.InERefIdeal.τ).loc Cert.InERefIdeal.main_arg6) = m ((c.tc : Thread Cert.InEIdeal.nD Cert.InEIdeal.τ).loc Cert.InEIdeal.main_arg6)
      ∧ m' ((c.tc : Thread Cert.InERefIdeal.nD Cert.InERefIdeal.τ).loc Cert.InERefIdeal.main_arg7) = m ((c.tc : Thread Cert.InEIdeal.nD Cert.InEIdeal.τ).loc Cert.InEIdeal.main_arg7)
      ∧ m' ((c.tc : Thread Cert.InERefIdeal.nD Cert.InERefIdeal.τ).loc Cert.InERefIdeal.main_arg8) = m ((c.tc : Thread Cert.InEIdeal.nD Cert.InEIdeal.τ).loc Cert.InEIdeal.main_arg8)
      ∧ m' ((c.tc : Thread Cert.InERefIdeal.nD Cert.InERefIdeal.τ).loc Cert.InERefIdeal.main_arg9) = m ((c.tc : Thread Cert.InEIdeal.nD Cert.InEIdeal.τ).loc Cert.InEIdeal.main_arg9)
      ∧ m' ((c.tc : Thread Cert.InERefIdeal.nD Cert.InERefIdeal.τ).loc Cert.InERefIdeal.main_arg10) = m ((c.tc : Thread Cert.InEIdeal.nD Cert.InEIdeal.τ).loc Cert.InEIdeal.main_arg10)
      ∧ m' ((c.tc : Thread Cert.InERefIdeal.nD Cert.InERefIdeal.τ).loc Cert.InERefIdeal.main_arg11) = m ((c.tc : Thread Cert.InEIdeal.nD Cert.InEIdeal.τ).loc Cert.InEIdeal.main_arg11)
      ∧ m' ((c.tc : Thread Cert.InERefIdeal.nD Cert.InERefIdeal.τ).loc Cert.InERefIdeal.main_arg12) = m ((c.tc : Thread Cert.InEIdeal.nD Cert.InEIdeal.τ).loc Cert.InEIdeal.main_arg12)
      ∧ m' ((c.tc : Thread Cert.InERefIdeal.nD Cert.InERefIdeal.τ).loc Cert.InERefIdeal.main_arg13) = m ((c.tc : Thread Cert.InEIdeal.nD Cert.InEIdeal.τ).loc Cert.InEIdeal.main_arg13)
      ∧ m' ((c.tc : Thread Cert.InERefIdeal.nD Cert.InERefIdeal.τ).loc Cert.InERefIdeal.main_arg14) = m ((c.tc : Thread Cert.InEIdeal.nD Cert.InEIdeal.τ).loc Cert.InEIdeal.main_arg14)
      ∧ m' ((c.tc : Thread Cert.InERefIdeal.nD Cert.InERefIdeal.τ).loc Cert.InERefIdeal.main_arg15) = m ((c.tc : Thread Cert.InEIdeal.nD Cert.InEIdeal.τ).loc Cert.InEIdeal.main_arg15)) →
    ∃ (v0 : (c : Dev Cert.InEIdeal.nD) → Buf (Elt Ideal) ((c.tc : Thread Cert.InEIdeal.nD Cert.InEIdeal.τ).loc Cert.InEIdeal.main_v14_0)) (v1 : (c : Dev Cert.InEIdeal.nD) → Buf (Elt Ideal) ((c.tc : Thread Cert.InEIdeal.nD Cert.InEIdeal.τ).loc Cert.InEIdeal.main_v14_1)) (v2 : (c : Dev Cert.InEIdeal.nD) → Buf (Elt Ideal) ((c.tc : Thread Cert.InEIdeal.nD Cert.InEIdeal.τ).loc Cert.InEIdeal.main_v14_2)),
      θ_run (Cert.InEIdeal.defs (F := Ideal)) (onTc (τ := Cert.InEIdeal.τ) (Cert.InEIdeal.main (F := Ideal))) ⟨m, fun _ => 0, g⟩ (fun r => ∀ c : Dev Cert.InEIdeal.nD,
          r.2.mem ((c.tc : Thread Cert.InEIdeal.nD Cert.InEIdeal.τ).loc Cert.InEIdeal.main_v14_0) = v0 c
          ∧ r.2.mem ((c.tc : Thread Cert.InEIdeal.nD Cert.InEIdeal.τ).loc Cert.InEIdeal.main_v14_1) = v1 c
          ∧ r.2.mem ((c.tc : Thread Cert.InEIdeal.nD Cert.InEIdeal.τ).loc Cert.InEIdeal.main_v14_2) = v2 c
          ∧ r.2.mem ((c.tc : Thread Cert.InEIdeal.nD Cert.InEIdeal.τ).loc Cert.InEIdeal.main_arg0) = m ((c.tc : Thread Cert.InEIdeal.nD Cert.InEIdeal.τ).loc Cert.InEIdeal.main_arg0)
          ∧ r.2.mem ((c.tc : Thread Cert.InEIdeal.nD Cert.InEIdeal.τ).loc Cert.InEIdeal.main_arg1) = m ((c.tc : Thread Cert.InEIdeal.nD Cert.InEIdeal.τ).loc Cert.InEIdeal.main_arg1)
          ∧ r.2.mem ((c.tc : Thread Cert.InEIdeal.nD Cert.InEIdeal.τ).loc Cert.InEIdeal.main_arg2) = m ((c.tc : Thread Cert.InEIdeal.nD Cert.InEIdeal.τ).loc Cert.InEIdeal.main_arg2)
          ∧ r.2.mem ((c.tc : Thread Cert.InEIdeal.nD Cert.InEIdeal.τ).loc Cert.InEIdeal.main_arg3) = m ((c.tc : Thread Cert.InEIdeal.nD Cert.InEIdeal.τ).loc Cert.InEIdeal.main_arg3)
          ∧ r.2.mem ((c.tc : Thread Cert.InEIdeal.nD Cert.InEIdeal.τ).loc Cert.InEIdeal.main_arg4) = m ((c.tc : Thread Cert.InEIdeal.nD Cert.InEIdeal.τ).loc Cert.InEIdeal.main_arg4)
          ∧ r.2.mem ((c.tc : Thread Cert.InEIdeal.nD Cert.InEIdeal.τ).loc Cert.InEIdeal.main_arg5) = m ((c.tc : Thread Cert.InEIdeal.nD Cert.InEIdeal.τ).loc Cert.InEIdeal.main_arg5)
          ∧ r.2.mem ((c.tc : Thread Cert.InEIdeal.nD Cert.InEIdeal.τ).loc Cert.InEIdeal.main_arg6) = m ((c.tc : Thread Cert.InEIdeal.nD Cert.InEIdeal.τ).loc Cert.InEIdeal.main_arg6)
          ∧ r.2.mem ((c.tc : Thread Cert.InEIdeal.nD Cert.InEIdeal.τ).loc Cert.InEIdeal.main_arg7) = m ((c.tc : Thread Cert.InEIdeal.nD Cert.InEIdeal.τ).loc Cert.InEIdeal.main_arg7)
          ∧ r.2.mem ((c.tc : Thread Cert.InEIdeal.nD Cert.InEIdeal.τ).loc Cert.InEIdeal.main_arg8) = m ((c.tc : Thread Cert.InEIdeal.nD Cert.InEIdeal.τ).loc Cert.InEIdeal.main_arg8)
          ∧ r.2.mem ((c.tc : Thread Cert.InEIdeal.nD Cert.InEIdeal.τ).loc Cert.InEIdeal.main_arg9) = m ((c.tc : Thread Cert.InEIdeal.nD Cert.InEIdeal.τ).loc Cert.InEIdeal.main_arg9)
          ∧ r.2.mem ((c.tc : Thread Cert.InEIdeal.nD Cert.InEIdeal.τ).loc Cert.InEIdeal.main_arg10) = m ((c.tc : Thread Cert.InEIdeal.nD Cert.InEIdeal.τ).loc Cert.InEIdeal.main_arg10)
          ∧ r.2.mem ((c.tc : Thread Cert.InEIdeal.nD Cert.InEIdeal.τ).loc Cert.InEIdeal.main_arg11) = m ((c.tc : Thread Cert.InEIdeal.nD Cert.InEIdeal.τ).loc Cert.InEIdeal.main_arg11)
          ∧ r.2.mem ((c.tc : Thread Cert.InEIdeal.nD Cert.InEIdeal.τ).loc Cert.InEIdeal.main_arg12) = m ((c.tc : Thread Cert.InEIdeal.nD Cert.InEIdeal.τ).loc Cert.InEIdeal.main_arg12)
          ∧ r.2.mem ((c.tc : Thread Cert.InEIdeal.nD Cert.InEIdeal.τ).loc Cert.InEIdeal.main_arg13) = m ((c.tc : Thread Cert.InEIdeal.nD Cert.InEIdeal.τ).loc Cert.InEIdeal.main_arg13)
          ∧ r.2.mem ((c.tc : Thread Cert.InEIdeal.nD Cert.InEIdeal.τ).loc Cert.InEIdeal.main_arg14) = m ((c.tc : Thread Cert.InEIdeal.nD Cert.InEIdeal.τ).loc Cert.InEIdeal.main_arg14)
          ∧ r.2.mem ((c.tc : Thread Cert.InEIdeal.nD Cert.InEIdeal.τ).loc Cert.InEIdeal.main_arg15) = m ((c.tc : Thread Cert.InEIdeal.nD Cert.InEIdeal.τ).loc Cert.InEIdeal.main_arg15))
      ∧ θ_run (Cert.InERefIdeal.defs (F := Ideal)) (onTc (τ := Cert.InERefIdeal.τ) (Cert.InERefIdeal.main (F := Ideal))) ⟨m', fun _ => 0, g'⟩ (fun r => ∀ c : Dev Cert.InERefIdeal.nD,
          r.2.mem ((c.tc : Thread Cert.InERefIdeal.nD Cert.InERefIdeal.τ).loc Cert.InERefIdeal.main_v78) = v0 c
          ∧ r.2.mem ((c.tc : Thread Cert.InERefIdeal.nD Cert.InERefIdeal.τ).loc Cert.InERefIdeal.main_v79) = v1 c
          ∧ r.2.mem ((c.tc : Thread Cert.InERefIdeal.nD Cert.InERefIdeal.τ).loc Cert.InERefIdeal.main_v80) = v2 c
          ∧ r.2.mem ((c.tc : Thread Cert.InERefIdeal.nD Cert.InERefIdeal.τ).loc Cert.InERefIdeal.main_arg0) = m' ((c.tc : Thread Cert.InERefIdeal.nD Cert.InERefIdeal.τ).loc Cert.InERefIdeal.main_arg0)
          ∧ r.2.mem ((c.tc : Thread Cert.InERefIdeal.nD Cert.InERefIdeal.τ).loc Cert.InERefIdeal.main_arg1) = m' ((c.tc : Thread Cert.InERefIdeal.nD Cert.InERefIdeal.τ).loc Cert.InERefIdeal.main_arg1)
          ∧ r.2.mem ((c.tc : Thread Cert.InERefIdeal.nD Cert.InERefIdeal.τ).loc Cert.InERefIdeal.main_arg2) = m' ((c.tc : Thread Cert.InERefIdeal.nD Cert.InERefIdeal.τ).loc Cert.InERefIdeal.main_arg2)
          ∧ r.2.mem ((c.tc : Thread Cert.InERefIdeal.nD Cert.InERefIdeal.τ).loc Cert.InERefIdeal.main_arg3) = m' ((c.tc : Thread Cert.InERefIdeal.nD Cert.InERefIdeal.τ).loc Cert.InERefIdeal.main_arg3)
          ∧ r.2.mem ((c.tc : Thread Cert.InERefIdeal.nD Cert.InERefIdeal.τ).loc Cert.InERefIdeal.main_arg4) = m' ((c.tc : Thread Cert.InERefIdeal.nD Cert.InERefIdeal.τ).loc Cert.InERefIdeal.main_arg4)
          ∧ r.2.mem ((c.tc : Thread Cert.InERefIdeal.nD Cert.InERefIdeal.τ).loc Cert.InERefIdeal.main_arg5) = m' ((c.tc : Thread Cert.InERefIdeal.nD Cert.InERefIdeal.τ).loc Cert.InERefIdeal.main_arg5)
          ∧ r.2.mem ((c.tc : Thread Cert.InERefIdeal.nD Cert.InERefIdeal.τ).loc Cert.InERefIdeal.main_arg6) = m' ((c.tc : Thread Cert.InERefIdeal.nD Cert.InERefIdeal.τ).loc Cert.InERefIdeal.main_arg6)
          ∧ r.2.mem ((c.tc : Thread Cert.InERefIdeal.nD Cert.InERefIdeal.τ).loc Cert.InERefIdeal.main_arg7) = m' ((c.tc : Thread Cert.InERefIdeal.nD Cert.InERefIdeal.τ).loc Cert.InERefIdeal.main_arg7)
          ∧ r.2.mem ((c.tc : Thread Cert.InERefIdeal.nD Cert.InERefIdeal.τ).loc Cert.InERefIdeal.main_arg8) = m' ((c.tc : Thread Cert.InERefIdeal.nD Cert.InERefIdeal.τ).loc Cert.InERefIdeal.main_arg8)
          ∧ r.2.mem ((c.tc : Thread Cert.InERefIdeal.nD Cert.InERefIdeal.τ).loc Cert.InERefIdeal.main_arg9) = m' ((c.tc : Thread Cert.InERefIdeal.nD Cert.InERefIdeal.τ).loc Cert.InERefIdeal.main_arg9)
          ∧ r.2.mem ((c.tc : Thread Cert.InERefIdeal.nD Cert.InERefIdeal.τ).loc Cert.InERefIdeal.main_arg10) = m' ((c.tc : Thread Cert.InERefIdeal.nD Cert.InERefIdeal.τ).loc Cert.InERefIdeal.main_arg10)
          ∧ r.2.mem ((c.tc : Thread Cert.InERefIdeal.nD Cert.InERefIdeal.τ).loc Cert.InERefIdeal.main_arg11) = m' ((c.tc : Thread Cert.InERefIdeal.nD Cert.InERefIdeal.τ).loc Cert.InERefIdeal.main_arg11)
          ∧ r.2.mem ((c.tc : Thread Cert.InERefIdeal.nD Cert.InERefIdeal.τ).loc Cert.InERefIdeal.main_arg12) = m' ((c.tc : Thread Cert.InERefIdeal.nD Cert.InERefIdeal.τ).loc Cert.InERefIdeal.main_arg12)
          ∧ r.2.mem ((c.tc : Thread Cert.InERefIdeal.nD Cert.InERefIdeal.τ).loc Cert.InERefIdeal.main_arg13) = m' ((c.tc : Thread Cert.InERefIdeal.nD Cert.InERefIdeal.τ).loc Cert.InERefIdeal.main_arg13)
          ∧ r.2.mem ((c.tc : Thread Cert.InERefIdeal.nD Cert.InERefIdeal.τ).loc Cert.InERefIdeal.main_arg14) = m' ((c.tc : Thread Cert.InERefIdeal.nD Cert.InERefIdeal.τ).loc Cert.InERefIdeal.main_arg14)
          ∧ r.2.mem ((c.tc : Thread Cert.InERefIdeal.nD Cert.InERefIdeal.τ).loc Cert.InERefIdeal.main_arg15) = m' ((c.tc : Thread Cert.InERefIdeal.nD Cert.InERefIdeal.τ).loc Cert.InERefIdeal.main_arg15))

def preserves_InO_InOIdeal : Prop :=
  True

def algebraic_InOIdeal_InORefIdeal [hInOIdeal : Cert.InOIdeal.Facts] [hInORefIdeal : Cert.InORefIdeal.Facts] : Prop :=
  ∀ (m : (ℓ : Loc Cert.InOIdeal.nD Cert.InOIdeal.τ Cert.InOIdeal.sig) → Buf (Elt Ideal) ℓ) (g : Dev Cert.InOIdeal.nD → PrngReg)
    (m' : (ℓ : Loc Cert.InORefIdeal.nD Cert.InORefIdeal.τ Cert.InORefIdeal.sig) → Buf (Elt Ideal) ℓ) (g' : Dev Cert.InORefIdeal.nD → PrngReg), Pre_InOIdeal m →
    (∀ c : Dev Cert.InOIdeal.nD,
      m' ((c.tc : Thread Cert.InORefIdeal.nD Cert.InORefIdeal.τ).loc Cert.InORefIdeal.main_arg0) = m ((c.tc : Thread Cert.InOIdeal.nD Cert.InOIdeal.τ).loc Cert.InOIdeal.main_arg0)
      ∧ m' ((c.tc : Thread Cert.InORefIdeal.nD Cert.InORefIdeal.τ).loc Cert.InORefIdeal.main_arg1) = m ((c.tc : Thread Cert.InOIdeal.nD Cert.InOIdeal.τ).loc Cert.InOIdeal.main_arg1)
      ∧ m' ((c.tc : Thread Cert.InORefIdeal.nD Cert.InORefIdeal.τ).loc Cert.InORefIdeal.main_arg2) = m ((c.tc : Thread Cert.InOIdeal.nD Cert.InOIdeal.τ).loc Cert.InOIdeal.main_arg2)
      ∧ m' ((c.tc : Thread Cert.InORefIdeal.nD Cert.InORefIdeal.τ).loc Cert.InORefIdeal.main_arg3) = m ((c.tc : Thread Cert.InOIdeal.nD Cert.InOIdeal.τ).loc Cert.InOIdeal.main_arg3)
      ∧ m' ((c.tc : Thread Cert.InORefIdeal.nD Cert.InORefIdeal.τ).loc Cert.InORefIdeal.main_arg4) = m ((c.tc : Thread Cert.InOIdeal.nD Cert.InOIdeal.τ).loc Cert.InOIdeal.main_arg4)
      ∧ m' ((c.tc : Thread Cert.InORefIdeal.nD Cert.InORefIdeal.τ).loc Cert.InORefIdeal.main_arg5) = m ((c.tc : Thread Cert.InOIdeal.nD Cert.InOIdeal.τ).loc Cert.InOIdeal.main_arg5)
      ∧ m' ((c.tc : Thread Cert.InORefIdeal.nD Cert.InORefIdeal.τ).loc Cert.InORefIdeal.main_arg6) = m ((c.tc : Thread Cert.InOIdeal.nD Cert.InOIdeal.τ).loc Cert.InOIdeal.main_arg6)
      ∧ m' ((c.tc : Thread Cert.InORefIdeal.nD Cert.InORefIdeal.τ).loc Cert.InORefIdeal.main_arg7) = m ((c.tc : Thread Cert.InOIdeal.nD Cert.InOIdeal.τ).loc Cert.InOIdeal.main_arg7)
      ∧ m' ((c.tc : Thread Cert.InORefIdeal.nD Cert.InORefIdeal.τ).loc Cert.InORefIdeal.main_arg8) = m ((c.tc : Thread Cert.InOIdeal.nD Cert.InOIdeal.τ).loc Cert.InOIdeal.main_arg8)
      ∧ m' ((c.tc : Thread Cert.InORefIdeal.nD Cert.InORefIdeal.τ).loc Cert.InORefIdeal.main_arg9) = m ((c.tc : Thread Cert.InOIdeal.nD Cert.InOIdeal.τ).loc Cert.InOIdeal.main_arg9)
      ∧ m' ((c.tc : Thread Cert.InORefIdeal.nD Cert.InORefIdeal.τ).loc Cert.InORefIdeal.main_arg10) = m ((c.tc : Thread Cert.InOIdeal.nD Cert.InOIdeal.τ).loc Cert.InOIdeal.main_arg10)
      ∧ m' ((c.tc : Thread Cert.InORefIdeal.nD Cert.InORefIdeal.τ).loc Cert.InORefIdeal.main_arg11) = m ((c.tc : Thread Cert.InOIdeal.nD Cert.InOIdeal.τ).loc Cert.InOIdeal.main_arg11)
      ∧ m' ((c.tc : Thread Cert.InORefIdeal.nD Cert.InORefIdeal.τ).loc Cert.InORefIdeal.main_arg12) = m ((c.tc : Thread Cert.InOIdeal.nD Cert.InOIdeal.τ).loc Cert.InOIdeal.main_arg12)
      ∧ m' ((c.tc : Thread Cert.InORefIdeal.nD Cert.InORefIdeal.τ).loc Cert.InORefIdeal.main_arg13) = m ((c.tc : Thread Cert.InOIdeal.nD Cert.InOIdeal.τ).loc Cert.InOIdeal.main_arg13)
      ∧ m' ((c.tc : Thread Cert.InORefIdeal.nD Cert.InORefIdeal.τ).loc Cert.InORefIdeal.main_arg14) = m ((c.tc : Thread Cert.InOIdeal.nD Cert.InOIdeal.τ).loc Cert.InOIdeal.main_arg14)) →
    ∃ (v0 : (c : Dev Cert.InOIdeal.nD) → Buf (Elt Ideal) ((c.tc : Thread Cert.InOIdeal.nD Cert.InOIdeal.τ).loc Cert.InOIdeal.main_v13_0)) (v1 : (c : Dev Cert.InOIdeal.nD) → Buf (Elt Ideal) ((c.tc : Thread Cert.InOIdeal.nD Cert.InOIdeal.τ).loc Cert.InOIdeal.main_v13_1)) (v2 : (c : Dev Cert.InOIdeal.nD) → Buf (Elt Ideal) ((c.tc : Thread Cert.InOIdeal.nD Cert.InOIdeal.τ).loc Cert.InOIdeal.main_v13_2)),
      θ_run (Cert.InOIdeal.defs (F := Ideal)) (onTc (τ := Cert.InOIdeal.τ) (Cert.InOIdeal.main (F := Ideal))) ⟨m, fun _ => 0, g⟩ (fun r => ∀ c : Dev Cert.InOIdeal.nD,
          r.2.mem ((c.tc : Thread Cert.InOIdeal.nD Cert.InOIdeal.τ).loc Cert.InOIdeal.main_v13_0) = v0 c
          ∧ r.2.mem ((c.tc : Thread Cert.InOIdeal.nD Cert.InOIdeal.τ).loc Cert.InOIdeal.main_v13_1) = v1 c
          ∧ r.2.mem ((c.tc : Thread Cert.InOIdeal.nD Cert.InOIdeal.τ).loc Cert.InOIdeal.main_v13_2) = v2 c
          ∧ r.2.mem ((c.tc : Thread Cert.InOIdeal.nD Cert.InOIdeal.τ).loc Cert.InOIdeal.main_arg0) = m ((c.tc : Thread Cert.InOIdeal.nD Cert.InOIdeal.τ).loc Cert.InOIdeal.main_arg0)
          ∧ r.2.mem ((c.tc : Thread Cert.InOIdeal.nD Cert.InOIdeal.τ).loc Cert.InOIdeal.main_arg1) = m ((c.tc : Thread Cert.InOIdeal.nD Cert.InOIdeal.τ).loc Cert.InOIdeal.main_arg1)
          ∧ r.2.mem ((c.tc : Thread Cert.InOIdeal.nD Cert.InOIdeal.τ).loc Cert.InOIdeal.main_arg2) = m ((c.tc : Thread Cert.InOIdeal.nD Cert.InOIdeal.τ).loc Cert.InOIdeal.main_arg2)
          ∧ r.2.mem ((c.tc : Thread Cert.InOIdeal.nD Cert.InOIdeal.τ).loc Cert.InOIdeal.main_arg3) = m ((c.tc : Thread Cert.InOIdeal.nD Cert.InOIdeal.τ).loc Cert.InOIdeal.main_arg3)
          ∧ r.2.mem ((c.tc : Thread Cert.InOIdeal.nD Cert.InOIdeal.τ).loc Cert.InOIdeal.main_arg4) = m ((c.tc : Thread Cert.InOIdeal.nD Cert.InOIdeal.τ).loc Cert.InOIdeal.main_arg4)
          ∧ r.2.mem ((c.tc : Thread Cert.InOIdeal.nD Cert.InOIdeal.τ).loc Cert.InOIdeal.main_arg5) = m ((c.tc : Thread Cert.InOIdeal.nD Cert.InOIdeal.τ).loc Cert.InOIdeal.main_arg5)
          ∧ r.2.mem ((c.tc : Thread Cert.InOIdeal.nD Cert.InOIdeal.τ).loc Cert.InOIdeal.main_arg6) = m ((c.tc : Thread Cert.InOIdeal.nD Cert.InOIdeal.τ).loc Cert.InOIdeal.main_arg6)
          ∧ r.2.mem ((c.tc : Thread Cert.InOIdeal.nD Cert.InOIdeal.τ).loc Cert.InOIdeal.main_arg7) = m ((c.tc : Thread Cert.InOIdeal.nD Cert.InOIdeal.τ).loc Cert.InOIdeal.main_arg7)
          ∧ r.2.mem ((c.tc : Thread Cert.InOIdeal.nD Cert.InOIdeal.τ).loc Cert.InOIdeal.main_arg8) = m ((c.tc : Thread Cert.InOIdeal.nD Cert.InOIdeal.τ).loc Cert.InOIdeal.main_arg8)
          ∧ r.2.mem ((c.tc : Thread Cert.InOIdeal.nD Cert.InOIdeal.τ).loc Cert.InOIdeal.main_arg9) = m ((c.tc : Thread Cert.InOIdeal.nD Cert.InOIdeal.τ).loc Cert.InOIdeal.main_arg9)
          ∧ r.2.mem ((c.tc : Thread Cert.InOIdeal.nD Cert.InOIdeal.τ).loc Cert.InOIdeal.main_arg10) = m ((c.tc : Thread Cert.InOIdeal.nD Cert.InOIdeal.τ).loc Cert.InOIdeal.main_arg10)
          ∧ r.2.mem ((c.tc : Thread Cert.InOIdeal.nD Cert.InOIdeal.τ).loc Cert.InOIdeal.main_arg11) = m ((c.tc : Thread Cert.InOIdeal.nD Cert.InOIdeal.τ).loc Cert.InOIdeal.main_arg11)
          ∧ r.2.mem ((c.tc : Thread Cert.InOIdeal.nD Cert.InOIdeal.τ).loc Cert.InOIdeal.main_arg12) = m ((c.tc : Thread Cert.InOIdeal.nD Cert.InOIdeal.τ).loc Cert.InOIdeal.main_arg12)
          ∧ r.2.mem ((c.tc : Thread Cert.InOIdeal.nD Cert.InOIdeal.τ).loc Cert.InOIdeal.main_arg13) = m ((c.tc : Thread Cert.InOIdeal.nD Cert.InOIdeal.τ).loc Cert.InOIdeal.main_arg13)
          ∧ r.2.mem ((c.tc : Thread Cert.InOIdeal.nD Cert.InOIdeal.τ).loc Cert.InOIdeal.main_arg14) = m ((c.tc : Thread Cert.InOIdeal.nD Cert.InOIdeal.τ).loc Cert.InOIdeal.main_arg14))
      ∧ θ_run (Cert.InORefIdeal.defs (F := Ideal)) (onTc (τ := Cert.InORefIdeal.τ) (Cert.InORefIdeal.main (F := Ideal))) ⟨m', fun _ => 0, g'⟩ (fun r => ∀ c : Dev Cert.InORefIdeal.nD,
          r.2.mem ((c.tc : Thread Cert.InORefIdeal.nD Cert.InORefIdeal.τ).loc Cert.InORefIdeal.main_v71) = v0 c
          ∧ r.2.mem ((c.tc : Thread Cert.InORefIdeal.nD Cert.InORefIdeal.τ).loc Cert.InORefIdeal.main_v72) = v1 c
          ∧ r.2.mem ((c.tc : Thread Cert.InORefIdeal.nD Cert.InORefIdeal.τ).loc Cert.InORefIdeal.main_v73) = v2 c
          ∧ r.2.mem ((c.tc : Thread Cert.InORefIdeal.nD Cert.InORefIdeal.τ).loc Cert.InORefIdeal.main_arg0) = m' ((c.tc : Thread Cert.InORefIdeal.nD Cert.InORefIdeal.τ).loc Cert.InORefIdeal.main_arg0)
          ∧ r.2.mem ((c.tc : Thread Cert.InORefIdeal.nD Cert.InORefIdeal.τ).loc Cert.InORefIdeal.main_arg1) = m' ((c.tc : Thread Cert.InORefIdeal.nD Cert.InORefIdeal.τ).loc Cert.InORefIdeal.main_arg1)
          ∧ r.2.mem ((c.tc : Thread Cert.InORefIdeal.nD Cert.InORefIdeal.τ).loc Cert.InORefIdeal.main_arg2) = m' ((c.tc : Thread Cert.InORefIdeal.nD Cert.InORefIdeal.τ).loc Cert.InORefIdeal.main_arg2)
          ∧ r.2.mem ((c.tc : Thread Cert.InORefIdeal.nD Cert.InORefIdeal.τ).loc Cert.InORefIdeal.main_arg3) = m' ((c.tc : Thread Cert.InORefIdeal.nD Cert.InORefIdeal.τ).loc Cert.InORefIdeal.main_arg3)
          ∧ r.2.mem ((c.tc : Thread Cert.InORefIdeal.nD Cert.InORefIdeal.τ).loc Cert.InORefIdeal.main_arg4) = m' ((c.tc : Thread Cert.InORefIdeal.nD Cert.InORefIdeal.τ).loc Cert.InORefIdeal.main_arg4)
          ∧ r.2.mem ((c.tc : Thread Cert.InORefIdeal.nD Cert.InORefIdeal.τ).loc Cert.InORefIdeal.main_arg5) = m' ((c.tc : Thread Cert.InORefIdeal.nD Cert.InORefIdeal.τ).loc Cert.InORefIdeal.main_arg5)
          ∧ r.2.mem ((c.tc : Thread Cert.InORefIdeal.nD Cert.InORefIdeal.τ).loc Cert.InORefIdeal.main_arg6) = m' ((c.tc : Thread Cert.InORefIdeal.nD Cert.InORefIdeal.τ).loc Cert.InORefIdeal.main_arg6)
          ∧ r.2.mem ((c.tc : Thread Cert.InORefIdeal.nD Cert.InORefIdeal.τ).loc Cert.InORefIdeal.main_arg7) = m' ((c.tc : Thread Cert.InORefIdeal.nD Cert.InORefIdeal.τ).loc Cert.InORefIdeal.main_arg7)
          ∧ r.2.mem ((c.tc : Thread Cert.InORefIdeal.nD Cert.InORefIdeal.τ).loc Cert.InORefIdeal.main_arg8) = m' ((c.tc : Thread Cert.InORefIdeal.nD Cert.InORefIdeal.τ).loc Cert.InORefIdeal.main_arg8)
          ∧ r.2.mem ((c.tc : Thread Cert.InORefIdeal.nD Cert.InORefIdeal.τ).loc Cert.InORefIdeal.main_arg9) = m' ((c.tc : Thread Cert.InORefIdeal.nD Cert.InORefIdeal.τ).loc Cert.InORefIdeal.main_arg9)
          ∧ r.2.mem ((c.tc : Thread Cert.InORefIdeal.nD Cert.InORefIdeal.τ).loc Cert.InORefIdeal.main_arg10) = m' ((c.tc : Thread Cert.InORefIdeal.nD Cert.InORefIdeal.τ).loc Cert.InORefIdeal.main_arg10)
          ∧ r.2.mem ((c.tc : Thread Cert.InORefIdeal.nD Cert.InORefIdeal.τ).loc Cert.InORefIdeal.main_arg11) = m' ((c.tc : Thread Cert.InORefIdeal.nD Cert.InORefIdeal.τ).loc Cert.InORefIdeal.main_arg11)
          ∧ r.2.mem ((c.tc : Thread Cert.InORefIdeal.nD Cert.InORefIdeal.τ).loc Cert.InORefIdeal.main_arg12) = m' ((c.tc : Thread Cert.InORefIdeal.nD Cert.InORefIdeal.τ).loc Cert.InORefIdeal.main_arg12)
          ∧ r.2.mem ((c.tc : Thread Cert.InORefIdeal.nD Cert.InORefIdeal.τ).loc Cert.InORefIdeal.main_arg13) = m' ((c.tc : Thread Cert.InORefIdeal.nD Cert.InORefIdeal.τ).loc Cert.InORefIdeal.main_arg13)
          ∧ r.2.mem ((c.tc : Thread Cert.InORefIdeal.nD Cert.InORefIdeal.τ).loc Cert.InORefIdeal.main_arg14) = m' ((c.tc : Thread Cert.InORefIdeal.nD Cert.InORefIdeal.τ).loc Cert.InORefIdeal.main_arg14))

def preserves_OutE_OutEIdeal : Prop :=
  True

def algebraic_OutEIdeal_OutERefIdeal [hOutEIdeal : Cert.OutEIdeal.Facts] [hOutERefIdeal : Cert.OutERefIdeal.Facts] : Prop :=
  ∀ (m : (ℓ : Loc Cert.OutEIdeal.nD Cert.OutEIdeal.τ Cert.OutEIdeal.sig) → Buf (Elt Ideal) ℓ) (g : Dev Cert.OutEIdeal.nD → PrngReg)
    (m' : (ℓ : Loc Cert.OutERefIdeal.nD Cert.OutERefIdeal.τ Cert.OutERefIdeal.sig) → Buf (Elt Ideal) ℓ) (g' : Dev Cert.OutERefIdeal.nD → PrngReg), Pre_OutEIdeal m →
    (∀ c : Dev Cert.OutEIdeal.nD,
      m' ((c.tc : Thread Cert.OutERefIdeal.nD Cert.OutERefIdeal.τ).loc Cert.OutERefIdeal.main_arg0) = m ((c.tc : Thread Cert.OutEIdeal.nD Cert.OutEIdeal.τ).loc Cert.OutEIdeal.main_arg0)
      ∧ m' ((c.tc : Thread Cert.OutERefIdeal.nD Cert.OutERefIdeal.τ).loc Cert.OutERefIdeal.main_arg1) = m ((c.tc : Thread Cert.OutEIdeal.nD Cert.OutEIdeal.τ).loc Cert.OutEIdeal.main_arg1)
      ∧ m' ((c.tc : Thread Cert.OutERefIdeal.nD Cert.OutERefIdeal.τ).loc Cert.OutERefIdeal.main_arg2) = m ((c.tc : Thread Cert.OutEIdeal.nD Cert.OutEIdeal.τ).loc Cert.OutEIdeal.main_arg2)
      ∧ m' ((c.tc : Thread Cert.OutERefIdeal.nD Cert.OutERefIdeal.τ).loc Cert.OutERefIdeal.main_arg3) = m ((c.tc : Thread Cert.OutEIdeal.nD Cert.OutEIdeal.τ).loc Cert.OutEIdeal.main_arg3)
      ∧ m' ((c.tc : Thread Cert.OutERefIdeal.nD Cert.OutERefIdeal.τ).loc Cert.OutERefIdeal.main_arg4) = m ((c.tc : Thread Cert.OutEIdeal.nD Cert.OutEIdeal.τ).loc Cert.OutEIdeal.main_arg4)
      ∧ m' ((c.tc : Thread Cert.OutERefIdeal.nD Cert.OutERefIdeal.τ).loc Cert.OutERefIdeal.main_arg5) = m ((c.tc : Thread Cert.OutEIdeal.nD Cert.OutEIdeal.τ).loc Cert.OutEIdeal.main_arg5)
      ∧ m' ((c.tc : Thread Cert.OutERefIdeal.nD Cert.OutERefIdeal.τ).loc Cert.OutERefIdeal.main_arg6) = m ((c.tc : Thread Cert.OutEIdeal.nD Cert.OutEIdeal.τ).loc Cert.OutEIdeal.main_arg6)
      ∧ m' ((c.tc : Thread Cert.OutERefIdeal.nD Cert.OutERefIdeal.τ).loc Cert.OutERefIdeal.main_arg7) = m ((c.tc : Thread Cert.OutEIdeal.nD Cert.OutEIdeal.τ).loc Cert.OutEIdeal.main_arg7)) →
    ∃ (v0 : (c : Dev Cert.OutEIdeal.nD) → Buf (Elt Ideal) ((c.tc : Thread Cert.OutEIdeal.nD Cert.OutEIdeal.τ).loc Cert.OutEIdeal.main_v14_0)) (v1 : (c : Dev Cert.OutEIdeal.nD) → Buf (Elt Ideal) ((c.tc : Thread Cert.OutEIdeal.nD Cert.OutEIdeal.τ).loc Cert.OutEIdeal.main_v14_1)) (v2 : (c : Dev Cert.OutEIdeal.nD) → Buf (Elt Ideal) ((c.tc : Thread Cert.OutEIdeal.nD Cert.OutEIdeal.τ).loc Cert.OutEIdeal.main_v14_2)) (v3 : (c : Dev Cert.OutEIdeal.nD) → Buf (Elt Ideal) ((c.tc : Thread Cert.OutEIdeal.nD Cert.OutEIdeal.τ).loc Cert.OutEIdeal.main_v14_3)) (v4 : (c : Dev Cert.OutEIdeal.nD) → Buf (Elt Ideal) ((c.tc : Thread Cert.OutEIdeal.nD Cert.OutEIdeal.τ).loc Cert.OutEIdeal.main_v14_4)) (v5 : (c : Dev Cert.OutEIdeal.nD) → Buf (Elt Ideal) ((c.tc : Thread Cert.OutEIdeal.nD Cert.OutEIdeal.τ).loc Cert.OutEIdeal.main_v14_5)) (v6 : (c : Dev Cert.OutEIdeal.nD) → Buf (Elt Ideal) ((c.tc : Thread Cert.OutEIdeal.nD Cert.OutEIdeal.τ).loc Cert.OutEIdeal.main_v14_6)) (v7 : (c : Dev Cert.OutEIdeal.nD) → Buf (Elt Ideal) ((c.tc : Thread Cert.OutEIdeal.nD Cert.OutEIdeal.τ).loc Cert.OutEIdeal.main_v14_7)),
      θ_run (Cert.OutEIdeal.defs (F := Ideal)) (onTc (τ := Cert.OutEIdeal.τ) (Cert.OutEIdeal.main (F := Ideal))) ⟨m, fun _ => 0, g⟩ (fun r => ∀ c : Dev Cert.OutEIdeal.nD,
          r.2.mem ((c.tc : Thread Cert.OutEIdeal.nD Cert.OutEIdeal.τ).loc Cert.OutEIdeal.main_v14_0) = v0 c
          ∧ r.2.mem ((c.tc : Thread Cert.OutEIdeal.nD Cert.OutEIdeal.τ).loc Cert.OutEIdeal.main_v14_1) = v1 c
          ∧ r.2.mem ((c.tc : Thread Cert.OutEIdeal.nD Cert.OutEIdeal.τ).loc Cert.OutEIdeal.main_v14_2) = v2 c
          ∧ r.2.mem ((c.tc : Thread Cert.OutEIdeal.nD Cert.OutEIdeal.τ).loc Cert.OutEIdeal.main_v14_3) = v3 c
          ∧ r.2.mem ((c.tc : Thread Cert.OutEIdeal.nD Cert.OutEIdeal.τ).loc Cert.OutEIdeal.main_v14_4) = v4 c
          ∧ r.2.mem ((c.tc : Thread Cert.OutEIdeal.nD Cert.OutEIdeal.τ).loc Cert.OutEIdeal.main_v14_5) = v5 c
          ∧ r.2.mem ((c.tc : Thread Cert.OutEIdeal.nD Cert.OutEIdeal.τ).loc Cert.OutEIdeal.main_v14_6) = v6 c
          ∧ r.2.mem ((c.tc : Thread Cert.OutEIdeal.nD Cert.OutEIdeal.τ).loc Cert.OutEIdeal.main_v14_7) = v7 c
          ∧ r.2.mem ((c.tc : Thread Cert.OutEIdeal.nD Cert.OutEIdeal.τ).loc Cert.OutEIdeal.main_arg0) = m ((c.tc : Thread Cert.OutEIdeal.nD Cert.OutEIdeal.τ).loc Cert.OutEIdeal.main_arg0)
          ∧ r.2.mem ((c.tc : Thread Cert.OutEIdeal.nD Cert.OutEIdeal.τ).loc Cert.OutEIdeal.main_arg1) = m ((c.tc : Thread Cert.OutEIdeal.nD Cert.OutEIdeal.τ).loc Cert.OutEIdeal.main_arg1)
          ∧ r.2.mem ((c.tc : Thread Cert.OutEIdeal.nD Cert.OutEIdeal.τ).loc Cert.OutEIdeal.main_arg2) = m ((c.tc : Thread Cert.OutEIdeal.nD Cert.OutEIdeal.τ).loc Cert.OutEIdeal.main_arg2)
          ∧ r.2.mem ((c.tc : Thread Cert.OutEIdeal.nD Cert.OutEIdeal.τ).loc Cert.OutEIdeal.main_arg3) = m ((c.tc : Thread Cert.OutEIdeal.nD Cert.OutEIdeal.τ).loc Cert.OutEIdeal.main_arg3)
          ∧ r.2.mem ((c.tc : Thread Cert.OutEIdeal.nD Cert.OutEIdeal.τ).loc Cert.OutEIdeal.main_arg4) = m ((c.tc : Thread Cert.OutEIdeal.nD Cert.OutEIdeal.τ).loc Cert.OutEIdeal.main_arg4)
          ∧ r.2.mem ((c.tc : Thread Cert.OutEIdeal.nD Cert.OutEIdeal.τ).loc Cert.OutEIdeal.main_arg5) = m ((c.tc : Thread Cert.OutEIdeal.nD Cert.OutEIdeal.τ).loc Cert.OutEIdeal.main_arg5)
          ∧ r.2.mem ((c.tc : Thread Cert.OutEIdeal.nD Cert.OutEIdeal.τ).loc Cert.OutEIdeal.main_arg6) = m ((c.tc : Thread Cert.OutEIdeal.nD Cert.OutEIdeal.τ).loc Cert.OutEIdeal.main_arg6)
          ∧ r.2.mem ((c.tc : Thread Cert.OutEIdeal.nD Cert.OutEIdeal.τ).loc Cert.OutEIdeal.main_arg7) = m ((c.tc : Thread Cert.OutEIdeal.nD Cert.OutEIdeal.τ).loc Cert.OutEIdeal.main_arg7))
      ∧ θ_run (Cert.OutERefIdeal.defs (F := Ideal)) (onTc (τ := Cert.OutERefIdeal.τ) (Cert.OutERefIdeal.main (F := Ideal))) ⟨m', fun _ => 0, g'⟩ (fun r => ∀ c : Dev Cert.OutERefIdeal.nD,
          r.2.mem ((c.tc : Thread Cert.OutERefIdeal.nD Cert.OutERefIdeal.τ).loc Cert.OutERefIdeal.main_v80) = v0 c
          ∧ r.2.mem ((c.tc : Thread Cert.OutERefIdeal.nD Cert.OutERefIdeal.τ).loc Cert.OutERefIdeal.main_v78) = v1 c
          ∧ r.2.mem ((c.tc : Thread Cert.OutERefIdeal.nD Cert.OutERefIdeal.τ).loc Cert.OutERefIdeal.main_v48) = v2 c
          ∧ r.2.mem ((c.tc : Thread Cert.OutERefIdeal.nD Cert.OutERefIdeal.τ).loc Cert.OutERefIdeal.main_v82) = v3 c
          ∧ r.2.mem ((c.tc : Thread Cert.OutERefIdeal.nD Cert.OutERefIdeal.τ).loc Cert.OutERefIdeal.main_v83) = v4 c
          ∧ r.2.mem ((c.tc : Thread Cert.OutERefIdeal.nD Cert.OutERefIdeal.τ).loc Cert.OutERefIdeal.main_v84) = v5 c
          ∧ r.2.mem ((c.tc : Thread Cert.OutERefIdeal.nD Cert.OutERefIdeal.τ).loc Cert.OutERefIdeal.main_v85) = v6 c
          ∧ r.2.mem ((c.tc : Thread Cert.OutERefIdeal.nD Cert.OutERefIdeal.τ).loc Cert.OutERefIdeal.main_v42) = v7 c
          ∧ r.2.mem ((c.tc : Thread Cert.OutERefIdeal.nD Cert.OutERefIdeal.τ).loc Cert.OutERefIdeal.main_arg0) = m' ((c.tc : Thread Cert.OutERefIdeal.nD Cert.OutERefIdeal.τ).loc Cert.OutERefIdeal.main_arg0)
          ∧ r.2.mem ((c.tc : Thread Cert.OutERefIdeal.nD Cert.OutERefIdeal.τ).loc Cert.OutERefIdeal.main_arg1) = m' ((c.tc : Thread Cert.OutERefIdeal.nD Cert.OutERefIdeal.τ).loc Cert.OutERefIdeal.main_arg1)
          ∧ r.2.mem ((c.tc : Thread Cert.OutERefIdeal.nD Cert.OutERefIdeal.τ).loc Cert.OutERefIdeal.main_arg2) = m' ((c.tc : Thread Cert.OutERefIdeal.nD Cert.OutERefIdeal.τ).loc Cert.OutERefIdeal.main_arg2)
          ∧ r.2.mem ((c.tc : Thread Cert.OutERefIdeal.nD Cert.OutERefIdeal.τ).loc Cert.OutERefIdeal.main_arg3) = m' ((c.tc : Thread Cert.OutERefIdeal.nD Cert.OutERefIdeal.τ).loc Cert.OutERefIdeal.main_arg3)
          ∧ r.2.mem ((c.tc : Thread Cert.OutERefIdeal.nD Cert.OutERefIdeal.τ).loc Cert.OutERefIdeal.main_arg4) = m' ((c.tc : Thread Cert.OutERefIdeal.nD Cert.OutERefIdeal.τ).loc Cert.OutERefIdeal.main_arg4)
          ∧ r.2.mem ((c.tc : Thread Cert.OutERefIdeal.nD Cert.OutERefIdeal.τ).loc Cert.OutERefIdeal.main_arg5) = m' ((c.tc : Thread Cert.OutERefIdeal.nD Cert.OutERefIdeal.τ).loc Cert.OutERefIdeal.main_arg5)
          ∧ r.2.mem ((c.tc : Thread Cert.OutERefIdeal.nD Cert.OutERefIdeal.τ).loc Cert.OutERefIdeal.main_arg6) = m' ((c.tc : Thread Cert.OutERefIdeal.nD Cert.OutERefIdeal.τ).loc Cert.OutERefIdeal.main_arg6)
          ∧ r.2.mem ((c.tc : Thread Cert.OutERefIdeal.nD Cert.OutERefIdeal.τ).loc Cert.OutERefIdeal.main_arg7) = m' ((c.tc : Thread Cert.OutERefIdeal.nD Cert.OutERefIdeal.τ).loc Cert.OutERefIdeal.main_arg7))

def preserves_OutO_OutOIdeal : Prop :=
  True

def algebraic_OutOIdeal_OutORefIdeal [hOutOIdeal : Cert.OutOIdeal.Facts] [hOutORefIdeal : Cert.OutORefIdeal.Facts] : Prop :=
  ∀ (m : (ℓ : Loc Cert.OutOIdeal.nD Cert.OutOIdeal.τ Cert.OutOIdeal.sig) → Buf (Elt Ideal) ℓ) (g : Dev Cert.OutOIdeal.nD → PrngReg)
    (m' : (ℓ : Loc Cert.OutORefIdeal.nD Cert.OutORefIdeal.τ Cert.OutORefIdeal.sig) → Buf (Elt Ideal) ℓ) (g' : Dev Cert.OutORefIdeal.nD → PrngReg), Pre_OutOIdeal m →
    (∀ c : Dev Cert.OutOIdeal.nD,
      m' ((c.tc : Thread Cert.OutORefIdeal.nD Cert.OutORefIdeal.τ).loc Cert.OutORefIdeal.main_arg0) = m ((c.tc : Thread Cert.OutOIdeal.nD Cert.OutOIdeal.τ).loc Cert.OutOIdeal.main_arg0)
      ∧ m' ((c.tc : Thread Cert.OutORefIdeal.nD Cert.OutORefIdeal.τ).loc Cert.OutORefIdeal.main_arg1) = m ((c.tc : Thread Cert.OutOIdeal.nD Cert.OutOIdeal.τ).loc Cert.OutOIdeal.main_arg1)
      ∧ m' ((c.tc : Thread Cert.OutORefIdeal.nD Cert.OutORefIdeal.τ).loc Cert.OutORefIdeal.main_arg2) = m ((c.tc : Thread Cert.OutOIdeal.nD Cert.OutOIdeal.τ).loc Cert.OutOIdeal.main_arg2)
      ∧ m' ((c.tc : Thread Cert.OutORefIdeal.nD Cert.OutORefIdeal.τ).loc Cert.OutORefIdeal.main_arg3) = m ((c.tc : Thread Cert.OutOIdeal.nD Cert.OutOIdeal.τ).loc Cert.OutOIdeal.main_arg3)
      ∧ m' ((c.tc : Thread Cert.OutORefIdeal.nD Cert.OutORefIdeal.τ).loc Cert.OutORefIdeal.main_arg4) = m ((c.tc : Thread Cert.OutOIdeal.nD Cert.OutOIdeal.τ).loc Cert.OutOIdeal.main_arg4)
      ∧ m' ((c.tc : Thread Cert.OutORefIdeal.nD Cert.OutORefIdeal.τ).loc Cert.OutORefIdeal.main_arg5) = m ((c.tc : Thread Cert.OutOIdeal.nD Cert.OutOIdeal.τ).loc Cert.OutOIdeal.main_arg5)
      ∧ m' ((c.tc : Thread Cert.OutORefIdeal.nD Cert.OutORefIdeal.τ).loc Cert.OutORefIdeal.main_arg6) = m ((c.tc : Thread Cert.OutOIdeal.nD Cert.OutOIdeal.τ).loc Cert.OutOIdeal.main_arg6)) →
    ∃ (v0 : (c : Dev Cert.OutOIdeal.nD) → Buf (Elt Ideal) ((c.tc : Thread Cert.OutOIdeal.nD Cert.OutOIdeal.τ).loc Cert.OutOIdeal.main_v11_0)) (v1 : (c : Dev Cert.OutOIdeal.nD) → Buf (Elt Ideal) ((c.tc : Thread Cert.OutOIdeal.nD Cert.OutOIdeal.τ).loc Cert.OutOIdeal.main_v11_1)) (v2 : (c : Dev Cert.OutOIdeal.nD) → Buf (Elt Ideal) ((c.tc : Thread Cert.OutOIdeal.nD Cert.OutOIdeal.τ).loc Cert.OutOIdeal.main_v11_2)) (v3 : (c : Dev Cert.OutOIdeal.nD) → Buf (Elt Ideal) ((c.tc : Thread Cert.OutOIdeal.nD Cert.OutOIdeal.τ).loc Cert.OutOIdeal.main_v11_3)) (v4 : (c : Dev Cert.OutOIdeal.nD) → Buf (Elt Ideal) ((c.tc : Thread Cert.OutOIdeal.nD Cert.OutOIdeal.τ).loc Cert.OutOIdeal.main_v11_4)) (v5 : (c : Dev Cert.OutOIdeal.nD) → Buf (Elt Ideal) ((c.tc : Thread Cert.OutOIdeal.nD Cert.OutOIdeal.τ).loc Cert.OutOIdeal.main_v11_5)),
      θ_run (Cert.OutOIdeal.defs (F := Ideal)) (onTc (τ := Cert.OutOIdeal.τ) (Cert.OutOIdeal.main (F := Ideal))) ⟨m, fun _ => 0, g⟩ (fun r => ∀ c : Dev Cert.OutOIdeal.nD,
          r.2.mem ((c.tc : Thread Cert.OutOIdeal.nD Cert.OutOIdeal.τ).loc Cert.OutOIdeal.main_v11_0) = v0 c
          ∧ r.2.mem ((c.tc : Thread Cert.OutOIdeal.nD Cert.OutOIdeal.τ).loc Cert.OutOIdeal.main_v11_1) = v1 c
          ∧ r.2.mem ((c.tc : Thread Cert.OutOIdeal.nD Cert.OutOIdeal.τ).loc Cert.OutOIdeal.main_v11_2) = v2 c
          ∧ r.2.mem ((c.tc : Thread Cert.OutOIdeal.nD Cert.OutOIdeal.τ).loc Cert.OutOIdeal.main_v11_3) = v3 c
          ∧ r.2.mem ((c.tc : Thread Cert.OutOIdeal.nD Cert.OutOIdeal.τ).loc Cert.OutOIdeal.main_v11_4) = v4 c
          ∧ r.2.mem ((c.tc : Thread Cert.OutOIdeal.nD Cert.OutOIdeal.τ).loc Cert.OutOIdeal.main_v11_5) = v5 c
          ∧ r.2.mem ((c.tc : Thread Cert.OutOIdeal.nD Cert.OutOIdeal.τ).loc Cert.OutOIdeal.main_arg0) = m ((c.tc : Thread Cert.OutOIdeal.nD Cert.OutOIdeal.τ).loc Cert.OutOIdeal.main_arg0)
          ∧ r.2.mem ((c.tc : Thread Cert.OutOIdeal.nD Cert.OutOIdeal.τ).loc Cert.OutOIdeal.main_arg1) = m ((c.tc : Thread Cert.OutOIdeal.nD Cert.OutOIdeal.τ).loc Cert.OutOIdeal.main_arg1)
          ∧ r.2.mem ((c.tc : Thread Cert.OutOIdeal.nD Cert.OutOIdeal.τ).loc Cert.OutOIdeal.main_arg2) = m ((c.tc : Thread Cert.OutOIdeal.nD Cert.OutOIdeal.τ).loc Cert.OutOIdeal.main_arg2)
          ∧ r.2.mem ((c.tc : Thread Cert.OutOIdeal.nD Cert.OutOIdeal.τ).loc Cert.OutOIdeal.main_arg3) = m ((c.tc : Thread Cert.OutOIdeal.nD Cert.OutOIdeal.τ).loc Cert.OutOIdeal.main_arg3)
          ∧ r.2.mem ((c.tc : Thread Cert.OutOIdeal.nD Cert.OutOIdeal.τ).loc Cert.OutOIdeal.main_arg4) = m ((c.tc : Thread Cert.OutOIdeal.nD Cert.OutOIdeal.τ).loc Cert.OutOIdeal.main_arg4)
          ∧ r.2.mem ((c.tc : Thread Cert.OutOIdeal.nD Cert.OutOIdeal.τ).loc Cert.OutOIdeal.main_arg5) = m ((c.tc : Thread Cert.OutOIdeal.nD Cert.OutOIdeal.τ).loc Cert.OutOIdeal.main_arg5)
          ∧ r.2.mem ((c.tc : Thread Cert.OutOIdeal.nD Cert.OutOIdeal.τ).loc Cert.OutOIdeal.main_arg6) = m ((c.tc : Thread Cert.OutOIdeal.nD Cert.OutOIdeal.τ).loc Cert.OutOIdeal.main_arg6))
      ∧ θ_run (Cert.OutORefIdeal.defs (F := Ideal)) (onTc (τ := Cert.OutORefIdeal.τ) (Cert.OutORefIdeal.main (F := Ideal))) ⟨m', fun _ => 0, g'⟩ (fun r => ∀ c : Dev Cert.OutORefIdeal.nD,
          r.2.mem ((c.tc : Thread Cert.OutORefIdeal.nD Cert.OutORefIdeal.τ).loc Cert.OutORefIdeal.main_v72) = v0 c
          ∧ r.2.mem ((c.tc : Thread Cert.OutORefIdeal.nD Cert.OutORefIdeal.τ).loc Cert.OutORefIdeal.main_v42) = v1 c
          ∧ r.2.mem ((c.tc : Thread Cert.OutORefIdeal.nD Cert.OutORefIdeal.τ).loc Cert.OutORefIdeal.main_v73) = v2 c
          ∧ r.2.mem ((c.tc : Thread Cert.OutORefIdeal.nD Cert.OutORefIdeal.τ).loc Cert.OutORefIdeal.main_v74) = v3 c
          ∧ r.2.mem ((c.tc : Thread Cert.OutORefIdeal.nD Cert.OutORefIdeal.τ).loc Cert.OutORefIdeal.main_v75) = v4 c
          ∧ r.2.mem ((c.tc : Thread Cert.OutORefIdeal.nD Cert.OutORefIdeal.τ).loc Cert.OutORefIdeal.main_v37) = v5 c
          ∧ r.2.mem ((c.tc : Thread Cert.OutORefIdeal.nD Cert.OutORefIdeal.τ).loc Cert.OutORefIdeal.main_arg0) = m' ((c.tc : Thread Cert.OutORefIdeal.nD Cert.OutORefIdeal.τ).loc Cert.OutORefIdeal.main_arg0)
          ∧ r.2.mem ((c.tc : Thread Cert.OutORefIdeal.nD Cert.OutORefIdeal.τ).loc Cert.OutORefIdeal.main_arg1) = m' ((c.tc : Thread Cert.OutORefIdeal.nD Cert.OutORefIdeal.τ).loc Cert.OutORefIdeal.main_arg1)
          ∧ r.2.mem ((c.tc : Thread Cert.OutORefIdeal.nD Cert.OutORefIdeal.τ).loc Cert.OutORefIdeal.main_arg2) = m' ((c.tc : Thread Cert.OutORefIdeal.nD Cert.OutORefIdeal.τ).loc Cert.OutORefIdeal.main_arg2)
          ∧ r.2.mem ((c.tc : Thread Cert.OutORefIdeal.nD Cert.OutORefIdeal.τ).loc Cert.OutORefIdeal.main_arg3) = m' ((c.tc : Thread Cert.OutORefIdeal.nD Cert.OutORefIdeal.τ).loc Cert.OutORefIdeal.main_arg3)
          ∧ r.2.mem ((c.tc : Thread Cert.OutORefIdeal.nD Cert.OutORefIdeal.τ).loc Cert.OutORefIdeal.main_arg4) = m' ((c.tc : Thread Cert.OutORefIdeal.nD Cert.OutORefIdeal.τ).loc Cert.OutORefIdeal.main_arg4)
          ∧ r.2.mem ((c.tc : Thread Cert.OutORefIdeal.nD Cert.OutORefIdeal.τ).loc Cert.OutORefIdeal.main_arg5) = m' ((c.tc : Thread Cert.OutORefIdeal.nD Cert.OutORefIdeal.τ).loc Cert.OutORefIdeal.main_arg5)
          ∧ r.2.mem ((c.tc : Thread Cert.OutORefIdeal.nD Cert.OutORefIdeal.τ).loc Cert.OutORefIdeal.main_arg6) = m' ((c.tc : Thread Cert.OutORefIdeal.nD Cert.OutORefIdeal.τ).loc Cert.OutORefIdeal.main_arg6))

def preserves_MemAttn_MemAttnIdeal : Prop :=
  True

def algebraic_MemAttnIdeal_MemAttnRefIdeal [hMemAttnIdeal : Cert.MemAttnIdeal.Facts] [hMemAttnRefIdeal : Cert.MemAttnRefIdeal.Facts] : Prop :=
  ∀ (m : (ℓ : Loc Cert.MemAttnIdeal.nD Cert.MemAttnIdeal.τ Cert.MemAttnIdeal.sig) → Buf (Elt Ideal) ℓ) (g : Dev Cert.MemAttnIdeal.nD → PrngReg)
    (m' : (ℓ : Loc Cert.MemAttnRefIdeal.nD Cert.MemAttnRefIdeal.τ Cert.MemAttnRefIdeal.sig) → Buf (Elt Ideal) ℓ) (g' : Dev Cert.MemAttnRefIdeal.nD → PrngReg), Pre_MemAttnIdeal m →
    (∀ c : Dev Cert.MemAttnIdeal.nD,
      m' ((c.tc : Thread Cert.MemAttnRefIdeal.nD Cert.MemAttnRefIdeal.τ).loc Cert.MemAttnRefIdeal.main_arg0) = m ((c.tc : Thread Cert.MemAttnIdeal.nD Cert.MemAttnIdeal.τ).loc Cert.MemAttnIdeal.main_arg0)
      ∧ m' ((c.tc : Thread Cert.MemAttnRefIdeal.nD Cert.MemAttnRefIdeal.τ).loc Cert.MemAttnRefIdeal.main_arg1) = m ((c.tc : Thread Cert.MemAttnIdeal.nD Cert.MemAttnIdeal.τ).loc Cert.MemAttnIdeal.main_arg1)
      ∧ m' ((c.tc : Thread Cert.MemAttnRefIdeal.nD Cert.MemAttnRefIdeal.τ).loc Cert.MemAttnRefIdeal.main_arg2) = m ((c.tc : Thread Cert.MemAttnIdeal.nD Cert.MemAttnIdeal.τ).loc Cert.MemAttnIdeal.main_arg2)) →
    ∃ (v0 : (c : Dev Cert.MemAttnIdeal.nD) → Buf (Elt Ideal) ((c.tc : Thread Cert.MemAttnIdeal.nD Cert.MemAttnIdeal.τ).loc Cert.MemAttnIdeal.main_v12_0)) (v1 : (c : Dev Cert.MemAttnIdeal.nD) → Buf (Elt Ideal) ((c.tc : Thread Cert.MemAttnIdeal.nD Cert.MemAttnIdeal.τ).loc Cert.MemAttnIdeal.main_v12_1)),
      θ_run (Cert.MemAttnIdeal.defs (F := Ideal)) (onTc (τ := Cert.MemAttnIdeal.τ) (Cert.MemAttnIdeal.main (F := Ideal))) ⟨m, fun _ => 0, g⟩ (fun r => ∀ c : Dev Cert.MemAttnIdeal.nD,
          r.2.mem ((c.tc : Thread Cert.MemAttnIdeal.nD Cert.MemAttnIdeal.τ).loc Cert.MemAttnIdeal.main_v12_0) = v0 c
          ∧ r.2.mem ((c.tc : Thread Cert.MemAttnIdeal.nD Cert.MemAttnIdeal.τ).loc Cert.MemAttnIdeal.main_v12_1) = v1 c
          ∧ r.2.mem ((c.tc : Thread Cert.MemAttnIdeal.nD Cert.MemAttnIdeal.τ).loc Cert.MemAttnIdeal.main_arg0) = m ((c.tc : Thread Cert.MemAttnIdeal.nD Cert.MemAttnIdeal.τ).loc Cert.MemAttnIdeal.main_arg0)
          ∧ r.2.mem ((c.tc : Thread Cert.MemAttnIdeal.nD Cert.MemAttnIdeal.τ).loc Cert.MemAttnIdeal.main_arg1) = m ((c.tc : Thread Cert.MemAttnIdeal.nD Cert.MemAttnIdeal.τ).loc Cert.MemAttnIdeal.main_arg1)
          ∧ r.2.mem ((c.tc : Thread Cert.MemAttnIdeal.nD Cert.MemAttnIdeal.τ).loc Cert.MemAttnIdeal.main_arg2) = m ((c.tc : Thread Cert.MemAttnIdeal.nD Cert.MemAttnIdeal.τ).loc Cert.MemAttnIdeal.main_arg2))
      ∧ θ_run (Cert.MemAttnRefIdeal.defs (F := Ideal)) (onTc (τ := Cert.MemAttnRefIdeal.τ) (Cert.MemAttnRefIdeal.main (F := Ideal))) ⟨m', fun _ => 0, g'⟩ (fun r => ∀ c : Dev Cert.MemAttnRefIdeal.nD,
          r.2.mem ((c.tc : Thread Cert.MemAttnRefIdeal.nD Cert.MemAttnRefIdeal.τ).loc Cert.MemAttnRefIdeal.main_v88) = v0 c
          ∧ r.2.mem ((c.tc : Thread Cert.MemAttnRefIdeal.nD Cert.MemAttnRefIdeal.τ).loc Cert.MemAttnRefIdeal.main_v87) = v1 c
          ∧ r.2.mem ((c.tc : Thread Cert.MemAttnRefIdeal.nD Cert.MemAttnRefIdeal.τ).loc Cert.MemAttnRefIdeal.main_arg0) = m' ((c.tc : Thread Cert.MemAttnRefIdeal.nD Cert.MemAttnRefIdeal.τ).loc Cert.MemAttnRefIdeal.main_arg0)
          ∧ r.2.mem ((c.tc : Thread Cert.MemAttnRefIdeal.nD Cert.MemAttnRefIdeal.τ).loc Cert.MemAttnRefIdeal.main_arg1) = m' ((c.tc : Thread Cert.MemAttnRefIdeal.nD Cert.MemAttnRefIdeal.τ).loc Cert.MemAttnRefIdeal.main_arg1)
          ∧ r.2.mem ((c.tc : Thread Cert.MemAttnRefIdeal.nD Cert.MemAttnRefIdeal.τ).loc Cert.MemAttnRefIdeal.main_arg2) = m' ((c.tc : Thread Cert.MemAttnRefIdeal.nD Cert.MemAttnRefIdeal.τ).loc Cert.MemAttnRefIdeal.main_arg2))

def preserves_MemFwd_MemFwdIdeal : Prop :=
  True

def algebraic_MemFwdIdeal_MemFwdRefIdeal [hMemFwdIdeal : Cert.MemFwdIdeal.Facts] [hMemFwdRefIdeal : Cert.MemFwdRefIdeal.Facts] : Prop :=
  ∀ (m : (ℓ : Loc Cert.MemFwdIdeal.nD Cert.MemFwdIdeal.τ Cert.MemFwdIdeal.sig) → Buf (Elt Ideal) ℓ) (g : Dev Cert.MemFwdIdeal.nD → PrngReg)
    (m' : (ℓ : Loc Cert.MemFwdRefIdeal.nD Cert.MemFwdRefIdeal.τ Cert.MemFwdRefIdeal.sig) → Buf (Elt Ideal) ℓ) (g' : Dev Cert.MemFwdRefIdeal.nD → PrngReg), Pre_MemFwdIdeal m →
    (∀ c : Dev Cert.MemFwdIdeal.nD,
      m' ((c.tc : Thread Cert.MemFwdRefIdeal.nD Cert.MemFwdRefIdeal.τ).loc Cert.MemFwdRefIdeal.main_arg0) = m ((c.tc : Thread Cert.MemFwdIdeal.nD Cert.MemFwdIdeal.τ).loc Cert.MemFwdIdeal.main_arg0)
      ∧ m' ((c.tc : Thread Cert.MemFwdRefIdeal.nD Cert.MemFwdRefIdeal.τ).loc Cert.MemFwdRefIdeal.main_arg1) = m ((c.tc : Thread Cert.MemFwdIdeal.nD Cert.MemFwdIdeal.τ).loc Cert.MemFwdIdeal.main_arg1)) →
    ∃ (v0 : (c : Dev Cert.MemFwdIdeal.nD) → Buf (Elt Ideal) ((c.tc : Thread Cert.MemFwdIdeal.nD Cert.MemFwdIdeal.τ).loc Cert.MemFwdIdeal.main_v12)),
      θ_run (Cert.MemFwdIdeal.defs (F := Ideal)) (onTc (τ := Cert.MemFwdIdeal.τ) (Cert.MemFwdIdeal.main (F := Ideal))) ⟨m, fun _ => 0, g⟩ (fun r => ∀ c : Dev Cert.MemFwdIdeal.nD,
          r.2.mem ((c.tc : Thread Cert.MemFwdIdeal.nD Cert.MemFwdIdeal.τ).loc Cert.MemFwdIdeal.main_v12) = v0 c
          ∧ r.2.mem ((c.tc : Thread Cert.MemFwdIdeal.nD Cert.MemFwdIdeal.τ).loc Cert.MemFwdIdeal.main_arg0) = m ((c.tc : Thread Cert.MemFwdIdeal.nD Cert.MemFwdIdeal.τ).loc Cert.MemFwdIdeal.main_arg0)
          ∧ r.2.mem ((c.tc : Thread Cert.MemFwdIdeal.nD Cert.MemFwdIdeal.τ).loc Cert.MemFwdIdeal.main_arg1) = m ((c.tc : Thread Cert.MemFwdIdeal.nD Cert.MemFwdIdeal.τ).loc Cert.MemFwdIdeal.main_arg1))
      ∧ θ_run (Cert.MemFwdRefIdeal.defs (F := Ideal)) (onTc (τ := Cert.MemFwdRefIdeal.τ) (Cert.MemFwdRefIdeal.main (F := Ideal))) ⟨m', fun _ => 0, g'⟩ (fun r => ∀ c : Dev Cert.MemFwdRefIdeal.nD,
          r.2.mem ((c.tc : Thread Cert.MemFwdRefIdeal.nD Cert.MemFwdRefIdeal.τ).loc Cert.MemFwdRefIdeal.main_v38) = v0 c
          ∧ r.2.mem ((c.tc : Thread Cert.MemFwdRefIdeal.nD Cert.MemFwdRefIdeal.τ).loc Cert.MemFwdRefIdeal.main_arg0) = m' ((c.tc : Thread Cert.MemFwdRefIdeal.nD Cert.MemFwdRefIdeal.τ).loc Cert.MemFwdRefIdeal.main_arg0)
          ∧ r.2.mem ((c.tc : Thread Cert.MemFwdRefIdeal.nD Cert.MemFwdRefIdeal.τ).loc Cert.MemFwdRefIdeal.main_arg1) = m' ((c.tc : Thread Cert.MemFwdRefIdeal.nD Cert.MemFwdRefIdeal.τ).loc Cert.MemFwdRefIdeal.main_arg1))

def preserves_AttnFwd_AttnFwdIdeal : Prop :=
  True

def algebraic_AttnFwdIdeal_AttnFwdRefIdeal [hAttnFwdIdeal : Cert.AttnFwdIdeal.Facts] [hAttnFwdRefIdeal : Cert.AttnFwdRefIdeal.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg)
    (m' : (ℓ : Loc Cert.AttnFwdRefIdeal.nD Cert.AttnFwdRefIdeal.τ Cert.AttnFwdRefIdeal.sig) → Buf (Elt Ideal) ℓ) (g' : Dev Cert.AttnFwdRefIdeal.nD → PrngReg), Pre_AttnFwdIdeal m →
    (∀ c : Dev Cert.AttnFwdIdeal.nD,
      m' ((c.tc : Thread Cert.AttnFwdRefIdeal.nD Cert.AttnFwdRefIdeal.τ).loc Cert.AttnFwdRefIdeal.main_arg0) = m ((c.tc : Thread Cert.AttnFwdIdeal.nD Cert.AttnFwdIdeal.τ).loc Cert.AttnFwdIdeal.main_arg0)
      ∧ m' ((c.tc : Thread Cert.AttnFwdRefIdeal.nD Cert.AttnFwdRefIdeal.τ).loc Cert.AttnFwdRefIdeal.main_arg1) = m ((c.tc : Thread Cert.AttnFwdIdeal.nD Cert.AttnFwdIdeal.τ).loc Cert.AttnFwdIdeal.main_arg1)) →
    ∃ (v0 : (c : Dev Cert.AttnFwdIdeal.nD) → Buf (Elt Ideal) ((c.tc : Thread Cert.AttnFwdIdeal.nD Cert.AttnFwdIdeal.τ).loc Cert.AttnFwdIdeal.main_v29)),
      θ_run (Cert.AttnFwdIdeal.defs (F := Ideal)) (onTc (τ := Cert.AttnFwdIdeal.τ) (Cert.AttnFwdIdeal.main (F := Ideal))) ⟨m, fun _ => 0, g⟩ (fun r => ∀ c : Dev Cert.AttnFwdIdeal.nD,
          r.2.mem ((c.tc : Thread Cert.AttnFwdIdeal.nD Cert.AttnFwdIdeal.τ).loc Cert.AttnFwdIdeal.main_v29) = v0 c
          ∧ r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
          ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1))
      ∧ θ_run (Cert.AttnFwdRefIdeal.defs (F := Ideal)) (onTc (τ := Cert.AttnFwdRefIdeal.τ) (Cert.AttnFwdRefIdeal.main (F := Ideal))) ⟨m', fun _ => 0, g'⟩ (fun r => ∀ c : Dev Cert.AttnFwdRefIdeal.nD,
          r.2.mem ((c.tc : Thread Cert.AttnFwdRefIdeal.nD Cert.AttnFwdRefIdeal.τ).loc Cert.AttnFwdRefIdeal.main_v112) = v0 c
          ∧ r.2.mem ((c.tc : Thread Cert.AttnFwdRefIdeal.nD Cert.AttnFwdRefIdeal.τ).loc Cert.AttnFwdRefIdeal.main_arg0) = m' ((c.tc : Thread Cert.AttnFwdRefIdeal.nD Cert.AttnFwdRefIdeal.τ).loc Cert.AttnFwdRefIdeal.main_arg0)
          ∧ r.2.mem ((c.tc : Thread Cert.AttnFwdRefIdeal.nD Cert.AttnFwdRefIdeal.τ).loc Cert.AttnFwdRefIdeal.main_arg1) = m' ((c.tc : Thread Cert.AttnFwdRefIdeal.nD Cert.AttnFwdRefIdeal.τ).loc Cert.AttnFwdRefIdeal.main_arg1))

def preserves_OutEFwd_OutEFwdIdeal : Prop :=
  True

def algebraic_OutEFwdIdeal_OutEFwdRefIdeal [hOutEFwdIdeal : Cert.OutEFwdIdeal.Facts] [hOutEFwdRefIdeal : Cert.OutEFwdRefIdeal.Facts] : Prop :=
  ∀ (m : (ℓ : Loc Cert.OutEFwdIdeal.nD Cert.OutEFwdIdeal.τ Cert.OutEFwdIdeal.sig) → Buf (Elt Ideal) ℓ) (g : Dev Cert.OutEFwdIdeal.nD → PrngReg)
    (m' : (ℓ : Loc Cert.OutEFwdRefIdeal.nD Cert.OutEFwdRefIdeal.τ Cert.OutEFwdRefIdeal.sig) → Buf (Elt Ideal) ℓ) (g' : Dev Cert.OutEFwdRefIdeal.nD → PrngReg), Pre_OutEFwdIdeal m →
    (∀ c : Dev Cert.OutEFwdIdeal.nD,
      m' ((c.tc : Thread Cert.OutEFwdRefIdeal.nD Cert.OutEFwdRefIdeal.τ).loc Cert.OutEFwdRefIdeal.main_arg0) = m ((c.tc : Thread Cert.OutEFwdIdeal.nD Cert.OutEFwdIdeal.τ).loc Cert.OutEFwdIdeal.main_arg0)
      ∧ m' ((c.tc : Thread Cert.OutEFwdRefIdeal.nD Cert.OutEFwdRefIdeal.τ).loc Cert.OutEFwdRefIdeal.main_arg1) = m ((c.tc : Thread Cert.OutEFwdIdeal.nD Cert.OutEFwdIdeal.τ).loc Cert.OutEFwdIdeal.main_arg1)
      ∧ m' ((c.tc : Thread Cert.OutEFwdRefIdeal.nD Cert.OutEFwdRefIdeal.τ).loc Cert.OutEFwdRefIdeal.main_arg2) = m ((c.tc : Thread Cert.OutEFwdIdeal.nD Cert.OutEFwdIdeal.τ).loc Cert.OutEFwdIdeal.main_arg2)
      ∧ m' ((c.tc : Thread Cert.OutEFwdRefIdeal.nD Cert.OutEFwdRefIdeal.τ).loc Cert.OutEFwdRefIdeal.main_arg3) = m ((c.tc : Thread Cert.OutEFwdIdeal.nD Cert.OutEFwdIdeal.τ).loc Cert.OutEFwdIdeal.main_arg3)
      ∧ m' ((c.tc : Thread Cert.OutEFwdRefIdeal.nD Cert.OutEFwdRefIdeal.τ).loc Cert.OutEFwdRefIdeal.main_arg4) = m ((c.tc : Thread Cert.OutEFwdIdeal.nD Cert.OutEFwdIdeal.τ).loc Cert.OutEFwdIdeal.main_arg4)
      ∧ m' ((c.tc : Thread Cert.OutEFwdRefIdeal.nD Cert.OutEFwdRefIdeal.τ).loc Cert.OutEFwdRefIdeal.main_arg5) = m ((c.tc : Thread Cert.OutEFwdIdeal.nD Cert.OutEFwdIdeal.τ).loc Cert.OutEFwdIdeal.main_arg5)
      ∧ m' ((c.tc : Thread Cert.OutEFwdRefIdeal.nD Cert.OutEFwdRefIdeal.τ).loc Cert.OutEFwdRefIdeal.main_arg6) = m ((c.tc : Thread Cert.OutEFwdIdeal.nD Cert.OutEFwdIdeal.τ).loc Cert.OutEFwdIdeal.main_arg6)
      ∧ m' ((c.tc : Thread Cert.OutEFwdRefIdeal.nD Cert.OutEFwdRefIdeal.τ).loc Cert.OutEFwdRefIdeal.main_arg7) = m ((c.tc : Thread Cert.OutEFwdIdeal.nD Cert.OutEFwdIdeal.τ).loc Cert.OutEFwdIdeal.main_arg7)) →
    ∃ (v0 : (c : Dev Cert.OutEFwdIdeal.nD) → Buf (Elt Ideal) ((c.tc : Thread Cert.OutEFwdIdeal.nD Cert.OutEFwdIdeal.τ).loc Cert.OutEFwdIdeal.main_v14)),
      θ_run (Cert.OutEFwdIdeal.defs (F := Ideal)) (onTc (τ := Cert.OutEFwdIdeal.τ) (Cert.OutEFwdIdeal.main (F := Ideal))) ⟨m, fun _ => 0, g⟩ (fun r => ∀ c : Dev Cert.OutEFwdIdeal.nD,
          r.2.mem ((c.tc : Thread Cert.OutEFwdIdeal.nD Cert.OutEFwdIdeal.τ).loc Cert.OutEFwdIdeal.main_v14) = v0 c
          ∧ r.2.mem ((c.tc : Thread Cert.OutEFwdIdeal.nD Cert.OutEFwdIdeal.τ).loc Cert.OutEFwdIdeal.main_arg0) = m ((c.tc : Thread Cert.OutEFwdIdeal.nD Cert.OutEFwdIdeal.τ).loc Cert.OutEFwdIdeal.main_arg0)
          ∧ r.2.mem ((c.tc : Thread Cert.OutEFwdIdeal.nD Cert.OutEFwdIdeal.τ).loc Cert.OutEFwdIdeal.main_arg1) = m ((c.tc : Thread Cert.OutEFwdIdeal.nD Cert.OutEFwdIdeal.τ).loc Cert.OutEFwdIdeal.main_arg1)
          ∧ r.2.mem ((c.tc : Thread Cert.OutEFwdIdeal.nD Cert.OutEFwdIdeal.τ).loc Cert.OutEFwdIdeal.main_arg2) = m ((c.tc : Thread Cert.OutEFwdIdeal.nD Cert.OutEFwdIdeal.τ).loc Cert.OutEFwdIdeal.main_arg2)
          ∧ r.2.mem ((c.tc : Thread Cert.OutEFwdIdeal.nD Cert.OutEFwdIdeal.τ).loc Cert.OutEFwdIdeal.main_arg3) = m ((c.tc : Thread Cert.OutEFwdIdeal.nD Cert.OutEFwdIdeal.τ).loc Cert.OutEFwdIdeal.main_arg3)
          ∧ r.2.mem ((c.tc : Thread Cert.OutEFwdIdeal.nD Cert.OutEFwdIdeal.τ).loc Cert.OutEFwdIdeal.main_arg4) = m ((c.tc : Thread Cert.OutEFwdIdeal.nD Cert.OutEFwdIdeal.τ).loc Cert.OutEFwdIdeal.main_arg4)
          ∧ r.2.mem ((c.tc : Thread Cert.OutEFwdIdeal.nD Cert.OutEFwdIdeal.τ).loc Cert.OutEFwdIdeal.main_arg5) = m ((c.tc : Thread Cert.OutEFwdIdeal.nD Cert.OutEFwdIdeal.τ).loc Cert.OutEFwdIdeal.main_arg5)
          ∧ r.2.mem ((c.tc : Thread Cert.OutEFwdIdeal.nD Cert.OutEFwdIdeal.τ).loc Cert.OutEFwdIdeal.main_arg6) = m ((c.tc : Thread Cert.OutEFwdIdeal.nD Cert.OutEFwdIdeal.τ).loc Cert.OutEFwdIdeal.main_arg6)
          ∧ r.2.mem ((c.tc : Thread Cert.OutEFwdIdeal.nD Cert.OutEFwdIdeal.τ).loc Cert.OutEFwdIdeal.main_arg7) = m ((c.tc : Thread Cert.OutEFwdIdeal.nD Cert.OutEFwdIdeal.τ).loc Cert.OutEFwdIdeal.main_arg7))
      ∧ θ_run (Cert.OutEFwdRefIdeal.defs (F := Ideal)) (onTc (τ := Cert.OutEFwdRefIdeal.τ) (Cert.OutEFwdRefIdeal.main (F := Ideal))) ⟨m', fun _ => 0, g'⟩ (fun r => ∀ c : Dev Cert.OutEFwdRefIdeal.nD,
          r.2.mem ((c.tc : Thread Cert.OutEFwdRefIdeal.nD Cert.OutEFwdRefIdeal.τ).loc Cert.OutEFwdRefIdeal.main_v38) = v0 c
          ∧ r.2.mem ((c.tc : Thread Cert.OutEFwdRefIdeal.nD Cert.OutEFwdRefIdeal.τ).loc Cert.OutEFwdRefIdeal.main_arg0) = m' ((c.tc : Thread Cert.OutEFwdRefIdeal.nD Cert.OutEFwdRefIdeal.τ).loc Cert.OutEFwdRefIdeal.main_arg0)
          ∧ r.2.mem ((c.tc : Thread Cert.OutEFwdRefIdeal.nD Cert.OutEFwdRefIdeal.τ).loc Cert.OutEFwdRefIdeal.main_arg1) = m' ((c.tc : Thread Cert.OutEFwdRefIdeal.nD Cert.OutEFwdRefIdeal.τ).loc Cert.OutEFwdRefIdeal.main_arg1)
          ∧ r.2.mem ((c.tc : Thread Cert.OutEFwdRefIdeal.nD Cert.OutEFwdRefIdeal.τ).loc Cert.OutEFwdRefIdeal.main_arg2) = m' ((c.tc : Thread Cert.OutEFwdRefIdeal.nD Cert.OutEFwdRefIdeal.τ).loc Cert.OutEFwdRefIdeal.main_arg2)
          ∧ r.2.mem ((c.tc : Thread Cert.OutEFwdRefIdeal.nD Cert.OutEFwdRefIdeal.τ).loc Cert.OutEFwdRefIdeal.main_arg3) = m' ((c.tc : Thread Cert.OutEFwdRefIdeal.nD Cert.OutEFwdRefIdeal.τ).loc Cert.OutEFwdRefIdeal.main_arg3)
          ∧ r.2.mem ((c.tc : Thread Cert.OutEFwdRefIdeal.nD Cert.OutEFwdRefIdeal.τ).loc Cert.OutEFwdRefIdeal.main_arg4) = m' ((c.tc : Thread Cert.OutEFwdRefIdeal.nD Cert.OutEFwdRefIdeal.τ).loc Cert.OutEFwdRefIdeal.main_arg4)
          ∧ r.2.mem ((c.tc : Thread Cert.OutEFwdRefIdeal.nD Cert.OutEFwdRefIdeal.τ).loc Cert.OutEFwdRefIdeal.main_arg5) = m' ((c.tc : Thread Cert.OutEFwdRefIdeal.nD Cert.OutEFwdRefIdeal.τ).loc Cert.OutEFwdRefIdeal.main_arg5)
          ∧ r.2.mem ((c.tc : Thread Cert.OutEFwdRefIdeal.nD Cert.OutEFwdRefIdeal.τ).loc Cert.OutEFwdRefIdeal.main_arg6) = m' ((c.tc : Thread Cert.OutEFwdRefIdeal.nD Cert.OutEFwdRefIdeal.τ).loc Cert.OutEFwdRefIdeal.main_arg6)
          ∧ r.2.mem ((c.tc : Thread Cert.OutEFwdRefIdeal.nD Cert.OutEFwdRefIdeal.τ).loc Cert.OutEFwdRefIdeal.main_arg7) = m' ((c.tc : Thread Cert.OutEFwdRefIdeal.nD Cert.OutEFwdRefIdeal.τ).loc Cert.OutEFwdRefIdeal.main_arg7))

def preserves_OutOFwd_OutOFwdIdeal : Prop :=
  True

def algebraic_OutOFwdIdeal_OutOFwdRefIdeal [hOutOFwdIdeal : Cert.OutOFwdIdeal.Facts] [hOutOFwdRefIdeal : Cert.OutOFwdRefIdeal.Facts] : Prop :=
  ∀ (m : (ℓ : Loc Cert.OutOFwdIdeal.nD Cert.OutOFwdIdeal.τ Cert.OutOFwdIdeal.sig) → Buf (Elt Ideal) ℓ) (g : Dev Cert.OutOFwdIdeal.nD → PrngReg)
    (m' : (ℓ : Loc Cert.OutOFwdRefIdeal.nD Cert.OutOFwdRefIdeal.τ Cert.OutOFwdRefIdeal.sig) → Buf (Elt Ideal) ℓ) (g' : Dev Cert.OutOFwdRefIdeal.nD → PrngReg), Pre_OutOFwdIdeal m →
    (∀ c : Dev Cert.OutOFwdIdeal.nD,
      m' ((c.tc : Thread Cert.OutOFwdRefIdeal.nD Cert.OutOFwdRefIdeal.τ).loc Cert.OutOFwdRefIdeal.main_arg0) = m ((c.tc : Thread Cert.OutOFwdIdeal.nD Cert.OutOFwdIdeal.τ).loc Cert.OutOFwdIdeal.main_arg0)
      ∧ m' ((c.tc : Thread Cert.OutOFwdRefIdeal.nD Cert.OutOFwdRefIdeal.τ).loc Cert.OutOFwdRefIdeal.main_arg1) = m ((c.tc : Thread Cert.OutOFwdIdeal.nD Cert.OutOFwdIdeal.τ).loc Cert.OutOFwdIdeal.main_arg1)
      ∧ m' ((c.tc : Thread Cert.OutOFwdRefIdeal.nD Cert.OutOFwdRefIdeal.τ).loc Cert.OutOFwdRefIdeal.main_arg2) = m ((c.tc : Thread Cert.OutOFwdIdeal.nD Cert.OutOFwdIdeal.τ).loc Cert.OutOFwdIdeal.main_arg2)
      ∧ m' ((c.tc : Thread Cert.OutOFwdRefIdeal.nD Cert.OutOFwdRefIdeal.τ).loc Cert.OutOFwdRefIdeal.main_arg3) = m ((c.tc : Thread Cert.OutOFwdIdeal.nD Cert.OutOFwdIdeal.τ).loc Cert.OutOFwdIdeal.main_arg3)
      ∧ m' ((c.tc : Thread Cert.OutOFwdRefIdeal.nD Cert.OutOFwdRefIdeal.τ).loc Cert.OutOFwdRefIdeal.main_arg4) = m ((c.tc : Thread Cert.OutOFwdIdeal.nD Cert.OutOFwdIdeal.τ).loc Cert.OutOFwdIdeal.main_arg4)
      ∧ m' ((c.tc : Thread Cert.OutOFwdRefIdeal.nD Cert.OutOFwdRefIdeal.τ).loc Cert.OutOFwdRefIdeal.main_arg5) = m ((c.tc : Thread Cert.OutOFwdIdeal.nD Cert.OutOFwdIdeal.τ).loc Cert.OutOFwdIdeal.main_arg5)
      ∧ m' ((c.tc : Thread Cert.OutOFwdRefIdeal.nD Cert.OutOFwdRefIdeal.τ).loc Cert.OutOFwdRefIdeal.main_arg6) = m ((c.tc : Thread Cert.OutOFwdIdeal.nD Cert.OutOFwdIdeal.τ).loc Cert.OutOFwdIdeal.main_arg6)) →
    ∃ (v0 : (c : Dev Cert.OutOFwdIdeal.nD) → Buf (Elt Ideal) ((c.tc : Thread Cert.OutOFwdIdeal.nD Cert.OutOFwdIdeal.τ).loc Cert.OutOFwdIdeal.main_v11)),
      θ_run (Cert.OutOFwdIdeal.defs (F := Ideal)) (onTc (τ := Cert.OutOFwdIdeal.τ) (Cert.OutOFwdIdeal.main (F := Ideal))) ⟨m, fun _ => 0, g⟩ (fun r => ∀ c : Dev Cert.OutOFwdIdeal.nD,
          r.2.mem ((c.tc : Thread Cert.OutOFwdIdeal.nD Cert.OutOFwdIdeal.τ).loc Cert.OutOFwdIdeal.main_v11) = v0 c
          ∧ r.2.mem ((c.tc : Thread Cert.OutOFwdIdeal.nD Cert.OutOFwdIdeal.τ).loc Cert.OutOFwdIdeal.main_arg0) = m ((c.tc : Thread Cert.OutOFwdIdeal.nD Cert.OutOFwdIdeal.τ).loc Cert.OutOFwdIdeal.main_arg0)
          ∧ r.2.mem ((c.tc : Thread Cert.OutOFwdIdeal.nD Cert.OutOFwdIdeal.τ).loc Cert.OutOFwdIdeal.main_arg1) = m ((c.tc : Thread Cert.OutOFwdIdeal.nD Cert.OutOFwdIdeal.τ).loc Cert.OutOFwdIdeal.main_arg1)
          ∧ r.2.mem ((c.tc : Thread Cert.OutOFwdIdeal.nD Cert.OutOFwdIdeal.τ).loc Cert.OutOFwdIdeal.main_arg2) = m ((c.tc : Thread Cert.OutOFwdIdeal.nD Cert.OutOFwdIdeal.τ).loc Cert.OutOFwdIdeal.main_arg2)
          ∧ r.2.mem ((c.tc : Thread Cert.OutOFwdIdeal.nD Cert.OutOFwdIdeal.τ).loc Cert.OutOFwdIdeal.main_arg3) = m ((c.tc : Thread Cert.OutOFwdIdeal.nD Cert.OutOFwdIdeal.τ).loc Cert.OutOFwdIdeal.main_arg3)
          ∧ r.2.mem ((c.tc : Thread Cert.OutOFwdIdeal.nD Cert.OutOFwdIdeal.τ).loc Cert.OutOFwdIdeal.main_arg4) = m ((c.tc : Thread Cert.OutOFwdIdeal.nD Cert.OutOFwdIdeal.τ).loc Cert.OutOFwdIdeal.main_arg4)
          ∧ r.2.mem ((c.tc : Thread Cert.OutOFwdIdeal.nD Cert.OutOFwdIdeal.τ).loc Cert.OutOFwdIdeal.main_arg5) = m ((c.tc : Thread Cert.OutOFwdIdeal.nD Cert.OutOFwdIdeal.τ).loc Cert.OutOFwdIdeal.main_arg5)
          ∧ r.2.mem ((c.tc : Thread Cert.OutOFwdIdeal.nD Cert.OutOFwdIdeal.τ).loc Cert.OutOFwdIdeal.main_arg6) = m ((c.tc : Thread Cert.OutOFwdIdeal.nD Cert.OutOFwdIdeal.τ).loc Cert.OutOFwdIdeal.main_arg6))
      ∧ θ_run (Cert.OutOFwdRefIdeal.defs (F := Ideal)) (onTc (τ := Cert.OutOFwdRefIdeal.τ) (Cert.OutOFwdRefIdeal.main (F := Ideal))) ⟨m', fun _ => 0, g'⟩ (fun r => ∀ c : Dev Cert.OutOFwdRefIdeal.nD,
          r.2.mem ((c.tc : Thread Cert.OutOFwdRefIdeal.nD Cert.OutOFwdRefIdeal.τ).loc Cert.OutOFwdRefIdeal.main_v33) = v0 c
          ∧ r.2.mem ((c.tc : Thread Cert.OutOFwdRefIdeal.nD Cert.OutOFwdRefIdeal.τ).loc Cert.OutOFwdRefIdeal.main_arg0) = m' ((c.tc : Thread Cert.OutOFwdRefIdeal.nD Cert.OutOFwdRefIdeal.τ).loc Cert.OutOFwdRefIdeal.main_arg0)
          ∧ r.2.mem ((c.tc : Thread Cert.OutOFwdRefIdeal.nD Cert.OutOFwdRefIdeal.τ).loc Cert.OutOFwdRefIdeal.main_arg1) = m' ((c.tc : Thread Cert.OutOFwdRefIdeal.nD Cert.OutOFwdRefIdeal.τ).loc Cert.OutOFwdRefIdeal.main_arg1)
          ∧ r.2.mem ((c.tc : Thread Cert.OutOFwdRefIdeal.nD Cert.OutOFwdRefIdeal.τ).loc Cert.OutOFwdRefIdeal.main_arg2) = m' ((c.tc : Thread Cert.OutOFwdRefIdeal.nD Cert.OutOFwdRefIdeal.τ).loc Cert.OutOFwdRefIdeal.main_arg2)
          ∧ r.2.mem ((c.tc : Thread Cert.OutOFwdRefIdeal.nD Cert.OutOFwdRefIdeal.τ).loc Cert.OutOFwdRefIdeal.main_arg3) = m' ((c.tc : Thread Cert.OutOFwdRefIdeal.nD Cert.OutOFwdRefIdeal.τ).loc Cert.OutOFwdRefIdeal.main_arg3)
          ∧ r.2.mem ((c.tc : Thread Cert.OutOFwdRefIdeal.nD Cert.OutOFwdRefIdeal.τ).loc Cert.OutOFwdRefIdeal.main_arg4) = m' ((c.tc : Thread Cert.OutOFwdRefIdeal.nD Cert.OutOFwdRefIdeal.τ).loc Cert.OutOFwdRefIdeal.main_arg4)
          ∧ r.2.mem ((c.tc : Thread Cert.OutOFwdRefIdeal.nD Cert.OutOFwdRefIdeal.τ).loc Cert.OutOFwdRefIdeal.main_arg5) = m' ((c.tc : Thread Cert.OutOFwdRefIdeal.nD Cert.OutOFwdRefIdeal.τ).loc Cert.OutOFwdRefIdeal.main_arg5)
          ∧ r.2.mem ((c.tc : Thread Cert.OutOFwdRefIdeal.nD Cert.OutOFwdRefIdeal.τ).loc Cert.OutOFwdRefIdeal.main_arg6) = m' ((c.tc : Thread Cert.OutOFwdRefIdeal.nD Cert.OutOFwdRefIdeal.τ).loc Cert.OutOFwdRefIdeal.main_arg6))

def preserves_InEFwd_InEFwdIdeal : Prop :=
  True

def algebraic_InEFwdIdeal_InEFwdRefIdeal [hInEFwdIdeal : Cert.InEFwdIdeal.Facts] [hInEFwdRefIdeal : Cert.InEFwdRefIdeal.Facts] : Prop :=
  ∀ (m : (ℓ : Loc Cert.InEFwdIdeal.nD Cert.InEFwdIdeal.τ Cert.InEFwdIdeal.sig) → Buf (Elt Ideal) ℓ) (g : Dev Cert.InEFwdIdeal.nD → PrngReg)
    (m' : (ℓ : Loc Cert.InEFwdRefIdeal.nD Cert.InEFwdRefIdeal.τ Cert.InEFwdRefIdeal.sig) → Buf (Elt Ideal) ℓ) (g' : Dev Cert.InEFwdRefIdeal.nD → PrngReg), Pre_InEFwdIdeal m →
    (∀ c : Dev Cert.InEFwdIdeal.nD,
      m' ((c.tc : Thread Cert.InEFwdRefIdeal.nD Cert.InEFwdRefIdeal.τ).loc Cert.InEFwdRefIdeal.main_arg0) = m ((c.tc : Thread Cert.InEFwdIdeal.nD Cert.InEFwdIdeal.τ).loc Cert.InEFwdIdeal.main_arg0)
      ∧ m' ((c.tc : Thread Cert.InEFwdRefIdeal.nD Cert.InEFwdRefIdeal.τ).loc Cert.InEFwdRefIdeal.main_arg1) = m ((c.tc : Thread Cert.InEFwdIdeal.nD Cert.InEFwdIdeal.τ).loc Cert.InEFwdIdeal.main_arg1)
      ∧ m' ((c.tc : Thread Cert.InEFwdRefIdeal.nD Cert.InEFwdRefIdeal.τ).loc Cert.InEFwdRefIdeal.main_arg2) = m ((c.tc : Thread Cert.InEFwdIdeal.nD Cert.InEFwdIdeal.τ).loc Cert.InEFwdIdeal.main_arg2)) →
    ∃ (v0 : (c : Dev Cert.InEFwdIdeal.nD) → Buf (Elt Ideal) ((c.tc : Thread Cert.InEFwdIdeal.nD Cert.InEFwdIdeal.τ).loc Cert.InEFwdIdeal.main_v14_0)) (v1 : (c : Dev Cert.InEFwdIdeal.nD) → Buf (Elt Ideal) ((c.tc : Thread Cert.InEFwdIdeal.nD Cert.InEFwdIdeal.τ).loc Cert.InEFwdIdeal.main_v14_1)),
      θ_run (Cert.InEFwdIdeal.defs (F := Ideal)) (onTc (τ := Cert.InEFwdIdeal.τ) (Cert.InEFwdIdeal.main (F := Ideal))) ⟨m, fun _ => 0, g⟩ (fun r => ∀ c : Dev Cert.InEFwdIdeal.nD,
          r.2.mem ((c.tc : Thread Cert.InEFwdIdeal.nD Cert.InEFwdIdeal.τ).loc Cert.InEFwdIdeal.main_v14_0) = v0 c
          ∧ r.2.mem ((c.tc : Thread Cert.InEFwdIdeal.nD Cert.InEFwdIdeal.τ).loc Cert.InEFwdIdeal.main_v14_1) = v1 c
          ∧ r.2.mem ((c.tc : Thread Cert.InEFwdIdeal.nD Cert.InEFwdIdeal.τ).loc Cert.InEFwdIdeal.main_arg0) = m ((c.tc : Thread Cert.InEFwdIdeal.nD Cert.InEFwdIdeal.τ).loc Cert.InEFwdIdeal.main_arg0)
          ∧ r.2.mem ((c.tc : Thread Cert.InEFwdIdeal.nD Cert.InEFwdIdeal.τ).loc Cert.InEFwdIdeal.main_arg1) = m ((c.tc : Thread Cert.InEFwdIdeal.nD Cert.InEFwdIdeal.τ).loc Cert.InEFwdIdeal.main_arg1)
          ∧ r.2.mem ((c.tc : Thread Cert.InEFwdIdeal.nD Cert.InEFwdIdeal.τ).loc Cert.InEFwdIdeal.main_arg2) = m ((c.tc : Thread Cert.InEFwdIdeal.nD Cert.InEFwdIdeal.τ).loc Cert.InEFwdIdeal.main_arg2))
      ∧ θ_run (Cert.InEFwdRefIdeal.defs (F := Ideal)) (onTc (τ := Cert.InEFwdRefIdeal.τ) (Cert.InEFwdRefIdeal.main (F := Ideal))) ⟨m', fun _ => 0, g'⟩ (fun r => ∀ c : Dev Cert.InEFwdRefIdeal.nD,
          r.2.mem ((c.tc : Thread Cert.InEFwdRefIdeal.nD Cert.InEFwdRefIdeal.τ).loc Cert.InEFwdRefIdeal.main_v25) = v0 c
          ∧ r.2.mem ((c.tc : Thread Cert.InEFwdRefIdeal.nD Cert.InEFwdRefIdeal.τ).loc Cert.InEFwdRefIdeal.main_v26) = v1 c
          ∧ r.2.mem ((c.tc : Thread Cert.InEFwdRefIdeal.nD Cert.InEFwdRefIdeal.τ).loc Cert.InEFwdRefIdeal.main_arg0) = m' ((c.tc : Thread Cert.InEFwdRefIdeal.nD Cert.InEFwdRefIdeal.τ).loc Cert.InEFwdRefIdeal.main_arg0)
          ∧ r.2.mem ((c.tc : Thread Cert.InEFwdRefIdeal.nD Cert.InEFwdRefIdeal.τ).loc Cert.InEFwdRefIdeal.main_arg1) = m' ((c.tc : Thread Cert.InEFwdRefIdeal.nD Cert.InEFwdRefIdeal.τ).loc Cert.InEFwdRefIdeal.main_arg1)
          ∧ r.2.mem ((c.tc : Thread Cert.InEFwdRefIdeal.nD Cert.InEFwdRefIdeal.τ).loc Cert.InEFwdRefIdeal.main_arg2) = m' ((c.tc : Thread Cert.InEFwdRefIdeal.nD Cert.InEFwdRefIdeal.τ).loc Cert.InEFwdRefIdeal.main_arg2))

def preserves_InOFwd_InOFwdIdeal : Prop :=
  True

def algebraic_InOFwdIdeal_InOFwdRefIdeal [hInOFwdIdeal : Cert.InOFwdIdeal.Facts] [hInOFwdRefIdeal : Cert.InOFwdRefIdeal.Facts] : Prop :=
  ∀ (m : (ℓ : Loc Cert.InOFwdIdeal.nD Cert.InOFwdIdeal.τ Cert.InOFwdIdeal.sig) → Buf (Elt Ideal) ℓ) (g : Dev Cert.InOFwdIdeal.nD → PrngReg)
    (m' : (ℓ : Loc Cert.InOFwdRefIdeal.nD Cert.InOFwdRefIdeal.τ Cert.InOFwdRefIdeal.sig) → Buf (Elt Ideal) ℓ) (g' : Dev Cert.InOFwdRefIdeal.nD → PrngReg), Pre_InOFwdIdeal m →
    (∀ c : Dev Cert.InOFwdIdeal.nD,
      m' ((c.tc : Thread Cert.InOFwdRefIdeal.nD Cert.InOFwdRefIdeal.τ).loc Cert.InOFwdRefIdeal.main_arg0) = m ((c.tc : Thread Cert.InOFwdIdeal.nD Cert.InOFwdIdeal.τ).loc Cert.InOFwdIdeal.main_arg0)
      ∧ m' ((c.tc : Thread Cert.InOFwdRefIdeal.nD Cert.InOFwdRefIdeal.τ).loc Cert.InOFwdRefIdeal.main_arg1) = m ((c.tc : Thread Cert.InOFwdIdeal.nD Cert.InOFwdIdeal.τ).loc Cert.InOFwdIdeal.main_arg1)
      ∧ m' ((c.tc : Thread Cert.InOFwdRefIdeal.nD Cert.InOFwdRefIdeal.τ).loc Cert.InOFwdRefIdeal.main_arg2) = m ((c.tc : Thread Cert.InOFwdIdeal.nD Cert.InOFwdIdeal.τ).loc Cert.InOFwdIdeal.main_arg2)) →
    ∃ (v0 : (c : Dev Cert.InOFwdIdeal.nD) → Buf (Elt Ideal) ((c.tc : Thread Cert.InOFwdIdeal.nD Cert.InOFwdIdeal.τ).loc Cert.InOFwdIdeal.main_v11_0)) (v1 : (c : Dev Cert.InOFwdIdeal.nD) → Buf (Elt Ideal) ((c.tc : Thread Cert.InOFwdIdeal.nD Cert.InOFwdIdeal.τ).loc Cert.InOFwdIdeal.main_v11_1)),
      θ_run (Cert.InOFwdIdeal.defs (F := Ideal)) (onTc (τ := Cert.InOFwdIdeal.τ) (Cert.InOFwdIdeal.main (F := Ideal))) ⟨m, fun _ => 0, g⟩ (fun r => ∀ c : Dev Cert.InOFwdIdeal.nD,
          r.2.mem ((c.tc : Thread Cert.InOFwdIdeal.nD Cert.InOFwdIdeal.τ).loc Cert.InOFwdIdeal.main_v11_0) = v0 c
          ∧ r.2.mem ((c.tc : Thread Cert.InOFwdIdeal.nD Cert.InOFwdIdeal.τ).loc Cert.InOFwdIdeal.main_v11_1) = v1 c
          ∧ r.2.mem ((c.tc : Thread Cert.InOFwdIdeal.nD Cert.InOFwdIdeal.τ).loc Cert.InOFwdIdeal.main_arg0) = m ((c.tc : Thread Cert.InOFwdIdeal.nD Cert.InOFwdIdeal.τ).loc Cert.InOFwdIdeal.main_arg0)
          ∧ r.2.mem ((c.tc : Thread Cert.InOFwdIdeal.nD Cert.InOFwdIdeal.τ).loc Cert.InOFwdIdeal.main_arg1) = m ((c.tc : Thread Cert.InOFwdIdeal.nD Cert.InOFwdIdeal.τ).loc Cert.InOFwdIdeal.main_arg1)
          ∧ r.2.mem ((c.tc : Thread Cert.InOFwdIdeal.nD Cert.InOFwdIdeal.τ).loc Cert.InOFwdIdeal.main_arg2) = m ((c.tc : Thread Cert.InOFwdIdeal.nD Cert.InOFwdIdeal.τ).loc Cert.InOFwdIdeal.main_arg2))
      ∧ θ_run (Cert.InOFwdRefIdeal.defs (F := Ideal)) (onTc (τ := Cert.InOFwdRefIdeal.τ) (Cert.InOFwdRefIdeal.main (F := Ideal))) ⟨m', fun _ => 0, g'⟩ (fun r => ∀ c : Dev Cert.InOFwdRefIdeal.nD,
          r.2.mem ((c.tc : Thread Cert.InOFwdRefIdeal.nD Cert.InOFwdRefIdeal.τ).loc Cert.InOFwdRefIdeal.main_v22) = v0 c
          ∧ r.2.mem ((c.tc : Thread Cert.InOFwdRefIdeal.nD Cert.InOFwdRefIdeal.τ).loc Cert.InOFwdRefIdeal.main_v24) = v1 c
          ∧ r.2.mem ((c.tc : Thread Cert.InOFwdRefIdeal.nD Cert.InOFwdRefIdeal.τ).loc Cert.InOFwdRefIdeal.main_arg0) = m' ((c.tc : Thread Cert.InOFwdRefIdeal.nD Cert.InOFwdRefIdeal.τ).loc Cert.InOFwdRefIdeal.main_arg0)
          ∧ r.2.mem ((c.tc : Thread Cert.InOFwdRefIdeal.nD Cert.InOFwdRefIdeal.τ).loc Cert.InOFwdRefIdeal.main_arg1) = m' ((c.tc : Thread Cert.InOFwdRefIdeal.nD Cert.InOFwdRefIdeal.τ).loc Cert.InOFwdRefIdeal.main_arg1)
          ∧ r.2.mem ((c.tc : Thread Cert.InOFwdRefIdeal.nD Cert.InOFwdRefIdeal.τ).loc Cert.InOFwdRefIdeal.main_arg2) = m' ((c.tc : Thread Cert.InOFwdRefIdeal.nD Cert.InOFwdRefIdeal.τ).loc Cert.InOFwdRefIdeal.main_arg2))

def preserves_MemRmsFwd_MemRmsFwdIdeal : Prop :=
  True

def algebraic_MemRmsFwdIdeal_MemRmsFwdRefIdeal [hMemRmsFwdIdeal : Cert.MemRmsFwdIdeal.Facts] [hMemRmsFwdRefIdeal : Cert.MemRmsFwdRefIdeal.Facts] : Prop :=
  ∀ (m : (ℓ : Loc Cert.MemRmsFwdIdeal.nD Cert.MemRmsFwdIdeal.τ Cert.MemRmsFwdIdeal.sig) → Buf (Elt Ideal) ℓ) (g : Dev Cert.MemRmsFwdIdeal.nD → PrngReg)
    (m' : (ℓ : Loc Cert.MemRmsFwdRefIdeal.nD Cert.MemRmsFwdRefIdeal.τ Cert.MemRmsFwdRefIdeal.sig) → Buf (Elt Ideal) ℓ) (g' : Dev Cert.MemRmsFwdRefIdeal.nD → PrngReg), Pre_MemRmsFwdIdeal m →
    (∀ c : Dev Cert.MemRmsFwdIdeal.nD,
      m' ((c.tc : Thread Cert.MemRmsFwdRefIdeal.nD Cert.MemRmsFwdRefIdeal.τ).loc Cert.MemRmsFwdRefIdeal.main_arg0) = m ((c.tc : Thread Cert.MemRmsFwdIdeal.nD Cert.MemRmsFwdIdeal.τ).loc Cert.MemRmsFwdIdeal.main_arg0)
      ∧ m' ((c.tc : Thread Cert.MemRmsFwdRefIdeal.nD Cert.MemRmsFwdRefIdeal.τ).loc Cert.MemRmsFwdRefIdeal.main_arg1) = m ((c.tc : Thread Cert.MemRmsFwdIdeal.nD Cert.MemRmsFwdIdeal.τ).loc Cert.MemRmsFwdIdeal.main_arg1)) →
    ∃ (v0 : (c : Dev Cert.MemRmsFwdIdeal.nD) → Buf (Elt Ideal) ((c.tc : Thread Cert.MemRmsFwdIdeal.nD Cert.MemRmsFwdIdeal.τ).loc Cert.MemRmsFwdIdeal.main_v1)),
      θ_run (Cert.MemRmsFwdIdeal.defs (F := Ideal)) (onTc (τ := Cert.MemRmsFwdIdeal.τ) (Cert.MemRmsFwdIdeal.main (F := Ideal))) ⟨m, fun _ => 0, g⟩ (fun r => ∀ c : Dev Cert.MemRmsFwdIdeal.nD,
          r.2.mem ((c.tc : Thread Cert.MemRmsFwdIdeal.nD Cert.MemRmsFwdIdeal.τ).loc Cert.MemRmsFwdIdeal.main_v1) = v0 c
          ∧ r.2.mem ((c.tc : Thread Cert.MemRmsFwdIdeal.nD Cert.MemRmsFwdIdeal.τ).loc Cert.MemRmsFwdIdeal.main_arg0) = m ((c.tc : Thread Cert.MemRmsFwdIdeal.nD Cert.MemRmsFwdIdeal.τ).loc Cert.MemRmsFwdIdeal.main_arg0)
          ∧ r.2.mem ((c.tc : Thread Cert.MemRmsFwdIdeal.nD Cert.MemRmsFwdIdeal.τ).loc Cert.MemRmsFwdIdeal.main_arg1) = m ((c.tc : Thread Cert.MemRmsFwdIdeal.nD Cert.MemRmsFwdIdeal.τ).loc Cert.MemRmsFwdIdeal.main_arg1))
      ∧ θ_run (Cert.MemRmsFwdRefIdeal.defs (F := Ideal)) (onTc (τ := Cert.MemRmsFwdRefIdeal.τ) (Cert.MemRmsFwdRefIdeal.main (F := Ideal))) ⟨m', fun _ => 0, g'⟩ (fun r => ∀ c : Dev Cert.MemRmsFwdRefIdeal.nD,
          r.2.mem ((c.tc : Thread Cert.MemRmsFwdRefIdeal.nD Cert.MemRmsFwdRefIdeal.τ).loc Cert.MemRmsFwdRefIdeal.main_v13) = v0 c
          ∧ r.2.mem ((c.tc : Thread Cert.MemRmsFwdRefIdeal.nD Cert.MemRmsFwdRefIdeal.τ).loc Cert.MemRmsFwdRefIdeal.main_arg0) = m' ((c.tc : Thread Cert.MemRmsFwdRefIdeal.nD Cert.MemRmsFwdRefIdeal.τ).loc Cert.MemRmsFwdRefIdeal.main_arg0)
          ∧ r.2.mem ((c.tc : Thread Cert.MemRmsFwdRefIdeal.nD Cert.MemRmsFwdRefIdeal.τ).loc Cert.MemRmsFwdRefIdeal.main_arg1) = m' ((c.tc : Thread Cert.MemRmsFwdRefIdeal.nD Cert.MemRmsFwdRefIdeal.τ).loc Cert.MemRmsFwdRefIdeal.main_arg1))

def Claim : Prop :=
  ∃ (hMemRms : Cert.MemRms.Facts) (hMemRmsIdeal : Cert.MemRmsIdeal.Facts) (hMemRmsRefIdeal : Cert.MemRmsRefIdeal.Facts) (hLoss : Cert.Loss.Facts) (hLossIdeal : Cert.LossIdeal.Facts) (hLossRefIdeal : Cert.LossRefIdeal.Facts) (hInE : Cert.InE.Facts) (hInEIdeal : Cert.InEIdeal.Facts) (hInERefIdeal : Cert.InERefIdeal.Facts) (hInO : Cert.InO.Facts) (hInOIdeal : Cert.InOIdeal.Facts) (hInORefIdeal : Cert.InORefIdeal.Facts) (hOutE : Cert.OutE.Facts) (hOutEIdeal : Cert.OutEIdeal.Facts) (hOutERefIdeal : Cert.OutERefIdeal.Facts) (hOutO : Cert.OutO.Facts) (hOutOIdeal : Cert.OutOIdeal.Facts) (hOutORefIdeal : Cert.OutORefIdeal.Facts) (hMemAttn : Cert.MemAttn.Facts) (hMemAttnIdeal : Cert.MemAttnIdeal.Facts) (hMemAttnRefIdeal : Cert.MemAttnRefIdeal.Facts) (hMemFwd : Cert.MemFwd.Facts) (hMemFwdIdeal : Cert.MemFwdIdeal.Facts) (hMemFwdRefIdeal : Cert.MemFwdRefIdeal.Facts) (hAttnFwd : Cert.AttnFwd.Facts) (hAttnFwdIdeal : Cert.AttnFwdIdeal.Facts) (hAttnFwdRefIdeal : Cert.AttnFwdRefIdeal.Facts) (hOutEFwd : Cert.OutEFwd.Facts) (hOutEFwdIdeal : Cert.OutEFwdIdeal.Facts) (hOutEFwdRefIdeal : Cert.OutEFwdRefIdeal.Facts) (hOutOFwd : Cert.OutOFwd.Facts) (hOutOFwdIdeal : Cert.OutOFwdIdeal.Facts) (hOutOFwdRefIdeal : Cert.OutOFwdRefIdeal.Facts) (hInEFwd : Cert.InEFwd.Facts) (hInEFwdIdeal : Cert.InEFwdIdeal.Facts) (hInEFwdRefIdeal : Cert.InEFwdRefIdeal.Facts) (hInOFwd : Cert.InOFwd.Facts) (hInOFwdIdeal : Cert.InOFwdIdeal.Facts) (hInOFwdRefIdeal : Cert.InOFwdRefIdeal.Facts) (hMemRmsFwd : Cert.MemRmsFwd.Facts) (hMemRmsFwdIdeal : Cert.MemRmsFwdIdeal.Facts) (hMemRmsFwdRefIdeal : Cert.MemRmsFwdRefIdeal.Facts),
    quiescent_MemRms (hMemRms := hMemRms)
    ∧ quiescent_MemRmsIdeal (hMemRmsIdeal := hMemRmsIdeal)
    ∧ quiescent_MemRmsRefIdeal (hMemRmsRefIdeal := hMemRmsRefIdeal)
    ∧ quiescent_Loss (hLoss := hLoss)
    ∧ quiescent_LossIdeal (hLossIdeal := hLossIdeal)
    ∧ quiescent_LossRefIdeal (hLossRefIdeal := hLossRefIdeal)
    ∧ quiescent_InE (hInE := hInE)
    ∧ quiescent_InEIdeal (hInEIdeal := hInEIdeal)
    ∧ quiescent_InERefIdeal (hInERefIdeal := hInERefIdeal)
    ∧ quiescent_InO (hInO := hInO)
    ∧ quiescent_InOIdeal (hInOIdeal := hInOIdeal)
    ∧ quiescent_InORefIdeal (hInORefIdeal := hInORefIdeal)
    ∧ quiescent_OutE (hOutE := hOutE)
    ∧ quiescent_OutEIdeal (hOutEIdeal := hOutEIdeal)
    ∧ quiescent_OutERefIdeal (hOutERefIdeal := hOutERefIdeal)
    ∧ quiescent_OutO (hOutO := hOutO)
    ∧ quiescent_OutOIdeal (hOutOIdeal := hOutOIdeal)
    ∧ quiescent_OutORefIdeal (hOutORefIdeal := hOutORefIdeal)
    ∧ quiescent_MemAttn (hMemAttn := hMemAttn)
    ∧ quiescent_MemAttnIdeal (hMemAttnIdeal := hMemAttnIdeal)
    ∧ quiescent_MemAttnRefIdeal (hMemAttnRefIdeal := hMemAttnRefIdeal)
    ∧ quiescent_MemFwd (hMemFwd := hMemFwd)
    ∧ quiescent_MemFwdIdeal (hMemFwdIdeal := hMemFwdIdeal)
    ∧ quiescent_MemFwdRefIdeal (hMemFwdRefIdeal := hMemFwdRefIdeal)
    ∧ quiescent_AttnFwd (hAttnFwd := hAttnFwd)
    ∧ quiescent_AttnFwdIdeal (hAttnFwdIdeal := hAttnFwdIdeal)
    ∧ quiescent_AttnFwdRefIdeal (hAttnFwdRefIdeal := hAttnFwdRefIdeal)
    ∧ quiescent_OutEFwd (hOutEFwd := hOutEFwd)
    ∧ quiescent_OutEFwdIdeal (hOutEFwdIdeal := hOutEFwdIdeal)
    ∧ quiescent_OutEFwdRefIdeal (hOutEFwdRefIdeal := hOutEFwdRefIdeal)
    ∧ quiescent_OutOFwd (hOutOFwd := hOutOFwd)
    ∧ quiescent_OutOFwdIdeal (hOutOFwdIdeal := hOutOFwdIdeal)
    ∧ quiescent_OutOFwdRefIdeal (hOutOFwdRefIdeal := hOutOFwdRefIdeal)
    ∧ quiescent_InEFwd (hInEFwd := hInEFwd)
    ∧ quiescent_InEFwdIdeal (hInEFwdIdeal := hInEFwdIdeal)
    ∧ quiescent_InEFwdRefIdeal (hInEFwdRefIdeal := hInEFwdRefIdeal)
    ∧ quiescent_InOFwd (hInOFwd := hInOFwd)
    ∧ quiescent_InOFwdIdeal (hInOFwdIdeal := hInOFwdIdeal)
    ∧ quiescent_InOFwdRefIdeal (hInOFwdRefIdeal := hInOFwdRefIdeal)
    ∧ quiescent_MemRmsFwd (hMemRmsFwd := hMemRmsFwd)
    ∧ quiescent_MemRmsFwdIdeal (hMemRmsFwdIdeal := hMemRmsFwdIdeal)
    ∧ quiescent_MemRmsFwdRefIdeal (hMemRmsFwdRefIdeal := hMemRmsFwdRefIdeal)
    ∧ preserves_MemRms_MemRmsIdeal
    ∧ algebraic_MemRmsIdeal_MemRmsRefIdeal (hMemRmsIdeal := hMemRmsIdeal) (hMemRmsRefIdeal := hMemRmsRefIdeal)
    ∧ preserves_Loss_LossIdeal
    ∧ algebraic_LossIdeal_LossRefIdeal (hLossIdeal := hLossIdeal) (hLossRefIdeal := hLossRefIdeal)
    ∧ preserves_InE_InEIdeal
    ∧ algebraic_InEIdeal_InERefIdeal (hInEIdeal := hInEIdeal) (hInERefIdeal := hInERefIdeal)
    ∧ preserves_InO_InOIdeal
    ∧ algebraic_InOIdeal_InORefIdeal (hInOIdeal := hInOIdeal) (hInORefIdeal := hInORefIdeal)
    ∧ preserves_OutE_OutEIdeal
    ∧ algebraic_OutEIdeal_OutERefIdeal (hOutEIdeal := hOutEIdeal) (hOutERefIdeal := hOutERefIdeal)
    ∧ preserves_OutO_OutOIdeal
    ∧ algebraic_OutOIdeal_OutORefIdeal (hOutOIdeal := hOutOIdeal) (hOutORefIdeal := hOutORefIdeal)
    ∧ preserves_MemAttn_MemAttnIdeal
    ∧ algebraic_MemAttnIdeal_MemAttnRefIdeal (hMemAttnIdeal := hMemAttnIdeal) (hMemAttnRefIdeal := hMemAttnRefIdeal)
    ∧ preserves_MemFwd_MemFwdIdeal
    ∧ algebraic_MemFwdIdeal_MemFwdRefIdeal (hMemFwdIdeal := hMemFwdIdeal) (hMemFwdRefIdeal := hMemFwdRefIdeal)
    ∧ preserves_AttnFwd_AttnFwdIdeal
    ∧ algebraic_AttnFwdIdeal_AttnFwdRefIdeal (hAttnFwdIdeal := hAttnFwdIdeal) (hAttnFwdRefIdeal := hAttnFwdRefIdeal)
    ∧ preserves_OutEFwd_OutEFwdIdeal
    ∧ algebraic_OutEFwdIdeal_OutEFwdRefIdeal (hOutEFwdIdeal := hOutEFwdIdeal) (hOutEFwdRefIdeal := hOutEFwdRefIdeal)
    ∧ preserves_OutOFwd_OutOFwdIdeal
    ∧ algebraic_OutOFwdIdeal_OutOFwdRefIdeal (hOutOFwdIdeal := hOutOFwdIdeal) (hOutOFwdRefIdeal := hOutOFwdRefIdeal)
    ∧ preserves_InEFwd_InEFwdIdeal
    ∧ algebraic_InEFwdIdeal_InEFwdRefIdeal (hInEFwdIdeal := hInEFwdIdeal) (hInEFwdRefIdeal := hInEFwdRefIdeal)
    ∧ preserves_InOFwd_InOFwdIdeal
    ∧ algebraic_InOFwdIdeal_InOFwdRefIdeal (hInOFwdIdeal := hInOFwdIdeal) (hInOFwdRefIdeal := hInOFwdRefIdeal)
    ∧ preserves_MemRmsFwd_MemRmsFwdIdeal
    ∧ algebraic_MemRmsFwdIdeal_MemRmsFwdRefIdeal (hMemRmsFwdIdeal := hMemRmsFwdIdeal) (hMemRmsFwdRefIdeal := hMemRmsFwdRefIdeal)
-- ==== MemRms.lean ====
abbrev S256x1024 : Shape := ⟨2, ![256, 1024]⟩
abbrev S1024 : Shape := ⟨1, ![1024]⟩
abbrev S1x1024 : Shape := ⟨2, ![1, 1024]⟩
abbrev S256 : Shape := ⟨1, ![256]⟩
abbrev S256x1 : Shape := ⟨2, ![256, 1]⟩

abbrev nBuf : Space → Nat
  | .hbm => 5
  | .vmem => 4
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S256x1024, .f32⟩
  | .hbm, ⟨3, _⟩ => ⟨S1x1024, .f32⟩
  | .hbm, ⟨4, _⟩ => ⟨S1x1024, .f32⟩
  | .local _ .vmem, ⟨0, _⟩ => ⟨S256x1024, .f32⟩
  | .local _ .vmem, ⟨1, _⟩ => ⟨S1x1024, .f32⟩
  | .local _ .vmem, ⟨2, _⟩ => ⟨S256x1024, .f32⟩
  | .local _ .vmem, ⟨3, _⟩ => ⟨S1x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== MemRmsRefIdeal.lean ====
abbrev S256x1024 : Shape := ⟨2, ![256, 1024]⟩
abbrev S1024 : Shape := ⟨1, ![1024]⟩
abbrev S_ : Shape := ⟨0, ![]⟩
abbrev S256 : Shape := ⟨1, ![256]⟩
abbrev S256x1 : Shape := ⟨2, ![256, 1]⟩
abbrev S1x1024 : Shape := ⟨2, ![1, 1024]⟩

abbrev nBuf : Space → Nat
  | .hbm => 26
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S256, .f32⟩
  | .hbm, ⟨6, _⟩ => ⟨S256x1, .f32⟩
  | .hbm, ⟨7, _⟩ => ⟨S_, .f32⟩
  | .hbm, ⟨8, _⟩ => ⟨S256x1, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S256x1, .f32⟩
  | .hbm, ⟨14, _⟩ => ⟨S256x1024, .f32⟩
  | .hbm, ⟨15, _⟩ => ⟨S256x1024, .f32⟩
  | .hbm, ⟨16, _⟩ => ⟨S1x1024, .f32⟩
  | .hbm, ⟨17, _⟩ => ⟨S256x1024, .f32⟩
  | .hbm, ⟨18, _⟩ => ⟨S256x1024, .f32⟩
  | .hbm, ⟨19, _⟩ => ⟨S256x1024, .f32⟩
  | .hbm, ⟨20, _⟩ => ⟨S_, .f32⟩
  | .hbm, ⟨21, _⟩ => ⟨S1024, .f32⟩
  | .hbm, ⟨22, _⟩ => ⟨S1x1024, .f32⟩
  | .hbm, ⟨23, _⟩ => ⟨S_, .f32⟩
  | .hbm, ⟨24, _⟩ => ⟨S1024, .f32⟩
  | .hbm, ⟨25, _⟩ => ⟨S1x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]
-- ==== Loss.lean ====
abbrev S4096x1024 : Shape := ⟨2, ![4096, 1024]⟩
abbrev S1024 : Shape := ⟨1, ![1024]⟩
abbrev S1x1024 : Shape := ⟨2, ![1, 1024]⟩
abbrev S8x128 : Shape := ⟨2, ![8, 128]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩
abbrev S1x1x1 : Shape := ⟨3, ![1, 1, 1]⟩

abbrev nBuf : Space → Nat
  | .hbm => 7
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S1x1024, .f32⟩
  | .hbm, ⟨4, _⟩ => ⟨S8x128, .f32⟩
  | .hbm, ⟨5, _⟩ => ⟨S4096x1024, .f32⟩
  | .hbm, ⟨6, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S8x128, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== LossRefIdeal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S8x128 : Shape := ⟨2, ![8, 128]⟩

abbrev nBuf : Space → Nat
  | .hbm => 73
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096, .f32⟩
  | .hbm, ⟨30, _⟩ => ⟨S_, .f32⟩
  | .hbm, ⟨31, _⟩ => ⟨S4096, .f32⟩
  | .hbm, ⟨32, _⟩ => ⟨S4096, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S4096, .f32⟩
  | .hbm, ⟨41, _⟩ => ⟨S_, .f32⟩
  | .hbm, ⟨42, _⟩ => ⟨S4096, .f32⟩
  | .hbm, ⟨43, _⟩ => ⟨S4096, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S1024, .f32⟩
  | .hbm, ⟨54, _⟩ => ⟨S4096x1024, .f32⟩
  | .hbm, ⟨55, _⟩ => ⟨S_, .f32⟩
  | .hbm, ⟨56, _⟩ => ⟨S4096, .f32⟩
  | .hbm, ⟨57, _⟩ => ⟨S4096x1, .f32⟩
  | .hbm, ⟨58, _⟩ => ⟨S4096x1024, .f32⟩
  | .hbm, ⟨59, _⟩ => ⟨S4096x1024, .f32⟩
  | .hbm, ⟨60, _⟩ => ⟨S4096x1, .f32⟩
  | .hbm, ⟨61, _⟩ => ⟨S_, .f32⟩
  | .hbm, ⟨62, _⟩ => ⟨S4096x1, .f32⟩
  | .hbm, ⟨63, _⟩ => ⟨S4096x1, .f32⟩
  | .hbm, ⟨64, _⟩ => ⟨S_, .f32⟩
  | .hbm, ⟨65, _⟩ => ⟨S4096, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S8x128, .f32⟩
  | .hbm, ⟨72, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩

abbrev nD : Nat := 1
abbrev τ : Topo := Topo.v7x

variable {F : FTy → Type} [FloatOps F]
-- ==== InE.lean ====
abbrev S4096x1024 : Shape := ⟨2, ![4096, 1024]⟩
abbrev S1024 : Shape := ⟨1, ![1024]⟩
abbrev S1024x4864 : Shape := ⟨2, ![1024, 4864]⟩
abbrev S4096x512 : Shape := ⟨2, ![4096, 512]⟩
abbrev S4096x256 : Shape := ⟨2, ![4096, 256]⟩
abbrev S1024x512 : Shape := ⟨2, ![1024, 512]⟩
abbrev S1024x128 : Shape := ⟨2, ![1024, 128]⟩
abbrev S1x1024 : Shape := ⟨2, ![1, 1024]⟩
abbrev S4096x4864 : Shape := ⟨2, ![4096, 4864]⟩
abbrev S256x512 : Shape := ⟨2, ![256, 512]⟩
abbrev S256x256 : Shape := ⟨2, ![256, 256]⟩
abbrev S256x1024 : Shape := ⟨2, ![256, 1024]⟩
abbrev S256x4864 : Shape := ⟨2, ![256, 4864]⟩
abbrev S256 : Shape := ⟨1, ![256]⟩
abbrev S256x1 : Shape := ⟨2, ![256, 1]⟩

abbrev nBuf : Space → Nat
  | .hbm => 33
  | .vmem => 35
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x4864, .f32⟩
  | .hbm, ⟨3, _⟩ => ⟨S4096x512, .bf16⟩
  | .hbm, ⟨4, _⟩ => ⟨S4096x512, .bf16⟩
  | .hbm, ⟨5, _⟩ => ⟨S4096x512, .bf16⟩
  | .hbm, ⟨6, _⟩ => ⟨S4096x512, .bf16⟩
  | .hbm, ⟨7, _⟩ => ⟨S4096x512, .bf16⟩
  | .hbm, ⟨8, _⟩ => ⟨S4096x512, .bf16⟩
  | .hbm, ⟨9, _⟩ => ⟨S4096x512, .bf16⟩
  | .hbm, ⟨10, _⟩ => ⟨S4096x512, .bf16⟩
  | .hbm, ⟨11, _⟩ => ⟨S4096x512, .bf16⟩
  | .hbm, ⟨12, _⟩ => ⟨S4096x512, .bf16⟩
  | .hbm, ⟨13, _⟩ => ⟨S4096x512, .bf16⟩
  | .hbm, ⟨14, _⟩ => ⟨S4096x256, .f32⟩
  | .hbm, ⟨15, _⟩ => ⟨S4096x1024, .f32⟩
  | .hbm, ⟨16, _⟩ => ⟨S1024x4864, .bf16⟩
  | .hbm, ⟨17, _⟩ => ⟨S1024x512, .bf16⟩
  | .hbm, ⟨18, _⟩ => ⟨S1024x512, .bf16⟩
  | .hbm, ⟨19, _⟩ => ⟨S1024x512, .bf16⟩
  | .hbm, ⟨20, _⟩ => ⟨S1024x512, .bf16⟩
  | .hbm, ⟨21, _⟩ => ⟨S1024x512, .bf16⟩
  | .hbm, ⟨22, _⟩ => ⟨S1024x512, .bf16⟩
  | .hbm, ⟨23, _⟩ => ⟨S1024x512, .bf16⟩
  | .hbm, ⟨24, _⟩ => ⟨S1024x512, .bf16⟩
  | .hbm, ⟨25, _⟩ => ⟨S1024x512, .bf16⟩
  | .hbm, ⟨26, _⟩ => ⟨S1024x128, .bf16⟩
  | .hbm, ⟨27, _⟩ => ⟨S1024x128, .bf16⟩
  | .hbm, ⟨28, _⟩ => ⟨S1024x4864, .bf16⟩
  | .hbm, ⟨29, _⟩ => ⟨S1x1024, .f32⟩
  | .hbm, ⟨30, _⟩ => ⟨S4096x4864, .bf16⟩
  | .hbm, ⟨31, _⟩ => ⟨S4096x1024, .f32⟩
  | .hbm, ⟨32, _⟩ => ⟨S1x1024, .f32⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S256x512, .bf16⟩
  | .local _ .vmem, ⟨9, _⟩ => ⟨S256x512, .bf16⟩
  | .local _ .vmem, ⟨10, _⟩ => ⟨S256x512, .bf16⟩
  | .local _ .vmem, ⟨11, _⟩ => ⟨S256x512, .bf16⟩
  | .local _ .vmem, ⟨12, _⟩ => ⟨S256x512, .bf16⟩
  | .local _ .vmem, ⟨13, _⟩ => ⟨S256x512, .bf16⟩
  | .local _ .vmem, ⟨14, _⟩ => ⟨S256x512, .bf16⟩
  | .local _ .vmem, ⟨15, _⟩ => ⟨S256x512, .bf16⟩
  | .local _ .vmem, ⟨16, _⟩ => ⟨S256x512, .bf16⟩
  | .local _ .vmem, ⟨17, _⟩ => ⟨S256x512, .bf16⟩
  | .local _ .vmem, ⟨18, _⟩ => ⟨S256x512, .bf16⟩
  | .local _ .vmem, ⟨19, _⟩ => ⟨S256x512, .bf16⟩
  | .local _ .vmem, ⟨20, _⟩ => ⟨S256x512, .bf16⟩
  | .local _ .vmem, ⟨21, _⟩ => ⟨S256x512, .bf16⟩
  | .local _ .vmem, ⟨22, _⟩ => ⟨S256x256, .f32⟩
  | .local _ .vmem, ⟨23, _⟩ => ⟨S256x256, .f32⟩
  | .local _ .vmem, ⟨24, _⟩ => ⟨S1024x4864, .bf16⟩
  | .local _ .vmem, ⟨25, _⟩ => ⟨S256x1024, .f32⟩
  | .local _ .vmem, ⟨26, _⟩ => ⟨S256x1024, .f32⟩
  | .local _ .vmem, ⟨27, _⟩ => ⟨S1x1024, .f32⟩
  | .local _ .vmem, ⟨28, _⟩ => ⟨S256x1024, .f32⟩
  | .local _ .vmem, ⟨29, _⟩ => ⟨S256x1024, .f32⟩
  | .local _ .vmem, ⟨30, _⟩ => ⟨S256x4864, .bf16⟩
  | .local _ .vmem, ⟨31, _⟩ => ⟨S256x4864, .bf16⟩
  | .local _ .vmem, ⟨32, _⟩ => ⟨S256x1024, .f32⟩
  | .local _ .vmem, ⟨33, _⟩ => ⟨S256x1024, .f32⟩
  | .local _ .vmem, ⟨34, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14_0 : Ref sig .tc := ⟨.hbm, 30, rfl⟩
abbrev main_v14_1 : Ref sig .tc := ⟨.hbm, 31, rfl⟩
abbrev main_v14_2 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg16_1 : Ref sig .tc := ⟨.vmem, 31, rfl⟩
abbrev cc0_stg17_0 : Ref sig .tc := ⟨.vmem, 32, rfl⟩
abbrev cc0_stg17_1 : Ref sig .tc := ⟨.vmem, 33, rfl⟩
abbrev cc0_stg18_0 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem13_0 : DmaSem sig := 25
abbrev cc0_sem13_1 : DmaSem sig := 26
abbrev cc0_sem14_0 : DmaSem sig := 27
abbrev cc0_sem15_0 : DmaSem sig := 28
abbrev cc0_sem15_1 : DmaSem sig := 29
abbrev cc0_sem16_0 : DmaSem sig := 30
abbrev cc0_sem16_1 : DmaSem sig := 31
abbrev cc0_sem17_0 : DmaSem sig := 32
abbrev cc0_sem17_1 : DmaSem sig := 33
abbrev cc0_sem18_0 : DmaSem sig := 34

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1024x4864 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x4864 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]
-- ==== InERefIdeal.lean ====
abbrev S4096x1024 : Shape := ⟨2, ![4096, 1024]⟩
abbrev S1024 : Shape := ⟨1, ![1024]⟩
abbrev S1024x4864 : Shape := ⟨2, ![1024, 4864]⟩
abbrev S4096x512 : Shape := ⟨2, ![4096, 512]⟩
abbrev S4096x256 : Shape := ⟨2, ![4096, 256]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x4864 : Shape := ⟨2, ![4096, 4864]⟩
abbrev S4096x128 : Shape := ⟨2, ![4096, 128]⟩

abbrev nBuf : Space → Nat
  | .hbm => 106
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x4864, .f32⟩
  | .hbm, ⟨3, _⟩ => ⟨S4096x512, .bf16⟩
  | .hbm, ⟨4, _⟩ => ⟨S4096x512, .bf16⟩
  | .hbm, ⟨5, _⟩ => ⟨S4096x512, .bf16⟩
  | .hbm, ⟨6, _⟩ => ⟨S4096x512, .bf16⟩
  | .hbm, ⟨7, _⟩ => ⟨S4096x512, .bf16⟩
  | .hbm, ⟨8, _⟩ => ⟨S4096x512, .bf16⟩
  | .hbm, ⟨9, _⟩ => ⟨S4096x512, .bf16⟩
  | .hbm, ⟨10, _⟩ => ⟨S4096x512, .bf16⟩
  | .hbm, ⟨11, _⟩ => ⟨S4096x512, .bf16⟩
  | .hbm, ⟨12, _⟩ => ⟨S4096x512, .bf16⟩
  | .hbm, ⟨13, _⟩ => ⟨S4096x512, .bf16⟩
  | .hbm, ⟨14, _⟩ => ⟨S4096x256, .f32⟩
  | .hbm, ⟨15, _⟩ => ⟨S4096x1024, .f32⟩
  | .hbm, ⟨16, _⟩ => ⟨S4096x1024, .f32⟩
  | .hbm, ⟨17, _⟩ => ⟨S_, .f32⟩
  | .hbm, ⟨18, _⟩ => ⟨S4096, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x1, .f32⟩
  | .hbm, ⟨27, _⟩ => ⟨S4096x1, .f32⟩
  | .hbm, ⟨28, _⟩ => ⟨S_, .f32⟩
  | .hbm, ⟨29, _⟩ => ⟨S4096x1, .f32⟩
  | .hbm, ⟨30, _⟩ => ⟨S4096x1, .f32⟩
  | .hbm, ⟨31, _⟩ => ⟨S4096x1024, .f32⟩
  | .hbm, ⟨32, _⟩ => ⟨S4096x1024, .f32⟩
  | .hbm, ⟨33, _⟩ => ⟨S1x1024, .f32⟩
  | .hbm, ⟨34, _⟩ => ⟨S4096x1024, .f32⟩
  | .hbm, ⟨35, _⟩ => ⟨S4096x1024, .f32⟩
  | .hbm, ⟨36, _⟩ => ⟨S4096x4864, .f32⟩
  | .hbm, ⟨37, _⟩ => ⟨S4096x512, .f32⟩
  | .hbm, ⟨38, _⟩ => ⟨S4096x128, .f32⟩
  | .hbm, ⟨39, _⟩ => ⟨S4096x128, .f32⟩
  | .hbm, ⟨40, _⟩ => ⟨S4096x512, .f32⟩
  | .hbm, ⟨41, _⟩ => ⟨S4096x512, .f32⟩
  | .hbm, ⟨42, _⟩ => ⟨S4096x512, .f32⟩
  | .hbm, ⟨43, _⟩ => ⟨S4096x512, .f32⟩
  | .hbm, ⟨44, _⟩ => ⟨S4096x512, .f32⟩
  | .hbm, ⟨45, _⟩ => ⟨S4096x512, .f32⟩
  | .hbm, ⟨46, _⟩ => ⟨S4096x512, .f32⟩
  | .hbm, ⟨47, _⟩ => ⟨S4096x512, .f32⟩
  | .hbm, ⟨48, _⟩ => ⟨S4096x256, .f32⟩
  | .hbm, ⟨49, _⟩ => ⟨S4096x512, .f32⟩
  | .hbm, ⟨50, _⟩ => ⟨S4096x512, .f32⟩
  | .hbm, ⟨51, _⟩ => ⟨S4096x512, .f32⟩
  | .hbm, ⟨52, _⟩ => ⟨S4096x512, .f32⟩
  | .hbm, ⟨53, _⟩ => ⟨S4096x512, .f32⟩
  | .hbm, ⟨54, _⟩ => ⟨S4096x512, .f32⟩
  | .hbm, ⟨55, _⟩ => ⟨S4096x512, .f32⟩
  | .hbm, ⟨56, _⟩ => ⟨S4096x512, .f32⟩
  | .hbm, ⟨57, _⟩ => ⟨S4096x512, .f32⟩
  | .hbm, ⟨58, _⟩ => ⟨S4096x512, .f32⟩
  | .hbm, ⟨59, _⟩ => ⟨S4096x512, .f32⟩
  | .hbm, ⟨60, _⟩ => ⟨S4096x512, .f32⟩
  | .hbm, ⟨61, _⟩ => ⟨S4096x512, .f32⟩
  | .hbm, ⟨62, _⟩ => ⟨S4096x128, .f32⟩
  | .hbm, ⟨63, _⟩ => ⟨S4096x128, .f32⟩
  | .hbm, ⟨64, _⟩ => ⟨S4096x4864, .f32⟩
  | .hbm, ⟨65, _⟩ => ⟨S4096x1024, .f32⟩
  | .hbm, ⟨66, _⟩ => ⟨S4096x1024, .f32⟩
  | .hbm, ⟨67, _⟩ => ⟨S_, .f32⟩
  | .hbm, ⟨68, _⟩ => ⟨S1024, .f32⟩
  | .hbm, ⟨69, _⟩ => ⟨S1x1024, .f32⟩
  | .hbm, ⟨70, _⟩ => ⟨S4096x1024, .f32⟩
  | .hbm, ⟨71, _⟩ => ⟨S4096x1024, .f32⟩
  | .hbm, ⟨72, _⟩ => ⟨S_, .f32⟩
  | .hbm, ⟨73, _⟩ => ⟨S1024, .f32⟩
  | .hbm, ⟨74, _⟩ => ⟨S4096x1024, .f32⟩
  | .hbm, ⟨75, _⟩ => ⟨S_, .f32⟩
  | .hbm, ⟨76, _⟩ => ⟨S4096, .f32⟩
  | .hbm, ⟨77, _⟩ => ⟨S4096x1, .f32⟩
  | .hbm, ⟨78, _⟩ => ⟨S4096x1024, .f32⟩
  | .hbm, ⟨79, _⟩ => ⟨S4096x1024, .f32⟩
  | .hbm, ⟨80, _⟩ => ⟨S4096x1, .f32⟩
  | .hbm, ⟨81, _⟩ => ⟨S_, .f32⟩
  | .hbm, ⟨82, _⟩ => ⟨S4096x1, .f32⟩
  | .hbm, ⟨83, _⟩ => ⟨S4096x1, .f32⟩
  | .hbm, ⟨84, _⟩ => ⟨S_, .f32⟩
  | .hbm, ⟨85, _⟩ => ⟨S4096, .f32⟩
  | .hbm, ⟨86, _⟩ => ⟨S4096x1024, .f32⟩
  | .hbm, ⟨87, _⟩ => ⟨S4096x1024, .f32⟩
  | .hbm, ⟨88, _⟩ => ⟨S4096x1024, .f32⟩
  | .hbm, ⟨89, _⟩ => ⟨S4096x1024, .f32⟩
  | .hbm, ⟨90, _⟩ => ⟨S4096x1024, .f32⟩
  | .hbm, ⟨91, _⟩ => ⟨S4096x4864, .bf16⟩
  | .hbm, ⟨92, _⟩ => ⟨S4096x512, .bf16⟩
  | .hbm, ⟨93, _⟩ => ⟨S4096x128, .bf16⟩
  | .hbm, ⟨94, _⟩ => ⟨S4096x128, .bf16⟩
  | .hbm, ⟨95, _⟩ => ⟨S4096x512, .bf16⟩
  | .hbm, ⟨96, _⟩ => ⟨S4096x512, .bf16⟩
  | .hbm, ⟨97, _⟩ => ⟨S4096x512, .bf16⟩
  | .hbm, ⟨98, _⟩ => ⟨S4096x512, .bf16⟩
  | .hbm, ⟨99, _⟩ => ⟨S4096x512, .bf16⟩
  | .hbm, ⟨100, _⟩ => ⟨S4096x512, .bf16⟩
  | .hbm, ⟨101, _⟩ => ⟨S4096x512, .bf16⟩
  | .hbm, ⟨102, _⟩ => ⟨S4096x512, .bf16⟩
  | .hbm, ⟨103, _⟩ => ⟨S4096x4864, .bf16⟩
  | .hbm, ⟨104, _⟩ => ⟨S4096x1024, .f32⟩
  | .hbm, ⟨105, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_cst : Ref sig .tc := ⟨.hbm, 17, rfl⟩
abbrev main_v1 : Ref sig .tc := ⟨.hbm, 18, rfl⟩
abbrev main_v2 : Ref sig .tc := ⟨.hbm, 19, rfl⟩
abbrev main_cst_0 : Ref sig .tc := ⟨.hbm, 20, rfl⟩
abbrev main_v3 : Ref sig .tc := ⟨.hbm, 21, rfl⟩
abbrev main_v4 : Ref sig .tc := ⟨.hbm, 22, rfl⟩
abbrev main_cst_1 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_cst_2 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_3 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_4 : Ref sig .tc := ⟨.hbm, 72, rfl⟩
abbrev main_v51 : Ref sig .tc := ⟨.hbm, 73, rfl⟩
abbrev main_v52 : Ref sig .tc := ⟨.hbm, 74, rfl⟩
abbrev main_cst_5 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_6 : Ref sig .tc := ⟨.hbm, 81, rfl⟩
abbrev main_v58 : Ref sig .tc := ⟨.hbm, 82, rfl⟩
abbrev main_v59 : Ref sig .tc := ⟨.hbm, 83, rfl⟩
abbrev main_cst_7 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩

abbrev nD : Nat := 1
abbrev τ : Topo := Topo.v7x

variable {F : FTy → Type} [FloatOps F]
-- ==== InO.lean ====
abbrev S4096x1024 : Shape := ⟨2, ![4096, 1024]⟩
abbrev S1024 : Shape := ⟨1, ![1024]⟩
abbrev S1024x4128 : Shape := ⟨2, ![1024, 4128]⟩
abbrev S4096x512 : Shape := ⟨2, ![4096, 512]⟩
abbrev S4096x16 : Shape := ⟨2, ![4096, 16]⟩
abbrev S_ : Shape := ⟨0, ![]⟩
abbrev S4096x128 : Shape := ⟨2, ![4096, 128]⟩
abbrev S1024x512 : Shape := ⟨2, ![1024, 512]⟩
abbrev S1024x1024 : Shape := ⟨2, ![1024, 1024]⟩
abbrev S1024x32 : Shape := ⟨2, ![1024, 32]⟩
abbrev S1024x96 : Shape := ⟨2, ![1024, 96]⟩
abbrev S1024x4224 : Shape := ⟨2, ![1024, 4224]⟩
abbrev S1x1024 : Shape := ⟨2, ![1, 1024]⟩
abbrev S4096x4224 : Shape := ⟨2, ![4096, 4224]⟩
abbrev S256x512 : Shape := ⟨2, ![256, 512]⟩
abbrev S256x1024 : Shape := ⟨2, ![256, 1024]⟩
abbrev S256x128 : Shape := ⟨2, ![256, 128]⟩
abbrev S256x4224 : Shape := ⟨2, ![256, 4224]⟩
abbrev S256 : Shape := ⟨1, ![256]⟩
abbrev S256x1 : Shape := ⟨2, ![256, 1]⟩

abbrev nBuf : Space → Nat
  | .hbm => 36
  | .vmem => 33
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x4128, .f32⟩
  | .hbm, ⟨3, _⟩ => ⟨S4096x512, .bf16⟩
  | .hbm, ⟨4, _⟩ => ⟨S4096x512, .bf16⟩
  | .hbm, ⟨5, _⟩ => ⟨S4096x512, .bf16⟩
  | .hbm, ⟨6, _⟩ => ⟨S4096x512, .bf16⟩
  | .hbm, ⟨7, _⟩ => ⟨S4096x1024, .bf16⟩
  | .hbm, ⟨8, _⟩ => ⟨S4096x1024, .bf16⟩
  | .hbm, ⟨9, _⟩ => ⟨S4096x1024, .bf16⟩
  | .hbm, ⟨10, _⟩ => ⟨S4096x512, .bf16⟩
  | .hbm, ⟨11, _⟩ => ⟨S4096x512, .bf16⟩
  | .hbm, ⟨12, _⟩ => ⟨S4096x16, .bf16⟩
  | .hbm, ⟨13, _⟩ => ⟨S4096x16, .bf16⟩
  | .hbm, ⟨14, _⟩ => ⟨S4096x1024, .f32⟩
  | .hbm, ⟨15, _⟩ => ⟨S_, .i32⟩
  | .hbm, ⟨16, _⟩ => ⟨S_, .bf16⟩
  | .hbm, ⟨17, _⟩ => ⟨S4096x128, .bf16⟩
  | .hbm, ⟨18, _⟩ => ⟨S_, .i32⟩
  | .hbm, ⟨19, _⟩ => ⟨S_, .bf16⟩
  | .hbm, ⟨20, _⟩ => ⟨S4096x128, .bf16⟩
  | .hbm, ⟨21, _⟩ => ⟨S1024x4128, .bf16⟩
  | .hbm, ⟨22, _⟩ => ⟨S1024x512, .bf16⟩
  | .hbm, ⟨23, _⟩ => ⟨S1024x512, .bf16⟩
  | .hbm, ⟨24, _⟩ => ⟨S1024x1024, .bf16⟩
  | .hbm, ⟨25, _⟩ => ⟨S1024x1024, .bf16⟩
  | .hbm, ⟨26, _⟩ => ⟨S1024x512, .bf16⟩
  | .hbm, ⟨27, _⟩ => ⟨S1024x512, .bf16⟩
  | .hbm, ⟨28, _⟩ => ⟨S1024x32, .bf16⟩
  | .hbm, ⟨29, _⟩ => ⟨S_, .bf16⟩
  | .hbm, ⟨30, _⟩ => ⟨S1024x96, .bf16⟩
  | .hbm, ⟨31, _⟩ => ⟨S1024x4224, .bf16⟩
  | .hbm, ⟨32, _⟩ => ⟨S1x1024, .f32⟩
  | .hbm, ⟨33, _⟩ => ⟨S4096x4224, .bf16⟩
  | .hbm, ⟨34, _⟩ => ⟨S4096x1024, .f32⟩
  | .hbm, ⟨35, _⟩ => ⟨S1x1024, .f32⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S256x512, .bf16⟩
  | .local _ .vmem, ⟨15, _⟩ => ⟨S256x512, .bf16⟩
  | .local _ .vmem, ⟨16, _⟩ => ⟨S256x512, .bf16⟩
  | .local _ .vmem, ⟨17, _⟩ => ⟨S256x512, .bf16⟩
  | .local _ .vmem, ⟨18, _⟩ => ⟨S256x128, .bf16⟩
  | .local _ .vmem, ⟨19, _⟩ => ⟨S256x128, .bf16⟩
  | .local _ .vmem, ⟨20, _⟩ => ⟨S256x128, .bf16⟩
  | .local _ .vmem, ⟨21, _⟩ => ⟨S256x128, .bf16⟩
  | .local _ .vmem, ⟨22, _⟩ => ⟨S1024x4224, .bf16⟩
  | .local _ .vmem, ⟨23, _⟩ => ⟨S256x1024, .f32⟩
  | .local _ .vmem, ⟨24, _⟩ => ⟨S256x1024, .f32⟩
  | .local _ .vmem, ⟨25, _⟩ => ⟨S1x1024, .f32⟩
  | .local _ .vmem, ⟨26, _⟩ => ⟨S256x1024, .f32⟩
  | .local _ .vmem, ⟨27, _⟩ => ⟨S256x1024, .f32⟩
  | .local _ .vmem, ⟨28, _⟩ => ⟨S256x4224, .bf16⟩
  | .local _ .vmem, ⟨29, _⟩ => ⟨S256x4224, .bf16⟩
  | .local _ .vmem, ⟨30, _⟩ => ⟨S256x1024, .f32⟩
  | .local _ .vmem, ⟨31, _⟩ => ⟨S256x1024, .f32⟩
  | .local _ .vmem, ⟨32, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_c : Ref sig .tc := ⟨.hbm, 15, rfl⟩
abbrev main_call0_v0 : Ref sig .tc := ⟨.hbm, 16, rfl⟩
abbrev main_v0 : Ref sig .tc := ⟨.hbm, 17, rfl⟩
abbrev main_c_0 : Ref sig .tc := ⟨.hbm, 18, rfl⟩
abbrev main_call1_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_cst : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13_0 : Ref sig .tc := ⟨.hbm, 33, rfl⟩
abbrev main_v13_1 : Ref sig .tc := ⟨.hbm, 34, rfl⟩
abbrev main_v13_2 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg16_1 : Ref sig .tc := ⟨.vmem, 31, rfl⟩
abbrev cc0_stg17_0 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem12_0 : DmaSem sig := 23
abbrev cc0_sem12_1 : DmaSem sig := 24
abbrev cc0_sem13_0 : DmaSem sig := 25
abbrev cc0_sem14_0 : DmaSem sig := 26
abbrev cc0_sem14_1 : DmaSem sig := 27
abbrev cc0_sem15_0 : DmaSem sig := 28
abbrev cc0_sem15_1 : DmaSem sig := 29
abbrev cc0_sem16_0 : DmaSem sig := 30
abbrev cc0_sem16_1 : DmaSem sig := 31
abbrev cc0_sem17_0 : DmaSem sig := 32

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1024x4224 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x4224 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== InORefIdeal.lean ====
abbrev S4096x1024 : Shape := ⟨2, ![4096, 1024]⟩
abbrev S1024 : Shape := ⟨1, ![1024]⟩
abbrev S1024x4128 : Shape := ⟨2, ![1024, 4128]⟩
abbrev S4096x512 : Shape := ⟨2, ![4096, 512]⟩
abbrev S4096x16 : Shape := ⟨2, ![4096, 16]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x4128 : Shape := ⟨2, ![4096, 4128]⟩
abbrev S4096x96 : Shape := ⟨2, ![4096, 96]⟩
abbrev S4096x4224 : Shape := ⟨2, ![4096, 4224]⟩

abbrev nBuf : Space → Nat
  | .hbm => 99
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x4128, .f32⟩
  | .hbm, ⟨3, _⟩ => ⟨S4096x512, .bf16⟩
  | .hbm, ⟨4, _⟩ => ⟨S4096x512, .bf16⟩
  | .hbm, ⟨5, _⟩ => ⟨S4096x512, .bf16⟩
  | .hbm, ⟨6, _⟩ => ⟨S4096x512, .bf16⟩
  | .hbm, ⟨7, _⟩ => ⟨S4096x1024, .bf16⟩
  | .hbm, ⟨8, _⟩ => ⟨S4096x1024, .bf16⟩
  | .hbm, ⟨9, _⟩ => ⟨S4096x1024, .bf16⟩
  | .hbm, ⟨10, _⟩ => ⟨S4096x512, .bf16⟩
  | .hbm, ⟨11, _⟩ => ⟨S4096x512, .bf16⟩
  | .hbm, ⟨12, _⟩ => ⟨S4096x16, .bf16⟩
  | .hbm, ⟨13, _⟩ => ⟨S4096x16, .bf16⟩
  | .hbm, ⟨14, _⟩ => ⟨S4096x1024, .f32⟩
  | .hbm, ⟨15, _⟩ => ⟨S4096x1024, .f32⟩
  | .hbm, ⟨16, _⟩ => ⟨S_, .f32⟩
  | .hbm, ⟨17, _⟩ => ⟨S4096, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x1, .f32⟩
  | .hbm, ⟨26, _⟩ => ⟨S4096x1, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S4096x1024, .f32⟩
  | .hbm, ⟨31, _⟩ => ⟨S4096x1024, .f32⟩
  | .hbm, ⟨32, _⟩ => ⟨S1x1024, .f32⟩
  | .hbm, ⟨33, _⟩ => ⟨S4096x1024, .f32⟩
  | .hbm, ⟨34, _⟩ => ⟨S4096x1024, .f32⟩
  | .hbm, ⟨35, _⟩ => ⟨S4096x4128, .f32⟩
  | .hbm, ⟨36, _⟩ => ⟨S4096x512, .f32⟩
  | .hbm, ⟨37, _⟩ => ⟨S4096x512, .f32⟩
  | .hbm, ⟨38, _⟩ => ⟨S4096x1024, .f32⟩
  | .hbm, ⟨39, _⟩ => ⟨S4096x1024, .f32⟩
  | .hbm, ⟨40, _⟩ => ⟨S4096x16, .f32⟩
  | .hbm, ⟨41, _⟩ => ⟨S4096x16, .f32⟩
  | .hbm, ⟨42, _⟩ => ⟨S4096x512, .f32⟩
  | .hbm, ⟨43, _⟩ => ⟨S4096x512, .f32⟩
  | .hbm, ⟨44, _⟩ => ⟨S4096x512, .f32⟩
  | .hbm, ⟨45, _⟩ => ⟨S4096x512, .f32⟩
  | .hbm, ⟨46, _⟩ => ⟨S4096x512, .f32⟩
  | .hbm, ⟨47, _⟩ => ⟨S4096x512, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x512, .f32⟩
  | .hbm, ⟨52, _⟩ => ⟨S4096x512, .f32⟩
  | .hbm, ⟨53, _⟩ => ⟨S4096x16, .f32⟩
  | .hbm, ⟨54, _⟩ => ⟨S4096x16, .f32⟩
  | .hbm, ⟨55, _⟩ => ⟨S4096x512, .f32⟩
  | .hbm, ⟨56, _⟩ => ⟨S4096x512, .f32⟩
  | .hbm, ⟨57, _⟩ => ⟨S4096x1024, .f32⟩
  | .hbm, ⟨58, _⟩ => ⟨S4096x4128, .f32⟩
  | .hbm, ⟨59, _⟩ => ⟨S4096x1024, .f32⟩
  | .hbm, ⟨60, _⟩ => ⟨S4096x1024, .f32⟩
  | .hbm, ⟨61, _⟩ => ⟨S_, .f32⟩
  | .hbm, ⟨62, _⟩ => ⟨S1024, .f32⟩
  | .hbm, ⟨63, _⟩ => ⟨S1x1024, .f32⟩
  | .hbm, ⟨64, _⟩ => ⟨S4096x1024, .f32⟩
  | .hbm, ⟨65, _⟩ => ⟨S4096x1024, .f32⟩
  | .hbm, ⟨66, _⟩ => ⟨S_, .f32⟩
  | .hbm, ⟨67, _⟩ => ⟨S1024, .f32⟩
  | .hbm, ⟨68, _⟩ => ⟨S4096x1024, .f32⟩
  | .hbm, ⟨69, _⟩ => ⟨S_, .f32⟩
  | .hbm, ⟨70, _⟩ => ⟨S4096, .f32⟩
  | .hbm, ⟨71, _⟩ => ⟨S4096x1, .f32⟩
  | .hbm, ⟨72, _⟩ => ⟨S4096x1024, .f32⟩
  | .hbm, ⟨73, _⟩ => ⟨S4096x1024, .f32⟩
  | .hbm, ⟨74, _⟩ => ⟨S4096x1, .f32⟩
  | .hbm, ⟨75, _⟩ => ⟨S_, .f32⟩
  | .hbm, ⟨76, _⟩ => ⟨S4096x1, .f32⟩
  | .hbm, ⟨77, _⟩ => ⟨S4096x1, .f32⟩
  | .hbm, ⟨78, _⟩ => ⟨S_, .f32⟩
  | .hbm, ⟨79, _⟩ => ⟨S4096, .f32⟩
  | .hbm, ⟨80, _⟩ => ⟨S4096x1024, .f32⟩
  | .hbm, ⟨81, _⟩ => ⟨S4096x1024, .f32⟩
  | .hbm, ⟨82, _⟩ => ⟨S4096x1024, .f32⟩
  | .hbm, ⟨83, _⟩ => ⟨S4096x1024, .f32⟩
  | .hbm, ⟨84, _⟩ => ⟨S4096x1024, .f32⟩
  | .hbm, ⟨85, _⟩ => ⟨S4096x512, .f32⟩
  | .hbm, ⟨86, _⟩ => ⟨S4096x512, .f32⟩
  | .hbm, ⟨87, _⟩ => ⟨S4096x1024, .f32⟩
  | .hbm, ⟨88, _⟩ => ⟨S4096x1024, .f32⟩
  | .hbm, ⟨89, _⟩ => ⟨S4096x16, .f32⟩
  | .hbm, ⟨90, _⟩ => ⟨S4096x16, .f32⟩
  | .hbm, ⟨91, _⟩ => ⟨S4096x512, .f32⟩
  | .hbm, ⟨92, _⟩ => ⟨S4096x512, .f32⟩
  | .hbm, ⟨93, _⟩ => ⟨S_, .f32⟩
  | .hbm, ⟨94, _⟩ => ⟨S4096x96, .f32⟩
  | .hbm, ⟨95, _⟩ => ⟨S4096x4224, .f32⟩
  | .hbm, ⟨96, _⟩ => ⟨S4096x4224, .bf16⟩
  | .hbm, ⟨97, _⟩ => ⟨S4096x1024, .f32⟩
  | .hbm, ⟨98, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_cst : Ref sig .tc := ⟨.hbm, 16, rfl⟩
abbrev main_v1 : Ref sig .tc := ⟨.hbm, 17, rfl⟩
abbrev main_v2 : Ref sig .tc := ⟨.hbm, 18, rfl⟩
abbrev main_cst_0 : Ref sig .tc := ⟨.hbm, 19, rfl⟩
abbrev main_v3 : Ref sig .tc := ⟨.hbm, 20, rfl⟩
abbrev main_v4 : Ref sig .tc := ⟨.hbm, 21, rfl⟩
abbrev main_cst_1 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_cst_2 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_3 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_4 : Ref sig .tc := ⟨.hbm, 66, rfl⟩
abbrev main_v46 : Ref sig .tc := ⟨.hbm, 67, rfl⟩
abbrev main_v47 : Ref sig .tc := ⟨.hbm, 68, rfl⟩
abbrev main_cst_5 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_6 : Ref sig .tc := ⟨.hbm, 75, rfl⟩
abbrev main_v53 : Ref sig .tc := ⟨.hbm, 76, rfl⟩
abbrev main_v54 : Ref sig .tc := ⟨.hbm, 77, rfl⟩
abbrev main_cst_7 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_cst_8 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩

abbrev nD : Nat := 1
abbrev τ : Topo := Topo.v7x

variable {F : FTy → Type} [FloatOps F]
-- ==== OutE.lean ====
abbrev S4096x512 : Shape := ⟨2, ![4096, 512]⟩
abbrev S4096x4864 : Shape := ⟨2, ![4096, 4864]⟩
abbrev S512 : Shape := ⟨1, ![512]⟩
abbrev S1536x1024 : Shape := ⟨2, ![1536, 1024]⟩
abbrev S4096x1024 : Shape := ⟨2, ![4096, 1024]⟩
abbrev S4096x128 : Shape := ⟨2, ![4096, 128]⟩
abbrev S1x512 : Shape := ⟨2, ![1, 512]⟩
abbrev S512x512 : Shape := ⟨2, ![512, 512]⟩
abbrev S512x1024 : Shape := ⟨2, ![512, 1024]⟩
abbrev S512x128 : Shape := ⟨2, ![512, 128]⟩
abbrev S1x128 : Shape := ⟨2, ![1, 128]⟩
abbrev S512x1 : Shape := ⟨2, ![512, 1]⟩
abbrev S512x1536 : Shape := ⟨2, ![512, 1536]⟩
abbrev S128 : Shape := ⟨1, ![128]⟩

abbrev nBuf : Space → Nat
  | .hbm => 30
  | .vmem => 32
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S4096x512, .f32⟩
  | .hbm, ⟨4, _⟩ => ⟨S4096x4864, .f32⟩
  | .hbm, ⟨5, _⟩ => ⟨S512, .f32⟩
  | .hbm, ⟨6, _⟩ => ⟨S1536x1024, .f32⟩
  | .hbm, ⟨7, _⟩ => ⟨S4096x1024, .f32⟩
  | .hbm, ⟨8, _⟩ => ⟨S4096x512, .f32⟩
  | .hbm, ⟨9, _⟩ => ⟨S4096x512, .f32⟩
  | .hbm, ⟨10, _⟩ => ⟨S4096x512, .f32⟩
  | .hbm, ⟨11, _⟩ => ⟨S4096x512, .f32⟩
  | .hbm, ⟨12, _⟩ => ⟨S4096x512, .f32⟩
  | .hbm, ⟨13, _⟩ => ⟨S4096x512, .f32⟩
  | .hbm, ⟨14, _⟩ => ⟨S4096x512, .f32⟩
  | .hbm, ⟨15, _⟩ => ⟨S4096x512, .f32⟩
  | .hbm, ⟨16, _⟩ => ⟨S4096x512, .f32⟩
  | .hbm, ⟨17, _⟩ => ⟨S4096x128, .f32⟩
  | .hbm, ⟨18, _⟩ => ⟨S4096x128, .f32⟩
  | .hbm, ⟨19, _⟩ => ⟨S4096x4864, .f32⟩
  | .hbm, ⟨20, _⟩ => ⟨S1x512, .f32⟩
  | .hbm, ⟨21, _⟩ => ⟨S1536x1024, .bf16⟩
  | .hbm, ⟨22, _⟩ => ⟨S4096x512, .f32⟩
  | .hbm, ⟨23, _⟩ => ⟨S4096x512, .f32⟩
  | .hbm, ⟨24, _⟩ => ⟨S4096x512, .f32⟩
  | .hbm, ⟨25, _⟩ => ⟨S4096x512, .bf16⟩
  | .hbm, ⟨26, _⟩ => ⟨S4096x512, .bf16⟩
  | .hbm, ⟨27, _⟩ => ⟨S4096x512, .bf16⟩
  | .hbm, ⟨28, _⟩ => ⟨S1x512, .f32⟩
  | .hbm, ⟨29, _⟩ => ⟨S1536x1024, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S1x512, .f32⟩
  | .local _ .vmem, ⟨15, _⟩ => ⟨S1536x1024, .bf16⟩
  | .local _ .vmem, ⟨16, _⟩ => ⟨S512x1024, .f32⟩
  | .local _ .vmem, ⟨17, _⟩ => ⟨S512x1024, .f32⟩
  | .local _ .vmem, ⟨18, _⟩ => ⟨S512x512, .f32⟩
  | .local _ .vmem, ⟨19, _⟩ => ⟨S512x512, .f32⟩
  | .local _ .vmem, ⟨20, _⟩ => ⟨S512x512, .f32⟩
  | .local _ .vmem, ⟨21, _⟩ => ⟨S512x512, .f32⟩
  | .local _ .vmem, ⟨22, _⟩ => ⟨S512x512, .f32⟩
  | .local _ .vmem, ⟨23, _⟩ => ⟨S512x512, .f32⟩
  | .local _ .vmem, ⟨24, _⟩ => ⟨S512x512, .bf16⟩
  | .local _ .vmem, ⟨25, _⟩ => ⟨S512x512, .bf16⟩
  | .local _ .vmem, ⟨26, _⟩ => ⟨S512x512, .bf16⟩
  | .local _ .vmem, ⟨27, _⟩ => ⟨S512x512, .bf16⟩
  | .local _ .vmem, ⟨28, _⟩ => ⟨S512x512, .bf16⟩
  | .local _ .vmem, ⟨29, _⟩ => ⟨S512x512, .bf16⟩
  | .local _ .vmem, ⟨30, _⟩ => ⟨S1x512, .f32⟩
  | .local _ .vmem, ⟨31, _⟩ => ⟨S1536x1024, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14_0 : Ref sig .tc := ⟨.hbm, 22, rfl⟩
abbrev main_v14_1 : Ref sig .tc := ⟨.hbm, 23, rfl⟩
abbrev main_v14_2 : Ref sig .tc := ⟨.hbm, 24, rfl⟩
abbrev main_v14_3 : Ref sig .tc := ⟨.hbm, 25, rfl⟩
abbrev main_v14_4 : Ref sig .tc := ⟨.hbm, 26, rfl⟩
abbrev main_v14_5 : Ref sig .tc := ⟨.hbm, 27, rfl⟩
abbrev main_v14_6 : Ref sig .tc := ⟨.hbm, 28, rfl⟩
abbrev main_v14_7 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg17_0 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29
abbrev cc0_sem16_0 : DmaSem sig := 30
abbrev cc0_sem17_0 : DmaSem sig := 31

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_5 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_6 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1536x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S1x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1536x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== OutERefIdeal.lean ====
abbrev S4096x512 : Shape := ⟨2, ![4096, 512]⟩
abbrev S4096x4864 : Shape := ⟨2, ![4096, 4864]⟩
abbrev S512 : Shape := ⟨1, ![512]⟩
abbrev S1536x1024 : Shape := ⟨2, ![1536, 1024]⟩
abbrev S4096x1024 : Shape := ⟨2, ![4096, 1024]⟩
abbrev S4096x128 : Shape := ⟨2, ![4096, 128]⟩
abbrev S_ : Shape := ⟨0, ![]⟩
abbrev S1x4096x512 : Shape := ⟨3, ![1, 4096, 512]⟩
abbrev S1x4096x4x128 : Shape := ⟨4, ![1, 4096, 4, 128]⟩
abbrev S4x128 : Shape := ⟨2, ![4, 128]⟩
abbrev S1x4096x4 : Shape := ⟨3, ![1, 4096, 4]⟩
abbrev S1x4096x4x1 : Shape := ⟨4, ![1, 4096, 4, 1]⟩
abbrev S1x1x4x128 : Shape := ⟨4, ![1, 1, 4, 128]⟩
abbrev S4096x1536 : Shape := ⟨2, ![4096, 1536]⟩
abbrev S1024x1536 : Shape := ⟨2, ![1024, 1536]⟩
abbrev S1x4x128 : Shape := ⟨3, ![1, 4, 128]⟩
abbrev S4096x4 : Shape := ⟨2, ![4096, 4]⟩
abbrev S1x512 : Shape := ⟨2, ![1, 512]⟩

abbrev nBuf : Space → Nat
  | .hbm => 149
  | .vmem => 0
  | .smem => 0
  | _ => 0

abbrev hbmTy0_0 (i : Nat) : BufTy := match i % 128 with
  | 0 => ⟨S4096x512, .f32⟩
  | 1 => ⟨S4096x512, .f32⟩
  | 2 => ⟨S4096x512, .f32⟩
  | 3 => ⟨S4096x512, .f32⟩
  | 4 => ⟨S4096x4864, .f32⟩
  | 5 => ⟨S512, .f32⟩
  | 6 => ⟨S1536x1024, .f32⟩
  | 7 => ⟨S4096x1024, .f32⟩
  | 8 => ⟨S4096x512, .f32⟩
  | 9 => ⟨S4096x128, .f32⟩
  | 10 => ⟨S4096x128, .f32⟩
  | 11 => ⟨S4096x512, .f32⟩
  | 12 => ⟨S4096x512, .f32⟩
  | 13 => ⟨S4096x512, .f32⟩
  | 14 => ⟨S4096x512, .f32⟩
  | 15 => ⟨S4096x512, .f32⟩
  | 16 => ⟨S4096x512, .f32⟩
  | 17 => ⟨S4096x512, .f32⟩
  | 18 => ⟨S4096x512, .f32⟩
  | 19 => ⟨S4096x512, .f32⟩
  | 20 => ⟨S4096x512, .f32⟩
  | 21 => ⟨S4096x512, .f32⟩
  | 22 => ⟨S_, .f32⟩
  | 23 => ⟨S4096x512, .f32⟩
  | 24 => ⟨S4096x512, .f32⟩
  | 25 => ⟨S_, .f32⟩
  | 26 => ⟨S4096x512, .f32⟩
  | 27 => ⟨S4096x512, .f32⟩
  | 28 => ⟨S_, .f32⟩
  | 29 => ⟨S4096x512, .f32⟩
  | 30 => ⟨S4096x512, .f32⟩
  | 31 => ⟨S4096x512, .f32⟩
  | 32 => ⟨S4096x512, .f32⟩
  | 33 => ⟨S4096x512, .f32⟩
  | 34 => ⟨S1x4096x512, .f32⟩
  | 35 => ⟨S1x4096x4x128, .f32⟩
  | 36 => ⟨S4x128, .f32⟩
  | 37 => ⟨S1x4096x4x128, .f32⟩
  | 38 => ⟨S_, .f32⟩
  | 39 => ⟨S1x4096x4, .f32⟩
  | 40 => ⟨S1x4096x4x1, .f32⟩
  | 41 => ⟨S_, .f32⟩
  | 42 => ⟨S1x4096x4x1, .f32⟩
  | 43 => ⟨S1x4096x4x1, .f32⟩
  | 44 => ⟨S_, .f32⟩
  | 45 => ⟨S1x4096x4x1, .f32⟩
  | 46 => ⟨S1x4096x4x1, .f32⟩
  | 47 => ⟨S1x4096x4x1, .f32⟩
  | 48 => ⟨S1x4096x4x1, .f32⟩
  | 49 => ⟨S_, .f32⟩
  | 50 => ⟨S1x4096x4x1, .f32⟩
  | 51 => ⟨S1x4096x4x1, .f32⟩
  | 52 => ⟨S1x4096x4x128, .f32⟩
  | 53 => ⟨S1x4096x4x128, .f32⟩
  | 54 => ⟨S1x1x4x128, .f32⟩
  | 55 => ⟨S1x4096x4x128, .f32⟩
  | 56 => ⟨S1x4096x4x128, .f32⟩
  | 57 => ⟨S1x4096x512, .f32⟩
  | 58 => ⟨S4096x512, .f32⟩
  | 59 => ⟨S4096x512, .f32⟩
  | 60 => ⟨S4096x512, .f32⟩
  | 61 => ⟨S_, .f32⟩
  | 62 => ⟨S4096x512, .f32⟩
  | 63 => ⟨S4096x512, .f32⟩
  | 64 => ⟨S_, .f32⟩
  | 65 => ⟨S4096x512, .f32⟩
  | 66 => ⟨S4096x512, .f32⟩
  | 67 => ⟨S_, .f32⟩
  | 68 => ⟨S4096x512, .f32⟩
  | 69 => ⟨S4096x512, .f32⟩
  | 70 => ⟨S4096x512, .f32⟩
  | 71 => ⟨S4096x512, .f32⟩
  | 72 => ⟨S4096x512, .f32⟩
  | 73 => ⟨S4096x512, .f32⟩
  | 74 => ⟨S4096x512, .f32⟩
  | 75 => ⟨S_, .f32⟩
  | 76 => ⟨S4096x512, .f32⟩
  | 77 => ⟨S4096x512, .f32⟩
  | 78 => ⟨S_, .f32⟩
  | 79 => ⟨S4096x512, .f32⟩
  | 80 => ⟨S4096x512, .f32⟩
  | 81 => ⟨S_, .f32⟩
  | 82 => ⟨S4096x512, .f32⟩
  | 83 => ⟨S4096x512, .f32⟩
  | 84 => ⟨S4096x512, .f32⟩
  | 85 => ⟨S4096x512, .f32⟩
  | 86 => ⟨S4096x512, .f32⟩
  | 87 => ⟨S4096x1536, .f32⟩
  | 88 => ⟨S4096x1024, .f32⟩
  | 89 => ⟨S1024x1536, .f32⟩
  | 90 => ⟨S1536x1024, .f32⟩
  | 91 => ⟨S4096x1536, .f32⟩
  | 92 => ⟨S4096x512, .f32⟩
  | 93 => ⟨S4096x512, .f32⟩
  | 94 => ⟨S4096x512, .f32⟩
  | 95 => ⟨S4096x512, .f32⟩
  | 96 => ⟨S4096x512, .f32⟩
  | 97 => ⟨S4096x512, .f32⟩
  | 98 => ⟨S4096x512, .f32⟩
  | 99 => ⟨S4096x512, .f32⟩
  | 100 => ⟨S4096x512, .f32⟩
  | 101 => ⟨S4096x512, .f32⟩
  | 102 => ⟨S4096x512, .f32⟩
  | 103 => ⟨S4096x512, .f32⟩
  | 104 => ⟨S4096x512, .f32⟩
  | 105 => ⟨S4096x512, .f32⟩
  | 106 => ⟨S4096x512, .f32⟩
  | 107 => ⟨S1x4096x512, .f32⟩
  | 108 => ⟨S1x4096x4x128, .f32⟩
  | 109 => ⟨S1x4096x4x128, .f32⟩
  | 110 => ⟨S_, .f32⟩
  | 111 => ⟨S1x4x128, .f32⟩
  | 112 => ⟨S1x1x4x128, .f32⟩
  | 113 => ⟨S1x4096x4x128, .f32⟩
  | 114 => ⟨S1x4096x4x128, .f32⟩
  | 115 => ⟨S_, .f32⟩
  | 116 => ⟨S4x128, .f32⟩
  | 117 => ⟨S1x4096x4x128, .f32⟩
  | 118 => ⟨S_, .f32⟩
  | 119 => ⟨S1x4096x4, .f32⟩
  | 120 => ⟨S1x4096x4x1, .f32⟩
  | 121 => ⟨S1x4096x4x128, .f32⟩
  | 122 => ⟨S1x4096x4x128, .f32⟩
  | 123 => ⟨S1x4096x4x1, .f32⟩
  | 124 => ⟨S_, .f32⟩
  | 125 => ⟨S1x4096x4x1, .f32⟩
  | 126 => ⟨S1x4096x4x1, .f32⟩
  | 127 => ⟨S_, .f32⟩
  | _ => ⟨S4096x512, .f32⟩

abbrev hbmTy0_1 (i : Nat) : BufTy := match i % 128 with
  | 0 => ⟨S4096x4, .f32⟩
  | 1 => ⟨S1x4096x4, .f32⟩
  | 2 => ⟨S1x4096x4x128, .f32⟩
  | 3 => ⟨S1x4096x4x128, .f32⟩
  | 4 => ⟨S1x4096x4x128, .f32⟩
  | 5 => ⟨S1x4096x4x128, .f32⟩
  | 6 => ⟨S1x4096x4x128, .f32⟩
  | 7 => ⟨S512, .f32⟩
  | 8 => ⟨S1x4096x512, .f32⟩
  | 9 => ⟨S_, .f32⟩
  | 10 => ⟨S4096x512, .f32⟩
  | 11 => ⟨S4096x512, .f32⟩
  | 12 => ⟨S4096x512, .f32⟩
  | 13 => ⟨S4096x512, .f32⟩
  | 14 => ⟨S4096x512, .f32⟩
  | 15 => ⟨S4096x512, .f32⟩
  | 16 => ⟨S4096x512, .f32⟩
  | 17 => ⟨S4096x512, .bf16⟩
  | 18 => ⟨S4096x512, .bf16⟩
  | 19 => ⟨S4096x512, .bf16⟩
  | 20 => ⟨S1x512, .f32⟩
  | _ => ⟨S4096x512, .f32⟩

abbrev hbmTy (i : Nat) : BufTy := match i / 128 with
  | 0 => hbmTy0_0 i
  | 1 => hbmTy0_1 i
  | _ => ⟨S4096x512, .f32⟩

abbrev bufTy : (tb : Table) → Fin (tcTables nBuf tb) → BufTy
  | .hbm, ⟨i, _⟩ => hbmTy i
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_call0_v0 : Ref sig .tc := ⟨.hbm, 20, rfl⟩
abbrev main_call0_v1 : Ref sig .tc := ⟨.hbm, 21, rfl⟩
abbrev main_call0_cst : Ref sig .tc := ⟨.hbm, 22, rfl⟩
abbrev main_call0_v2 : Ref sig .tc := ⟨.hbm, 23, rfl⟩
abbrev main_call0_v3 : Ref sig .tc := ⟨.hbm, 24, rfl⟩
abbrev main_call0_cst_0 : Ref sig .tc := ⟨.hbm, 25, rfl⟩
abbrev main_call0_v4 : Ref sig .tc := ⟨.hbm, 26, rfl⟩
abbrev main_v12_2 : Ref sig .tc := ⟨.hbm, 27, rfl⟩
abbrev main_call0_cst_1 : Ref sig .tc := ⟨.hbm, 28, rfl⟩
abbrev main_call0_v6 : Ref sig .tc := ⟨.hbm, 29, rfl⟩
abbrev main_call0_v7 : Ref sig .tc := ⟨.hbm, 30, rfl⟩
abbrev main_v12_1 : Ref sig .tc := ⟨.hbm, 31, rfl⟩
abbrev main_v12_0 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_cst : Ref sig .tc := ⟨.hbm, 38, rfl⟩
abbrev main_v18 : Ref sig .tc := ⟨.hbm, 39, rfl⟩
abbrev main_v19 : Ref sig .tc := ⟨.hbm, 40, rfl⟩
abbrev main_cst_0 : Ref sig .tc := ⟨.hbm, 41, rfl⟩
abbrev main_v20 : Ref sig .tc := ⟨.hbm, 42, rfl⟩
abbrev main_v21 : Ref sig .tc := ⟨.hbm, 43, rfl⟩
abbrev main_cst_1 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_cst_2 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_call1_v0 : Ref sig .tc := ⟨.hbm, 59, rfl⟩
abbrev main_call1_v1 : Ref sig .tc := ⟨.hbm, 60, rfl⟩
abbrev main_call1_cst : Ref sig .tc := ⟨.hbm, 61, rfl⟩
abbrev main_call1_v2 : Ref sig .tc := ⟨.hbm, 62, rfl⟩
abbrev main_call1_v3 : Ref sig .tc := ⟨.hbm, 63, rfl⟩
abbrev main_call1_cst_0 : Ref sig .tc := ⟨.hbm, 64, rfl⟩
abbrev main_call1_v4 : Ref sig .tc := ⟨.hbm, 65, rfl⟩
abbrev main_v35_2 : Ref sig .tc := ⟨.hbm, 66, rfl⟩
abbrev main_call1_cst_1 : Ref sig .tc := ⟨.hbm, 67, rfl⟩
abbrev main_call1_v6 : Ref sig .tc := ⟨.hbm, 68, rfl⟩
abbrev main_call1_v7 : Ref sig .tc := ⟨.hbm, 69, rfl⟩
abbrev main_v35_1 : Ref sig .tc := ⟨.hbm, 70, rfl⟩
abbrev main_v35_0 : Ref sig .tc := ⟨.hbm, 71, rfl⟩
abbrev main_v36 : Ref sig .tc := ⟨.hbm, 72, rfl⟩
abbrev main_call2_v0 : Ref sig .tc := ⟨.hbm, 73, rfl⟩
abbrev main_call2_v1 : Ref sig .tc := ⟨.hbm, 74, rfl⟩
abbrev main_call2_cst : Ref sig .tc := ⟨.hbm, 75, rfl⟩
abbrev main_call2_v2 : Ref sig .tc := ⟨.hbm, 76, rfl⟩
abbrev main_call2_v3 : Ref sig .tc := ⟨.hbm, 77, rfl⟩
abbrev main_call2_cst_0 : Ref sig .tc := ⟨.hbm, 78, rfl⟩
abbrev main_call2_v4 : Ref sig .tc := ⟨.hbm, 79, rfl⟩
abbrev main_v37_2 : Ref sig .tc := ⟨.hbm, 80, rfl⟩
abbrev main_call2_cst_1 : Ref sig .tc := ⟨.hbm, 81, rfl⟩
abbrev main_call2_v6 : Ref sig .tc := ⟨.hbm, 82, rfl⟩
abbrev main_call2_v7 : Ref sig .tc := ⟨.hbm, 83, rfl⟩
abbrev main_v37_1 : Ref sig .tc := ⟨.hbm, 84, rfl⟩
abbrev main_v37_0 : Ref sig .tc := ⟨.hbm, 85, rfl⟩
abbrev main_v38 : Ref sig .tc := ⟨.hbm, 86, rfl⟩
abbrev main_v39 : Ref sig .tc := ⟨.hbm, 87, rfl⟩
abbrev main_v40 : Ref sig .tc := ⟨.hbm, 88, rfl⟩
abbrev main_v41 : Ref sig .tc := ⟨.hbm, 89, rfl⟩
abbrev main_v42 : Ref sig .tc := ⟨.hbm, 90, rfl⟩
abbrev main_v43 : Ref sig .tc := ⟨.hbm, 91, rfl⟩
abbrev main_v44 : Ref sig .tc := ⟨.hbm, 92, rfl⟩
abbrev main_v45 : Ref sig .tc := ⟨.hbm, 93, rfl⟩
abbrev main_v46 : Ref sig .tc := ⟨.hbm, 94, rfl⟩
abbrev main_v47 : Ref sig .tc := ⟨.hbm, 95, rfl⟩
abbrev main_v48 : Ref sig .tc := ⟨.hbm, 96, rfl⟩
abbrev main_call3_v0 : Ref sig .tc := ⟨.hbm, 97, rfl⟩
abbrev main_call3_v1 : Ref sig .tc := ⟨.hbm, 98, rfl⟩
abbrev main_call3_v2 : Ref sig .tc := ⟨.hbm, 99, rfl⟩
abbrev main_v49 : Ref sig .tc := ⟨.hbm, 100, rfl⟩
abbrev main_v50 : Ref sig .tc := ⟨.hbm, 101, rfl⟩
abbrev main_v51 : Ref sig .tc := ⟨.hbm, 102, rfl⟩
abbrev main_call4_v0 : Ref sig .tc := ⟨.hbm, 103, rfl⟩
abbrev main_call4_v1 : Ref sig .tc := ⟨.hbm, 104, rfl⟩
abbrev main_call4_v2 : Ref sig .tc := ⟨.hbm, 105, rfl⟩
abbrev main_v52 : Ref sig .tc := ⟨.hbm, 106, rfl⟩
abbrev main_v53 : Ref sig .tc := ⟨.hbm, 107, rfl⟩
abbrev main_v54 : Ref sig .tc := ⟨.hbm, 108, rfl⟩
abbrev main_v55 : Ref sig .tc := ⟨.hbm, 109, rfl⟩
abbrev main_cst_3 : Ref sig .tc := ⟨.hbm, 110, rfl⟩
abbrev main_v56 : Ref sig .tc := ⟨.hbm, 111, rfl⟩
abbrev main_v57 : Ref sig .tc := ⟨.hbm, 112, rfl⟩
abbrev main_v58 : Ref sig .tc := ⟨.hbm, 113, rfl⟩
abbrev main_v59 : Ref sig .tc := ⟨.hbm, 114, rfl⟩
abbrev main_cst_4 : Ref sig .tc := ⟨.hbm, 115, rfl⟩
abbrev main_v60 : Ref sig .tc := ⟨.hbm, 116, rfl⟩
abbrev main_v61 : Ref sig .tc := ⟨.hbm, 117, rfl⟩
abbrev main_cst_5 : Ref sig .tc := ⟨.hbm, 118, rfl⟩
abbrev main_v62 : Ref sig .tc := ⟨.hbm, 119, rfl⟩
abbrev main_v63 : Ref sig .tc := ⟨.hbm, 120, rfl⟩
abbrev main_v64 : Ref sig .tc := ⟨.hbm, 121, rfl⟩
abbrev main_v65 : Ref sig .tc := ⟨.hbm, 122, rfl⟩
abbrev main_v66 : Ref sig .tc := ⟨.hbm, 123, rfl⟩
abbrev main_cst_6 : Ref sig .tc := ⟨.hbm, 124, rfl⟩
abbrev main_v67 : Ref sig .tc := ⟨.hbm, 125, rfl⟩
abbrev main_v68 : Ref sig .tc := ⟨.hbm, 126, rfl⟩
abbrev main_cst_7 : Ref sig .tc := ⟨.hbm, 127, rfl⟩
abbrev main_v69 : Ref sig .tc := ⟨.hbm, 128, rfl⟩
abbrev main_v70 : Ref sig .tc := ⟨.hbm, 129, rfl⟩
abbrev main_v71 : Ref sig .tc := ⟨.hbm, 130, rfl⟩
abbrev main_v72 : Ref sig .tc := ⟨.hbm, 131, rfl⟩
abbrev main_v73 : Ref sig .tc := ⟨.hbm, 132, rfl⟩
abbrev main_v74 : Ref sig .tc := ⟨.hbm, 133, rfl⟩
abbrev main_v75 : Ref sig .tc := ⟨.hbm, 134, rfl⟩
abbrev main_v76 : Ref sig .tc := ⟨.hbm, 135, rfl⟩
abbrev main_v77 : Ref sig .tc := ⟨.hbm, 136, rfl⟩
abbrev main_cst_8 : Ref sig .tc := ⟨.hbm, 137, rfl⟩
abbrev main_v78 : Ref sig .tc := ⟨.hbm, 138, rfl⟩
abbrev main_v79 : Ref sig .tc := ⟨.hbm, 139, rfl⟩
abbrev main_v80 : Ref sig .tc := ⟨.hbm, 140, rfl⟩
abbrev main_call5_v0 : Ref sig .tc := ⟨.hbm, 141, rfl⟩
abbrev main_call5_v1 : Ref sig .tc := ⟨.hbm, 142, rfl⟩
abbrev main_call5_v2 : Ref sig .tc := ⟨.hbm, 143, rfl⟩
abbrev main_v81 : Ref sig .tc := ⟨.hbm, 144, rfl⟩
abbrev main_v82 : Ref sig .tc := ⟨.hbm, 145, rfl⟩
abbrev main_v83 : Ref sig .tc := ⟨.hbm, 146, rfl⟩
abbrev main_v84 : Ref sig .tc := ⟨.hbm, 147, rfl⟩
abbrev main_v85 : Ref sig .tc := ⟨.hbm, 148, rfl⟩

abbrev nD : Nat := 1
abbrev τ : Topo := Topo.v7x

variable {F : FTy → Type} [FloatOps F]
-- ==== OutO.lean ====
abbrev S4096x1024 : Shape := ⟨2, ![4096, 1024]⟩
abbrev S4096x512 : Shape := ⟨2, ![4096, 512]⟩
abbrev S4096x4128 : Shape := ⟨2, ![4096, 4128]⟩
abbrev S1024 : Shape := ⟨1, ![1024]⟩
abbrev S1536x1024 : Shape := ⟨2, ![1536, 1024]⟩
abbrev S4096x32 : Shape := ⟨2, ![4096, 32]⟩
abbrev S_ : Shape := ⟨0, ![]⟩
abbrev S4096x96 : Shape := ⟨2, ![4096, 96]⟩
abbrev S4096x4224 : Shape := ⟨2, ![4096, 4224]⟩
abbrev S1x1024 : Shape := ⟨2, ![1, 1024]⟩
abbrev S512x1024 : Shape := ⟨2, ![512, 1024]⟩
abbrev S512x512 : Shape := ⟨2, ![512, 512]⟩
abbrev S512x256 : Shape := ⟨2, ![512, 256]⟩
abbrev S1x256 : Shape := ⟨2, ![1, 256]⟩
abbrev S512 : Shape := ⟨1, ![512]⟩
abbrev S512x1 : Shape := ⟨2, ![512, 1]⟩
abbrev S512x1536 : Shape := ⟨2, ![512, 1536]⟩
abbrev S256 : Shape := ⟨1, ![256]⟩

abbrev nBuf : Space → Nat
  | .hbm => 25
  | .vmem => 24
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x512, .f32⟩
  | .hbm, ⟨3, _⟩ => ⟨S4096x4128, .f32⟩
  | .hbm, ⟨4, _⟩ => ⟨S1024, .f32⟩
  | .hbm, ⟨5, _⟩ => ⟨S1536x1024, .f32⟩
  | .hbm, ⟨6, _⟩ => ⟨S4096x1024, .f32⟩
  | .hbm, ⟨7, _⟩ => ⟨S4096x512, .f32⟩
  | .hbm, ⟨8, _⟩ => ⟨S4096x512, .f32⟩
  | .hbm, ⟨9, _⟩ => ⟨S4096x1024, .f32⟩
  | .hbm, ⟨10, _⟩ => ⟨S4096x1024, .f32⟩
  | .hbm, ⟨11, _⟩ => ⟨S4096x512, .f32⟩
  | .hbm, ⟨12, _⟩ => ⟨S4096x512, .f32⟩
  | .hbm, ⟨13, _⟩ => ⟨S4096x32, .f32⟩
  | .hbm, ⟨14, _⟩ => ⟨S_, .f32⟩
  | .hbm, ⟨15, _⟩ => ⟨S4096x96, .f32⟩
  | .hbm, ⟨16, _⟩ => ⟨S4096x4224, .f32⟩
  | .hbm, ⟨17, _⟩ => ⟨S1x1024, .f32⟩
  | .hbm, ⟨18, _⟩ => ⟨S1536x1024, .bf16⟩
  | .hbm, ⟨19, _⟩ => ⟨S4096x1024, .f32⟩
  | .hbm, ⟨20, _⟩ => ⟨S4096x512, .f32⟩
  | .hbm, ⟨21, _⟩ => ⟨S4096x1024, .bf16⟩
  | .hbm, ⟨22, _⟩ => ⟨S4096x512, .bf16⟩
  | .hbm, ⟨23, _⟩ => ⟨S1x1024, .f32⟩
  | .hbm, ⟨24, _⟩ => ⟨S1536x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x512, .f32⟩
  | .local _ .vmem, ⟨5, _⟩ => ⟨S512x512, .f32⟩
  | .local _ .vmem, ⟨6, _⟩ => ⟨S512x1024, .f32⟩
  | .local _ .vmem, ⟨7, _⟩ => ⟨S512x1024, .f32⟩
  | .local _ .vmem, ⟨8, _⟩ => ⟨S512x512, .f32⟩
  | .local _ .vmem, ⟨9, _⟩ => ⟨S512x512, .f32⟩
  | .local _ .vmem, ⟨10, _⟩ => ⟨S1x1024, .f32⟩
  | .local _ .vmem, ⟨11, _⟩ => ⟨S1536x1024, .bf16⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x512, .f32⟩
  | .local _ .vmem, ⟨17, _⟩ => ⟨S512x512, .f32⟩
  | .local _ .vmem, ⟨18, _⟩ => ⟨S512x1024, .bf16⟩
  | .local _ .vmem, ⟨19, _⟩ => ⟨S512x1024, .bf16⟩
  | .local _ .vmem, ⟨20, _⟩ => ⟨S512x512, .bf16⟩
  | .local _ .vmem, ⟨21, _⟩ => ⟨S512x512, .bf16⟩
  | .local _ .vmem, ⟨22, _⟩ => ⟨S1x1024, .f32⟩
  | .local _ .vmem, ⟨23, _⟩ => ⟨S1536x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11_0 : Ref sig .tc := ⟨.hbm, 19, rfl⟩
abbrev main_v11_1 : Ref sig .tc := ⟨.hbm, 20, rfl⟩
abbrev main_v11_2 : Ref sig .tc := ⟨.hbm, 21, rfl⟩
abbrev main_v11_3 : Ref sig .tc := ⟨.hbm, 22, rfl⟩
abbrev main_v11_4 : Ref sig .tc := ⟨.hbm, 23, rfl⟩
abbrev main_v11_5 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg13_0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem13_0 : DmaSem sig := 23

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_4 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1536x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1536x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== OutORefIdeal.lean ====
abbrev S4096x1024 : Shape := ⟨2, ![4096, 1024]⟩
abbrev S4096x512 : Shape := ⟨2, ![4096, 512]⟩
abbrev S4096x4128 : Shape := ⟨2, ![4096, 4128]⟩
abbrev S1024 : Shape := ⟨1, ![1024]⟩
abbrev S1536x1024 : Shape := ⟨2, ![1536, 1024]⟩
abbrev S4096x16 : Shape := ⟨2, ![4096, 16]⟩
abbrev S1x4096x1024 : Shape := ⟨3, ![1, 4096, 1024]⟩
abbrev S1x4096x4x256 : Shape := ⟨4, ![1, 4096, 4, 256]⟩
abbrev S4x256 : Shape := ⟨2, ![4, 256]⟩
abbrev S_ : Shape := ⟨0, ![]⟩
abbrev S1x4096x4 : Shape := ⟨3, ![1, 4096, 4]⟩
abbrev S1x4096x4x1 : Shape := ⟨4, ![1, 4096, 4, 1]⟩
abbrev S1x1x4x256 : Shape := ⟨4, ![1, 1, 4, 256]⟩
abbrev S4096x1536 : Shape := ⟨2, ![4096, 1536]⟩
abbrev S1024x1536 : Shape := ⟨2, ![1024, 1536]⟩
abbrev S1x4x256 : Shape := ⟨3, ![1, 4, 256]⟩
abbrev S4096x4 : Shape := ⟨2, ![4096, 4]⟩
abbrev S1x1024 : Shape := ⟨2, ![1, 1024]⟩

abbrev nBuf : Space → Nat
  | .hbm => 123
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x512, .f32⟩
  | .hbm, ⟨3, _⟩ => ⟨S4096x4128, .f32⟩
  | .hbm, ⟨4, _⟩ => ⟨S1024, .f32⟩
  | .hbm, ⟨5, _⟩ => ⟨S1536x1024, .f32⟩
  | .hbm, ⟨6, _⟩ => ⟨S4096x1024, .f32⟩
  | .hbm, ⟨7, _⟩ => ⟨S4096x512, .f32⟩
  | .hbm, ⟨8, _⟩ => ⟨S4096x512, .f32⟩
  | .hbm, ⟨9, _⟩ => ⟨S4096x1024, .f32⟩
  | .hbm, ⟨10, _⟩ => ⟨S4096x1024, .f32⟩
  | .hbm, ⟨11, _⟩ => ⟨S4096x16, .f32⟩
  | .hbm, ⟨12, _⟩ => ⟨S4096x16, .f32⟩
  | .hbm, ⟨13, _⟩ => ⟨S4096x512, .f32⟩
  | .hbm, ⟨14, _⟩ => ⟨S4096x512, .f32⟩
  | .hbm, ⟨15, _⟩ => ⟨S4096x1024, .f32⟩
  | .hbm, ⟨16, _⟩ => ⟨S1x4096x1024, .f32⟩
  | .hbm, ⟨17, _⟩ => ⟨S1x4096x4x256, .f32⟩
  | .hbm, ⟨18, _⟩ => ⟨S4x256, .f32⟩
  | .hbm, ⟨19, _⟩ => ⟨S1x4096x4x256, .f32⟩
  | .hbm, ⟨20, _⟩ => ⟨S_, .f32⟩
  | .hbm, ⟨21, _⟩ => ⟨S1x4096x4, .f32⟩
  | .hbm, ⟨22, _⟩ => ⟨S1x4096x4x1, .f32⟩
  | .hbm, ⟨23, _⟩ => ⟨S_, .f32⟩
  | .hbm, ⟨24, _⟩ => ⟨S1x4096x4x1, .f32⟩
  | .hbm, ⟨25, _⟩ => ⟨S1x4096x4x1, .f32⟩
  | .hbm, ⟨26, _⟩ => ⟨S_, .f32⟩
  | .hbm, ⟨27, _⟩ => ⟨S1x4096x4x1, .f32⟩
  | .hbm, ⟨28, _⟩ => ⟨S1x4096x4x1, .f32⟩
  | .hbm, ⟨29, _⟩ => ⟨S1x4096x4x1, .f32⟩
  | .hbm, ⟨30, _⟩ => ⟨S1x4096x4x1, .f32⟩
  | .hbm, ⟨31, _⟩ => ⟨S_, .f32⟩
  | .hbm, ⟨32, _⟩ => ⟨S1x4096x4x1, .f32⟩
  | .hbm, ⟨33, _⟩ => ⟨S1x4096x4x1, .f32⟩
  | .hbm, ⟨34, _⟩ => ⟨S1x4096x4x256, .f32⟩
  | .hbm, ⟨35, _⟩ => ⟨S1x4096x4x256, .f32⟩
  | .hbm, ⟨36, _⟩ => ⟨S1x1x4x256, .f32⟩
  | .hbm, ⟨37, _⟩ => ⟨S1x4096x4x256, .f32⟩
  | .hbm, ⟨38, _⟩ => ⟨S1x4096x4x256, .f32⟩
  | .hbm, ⟨39, _⟩ => ⟨S1x4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S_, .f32⟩
  | .hbm, ⟨44, _⟩ => ⟨S4096x1024, .f32⟩
  | .hbm, ⟨45, _⟩ => ⟨S4096x1024, .f32⟩
  | .hbm, ⟨46, _⟩ => ⟨S_, .f32⟩
  | .hbm, ⟨47, _⟩ => ⟨S4096x1024, .f32⟩
  | .hbm, ⟨48, _⟩ => ⟨S4096x1024, .f32⟩
  | .hbm, ⟨49, _⟩ => ⟨S_, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x512, .f32⟩
  | .hbm, ⟨56, _⟩ => ⟨S4096x512, .f32⟩
  | .hbm, ⟨57, _⟩ => ⟨S_, .f32⟩
  | .hbm, ⟨58, _⟩ => ⟨S4096x512, .f32⟩
  | .hbm, ⟨59, _⟩ => ⟨S4096x512, .f32⟩
  | .hbm, ⟨60, _⟩ => ⟨S_, .f32⟩
  | .hbm, ⟨61, _⟩ => ⟨S4096x512, .f32⟩
  | .hbm, ⟨62, _⟩ => ⟨S4096x512, .f32⟩
  | .hbm, ⟨63, _⟩ => ⟨S_, .f32⟩
  | .hbm, ⟨64, _⟩ => ⟨S4096x512, .f32⟩
  | .hbm, ⟨65, _⟩ => ⟨S4096x512, .f32⟩
  | .hbm, ⟨66, _⟩ => ⟨S4096x512, .f32⟩
  | .hbm, ⟨67, _⟩ => ⟨S4096x512, .f32⟩
  | .hbm, ⟨68, _⟩ => ⟨S4096x512, .f32⟩
  | .hbm, ⟨69, _⟩ => ⟨S4096x1536, .f32⟩
  | .hbm, ⟨70, _⟩ => ⟨S4096x1024, .f32⟩
  | .hbm, ⟨71, _⟩ => ⟨S1024x1536, .f32⟩
  | .hbm, ⟨72, _⟩ => ⟨S1536x1024, .f32⟩
  | .hbm, ⟨73, _⟩ => ⟨S4096x1536, .f32⟩
  | .hbm, ⟨74, _⟩ => ⟨S4096x1024, .f32⟩
  | .hbm, ⟨75, _⟩ => ⟨S4096x512, .f32⟩
  | .hbm, ⟨76, _⟩ => ⟨S4096x512, .f32⟩
  | .hbm, ⟨77, _⟩ => ⟨S4096x512, .f32⟩
  | .hbm, ⟨78, _⟩ => ⟨S4096x512, .f32⟩
  | .hbm, ⟨79, _⟩ => ⟨S4096x512, .f32⟩
  | .hbm, ⟨80, _⟩ => ⟨S4096x512, .f32⟩
  | .hbm, ⟨81, _⟩ => ⟨S4096x512, .f32⟩
  | .hbm, ⟨82, _⟩ => ⟨S4096x1024, .f32⟩
  | .hbm, ⟨83, _⟩ => ⟨S4096x1024, .f32⟩
  | .hbm, ⟨84, _⟩ => ⟨S4096x1024, .f32⟩
  | .hbm, ⟨85, _⟩ => ⟨S4096x1024, .f32⟩
  | .hbm, ⟨86, _⟩ => ⟨S4096x1024, .f32⟩
  | .hbm, ⟨87, _⟩ => ⟨S4096x1024, .f32⟩
  | .hbm, ⟨88, _⟩ => ⟨S1x4096x1024, .f32⟩
  | .hbm, ⟨89, _⟩ => ⟨S1x4096x4x256, .f32⟩
  | .hbm, ⟨90, _⟩ => ⟨S1x4096x4x256, .f32⟩
  | .hbm, ⟨91, _⟩ => ⟨S_, .f32⟩
  | .hbm, ⟨92, _⟩ => ⟨S1x4x256, .f32⟩
  | .hbm, ⟨93, _⟩ => ⟨S1x1x4x256, .f32⟩
  | .hbm, ⟨94, _⟩ => ⟨S1x4096x4x256, .f32⟩
  | .hbm, ⟨95, _⟩ => ⟨S1x4096x4x256, .f32⟩
  | .hbm, ⟨96, _⟩ => ⟨S_, .f32⟩
  | .hbm, ⟨97, _⟩ => ⟨S4x256, .f32⟩
  | .hbm, ⟨98, _⟩ => ⟨S1x4096x4x256, .f32⟩
  | .hbm, ⟨99, _⟩ => ⟨S_, .f32⟩
  | .hbm, ⟨100, _⟩ => ⟨S1x4096x4, .f32⟩
  | .hbm, ⟨101, _⟩ => ⟨S1x4096x4x1, .f32⟩
  | .hbm, ⟨102, _⟩ => ⟨S1x4096x4x256, .f32⟩
  | .hbm, ⟨103, _⟩ => ⟨S1x4096x4x256, .f32⟩
  | .hbm, ⟨104, _⟩ => ⟨S1x4096x4x1, .f32⟩
  | .hbm, ⟨105, _⟩ => ⟨S_, .f32⟩
  | .hbm, ⟨106, _⟩ => ⟨S1x4096x4x1, .f32⟩
  | .hbm, ⟨107, _⟩ => ⟨S1x4096x4x1, .f32⟩
  | .hbm, ⟨108, _⟩ => ⟨S_, .f32⟩
  | .hbm, ⟨109, _⟩ => ⟨S4096x4, .f32⟩
  | .hbm, ⟨110, _⟩ => ⟨S1x4096x4, .f32⟩
  | .hbm, ⟨111, _⟩ => ⟨S1x4096x4x256, .f32⟩
  | .hbm, ⟨112, _⟩ => ⟨S1x4096x4x256, .f32⟩
  | .hbm, ⟨113, _⟩ => ⟨S1x4096x4x256, .f32⟩
  | .hbm, ⟨114, _⟩ => ⟨S1x4096x4x256, .f32⟩
  | .hbm, ⟨115, _⟩ => ⟨S1x4096x4x256, .f32⟩
  | .hbm, ⟨116, _⟩ => ⟨S1024, .f32⟩
  | .hbm, ⟨117, _⟩ => ⟨S1x4096x1024, .f32⟩
  | .hbm, ⟨118, _⟩ => ⟨S_, .f32⟩
  | .hbm, ⟨119, _⟩ => ⟨S4096x1024, .f32⟩
  | .hbm, ⟨120, _⟩ => ⟨S4096x1024, .bf16⟩
  | .hbm, ⟨121, _⟩ => ⟨S4096x512, .bf16⟩
  | .hbm, ⟨122, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_call0_v0 : Ref sig .tc := ⟨.hbm, 41, rfl⟩
abbrev main_call0_v1 : Ref sig .tc := ⟨.hbm, 42, rfl⟩
abbrev main_call0_cst : Ref sig .tc := ⟨.hbm, 43, rfl⟩
abbrev main_call0_v2 : Ref sig .tc := ⟨.hbm, 44, rfl⟩
abbrev main_call0_v3 : Ref sig .tc := ⟨.hbm, 45, rfl⟩
abbrev main_call0_cst_0 : Ref sig .tc := ⟨.hbm, 46, rfl⟩
abbrev main_call0_v4 : Ref sig .tc := ⟨.hbm, 47, rfl⟩
abbrev main_v30_2 : Ref sig .tc := ⟨.hbm, 48, rfl⟩
abbrev main_call0_cst_1 : Ref sig .tc := ⟨.hbm, 49, rfl⟩
abbrev main_call0_v6 : Ref sig .tc := ⟨.hbm, 50, rfl⟩
abbrev main_call0_v7 : Ref sig .tc := ⟨.hbm, 51, rfl⟩
abbrev main_v30_1 : Ref sig .tc := ⟨.hbm, 52, rfl⟩
abbrev main_v30_0 : Ref sig .tc := ⟨.hbm, 53, rfl⟩
abbrev main_v31 : Ref sig .tc := ⟨.hbm, 54, rfl⟩
abbrev main_call1_v0 : Ref sig .tc := ⟨.hbm, 55, rfl⟩
abbrev main_call1_v1 : Ref sig .tc := ⟨.hbm, 56, rfl⟩
abbrev main_call1_cst : Ref sig .tc := ⟨.hbm, 57, rfl⟩
abbrev main_call1_v2 : Ref sig .tc := ⟨.hbm, 58, rfl⟩
abbrev main_call1_v3 : Ref sig .tc := ⟨.hbm, 59, rfl⟩
abbrev main_call1_cst_0 : Ref sig .tc := ⟨.hbm, 60, rfl⟩
abbrev main_call1_v4 : Ref sig .tc := ⟨.hbm, 61, rfl⟩
abbrev main_v32_2 : Ref sig .tc := ⟨.hbm, 62, rfl⟩
abbrev main_call1_cst_1 : Ref sig .tc := ⟨.hbm, 63, rfl⟩
abbrev main_call1_v6 : Ref sig .tc := ⟨.hbm, 64, rfl⟩
abbrev main_call1_v7 : Ref sig .tc := ⟨.hbm, 65, rfl⟩
abbrev main_v32_1 : Ref sig .tc := ⟨.hbm, 66, rfl⟩
abbrev main_v32_0 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_call2_v0 : Ref sig .tc := ⟨.hbm, 78, rfl⟩
abbrev main_call2_v1 : Ref sig .tc := ⟨.hbm, 79, rfl⟩
abbrev main_call2_v2 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_call3_v0 : Ref sig .tc := ⟨.hbm, 84, rfl⟩
abbrev main_call3_v1 : Ref sig .tc := ⟨.hbm, 85, rfl⟩
abbrev main_call3_v2 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_cst_3 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_cst_4 : Ref sig .tc := ⟨.hbm, 96, rfl⟩
abbrev main_v54 : Ref sig .tc := ⟨.hbm, 97, rfl⟩
abbrev main_v55 : Ref sig .tc := ⟨.hbm, 98, rfl⟩
abbrev main_cst_5 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_cst_6 : Ref sig .tc := ⟨.hbm, 105, rfl⟩
abbrev main_v61 : Ref sig .tc := ⟨.hbm, 106, rfl⟩
abbrev main_v62 : Ref sig .tc := ⟨.hbm, 107, rfl⟩
abbrev main_cst_7 : Ref sig .tc := ⟨.hbm, 108, rfl⟩
abbrev main_v63 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_cst_8 : Ref sig .tc := ⟨.hbm, 118, rfl⟩
abbrev main_v72 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩

abbrev nD : Nat := 1
abbrev τ : Topo := Topo.v7x

variable {F : FTy → Type} [FloatOps F]
-- ==== MemAttn.lean ====
abbrev S4096x4864 : Shape := ⟨2, ![4096, 4864]⟩
abbrev S256x1024 : Shape := ⟨2, ![256, 1024]⟩
abbrev S4096x512 : Shape := ⟨2, ![4096, 512]⟩
abbrev S4096x128 : Shape := ⟨2, ![4096, 128]⟩
abbrev S1024x512 : Shape := ⟨2, ![1024, 512]⟩
abbrev S1024x128 : Shape := ⟨2, ![1024, 128]⟩
abbrev S256x128 : Shape := ⟨2, ![256, 128]⟩
abbrev S1024x256 : Shape := ⟨2, ![1024, 256]⟩
abbrev S1024 : Shape := ⟨1, ![1024]⟩
abbrev S1024x1 : Shape := ⟨2, ![1024, 1]⟩

abbrev nBuf : Space → Nat
  | .hbm => 17
  | .vmem => 8
  | .smem => 0
  | _ => 0

abbrev bufTy : (tb : Table) → Fin (tcTables nBuf tb) → BufTy
  | .hbm, ⟨0, _⟩ => ⟨S4096x4864, .f32⟩
  | .hbm, ⟨1, _⟩ => ⟨S256x1024, .f32⟩
  | .hbm, ⟨2, _⟩ => ⟨S4096x512, .f32⟩
  | .hbm, ⟨3, _⟩ => ⟨S4096x512, .f32⟩
  | .hbm, ⟨4, _⟩ => ⟨S4096x512, .f32⟩
  | .hbm, ⟨5, _⟩ => ⟨S4096x512, .f32⟩
  | .hbm, ⟨6, _⟩ => ⟨S4096x512, .f32⟩
  | .hbm, ⟨7, _⟩ => ⟨S4096x512, .f32⟩
  | .hbm, ⟨8, _⟩ => ⟨S4096x512, .f32⟩
  | .hbm, ⟨9, _⟩ => ⟨S4096x512, .f32⟩
  | .hbm, ⟨10, _⟩ => ⟨S4096x512, .f32⟩
  | .hbm, ⟨11, _⟩ => ⟨S4096x512, .f32⟩
  | .hbm, ⟨12, _⟩ => ⟨S4096x128, .f32⟩
  | .hbm, ⟨13, _⟩ => ⟨S4096x128, .f32⟩
  | .hbm, ⟨14, _⟩ => ⟨S4096x4864, .f32⟩
  | .hbm, ⟨15, _⟩ => ⟨S4096x512, .bf16⟩
  | .hbm, ⟨16, _⟩ => ⟨S256x1024, .f32⟩
  | .local _ .vmem, ⟨0, _⟩ => ⟨S1024x512, .f32⟩
  | .local _ .vmem, ⟨1, _⟩ => ⟨S1024x512, .f32⟩
  | .local _ .vmem, ⟨2, _⟩ => ⟨S256x1024, .f32⟩
  | .local _ .vmem, ⟨3, _⟩ => ⟨S1024x512, .f32⟩
  | .local _ .vmem, ⟨4, _⟩ => ⟨S1024x512, .f32⟩
  | .local _ .vmem, ⟨5, _⟩ => ⟨S1024x512, .bf16⟩
  | .local _ .vmem, ⟨6, _⟩ => ⟨S1024x512, .bf16⟩
  | .local _ .vmem, ⟨7, _⟩ => ⟨S256x1024, .f32⟩
  | _, _ => ⟨S4096x4864, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12_0 : Ref sig .tc := ⟨.hbm, 15, rfl⟩
abbrev main_v12_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== MemAttnRefIdeal.lean ====
abbrev S4096x4864 : Shape := ⟨2, ![4096, 4864]⟩
abbrev S256x1024 : Shape := ⟨2, ![256, 1024]⟩
abbrev S4096x512 : Shape := ⟨2, ![4096, 512]⟩
abbrev S4096x128 : Shape := ⟨2, ![4096, 128]⟩
abbrev S1x256x1024 : Shape := ⟨3, ![1, 256, 1024]⟩
abbrev S1x256x512 : Shape := ⟨3, ![1, 256, 512]⟩
abbrev S1x4096x512 : Shape := ⟨3, ![1, 4096, 512]⟩
abbrev S1x4096x4x128 : Shape := ⟨4, ![1, 4096, 4, 128]⟩
abbrev S1x4x4096x128 : Shape := ⟨4, ![1, 4, 4096, 128]⟩
abbrev S1x256x4x128 : Shape := ⟨4, ![1, 256, 4, 128]⟩
abbrev S1x4x256x128 : Shape := ⟨4, ![1, 4, 256, 128]⟩
abbrev S1x4x4096x256 : Shape := ⟨4, ![1, 4, 4096, 256]⟩
abbrev S_ : Shape := ⟨0, ![]⟩
abbrev S1x4x4096 : Shape := ⟨3, ![1, 4, 4096]⟩
abbrev S1x4x4096x1 : Shape := ⟨4, ![1, 4, 4096, 1]⟩
abbrev S1x4x128x256 : Shape := ⟨4, ![1, 4, 128, 256]⟩
abbrev S4x4096 : Shape := ⟨2, ![4, 4096]⟩

abbrev nBuf : Space → Nat
  | .hbm => 108
  | .vmem => 0
  | .smem => 0
  | _ => 0

abbrev bufTy : (tb : Table) → Fin (tcTables nBuf tb) → BufTy
  | .hbm, ⟨0, _⟩ => ⟨S4096x4864, .f32⟩
  | .hbm, ⟨1, _⟩ => ⟨S256x1024, .f32⟩
  | .hbm, ⟨2, _⟩ => ⟨S4096x512, .f32⟩
  | .hbm, ⟨3, _⟩ => ⟨S4096x512, .f32⟩
  | .hbm, ⟨4, _⟩ => ⟨S4096x128, .f32⟩
  | .hbm, ⟨5, _⟩ => ⟨S4096x128, .f32⟩
  | .hbm, ⟨6, _⟩ => ⟨S4096x512, .f32⟩
  | .hbm, ⟨7, _⟩ => ⟨S4096x512, .f32⟩
  | .hbm, ⟨8, _⟩ => ⟨S4096x512, .f32⟩
  | .hbm, ⟨9, _⟩ => ⟨S4096x512, .f32⟩
  | .hbm, ⟨10, _⟩ => ⟨S4096x512, .f32⟩
  | .hbm, ⟨11, _⟩ => ⟨S4096x512, .f32⟩
  | .hbm, ⟨12, _⟩ => ⟨S4096x512, .f32⟩
  | .hbm, ⟨13, _⟩ => ⟨S4096x512, .f32⟩
  | .hbm, ⟨14, _⟩ => ⟨S1x256x1024, .f32⟩
  | .hbm, ⟨15, _⟩ => ⟨S1x256x512, .f32⟩
  | .hbm, ⟨16, _⟩ => ⟨S1x256x512, .f32⟩
  | .hbm, ⟨17, _⟩ => ⟨S1x4096x512, .f32⟩
  | .hbm, ⟨18, _⟩ => ⟨S1x4096x4x128, .f32⟩
  | .hbm, ⟨19, _⟩ => ⟨S1x4x4096x128, .f32⟩
  | .hbm, ⟨20, _⟩ => ⟨S1x256x4x128, .f32⟩
  | .hbm, ⟨21, _⟩ => ⟨S1x4x256x128, .f32⟩
  | .hbm, ⟨22, _⟩ => ⟨S1x256x4x128, .f32⟩
  | .hbm, ⟨23, _⟩ => ⟨S1x4x256x128, .f32⟩
  | .hbm, ⟨24, _⟩ => ⟨S1x4x4096x256, .f32⟩
  | .hbm, ⟨25, _⟩ => ⟨S_, .f32⟩
  | .hbm, ⟨26, _⟩ => ⟨S1x4x4096x256, .f32⟩
  | .hbm, ⟨27, _⟩ => ⟨S1x4x4096x256, .f32⟩
  | .hbm, ⟨28, _⟩ => ⟨S_, .f32⟩
  | .hbm, ⟨29, _⟩ => ⟨S1x4x4096, .f32⟩
  | .hbm, ⟨30, _⟩ => ⟨S1x4x4096x1, .f32⟩
  | .hbm, ⟨31, _⟩ => ⟨S1x4x4096x256, .f32⟩
  | .hbm, ⟨32, _⟩ => ⟨S1x4x4096x256, .i1⟩
  | .hbm, ⟨33, _⟩ => ⟨S1x4x4096x256, .f32⟩
  | .hbm, ⟨34, _⟩ => ⟨S_, .f32⟩
  | .hbm, ⟨35, _⟩ => ⟨S1x4x4096, .f32⟩
  | .hbm, ⟨36, _⟩ => ⟨S_, .f32⟩
  | .hbm, ⟨37, _⟩ => ⟨S1x4x4096, .f32⟩
  | .hbm, ⟨38, _⟩ => ⟨S1x4x4096, .f32⟩
  | .hbm, ⟨39, _⟩ => ⟨S_, .f32⟩
  | .hbm, ⟨40, _⟩ => ⟨S1x4x4096, .f32⟩
  | .hbm, ⟨41, _⟩ => ⟨S1x4x4096, .i1⟩
  | .hbm, ⟨42, _⟩ => ⟨S_, .f32⟩
  | .hbm, ⟨43, _⟩ => ⟨S1x4x4096, .f32⟩
  | .hbm, ⟨44, _⟩ => ⟨S1x4x4096, .i1⟩
  | .hbm, ⟨45, _⟩ => ⟨S_, .f32⟩
  | .hbm, ⟨46, _⟩ => ⟨S1x4x4096, .f32⟩
  | .hbm, ⟨47, _⟩ => ⟨S_, .f32⟩
  | .hbm, ⟨48, _⟩ => ⟨S1x4x4096, .f32⟩
  | .hbm, ⟨49, _⟩ => ⟨S_, .f32⟩
  | .hbm, ⟨50, _⟩ => ⟨S1x4x4096, .f32⟩
  | .hbm, ⟨51, _⟩ => ⟨S1x4x4096, .f32⟩
  | .hbm, ⟨52, _⟩ => ⟨S1x4x4096, .f32⟩
  | .hbm, ⟨53, _⟩ => ⟨S1x4x4096x1, .f32⟩
  | .hbm, ⟨54, _⟩ => ⟨S1x4x4096x256, .f32⟩
  | .hbm, ⟨55, _⟩ => ⟨S1x4x4096x256, .f32⟩
  | .hbm, ⟨56, _⟩ => ⟨S1x4x4096x256, .f32⟩
  | .hbm, ⟨57, _⟩ => ⟨S_, .f32⟩
  | .hbm, ⟨58, _⟩ => ⟨S1x4x4096, .f32⟩
  | .hbm, ⟨59, _⟩ => ⟨S1x4x4096x1, .f32⟩
  | .hbm, ⟨60, _⟩ => ⟨S1x4x4096x256, .f32⟩
  | .hbm, ⟨61, _⟩ => ⟨S1x4x4096x256, .f32⟩
  | .hbm, ⟨62, _⟩ => ⟨S1x4x4096x1, .f32⟩
  | .hbm, ⟨63, _⟩ => ⟨S_, .f32⟩
  | .hbm, ⟨64, _⟩ => ⟨S1x4x4096x1, .f32⟩
  | .hbm, ⟨65, _⟩ => ⟨S1x4x4096x1, .f32⟩
  | .hbm, ⟨66, _⟩ => ⟨S1x4x4096x128, .f32⟩
  | .hbm, ⟨67, _⟩ => ⟨S1x4096x4x128, .f32⟩
  | .hbm, ⟨68, _⟩ => ⟨S1x4096x512, .f32⟩
  | .hbm, ⟨69, _⟩ => ⟨S4096x512, .f32⟩
  | .hbm, ⟨70, _⟩ => ⟨S1x4096x512, .f32⟩
  | .hbm, ⟨71, _⟩ => ⟨S1x4096x4x128, .f32⟩
  | .hbm, ⟨72, _⟩ => ⟨S1x4x4096x128, .f32⟩
  | .hbm, ⟨73, _⟩ => ⟨S1x4x128x256, .f32⟩
  | .hbm, ⟨74, _⟩ => ⟨S1x4x256x128, .f32⟩
  | .hbm, ⟨75, _⟩ => ⟨S1x4x4096x256, .f32⟩
  | .hbm, ⟨76, _⟩ => ⟨S1x4x4096x256, .f32⟩
  | .hbm, ⟨77, _⟩ => ⟨S1x4x4096x256, .f32⟩
  | .hbm, ⟨78, _⟩ => ⟨S1x4x4096x256, .f32⟩
  | .hbm, ⟨79, _⟩ => ⟨S_, .f32⟩
  | .hbm, ⟨80, _⟩ => ⟨S1x4x4096, .f32⟩
  | .hbm, ⟨81, _⟩ => ⟨S1x4x4096x1, .f32⟩
  | .hbm, ⟨82, _⟩ => ⟨S1x4x4096x1, .f32⟩
  | .hbm, ⟨83, _⟩ => ⟨S1x4x4096x256, .f32⟩
  | .hbm, ⟨84, _⟩ => ⟨S1x4x4096x256, .f32⟩
  | .hbm, ⟨85, _⟩ => ⟨S_, .f32⟩
  | .hbm, ⟨86, _⟩ => ⟨S4x4096, .f32⟩
  | .hbm, ⟨87, _⟩ => ⟨S1x4x4096, .f32⟩
  | .hbm, ⟨88, _⟩ => ⟨S1x4x4096x256, .f32⟩
  | .hbm, ⟨89, _⟩ => ⟨S1x4x4096x256, .f32⟩
  | .hbm, ⟨90, _⟩ => ⟨S1x4x4096x256, .f32⟩
  | .hbm, ⟨91, _⟩ => ⟨S_, .f32⟩
  | .hbm, ⟨92, _⟩ => ⟨S1x4x4096x256, .f32⟩
  | .hbm, ⟨93, _⟩ => ⟨S1x4x4096x256, .f32⟩
  | .hbm, ⟨94, _⟩ => ⟨S1x4x256x128, .f32⟩
  | .hbm, ⟨95, _⟩ => ⟨S1x4x4096x128, .f32⟩
  | .hbm, ⟨96, _⟩ => ⟨S1x256x4x128, .f32⟩
  | .hbm, ⟨97, _⟩ => ⟨S1x256x512, .f32⟩
  | .hbm, ⟨98, _⟩ => ⟨S1x256x4x128, .f32⟩
  | .hbm, ⟨99, _⟩ => ⟨S1x256x512, .f32⟩
  | .hbm, ⟨100, _⟩ => ⟨S1x4096x4x128, .f32⟩
  | .hbm, ⟨101, _⟩ => ⟨S1x4096x512, .f32⟩
  | .hbm, ⟨102, _⟩ => ⟨S_, .f32⟩
  | .hbm, ⟨103, _⟩ => ⟨S4096x512, .f32⟩
  | .hbm, ⟨104, _⟩ => ⟨S1x256x1024, .f32⟩
  | .hbm, ⟨105, _⟩ => ⟨S_, .f32⟩
  | .hbm, ⟨106, _⟩ => ⟨S256x1024, .f32⟩
  | .hbm, ⟨107, _⟩ => ⟨S4096x512, .bf16⟩
  | _, _ => ⟨S4096x4864, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_cst : Ref sig .tc := ⟨.hbm, 25, rfl⟩
abbrev main_v22 : Ref sig .tc := ⟨.hbm, 26, rfl⟩
abbrev main_v23 : Ref sig .tc := ⟨.hbm, 27, rfl⟩
abbrev main_cst_0 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_cst_1 : Ref sig .tc := ⟨.hbm, 34, rfl⟩
abbrev main_v29 : Ref sig .tc := ⟨.hbm, 35, rfl⟩
abbrev main_cst_2 : Ref sig .tc := ⟨.hbm, 36, rfl⟩
abbrev main_v30 : Ref sig .tc := ⟨.hbm, 37, rfl⟩
abbrev main_v31 : Ref sig .tc := ⟨.hbm, 38, rfl⟩
abbrev main_cst_3 : Ref sig .tc := ⟨.hbm, 39, rfl⟩
abbrev main_v32 : Ref sig .tc := ⟨.hbm, 40, rfl⟩
abbrev main_v33 : Ref sig .tc := ⟨.hbm, 41, rfl⟩
abbrev main_cst_4 : Ref sig .tc := ⟨.hbm, 42, rfl⟩
abbrev main_v34 : Ref sig .tc := ⟨.hbm, 43, rfl⟩
abbrev main_v35 : Ref sig .tc := ⟨.hbm, 44, rfl⟩
abbrev main_cst_5 : Ref sig .tc := ⟨.hbm, 45, rfl⟩
abbrev main_v36 : Ref sig .tc := ⟨.hbm, 46, rfl⟩
abbrev main_cst_6 : Ref sig .tc := ⟨.hbm, 47, rfl⟩
abbrev main_v37 : Ref sig .tc := ⟨.hbm, 48, rfl⟩
abbrev main_cst_7 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_cst_8 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_cst_9 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_cst_10 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_cst_11 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_cst_12 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_cst_13 : Ref sig .tc := ⟨.hbm, 102, rfl⟩
abbrev main_v85 : Ref sig .tc := ⟨.hbm, 103, rfl⟩
abbrev main_v86 : Ref sig .tc := ⟨.hbm, 104, rfl⟩
abbrev main_cst_14 : Ref sig .tc := ⟨.hbm, 105, rfl⟩
abbrev main_v87 : Ref sig .tc := ⟨.hbm, 106, rfl⟩
abbrev main_v88 : Ref sig .tc := ⟨.hbm, 107, rfl⟩

abbrev nD : Nat := 1
abbrev τ : Topo := Topo.v7x

variable {F : FTy → Type} [FloatOps F]
-- ==== MemFwd.lean ====
abbrev S4096x4864 : Shape := ⟨2, ![4096, 4864]⟩
abbrev S256x1024 : Shape := ⟨2, ![256, 1024]⟩
abbrev S4096x512 : Shape := ⟨2, ![4096, 512]⟩
abbrev S4096x128 : Shape := ⟨2, ![4096, 128]⟩
abbrev S1024x512 : Shape := ⟨2, ![1024, 512]⟩
abbrev S1024x128 : Shape := ⟨2, ![1024, 128]⟩
abbrev S256x128 : Shape := ⟨2, ![256, 128]⟩
abbrev S1024x256 : Shape := ⟨2, ![1024, 256]⟩
abbrev S1024 : Shape := ⟨1, ![1024]⟩
abbrev S1024x1 : Shape := ⟨2, ![1024, 1]⟩

abbrev nBuf : Space → Nat
  | .hbm => 15
  | .vmem => 5
  | .smem => 0
  | _ => 0

abbrev bufTy : (tb : Table) → Fin (tcTables nBuf tb) → BufTy
  | .hbm, ⟨0, _⟩ => ⟨S4096x4864, .f32⟩
  | .hbm, ⟨1, _⟩ => ⟨S256x1024, .f32⟩
  | .hbm, ⟨2, _⟩ => ⟨S4096x512, .f32⟩
  | .hbm, ⟨3, _⟩ => ⟨S4096x512, .f32⟩
  | .hbm, ⟨4, _⟩ => ⟨S4096x512, .f32⟩
  | .hbm, ⟨5, _⟩ => ⟨S4096x512, .f32⟩
  | .hbm, ⟨6, _⟩ => ⟨S4096x512, .f32⟩
  | .hbm, ⟨7, _⟩ => ⟨S4096x512, .f32⟩
  | .hbm, ⟨8, _⟩ => ⟨S4096x512, .f32⟩
  | .hbm, ⟨9, _⟩ => ⟨S4096x512, .f32⟩
  | .hbm, ⟨10, _⟩ => ⟨S4096x512, .f32⟩
  | .hbm, ⟨11, _⟩ => ⟨S4096x128, .f32⟩
  | .hbm, ⟨12, _⟩ => ⟨S4096x128, .f32⟩
  | .hbm, ⟨13, _⟩ => ⟨S4096x4864, .f32⟩
  | .hbm, ⟨14, _⟩ => ⟨S4096x512, .f32⟩
  | .local _ .vmem, ⟨0, _⟩ => ⟨S1024x512, .f32⟩
  | .local _ .vmem, ⟨1, _⟩ => ⟨S1024x512, .f32⟩
  | .local _ .vmem, ⟨2, _⟩ => ⟨S256x1024, .f32⟩
  | .local _ .vmem, ⟨3, _⟩ => ⟨S1024x512, .f32⟩
  | .local _ .vmem, ⟨4, _⟩ => ⟨S1024x512, .f32⟩
  | _, _ => ⟨S4096x4864, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== MemFwdRefIdeal.lean ====
abbrev S4096x4864 : Shape := ⟨2, ![4096, 4864]⟩
abbrev S256x1024 : Shape := ⟨2, ![256, 1024]⟩
abbrev S1x256x1024 : Shape := ⟨3, ![1, 256, 1024]⟩
abbrev S1x256x512 : Shape := ⟨3, ![1, 256, 512]⟩
abbrev S4096x512 : Shape := ⟨2, ![4096, 512]⟩
abbrev S4096x128 : Shape := ⟨2, ![4096, 128]⟩
abbrev S1x4096x512 : Shape := ⟨3, ![1, 4096, 512]⟩
abbrev S1x4096x4x128 : Shape := ⟨4, ![1, 4096, 4, 128]⟩
abbrev S1x4x4096x128 : Shape := ⟨4, ![1, 4, 4096, 128]⟩
abbrev S1x256x4x128 : Shape := ⟨4, ![1, 256, 4, 128]⟩
abbrev S1x4x256x128 : Shape := ⟨4, ![1, 4, 256, 128]⟩
abbrev S1x4x4096x256 : Shape := ⟨4, ![1, 4, 4096, 256]⟩
abbrev S_ : Shape := ⟨0, ![]⟩
abbrev S1x4x4096 : Shape := ⟨3, ![1, 4, 4096]⟩
abbrev S1x4x4096x1 : Shape := ⟨4, ![1, 4, 4096, 1]⟩

abbrev nBuf : Space → Nat
  | .hbm => 45
  | .vmem => 0
  | .smem => 0
  | _ => 0

abbrev bufTy : (tb : Table) → Fin (tcTables nBuf tb) → BufTy
  | .hbm, ⟨0, _⟩ => ⟨S4096x4864, .f32⟩
  | .hbm, ⟨1, _⟩ => ⟨S256x1024, .f32⟩
  | .hbm, ⟨2, _⟩ => ⟨S1x256x1024, .f32⟩
  | .hbm, ⟨3, _⟩ => ⟨S1x256x512, .f32⟩
  | .hbm, ⟨4, _⟩ => ⟨S1x256x512, .f32⟩
  | .hbm, ⟨5, _⟩ => ⟨S4096x512, .f32⟩
  | .hbm, ⟨6, _⟩ => ⟨S4096x128, .f32⟩
  | .hbm, ⟨7, _⟩ => ⟨S4096x128, .f32⟩
  | .hbm, ⟨8, _⟩ => ⟨S4096x512, .f32⟩
  | .hbm, ⟨9, _⟩ => ⟨S4096x512, .f32⟩
  | .hbm, ⟨10, _⟩ => ⟨S4096x512, .f32⟩
  | .hbm, ⟨11, _⟩ => ⟨S4096x512, .f32⟩
  | .hbm, ⟨12, _⟩ => ⟨S4096x512, .f32⟩
  | .hbm, ⟨13, _⟩ => ⟨S4096x512, .f32⟩
  | .hbm, ⟨14, _⟩ => ⟨S4096x512, .f32⟩
  | .hbm, ⟨15, _⟩ => ⟨S4096x512, .f32⟩
  | .hbm, ⟨16, _⟩ => ⟨S1x4096x512, .f32⟩
  | .hbm, ⟨17, _⟩ => ⟨S1x4096x4x128, .f32⟩
  | .hbm, ⟨18, _⟩ => ⟨S1x4x4096x128, .f32⟩
  | .hbm, ⟨19, _⟩ => ⟨S1x256x4x128, .f32⟩
  | .hbm, ⟨20, _⟩ => ⟨S1x4x256x128, .f32⟩
  | .hbm, ⟨21, _⟩ => ⟨S1x256x4x128, .f32⟩
  | .hbm, ⟨22, _⟩ => ⟨S1x4x256x128, .f32⟩
  | .hbm, ⟨23, _⟩ => ⟨S1x4x4096x256, .f32⟩
  | .hbm, ⟨24, _⟩ => ⟨S_, .f32⟩
  | .hbm, ⟨25, _⟩ => ⟨S1x4x4096x256, .f32⟩
  | .hbm, ⟨26, _⟩ => ⟨S1x4x4096x256, .f32⟩
  | .hbm, ⟨27, _⟩ => ⟨S_, .f32⟩
  | .hbm, ⟨28, _⟩ => ⟨S1x4x4096, .f32⟩
  | .hbm, ⟨29, _⟩ => ⟨S_, .f32⟩
  | .hbm, ⟨30, _⟩ => ⟨S1x4x4096, .f32⟩
  | .hbm, ⟨31, _⟩ => ⟨S1x4x4096, .f32⟩
  | .hbm, ⟨32, _⟩ => ⟨S1x4x4096x1, .f32⟩
  | .hbm, ⟨33, _⟩ => ⟨S1x4x4096x256, .f32⟩
  | .hbm, ⟨34, _⟩ => ⟨S1x4x4096x256, .f32⟩
  | .hbm, ⟨35, _⟩ => ⟨S1x4x4096x256, .f32⟩
  | .hbm, ⟨36, _⟩ => ⟨S_, .f32⟩
  | .hbm, ⟨37, _⟩ => ⟨S1x4x4096, .f32⟩
  | .hbm, ⟨38, _⟩ => ⟨S1x4x4096x1, .f32⟩
  | .hbm, ⟨39, _⟩ => ⟨S1x4x4096x256, .f32⟩
  | .hbm, ⟨40, _⟩ => ⟨S1x4x4096x256, .f32⟩
  | .hbm, ⟨41, _⟩ => ⟨S1x4x4096x128, .f32⟩
  | .hbm, ⟨42, _⟩ => ⟨S1x4096x4x128, .f32⟩
  | .hbm, ⟨43, _⟩ => ⟨S1x4096x512, .f32⟩
  | .hbm, ⟨44, _⟩ => ⟨S4096x512, .f32⟩
  | _, _ => ⟨S4096x4864, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_cst : Ref sig .tc := ⟨.hbm, 24, rfl⟩
abbrev main_v22 : Ref sig .tc := ⟨.hbm, 25, rfl⟩
abbrev main_v23 : Ref sig .tc := ⟨.hbm, 26, rfl⟩
abbrev main_cst_0 : Ref sig .tc := ⟨.hbm, 27, rfl⟩
abbrev main_v24 : Ref sig .tc := ⟨.hbm, 28, rfl⟩
abbrev main_cst_1 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_cst_2 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩

abbrev nD : Nat := 1
abbrev τ : Topo := Topo.v7x

variable {F : FTy → Type} [FloatOps F]
-- ==== AttnFwd.lean ====
abbrev S4096x4864 : Shape := ⟨2, ![4096, 4864]⟩
abbrev S8 : Shape := ⟨1, ![8]⟩
abbrev S4096x512 : Shape := ⟨2, ![4096, 512]⟩
abbrev S4096x128 : Shape := ⟨2, ![4096, 128]⟩
abbrev S_ : Shape := ⟨0, ![]⟩
abbrev S8x128 : Shape := ⟨2, ![8, 128]⟩
abbrev S1024 : Shape := ⟨1, ![1024]⟩
abbrev S1024x1 : Shape := ⟨2, ![1024, 1]⟩
abbrev S4096x256 : Shape := ⟨2, ![4096, 256]⟩
abbrev S4352x256 : Shape := ⟨2, ![4352, 256]⟩
abbrev S128x512 : Shape := ⟨2, ![128, 512]⟩
abbrev S128x64 : Shape := ⟨2, ![128, 64]⟩
abbrev S512x64 : Shape := ⟨2, ![512, 64]⟩
abbrev S384x64 : Shape := ⟨2, ![384, 64]⟩
abbrev S512x1 : Shape := ⟨2, ![512, 1]⟩
abbrev S512x384 : Shape := ⟨2, ![512, 384]⟩
abbrev S512 : Shape := ⟨1, ![512]⟩

abbrev nBuf : Space → Nat
  | .hbm => 38
  | .vmem => 7
  | .smem => 0
  | _ => 0

abbrev bufTy : (tb : Table) → Fin (tcTables nBuf tb) → BufTy
  | .hbm, ⟨0, _⟩ => ⟨S4096x4864, .f32⟩
  | .hbm, ⟨1, _⟩ => ⟨S8, .f32⟩
  | .hbm, ⟨2, _⟩ => ⟨S4096x512, .f32⟩
  | .hbm, ⟨3, _⟩ => ⟨S4096x512, .f32⟩
  | .hbm, ⟨4, _⟩ => ⟨S4096x512, .f32⟩
  | .hbm, ⟨5, _⟩ => ⟨S4096x512, .f32⟩
  | .hbm, ⟨6, _⟩ => ⟨S4096x512, .f32⟩
  | .hbm, ⟨7, _⟩ => ⟨S4096x512, .f32⟩
  | .hbm, ⟨8, _⟩ => ⟨S4096x512, .f32⟩
  | .hbm, ⟨9, _⟩ => ⟨S4096x512, .f32⟩
  | .hbm, ⟨10, _⟩ => ⟨S4096x512, .f32⟩
  | .hbm, ⟨11, _⟩ => ⟨S4096x128, .f32⟩
  | .hbm, ⟨12, _⟩ => ⟨S4096x128, .f32⟩
  | .hbm, ⟨13, _⟩ => ⟨S4096x4864, .f32⟩
  | .hbm, ⟨14, _⟩ => ⟨S8, .f32⟩
  | .hbm, ⟨15, _⟩ => ⟨S_, .f32⟩
  | .hbm, ⟨16, _⟩ => ⟨S8, .f32⟩
  | .hbm, ⟨17, _⟩ => ⟨S8, .f32⟩
  | .hbm, ⟨18, _⟩ => ⟨S_, .f32⟩
  | .hbm, ⟨19, _⟩ => ⟨S8, .f32⟩
  | .hbm, ⟨20, _⟩ => ⟨S8, .f32⟩
  | .hbm, ⟨21, _⟩ => ⟨S_, .f32⟩
  | .hbm, ⟨22, _⟩ => ⟨S8, .f32⟩
  | .hbm, ⟨23, _⟩ => ⟨S8, .f32⟩
  | .hbm, ⟨24, _⟩ => ⟨S_, .f32⟩
  | .hbm, ⟨25, _⟩ => ⟨S8, .f32⟩
  | .hbm, ⟨26, _⟩ => ⟨S8, .f32⟩
  | .hbm, ⟨27, _⟩ => ⟨S8x128, .f32⟩
  | .hbm, ⟨28, _⟩ => ⟨S1024, .f32⟩
  | .hbm, ⟨29, _⟩ => ⟨S1024x1, .f32⟩
  | .hbm, ⟨30, _⟩ => ⟨S4096x256, .f32⟩
  | .hbm, ⟨31, _⟩ => ⟨S_, .i32⟩
  | .hbm, ⟨32, _⟩ => ⟨S_, .f32⟩
  | .hbm, ⟨33, _⟩ => ⟨S4352x256, .f32⟩
  | .hbm, ⟨34, _⟩ => ⟨S8x128, .f32⟩
  | .hbm, ⟨35, _⟩ => ⟨S1024, .f32⟩
  | .hbm, ⟨36, _⟩ => ⟨S1024x1, .f32⟩
  | .hbm, ⟨37, _⟩ => ⟨S4096x512, .f32⟩
  | .local _ .vmem, ⟨0, _⟩ => ⟨S128x512, .f32⟩
  | .local _ .vmem, ⟨1, _⟩ => ⟨S128x512, .f32⟩
  | .local _ .vmem, ⟨2, _⟩ => ⟨S4352x256, .f32⟩
  | .local _ .vmem, ⟨3, _⟩ => ⟨S1024x1, .f32⟩
  | .local _ .vmem, ⟨4, _⟩ => ⟨S1024x1, .f32⟩
  | .local _ .vmem, ⟨5, _⟩ => ⟨S128x512, .f32⟩
  | .local _ .vmem, ⟨6, _⟩ => ⟨S128x512, .f32⟩
  | _, _ => ⟨S4096x4864, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_cst : Ref sig .tc := ⟨.hbm, 15, rfl⟩
abbrev main_v13 : Ref sig .tc := ⟨.hbm, 16, rfl⟩
abbrev main_v14 : Ref sig .tc := ⟨.hbm, 17, rfl⟩
abbrev main_cst_0 : Ref sig .tc := ⟨.hbm, 18, rfl⟩
abbrev main_v15 : Ref sig .tc := ⟨.hbm, 19, rfl⟩
abbrev main_v16 : Ref sig .tc := ⟨.hbm, 20, rfl⟩
abbrev main_cst_1 : Ref sig .tc := ⟨.hbm, 21, rfl⟩
abbrev main_v17 : Ref sig .tc := ⟨.hbm, 22, rfl⟩
abbrev main_v18 : Ref sig .tc := ⟨.hbm, 23, rfl⟩
abbrev main_cst_2 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_c : Ref sig .tc := ⟨.hbm, 31, rfl⟩
abbrev main_call0_v0 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def k0_mult1 (i : grid0.Coords) : BitVec 32 :=
  let arg0 : BitVec 32 := BitVec.ofNat 32 (i 0).val
  let c128_i32 : BitVec 32 := 128#32
  let v0 : BitVec 32 := Scalar.muli arg0 c128_i32
  v0
def k0_off1 (i : grid0.Coords) : Fin 2 → Nat :=
  let arg0 : BitVec 32 := BitVec.ofNat 32 (i 0).val
  let c128_i32 : BitVec 32 := 128#32
  let v0 : BitVec 32 := Scalar.muli arg0 c128_i32
  let v1 : BitVec 32 := v0
  let v11 : Index := Scalar.indexCast v1
  let c0_4 : Index := 0#32
  ![v11.toNat, 0]
def k0_off2 (i : grid0.Coords) : Fin 2 → Nat :=
  let arg0 : BitVec 32 := BitVec.ofNat 32 (i 0).val
  let c128_i32 : BitVec 32 := 128#32
  let v0 : BitVec 32 := Scalar.muli arg0 c128_i32
  let v1 : BitVec 32 := v0
  let v14 : Index := Scalar.indexCast v1
  let c128_5 : Index := 128#32
  ![v14.toNat, 128]
def k0_off3 (i : grid0.Coords) : Fin 2 → Nat :=
  let arg0 : BitVec 32 := BitVec.ofNat 32 (i 0).val
  let c128_i32 : BitVec 32 := 128#32
  let v0 : BitVec 32 := Scalar.muli arg0 c128_i32
  let v1 : BitVec 32 := v0
  let v101 : Index := Scalar.indexCast v1
  let c64_37 : Index := 64#32
  ![v101.toNat, 64]
def k0_off4 (i : grid0.Coords) : Fin 2 → Nat :=
  let arg0 : BitVec 32 := BitVec.ofNat 32 (i 0).val
  let c128_i32 : BitVec 32 := 128#32
  let v0 : BitVec 32 := Scalar.muli arg0 c128_i32
  let v1 : BitVec 32 := v0
  let v104 : Index := Scalar.indexCast v1
  let c192_38 : Index := 192#32
  ![v104.toNat, 192]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4352x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== AttnFwdRefIdeal.lean ====
abbrev S4096x4864 : Shape := ⟨2, ![4096, 4864]⟩
abbrev S8 : Shape := ⟨1, ![8]⟩
abbrev S4096x512 : Shape := ⟨2, ![4096, 512]⟩
abbrev S4096x128 : Shape := ⟨2, ![4096, 128]⟩
abbrev S1x4096x512 : Shape := ⟨3, ![1, 4096, 512]⟩
abbrev S1x4096x8x64 : Shape := ⟨4, ![1, 4096, 8, 64]⟩
abbrev S1x8x4096x64 : Shape := ⟨4, ![1, 8, 4096, 64]⟩
abbrev S1x4096x128 : Shape := ⟨3, ![1, 4096, 128]⟩
abbrev S1x4096x2x64 : Shape := ⟨4, ![1, 4096, 2, 64]⟩
abbrev S1x2x4096x64 : Shape := ⟨4, ![1, 2, 4096, 64]⟩
abbrev S_ : Shape := ⟨0, ![]⟩
abbrev S1x2x4352x64 : Shape := ⟨4, ![1, 2, 4352, 64]⟩
abbrev S1x2x34x128x64 : Shape := ⟨5, ![1, 2, 34, 128, 64]⟩
abbrev S1x2x32x128x64 : Shape := ⟨5, ![1, 2, 32, 128, 64]⟩
abbrev S1x2x32x384x64 : Shape := ⟨5, ![1, 2, 32, 384, 64]⟩
abbrev S1x2x4x32x128x64 : Shape := ⟨6, ![1, 2, 4, 32, 128, 64]⟩
abbrev S1x2x32x384x4x128 : Shape := ⟨6, ![1, 2, 32, 384, 4, 128]⟩
abbrev S1x2x4x32x128x384 : Shape := ⟨6, ![1, 2, 4, 32, 128, 384]⟩
abbrev S128 : Shape := ⟨1, ![128]⟩
abbrev S128x1 : Shape := ⟨2, ![128, 1]⟩
abbrev S384 : Shape := ⟨1, ![384]⟩
abbrev S1x384 : Shape := ⟨2, ![1, 384]⟩
abbrev S128x384 : Shape := ⟨2, ![128, 384]⟩
abbrev S32 : Shape := ⟨1, ![32]⟩
abbrev S32x1x1 : Shape := ⟨3, ![32, 1, 1]⟩
abbrev S1x1x384 : Shape := ⟨3, ![1, 1, 384]⟩
abbrev S32x1x384 : Shape := ⟨3, ![32, 1, 384]⟩
abbrev S1x128x384 : Shape := ⟨3, ![1, 128, 384]⟩
abbrev S32x128x384 : Shape := ⟨3, ![32, 128, 384]⟩
abbrev S2x4x1x1x1 : Shape := ⟨5, ![2, 4, 1, 1, 1]⟩
abbrev S1x1x1x128x384 : Shape := ⟨5, ![1, 1, 1, 128, 384]⟩
abbrev S2x4x1x128x384 : Shape := ⟨5, ![2, 4, 1, 128, 384]⟩
abbrev S1x2x4x1x128x384 : Shape := ⟨6, ![1, 2, 4, 1, 128, 384]⟩
abbrev S1x2x4x32x128 : Shape := ⟨5, ![1, 2, 4, 32, 128]⟩
abbrev S1x2x4x32x128x1 : Shape := ⟨6, ![1, 2, 4, 32, 128, 1]⟩
abbrev S1x2x4x1x1x1 : Shape := ⟨6, ![1, 2, 4, 1, 1, 1]⟩
abbrev S1x2x32x64x4x128 : Shape := ⟨6, ![1, 2, 32, 64, 4, 128]⟩

abbrev nBuf : Space → Nat
  | .hbm => 140
  | .vmem => 0
  | .smem => 0
  | _ => 0

abbrev hbmTy0_0 (i : Nat) : BufTy := match i % 128 with
  | 0 => ⟨S4096x4864, .f32⟩
  | 1 => ⟨S8, .f32⟩
  | 2 => ⟨S4096x512, .f32⟩
  | 3 => ⟨S4096x128, .f32⟩
  | 4 => ⟨S4096x128, .f32⟩
  | 5 => ⟨S4096x512, .f32⟩
  | 6 => ⟨S4096x512, .f32⟩
  | 7 => ⟨S4096x512, .f32⟩
  | 8 => ⟨S4096x512, .f32⟩
  | 9 => ⟨S4096x512, .f32⟩
  | 10 => ⟨S4096x512, .f32⟩
  | 11 => ⟨S4096x512, .f32⟩
  | 12 => ⟨S4096x512, .f32⟩
  | 13 => ⟨S1x4096x512, .f32⟩
  | 14 => ⟨S1x4096x8x64, .f32⟩
  | 15 => ⟨S1x8x4096x64, .f32⟩
  | 16 => ⟨S1x4096x128, .f32⟩
  | 17 => ⟨S1x4096x2x64, .f32⟩
  | 18 => ⟨S1x2x4096x64, .f32⟩
  | 19 => ⟨S1x4096x128, .f32⟩
  | 20 => ⟨S1x4096x2x64, .f32⟩
  | 21 => ⟨S1x2x4096x64, .f32⟩
  | 22 => ⟨S_, .i32⟩
  | 23 => ⟨S_, .f32⟩
  | 24 => ⟨S1x2x4352x64, .f32⟩
  | 25 => ⟨S1x2x34x128x64, .f32⟩
  | 26 => ⟨S1x2x32x128x64, .f32⟩
  | 27 => ⟨S1x2x32x128x64, .f32⟩
  | 28 => ⟨S1x2x32x128x64, .f32⟩
  | 29 => ⟨S1x2x32x384x64, .f32⟩
  | 30 => ⟨S_, .i32⟩
  | 31 => ⟨S_, .f32⟩
  | 32 => ⟨S1x2x4352x64, .f32⟩
  | 33 => ⟨S1x2x34x128x64, .f32⟩
  | 34 => ⟨S1x2x32x128x64, .f32⟩
  | 35 => ⟨S1x2x32x128x64, .f32⟩
  | 36 => ⟨S1x2x32x128x64, .f32⟩
  | 37 => ⟨S1x2x32x384x64, .f32⟩
  | 38 => ⟨S1x2x4x32x128x64, .f32⟩
  | 39 => ⟨S1x2x32x384x4x128, .f32⟩
  | 40 => ⟨S1x2x4x32x128x384, .f32⟩
  | 41 => ⟨S_, .f32⟩
  | 42 => ⟨S1x2x4x32x128x384, .f32⟩
  | 43 => ⟨S1x2x4x32x128x384, .f32⟩
  | 44 => ⟨S128, .i32⟩
  | 45 => ⟨S128x1, .i32⟩
  | 46 => ⟨S384, .i32⟩
  | 47 => ⟨S1x384, .i32⟩
  | 48 => ⟨S128x384, .i32⟩
  | 49 => ⟨S128x384, .i32⟩
  | 50 => ⟨S128x384, .i32⟩
  | 51 => ⟨S_, .i32⟩
  | 52 => ⟨S128x384, .i32⟩
  | 53 => ⟨S128x384, .i32⟩
  | 54 => ⟨S128x384, .i32⟩
  | 55 => ⟨S128x384, .f32⟩
  | 56 => ⟨S32, .i32⟩
  | 57 => ⟨S32x1x1, .i32⟩
  | 58 => ⟨S_, .i32⟩
  | 59 => ⟨S32x1x1, .i32⟩
  | 60 => ⟨S32x1x1, .i32⟩
  | 61 => ⟨S_, .i32⟩
  | 62 => ⟨S32x1x1, .i32⟩
  | 63 => ⟨S32x1x1, .i32⟩
  | 64 => ⟨S1x1x384, .i32⟩
  | 65 => ⟨S32x1x384, .i32⟩
  | 66 => ⟨S32x1x384, .i32⟩
  | 67 => ⟨S32x1x384, .i32⟩
  | 68 => ⟨S_, .f32⟩
  | 69 => ⟨S128x384, .f32⟩
  | 70 => ⟨S128x384, .i1⟩
  | 71 => ⟨S1x128x384, .i1⟩
  | 72 => ⟨S_, .i32⟩
  | 73 => ⟨S32x1x384, .i32⟩
  | 74 => ⟨S32x1x384, .i1⟩
  | 75 => ⟨S32x128x384, .i1⟩
  | 76 => ⟨S32x128x384, .i1⟩
  | 77 => ⟨S32x128x384, .i1⟩
  | 78 => ⟨S_, .i32⟩
  | 79 => ⟨S32x1x384, .i32⟩
  | 80 => ⟨S32x1x384, .i1⟩
  | 81 => ⟨S32x128x384, .i1⟩
  | 82 => ⟨S32x128x384, .i1⟩
  | 83 => ⟨S8, .f32⟩
  | 84 => ⟨S_, .f32⟩
  | 85 => ⟨S8, .f32⟩
  | 86 => ⟨S8, .f32⟩
  | 87 => ⟨S_, .f32⟩
  | 88 => ⟨S8, .f32⟩
  | 89 => ⟨S8, .f32⟩
  | 90 => ⟨S_, .f32⟩
  | 91 => ⟨S8, .f32⟩
  | 92 => ⟨S8, .f32⟩
  | 93 => ⟨S_, .f32⟩
  | 94 => ⟨S8, .f32⟩
  | 95 => ⟨S8, .f32⟩
  | 96 => ⟨S2x4x1x1x1, .f32⟩
  | 97 => ⟨S1x1x1x128x384, .f32⟩
  | 98 => ⟨S2x4x1x128x384, .f32⟩
  | 99 => ⟨S2x4x1x128x384, .f32⟩
  | 100 => ⟨S2x4x1x128x384, .f32⟩
  | 101 => ⟨S1x2x4x1x128x384, .f32⟩
  | 102 => ⟨S1x2x4x32x128x384, .f32⟩
  | 103 => ⟨S1x2x4x32x128x384, .f32⟩
  | 104 => ⟨S_, .f32⟩
  | 105 => ⟨S_, .f32⟩
  | 106 => ⟨S1x2x4x32x128x384, .i1⟩
  | 107 => ⟨S1x2x4x32x128x384, .f32⟩
  | 108 => ⟨S1x2x4x32x128x384, .f32⟩
  | 109 => ⟨S2x4x1x1x1, .f32⟩
  | 110 => ⟨S_, .f32⟩
  | 111 => ⟨S1x2x4x32x128, .f32⟩
  | 112 => ⟨S1x2x4x32x128x1, .f32⟩
  | 113 => ⟨S1x2x4x1x1x1, .f32⟩
  | 114 => ⟨S1x2x4x32x128x1, .f32⟩
  | 115 => ⟨S1x2x4x32x128x1, .f32⟩
  | 116 => ⟨S1x2x4x32x128x384, .f32⟩
  | 117 => ⟨S1x2x4x32x128x384, .f32⟩
  | 118 => ⟨S1x2x4x32x128x384, .f32⟩
  | 119 => ⟨S_, .f32⟩
  | 120 => ⟨S_, .f32⟩
  | 121 => ⟨S1x2x4x32x128x384, .i1⟩
  | 122 => ⟨S1x2x4x32x128x384, .f32⟩
  | 123 => ⟨S1x2x4x32x128x384, .f32⟩
  | 124 => ⟨S_, .f32⟩
  | 125 => ⟨S1x2x4x32x128, .f32⟩
  | 126 => ⟨S1x2x4x32x128x1, .f32⟩
  | 127 => ⟨S1x2x4x1x1x1, .f32⟩
  | _ => ⟨S4096x4864, .f32⟩

abbrev hbmTy0_1 (i : Nat) : BufTy := match i % 128 with
  | 0 => ⟨S1x2x4x32x128x1, .f32⟩
  | 1 => ⟨S1x2x4x32x128x1, .f32⟩
  | 2 => ⟨S1x2x4x32x128x1, .f32⟩
  | 3 => ⟨S1x2x4x32x128x1, .f32⟩
  | 4 => ⟨S1x2x32x64x4x128, .f32⟩
  | 5 => ⟨S1x2x4x32x128x64, .f32⟩
  | 6 => ⟨S1x2x4x32x128x64, .f32⟩
  | 7 => ⟨S1x2x4x32x128x64, .f32⟩
  | 8 => ⟨S1x8x4096x64, .f32⟩
  | 9 => ⟨S1x4096x8x64, .f32⟩
  | 10 => ⟨S1x4096x512, .f32⟩
  | 11 => ⟨S4096x512, .f32⟩
  | _ => ⟨S4096x4864, .f32⟩

abbrev hbmTy (i : Nat) : BufTy := match i / 128 with
  | 0 => hbmTy0_0 i
  | 1 => hbmTy0_1 i
  | _ => ⟨S4096x4864, .f32⟩

abbrev bufTy : (tb : Table) → Fin (tcTables nBuf tb) → BufTy
  | .hbm, ⟨i, _⟩ => hbmTy i
  | _, _ => ⟨S4096x4864, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_c : Ref sig .tc := ⟨.hbm, 22, rfl⟩
abbrev main_call0_v0 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_c_0 : Ref sig .tc := ⟨.hbm, 30, rfl⟩
abbrev main_call1_v0 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_cst : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_c_1 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_c_2 : Ref sig .tc := ⟨.hbm, 58, rfl⟩
abbrev main_v50 : Ref sig .tc := ⟨.hbm, 59, rfl⟩
abbrev main_v51 : Ref sig .tc := ⟨.hbm, 60, rfl⟩
abbrev main_c_3 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_cst_4 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_c_5 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_c_6 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_cst_7 : Ref sig .tc := ⟨.hbm, 84, rfl⟩
abbrev main_v71 : Ref sig .tc := ⟨.hbm, 85, rfl⟩
abbrev main_v72 : Ref sig .tc := ⟨.hbm, 86, rfl⟩
abbrev main_cst_8 : Ref sig .tc := ⟨.hbm, 87, rfl⟩
abbrev main_v73 : Ref sig .tc := ⟨.hbm, 88, rfl⟩
abbrev main_v74 : Ref sig .tc := ⟨.hbm, 89, rfl⟩
abbrev main_cst_9 : Ref sig .tc := ⟨.hbm, 90, rfl⟩
abbrev main_v75 : Ref sig .tc := ⟨.hbm, 91, rfl⟩
abbrev main_v76 : Ref sig .tc := ⟨.hbm, 92, rfl⟩
abbrev main_cst_10 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_cst_11 : Ref sig .tc := ⟨.hbm, 104, rfl⟩
abbrev main_call2_v0 : Ref sig .tc := ⟨.hbm, 105, rfl⟩
abbrev main_call2_v1 : Ref sig .tc := ⟨.hbm, 106, rfl⟩
abbrev main_call2_v2 : Ref sig .tc := ⟨.hbm, 107, rfl⟩
abbrev main_v87 : Ref sig .tc := ⟨.hbm, 108, rfl⟩
abbrev main_v88 : Ref sig .tc := ⟨.hbm, 109, rfl⟩
abbrev main_cst_12 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_cst_13 : Ref sig .tc := ⟨.hbm, 119, rfl⟩
abbrev main_call3_v0 : Ref sig .tc := ⟨.hbm, 120, rfl⟩
abbrev main_call3_v1 : Ref sig .tc := ⟨.hbm, 121, rfl⟩
abbrev main_call3_v2 : Ref sig .tc := ⟨.hbm, 122, rfl⟩
abbrev main_v97 : Ref sig .tc := ⟨.hbm, 123, rfl⟩
abbrev main_cst_14 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩

abbrev nD : Nat := 1
abbrev τ : Topo := Topo.v7x

variable {F : FTy → Type} [FloatOps F]
-- ==== OutEFwd.lean ====
abbrev S4096x512 : Shape := ⟨2, ![4096, 512]⟩
abbrev S4096x4864 : Shape := ⟨2, ![4096, 4864]⟩
abbrev S512 : Shape := ⟨1, ![512]⟩
abbrev S1536x1024 : Shape := ⟨2, ![1536, 1024]⟩
abbrev S4096x1024 : Shape := ⟨2, ![4096, 1024]⟩
abbrev S4096x128 : Shape := ⟨2, ![4096, 128]⟩
abbrev S1x512 : Shape := ⟨2, ![1, 512]⟩
abbrev S512x512 : Shape := ⟨2, ![512, 512]⟩
abbrev S512x1024 : Shape := ⟨2, ![512, 1024]⟩
abbrev S512x128 : Shape := ⟨2, ![512, 128]⟩
abbrev S1x128 : Shape := ⟨2, ![1, 128]⟩
abbrev S512x1 : Shape := ⟨2, ![512, 1]⟩
abbrev S512x1536 : Shape := ⟨2, ![512, 1536]⟩

abbrev nBuf : Space → Nat
  | .hbm => 23
  | .vmem => 20
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S4096x512, .f32⟩
  | .hbm, ⟨4, _⟩ => ⟨S4096x4864, .f32⟩
  | .hbm, ⟨5, _⟩ => ⟨S512, .f32⟩
  | .hbm, ⟨6, _⟩ => ⟨S1536x1024, .f32⟩
  | .hbm, ⟨7, _⟩ => ⟨S4096x1024, .f32⟩
  | .hbm, ⟨8, _⟩ => ⟨S4096x512, .f32⟩
  | .hbm, ⟨9, _⟩ => ⟨S4096x512, .f32⟩
  | .hbm, ⟨10, _⟩ => ⟨S4096x512, .f32⟩
  | .hbm, ⟨11, _⟩ => ⟨S4096x512, .f32⟩
  | .hbm, ⟨12, _⟩ => ⟨S4096x512, .f32⟩
  | .hbm, ⟨13, _⟩ => ⟨S4096x512, .f32⟩
  | .hbm, ⟨14, _⟩ => ⟨S4096x512, .f32⟩
  | .hbm, ⟨15, _⟩ => ⟨S4096x512, .f32⟩
  | .hbm, ⟨16, _⟩ => ⟨S4096x512, .f32⟩
  | .hbm, ⟨17, _⟩ => ⟨S4096x128, .f32⟩
  | .hbm, ⟨18, _⟩ => ⟨S4096x128, .f32⟩
  | .hbm, ⟨19, _⟩ => ⟨S4096x4864, .f32⟩
  | .hbm, ⟨20, _⟩ => ⟨S1x512, .f32⟩
  | .hbm, ⟨21, _⟩ => ⟨S1536x1024, .bf16⟩
  | .hbm, ⟨22, _⟩ => ⟨S4096x1024, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S1x512, .f32⟩
  | .local _ .vmem, ⟨15, _⟩ => ⟨S1536x1024, .bf16⟩
  | .local _ .vmem, ⟨16, _⟩ => ⟨S512x1024, .f32⟩
  | .local _ .vmem, ⟨17, _⟩ => ⟨S512x1024, .f32⟩
  | .local _ .vmem, ⟨18, _⟩ => ⟨S512x1024, .f32⟩
  | .local _ .vmem, ⟨19, _⟩ => ⟨S512x1024, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_5 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_6 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1536x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== OutEFwdRefIdeal.lean ====
abbrev S4096x512 : Shape := ⟨2, ![4096, 512]⟩
abbrev S4096x4864 : Shape := ⟨2, ![4096, 4864]⟩
abbrev S512 : Shape := ⟨1, ![512]⟩
abbrev S1536x1024 : Shape := ⟨2, ![1536, 1024]⟩
abbrev S4096x1024 : Shape := ⟨2, ![4096, 1024]⟩
abbrev S4096x128 : Shape := ⟨2, ![4096, 128]⟩
abbrev S_ : Shape := ⟨0, ![]⟩
abbrev S1x4096x512 : Shape := ⟨3, ![1, 4096, 512]⟩
abbrev S1x4096x4x128 : Shape := ⟨4, ![1, 4096, 4, 128]⟩
abbrev S4x128 : Shape := ⟨2, ![4, 128]⟩
abbrev S1x4096x4 : Shape := ⟨3, ![1, 4096, 4]⟩
abbrev S1x4096x4x1 : Shape := ⟨4, ![1, 4096, 4, 1]⟩
abbrev S1x1x4x128 : Shape := ⟨4, ![1, 1, 4, 128]⟩
abbrev S4096x1536 : Shape := ⟨2, ![4096, 1536]⟩

abbrev nBuf : Space → Nat
  | .hbm => 74
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S4096x512, .f32⟩
  | .hbm, ⟨4, _⟩ => ⟨S4096x4864, .f32⟩
  | .hbm, ⟨5, _⟩ => ⟨S512, .f32⟩
  | .hbm, ⟨6, _⟩ => ⟨S1536x1024, .f32⟩
  | .hbm, ⟨7, _⟩ => ⟨S4096x1024, .f32⟩
  | .hbm, ⟨8, _⟩ => ⟨S4096x512, .f32⟩
  | .hbm, ⟨9, _⟩ => ⟨S4096x128, .f32⟩
  | .hbm, ⟨10, _⟩ => ⟨S4096x128, .f32⟩
  | .hbm, ⟨11, _⟩ => ⟨S4096x512, .f32⟩
  | .hbm, ⟨12, _⟩ => ⟨S4096x512, .f32⟩
  | .hbm, ⟨13, _⟩ => ⟨S4096x512, .f32⟩
  | .hbm, ⟨14, _⟩ => ⟨S4096x512, .f32⟩
  | .hbm, ⟨15, _⟩ => ⟨S4096x512, .f32⟩
  | .hbm, ⟨16, _⟩ => ⟨S4096x512, .f32⟩
  | .hbm, ⟨17, _⟩ => ⟨S4096x512, .f32⟩
  | .hbm, ⟨18, _⟩ => ⟨S4096x512, .f32⟩
  | .hbm, ⟨19, _⟩ => ⟨S4096x512, .f32⟩
  | .hbm, ⟨20, _⟩ => ⟨S4096x512, .f32⟩
  | .hbm, ⟨21, _⟩ => ⟨S_, .f32⟩
  | .hbm, ⟨22, _⟩ => ⟨S4096x512, .f32⟩
  | .hbm, ⟨23, _⟩ => ⟨S4096x512, .f32⟩
  | .hbm, ⟨24, _⟩ => ⟨S_, .f32⟩
  | .hbm, ⟨25, _⟩ => ⟨S4096x512, .f32⟩
  | .hbm, ⟨26, _⟩ => ⟨S4096x512, .f32⟩
  | .hbm, ⟨27, _⟩ => ⟨S4096x512, .f32⟩
  | .hbm, ⟨28, _⟩ => ⟨S4096x512, .f32⟩
  | .hbm, ⟨29, _⟩ => ⟨S4096x512, .f32⟩
  | .hbm, ⟨30, _⟩ => ⟨S1x4096x512, .f32⟩
  | .hbm, ⟨31, _⟩ => ⟨S1x4096x4x128, .f32⟩
  | .hbm, ⟨32, _⟩ => ⟨S4x128, .f32⟩
  | .hbm, ⟨33, _⟩ => ⟨S1x4096x4x128, .f32⟩
  | .hbm, ⟨34, _⟩ => ⟨S_, .f32⟩
  | .hbm, ⟨35, _⟩ => ⟨S1x4096x4, .f32⟩
  | .hbm, ⟨36, _⟩ => ⟨S1x4096x4x1, .f32⟩
  | .hbm, ⟨37, _⟩ => ⟨S_, .f32⟩
  | .hbm, ⟨38, _⟩ => ⟨S1x4096x4x1, .f32⟩
  | .hbm, ⟨39, _⟩ => ⟨S1x4096x4x1, .f32⟩
  | .hbm, ⟨40, _⟩ => ⟨S_, .f32⟩
  | .hbm, ⟨41, _⟩ => ⟨S1x4096x4x1, .f32⟩
  | .hbm, ⟨42, _⟩ => ⟨S1x4096x4x1, .f32⟩
  | .hbm, ⟨43, _⟩ => ⟨S1x4096x4x1, .f32⟩
  | .hbm, ⟨44, _⟩ => ⟨S1x4096x4x128, .f32⟩
  | .hbm, ⟨45, _⟩ => ⟨S1x4096x4x128, .f32⟩
  | .hbm, ⟨46, _⟩ => ⟨S1x1x4x128, .f32⟩
  | .hbm, ⟨47, _⟩ => ⟨S1x4096x4x128, .f32⟩
  | .hbm, ⟨48, _⟩ => ⟨S1x4096x4x128, .f32⟩
  | .hbm, ⟨49, _⟩ => ⟨S1x4096x512, .f32⟩
  | .hbm, ⟨50, _⟩ => ⟨S4096x512, .f32⟩
  | .hbm, ⟨51, _⟩ => ⟨S4096x512, .f32⟩
  | .hbm, ⟨52, _⟩ => ⟨S4096x512, .f32⟩
  | .hbm, ⟨53, _⟩ => ⟨S_, .f32⟩
  | .hbm, ⟨54, _⟩ => ⟨S4096x512, .f32⟩
  | .hbm, ⟨55, _⟩ => ⟨S4096x512, .f32⟩
  | .hbm, ⟨56, _⟩ => ⟨S_, .f32⟩
  | .hbm, ⟨57, _⟩ => ⟨S4096x512, .f32⟩
  | .hbm, ⟨58, _⟩ => ⟨S4096x512, .f32⟩
  | .hbm, ⟨59, _⟩ => ⟨S4096x512, .f32⟩
  | .hbm, ⟨60, _⟩ => ⟨S4096x512, .f32⟩
  | .hbm, ⟨61, _⟩ => ⟨S4096x512, .f32⟩
  | .hbm, ⟨62, _⟩ => ⟨S4096x512, .f32⟩
  | .hbm, ⟨63, _⟩ => ⟨S_, .f32⟩
  | .hbm, ⟨64, _⟩ => ⟨S4096x512, .f32⟩
  | .hbm, ⟨65, _⟩ => ⟨S4096x512, .f32⟩
  | .hbm, ⟨66, _⟩ => ⟨S_, .f32⟩
  | .hbm, ⟨67, _⟩ => ⟨S4096x512, .f32⟩
  | .hbm, ⟨68, _⟩ => ⟨S4096x512, .f32⟩
  | .hbm, ⟨69, _⟩ => ⟨S4096x512, .f32⟩
  | .hbm, ⟨70, _⟩ => ⟨S4096x512, .f32⟩
  | .hbm, ⟨71, _⟩ => ⟨S4096x1536, .f32⟩
  | .hbm, ⟨72, _⟩ => ⟨S4096x1024, .f32⟩
  | .hbm, ⟨73, _⟩ => ⟨S4096x1024, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_call0_v0 : Ref sig .tc := ⟨.hbm, 19, rfl⟩
abbrev main_call0_v1 : Ref sig .tc := ⟨.hbm, 20, rfl⟩
abbrev main_call0_cst : Ref sig .tc := ⟨.hbm, 21, rfl⟩
abbrev main_call0_v2 : Ref sig .tc := ⟨.hbm, 22, rfl⟩
abbrev main_call0_v3 : Ref sig .tc := ⟨.hbm, 23, rfl⟩
abbrev main_call0_cst_0 : Ref sig .tc := ⟨.hbm, 24, rfl⟩
abbrev main_call0_v4 : Ref sig .tc := ⟨.hbm, 25, rfl⟩
abbrev main_call0_v5 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst : Ref sig .tc := ⟨.hbm, 34, rfl⟩
abbrev main_v18 : Ref sig .tc := ⟨.hbm, 35, rfl⟩
abbrev main_v19 : Ref sig .tc := ⟨.hbm, 36, rfl⟩
abbrev main_cst_0 : Ref sig .tc := ⟨.hbm, 37, rfl⟩
abbrev main_v20 : Ref sig .tc := ⟨.hbm, 38, rfl⟩
abbrev main_v21 : Ref sig .tc := ⟨.hbm, 39, rfl⟩
abbrev main_cst_1 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_call1_v0 : Ref sig .tc := ⟨.hbm, 51, rfl⟩
abbrev main_call1_v1 : Ref sig .tc := ⟨.hbm, 52, rfl⟩
abbrev main_call1_cst : Ref sig .tc := ⟨.hbm, 53, rfl⟩
abbrev main_call1_v2 : Ref sig .tc := ⟨.hbm, 54, rfl⟩
abbrev main_call1_v3 : Ref sig .tc := ⟨.hbm, 55, rfl⟩
abbrev main_call1_cst_0 : Ref sig .tc := ⟨.hbm, 56, rfl⟩
abbrev main_call1_v4 : Ref sig .tc := ⟨.hbm, 57, rfl⟩
abbrev main_call1_v5 : Ref sig .tc := ⟨.hbm, 58, rfl⟩
abbrev main_v32 : Ref sig .tc := ⟨.hbm, 59, rfl⟩
abbrev main_v33 : Ref sig .tc := ⟨.hbm, 60, rfl⟩
abbrev main_call2_v0 : Ref sig .tc := ⟨.hbm, 61, rfl⟩
abbrev main_call2_v1 : Ref sig .tc := ⟨.hbm, 62, rfl⟩
abbrev main_call2_cst : Ref sig .tc := ⟨.hbm, 63, rfl⟩
abbrev main_call2_v2 : Ref sig .tc := ⟨.hbm, 64, rfl⟩
abbrev main_call2_v3 : Ref sig .tc := ⟨.hbm, 65, rfl⟩
abbrev main_call2_cst_0 : Ref sig .tc := ⟨.hbm, 66, rfl⟩
abbrev main_call2_v4 : Ref sig .tc := ⟨.hbm, 67, rfl⟩
abbrev main_call2_v5 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩

abbrev nD : Nat := 1
abbrev τ : Topo := Topo.v7x

variable {F : FTy → Type} [FloatOps F]
-- ==== OutOFwd.lean ====
abbrev S4096x1024 : Shape := ⟨2, ![4096, 1024]⟩
abbrev S4096x512 : Shape := ⟨2, ![4096, 512]⟩
abbrev S4096x4128 : Shape := ⟨2, ![4096, 4128]⟩
abbrev S1024 : Shape := ⟨1, ![1024]⟩
abbrev S1536x1024 : Shape := ⟨2, ![1536, 1024]⟩
abbrev S4096x32 : Shape := ⟨2, ![4096, 32]⟩
abbrev S_ : Shape := ⟨0, ![]⟩
abbrev S4096x96 : Shape := ⟨2, ![4096, 96]⟩
abbrev S4096x4224 : Shape := ⟨2, ![4096, 4224]⟩
abbrev S1x1024 : Shape := ⟨2, ![1, 1024]⟩
abbrev S512x1024 : Shape := ⟨2, ![512, 1024]⟩
abbrev S512x512 : Shape := ⟨2, ![512, 512]⟩
abbrev S512x256 : Shape := ⟨2, ![512, 256]⟩
abbrev S1x256 : Shape := ⟨2, ![1, 256]⟩
abbrev S512 : Shape := ⟨1, ![512]⟩
abbrev S512x1 : Shape := ⟨2, ![512, 1]⟩
abbrev S512x1536 : Shape := ⟨2, ![512, 1536]⟩

abbrev nBuf : Space → Nat
  | .hbm => 20
  | .vmem => 16
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x512, .f32⟩
  | .hbm, ⟨3, _⟩ => ⟨S4096x4128, .f32⟩
  | .hbm, ⟨4, _⟩ => ⟨S1024, .f32⟩
  | .hbm, ⟨5, _⟩ => ⟨S1536x1024, .f32⟩
  | .hbm, ⟨6, _⟩ => ⟨S4096x1024, .f32⟩
  | .hbm, ⟨7, _⟩ => ⟨S4096x512, .f32⟩
  | .hbm, ⟨8, _⟩ => ⟨S4096x512, .f32⟩
  | .hbm, ⟨9, _⟩ => ⟨S4096x1024, .f32⟩
  | .hbm, ⟨10, _⟩ => ⟨S4096x1024, .f32⟩
  | .hbm, ⟨11, _⟩ => ⟨S4096x512, .f32⟩
  | .hbm, ⟨12, _⟩ => ⟨S4096x512, .f32⟩
  | .hbm, ⟨13, _⟩ => ⟨S4096x32, .f32⟩
  | .hbm, ⟨14, _⟩ => ⟨S_, .f32⟩
  | .hbm, ⟨15, _⟩ => ⟨S4096x96, .f32⟩
  | .hbm, ⟨16, _⟩ => ⟨S4096x4224, .f32⟩
  | .hbm, ⟨17, _⟩ => ⟨S1x1024, .f32⟩
  | .hbm, ⟨18, _⟩ => ⟨S1536x1024, .bf16⟩
  | .hbm, ⟨19, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x512, .f32⟩
  | .local _ .vmem, ⟨5, _⟩ => ⟨S512x512, .f32⟩
  | .local _ .vmem, ⟨6, _⟩ => ⟨S512x1024, .f32⟩
  | .local _ .vmem, ⟨7, _⟩ => ⟨S512x1024, .f32⟩
  | .local _ .vmem, ⟨8, _⟩ => ⟨S512x512, .f32⟩
  | .local _ .vmem, ⟨9, _⟩ => ⟨S512x512, .f32⟩
  | .local _ .vmem, ⟨10, _⟩ => ⟨S1x1024, .f32⟩
  | .local _ .vmem, ⟨11, _⟩ => ⟨S1536x1024, .bf16⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_4 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1536x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== OutOFwdRefIdeal.lean ====
abbrev S4096x1024 : Shape := ⟨2, ![4096, 1024]⟩
abbrev S4096x512 : Shape := ⟨2, ![4096, 512]⟩
abbrev S4096x4128 : Shape := ⟨2, ![4096, 4128]⟩
abbrev S1024 : Shape := ⟨1, ![1024]⟩
abbrev S1536x1024 : Shape := ⟨2, ![1536, 1024]⟩
abbrev S4096x16 : Shape := ⟨2, ![4096, 16]⟩
abbrev S1x4096x1024 : Shape := ⟨3, ![1, 4096, 1024]⟩
abbrev S1x4096x4x256 : Shape := ⟨4, ![1, 4096, 4, 256]⟩
abbrev S4x256 : Shape := ⟨2, ![4, 256]⟩
abbrev S_ : Shape := ⟨0, ![]⟩
abbrev S1x4096x4 : Shape := ⟨3, ![1, 4096, 4]⟩
abbrev S1x4096x4x1 : Shape := ⟨4, ![1, 4096, 4, 1]⟩
abbrev S1x1x4x256 : Shape := ⟨4, ![1, 1, 4, 256]⟩
abbrev S4096x1536 : Shape := ⟨2, ![4096, 1536]⟩

abbrev nBuf : Space → Nat
  | .hbm => 60
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x512, .f32⟩
  | .hbm, ⟨3, _⟩ => ⟨S4096x4128, .f32⟩
  | .hbm, ⟨4, _⟩ => ⟨S1024, .f32⟩
  | .hbm, ⟨5, _⟩ => ⟨S1536x1024, .f32⟩
  | .hbm, ⟨6, _⟩ => ⟨S4096x1024, .f32⟩
  | .hbm, ⟨7, _⟩ => ⟨S4096x512, .f32⟩
  | .hbm, ⟨8, _⟩ => ⟨S4096x512, .f32⟩
  | .hbm, ⟨9, _⟩ => ⟨S4096x1024, .f32⟩
  | .hbm, ⟨10, _⟩ => ⟨S4096x1024, .f32⟩
  | .hbm, ⟨11, _⟩ => ⟨S4096x16, .f32⟩
  | .hbm, ⟨12, _⟩ => ⟨S4096x16, .f32⟩
  | .hbm, ⟨13, _⟩ => ⟨S4096x512, .f32⟩
  | .hbm, ⟨14, _⟩ => ⟨S4096x512, .f32⟩
  | .hbm, ⟨15, _⟩ => ⟨S4096x1024, .f32⟩
  | .hbm, ⟨16, _⟩ => ⟨S1x4096x1024, .f32⟩
  | .hbm, ⟨17, _⟩ => ⟨S1x4096x4x256, .f32⟩
  | .hbm, ⟨18, _⟩ => ⟨S4x256, .f32⟩
  | .hbm, ⟨19, _⟩ => ⟨S1x4096x4x256, .f32⟩
  | .hbm, ⟨20, _⟩ => ⟨S_, .f32⟩
  | .hbm, ⟨21, _⟩ => ⟨S1x4096x4, .f32⟩
  | .hbm, ⟨22, _⟩ => ⟨S1x4096x4x1, .f32⟩
  | .hbm, ⟨23, _⟩ => ⟨S_, .f32⟩
  | .hbm, ⟨24, _⟩ => ⟨S1x4096x4x1, .f32⟩
  | .hbm, ⟨25, _⟩ => ⟨S1x4096x4x1, .f32⟩
  | .hbm, ⟨26, _⟩ => ⟨S_, .f32⟩
  | .hbm, ⟨27, _⟩ => ⟨S1x4096x4x1, .f32⟩
  | .hbm, ⟨28, _⟩ => ⟨S1x4096x4x1, .f32⟩
  | .hbm, ⟨29, _⟩ => ⟨S1x4096x4x1, .f32⟩
  | .hbm, ⟨30, _⟩ => ⟨S1x4096x4x256, .f32⟩
  | .hbm, ⟨31, _⟩ => ⟨S1x4096x4x256, .f32⟩
  | .hbm, ⟨32, _⟩ => ⟨S1x1x4x256, .f32⟩
  | .hbm, ⟨33, _⟩ => ⟨S1x4096x4x256, .f32⟩
  | .hbm, ⟨34, _⟩ => ⟨S1x4096x4x256, .f32⟩
  | .hbm, ⟨35, _⟩ => ⟨S1x4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S_, .f32⟩
  | .hbm, ⟨40, _⟩ => ⟨S4096x1024, .f32⟩
  | .hbm, ⟨41, _⟩ => ⟨S4096x1024, .f32⟩
  | .hbm, ⟨42, _⟩ => ⟨S_, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x512, .f32⟩
  | .hbm, ⟨48, _⟩ => ⟨S4096x512, .f32⟩
  | .hbm, ⟨49, _⟩ => ⟨S_, .f32⟩
  | .hbm, ⟨50, _⟩ => ⟨S4096x512, .f32⟩
  | .hbm, ⟨51, _⟩ => ⟨S4096x512, .f32⟩
  | .hbm, ⟨52, _⟩ => ⟨S_, .f32⟩
  | .hbm, ⟨53, _⟩ => ⟨S4096x512, .f32⟩
  | .hbm, ⟨54, _⟩ => ⟨S4096x512, .f32⟩
  | .hbm, ⟨55, _⟩ => ⟨S4096x512, .f32⟩
  | .hbm, ⟨56, _⟩ => ⟨S4096x512, .f32⟩
  | .hbm, ⟨57, _⟩ => ⟨S4096x1536, .f32⟩
  | .hbm, ⟨58, _⟩ => ⟨S4096x1024, .f32⟩
  | .hbm, ⟨59, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_call0_v5 : Ref sig .tc := ⟨.hbm, 44, rfl⟩
abbrev main_v27 : Ref sig .tc := ⟨.hbm, 45, rfl⟩
abbrev main_v28 : Ref sig .tc := ⟨.hbm, 46, rfl⟩
abbrev main_call1_v0 : Ref sig .tc := ⟨.hbm, 47, rfl⟩
abbrev main_call1_v1 : Ref sig .tc := ⟨.hbm, 48, rfl⟩
abbrev main_call1_cst : Ref sig .tc := ⟨.hbm, 49, rfl⟩
abbrev main_call1_v2 : Ref sig .tc := ⟨.hbm, 50, rfl⟩
abbrev main_call1_v3 : Ref sig .tc := ⟨.hbm, 51, rfl⟩
abbrev main_call1_cst_0 : Ref sig .tc := ⟨.hbm, 52, rfl⟩
abbrev main_call1_v4 : Ref sig .tc := ⟨.hbm, 53, rfl⟩
abbrev main_call1_v5 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩

abbrev nD : Nat := 1
abbrev τ : Topo := Topo.v7x

variable {F : FTy → Type} [FloatOps F]
-- ==== InEFwd.lean ====
abbrev S4096x1024 : Shape := ⟨2, ![4096, 1024]⟩
abbrev S1024 : Shape := ⟨1, ![1024]⟩
abbrev S1024x4864 : Shape := ⟨2, ![1024, 4864]⟩
abbrev S1024x512 : Shape := ⟨2, ![1024, 512]⟩
abbrev S1024x128 : Shape := ⟨2, ![1024, 128]⟩
abbrev S1x1024 : Shape := ⟨2, ![1, 1024]⟩
abbrev S4096x4864 : Shape := ⟨2, ![4096, 4864]⟩
abbrev S512x1024 : Shape := ⟨2, ![512, 1024]⟩
abbrev S512x4864 : Shape := ⟨2, ![512, 4864]⟩
abbrev S512 : Shape := ⟨1, ![512]⟩
abbrev S512x1 : Shape := ⟨2, ![512, 1]⟩

abbrev nBuf : Space → Nat
  | .hbm => 19
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x4864, .f32⟩
  | .hbm, ⟨3, _⟩ => ⟨S1024x4864, .bf16⟩
  | .hbm, ⟨4, _⟩ => ⟨S1024x512, .bf16⟩
  | .hbm, ⟨5, _⟩ => ⟨S1024x512, .bf16⟩
  | .hbm, ⟨6, _⟩ => ⟨S1024x512, .bf16⟩
  | .hbm, ⟨7, _⟩ => ⟨S1024x512, .bf16⟩
  | .hbm, ⟨8, _⟩ => ⟨S1024x512, .bf16⟩
  | .hbm, ⟨9, _⟩ => ⟨S1024x512, .bf16⟩
  | .hbm, ⟨10, _⟩ => ⟨S1024x512, .bf16⟩
  | .hbm, ⟨11, _⟩ => ⟨S1024x512, .bf16⟩
  | .hbm, ⟨12, _⟩ => ⟨S1024x512, .bf16⟩
  | .hbm, ⟨13, _⟩ => ⟨S1024x128, .bf16⟩
  | .hbm, ⟨14, _⟩ => ⟨S1024x128, .bf16⟩
  | .hbm, ⟨15, _⟩ => ⟨S1024x4864, .bf16⟩
  | .hbm, ⟨16, _⟩ => ⟨S1x1024, .f32⟩
  | .hbm, ⟨17, _⟩ => ⟨S4096x1024, .bf16⟩
  | .hbm, ⟨18, _⟩ => ⟨S4096x4864, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x4864, .bf16⟩
  | .local _ .vmem, ⟨4, _⟩ => ⟨S512x1024, .bf16⟩
  | .local _ .vmem, ⟨5, _⟩ => ⟨S512x1024, .bf16⟩
  | .local _ .vmem, ⟨6, _⟩ => ⟨S512x4864, .f32⟩
  | .local _ .vmem, ⟨7, _⟩ => ⟨S512x4864, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14_0 : Ref sig .tc := ⟨.hbm, 17, rfl⟩
abbrev main_v14_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4864 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x4864 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== InEFwdRefIdeal.lean ====
abbrev S4096x1024 : Shape := ⟨2, ![4096, 1024]⟩
abbrev S1024 : Shape := ⟨1, ![1024]⟩
abbrev S1024x4864 : Shape := ⟨2, ![1024, 4864]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x4864 : Shape := ⟨2, ![4096, 4864]⟩
abbrev S4096x512 : Shape := ⟨2, ![4096, 512]⟩
abbrev S4096x128 : Shape := ⟨2, ![4096, 128]⟩

abbrev nBuf : Space → Nat
  | .hbm => 33
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x4864, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S4096x4864, .f32⟩
  | .hbm, ⟨20, _⟩ => ⟨S4096x512, .f32⟩
  | .hbm, ⟨21, _⟩ => ⟨S4096x128, .f32⟩
  | .hbm, ⟨22, _⟩ => ⟨S4096x128, .f32⟩
  | .hbm, ⟨23, _⟩ => ⟨S4096x512, .f32⟩
  | .hbm, ⟨24, _⟩ => ⟨S4096x512, .f32⟩
  | .hbm, ⟨25, _⟩ => ⟨S4096x512, .f32⟩
  | .hbm, ⟨26, _⟩ => ⟨S4096x512, .f32⟩
  | .hbm, ⟨27, _⟩ => ⟨S4096x512, .f32⟩
  | .hbm, ⟨28, _⟩ => ⟨S4096x512, .f32⟩
  | .hbm, ⟨29, _⟩ => ⟨S4096x512, .f32⟩
  | .hbm, ⟨30, _⟩ => ⟨S4096x512, .f32⟩
  | .hbm, ⟨31, _⟩ => ⟨S4096x1024, .bf16⟩
  | .hbm, ⟨32, _⟩ => ⟨S4096x4864, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩

abbrev nD : Nat := 1
abbrev τ : Topo := Topo.v7x

variable {F : FTy → Type} [FloatOps F]
-- ==== InOFwd.lean ====
abbrev S4096x1024 : Shape := ⟨2, ![4096, 1024]⟩
abbrev S1024 : Shape := ⟨1, ![1024]⟩
abbrev S1024x4128 : Shape := ⟨2, ![1024, 4128]⟩
abbrev S1024x512 : Shape := ⟨2, ![1024, 512]⟩
abbrev S1024x1024 : Shape := ⟨2, ![1024, 1024]⟩
abbrev S1024x32 : Shape := ⟨2, ![1024, 32]⟩
abbrev S_ : Shape := ⟨0, ![]⟩
abbrev S1024x96 : Shape := ⟨2, ![1024, 96]⟩
abbrev S1024x4224 : Shape := ⟨2, ![1024, 4224]⟩
abbrev S1x1024 : Shape := ⟨2, ![1, 1024]⟩
abbrev S4096x4224 : Shape := ⟨2, ![4096, 4224]⟩
abbrev S512x1024 : Shape := ⟨2, ![512, 1024]⟩
abbrev S512x4224 : Shape := ⟨2, ![512, 4224]⟩
abbrev S512 : Shape := ⟨1, ![512]⟩
abbrev S512x1 : Shape := ⟨2, ![512, 1]⟩

abbrev nBuf : Space → Nat
  | .hbm => 17
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x4128, .f32⟩
  | .hbm, ⟨3, _⟩ => ⟨S1024x4128, .bf16⟩
  | .hbm, ⟨4, _⟩ => ⟨S1024x512, .bf16⟩
  | .hbm, ⟨5, _⟩ => ⟨S1024x512, .bf16⟩
  | .hbm, ⟨6, _⟩ => ⟨S1024x1024, .bf16⟩
  | .hbm, ⟨7, _⟩ => ⟨S1024x1024, .bf16⟩
  | .hbm, ⟨8, _⟩ => ⟨S1024x512, .bf16⟩
  | .hbm, ⟨9, _⟩ => ⟨S1024x512, .bf16⟩
  | .hbm, ⟨10, _⟩ => ⟨S1024x32, .bf16⟩
  | .hbm, ⟨11, _⟩ => ⟨S_, .bf16⟩
  | .hbm, ⟨12, _⟩ => ⟨S1024x96, .bf16⟩
  | .hbm, ⟨13, _⟩ => ⟨S1024x4224, .bf16⟩
  | .hbm, ⟨14, _⟩ => ⟨S1x1024, .f32⟩
  | .hbm, ⟨15, _⟩ => ⟨S4096x1024, .bf16⟩
  | .hbm, ⟨16, _⟩ => ⟨S4096x4224, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x4224, .bf16⟩
  | .local _ .vmem, ⟨4, _⟩ => ⟨S512x1024, .bf16⟩
  | .local _ .vmem, ⟨5, _⟩ => ⟨S512x1024, .bf16⟩
  | .local _ .vmem, ⟨6, _⟩ => ⟨S512x4224, .f32⟩
  | .local _ .vmem, ⟨7, _⟩ => ⟨S512x4224, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11_0 : Ref sig .tc := ⟨.hbm, 15, rfl⟩
abbrev main_v11_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4224 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x4224 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== InOFwdRefIdeal.lean ====
abbrev S4096x1024 : Shape := ⟨2, ![4096, 1024]⟩
abbrev S1024 : Shape := ⟨1, ![1024]⟩
abbrev S1024x4128 : Shape := ⟨2, ![1024, 4128]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x4128 : Shape := ⟨2, ![4096, 4128]⟩
abbrev S4096x512 : Shape := ⟨2, ![4096, 512]⟩
abbrev S4096x16 : Shape := ⟨2, ![4096, 16]⟩
abbrev S4096x96 : Shape := ⟨2, ![4096, 96]⟩
abbrev S4096x4224 : Shape := ⟨2, ![4096, 4224]⟩

abbrev nBuf : Space → Nat
  | .hbm => 32
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x4128, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S4096x4128, .f32⟩
  | .hbm, ⟨20, _⟩ => ⟨S4096x512, .f32⟩
  | .hbm, ⟨21, _⟩ => ⟨S4096x512, .f32⟩
  | .hbm, ⟨22, _⟩ => ⟨S4096x1024, .f32⟩
  | .hbm, ⟨23, _⟩ => ⟨S4096x1024, .f32⟩
  | .hbm, ⟨24, _⟩ => ⟨S4096x16, .f32⟩
  | .hbm, ⟨25, _⟩ => ⟨S4096x16, .f32⟩
  | .hbm, ⟨26, _⟩ => ⟨S4096x512, .f32⟩
  | .hbm, ⟨27, _⟩ => ⟨S4096x512, .f32⟩
  | .hbm, ⟨28, _⟩ => ⟨S4096x1024, .bf16⟩
  | .hbm, ⟨29, _⟩ => ⟨S_, .f32⟩
  | .hbm, ⟨30, _⟩ => ⟨S4096x96, .f32⟩
  | .hbm, ⟨31, _⟩ => ⟨S4096x4224, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_2 : Ref sig .tc := ⟨.hbm, 29, rfl⟩
abbrev main_v23 : Ref sig .tc := ⟨.hbm, 30, rfl⟩
abbrev main_v24 : Ref sig .tc := ⟨.hbm, 31, rfl⟩

abbrev nD : Nat := 1
abbrev τ : Topo := Topo.v7x

variable {F : FTy → Type} [FloatOps F]
-- ==== MemRmsFwd.lean ====
abbrev S256x1024 : Shape := ⟨2, ![256, 1024]⟩
abbrev S1024 : Shape := ⟨1, ![1024]⟩
abbrev S1x1024 : Shape := ⟨2, ![1, 1024]⟩
abbrev S256 : Shape := ⟨1, ![256]⟩
abbrev S256x1 : Shape := ⟨2, ![256, 1]⟩

abbrev nBuf : Space → Nat
  | .hbm => 4
  | .vmem => 3
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S1x1024, .f32⟩
  | .hbm, ⟨3, _⟩ => ⟨S256x1024, .bf16⟩
  | .local _ .vmem, ⟨0, _⟩ => ⟨S256x1024, .f32⟩
  | .local _ .vmem, ⟨1, _⟩ => ⟨S1x1024, .f32⟩
  | .local _ .vmem, ⟨2, _⟩ => ⟨S256x1024, .bf16⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== MemRmsFwdRefIdeal.lean ====
abbrev S256x1024 : Shape := ⟨2, ![256, 1024]⟩
abbrev S1024 : Shape := ⟨1, ![1024]⟩
abbrev S_ : Shape := ⟨0, ![]⟩
abbrev S256 : Shape := ⟨1, ![256]⟩
abbrev S256x1 : Shape := ⟨2, ![256, 1]⟩
abbrev S1x1024 : Shape := ⟨2, ![1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S256x1024, .f32⟩
  | .hbm, ⟨3, _⟩ => ⟨S_, .f32⟩
  | .hbm, ⟨4, _⟩ => ⟨S256, .f32⟩
  | .hbm, ⟨5, _⟩ => ⟨S256x1, .f32⟩
  | .hbm, ⟨6, _⟩ => ⟨S_, .f32⟩
  | .hbm, ⟨7, _⟩ => ⟨S256x1, .f32⟩
  | .hbm, ⟨8, _⟩ => ⟨S256x1, .f32⟩
  | .hbm, ⟨9, _⟩ => ⟨S_, .f32⟩
  | .hbm, ⟨10, _⟩ => ⟨S256x1, .f32⟩
  | .hbm, ⟨11, _⟩ => ⟨S256x1, .f32⟩
  | .hbm, ⟨12, _⟩ => ⟨S256x1, .f32⟩
  | .hbm, ⟨13, _⟩ => ⟨S256x1024, .f32⟩
  | .hbm, ⟨14, _⟩ => ⟨S256x1024, .f32⟩
  | .hbm, ⟨15, _⟩ => ⟨S1x1024, .f32⟩
  | .hbm, ⟨16, _⟩ => ⟨S256x1024, .f32⟩
  | .hbm, ⟨17, _⟩ => ⟨S256x1024, .f32⟩
  | .hbm, ⟨18, _⟩ => ⟨S256x1024, .bf16⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Proof.MemRmsValue.lean ====
module

public import proofs.«01_k».proof.Defs
public import proofs.«01_k».proof.Proof.Gen.MemRmsIdeal.Value
public import Idealize.ShloMosaic.Lib.Claim
public import proofs.«01_k».proof.Proof.Gen.MemRmsRefIdeal.Run
public import proofs.«01_k».proof.Proof.Gen.MemRmsRefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.MemRmsIdeal.Norm

open Cert.MemRmsIdeal Cert.MemRmsIdeal.Gen
open Cert.MemRmsRefIdeal.Read

variable (m : (ℓ : Loc nD τ sig) → Buf (Elt Ideal) ℓ)

/-- Every window's block index is zero: the one grid point sees whole arrays. -/
theorem idx : ∀ t : Fin cfg0.N, win0_0.index t = ![0, 0] ∧ win0_2.index t = ![0, 0] ∧ win0_3.index t = ![0, 0] :=
  (by decide +kernel : ∀ t : Fin grid0.N, _)

/-- What the one grid point leaves is the reference's gradient of the norm's weight. -/
theorem point (c : Dev nD) (t : Fin cfg0.N) (y : S1x1024.Idx) (i : S1x1024.Idx) (h0 : (i 0 : ℕ) = y 0) (h1 : (i 1 : ℕ) = y 1) :
    k0_pay2 (F := Ideal) (iblk m c 0 t) (iblk m c 2 t) (k0_pay1 (F := Ideal)) y
      = val_main_v17 (F := Ideal) (m ((c : Thread nD τ).loc main_arg0)) (m ((c : Thread nD τ).loc main_arg2)) i := by
  pointwise [k0_pay1, k0_pay2, val_main_v17, val_main_v16, val_main_v15, val_main_v14, val_main_v13, val_main_v9,
    val_main_v8, val_main_v7, val_main_v6, val_main_v5, val_main_v4, val_main_v3,
    val_main_v2, val_main_v1, val_main_v0, val_main_cst, val_main_cst_0, val_main_cst_1,
    val_main_cst_2, val_main_cst_3]
  rw [Fin.sum_univ_one]
  blk_point [iblk, V_main_arg0, V_main_arg2, idx t]

theorem final (c : Dev nD) : (dats m 0 c).arrAt 3 cfg0.N =
    val_main_v17 (F := Ideal) (m ((c : Thread nD τ).loc main_arg0)) (m ((c : Thread nD τ).loc main_arg2)) := by
  refine (dats m 0 c).arrAt_eq_of_covers 3 _ (by decide +kernel) fun t _ y => ?_
  blk_simp
  rw [after0_3]
  simp only [outsAt0]
  frame_out
  refine point m c t y _ ?_ ?_
  all_goals (blk_simp [idx t] <;> try omega)

end Cert.MemRmsIdeal.Norm

/-- The kernel's gradient of the memory norm's weight is the reference's. -/
theorem Cert.MemRmsIdeal.algebraic : Cert.algebraic_MemRmsIdeal_MemRmsRefIdeal := by
  pair_intro
  · run_from Cert.MemRmsIdeal.Value.run_blocks m g
  · run_from Cert.MemRmsRefIdeal.Value.run m' g'
    exact (Cert.MemRmsIdeal.Norm.final m c).symm
end
-- ==== Proof.Consts.lean ====
module

public import Idealize.ShloMosaic.Lib.Claim
public import Idealize.ShloMosaic.Lib.Pointwise

/-! Values of the float literals that the kernels and the references share, and the two laws of the extended reals used with them: a
    finite scale moves through a sum, and a division by a finite constant is a product with its inverse. -/

@[expose] public section
noncomputable section
open Idealize.ShloMosaic

namespace Cert.Consts

/-- The pattern of one half. -/
theorem half : Ideal.ofBits .f32 0x3F000000#32 = (((1 : ℝ) / 2 : ℝ) : EReal) := by
  simp [Ideal.ofBits, Ideal.ieee, -EReal.coe_mul]; norm_num

/-- The pattern of 1024. -/
theorem width : Ideal.ofBits .f32 0x44800000#32 = ((1024 : ℝ) : EReal) := by
  simp [Ideal.ofBits, Ideal.ieee, -EReal.coe_mul]; norm_num

/-- The pattern of 1/2048. -/
theorem halfMean : Ideal.ofBits .f32 0x3A000000#32 = (((1 : ℝ) / 2048 : ℝ) : EReal) := by
  simp [Ideal.ofBits, Ideal.ieee, -EReal.coe_mul]; norm_num

/-- Half of a mean over 1024 entries is a scale by 1/2048. -/
theorem half_div (x : EReal) :
    Ideal.ofBits .f32 0x3F000000#32 * Ideal.div x (Ideal.ofBits .f32 0x44800000#32) = x * Ideal.ofBits .f32 0x3A000000#32 := by
  rw [half, width, halfMean, Ideal.div_coe (by norm_num), mul_left_comm, ← EReal.coe_mul]
  norm_num

/-- … and the cotangent's half divided by 1024 is 1/2048. -/
theorem half_div_one : Ideal.div (Ideal.ofBits .f32 0x3F000000#32) (Ideal.ofBits .f32 0x44800000#32) = Ideal.ofBits .f32 0x3A000000#32 := by
  rw [half, width, halfMean, Ideal.div_coe (by norm_num), ← EReal.coe_mul]
  norm_num

/-- A real factor that is not negative moves out of a sum on its right. -/
theorem sum_mul_coe {ι : Type} (s : Finset ι) (f : ι → EReal) (r : ℝ) (hr : 0 ≤ r) : (∑ i ∈ s, f i * (r : EReal)) = (∑ i ∈ s, f i) * (r : EReal) := by
  classical
  induction s using Finset.induction_on with
  | empty => simp
  | insert a s ha ih =>
    rw [Finset.sum_insert ha, Finset.sum_insert ha, ih, EReal.right_distrib_of_nonneg_of_ne_top (by exact_mod_cast hr) (EReal.coe_ne_top r)]

/-- A real factor that is not negative moves out of a sum on its left. -/
theorem sum_coe_mul {ι : Type} (s : Finset ι) (f : ι → EReal) (r : ℝ) (hr : 0 ≤ r) : (∑ i ∈ s, (r : EReal) * f i) = (r : EReal) * (∑ i ∈ s, f i) := by
  simp only [mul_comm (r : EReal)]
  exact sum_mul_coe s f r hr

/-- A case distinction is `z` when both of its branches are. -/
theorem dite_eq_of {α : Sort*} {p : Prop} [Decidable p] {a : p → α} {b : ¬p → α} {z : α} (ha : ∀ h, a h = z) (hb : ∀ h, b h = z) : dite p a b = z := by
  by_cases h : p
  · rw [dif_pos h]; exact ha h
  · rw [dif_neg h]; exact hb h

end Cert.Consts
-- ==== Proof.LossValue.lean ====
module

public import proofs.«01_k».proof.Defs
public import proofs.«01_k».proof.Proof.Gen.LossIdeal.Value
public import Idealize.ShloMosaic.Lib.Claim
public import proofs.«01_k».proof.Proof.Consts
public import proofs.«01_k».proof.Proof.Gen.LossRefIdeal.Run
public import proofs.«01_k».proof.Proof.Gen.LossRefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.LossIdeal.Norm
open Cert.LossIdeal Cert.LossIdeal.Gen
open Cert.LossRefIdeal.Read
variable (m : (ℓ : Loc nD τ sig) → Buf (Elt Ideal) ℓ)

theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![0, 0] :=
  (by decide +kernel : ∀ t : Fin grid0.N, _)

/-- Row `k` of the tile of point `t`. -/
def row (t : Fin cfg0.N) (k : Fin 512) : Fin 4096 :=
  ⟨t.val * 512 + k.val, by have := lt_of_lt_of_eq t.isLt N_0; omega⟩

theorem point4 (c : Dev nD) (t : Fin cfg0.N) (y : S512x1024.Idx) (i : S4096x1024.Idx) (h0 : (i 0 : ℕ) = t.val * 512 + y 0) (h1 : (i 1 : ℕ) = y 1) :
    k0_pay2 (F := Ideal) (iblk m c 0 t) (k0_pay7 (F := Ideal) (iblk m c 1 t)) (k0_pay9 (F := Ideal) (iblk m c 0 t)) (k0_pay10 (F := Ideal) (iblk m c 0 t))
        (k0_pay13 (F := Ideal) (iblk m c 2 t) (iblk m c 0 t) (iblk m c 1 t)) (k0_pay15 (F := Ideal)) y
      = val_main_v50 (F := Ideal) (m ((c : Thread nD τ).loc main_arg0)) (m ((c : Thread nD τ).loc main_arg1)) (m ((c : Thread nD τ).loc main_arg2)) i := by
  pointwise [k0_pay1, k0_pay2, k0_pay7, k0_pay8, k0_pay9, k0_pay10, k0_pay11, k0_pay12, k0_pay13, k0_pay15, val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_v16, val_main_v17, val_main_cst_3, val_main_v18, val_main_v19, val_main_cst_4, val_main_v20, val_main_cst_5, val_main_v21, val_main_v22, val_main_cst_6, val_main_v23, val_main_cst_7, val_main_v24, val_main_cst_8, val_main_cst_9, val_main_v25, val_main_v26, val_main_cst_10, val_main_v27, val_main_v28, val_main_v29, val_main_v30, val_main_v31, val_main_cst_11, val_main_v32, val_main_v33, val_main_v34, val_main_v35, val_main_cst_12, val_main_v36, val_main_v37, val_main_cst_13, val_main_v38, val_main_v39, val_main_v40, val_main_v41, val_main_v42, val_main_cst_14, val_main_v43, val_main_v44, val_main_cst_15, val_main_v45, val_main_v46, val_main_v47, val_main_v48, val_main_v49, val_main_v50, val_main_v51, val_main_v52]
  simp only [Fin.sum_univ_one, Cert.Consts.half_div_one]
  blk_point [iblk, V_main_arg0, V_main_arg1, V_main_arg2, idx t]

theorem final4 (c : Dev nD) :
    (dats m 0 c).arrAt 4 cfg0.N = val_main_v50 (F := Ideal) (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]
  by_cases h : t.val % 8 = 0
  · rw [outsAt0_A m c t h]
    frame_out
    refine point4 m c t y _ ?_ ?_
    all_goals (blk_simp [idx t] <;> try omega)
  · rw [outsAt0_B m c t h]
    frame_out
    refine point4 m c t y _ ?_ ?_
    all_goals (blk_simp [idx t] <;> try omega)

/-- One point adds its tile's part of the loss … -/
theorem step3 (c : Dev nD) (t : Fin cfg0.N) (a : Vec Ideal S8x128 .f32) (j : S8x128.Idx) :
    k0_pay5 (F := Ideal) (k0_pay14 (F := Ideal) (iblk m c 2 t) (iblk m c 0 t) (iblk m c 1 t)) a j
      = a j + (∑ k : Fin 512, val_main_v20 (F := Ideal) (m ((c : Thread nD τ).loc main_arg0)) (m ((c : Thread nD τ).loc main_arg1)) (m ((c : Thread nD τ).loc main_arg2)) (ix1 (row t k))) * Ideal.ofBits .f32 0x3A000000#32 := by
  pointwise [k0_pay5, k0_pay14, k0_pay12, k0_pay11, k0_pay9, k0_pay8, k0_pay7, val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_v16, val_main_v17, val_main_cst_3, val_main_v18, val_main_v19, val_main_cst_4, val_main_v20, val_main_cst_5, val_main_v21, val_main_v22, val_main_cst_6, val_main_v23, val_main_cst_7, val_main_v24, val_main_cst_8, val_main_cst_9, val_main_v25, val_main_v26, val_main_cst_10, val_main_v27, val_main_v28, val_main_v29, val_main_v30, val_main_v31, val_main_cst_11, val_main_v32, val_main_v33, val_main_v34, val_main_v35, val_main_cst_12, val_main_v36, val_main_v37, val_main_cst_13, val_main_v38, val_main_v39, val_main_v40, val_main_v41, val_main_v42, val_main_cst_14, val_main_v43, val_main_v44, val_main_cst_15, val_main_v45, val_main_v46, val_main_v47, val_main_v48, val_main_v49, val_main_v50, val_main_v51, val_main_v52]
  blk_point [iblk, V_main_arg0, V_main_arg1, V_main_arg2, idx t, row]

/-- … and of the gradient of the norm's scale. -/
theorem step5 (c : Dev nD) (t : Fin cfg0.N) (a : Vec Ideal S1x1024 .f32) (j : S1x1024.Idx) :
    k0_pay6 (F := Ideal) (k0_pay11 (F := Ideal) (iblk m c 0 t)) (k0_pay13 (F := Ideal) (iblk m c 2 t) (iblk m c 0 t) (iblk m c 1 t)) (k0_pay15 (F := Ideal)) a j
      = a j + ∑ k : Fin 512, val_main_v31 (F := Ideal) (m ((c : Thread nD τ).loc main_arg0)) (m ((c : Thread nD τ).loc main_arg1)) (m ((c : Thread nD τ).loc main_arg2)) (ix2 (row t k) (j 1)) := by
  pointwise [k0_pay6, k0_pay1, k0_pay13, k0_pay15, k0_pay12, k0_pay11, k0_pay9, k0_pay8, k0_pay7, val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_v16, val_main_v17, val_main_cst_3, val_main_v18, val_main_v19, val_main_cst_4, val_main_v20, val_main_cst_5, val_main_v21, val_main_v22, val_main_cst_6, val_main_v23, val_main_cst_7, val_main_v24, val_main_cst_8, val_main_cst_9, val_main_v25, val_main_v26, val_main_cst_10, val_main_v27, val_main_v28, val_main_v29, val_main_v30, val_main_v31, val_main_cst_11, val_main_v32, val_main_v33, val_main_v34, val_main_v35, val_main_cst_12, val_main_v36, val_main_v37, val_main_cst_13, val_main_v38, val_main_v39, val_main_v40, val_main_v41, val_main_v42, val_main_cst_14, val_main_v43, val_main_v44, val_main_cst_15, val_main_v45, val_main_v46, val_main_v47, val_main_v48, val_main_v49, val_main_v50, val_main_v51, val_main_v52]
  simp only [Fin.sum_univ_one, Cert.Consts.half_div_one]
  blk_point [iblk, V_main_arg0, V_main_arg1, V_main_arg2, idx t, row]

theorem zero3 (j : S8x128.Idx) : k0_pay3 (F := Ideal) j = 0 := by
  pointwise [k0_pay3]

theorem zero5 (j : S1x1024.Idx) : k0_pay4 (F := Ideal) j = 0 := by
  pointwise [k0_pay4]

theorem ref3 (c : Dev nD) (j : S8x128.Idx) : val_main_v51 (F := Ideal) (m ((c : Thread nD τ).loc main_arg0)) (m ((c : Thread nD τ).loc main_arg1)) (m ((c : Thread nD τ).loc main_arg2)) j
    = ∑ r : Fin 4096, val_main_v20 (F := Ideal) (m ((c : Thread nD τ).loc main_arg0)) (m ((c : Thread nD τ).loc main_arg1)) (m ((c : Thread nD τ).loc main_arg2)) (ix1 r) * Ideal.ofBits .f32 0x3A000000#32 := by
  pointwise [val_main_v51, val_main_v24, val_main_v23, val_main_v22, val_main_v21, val_main_cst_5, val_main_cst_6, val_main_cst_7]
  rw [Cert.Consts.half, ← Cert.Consts.sum_coe_mul _ _ _ (by norm_num), ← Cert.Consts.half]
  simp only [Cert.Consts.half_div]

theorem ref5 (c : Dev nD) (j : S1x1024.Idx) : val_main_v52 (F := Ideal) (m ((c : Thread nD τ).loc main_arg0)) (m ((c : Thread nD τ).loc main_arg1)) (m ((c : Thread nD τ).loc main_arg2)) j
    = ∑ r : Fin 4096, val_main_v31 (F := Ideal) (m ((c : Thread nD τ).loc main_arg0)) (m ((c : Thread nD τ).loc main_arg1)) (m ((c : Thread nD τ).loc main_arg2)) (ix2 r (j 1)) := by
  pointwise [val_main_v52, val_main_v36, val_main_v33, val_main_v32, val_main_cst_11, val_main_cst_12]
  rw [Fin.sum_univ_one]

theorem final3 (c : Dev nD) : (dats m 0 c).arrAt 3 cfg0.N = val_main_v51 (F := Ideal) (m ((c : Thread nD τ).loc main_arg0)) (m ((c : Thread nD τ).loc main_arg1)) (m ((c : Thread nD τ).loc main_arg2)) := by
  refine (dats m 0 c).arrAt_eq_of_after_last 3 t0_7 (by decide +kernel) _ fun j => ?_
  blk_simp
  rw [after0_3, Pipeline.eq_sum_fin_of_reset_step_apply_last (fun n h => (outsAt0 m c n h).1) 8 (fun _ => 0) _
    (fun t h j => by rw [outsAt0_A m c t h]; frame_out; rw [step3, zero3])
    (fun t h j => by rw [outsAt0_B m c t h]; frame_out; rw [step3]) (le_of_eq N_0) t0_7 rfl j, zero_add, ref3]
  simp only [Cert.Consts.halfMean, ← Cert.Consts.sum_mul_coe _ _ (1 / 2048 : ℝ) (by norm_num)]
  refine Fin.sum_mul_add_congr fun t k hl => ?_
  blk_point [row]

theorem final5 (c : Dev nD) : (dats m 0 c).arrAt 5 cfg0.N = val_main_v52 (F := Ideal) (m ((c : Thread nD τ).loc main_arg0)) (m ((c : Thread nD τ).loc main_arg1)) (m ((c : Thread nD τ).loc main_arg2)) := by
  refine (dats m 0 c).arrAt_eq_of_after_last 5 t0_7 (by decide +kernel) _ fun j => ?_
  blk_simp
  rw [after0_5, Pipeline.eq_sum_fin_of_reset_step_apply_last (fun n h => (outsAt0 m c n h).2.2) 8 (fun _ => 0) _
    (fun t h j => by rw [outsAt0_A m c t h]; frame_out; rw [step5, zero5])
    (fun t h j => by rw [outsAt0_B m c t h]; frame_out; rw [step5]) (le_of_eq N_0) t0_7 rfl j, zero_add, ref5]
  refine Fin.sum_mul_add_congr fun t k hl => ?_
  blk_point [row]

end Cert.LossIdeal.Norm

open Cert.LossRefIdeal.Read in
theorem Cert.LossIdeal.algebraic : Cert.algebraic_LossIdeal_LossRefIdeal := by
  pair_intro
  · run_from Cert.LossIdeal.Value.run_blocks m g
  · run_from Cert.LossRefIdeal.Value.run m' g'
    · exact (val_main_v51_eq _ _ _).trans (Cert.LossIdeal.Norm.final3 m c).symm
    · rw [val_main_v50_eq, (hagree c).1, (hagree c).2.1, (hagree c).2.2]
      exact (Cert.LossIdeal.Norm.final4 m c).symm
    · exact (val_main_v52_eq _ _ _).trans (Cert.LossIdeal.Norm.final5 m c).symm
-- ==== Proof.InECols.lean ====
module

public import proofs.«01_k».proof.Defs
public import proofs.«01_k».proof.Proof.Gen.InEIdeal.Value
public import Idealize.ShloMosaic.Lib.Claim
public import proofs.«01_k».proof.Proof.Consts
public import proofs.«01_k».proof.Proof.Gen.InERefIdeal.Run
public import proofs.«01_k».proof.Proof.Gen.InERefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.InEIdeal.Cols
open Cert.InEIdeal Cert.InEIdeal.Gen
open Cert.InERefIdeal.Read

section Cols
variable {F : FTy → Type} [FloatOps F]
/-- The weight's columns in the kernel's order, as the host lays them out. -/
def wcols (x : (⟨S1024x4864, .f32⟩ : BufTy).Contents (Elt F)) : (⟨S1024x4864, .bf16⟩ : BufTy).Contents (Elt F) :=
  concatenate S1024x4864 1
    [⟨S1024x512, (extractStridedSlice S1024x512 ![0, 0] (truncf .bf16 x bitsLt_bf16_f32 : (⟨S1024x4864, .bf16⟩ : BufTy).Contents (Elt F)) slices_S1024x4864_S1024x512_0_0 : (⟨S1024x512, .bf16⟩ : BufTy).Contents (Elt F))⟩,
     ⟨S1024x512, (extractStridedSlice S1024x512 ![0, 768] (truncf .bf16 x bitsLt_bf16_f32 : (⟨S1024x4864, .bf16⟩ : BufTy).Contents (Elt F)) slices_S1024x4864_S1024x512_0_768 : (⟨S1024x512, .bf16⟩ : BufTy).Contents (Elt F))⟩,
     ⟨S1024x512, (extractStridedSlice S1024x512 ![0, 1280] (truncf .bf16 x bitsLt_bf16_f32 : (⟨S1024x4864, .bf16⟩ : BufTy).Contents (Elt F)) slices_S1024x4864_S1024x512_0_1280 : (⟨S1024x512, .bf16⟩ : BufTy).Contents (Elt F))⟩,
     ⟨S1024x512, (extractStridedSlice S1024x512 ![0, 1792] (truncf .bf16 x bitsLt_bf16_f32 : (⟨S1024x4864, .bf16⟩ : BufTy).Contents (Elt F)) slices_S1024x4864_S1024x512_0_1792 : (⟨S1024x512, .bf16⟩ : BufTy).Contents (Elt F))⟩,
     ⟨S1024x512, (extractStridedSlice S1024x512 ![0, 2304] (truncf .bf16 x bitsLt_bf16_f32 : (⟨S1024x4864, .bf16⟩ : BufTy).Contents (Elt F)) slices_S1024x4864_S1024x512_0_2304 : (⟨S1024x512, .bf16⟩ : BufTy).Contents (Elt F))⟩,
     ⟨S1024x512, (extractStridedSlice S1024x512 ![0, 2816] (truncf .bf16 x bitsLt_bf16_f32 : (⟨S1024x4864, .bf16⟩ : BufTy).Contents (Elt F)) slices_S1024x4864_S1024x512_0_2816 : (⟨S1024x512, .bf16⟩ : BufTy).Contents (Elt F))⟩,
     ⟨S1024x512, (extractStridedSlice S1024x512 ![0, 3328] (truncf .bf16 x bitsLt_bf16_f32 : (⟨S1024x4864, .bf16⟩ : BufTy).Contents (Elt F)) slices_S1024x4864_S1024x512_0_3328 : (⟨S1024x512, .bf16⟩ : BufTy).Contents (Elt F))⟩,
     ⟨S1024x512, (extractStridedSlice S1024x512 ![0, 3840] (truncf .bf16 x bitsLt_bf16_f32 : (⟨S1024x4864, .bf16⟩ : BufTy).Contents (Elt F)) slices_S1024x4864_S1024x512_0_3840 : (⟨S1024x512, .bf16⟩ : BufTy).Contents (Elt F))⟩,
     ⟨S1024x512, (extractStridedSlice S1024x512 ![0, 4352] (truncf .bf16 x bitsLt_bf16_f32 : (⟨S1024x4864, .bf16⟩ : BufTy).Contents (Elt F)) slices_S1024x4864_S1024x512_0_4352 : (⟨S1024x512, .bf16⟩ : BufTy).Contents (Elt F))⟩,
     ⟨S1024x128, (extractStridedSlice S1024x128 ![0, 512] (truncf .bf16 x bitsLt_bf16_f32 : (⟨S1024x4864, .bf16⟩ : BufTy).Contents (Elt F)) slices_S1024x4864_S1024x128_0_512 : (⟨S1024x128, .bf16⟩ : BufTy).Contents (Elt F))⟩,
     ⟨S1024x128, (extractStridedSlice S1024x128 ![0, 640] (truncf .bf16 x bitsLt_bf16_f32 : (⟨S1024x4864, .bf16⟩ : BufTy).Contents (Elt F)) slices_S1024x4864_S1024x128_0_640 : (⟨S1024x128, .bf16⟩ : BufTy).Contents (Elt F))⟩]
    concatenates_S1024x512_S1024x512_S1024x512_S1024x512_S1024x512_S1024x512_S1024x512_S1024x512_S1024x512_S1024x128_S1024x128_S1024x4864_d1

theorem V_w (m : (ℓ : Loc nD τ sig) → Buf (Elt F) ℓ) (c : Dev nD) : V m c main_v12 = wcols (m ((c : Thread nD τ).loc main_arg2)) := by
  unfold V
  after_results
  rfl
end Cols

variable (m : (ℓ : Loc nD τ sig) → Buf (Elt Ideal) ℓ)
/-- The reference's column of the kernel's column `k`. -/
def col (k : Fin 4864) : Fin 4864 :=
  ⟨if k.val < 512 then k.val else if k.val < 4608 then k.val + 256 else k.val - 4096, by have := k.isLt; split_ifs <;> omega⟩

theorem wcols_apply (x : (⟨S1024x4864, .f32⟩ : BufTy).Contents (Elt Ideal)) (r : Fin 1024) (k : Fin 4864) : wcols (F := Ideal) x (ix2 r k) = x (ix2 r (col k)) := by
  pointwise [wcols]
  repeat' refine Cert.Consts.dite_eq_of (fun h => ?_) (fun h => ?_)
  all_goals exact congrArg (fun k => x (ix2 r k)) (Fin.ext (by simp only [col]; split_ifs <;> omega))

theorem col_val (k : Fin 4864) : k.val < 512 ∧ (col k).val = k.val ∨ (512 ≤ k.val ∧ k.val < 4608) ∧ (col k).val = k.val + 256
    ∨ 4608 ≤ k.val ∧ (col k).val = k.val - 4096 := by
  simp only [col]
  split_ifs <;> omega

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![t.val, 0] ∧ win0_9.index t = ![t.val, 0] ∧ win0_10.index t = ![t.val, 0]
    ∧ win0_11.index t = ![t.val, 0] ∧ win0_12.index t = ![0, 0] ∧ win0_13.index t = ![t.val, 0] ∧ win0_14.index t = ![0, 0]
    ∧ win0_15.index t = ![t.val, 0] ∧ win0_16.index t = ![t.val, 0] ∧ win0_17.index t = ![t.val, 0] ∧ win0_18.index t = ![0, 0] :=
  (by decide +kernel : ∀ t : Fin grid0.N, _)

/-- Row `k` of the tile of point `t`. -/
def row (t : Fin cfg0.N) (k : Fin 256) : Fin 4096 :=
  ⟨t.val * 256 + k.val, by have := lt_of_lt_of_eq t.isLt N_0; omega⟩

set_option maxHeartbeats 2000000 in
theorem dp_eq (c : Dev nD) (t : Fin cfg0.N) (a : Fin 256) (k : Fin 4864) :
    k0_pay3 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 a k) = val_main_v44 (F := Ideal) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (ix2 (row t a) (col k)) := by
  pointwise [k0_pay3, val_main_v29, val_main_v30, val_main_v31, val_main_v32, val_main_v33, val_main_v34, val_main_v35, val_main_v36, val_main_v37, val_main_v38, val_main_v39, val_main_v40, val_main_v41, val_main_v42, val_main_v43, val_main_v44]
  have hc := col_val k
  repeat' refine Cert.Consts.dite_eq_of (fun h => ?_) (fun h => ?_)
  all_goals simp (disch := omega) only [dif_pos, dif_neg]
  all_goals blk_point [iblk, V_main_arg3, V_main_arg4, V_main_arg5, V_main_arg6, V_main_arg7, V_main_arg8, V_main_arg9, V_main_arg10, V_main_arg11, V_main_arg12, V_main_arg13, V_main_arg14, idx t, row]

end Cert.InEIdeal.Cols
-- ==== Proof.InERefNamed.lean ====
module

public import proofs.«01_k».proof.Proof.Gen.InERefIdeal.Run
public import proofs.«01_k».proof.Proof.Gen.InERefIdeal.Read

@[expose] public section

noncomputable section

open Idealize.ShloMosaic Idealize.ShloMosaic.TcCoe Idealize.SL.Sem

namespace Cert.InERefIdeal.Named
open Cert.InERefIdeal Cert.InERefIdeal.Gen Cert.InERefIdeal.Value Cert.InERefIdeal.Read

/-- The reference's run, each result stated by the named stage that computes it. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v78) = val_main_v78 (F := Ideal) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
      ∧ r.2.mem ((c.tc : Thread nD τ).loc main_v79) = val_main_v79 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))
      ∧ r.2.mem ((c.tc : Thread nD τ).loc main_v80) = val_main_v80 (F := Ideal) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
      ∧ r.2.mem ((c.tc : Thread nD τ).loc main_arg0) = (m ((c.tc : Thread nD τ).loc main_arg0))
      ∧ r.2.mem ((c.tc : Thread nD τ).loc main_arg1) = (m ((c.tc : Thread nD τ).loc main_arg1))
      ∧ r.2.mem ((c.tc : Thread nD τ).loc main_arg2) = (m ((c.tc : Thread nD τ).loc main_arg2))
      ∧ r.2.mem ((c.tc : Thread nD τ).loc main_arg3) = (m ((c.tc : Thread nD τ).loc main_arg3))
      ∧ r.2.mem ((c.tc : Thread nD τ).loc main_arg4) = (m ((c.tc : Thread nD τ).loc main_arg4))
      ∧ r.2.mem ((c.tc : Thread nD τ).loc main_arg5) = (m ((c.tc : Thread nD τ).loc main_arg5))
      ∧ r.2.mem ((c.tc : Thread nD τ).loc main_arg6) = (m ((c.tc : Thread nD τ).loc main_arg6))
      ∧ r.2.mem ((c.tc : Thread nD τ).loc main_arg7) = (m ((c.tc : Thread nD τ).loc main_arg7))
      ∧ r.2.mem ((c.tc : Thread nD τ).loc main_arg8) = (m ((c.tc : Thread nD τ).loc main_arg8))
      ∧ r.2.mem ((c.tc : Thread nD τ).loc main_arg9) = (m ((c.tc : Thread nD τ).loc main_arg9))
      ∧ r.2.mem ((c.tc : Thread nD τ).loc main_arg10) = (m ((c.tc : Thread nD τ).loc main_arg10))
      ∧ r.2.mem ((c.tc : Thread nD τ).loc main_arg11) = (m ((c.tc : Thread nD τ).loc main_arg11))
      ∧ r.2.mem ((c.tc : Thread nD τ).loc main_arg12) = (m ((c.tc : Thread nD τ).loc main_arg12))
      ∧ r.2.mem ((c.tc : Thread nD τ).loc main_arg13) = (m ((c.tc : Thread nD τ).loc main_arg13))
      ∧ r.2.mem ((c.tc : Thread nD τ).loc main_arg14) = (m ((c.tc : Thread nD τ).loc main_arg14))
      ∧ r.2.mem ((c.tc : Thread nD τ).loc main_arg15) = (m ((c.tc : Thread nD τ).loc main_arg15)) :=
  (θ_run defs _ _).mono (fun _ h c => ⟨(h c).1.trans (val_main_v78_eq (F := Ideal) m c), (h c).2.1.trans (val_main_v79_eq (F := Ideal) m c), (h c).2.2.1.trans (val_main_v80_eq (F := Ideal) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))), (h c).2.2.2⟩) (Cert.InERefIdeal.Value.run m ρ)

end Cert.InERefIdeal.Named
-- ==== Proof.InEValue.lean ====
module

public import proofs.«01_k».proof.Defs
public import proofs.«01_k».proof.Proof.Gen.InEIdeal.Value
public import Idealize.ShloMosaic.Lib.Claim
public import proofs.«01_k».proof.Proof.InECols
public import proofs.«01_k».proof.Proof.Gen.InERefIdeal.Run
public import proofs.«01_k».proof.Proof.InERefNamed
public import proofs.«01_k».proof.Proof.Gen.InERefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.InEIdeal.Norm
open Cert.InEIdeal Cert.InEIdeal.Gen Cert.InEIdeal.Cols
open Cert.InERefIdeal.Read
variable (m : (ℓ : Loc nD τ sig) → Buf (Elt Ideal) ℓ)

/-- The order of the columns is a permutation. -/
def colEquiv : Fin 4864 ≃ Fin 4864 where
  toFun := col
  invFun k := ⟨if k.val < 512 then k.val else if k.val < 768 then k.val + 4096 else k.val - 256, by have := k.isLt; split_ifs <;> omega⟩
  left_inv k := by
    have h := col_val k
    apply Fin.ext
    dsimp only
    split_ifs <;> omega
  right_inv k := by
    apply Fin.ext
    simp only [col]
    split_ifs <;> omega

theorem w_eq (c : Dev nD) (t : Fin cfg0.N) (e : Fin 1024) (k : Fin 4864) :
    iblk m c 12 t (ix2 e k : S1024x4864.Idx) = m ((c : Thread nD τ).loc main_arg2) (ix2 e (col k)) := by
  rw [← wcols_apply (m ((c : Thread nD τ).loc main_arg2)) e k, ← V_w]
  blk_ext [iblk, idx t]

theorem g_eq (c : Dev nD) (t : Fin cfg0.N) (e : Fin 1024) :
    iblk m c 14 t (ix2 0 e : S1x1024.Idx) = m ((c : Thread nD τ).loc main_arg1) (ix1 e) := by
  have h : V m c main_v13 = shapeCast S1x1024 (m ((c : Thread nD τ).loc main_arg1)) shapeCasts_S1024_S1x1024 := by
    unfold V
    after_results
    rfl
  have h2 : shapeCast S1x1024 (m ((c : Thread nD τ).loc main_arg1)) shapeCasts_S1024_S1x1024 (ix2 0 e) = m ((c : Thread nD τ).loc main_arg1) (ix1 e) := by
    pointwise
  rw [← h2, ← h]
  blk_ext [iblk, idx t]

theorem dot_eq (c : Dev nD) (t : Fin cfg0.N) (a : Fin 256) (e : Fin 1024) :
    k0_pay6 (F := Ideal) (k0_pay3 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) (iblk m c 12 t) (ix2 a e)
      = val_main_v45 (F := Ideal) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (ix2 (row t a) e) := by
  pointwise [k0_pay6, val_main_v45]
  simp only [dp_eq]
  simp only [w_eq]
  exact Equiv.sum_comp colEquiv (fun k => val_main_v44 (F := Ideal) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (ix2 (row t a) k) * m ((c : Thread nD τ).loc main_arg2) (ix2 e k))

theorem point17 (c : Dev nD) (t : Fin cfg0.N) (a : Fin 256) (e : Fin 1024) :
    k0_pay8 (F := Ideal) (k0_pay3 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) (iblk m c 13 t) (iblk m c 14 t) (iblk m c 12 t) (iblk m c 15 t) (ix2 a e)
      = val_main_v79 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (ix2 (row t a) e) := by
  pointwise [k0_pay8, k0_pay5, k0_pay4, val_main_cst, val_main_cst_0, val_main_cst_1, val_main_cst_2, val_main_cst_3, val_main_cst_4, val_main_cst_5, val_main_cst_6, val_main_cst_7, val_main_v0, val_main_v1, val_main_v2, val_main_v3, val_main_v4, val_main_v5, val_main_v6, val_main_v7, val_main_v8, val_main_v9, val_main_v10, val_main_v11, val_main_v12, val_main_v13, val_main_v14, val_main_v15, val_main_v48, val_main_v49, val_main_v50, val_main_v51, val_main_v52, val_main_v53, val_main_v54, val_main_v55, val_main_v56, val_main_v57, val_main_v58, val_main_v59, val_main_v60, val_main_v61, val_main_v62, val_main_v63, val_main_v64, val_main_v65, val_main_v79]
  simp only [dot_eq, g_eq, Fin.sum_univ_one]
  blk_point [iblk, V_main_arg0, V_main_arg1, V_main_arg15, idx t, row]

set_option maxHeartbeats 2000000 in
theorem ref16 (c : Dev nD) (r : Fin 4096) (k : Fin 4864) :
    val_main_v78 (F := Ideal) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (ix2 r k) = val_main_v44 (F := Ideal) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (ix2 r (col k)) := by
  unfold val_main_v78 val_main_v67 val_main_v68 val_main_v69 val_main_v70 val_main_v71 val_main_v72 val_main_v73 val_main_v74 val_main_v75 val_main_v76 val_main_v77 val_main_v66
  generalize val_main_v44 (F := Ideal) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) = X
  pointwise
  have hc := col_val k
  repeat' refine Cert.Consts.dite_eq_of (fun h => ?_) (fun h => ?_)
  all_goals exact congrArg (fun k => X (ix2 r k)) (Fin.ext (by first | omega | (dsimp only; omega)))

theorem point16 (c : Dev nD) (t : Fin cfg0.N) (y : S256x4864.Idx) (i : S4096x4864.Idx) (h0 : (i 0 : ℕ) = t.val * 256 + y 0) (h1 : (i 1 : ℕ) = y 1) :
    k0_pay3 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) y = val_main_v78 (F := Ideal) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) i := by
  have hi : i = ix2 (row t (y 0)) (y 1) := (eq_ix2 i).trans (congrArg₂ ix2 (Fin.ext h0) (Fin.ext h1))
  rw [hi]
  exact (congrArg _ (eq_ix2 y)).trans ((dp_eq m c t (y 0) (y 1)).trans (ref16 m c (row t (y 0)) (y 1)).symm)

theorem final16 (c : Dev nD) : (dats m 0 c).arrAt 16 cfg0.N = val_main_v78 (F := Ideal) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  refine (dats m 0 c).arrAt_eq_of_covers 16 _ (by decide +kernel) fun t _ y => ?_
  blk_simp
  rw [after0_16]
  by_cases h : t.val % 16 = 0
  · rw [outsAt0_A m c t h]
    frame_out
    refine point16 m c t y _ ?_ ?_
    all_goals (blk_simp [idx t] <;> try omega)
  · rw [outsAt0_B m c t h]
    frame_out
    refine point16 m c t y _ ?_ ?_
    all_goals (blk_simp [idx t] <;> try omega)

theorem point17' (c : Dev nD) (t : Fin cfg0.N) (y : S256x1024.Idx) (i : S4096x1024.Idx) (h0 : (i 0 : ℕ) = t.val * 256 + y 0) (h1 : (i 1 : ℕ) = y 1) :
    k0_pay8 (F := Ideal) (k0_pay3 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) (iblk m c 13 t) (iblk m c 14 t) (iblk m c 12 t) (iblk m c 15 t) y
      = val_main_v79 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) i := by
  have hi : i = ix2 (row t (y 0)) (y 1) := (eq_ix2 i).trans (congrArg₂ ix2 (Fin.ext h0) (Fin.ext h1))
  rw [hi]
  exact (congrArg _ (eq_ix2 y)).trans (point17 m c t (y 0) (y 1))

theorem final17 (c : Dev nD) : (dats m 0 c).arrAt 17 cfg0.N = val_main_v79 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  refine (dats m 0 c).arrAt_eq_of_covers 17 _ (by decide +kernel) fun t _ y => ?_
  blk_simp
  rw [after0_17]
  by_cases h : t.val % 16 = 0
  · rw [outsAt0_A m c t h]
    frame_out
    refine point17' m c t y _ ?_ ?_
    all_goals (blk_simp [idx t] <;> try omega)
  · rw [outsAt0_B m c t h]
    frame_out
    refine point17' m c t y _ ?_ ?_
    all_goals (blk_simp [idx t] <;> try omega)

set_option backward.isDefEq.respectTransparency false in
/-- One point adds its tile's part of the gradient of the norm's scale. -/
theorem step18 (c : Dev nD) (t : Fin cfg0.N) (b : Vec Ideal S1x1024 .f32) (j : S1x1024.Idx) :
    k0_pay1 (F := Ideal) (k0_pay7 (F := Ideal) (k0_pay3 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) (iblk m c 13 t) (iblk m c 12 t)) b j
      = b j + ∑ k : Fin 256, val_main_v46 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (ix2 (row t k) (j 1)) := by
  pointwise [k0_pay1, k0_pay7, k0_pay5, k0_pay4, val_main_cst, val_main_cst_0, val_main_cst_1, val_main_v0, val_main_v1, val_main_v2, val_main_v3, val_main_v4, val_main_v5, val_main_v6, val_main_v7, val_main_v11, val_main_v12, val_main_v46]
  simp only [dot_eq]
  blk_point [iblk, V_main_arg0, idx t, row]

theorem zero18 (j : S1x1024.Idx) : k0_pay2 (F := Ideal) j = 0 := by
  pointwise [k0_pay2]

theorem ref18 (c : Dev nD) (j : S1x1024.Idx) : val_main_v80 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) j
    = ∑ r : Fin 4096, val_main_v46 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (ix2 r (j 1)) := by
  pointwise [val_main_v80, val_main_v51, val_main_v48, val_main_v47, val_main_cst_3, val_main_cst_4]
  rw [Fin.sum_univ_one]

theorem final18 (c : Dev nD) : (dats m 0 c).arrAt 18 cfg0.N = val_main_v80 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  refine (dats m 0 c).arrAt_eq_of_after_last 18 t0_15 (by decide +kernel) _ fun j => ?_
  blk_simp
  rw [after0_18, Pipeline.eq_sum_fin_of_reset_step_apply_last (fun n h => (outsAt0 m c n h).2.2) 16 (fun _ => 0) _
    (fun t h j => by rw [outsAt0_A m c t h]; frame_out; rw [step18, zero18])
    (fun t h j => by rw [outsAt0_B m c t h]; frame_out; rw [step18]) (le_of_eq N_0) t0_15 rfl j, zero_add, ref18]
  refine Fin.sum_mul_add_congr fun t k hl => ?_
  blk_point [row]

end Cert.InEIdeal.Norm

theorem Cert.InEIdeal.algebraic : Cert.algebraic_InEIdeal_InERefIdeal := by
  pair_intro
  · run_from Cert.InEIdeal.Value.run_blocks m g
  · run_from Cert.InERefIdeal.Named.run m' g'
    · exact (Cert.InEIdeal.Norm.final16 m c).symm
    · exact (Cert.InEIdeal.Norm.final17 m c).symm
    · exact (Cert.InEIdeal.Norm.final18 m c).symm
-- ==== Proof.InOCols.lean ====
module

public import proofs.«01_k».proof.Defs
public import proofs.«01_k».proof.Proof.Gen.InOIdeal.Value
public import Idealize.ShloMosaic.Lib.Claim
public import proofs.«01_k».proof.Proof.Consts
public import proofs.«01_k».proof.Proof.Gen.InORefIdeal.Run
public import proofs.«01_k».proof.Proof.Gen.InORefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.InOIdeal.Cols
open Cert.InOIdeal Cert.InOIdeal.Gen
open Cert.InORefIdeal.Read

section Cols
variable {F : FTy → Type} [FloatOps F]
/-- The weight's columns in the kernel's order and 96 columns of zeros, as the host lays them out. -/
def wcols (x : (⟨S1024x4128, .f32⟩ : BufTy).Contents (Elt F)) : (⟨S1024x4224, .bf16⟩ : BufTy).Contents (Elt F) :=
  concatenate S1024x4224 1
    [⟨S1024x512, (extractStridedSlice S1024x512 ![0, 0] (truncf .bf16 x bitsLt_bf16_f32 : (⟨S1024x4128, .bf16⟩ : BufTy).Contents (Elt F)) slices_S1024x4128_S1024x512_0_0 : (⟨S1024x512, .bf16⟩ : BufTy).Contents (Elt F))⟩,
     ⟨S1024x512, (extractStridedSlice S1024x512 ![0, 512] (truncf .bf16 x bitsLt_bf16_f32 : (⟨S1024x4128, .bf16⟩ : BufTy).Contents (Elt F)) slices_S1024x4128_S1024x512_0_512 : (⟨S1024x512, .bf16⟩ : BufTy).Contents (Elt F))⟩,
     ⟨S1024x1024, (extractStridedSlice S1024x1024 ![0, 1024] (truncf .bf16 x bitsLt_bf16_f32 : (⟨S1024x4128, .bf16⟩ : BufTy).Contents (Elt F)) slices_S1024x4128_S1024x1024_0_1024 : (⟨S1024x1024, .bf16⟩ : BufTy).Contents (Elt F))⟩,
     ⟨S1024x1024, (extractStridedSlice S1024x1024 ![0, 2048] (truncf .bf16 x bitsLt_bf16_f32 : (⟨S1024x4128, .bf16⟩ : BufTy).Contents (Elt F)) slices_S1024x4128_S1024x1024_0_2048 : (⟨S1024x1024, .bf16⟩ : BufTy).Contents (Elt F))⟩,
     ⟨S1024x512, (extractStridedSlice S1024x512 ![0, 3104] (truncf .bf16 x bitsLt_bf16_f32 : (⟨S1024x4128, .bf16⟩ : BufTy).Contents (Elt F)) slices_S1024x4128_S1024x512_0_3104 : (⟨S1024x512, .bf16⟩ : BufTy).Contents (Elt F))⟩,
     ⟨S1024x512, (extractStridedSlice S1024x512 ![0, 3616] (truncf .bf16 x bitsLt_bf16_f32 : (⟨S1024x4128, .bf16⟩ : BufTy).Contents (Elt F)) slices_S1024x4128_S1024x512_0_3616 : (⟨S1024x512, .bf16⟩ : BufTy).Contents (Elt F))⟩,
     ⟨S1024x32, (extractStridedSlice S1024x32 ![0, 3072] (truncf .bf16 x bitsLt_bf16_f32 : (⟨S1024x4128, .bf16⟩ : BufTy).Contents (Elt F)) slices_S1024x4128_S1024x32_0_3072 : (⟨S1024x32, .bf16⟩ : BufTy).Contents (Elt F))⟩,
     ⟨S1024x96, (broadcastInDim S1024x96 ![] bcast_S_S1024x96 (constant S_ .bf16 0x0000#16 : (⟨S_, .bf16⟩ : BufTy).Contents (Elt F)) : (⟨S1024x96, .bf16⟩ : BufTy).Contents (Elt F))⟩]
    concatenates_S1024x512_S1024x512_S1024x1024_S1024x1024_S1024x512_S1024x512_S1024x32_S1024x96_S1024x4224_d1

variable (m : (ℓ : Loc nD τ sig) → Buf (Elt F) ℓ) (c : Dev nD)
theorem V_w : V m c main_v11 = wcols (m ((c : Thread nD τ).loc main_arg2)) := by
  unfold V
  simp only [hostOps0, hostOps0_1, hostOps0_2, hostOps0_3, hostOps0_4, List.flatten_cons, List.flatten_nil, List.append_nil, List.cons_append, List.nil_append]
  after_results
  rfl

theorem V_g : V m c main_v12 = shapeCast S1x1024 (m ((c : Thread nD τ).loc main_arg1)) shapeCasts_S1024_S1x1024 := by
  unfold V
  simp only [hostOps0, hostOps0_1, hostOps0_2, hostOps0_3, hostOps0_4, List.flatten_cons, List.flatten_nil, List.append_nil, List.cons_append, List.nil_append]
  after_results
  rfl

theorem V_rf : V m c main_v0 = pad S4096x128 ![0, 0] ![0, 112] ![0, 0] (m ((c : Thread nD τ).loc main_arg12)) (sitofp .bf16 (constantI S_ 32 0#32)) pads_S4096x16_S4096x128_000_01120 h_S_ := by
  unfold V
  simp only [hostOps0, hostOps0_1, hostOps0_2, hostOps0_3, hostOps0_4, List.flatten_cons, List.flatten_nil, List.append_nil, List.cons_append, List.nil_append]
  after_results
  rfl

theorem V_rb : V m c main_v1 = pad S4096x128 ![0, 16] ![0, 96] ![0, 0] (m ((c : Thread nD τ).loc main_arg13)) (sitofp .bf16 (constantI S_ 32 0#32)) pads_S4096x16_S4096x128_000_16960 h_S_ := by
  unfold V
  simp only [hostOps0, hostOps0_1, hostOps0_2, hostOps0_3, hostOps0_4, List.flatten_cons, List.flatten_nil, List.append_nil, List.cons_append, List.nil_append]
  after_results
  rfl
end Cols

variable (m : (ℓ : Loc nD τ sig) → Buf (Elt Ideal) ℓ)
/-- The reference's column of the kernel's column `k`. -/
def col (k : Fin 4128) : Fin 4128 :=
  ⟨if k.val < 3072 then k.val else if k.val < 4096 then k.val + 32 else k.val - 1024, by have := k.isLt; split_ifs <;> omega⟩

theorem col_val (k : Fin 4128) : k.val < 3072 ∧ (col k).val = k.val ∨ (3072 ≤ k.val ∧ k.val < 4096) ∧ (col k).val = k.val + 32
    ∨ 4096 ≤ k.val ∧ (col k).val = k.val - 1024 := by
  simp only [col]
  split_ifs <;> omega

/-- The order of the columns is a permutation. -/
def colEquiv : Fin 4128 ≃ Fin 4128 where
  toFun := col
  invFun k := ⟨if k.val < 3072 then k.val else if k.val < 3104 then k.val + 1024 else k.val - 32, by have := k.isLt; split_ifs <;> omega⟩
  left_inv k := by
    have h := col_val k
    apply Fin.ext
    dsimp only
    split_ifs <;> omega
  right_inv k := by
    apply Fin.ext
    simp only [col]
    split_ifs <;> omega

/-- A row of the reference's columns as the kernel lays it out: permuted, zeros at the end. -/
def laid (f : Fin 4128 → EReal) (k : Fin 4224) : EReal := if h : k.val < 4128 then f (col ⟨k.val, h⟩) else 0

theorem sum_laid (f g : Fin 4128 → EReal) : ∑ k, laid f k * laid g k = ∑ k, f k * g k := by
  rw [show (∑ k : Fin 4224, laid f k * laid g k) = _ from Fin.sum_univ_add (M := EReal) (a := 4128) (b := 96) fun k => laid f k * laid g k]
  rw [Finset.sum_eq_zero (s := Finset.univ) (f := fun k : Fin 96 => laid f (Fin.natAdd 4128 k) * laid g (Fin.natAdd 4128 k))
    fun k _ => by simp [laid], add_zero]
  refine Eq.trans (Finset.sum_congr rfl fun k _ => ?_) (Equiv.sum_comp colEquiv fun k => f k * g k)
  simp [laid, colEquiv]

theorem wcols_apply (x : (⟨S1024x4128, .f32⟩ : BufTy).Contents (Elt Ideal)) (r : Fin 1024) (k : Fin 4224) :
    wcols (F := Ideal) x (ix2 r k) = laid (fun k => x (ix2 r k)) k := by
  unfold laid
  by_cases h : k.val < 4128
  · rw [dif_pos h]
    have hc := col_val ⟨k.val, h⟩
    pointwise [wcols]
    repeat' refine Cert.Consts.dite_eq_of (fun h => ?_) (fun h => ?_)
    all_goals first | exact congrArg (fun k => x (ix2 r k)) (Fin.ext (by dsimp only at hc ⊢; omega)) | (exfalso; omega)
  · rw [dif_neg h]
    pointwise [wcols]
    simp (disch := omega) only [dif_neg]

theorem filler : (FloatOps.sitofp (F := Ideal) .bf16 (0#32) : EReal) = 0 := by
  simp [FloatOps.sitofp]

/-- Row `r` of the first decay's columns under 112 zeros, -/
def front (x : (⟨S4096x16, .bf16⟩ : BufTy).Contents (Elt Ideal)) (r : Fin 4096) (k : Fin 128) : EReal :=
  if h : k.val < 16 then x (ix2 r ⟨k.val, h⟩) else 0

/-- and of the second's, between 16 and 96 zeros. -/
def back (x : (⟨S4096x16, .bf16⟩ : BufTy).Contents (Elt Ideal)) (r : Fin 4096) (k : Fin 128) : EReal :=
  if h : 16 ≤ k.val ∧ k.val < 32 then x (ix2 r ⟨k.val - 16, by omega⟩) else 0

theorem pad_front (x : (⟨S4096x16, .bf16⟩ : BufTy).Contents (Elt Ideal)) (r : Fin 4096) (k : Fin 128) :
    pad S4096x128 ![0, 0] ![0, 112] ![0, 0] x (sitofp (F := Ideal) .bf16 (constantI S_ 32 0#32)) pads_S4096x16_S4096x128_000_01120 h_S_ (ix2 r k)
      = front x r k := by
  unfold front
  pointwise
  rw [filler]

theorem pad_back (x : (⟨S4096x16, .bf16⟩ : BufTy).Contents (Elt Ideal)) (r : Fin 4096) (k : Fin 128) :
    pad S4096x128 ![0, 16] ![0, 96] ![0, 0] x (sitofp (F := Ideal) .bf16 (constantI S_ 32 0#32)) pads_S4096x16_S4096x128_000_16960 h_S_ (ix2 r k)
      = back x r k := by
  unfold back
  pointwise
  rw [filler]
  refine Cert.Consts.dite_eq_of (fun h => ?_) (fun h => ?_)
  · rw [dif_pos (by omega)]
  · rw [dif_neg (by omega)]

theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] ∧ win0_8.index t = ![t.val, 0] ∧ win0_9.index t = ![t.val, 0] ∧ win0_10.index t = ![t.val, 0] ∧ win0_11.index t = ![0, 0] ∧ win0_12.index t = ![t.val, 0] ∧ win0_13.index t = ![0, 0] ∧ win0_14.index t = ![t.val, 0] ∧ win0_15.index t = ![t.val, 0] ∧ win0_16.index t = ![t.val, 0] ∧ win0_17.index t = ![0, 0] :=
  (by decide +kernel : ∀ t : Fin grid0.N, _)

/-- Row `k` of the tile of point `t`. -/
def row (t : Fin cfg0.N) (k : Fin 256) : Fin 4096 :=
  ⟨t.val * 256 + k.val, by have := lt_of_lt_of_eq t.isLt N_0; omega⟩

variable (c : Dev nD)
/-- The gradient of the projections in the reference's order of columns. -/
abbrev dpRef := val_main_v39 (F := Ideal) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))
/-- The tile of it that a point puts together. -/
abbrev dpTile (t : Fin cfg0.N) := k0_pay4 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t)

theorem rf_eq (t : Fin cfg0.N) (a : Fin 256) (k : Fin 128) :
    iblk m c 9 t (ix2 a k : S256x128.Idx) = front (m ((c : Thread nD τ).loc main_arg12)) (row t a) k := by
  rw [← pad_front (m ((c : Thread nD τ).loc main_arg12)) (row t a) k, ← V_rf]
  blk_ext [iblk, idx t, row]

theorem rb_eq (t : Fin cfg0.N) (a : Fin 256) (k : Fin 128) :
    iblk m c 10 t (ix2 a k : S256x128.Idx) = back (m ((c : Thread nD τ).loc main_arg13)) (row t a) k := by
  rw [← pad_back (m ((c : Thread nD τ).loc main_arg13)) (row t a) k, ← V_rb]
  blk_ext [iblk, idx t, row]

set_option maxHeartbeats 2000000 in
theorem dp_eq (t : Fin cfg0.N) (a : Fin 256) (k : Fin 4224) :
    dpTile m c t (ix2 a k) = laid (fun k => dpRef m c (ix2 (row t a) k)) k := by
  unfold laid
  by_cases h : k.val < 4128
  · rw [dif_pos h]
    have hc := col_val ⟨k.val, h⟩
    pointwise [k0_pay4, val_main_v25, val_main_v26, val_main_v27, val_main_v28, val_main_v29, val_main_v30, val_main_v31, val_main_v32, val_main_v33, val_main_v34, val_main_v35, val_main_v36, val_main_v37, val_main_v38, val_main_v39]
    simp only [rf_eq, rb_eq]
    dsimp only at hc
    rcases (by omega : k.val < 512 ∨ (512 ≤ k.val ∧ k.val < 1024) ∨ (1024 ≤ k.val ∧ k.val < 2048) ∨ (2048 ≤ k.val ∧ k.val < 3072) ∨ (3072 ≤ k.val ∧ k.val < 3584)
      ∨ (3584 ≤ k.val ∧ k.val < 4096) ∨ (4096 ≤ k.val ∧ k.val < 4112) ∨ 4112 ≤ k.val) with hk | hk | hk | hk | hk | hk | hk | hk
    all_goals simp (disch := omega) only [front, back, dif_pos, dif_neg, add_zero, zero_add]
    all_goals blk_point [iblk, V_main_arg3, V_main_arg4, V_main_arg5, V_main_arg6, V_main_arg7, V_main_arg8, V_main_arg9, V_main_arg10, V_main_arg11, idx t, row]
  · rw [dif_neg h]
    pointwise [k0_pay4]
    simp only [rf_eq, rb_eq]
    simp (disch := omega) only [front, back, dif_neg, add_zero]

end Cert.InOIdeal.Cols
-- ==== Proof.InORefNamed.lean ====
module

public import proofs.«01_k».proof.Proof.Gen.InORefIdeal.Run
public import proofs.«01_k».proof.Proof.Gen.InORefIdeal.Read

@[expose] public section

noncomputable section

open Idealize.ShloMosaic Idealize.ShloMosaic.TcCoe Idealize.SL.Sem

namespace Cert.InORefIdeal.Named
open Cert.InORefIdeal Cert.InORefIdeal.Gen Cert.InORefIdeal.Value Cert.InORefIdeal.Read

/-- The reference's run, each result stated by the named stage that computes it. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v71) = val_main_v71 (F := Ideal) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_v72) = val_main_v72 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
      ∧ r.2.mem ((c.tc : Thread nD τ).loc main_v73) = val_main_v73 (F := Ideal) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_arg0) = (m ((c.tc : Thread nD τ).loc main_arg0))
      ∧ r.2.mem ((c.tc : Thread nD τ).loc main_arg1) = (m ((c.tc : Thread nD τ).loc main_arg1))
      ∧ r.2.mem ((c.tc : Thread nD τ).loc main_arg2) = (m ((c.tc : Thread nD τ).loc main_arg2))
      ∧ r.2.mem ((c.tc : Thread nD τ).loc main_arg3) = (m ((c.tc : Thread nD τ).loc main_arg3))
      ∧ r.2.mem ((c.tc : Thread nD τ).loc main_arg4) = (m ((c.tc : Thread nD τ).loc main_arg4))
      ∧ r.2.mem ((c.tc : Thread nD τ).loc main_arg5) = (m ((c.tc : Thread nD τ).loc main_arg5))
      ∧ r.2.mem ((c.tc : Thread nD τ).loc main_arg6) = (m ((c.tc : Thread nD τ).loc main_arg6))
      ∧ r.2.mem ((c.tc : Thread nD τ).loc main_arg7) = (m ((c.tc : Thread nD τ).loc main_arg7))
      ∧ r.2.mem ((c.tc : Thread nD τ).loc main_arg8) = (m ((c.tc : Thread nD τ).loc main_arg8))
      ∧ r.2.mem ((c.tc : Thread nD τ).loc main_arg9) = (m ((c.tc : Thread nD τ).loc main_arg9))
      ∧ r.2.mem ((c.tc : Thread nD τ).loc main_arg10) = (m ((c.tc : Thread nD τ).loc main_arg10))
      ∧ r.2.mem ((c.tc : Thread nD τ).loc main_arg11) = (m ((c.tc : Thread nD τ).loc main_arg11))
      ∧ r.2.mem ((c.tc : Thread nD τ).loc main_arg12) = (m ((c.tc : Thread nD τ).loc main_arg12))
      ∧ r.2.mem ((c.tc : Thread nD τ).loc main_arg13) = (m ((c.tc : Thread nD τ).loc main_arg13))
      ∧ r.2.mem ((c.tc : Thread nD τ).loc main_arg14) = (m ((c.tc : Thread nD τ).loc main_arg14)) :=
  (θ_run defs _ _).mono (fun _ h c => ⟨(h c).1.trans (val_main_v71_eq (F := Ideal) m c), (h c).2.1.trans (val_main_v72_eq (F := Ideal) m c), (h c).2.2.1.trans (val_main_v73_eq (F := Ideal) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))), (h c).2.2.2⟩) (Cert.InORefIdeal.Value.run m ρ)

end Cert.InORefIdeal.Named
-- ==== Proof.InOValue.lean ====
module

public import proofs.«01_k».proof.Defs
public import proofs.«01_k».proof.Proof.Gen.InOIdeal.Value
public import Idealize.ShloMosaic.Lib.Claim
public import proofs.«01_k».proof.Proof.InOCols
public import proofs.«01_k».proof.Proof.Gen.InORefIdeal.Run
public import proofs.«01_k».proof.Proof.InORefNamed
public import proofs.«01_k».proof.Proof.Gen.InORefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.InOIdeal.Norm
open Cert.InOIdeal Cert.InOIdeal.Gen Cert.InOIdeal.Cols
open Cert.InORefIdeal.Read
variable (m : (ℓ : Loc nD τ sig) → Buf (Elt Ideal) ℓ) (c : Dev nD)

theorem w_eq (t : Fin cfg0.N) (e : Fin 1024) (k : Fin 4224) : iblk m c 11 t (ix2 e k : S1024x4224.Idx) = laid (fun k => (m ((c : Thread nD τ).loc main_arg2)) (ix2 e k)) k := by
  rw [← wcols_apply (m ((c : Thread nD τ).loc main_arg2)) e k, ← V_w]
  blk_ext [iblk, idx t]

theorem g_eq (t : Fin cfg0.N) (e : Fin 1024) : iblk m c 13 t (ix2 0 e : S1x1024.Idx) = (m ((c : Thread nD τ).loc main_arg1)) (ix1 e) := by
  have h2 : shapeCast S1x1024 (m ((c : Thread nD τ).loc main_arg1)) shapeCasts_S1024_S1x1024 (ix2 0 e) = (m ((c : Thread nD τ).loc main_arg1)) (ix1 e) := by
    pointwise
  rw [← h2, ← V_g]
  blk_ext [iblk, idx t]

/-- The gradient of the normalised rows. -/
abbrev dotRef := val_main_v40 (F := Ideal) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))
/-- The gradient of the rows. -/
abbrev dxRef := val_main_v72 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))
/-- The padded gradient of the projections. -/
abbrev dpOut := val_main_v71 (F := Ideal) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))
/-- One row's part of the gradient of the norm's scale. -/
abbrev dgRows := val_main_v41 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))
/-- The gradient of the norm's scale. -/
abbrev dgRef := val_main_v73 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))

theorem dot_eq (t : Fin cfg0.N) (a : Fin 256) (e : Fin 1024) : k0_pay7 (F := Ideal) (dpTile m c t) (iblk m c 11 t) (ix2 a e) = dotRef m c (ix2 (row t a) e) := by
  pointwise [k0_pay7, val_main_v40]
  simp only [dp_eq]
  simp only [w_eq]
  exact sum_laid _ _

theorem point16 (t : Fin cfg0.N) (a : Fin 256) (e : Fin 1024) :
    k0_pay1 (F := Ideal) (k0_pay9 (F := Ideal) (dpTile m c t) (iblk m c 12 t) (iblk m c 13 t) (iblk m c 11 t)) (iblk m c 14 t) (ix2 a e) = dxRef m c (ix2 (row t a) e) := by
  pointwise [k0_pay1, k0_pay9, k0_pay6, k0_pay5, val_main_cst, val_main_cst_0, val_main_cst_1, val_main_cst_2, val_main_cst_3, val_main_cst_4, val_main_cst_5, val_main_cst_6, val_main_cst_7, val_main_v0, val_main_v1, val_main_v2, val_main_v3, val_main_v4, val_main_v5, val_main_v6, val_main_v7, val_main_v8, val_main_v9, val_main_v10, val_main_v11, val_main_v12, val_main_v13, val_main_v14, val_main_v15, val_main_v44, val_main_v45, val_main_v47, val_main_v48, val_main_v49, val_main_v50, val_main_v51, val_main_v52, val_main_v53, val_main_v54, val_main_v55, val_main_v56, val_main_v57, val_main_v58, val_main_v59, val_main_v60, val_main_v72]
  simp only [dot_eq, g_eq, Fin.sum_univ_one]
  blk_point [iblk, V_main_arg0, V_main_arg1, V_main_arg14, idx t, row]

theorem ref15 (r : Fin 4096) (k : Fin 4224) : dpOut m c (ix2 r k) = laid (fun k => dpRef m c (ix2 r k)) k := by
  unfold dpOut dpRef val_main_v71 val_main_v70 val_main_v61 val_main_v62 val_main_v63 val_main_v64 val_main_v65 val_main_v66 val_main_v67 val_main_v68 val_main_v69
  generalize val_main_v39 (F := Ideal) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) = X
  unfold laid
  by_cases h : k.val < 4128
  · rw [dif_pos h]
    have hc := col_val ⟨k.val, h⟩
    pointwise
    repeat' refine Cert.Consts.dite_eq_of (fun h => ?_) (fun h => ?_)
    all_goals first | exact congrArg (fun k => X (ix2 r k)) (Fin.ext (by dsimp only at hc ⊢; omega)) | (exfalso; omega)
  · rw [dif_neg h]
    pointwise [val_main_cst_8]
    simp (disch := omega) only [dif_neg]

theorem point15 (t : Fin cfg0.N) (y : S256x4224.Idx) (i : S4096x4224.Idx) (h0 : (i 0 : ℕ) = t.val * 256 + y 0) (h1 : (i 1 : ℕ) = y 1) :
    dpTile m c t y = dpOut m c i := by
  have hi : i = ix2 (row t (y 0)) (y 1) := (eq_ix2 i).trans (congrArg₂ ix2 (Fin.ext h0) (Fin.ext h1))
  rw [hi]
  exact (congrArg _ (eq_ix2 y)).trans ((dp_eq m c t (y 0) (y 1)).trans (ref15 m c (row t (y 0)) (y 1)).symm)

theorem point16' (t : Fin cfg0.N) (y : S256x1024.Idx) (i : S4096x1024.Idx) (h0 : (i 0 : ℕ) = t.val * 256 + y 0) (h1 : (i 1 : ℕ) = y 1) :
    k0_pay1 (F := Ideal) (k0_pay9 (F := Ideal) (dpTile m c t) (iblk m c 12 t) (iblk m c 13 t) (iblk m c 11 t)) (iblk m c 14 t) y = dxRef m c i := by
  have hi : i = ix2 (row t (y 0)) (y 1) := (eq_ix2 i).trans (congrArg₂ ix2 (Fin.ext h0) (Fin.ext h1))
  rw [hi]
  exact (congrArg _ (eq_ix2 y)).trans (point16 m c t (y 0) (y 1))

theorem final15 : (dats m 0 c).arrAt 15 cfg0.N = dpOut m c := by
  refine (dats m 0 c).arrAt_eq_of_covers 15 _ (by decide +kernel) fun t _ y => ?_
  blk_simp
  rw [after0_15]
  by_cases h : t.val % 16 = 0
  · rw [outsAt0_A m c t h]
    frame_out
    refine point15 m c t y _ ?_ ?_
    all_goals (blk_simp [idx t] <;> try omega)
  · rw [outsAt0_B m c t h]
    frame_out
    refine point15 m c t y _ ?_ ?_
    all_goals (blk_simp [idx t] <;> try omega)

theorem final16 : (dats m 0 c).arrAt 16 cfg0.N = dxRef m c := by
  refine (dats m 0 c).arrAt_eq_of_covers 16 _ (by decide +kernel) fun t _ y => ?_
  blk_simp
  rw [after0_16]
  by_cases h : t.val % 16 = 0
  · rw [outsAt0_A m c t h]
    frame_out
    refine point16' m c t y _ ?_ ?_
    all_goals (blk_simp [idx t] <;> try omega)
  · rw [outsAt0_B m c t h]
    frame_out
    refine point16' m c t y _ ?_ ?_
    all_goals (blk_simp [idx t] <;> try omega)

set_option backward.isDefEq.respectTransparency false in
/-- One point adds its tile's part of the gradient of the norm's scale. -/
theorem step17 (t : Fin cfg0.N) (b : Vec Ideal S1x1024 .f32) (j : S1x1024.Idx) :
    k0_pay2 (F := Ideal) (k0_pay8 (F := Ideal) (dpTile m c t) (iblk m c 12 t) (iblk m c 11 t)) b j = b j + ∑ k : Fin 256, dgRows m c (ix2 (row t k) (j 1)) := by
  pointwise [k0_pay2, k0_pay8, k0_pay6, k0_pay5, val_main_cst, val_main_cst_0, val_main_cst_1, val_main_v0, val_main_v1, val_main_v2, val_main_v3, val_main_v4, val_main_v5, val_main_v6, val_main_v7, val_main_v11, val_main_v12, val_main_v41]
  simp only [dot_eq]
  blk_point [iblk, V_main_arg0, idx t, row]

theorem zero17 (j : S1x1024.Idx) : k0_pay3 (F := Ideal) j = 0 := by
  pointwise [k0_pay3]

theorem ref17 (j : S1x1024.Idx) : dgRef m c j = ∑ r : Fin 4096, dgRows m c (ix2 r (j 1)) := by
  pointwise [val_main_v73, val_main_v46, val_main_v43, val_main_v42, val_main_cst_3, val_main_cst_4]
  rw [Fin.sum_univ_one]

theorem final17 : (dats m 0 c).arrAt 17 cfg0.N = dgRef m c := by
  refine (dats m 0 c).arrAt_eq_of_after_last 17 t0_15 (by decide +kernel) _ fun j => ?_
  blk_simp
  rw [after0_17, Pipeline.eq_sum_fin_of_reset_step_apply_last (fun n h => (outsAt0 m c n h).2.2) 16 (fun _ => 0) _
    (fun t h j => by rw [outsAt0_A m c t h]; frame_out; rw [step17, zero17])
    (fun t h j => by rw [outsAt0_B m c t h]; frame_out; rw [step17]) (le_of_eq N_0) t0_15 rfl j, zero_add, ref17]
  refine Fin.sum_mul_add_congr fun t k hl => ?_
  blk_point [row]

end Cert.InOIdeal.Norm

theorem Cert.InOIdeal.algebraic : Cert.algebraic_InOIdeal_InORefIdeal := by
  pair_intro
  · run_from Cert.InOIdeal.Value.run_blocks m g
  · run_from Cert.InORefIdeal.Named.run m' g'
    · exact (Cert.InOIdeal.Norm.final15 m c).symm
    · exact (Cert.InOIdeal.Norm.final16 m c).symm
    · exact (Cert.InOIdeal.Norm.final17 m c).symm
-- ==== Proof.OutRows.lean ====
module

public import Idealize.ShloMosaic.Lib.Claim
public import Idealize.ShloMosaic.Lib.Pointwise

/-! One group of one row of the gated group norm, and one gate, as functions of extended reals: the values of the norm, the gradient of its
    input, the sigmoid-weighted gate and its derivative, with the kernel's way of writing that derivative brought to the reference's. -/

@[expose] public section

noncomputable section

open Idealize.ShloMosaic Idealize.ShloMosaic.TcCoe

namespace Cert.OutRows

section Group
variable {n : ℕ} (y d : Fin n → EReal) (w : EReal)

/-- The mean square of a group of `w` numbers, moved off zero. -/
def var : EReal := Ideal.div (∑ k, y k * y k) w + Ideal.ofBits .f32 0x358637BD#32
/-- The reciprocal of its root. -/
def inv : EReal := Ideal.rsqrt (var y w)
/-- The normalised group. -/
def normed (k : Fin n) : EReal := y k * inv y w
/-- The derivative of the reciprocal root. -/
def slope : EReal := Ideal.ofBits .f32 0xBF000000#32 * Ideal.div (inv y w) (var y w)
/-- What the mean square hands back to each number of the group, but for the number itself. -/
def shift : EReal := Ideal.div ((∑ k, y k * d k) * slope y w) w
/-- The gradient of the group's numbers, from the gradient `d` of the normalised ones. -/
def pull (k : Fin n) : EReal := d k * inv y w + y k * shift y d w + shift y d w * y k
end Group

/-- The sigmoid. -/
def sig (z : EReal) : EReal := Ideal.div 1 (1 + Ideal.exp (-z))
/-- The gradient of `z * sig z`, from the gradient `d` of that product. -/
def gateGrad (z d : EReal) : EReal := d * sig z + z * d * (sig z * (1 - sig z))

/-- The derivative of the sigmoid as a quotient, at every extended real. -/
theorem sig_slope (z : EReal) :
    Ideal.div 1 ((1 + Ideal.exp (-z)) * (1 + Ideal.exp (-z))) * Ideal.exp (-z) = sig z * (1 - sig z) := by
  unfold sig
  induction z using EReal.rec with
  | bot =>
    have h : (1 : EReal) + ⊤ = ⊤ := rfl
    have h0 : Ideal.div 1 ⊤ = 0 := by simp [Ideal.div]
    simp [h, h0]
  | top =>
    have h1 : Ideal.div 1 1 = 1 := by simp [Ideal.div]
    have h2 : (1 : EReal) - 1 = 0 := EReal.sub_self (by decide) (by decide)
    simp [h1, h2]
  | coe r =>
    have he : Ideal.exp (-(r : EReal)) = ((Real.exp (-r) : ℝ) : EReal) := rfl
    have h1 : (1 : EReal) + ((Real.exp (-r) : ℝ) : EReal) = ((1 + Real.exp (-r) : ℝ) : EReal) := by norm_cast
    have hp := Real.exp_pos (-r)
    have hn : (1 + Real.exp (-r)) ≠ 0 := by positivity
    have ho : (1 : EReal) = ((1 : ℝ) : EReal) := rfl
    rw [he, h1, ← EReal.coe_mul, Ideal.div_coe (mul_ne_zero hn hn), Ideal.div_coe hn, ho]
    norm_cast
    field_simp
    ring

theorem gateGrad_quotient (z d : EReal) :
    d * sig z + -(-(z * d * Ideal.div 1 ((1 + Ideal.exp (-z)) * (1 + Ideal.exp (-z)))) * Ideal.exp (-z)) = gateGrad z d := by
  rw [EReal.neg_mul, neg_neg, mul_assoc (z * d), sig_slope]
  rfl

end Cert.OutRows
-- ==== Proof.OutORef.lean ====
module

public import proofs.«01_k».proof.Proof.OutRows
public import proofs.«01_k».proof.Proof.Gen.OutORefIdeal.Read

/-! The stages of the odd layers' reference mixing gradient, group by group and row by row. -/

@[expose] public section

set_option maxRecDepth 16384

noncomputable section

open Idealize.ShloMosaic Idealize.ShloMosaic.TcCoe Idealize.SL.Sem

namespace Cert.OutOIdeal.Ref
open Cert.OutORefIdeal Cert.OutORefIdeal.Read Cert.OutRows

variable (x0 x1 : Vec Ideal S4096x1024 .f32) (x2 : Vec Ideal S4096x512 .f32) (x3 : Vec Ideal S4096x4128 .f32) (x4 : Vec Ideal S1024 .f32)
  (x5 : Vec Ideal S1536x1024 .f32) (x6 : Vec Ideal S4096x1024 .f32)
variable (h : Fin 4) (r : Fin 4096) (k : Fin 256) (e : Fin 1024)

/-- The width of a group, 256, as its word. -/
abbrev width : EReal := Ideal.ofBits .f32 0x43800000#32
/-- The column of place `k` in group `h`. -/
def col : Fin 1024 := ⟨h.val * 256 + k.val, by have := h.isLt; have := k.isLt; omega⟩
/-- The group of a column. -/
def hd : Fin 4 := ⟨e.val / 256, by have := e.isLt; omega⟩
/-- Its place in the group. -/
def pl : Fin 256 := ⟨e.val % 256, Nat.mod_lt _ (by decide)⟩
theorem col_hd_pl : col (hd e) (pl e) = e := Fin.ext (by simp only [col, hd, pl]; omega)
/-- Row `r` of the two scans' sum, in group `h`. -/
def X : Fin 256 → EReal := fun k => x0 (ix2 r (col h k)) + x1 (ix2 r (col h k))

theorem v10 : val_main_v10 (F := Ideal) x0 x1 (ix4 0 r h k) = X x0 x1 h r k := by
  pointwise [val_main_v10, val_main_v9, val_main_v8]
  rfl
theorem v18 : val_main_v18 (F := Ideal) x0 x1 (ix4 0 r h 0) = var (X x0 x1 h r) width := by
  pointwise [val_main_v18, val_main_v17, val_main_v16, val_main_v15, val_main_v14, val_main_v13, val_main_v12, val_main_cst, val_main_cst_0, val_main_cst_1]
  simp only [v10]
  rfl
theorem v19 : val_main_v19 (F := Ideal) x0 x1 (ix4 0 r h 0) = inv (X x0 x1 h r) width := by
  pointwise [val_main_v19]
  rw [v18]
  rfl
theorem v22 : val_main_v22 (F := Ideal) x0 x1 (ix4 0 r h 0) = slope (X x0 x1 h r) width := by
  pointwise [val_main_v22, val_main_v21, val_main_v20, val_main_cst_2]
  rw [v18, v19]
  rfl
theorem v24 : val_main_v24 (F := Ideal) x0 x1 (ix4 0 r h k) = normed (X x0 x1 h r) width k := by
  pointwise [val_main_v24, val_main_v23]
  rw [v10, v19]
  rfl
theorem v26 : val_main_v26 (F := Ideal) x4 (ix4 0 r h k) = x4 (ix1 (col h k)) := by
  pointwise [val_main_v26, val_main_v25, val_main_v11]
  rfl
theorem v29 : val_main_v29 (F := Ideal) x0 x1 x4 (ix2 r e) = normed (X x0 x1 (hd e) r) width (pl e) * x4 (ix1 e) := by
  pointwise [val_main_v29, val_main_v28, val_main_v27]
  refine (congrArg₂ (· * ·) (v24 x0 x1 (hd e) r (pl e)) (v26 x4 (hd e) r (pl e))).trans ?_
  rw [col_hd_pl]

/-- The gate of the scans, -/
def z : EReal := x3 (ix2 r ⟨2048 + e.val, by have := e.isLt; omega⟩)
/-- and that of the memory. -/
def zm (e : Fin 512) : EReal := x3 (ix2 r ⟨3616 + e.val, by have := e.isLt; omega⟩)
/-- The gradient of the mixed row. -/
abbrev dmix (i : Fin 1536) : EReal := val_main_v38 (F := Ideal) x5 x6 (ix2 r i)
/-- Its part for the scans, -/
abbrev dscan : EReal := dmix x5 x6 r ⟨e.val, by have := e.isLt; omega⟩
/-- and that for the memory. -/
abbrev dmemo (e : Fin 512) : EReal := dmix x5 x6 r ⟨1024 + e.val, by have := e.isLt; omega⟩

theorem v30_2 : val_main_v30_2 (F := Ideal) x3 (ix2 r e) = sig (z x3 r e) := by
  pointwise [val_main_v30_2, val_main_call0_v4, val_main_call0_v3, val_main_call0_v2, val_main_call0_v1, val_main_call0_v0, val_main_v3, val_main_call0_cst, val_main_call0_cst_0]
  rfl
theorem v30_0 : val_main_v30_0 (F := Ideal) x3 (ix2 r e) = z x3 r e * sig (z x3 r e) := by
  pointwise [val_main_v30_0, val_main_v3]
  rw [v30_2]
  rfl
theorem v32_2 (e : Fin 512) : val_main_v32_2 (F := Ideal) x3 (ix2 r e) = sig (zm x3 r e) := by
  pointwise [val_main_v32_2, val_main_call1_v4, val_main_call1_v3, val_main_call1_v2, val_main_call1_v1, val_main_call1_v0, val_main_v7, val_main_call1_cst, val_main_call1_cst_0]
  rfl
theorem v32_0 (e : Fin 512) : val_main_v32_0 (F := Ideal) x3 (ix2 r e) = zm x3 r e * sig (zm x3 r e) := by
  pointwise [val_main_v32_0, val_main_v7]
  rw [v32_2]
  rfl
theorem v39 : val_main_v39 (F := Ideal) x5 x6 (ix2 r e) = dscan x5 x6 r e := by
  pointwise [val_main_v39]
theorem v40 (e : Fin 512) : val_main_v40 (F := Ideal) x5 x6 (ix2 r e) = dmemo x5 x6 r e := by
  pointwise [val_main_v40]
/-- The gradient of the memory's output. -/
theorem v42 (e : Fin 512) : val_main_v42 (F := Ideal) x3 x5 x6 (ix2 r e) = dmemo x5 x6 r e * (zm x3 r e * sig (zm x3 r e)) := by
  pointwise [val_main_v42]
  rw [v40, v32_0]
/-- The gradient of the memory's gate. -/
theorem v74 (e : Fin 512) : val_main_v74 (F := Ideal) x2 x3 x5 x6 (ix2 r e) = gateGrad (zm x3 r e) (x2 (ix2 r e) * dmemo x5 x6 r e) := by
  pointwise [val_main_v74, val_main_v43, val_main_call2_v2, val_main_call2_v1, val_main_call2_v0, val_main_v41, val_main_v32_1, val_main_call1_v7, val_main_call1_v6, val_main_call1_cst_1, val_main_v7]
  rw [v40, v32_2]
  rfl
/-- The gradient of the scans' gate. -/
theorem v73 : val_main_v73 (F := Ideal) x0 x1 x3 x4 x5 x6 (ix2 r e) = gateGrad (z x3 r e) (val_main_v29 (F := Ideal) x0 x1 x4 (ix2 r e) * dscan x5 x6 r e) := by
  pointwise [val_main_v73, val_main_v46, val_main_call3_v2, val_main_call3_v1, val_main_call3_v0, val_main_v44, val_main_v30_1, val_main_call0_v7, val_main_call0_v6, val_main_call0_cst_1, val_main_v3]
  rw [v39, v30_2]
  rfl
/-- The gradient of the group norm's result. -/
def dnorm : EReal := dscan x5 x6 r e * (z x3 r e * sig (z x3 r e))
theorem v45 : val_main_v45 (F := Ideal) x3 x5 x6 (ix2 r e) = dnorm x3 x5 x6 r e := by
  pointwise [val_main_v45]
  rw [v39, v30_0]
  rfl
theorem v48 : val_main_v48 (F := Ideal) x3 x5 x6 (ix4 0 r h k) = dnorm x3 x5 x6 r (col h k) := by
  pointwise [val_main_v48, val_main_v47]
  exact v45 x3 x5 x6 r (col h k)
/-- The gradient of a normalised group. -/
def D : Fin 256 → EReal := fun k => dnorm x3 x5 x6 r (col h k) * x4 (ix1 (col h k))
theorem v53 : val_main_v53 (F := Ideal) x3 x4 x5 x6 (ix4 0 r h k) = D x3 x4 x5 x6 h r k := by
  pointwise [val_main_v53, val_main_v52, val_main_v25, val_main_v11]
  rw [v48]
  rfl
theorem v62 : val_main_v62 (F := Ideal) x0 x1 x3 x4 x5 x6 (ix4 0 r h 0) = shift (X x0 x1 h r) (D x3 x4 x5 x6 h r) width := by
  pointwise [val_main_v62, val_main_v61, val_main_v60, val_main_v57, val_main_v56, val_main_v55, val_main_cst_5, val_main_cst_6]
  simp only [v53, v22, v10]
  rfl
/-- A sum over the first and the last axis, of one entry each. -/
theorem sum_ends (x : Vec Ideal S1x4096x4x1 .f32) (b : EReal) :
    Ideal.hostReduceAdd Gen.reducesTo_S1x4096x4x1_S4096x4_d0_3 x b (ix2 r h) = b + x (ix4 0 r h 0) := by
  refine congrArg (b + ·) ((Finset.sum_filter_eq_sum_of_fiber _ (fun _ : Fin 1 => (ix4 0 r h 0 : S1x4096x4x1.Idx))
    (fun _ _ _ => Subsingleton.elim _ _) (fun i => ⟨fun e => ⟨0, ?_⟩, ?_⟩) x).trans (Fin.sum_univ_one _))
  · funext a
    match a with
    | ⟨0, _⟩ => exact Subsingleton.elim (α := Fin 1) _ _
    | ⟨1, _⟩ => exact Fin.ext (congrArg Fin.val (congrFun e 0)).symm
    | ⟨2, _⟩ => exact Fin.ext (congrArg Fin.val (congrFun e 1)).symm
    | ⟨3, _⟩ => exact Subsingleton.elim (α := Fin 1) _ _
  · rintro ⟨k, rfl⟩
    funext b
    match b with
    | ⟨0, _⟩ => rfl
    | ⟨1, _⟩ => rfl
theorem v65 : val_main_v65 (F := Ideal) x0 x1 x3 x4 x5 x6 (ix4 0 r h k) = shift (X x0 x1 h r) (D x3 x4 x5 x6 h r) width := by
  pointwise [val_main_v65, val_main_v64, val_main_v63, val_main_cst_7]
  exact (sum_ends h r _ _).trans ((zero_add _).trans (v62 x0 x1 x3 x4 x5 x6 h r))
theorem v69 : val_main_v69 (F := Ideal) x0 x1 x3 x4 x5 x6 (ix4 0 r h k) = pull (X x0 x1 h r) (D x3 x4 x5 x6 h r) width k := by
  pointwise [val_main_v69, val_main_v68, val_main_v67, val_main_v66, val_main_v59, val_main_v58]
  rw [v65, v53, v19, v10]
  rfl
/-- The gradient of the scans' sum. -/
theorem v72 : val_main_v72 (F := Ideal) x0 x1 x3 x4 x5 x6 (ix2 r e) = pull (X x0 x1 (hd e) r) (D x3 x4 x5 x6 (hd e) r) width (pl e) := by
  pointwise [val_main_v72, val_main_v71, val_main_cst_8]
  simp only [Fin.sum_univ_one]
  exact v69 x0 x1 x3 x4 x5 x6 (hd e) r (pl e)

/-- A sum over two axes of one entry each. -/
theorem sum_fronts (x : Vec Ideal S1x1x4x256 .f32) (b : EReal) :
    Ideal.hostReduceAdd Gen.reducesTo_S1x1x4x256_S4x256_d0_1 x b (ix2 h k) = b + x (ix4 0 0 h k) := by
  refine congrArg (b + ·) ((Finset.sum_filter_eq_sum_of_fiber _ (fun _ : Fin 1 => (ix4 0 0 h k : S1x1x4x256.Idx))
    (fun _ _ _ => Subsingleton.elim _ _) (fun i => ⟨fun e => ⟨0, ?_⟩, ?_⟩) x).trans (Fin.sum_univ_one _))
  · funext a
    match a with
    | ⟨0, _⟩ => exact Subsingleton.elim (α := Fin 1) _ _
    | ⟨1, _⟩ => exact Subsingleton.elim (α := Fin 1) _ _
    | ⟨2, _⟩ => exact Fin.ext (congrArg Fin.val (congrFun e 0)).symm
    | ⟨3, _⟩ => exact Fin.ext (congrArg Fin.val (congrFun e 1)).symm
  · rintro ⟨k, rfl⟩
    funext b
    match b with
    | ⟨0, _⟩ => rfl
    | ⟨1, _⟩ => rfl
theorem v54 : val_main_v54 (F := Ideal) x0 x1 x3 x5 x6 (ix2 h k) = ∑ r, normed (X x0 x1 h r) width k * dnorm x3 x5 x6 r (col h k) := by
  unfold val_main_v54
  refine (sum_fronts h k _ _).trans ?_
  pointwise [val_main_v51, val_main_v50, val_main_v49, val_main_cst_3, val_main_cst_4]
  simp only [v24, v48]
/-- The gradient of the group norm's scale. -/
theorem v75 : val_main_v75 (F := Ideal) x0 x1 x3 x5 x6 (ix2 0 e) = ∑ r, normed (X x0 x1 (hd e) r) width (pl e) * dnorm x3 x5 x6 r e := by
  pointwise [val_main_v75, val_main_v70]
  refine (v54 x0 x1 x3 x5 x6 (hd e) (pl e)).trans ?_
  rw [col_hd_pl]
/-- The mixed row. -/
theorem v34 (i : Fin 1536) : val_main_v34 (F := Ideal) x0 x1 x2 x3 x4 (ix2 r i)
    = if h : i.val < 1024 then val_main_v29 (F := Ideal) x0 x1 x4 (ix2 r ⟨i.val, h⟩) * (z x3 r ⟨i.val, h⟩ * sig (z x3 r ⟨i.val, h⟩))
      else x2 (ix2 r ⟨i.val - 1024, by have := i.isLt; omega⟩) * (zm x3 r ⟨i.val - 1024, by have := i.isLt; omega⟩ * sig (zm x3 r ⟨i.val - 1024, by have := i.isLt; omega⟩)) := by
  split_ifs with h
  · pointwise [val_main_v34]
    simp (disch := omega) only [dif_pos]
    pointwise [val_main_v31]
    rw [v30_0]
  · pointwise [val_main_v34]
    simp (disch := omega) only [dif_neg]
    pointwise [val_main_v33]
    rw [v32_0]
/-- The gradient of the output weight. -/
theorem v37 (i : S1536x1024.Idx) : val_main_v37 (F := Ideal) x0 x1 x2 x3 x4 x6 i = ∑ r : Fin 4096, val_main_v34 (F := Ideal) x0 x1 x2 x3 x4 (ix2 r (i 0)) * x6 (ix2 r (i 1)) := by
  pointwise [val_main_v37, val_main_v36]
  exact Finset.sum_congr rfl fun r _ => mul_comm _ _

end Cert.OutOIdeal.Ref
-- ==== Proof.OutERef.lean ====
module

public import proofs.«01_k».proof.Proof.OutORef
public import proofs.«01_k».proof.Proof.Gen.OutERefIdeal.Read

/-! The stages of the even layers' reference mixing gradient, group by group and row by row. -/

@[expose] public section

set_option maxRecDepth 16384

noncomputable section

open Idealize.ShloMosaic Idealize.ShloMosaic.TcCoe Idealize.SL.Sem

namespace Cert.OutEIdeal.Ref
open Cert.OutERefIdeal Cert.OutERefIdeal.Read Cert.OutRows

variable (x0 x1 x2 x3 : Vec Ideal S4096x512 .f32) (x4 : Vec Ideal S4096x4864 .f32) (x5 : Vec Ideal S512 .f32)
  (x6 : Vec Ideal S1536x1024 .f32) (x7 : Vec Ideal S4096x1024 .f32)
variable (h : Fin 4) (r : Fin 4096) (k : Fin 128) (e : Fin 512)

/-- The width of a group, 128, as its word. -/
abbrev width : EReal := Ideal.ofBits .f32 0x43000000#32
/-- The column of place `k` in group `h`. -/
def col : Fin 512 := ⟨h.val * 128 + k.val, by have := h.isLt; have := k.isLt; omega⟩
/-- The group of a column. -/
def hd : Fin 4 := ⟨e.val / 128, by have := e.isLt; omega⟩
/-- Its place in the group. -/
def pl : Fin 128 := ⟨e.val % 128, Nat.mod_lt _ (by decide)⟩
theorem col_hd_pl : col (hd e) (pl e) = e := Fin.ext (by simp only [col, hd, pl]; omega)
/-- Row `r` of the two scans' sum, in group `h`. -/
def X : Fin 128 → EReal := fun k => x1 (ix2 r (col h k)) + x2 (ix2 r (col h k))

theorem v15 : val_main_v15 (F := Ideal) x1 x2 (ix4 0 r h k) = X x1 x2 h r k := by
  pointwise [val_main_v15, val_main_v14, val_main_v11]
  rfl
theorem v23 : val_main_v23 (F := Ideal) x1 x2 (ix4 0 r h 0) = var (X x1 x2 h r) width := by
  pointwise [val_main_v23, val_main_v22, val_main_v21, val_main_v20, val_main_v19, val_main_v18, val_main_v17, val_main_cst, val_main_cst_0, val_main_cst_1]
  simp only [v15]
  rfl
theorem v24 : val_main_v24 (F := Ideal) x1 x2 (ix4 0 r h 0) = inv (X x1 x2 h r) width := by
  pointwise [val_main_v24]
  rw [v23]
  rfl
theorem v27 : val_main_v27 (F := Ideal) x1 x2 (ix4 0 r h 0) = slope (X x1 x2 h r) width := by
  pointwise [val_main_v27, val_main_v26, val_main_v25, val_main_cst_2]
  rw [v23, v24]
  rfl
theorem v29 : val_main_v29 (F := Ideal) x1 x2 (ix4 0 r h k) = normed (X x1 x2 h r) width k := by
  pointwise [val_main_v29, val_main_v28]
  rw [v15, v24]
  rfl
theorem v31 : val_main_v31 (F := Ideal) x5 (ix4 0 r h k) = x5 (ix1 (col h k)) := by
  pointwise [val_main_v31, val_main_v30, val_main_v16]
  rfl
theorem v34 : val_main_v34 (F := Ideal) x1 x2 x5 (ix2 r e) = normed (X x1 x2 (hd e) r) width (pl e) * x5 (ix1 e) := by
  pointwise [val_main_v34, val_main_v33, val_main_v32]
  refine (congrArg₂ (· * ·) (v29 x1 x2 (hd e) r (pl e)) (v31 x5 (hd e) r (pl e))).trans ?_
  rw [col_hd_pl]

/-- The gate of the scans, -/
def z : EReal := x4 (ix2 r ⟨3328 + e.val, by have := e.isLt; omega⟩)
/-- that of the attention, -/
def za : EReal := x4 (ix2 r ⟨768 + e.val, by have := e.isLt; omega⟩)
/-- and that of the memory. -/
def zm (e : Fin 512) : EReal := x4 (ix2 r ⟨4352 + e.val, by have := e.isLt; omega⟩)
/-- The gradient of the mixed row. -/
abbrev dmix (i : Fin 1536) : EReal := val_main_v43 (F := Ideal) x6 x7 (ix2 r i)
/-- Its part for the scans, -/
abbrev dscan : EReal := dmix x6 x7 r ⟨512 + e.val, by have := e.isLt; omega⟩
/-- that for the attention, -/
abbrev dattn : EReal := dmix x6 x7 r ⟨e.val, by have := e.isLt; omega⟩
/-- and that for the memory. -/
abbrev dmemo (e : Fin 512) : EReal := dmix x6 x7 r ⟨1024 + e.val, by have := e.isLt; omega⟩

theorem v35_2 : val_main_v35_2 (F := Ideal) x4 (ix2 r e) = sig (z x4 r e) := by
  pointwise [val_main_v35_2, val_main_call1_v4, val_main_call1_v3, val_main_call1_v2, val_main_call1_v1, val_main_call1_v0, val_main_v8, val_main_call1_cst, val_main_call1_cst_0]
  rfl
theorem v35_0 : val_main_v35_0 (F := Ideal) x4 (ix2 r e) = z x4 r e * sig (z x4 r e) := by
  pointwise [val_main_v35_0, val_main_v8]
  rw [v35_2]
  rfl
theorem v37_2 : val_main_v37_2 (F := Ideal) x4 (ix2 r e) = sig (zm x4 r e) := by
  pointwise [val_main_v37_2, val_main_call2_v4, val_main_call2_v3, val_main_call2_v2, val_main_call2_v1, val_main_call2_v0, val_main_v10, val_main_call2_cst, val_main_call2_cst_0]
  rfl
theorem v37_0 : val_main_v37_0 (F := Ideal) x4 (ix2 r e) = zm x4 r e * sig (zm x4 r e) := by
  pointwise [val_main_v37_0, val_main_v10]
  rw [v37_2]
  rfl
theorem v12_2 : val_main_v12_2 (F := Ideal) x4 (ix2 r e) = sig (za x4 r e) := by
  pointwise [val_main_v12_2, val_main_call0_v4, val_main_call0_v3, val_main_call0_v2, val_main_call0_v1, val_main_call0_v0, val_main_v3, val_main_call0_cst, val_main_call0_cst_0]
  rfl
theorem v12_0 : val_main_v12_0 (F := Ideal) x4 (ix2 r e) = za x4 r e * sig (za x4 r e) := by
  pointwise [val_main_v12_0, val_main_v3]
  rw [v12_2]
  rfl
theorem v44 : val_main_v44 (F := Ideal) x6 x7 (ix2 r e) = dattn x6 x7 r e := by
  pointwise [val_main_v44]
/-- The gradient of the attention's output. -/
theorem v80 : val_main_v80 (F := Ideal) x4 x6 x7 (ix2 r e) = dattn x6 x7 r e * (za x4 r e * sig (za x4 r e)) := by
  pointwise [val_main_v80]
  rw [v44, v12_0]
/-- The gradient of the attention's gate. -/
theorem v82 : val_main_v82 (F := Ideal) x0 x4 x6 x7 (ix2 r e) = gateGrad (za x4 r e) (x0 (ix2 r e) * dattn x6 x7 r e) := by
  pointwise [val_main_v82, val_main_v81, val_main_call5_v2, val_main_call5_v1, val_main_call5_v0, val_main_v79, val_main_v12_1, val_main_call0_v7, val_main_call0_v6, val_main_call0_cst_1, val_main_v3]
  rw [v44, v12_2]
  rfl
theorem v45 : val_main_v45 (F := Ideal) x6 x7 (ix2 r e) = dscan x6 x7 r e := by
  pointwise [val_main_v45]
theorem v46 : val_main_v46 (F := Ideal) x6 x7 (ix2 r e) = dmemo x6 x7 r e := by
  pointwise [val_main_v46]
/-- The gradient of the memory's output. -/
theorem v48 : val_main_v48 (F := Ideal) x4 x6 x7 (ix2 r e) = dmemo x6 x7 r e * (zm x4 r e * sig (zm x4 r e)) := by
  pointwise [val_main_v48]
  rw [v46, v37_0]
/-- The gradient of the memory's gate. -/
theorem v84 : val_main_v84 (F := Ideal) x3 x4 x6 x7 (ix2 r e) = gateGrad (zm x4 r e) (x3 (ix2 r e) * dmemo x6 x7 r e) := by
  pointwise [val_main_v84, val_main_v49, val_main_call3_v2, val_main_call3_v1, val_main_call3_v0, val_main_v47, val_main_v37_1, val_main_call2_v7, val_main_call2_v6, val_main_call2_cst_1, val_main_v10]
  rw [v46, v37_2]
  rfl
/-- The gradient of the scans' gate. -/
theorem v83 : val_main_v83 (F := Ideal) x1 x2 x4 x5 x6 x7 (ix2 r e) = gateGrad (z x4 r e) (val_main_v34 (F := Ideal) x1 x2 x5 (ix2 r e) * dscan x6 x7 r e) := by
  pointwise [val_main_v83, val_main_v52, val_main_call4_v2, val_main_call4_v1, val_main_call4_v0, val_main_v50, val_main_v35_1, val_main_call1_v7, val_main_call1_v6, val_main_call1_cst_1, val_main_v8]
  rw [v45, v35_2]
  rfl
/-- The gradient of the group norm's result. -/
def dnorm : EReal := dscan x6 x7 r e * (z x4 r e * sig (z x4 r e))
theorem v51 : val_main_v51 (F := Ideal) x4 x6 x7 (ix2 r e) = dnorm x4 x6 x7 r e := by
  pointwise [val_main_v51]
  rw [v45, v35_0]
  rfl
theorem v54 : val_main_v54 (F := Ideal) x4 x6 x7 (ix4 0 r h k) = dnorm x4 x6 x7 r (col h k) := by
  pointwise [val_main_v54, val_main_v53]
  exact v51 x4 x6 x7 r (col h k)
/-- The gradient of a normalised group. -/
def D : Fin 128 → EReal := fun k => dnorm x4 x6 x7 r (col h k) * x5 (ix1 (col h k))
theorem v59 : val_main_v59 (F := Ideal) x4 x5 x6 x7 (ix4 0 r h k) = D x4 x5 x6 x7 h r k := by
  pointwise [val_main_v59, val_main_v58, val_main_v30, val_main_v16]
  rw [v54]
  rfl
theorem v68 : val_main_v68 (F := Ideal) x1 x2 x4 x5 x6 x7 (ix4 0 r h 0) = shift (X x1 x2 h r) (D x4 x5 x6 x7 h r) width := by
  pointwise [val_main_v68, val_main_v67, val_main_v66, val_main_v63, val_main_v62, val_main_v61, val_main_cst_5, val_main_cst_6]
  simp only [v59, v27, v15]
  rfl
theorem v71 : val_main_v71 (F := Ideal) x1 x2 x4 x5 x6 x7 (ix4 0 r h k) = shift (X x1 x2 h r) (D x4 x5 x6 x7 h r) width := by
  pointwise [val_main_v71, val_main_v70, val_main_v69, val_main_cst_7]
  exact (Cert.OutOIdeal.Ref.sum_ends h r _ _).trans ((zero_add _).trans (v68 x1 x2 x4 x5 x6 x7 h r))
theorem v75 : val_main_v75 (F := Ideal) x1 x2 x4 x5 x6 x7 (ix4 0 r h k) = pull (X x1 x2 h r) (D x4 x5 x6 x7 h r) width k := by
  pointwise [val_main_v75, val_main_v74, val_main_v73, val_main_v72, val_main_v65, val_main_v64]
  rw [v71, v59, v24, v15]
  rfl
/-- The gradient of the scans' sum. -/
theorem v78 : val_main_v78 (F := Ideal) x1 x2 x4 x5 x6 x7 (ix2 r e) = pull (X x1 x2 (hd e) r) (D x4 x5 x6 x7 (hd e) r) width (pl e) := by
  pointwise [val_main_v78, val_main_v77, val_main_cst_8]
  simp only [Fin.sum_univ_one]
  exact v75 x1 x2 x4 x5 x6 x7 (hd e) r (pl e)

/-- A sum over two axes of one entry each. -/
theorem sum_fronts (x : Vec Ideal S1x1x4x128 .f32) (b : EReal) :
    Ideal.hostReduceAdd Gen.reducesTo_S1x1x4x128_S4x128_d0_1 x b (ix2 h k) = b + x (ix4 0 0 h k) := by
  refine congrArg (b + ·) ((Finset.sum_filter_eq_sum_of_fiber _ (fun _ : Fin 1 => (ix4 0 0 h k : S1x1x4x128.Idx))
    (fun _ _ _ => Subsingleton.elim _ _) (fun i => ⟨fun e => ⟨0, ?_⟩, ?_⟩) x).trans (Fin.sum_univ_one _))
  · funext a
    match a with
    | ⟨0, _⟩ => exact Subsingleton.elim (α := Fin 1) _ _
    | ⟨1, _⟩ => exact Subsingleton.elim (α := Fin 1) _ _
    | ⟨2, _⟩ => exact Fin.ext (congrArg Fin.val (congrFun e 0)).symm
    | ⟨3, _⟩ => exact Fin.ext (congrArg Fin.val (congrFun e 1)).symm
  · rintro ⟨k, rfl⟩
    funext b
    match b with
    | ⟨0, _⟩ => rfl
    | ⟨1, _⟩ => rfl
theorem v60 : val_main_v60 (F := Ideal) x1 x2 x4 x6 x7 (ix2 h k) = ∑ r, normed (X x1 x2 h r) width k * dnorm x4 x6 x7 r (col h k) := by
  unfold val_main_v60
  refine (sum_fronts h k _ _).trans ?_
  pointwise [val_main_v57, val_main_v56, val_main_v55, val_main_cst_3, val_main_cst_4]
  simp only [v29, v54]
/-- The gradient of the group norm's scale. -/
theorem v85 : val_main_v85 (F := Ideal) x1 x2 x4 x6 x7 (ix2 0 e) = ∑ r, normed (X x1 x2 (hd e) r) width (pl e) * dnorm x4 x6 x7 r e := by
  pointwise [val_main_v85, val_main_v76]
  refine (v60 x1 x2 x4 x6 x7 (hd e) (pl e)).trans ?_
  rw [col_hd_pl]
/-- The mixed row. -/
theorem v39 (i : Fin 1536) : val_main_v39 (F := Ideal) x0 x1 x2 x3 x4 x5 (ix2 r i)
    = if h : i.val < 512 then x0 (ix2 r ⟨i.val, h⟩) * (za x4 r ⟨i.val, h⟩ * sig (za x4 r ⟨i.val, h⟩))
      else if h' : i.val < 1024 then val_main_v34 (F := Ideal) x1 x2 x5 (ix2 r ⟨i.val - 512, by omega⟩) * (z x4 r ⟨i.val - 512, by omega⟩ * sig (z x4 r ⟨i.val - 512, by omega⟩))
      else x3 (ix2 r ⟨i.val - 1024, by have := i.isLt; omega⟩) * (zm x4 r ⟨i.val - 1024, by have := i.isLt; omega⟩ * sig (zm x4 r ⟨i.val - 1024, by have := i.isLt; omega⟩)) := by
  split_ifs with h h'
  all_goals pointwise [val_main_v39]
  all_goals simp (disch := omega) only [dif_pos, dif_neg]
  · pointwise [val_main_v13]
    rw [v12_0]
  · pointwise [val_main_v36]
    rw [v35_0]
  · have e : (⟨i.val - 512 - 512, by have := i.isLt; omega⟩ : Fin 512) = ⟨i.val - 1024, by have := i.isLt; omega⟩ := Fin.ext (by dsimp only; omega)
    pointwise [val_main_v38]
    rw [v37_0, e]
/-- The gradient of the output weight. -/
theorem v42 (i : S1536x1024.Idx) : val_main_v42 (F := Ideal) x0 x1 x2 x3 x4 x5 x7 i = ∑ r : Fin 4096, val_main_v39 (F := Ideal) x0 x1 x2 x3 x4 x5 (ix2 r (i 0)) * x7 (ix2 r (i 1)) := by
  pointwise [val_main_v42, val_main_v41]
  exact Finset.sum_congr rfl fun r _ => mul_comm _ _

end Cert.OutEIdeal.Ref
-- ==== Proof.OutETile.lean ====
module

public import proofs.«01_k».proof.Proof.OutERef
public import proofs.«01_k».proof.Proof.Gen.OutEIdeal.Skeleton

/-! The payloads of the even layers' mixing kernel over one tile of 512 rows, group by group and row by row. -/

@[expose] public section

set_option maxRecDepth 16384

noncomputable section

open Idealize.ShloMosaic Idealize.ShloMosaic.TcCoe Idealize.SL.Sem

namespace Cert.OutEIdeal.Tile
open Cert.OutEIdeal Cert.OutEIdeal.Gen Cert.OutRows
open Cert.OutEIdeal.Ref (col hd pl col_hd_pl width)

section Group
variable (v : Vec Ideal S512x128 .f32) (g : Vec Ideal S1x128 .f32) (G d : Vec Ideal S512x512 .f32) (i : Fin 512) (k : Fin 128)
/-- A row of one group. -/
abbrev row : Fin 128 → EReal := fun k => v (ix2 i k)

theorem var2 : k0_pay28 (F := Ideal) v (ix2 i 0) = var (row v i) width := by
  pointwise [k0_pay28]
  rfl
theorem inv2 : k0_pay29 (F := Ideal) v (ix2 i 0) = inv (row v i) width := by
  pointwise [k0_pay29]
  rw [var2]
  rfl
theorem slope2 : k0_pay30 (F := Ideal) v (ix2 i 0) = slope (row v i) width := by
  pointwise [k0_pay30]
  rw [inv2, var2]
  rfl
theorem normed2 : k0_pay31 (F := Ideal) v (ix2 i k) = normed (row v i) width k := by
  pointwise [k0_pay31]
  rw [inv2]
  rfl
theorem pull2 : k0_pay75 (F := Ideal) v g (k0_pay29 (F := Ideal) v) (k0_pay30 (F := Ideal) v) (k0_pay68 (F := Ideal) G d) (ix2 i k)
    = pull (row v i) (fun k => k0_pay62 (F := Ideal) G d (ix2 i (col 2 k)) * g (ix2 0 k)) width k := by
  pointwise [k0_pay75, k0_pay68]
  simp only [inv2, slope2, Fin.sum_univ_one]
  rfl
theorem var3 : k0_pay32 (F := Ideal) v (ix2 i 0) = var (row v i) width := by
  pointwise [k0_pay32]
  rfl
theorem inv3 : k0_pay33 (F := Ideal) v (ix2 i 0) = inv (row v i) width := by
  pointwise [k0_pay33]
  rw [var3]
  rfl
theorem slope3 : k0_pay34 (F := Ideal) v (ix2 i 0) = slope (row v i) width := by
  pointwise [k0_pay34]
  rw [inv3, var3]
  rfl
theorem normed3 : k0_pay35 (F := Ideal) v (ix2 i k) = normed (row v i) width k := by
  pointwise [k0_pay35]
  rw [inv3]
  rfl
theorem pull3 : k0_pay73 (F := Ideal) v (k0_pay33 (F := Ideal) v) (k0_pay34 (F := Ideal) v) (k0_pay71 (F := Ideal) g G d) (k0_pay72 (F := Ideal) v g G d) (ix2 i k)
    = pull (row v i) (fun k => k0_pay62 (F := Ideal) G d (ix2 i (col 3 k)) * g (ix2 0 k)) width k := by
  pointwise [k0_pay73, k0_pay71, k0_pay72, k0_pay69]
  simp only [inv3, slope3, Fin.sum_univ_one]
  rfl
end Group

section Rows
variable (x y : Vec Ideal S512x512 .f32) (g : Vec Ideal S1x512 .f32) (G d : Vec Ideal S512x512 .f32)
variable (h : Fin 4) (i : Fin 512) (k : Fin 128) (e : Fin 512)
/-- Row `i` of the two scans' sum, in group `h`. -/
def X : Fin 128 → EReal := fun k => x (ix2 i (col h k)) + y (ix2 i (col h k))

theorem row0 : row (k0_pay10 (F := Ideal) x y) i = X x y 0 i := by
  funext k
  pointwise [k0_pay10, k0_pay9]
  exact congrArg (fun e => x (ix2 i e) + y (ix2 i e)) (Fin.ext (by simp [col]))
theorem row1 : row (k0_pay11 (F := Ideal) x y) i = X x y 1 i := by
  funext k
  pointwise [k0_pay11, k0_pay9]
  rfl
theorem row2 : row (k0_pay12 (F := Ideal) x y) i = X x y 2 i := by
  funext k
  pointwise [k0_pay12, k0_pay9]
  rfl
theorem row3 : row (k0_pay13 (F := Ideal) x y) i = X x y 3 i := by
  funext k
  pointwise [k0_pay13, k0_pay9]
  rfl
theorem scale0 : k0_pay14 (F := Ideal) g (ix2 0 k) = g (ix2 0 (col 0 k)) := by
  pointwise [k0_pay14, k0_pay8]
  exact congrArg (fun e => g (ix2 0 e)) (Fin.ext (by simp [col]))
theorem scale1 : k0_pay15 (F := Ideal) g (ix2 0 k) = g (ix2 0 (col 1 k)) := by
  pointwise [k0_pay15, k0_pay8]
  rfl
theorem scale2 : k0_pay16 (F := Ideal) g (ix2 0 k) = g (ix2 0 (col 2 k)) := by
  pointwise [k0_pay16, k0_pay8]
  rfl
theorem scale3 : k0_pay17 (F := Ideal) g (ix2 0 k) = g (ix2 0 (col 3 k)) := by
  pointwise [k0_pay17, k0_pay8]
  rfl
theorem var0 : k0_pay18 (F := Ideal) x y (ix2 i 0) = var (X x y 0 i) width := by
  rw [← row0]
  pointwise [k0_pay18]
  rfl
theorem inv0 : k0_pay19 (F := Ideal) x y (ix2 i 0) = inv (X x y 0 i) width := by
  pointwise [k0_pay19]
  rw [var0]
  rfl
theorem slope0 : k0_pay20 (F := Ideal) x y (ix2 i 0) = slope (X x y 0 i) width := by
  pointwise [k0_pay20]
  rw [inv0, var0]
  rfl
theorem normed0 : k0_pay21 (F := Ideal) x y (ix2 i k) = normed (X x y 0 i) width k := by
  pointwise [k0_pay21]
  rw [inv0, ← row0]
  rfl
theorem var1 : k0_pay24 (F := Ideal) (k0_pay23 (F := Ideal) x y) (ix2 i 0) = var (X x y 1 i) width := by
  rw [← row1]
  pointwise [k0_pay24, k0_pay23]
  rfl
theorem inv1 : k0_pay25 (F := Ideal) (k0_pay23 (F := Ideal) x y) (ix2 i 0) = inv (X x y 1 i) width := by
  pointwise [k0_pay25]
  rw [var1]
  rfl
theorem slope1 : k0_pay26 (F := Ideal) (k0_pay23 (F := Ideal) x y) (ix2 i 0) = slope (X x y 1 i) width := by
  pointwise [k0_pay26]
  rw [inv1, var1]
  rfl
theorem normed1 : k0_pay27 (F := Ideal) (k0_pay11 (F := Ideal) x y) (k0_pay23 (F := Ideal) x y) (ix2 i k) = normed (X x y 1 i) width k := by
  pointwise [k0_pay27]
  rw [inv1, ← row1]
  rfl

/-- The group norm's results over a tile. -/
abbrev norms : Vec Ideal S512x512 .f32 :=
  k0_pay36 (F := Ideal) (k0_pay11 x y) (k0_pay12 x y) (k0_pay13 x y) (k0_pay15 g) (k0_pay16 g) (k0_pay17 g) (k0_pay22 x y g) (k0_pay23 x y)
/-- The gradient of the scans' sum over a tile, the gradient of the group norm's results being the product of `G` and `d`. -/
abbrev pulls : Vec Ideal S512x512 .f32 :=
  k0_pay82 (F := Ideal) (k0_pay10 x y) (k0_pay11 x y) (k0_pay14 g) (k0_pay19 x y) (k0_pay20 x y) (k0_pay66 G d)
    (k0_pay73 (k0_pay13 x y) (k0_pay33 (k0_pay13 x y)) (k0_pay34 (k0_pay13 x y)) (k0_pay71 (k0_pay17 g) G d) (k0_pay72 (k0_pay13 x y) (k0_pay17 g) G d))
    (k0_pay75 (k0_pay12 x y) (k0_pay16 g) (k0_pay29 (k0_pay12 x y)) (k0_pay30 (k0_pay12 x y)) (k0_pay68 G d))
    (k0_pay78 (k0_pay15 g) (k0_pay25 (k0_pay23 x y)) (k0_pay67 G d)) (k0_pay79 (k0_pay11 x y) (k0_pay15 g) (k0_pay26 (k0_pay23 x y)) (k0_pay67 G d))
    (k0_pay80 (k0_pay11 x y) (k0_pay15 g) (k0_pay26 (k0_pay23 x y)) (k0_pay67 G d))
/-- The gradient of the group norm's scale over a tile. -/
abbrev scales : Vec Ideal S1x512 .f32 :=
  k0_pay81 (F := Ideal) (k0_pay21 x y) (k0_pay66 G d) (k0_pay70 (k0_pay35 (k0_pay13 x y)) G d) (k0_pay74 (k0_pay31 (k0_pay12 x y)) (k0_pay68 G d))
    (k0_pay76 (k0_pay27 (k0_pay11 x y) (k0_pay23 x y)) (k0_pay67 G d))

theorem cut0 : k0_pay66 (F := Ideal) G d (ix2 i k) = k0_pay62 (F := Ideal) G d (ix2 i ⟨k.val, by have := k.isLt; omega⟩) := by
  pointwise [k0_pay66]
theorem cut1 : k0_pay67 (F := Ideal) G d (ix2 i k) = k0_pay62 (F := Ideal) G d (ix2 i (col 1 k)) := by
  pointwise [k0_pay67]
  rfl
theorem cut2 : k0_pay68 (F := Ideal) G d (ix2 i k) = k0_pay62 (F := Ideal) G d (ix2 i (col 2 k)) := by
  pointwise [k0_pay68]
  rfl
theorem cut3 : k0_pay69 (F := Ideal) G d (ix2 i k) = k0_pay62 (F := Ideal) G d (ix2 i (col 3 k)) := by
  pointwise [k0_pay69]
  rfl
theorem first : col 0 k = ⟨k.val, by have := k.isLt; omega⟩ := Fin.ext (by simp [col])
theorem third (h : 256 + k.val - 128 - 128 < 128) : (⟨256 + k.val - 128 - 128, h⟩ : Fin 128) = k := Fin.ext (by dsimp only; omega)
theorem fourth (h : 384 + k.val - 128 - 128 - 128 < 128) : (⟨384 + k.val - 128 - 128 - 128, h⟩ : Fin 128) = k := Fin.ext (by dsimp only; omega)

theorem norms_eq : norms x y g (ix2 i (col h k)) = normed (X x y h i) width k * g (ix2 0 (col h k)) := by
  fin_cases h
  all_goals pointwise [k0_pay36, k0_pay22, col]
  all_goals try simp (disch := omega) only [dif_pos, dif_neg]
  · rw [normed0, scale0, first]
  · rw [normed1, scale1]
    rfl
  · rw [third, normed2, scale2, row2]
    rfl
  · rw [fourth, normed3, scale3, row3]
    rfl
theorem pulls_eq : pulls x y g G d (ix2 i (col h k)) = pull (X x y h i) (fun k => k0_pay62 (F := Ideal) G d (ix2 i (col h k)) * g (ix2 0 (col h k))) width k := by
  fin_cases h
  all_goals pointwise [k0_pay82, k0_pay78, k0_pay79, k0_pay80, k0_pay77, col]
  all_goals try simp (disch := omega) only [dif_pos, dif_neg]
  · simp only [cut0, scale0, inv0, slope0, Fin.sum_univ_one, first]
    rw [← row0]
    rfl
  · simp only [cut1, scale1, inv1, slope1, Fin.sum_univ_one]
    rw [← row1]
    rfl
  · rw [third, pull2, row2]
    simp only [scale2]
    rfl
  · rw [fourth, pull3, row3]
    simp only [scale3]
    rfl
theorem scales_eq : scales x y G d (ix2 0 (col h k)) = ∑ i, normed (X x y h i) width k * k0_pay62 (F := Ideal) G d (ix2 i (col h k)) := by
  fin_cases h
  all_goals pointwise [k0_pay81, k0_pay70, k0_pay74, k0_pay76, col]
  all_goals try simp (disch := omega) only [dif_pos, dif_neg]
  · simp only [normed0, cut0]
  · simp only [normed1, cut1]
    rfl
  · simp only [third, normed2, cut2, row2]
    rfl
  · simp only [fourth, normed3, cut3, row3]
    rfl
end Rows

end Cert.OutEIdeal.Tile
-- ==== Proof.OutERefNamed.lean ====
module

public import proofs.«01_k».proof.Proof.Gen.OutERefIdeal.Run
public import proofs.«01_k».proof.Proof.Gen.OutERefIdeal.Read

@[expose] public section

noncomputable section

open Idealize.ShloMosaic Idealize.ShloMosaic.TcCoe Idealize.SL.Sem

namespace Cert.OutERefIdeal.Named
open Cert.OutERefIdeal Cert.OutERefIdeal.Gen Cert.OutERefIdeal.Value Cert.OutERefIdeal.Read

/-- The reference's run, each result stated by the named stage that computes it. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v80) = val_main_v80 (F := Ideal) (m ((c.tc : Thread nD τ).loc main_arg4)) (m ((c.tc : Thread nD τ).loc main_arg6)) (m ((c.tc : Thread nD τ).loc main_arg7))
      ∧ r.2.mem ((c.tc : Thread nD τ).loc main_v78) = val_main_v78 (F := Ideal) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_v48) = val_main_v48 (F := Ideal) (m ((c.tc : Thread nD τ).loc main_arg4)) (m ((c.tc : Thread nD τ).loc main_arg6)) (m ((c.tc : Thread nD τ).loc main_arg7))
      ∧ r.2.mem ((c.tc : Thread nD τ).loc main_v82) = val_main_v82 (F := Ideal) (m ((c.tc : Thread nD τ).loc main_arg0)) (m ((c.tc : Thread nD τ).loc main_arg4)) (m ((c.tc : Thread nD τ).loc main_arg6)) (m ((c.tc : Thread nD τ).loc main_arg7))
      ∧ r.2.mem ((c.tc : Thread nD τ).loc main_v83) = val_main_v83 (F := Ideal) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_v84) = val_main_v84 (F := Ideal) (m ((c.tc : Thread nD τ).loc main_arg3)) (m ((c.tc : Thread nD τ).loc main_arg4)) (m ((c.tc : Thread nD τ).loc main_arg6)) (m ((c.tc : Thread nD τ).loc main_arg7))
      ∧ r.2.mem ((c.tc : Thread nD τ).loc main_v85) = val_main_v85 (F := Ideal) (m ((c.tc : Thread nD τ).loc main_arg1)) (m ((c.tc : Thread nD τ).loc main_arg2)) (m ((c.tc : Thread nD τ).loc main_arg4)) (m ((c.tc : Thread nD τ).loc main_arg6)) (m ((c.tc : Thread nD τ).loc main_arg7))
      ∧ r.2.mem ((c.tc : Thread nD τ).loc main_v42) = val_main_v42 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg7))
      ∧ r.2.mem ((c.tc : Thread nD τ).loc main_arg0) = (m ((c.tc : Thread nD τ).loc main_arg0))
      ∧ r.2.mem ((c.tc : Thread nD τ).loc main_arg1) = (m ((c.tc : Thread nD τ).loc main_arg1))
      ∧ r.2.mem ((c.tc : Thread nD τ).loc main_arg2) = (m ((c.tc : Thread nD τ).loc main_arg2))
      ∧ r.2.mem ((c.tc : Thread nD τ).loc main_arg3) = (m ((c.tc : Thread nD τ).loc main_arg3))
      ∧ r.2.mem ((c.tc : Thread nD τ).loc main_arg4) = (m ((c.tc : Thread nD τ).loc main_arg4))
      ∧ r.2.mem ((c.tc : Thread nD τ).loc main_arg5) = (m ((c.tc : Thread nD τ).loc main_arg5))
      ∧ r.2.mem ((c.tc : Thread nD τ).loc main_arg6) = (m ((c.tc : Thread nD τ).loc main_arg6))
      ∧ r.2.mem ((c.tc : Thread nD τ).loc main_arg7) = (m ((c.tc : Thread nD τ).loc main_arg7)) :=
  (θ_run defs _ _).mono (fun _ h c => ⟨(h c).1.trans (val_main_v80_eq (F := Ideal) (m ((c.tc : Thread nD τ).loc main_arg4)) (m ((c.tc : Thread nD τ).loc main_arg6)) (m ((c.tc : Thread nD τ).loc main_arg7))), (h c).2.1.trans (val_main_v78_eq (F := Ideal) m c), (h c).2.2.1.trans (val_main_v48_eq (F := Ideal) (m ((c.tc : Thread nD τ).loc main_arg4)) (m ((c.tc : Thread nD τ).loc main_arg6)) (m ((c.tc : Thread nD τ).loc main_arg7))), (h c).2.2.2.1.trans (val_main_v82_eq (F := Ideal) (m ((c.tc : Thread nD τ).loc main_arg0)) (m ((c.tc : Thread nD τ).loc main_arg4)) (m ((c.tc : Thread nD τ).loc main_arg6)) (m ((c.tc : Thread nD τ).loc main_arg7))), (h c).2.2.2.2.1.trans (val_main_v83_eq (F := Ideal) m c), (h c).2.2.2.2.2.1.trans (val_main_v84_eq (F := Ideal) (m ((c.tc : Thread nD τ).loc main_arg3)) (m ((c.tc : Thread nD τ).loc main_arg4)) (m ((c.tc : Thread nD τ).loc main_arg6)) (m ((c.tc : Thread nD τ).loc main_arg7))), (h c).2.2.2.2.2.2.1.trans (val_main_v85_eq (F := Ideal) (m ((c.tc : Thread nD τ).loc main_arg1)) (m ((c.tc : Thread nD τ).loc main_arg2)) (m ((c.tc : Thread nD τ).loc main_arg4)) (m ((c.tc : Thread nD τ).loc main_arg6)) (m ((c.tc : Thread nD τ).loc main_arg7))), (h c).2.2.2.2.2.2.2.1.trans (val_main_v42_eq (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg7))), (h c).2.2.2.2.2.2.2.2⟩) (Cert.OutERefIdeal.Value.run m ρ)

end Cert.OutERefIdeal.Named
-- ==== Proof.OutEValue.lean ====
module

public import proofs.«01_k».proof.Defs
public import proofs.«01_k».proof.Proof.Gen.OutEIdeal.Value
public import Idealize.ShloMosaic.Lib.Claim
public import proofs.«01_k».proof.Proof.OutETile
public import proofs.«01_k».proof.Proof.Gen.OutERefIdeal.Run
public import proofs.«01_k».proof.Proof.OutERefNamed
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.OutEIdeal.Mix
open Cert.OutEIdeal Cert.OutEIdeal.Gen Cert.OutRows
open Cert.OutEIdeal.Ref (col hd pl col_hd_pl width)
open Cert.OutERefIdeal.Read

section Host
variable {F : FTy → Type} [FloatOps F]
/-- The projections' columns in the kernel's order, as the host lays them out. -/
def pcols (x : (⟨S4096x4864, .f32⟩ : BufTy).Contents (Elt F)) : (⟨S4096x4864, .f32⟩ : BufTy).Contents (Elt F) :=
  concatenate S4096x4864 1
    [⟨S4096x512, (extractStridedSlice S4096x512 ![0, 0] x slices_S4096x4864_S4096x512_0_0 : (⟨S4096x512, .f32⟩ : BufTy).Contents (Elt F))⟩,
     ⟨S4096x512, (extractStridedSlice S4096x512 ![0, 768] x slices_S4096x4864_S4096x512_0_768 : (⟨S4096x512, .f32⟩ : BufTy).Contents (Elt F))⟩,
     ⟨S4096x512, (extractStridedSlice S4096x512 ![0, 1280] x slices_S4096x4864_S4096x512_0_1280 : (⟨S4096x512, .f32⟩ : BufTy).Contents (Elt F))⟩,
     ⟨S4096x512, (extractStridedSlice S4096x512 ![0, 1792] x slices_S4096x4864_S4096x512_0_1792 : (⟨S4096x512, .f32⟩ : BufTy).Contents (Elt F))⟩,
     ⟨S4096x512, (extractStridedSlice S4096x512 ![0, 2304] x slices_S4096x4864_S4096x512_0_2304 : (⟨S4096x512, .f32⟩ : BufTy).Contents (Elt F))⟩,
     ⟨S4096x512, (extractStridedSlice S4096x512 ![0, 2816] x slices_S4096x4864_S4096x512_0_2816 : (⟨S4096x512, .f32⟩ : BufTy).Contents (Elt F))⟩,
     ⟨S4096x512, (extractStridedSlice S4096x512 ![0, 3328] x slices_S4096x4864_S4096x512_0_3328 : (⟨S4096x512, .f32⟩ : BufTy).Contents (Elt F))⟩,
     ⟨S4096x512, (extractStridedSlice S4096x512 ![0, 3840] x slices_S4096x4864_S4096x512_0_3840 : (⟨S4096x512, .f32⟩ : BufTy).Contents (Elt F))⟩,
     ⟨S4096x512, (extractStridedSlice S4096x512 ![0, 4352] x slices_S4096x4864_S4096x512_0_4352 : (⟨S4096x512, .f32⟩ : BufTy).Contents (Elt F))⟩,
     ⟨S4096x128, (extractStridedSlice S4096x128 ![0, 512] x slices_S4096x4864_S4096x128_0_512 : (⟨S4096x128, .f32⟩ : BufTy).Contents (Elt F))⟩,
     ⟨S4096x128, (extractStridedSlice S4096x128 ![0, 640] x slices_S4096x4864_S4096x128_0_640 : (⟨S4096x128, .f32⟩ : BufTy).Contents (Elt F))⟩]
    concatenates_S4096x512_S4096x512_S4096x512_S4096x512_S4096x512_S4096x512_S4096x512_S4096x512_S4096x512_S4096x128_S4096x128_S4096x4864_d1

variable (m : (ℓ : Loc nD τ sig) → Buf (Elt F) ℓ) (c : Dev nD)
theorem V_p : V m c main_v11 = pcols (m ((c : Thread nD τ).loc main_arg4)) := by
  unfold V
  after_results
  rfl
theorem V_g : V m c main_v12 = shapeCast S1x512 (m ((c : Thread nD τ).loc main_arg5)) shapeCasts_S512_S1x512 := by
  unfold V
  after_results
  rfl
theorem V_w : V m c main_v13 = truncf .bf16 (m ((c : Thread nD τ).loc main_arg6)) bitsLt_bf16_f32 := by
  unfold V
  after_results
end Host

variable (m : (ℓ : Loc nD τ sig) → Buf (Elt Ideal) ℓ) (c : Dev nD)

/-- The gradient of the scans' sum. -/
abbrev dsum := val_main_v78 (F := Ideal) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7))
/-- The gradient of the memory's output. -/
abbrev dmem := val_main_v48 (F := Ideal) (m ((c : Thread nD τ).loc main_arg4)) (m ((c : Thread nD τ).loc main_arg6)) (m ((c : Thread nD τ).loc main_arg7))
/-- The gradient of the scans' gate. -/
abbrev dgate := val_main_v83 (F := Ideal) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7))
/-- The gradient of the attention's output. -/
abbrev dattn := val_main_v80 (F := Ideal) (m ((c : Thread nD τ).loc main_arg4)) (m ((c : Thread nD τ).loc main_arg6)) (m ((c : Thread nD τ).loc main_arg7))
/-- The gradient of the attention's gate. -/
abbrev dgateAttn := val_main_v82 (F := Ideal) (m ((c : Thread nD τ).loc main_arg0)) (m ((c : Thread nD τ).loc main_arg4)) (m ((c : Thread nD τ).loc main_arg6)) (m ((c : Thread nD τ).loc main_arg7))
/-- The gradient of the memory's gate. -/
abbrev dgateMem := val_main_v84 (F := Ideal) (m ((c : Thread nD τ).loc main_arg3)) (m ((c : Thread nD τ).loc main_arg4)) (m ((c : Thread nD τ).loc main_arg6)) (m ((c : Thread nD τ).loc main_arg7))
/-- The gradient of the group norm's scale. -/
abbrev dscale := val_main_v85 (F := Ideal) (m ((c : Thread nD τ).loc main_arg1)) (m ((c : Thread nD τ).loc main_arg2)) (m ((c : Thread nD τ).loc main_arg4)) (m ((c : Thread nD τ).loc main_arg6)) (m ((c : Thread nD τ).loc main_arg7))
/-- The gradient of the output weight. -/
abbrev dweight := val_main_v42 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7))
/-- The group norm's results. -/
abbrev norm := val_main_v34 (F := Ideal) (m ((c : Thread nD τ).loc main_arg1)) (m ((c : Thread nD τ).loc main_arg2)) (m ((c : Thread nD τ).loc main_arg5))
/-- The mixed rows. -/
abbrev mixed := val_main_v39 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

/-- The block of each window at a point. -/
theorem idx : ∀ t : Fin cfg0.N, win0_0.index t = ![t.val, 0] ∧ win0_1.index t = ![t.val, 0] ∧ win0_2.index t = ![t.val, 0] ∧ win0_3.index t = ![t.val, 0]
    ∧ win0_4.index t = ![t.val, 1] ∧ win0_5.index t = ![t.val, 6] ∧ win0_6.index t = ![t.val, 8] ∧ win0_7.index t = ![0, 0]
    ∧ win0_8.index t = ![0, 0] ∧ win0_9.index t = ![t.val, 0] ∧ win0_10.index t = ![t.val, 0] ∧ win0_11.index t = ![t.val, 0]
    ∧ win0_12.index t = ![t.val, 0] ∧ win0_13.index t = ![t.val, 0] ∧ win0_14.index t = ![t.val, 0] ∧ win0_15.index t = ![t.val, 0]
    ∧ win0_16.index t = ![0, 0] ∧ win0_17.index t = ![0, 0] :=
  (by decide +kernel : ∀ t : Fin grid0.N, _)

/-- Row `a` of the tile of point `t`. -/
def row (t : Fin cfg0.N) (a : Fin 512) : Fin 4096 := ⟨t.val * 512 + a.val, by have := lt_of_lt_of_eq t.isLt N_0; have := a.isLt; omega⟩

theorem attn (x : (⟨S4096x4864, .f32⟩ : BufTy).Contents (Elt Ideal)) (r : Fin 4096) (e : Fin 512) :
    pcols (F := Ideal) x (ix2 r ⟨512 + e.val, by have := e.isLt; omega⟩) = Ref.za x r e := by
  pointwise [pcols]
  exact congrArg (fun e => x (ix2 r e)) (Fin.ext (by dsimp only))
theorem scans (x : (⟨S4096x4864, .f32⟩ : BufTy).Contents (Elt Ideal)) (r : Fin 4096) (e : Fin 512) :
    pcols (F := Ideal) x (ix2 r ⟨3072 + e.val, by have := e.isLt; omega⟩) = Ref.z x r e := by
  pointwise [pcols]
  simp (disch := omega) only [dif_pos, dif_neg]
  exact congrArg (fun e => x (ix2 r e)) (Fin.ext (by dsimp only; omega))
theorem memo (x : (⟨S4096x4864, .f32⟩ : BufTy).Contents (Elt Ideal)) (r : Fin 4096) (e : Fin 512) :
    pcols (F := Ideal) x (ix2 r ⟨4096 + e.val, by have := e.isLt; omega⟩) = Ref.zm x r e := by
  pointwise [pcols]
  simp (disch := omega) only [dif_pos, dif_neg]
  exact congrArg (fun e => x (ix2 r e)) (Fin.ext (by dsimp only; omega))

variable (t : Fin cfg0.N) (a : Fin 512) (e : Fin 512)
theorem gateAttn_eq : k0_pay5 (F := Ideal) (X0_4 m c t) (ix2 a e) = Ref.za (m ((c : Thread nD τ).loc main_arg4)) (row t a) e := by
  rw [← attn, ← V_p]
  pointwise [k0_pay5]
  unfold X0_4 Pipeline.Window.fill
  rw [dif_pos (moved0_4 t _)]
  blk_ext [iblk, idx t, row]
theorem gate_eq : k0_pay6 (F := Ideal) (X0_5 m c t) (ix2 a e) = Ref.z (m ((c : Thread nD τ).loc main_arg4)) (row t a) e := by
  rw [← scans, ← V_p]
  pointwise [k0_pay6]
  unfold X0_5 Pipeline.Window.fill
  rw [dif_pos (moved0_5 t _)]
  blk_ext [iblk, idx t, row]
theorem gateMem_eq : k0_pay7 (F := Ideal) (X0_6 m c t) (ix2 a e) = Ref.zm (m ((c : Thread nD τ).loc main_arg4)) (row t a) e := by
  rw [← memo, ← V_p]
  pointwise [k0_pay7]
  unfold X0_6 Pipeline.Window.fill
  rw [dif_pos (moved0_6 t _)]
  blk_ext [iblk, idx t, row]
theorem g_eq : iblk m c 7 t (ix2 0 e : S1x512.Idx) = (m ((c : Thread nD τ).loc main_arg5)) (ix1 e) := by
  have h2 : shapeCast S1x512 (m ((c : Thread nD τ).loc main_arg5)) shapeCasts_S512_S1x512 (ix2 0 e) = (m ((c : Thread nD τ).loc main_arg5)) (ix1 e) := by
    pointwise
  rw [← h2, ← V_g]
  blk_ext [iblk, idx t]
theorem w_eq (i : Fin 1536) (e : Fin 1024) : iblk m c 8 t (ix2 i e : S1536x1024.Idx) = (m ((c : Thread nD τ).loc main_arg6)) (ix2 i e) := by
  have h2 : truncf (F := Ideal) .bf16 (m ((c : Thread nD τ).loc main_arg6)) bitsLt_bf16_f32 (ix2 i e) = (m ((c : Thread nD τ).loc main_arg6)) (ix2 i e) := by
    pointwise
  rw [← h2, ← V_w]
  blk_ext [iblk, idx t]
theorem dy_eq (e : Fin 1024) : iblk m c 9 t (ix2 a e : S512x1024.Idx) = (m ((c : Thread nD τ).loc main_arg7)) (ix2 (row t a) e) := by
  rw [← V_main_arg7 m c]
  blk_ext [iblk, idx t, row]
theorem mem_eq : iblk m c 3 t (ix2 a e : S512x512.Idx) = (m ((c : Thread nD τ).loc main_arg3)) (ix2 (row t a) e) := by
  rw [← V_main_arg3 m c]
  blk_ext [iblk, idx t, row]
theorem attn_eq : iblk m c 0 t (ix2 a e : S512x512.Idx) = (m ((c : Thread nD τ).loc main_arg0)) (ix2 (row t a) e) := by
  rw [← V_main_arg0 m c]
  blk_ext [iblk, idx t, row]
theorem X_eq (h : Fin 4) : Tile.X (iblk m c 1 t) (iblk m c 2 t) h a = Ref.X (m ((c : Thread nD τ).loc main_arg1)) (m ((c : Thread nD τ).loc main_arg2)) h (row t a) := by
  funext k
  unfold Tile.X Ref.X
  blk_point [iblk, V_main_arg1, V_main_arg2, idx t, row]
theorem dmix_eq (i : Fin 1536) : k0_pay55 (F := Ideal) (iblk m c 9 t) (iblk m c 8 t) (ix2 a i) = Ref.dmix (m ((c : Thread nD τ).loc main_arg6)) (m ((c : Thread nD τ).loc main_arg7)) (row t a) i := by
  unfold Ref.dmix
  pointwise [k0_pay55, k0_pay54, val_main_v43]
  simp only [dy_eq, w_eq]
/-- The tile of the scans' gate, -/
abbrev gt : Vec Ideal S512x512 .f32 := k0_pay47 (k0_pay6 (X0_5 m c t))
/-- and that of the gradient of the scans' part. -/
abbrev ds : Vec Ideal S512x512 .f32 := k0_pay57 (iblk m c 9 t) (iblk m c 8 t)
/-- The tile of the group norm's results. -/
abbrev nm : Vec Ideal S512x512 .f32 := Tile.norms (iblk m c 1 t) (iblk m c 2 t) (iblk m c 7 t)
theorem dn_eq : k0_pay62 (F := Ideal) (gt m c t) (ds m c t) (ix2 a e) = Ref.dnorm (m ((c : Thread nD τ).loc main_arg4)) (m ((c : Thread nD τ).loc main_arg6)) (m ((c : Thread nD τ).loc main_arg7)) (row t a) e := by
  pointwise [k0_pay62, k0_pay57, k0_pay47, k0_pay45, k0_pay44, k0_pay43]
  simp only [gate_eq, dmix_eq, zero_sub]
  rfl
theorem nm_eq : nm m c t (ix2 a e) = norm m c (ix2 (row t a) e) := by
  have h := Tile.norms_eq (iblk m c 1 t) (iblk m c 2 t) (iblk m c 7 t) (hd e) a (pl e)
  rw [col_hd_pl, X_eq] at h
  exact h.trans ((congrArg (_ * ·) (g_eq m c t e)).trans (Ref.v34 (m ((c : Thread nD τ).loc main_arg1)) (m ((c : Thread nD τ).loc main_arg2)) (m ((c : Thread nD τ).loc main_arg5)) (row t a) e).symm)

theorem point11 : Tile.pulls (iblk m c 1 t) (iblk m c 2 t) (iblk m c 7 t) (gt m c t) (ds m c t) (ix2 a e) = dsum m c (ix2 (row t a) e) := by
  have h := Tile.pulls_eq (iblk m c 1 t) (iblk m c 2 t) (iblk m c 7 t) (gt m c t) (ds m c t) (hd e) a (pl e)
  rw [col_hd_pl, X_eq] at h
  refine h.trans (Eq.trans ?_ (Ref.v78 (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (row t a) e).symm)
  refine congrArg (fun d => pull _ d width (pl e)) (funext fun k => ?_)
  exact congrArg₂ (· * ·) (dn_eq m c t a (col (hd e) k)) (g_eq m c t (col (hd e) k))
theorem point10 : k0_pay64 (F := Ideal) (k0_pay42 (k0_pay5 (X0_4 m c t)) (k0_pay37 (k0_pay5 (X0_4 m c t)))) (k0_pay56 (iblk m c 9 t) (iblk m c 8 t)) (ix2 a e) = dattn m c (ix2 (row t a) e) := by
  refine Eq.trans ?_ (Ref.v80 (m ((c : Thread nD τ).loc main_arg4)) (m ((c : Thread nD τ).loc main_arg6)) (m ((c : Thread nD τ).loc main_arg7)) (row t a) e).symm
  pointwise [k0_pay64, k0_pay56, k0_pay42, k0_pay40, k0_pay39, k0_pay38, k0_pay37]
  simp only [gateAttn_eq, dmix_eq, zero_sub]
  rfl
theorem point12 : k0_pay60 (F := Ideal) (k0_pay52 (k0_pay7 (X0_6 m c t))) (k0_pay58 (iblk m c 9 t) (iblk m c 8 t)) (ix2 a e) = dmem m c (ix2 (row t a) e) := by
  refine Eq.trans ?_ (Ref.v48 (m ((c : Thread nD τ).loc main_arg4)) (m ((c : Thread nD τ).loc main_arg6)) (m ((c : Thread nD τ).loc main_arg7)) (row t a) e).symm
  pointwise [k0_pay60, k0_pay58, k0_pay52, k0_pay50, k0_pay49, k0_pay48]
  simp only [gateMem_eq, dmix_eq, zero_sub]
  rfl
theorem point13 : k0_pay85 (F := Ideal) (k0_pay65 (iblk m c 0 t) (k0_pay5 (X0_4 m c t)) (k0_pay38 (k0_pay37 (k0_pay5 (X0_4 m c t))))
      (k0_pay40 (k0_pay37 (k0_pay5 (X0_4 m c t)))) (k0_pay41 (k0_pay37 (k0_pay5 (X0_4 m c t)))) (k0_pay56 (iblk m c 9 t) (iblk m c 8 t))) (ix2 a e)
    = dgateAttn m c (ix2 (row t a) e) := by
  refine Eq.trans ?_ (Ref.v82 (m ((c : Thread nD τ).loc main_arg0)) (m ((c : Thread nD τ).loc main_arg4)) (m ((c : Thread nD τ).loc main_arg6)) (m ((c : Thread nD τ).loc main_arg7)) (row t a) e).symm
  rw [← gateGrad_quotient]
  pointwise [k0_pay85, k0_pay65, k0_pay56, k0_pay41, k0_pay40, k0_pay39, k0_pay38, k0_pay37]
  simp only [gateAttn_eq, dmix_eq, attn_eq, zero_sub]
  rfl
theorem point14 : k0_pay1 (F := Ideal) (k0_pay63 (k0_pay6 (X0_5 m c t)) (nm m c t) (k0_pay43 (k0_pay6 (X0_5 m c t))) (k0_pay45 (k0_pay6 (X0_5 m c t))) (k0_pay46 (k0_pay6 (X0_5 m c t))) (k0_pay57 (iblk m c 9 t) (iblk m c 8 t))) (ix2 a e)
    = dgate m c (ix2 (row t a) e) := by
  refine Eq.trans ?_ (Ref.v83 (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (row t a) e).symm
  rw [← gateGrad_quotient]
  pointwise [k0_pay1, k0_pay63, k0_pay57, k0_pay46, k0_pay45, k0_pay44, k0_pay43]
  simp only [gate_eq, dmix_eq, nm_eq, zero_sub]
  rfl
theorem point15 : k0_pay2 (F := Ideal) (k0_pay61 (k0_pay7 (X0_6 m c t)) (k0_pay48 (k0_pay7 (X0_6 m c t))) (k0_pay50 (k0_pay7 (X0_6 m c t))) (k0_pay51 (k0_pay7 (X0_6 m c t))) (k0_pay59 (iblk m c 3 t) (iblk m c 9 t) (iblk m c 8 t))) (ix2 a e)
    = dgateMem m c (ix2 (row t a) e) := by
  refine Eq.trans ?_ (Ref.v84 (m ((c : Thread nD τ).loc main_arg3)) (m ((c : Thread nD τ).loc main_arg4)) (m ((c : Thread nD τ).loc main_arg6)) (m ((c : Thread nD τ).loc main_arg7)) (row t a) e).symm
  rw [← gateGrad_quotient]
  pointwise [k0_pay2, k0_pay61, k0_pay59, k0_pay58, k0_pay51, k0_pay50, k0_pay49, k0_pay48]
  simp only [gateMem_eq, dmix_eq, mem_eq, zero_sub]
  rfl

/-- A tile that agrees with a result's rows agrees with it at every index. -/
theorem at_row {f : Fin cfg0.N → Vec Ideal S512x512 .f32} {R : Vec Ideal S4096x512 .f32} (H : ∀ t a e, f t (ix2 a e) = R (ix2 (row t a) e))
    (t : Fin cfg0.N) (y : S512x512.Idx) (i : S4096x512.Idx) (h0 : (i 0 : ℕ) = t.val * 512 + y 0) (h1 : (i 1 : ℕ) = y 1) : f t y = R i := by
  have hi : i = ix2 (row t (y 0)) (y 1) := (eq_ix2 i).trans (congrArg₂ ix2 (Fin.ext h0) (Fin.ext h1))
  rw [hi]
  exact (congrArg _ (eq_ix2 y)).trans (H t (y 0) (y 1))

theorem final10 : (dats m 0 c).arrAt 10 cfg0.N = dattn m c := by
  refine (dats m 0 c).arrAt_eq_of_covers 10 _ (by decide +kernel) fun t _ y => ?_
  blk_simp
  rw [after0_10]
  by_cases h : t.val % 8 = 0
  · rw [outsAt0_A m c t h h]
    frame_out
    refine at_row (point10 m c) t y _ ?_ ?_
    all_goals (blk_simp [idx t] <;> try omega)
  · rw [outsAt0_B m c t h h]
    frame_out
    refine at_row (point10 m c) t y _ ?_ ?_
    all_goals (blk_simp [idx t] <;> try omega)
theorem final11 : (dats m 0 c).arrAt 11 cfg0.N = dsum m c := by
  refine (dats m 0 c).arrAt_eq_of_covers 11 _ (by decide +kernel) fun t _ y => ?_
  blk_simp
  rw [after0_11]
  by_cases h : t.val % 8 = 0
  · rw [outsAt0_A m c t h h]
    frame_out
    refine at_row (point11 m c) t y _ ?_ ?_
    all_goals (blk_simp [idx t] <;> try omega)
  · rw [outsAt0_B m c t h h]
    frame_out
    refine at_row (point11 m c) t y _ ?_ ?_
    all_goals (blk_simp [idx t] <;> try omega)
theorem final12 : (dats m 0 c).arrAt 12 cfg0.N = dmem m c := by
  refine (dats m 0 c).arrAt_eq_of_covers 12 _ (by decide +kernel) fun t _ y => ?_
  blk_simp
  rw [after0_12]
  by_cases h : t.val % 8 = 0
  · rw [outsAt0_A m c t h h]
    frame_out
    refine at_row (point12 m c) t y _ ?_ ?_
    all_goals (blk_simp [idx t] <;> try omega)
  · rw [outsAt0_B m c t h h]
    frame_out
    refine at_row (point12 m c) t y _ ?_ ?_
    all_goals (blk_simp [idx t] <;> try omega)
theorem final13 : (dats m 0 c).arrAt 13 cfg0.N = dgateAttn m c := by
  refine (dats m 0 c).arrAt_eq_of_covers 13 _ (by decide +kernel) fun t _ y => ?_
  blk_simp
  rw [after0_13]
  by_cases h : t.val % 8 = 0
  · rw [outsAt0_A m c t h h]
    frame_out
    refine at_row (point13 m c) t y _ ?_ ?_
    all_goals (blk_simp [idx t] <;> try omega)
  · rw [outsAt0_B m c t h h]
    frame_out
    refine at_row (point13 m c) t y _ ?_ ?_
    all_goals (blk_simp [idx t] <;> try omega)
theorem final14 : (dats m 0 c).arrAt 14 cfg0.N = dgate m c := by
  refine (dats m 0 c).arrAt_eq_of_covers 14 _ (by decide +kernel) fun t _ y => ?_
  blk_simp
  rw [after0_14]
  by_cases h : t.val % 8 = 0
  · rw [outsAt0_A m c t h h]
    frame_out
    refine at_row (point14 m c) t y _ ?_ ?_
    all_goals (blk_simp [idx t] <;> try omega)
  · rw [outsAt0_B m c t h h]
    frame_out
    refine at_row (point14 m c) t y _ ?_ ?_
    all_goals (blk_simp [idx t] <;> try omega)
theorem final15 : (dats m 0 c).arrAt 15 cfg0.N = dgateMem m c := by
  refine (dats m 0 c).arrAt_eq_of_covers 15 _ (by decide +kernel) fun t _ y => ?_
  blk_simp
  rw [after0_15]
  by_cases h : t.val % 8 = 0
  · rw [outsAt0_A m c t h h]
    frame_out
    refine at_row (point15 m c) t y _ ?_ ?_
    all_goals (blk_simp [idx t] <;> try omega)
  · rw [outsAt0_B m c t h h]
    frame_out
    refine at_row (point15 m c) t y _ ?_ ?_
    all_goals (blk_simp [idx t] <;> try omega)

/-- One row's part of the gradient of the group norm's scale. -/
def scaleRow (r : Fin 4096) : EReal :=
  normed (Ref.X (m ((c : Thread nD τ).loc main_arg1)) (m ((c : Thread nD τ).loc main_arg2)) (hd e) r) width (pl e) * Ref.dnorm (m ((c : Thread nD τ).loc main_arg4)) (m ((c : Thread nD τ).loc main_arg6)) (m ((c : Thread nD τ).loc main_arg7)) r e
theorem scales_point : Tile.scales (iblk m c 1 t) (iblk m c 2 t) (gt m c t) (ds m c t) (ix2 0 e) = ∑ a : Fin 512, scaleRow m c e (row t a) := by
  have h := Tile.scales_eq (iblk m c 1 t) (iblk m c 2 t) (gt m c t) (ds m c t) (hd e) (pl e)
  rw [col_hd_pl] at h
  refine h.trans (Finset.sum_congr rfl fun a _ => ?_)
  rw [X_eq]
  exact congrArg (_ * ·) (dn_eq m c t a e)
/-- One point adds its tile's part of the gradient of the group norm's scale. -/
theorem step16 (b : Vec Ideal S1x512 .f32) (j : S1x512.Idx) :
    k0_pay4 (F := Ideal) (Tile.scales (iblk m c 1 t) (iblk m c 2 t) (gt m c t) (ds m c t)) b j = b j + ∑ a : Fin 512, scaleRow m c (j 1) (row t a) := by
  have hj : j = ix2 0 (j 1) := (eq_ix2 j).trans (congrArg (fun z => ix2 z (j 1)) (Subsingleton.elim (α := Fin 1) _ _))
  refine Eq.trans ?_ (congrArg (b j + ·) (scales_point m c t (j 1)))
  refine Eq.trans ?_ (congrArg (fun i => b j + Tile.scales (iblk m c 1 t) (iblk m c 2 t) (gt m c t) (ds m c t) i) hj)
  pointwise [k0_pay4]
theorem zero16 (j : S1x512.Idx) : k0_pay3 (F := Ideal) j = 0 := by
  pointwise [k0_pay3]
theorem ref16 (j : S1x512.Idx) : dscale m c j = ∑ r : Fin 4096, scaleRow m c (j 1) r := by
  have hj : j = ix2 0 (j 1) := (eq_ix2 j).trans (congrArg (fun z => ix2 z (j 1)) (Subsingleton.elim (α := Fin 1) _ _))
  exact (congrArg _ hj).trans (Ref.v85 (m ((c : Thread nD τ).loc main_arg1)) (m ((c : Thread nD τ).loc main_arg2)) (m ((c : Thread nD τ).loc main_arg4)) (m ((c : Thread nD τ).loc main_arg6)) (m ((c : Thread nD τ).loc main_arg7)) (j 1))
theorem final16 : (dats m 0 c).arrAt 16 cfg0.N = dscale m c := by
  refine (dats m 0 c).arrAt_eq_of_after_last 16 t0_7 (by decide +kernel) _ fun j => ?_
  blk_simp
  rw [after0_16, Pipeline.eq_sum_fin_of_reset_step_apply_last (fun n h => (outsAt0 m c n h).2.2.2.2.2.2.1) 8 (fun _ => 0) _
    (fun t h j => by rw [outsAt0_A m c t h h]; frame_out; exact (step16 m c t _ j).trans (congrArg (· + _) (zero16 j)))
    (fun t h j => by rw [outsAt0_B m c t h h]; frame_out; exact step16 m c t _ j) (le_of_eq N_0) t0_7 rfl j, zero_add, ref16]
  refine Fin.sum_mul_add_congr fun t k hl => ?_
  blk_point [row]

theorem mixed_eq (i : Fin 1536) : k0_pay53 (F := Ideal) (iblk m c 0 t) (iblk m c 3 t) (k0_pay5 (X0_4 m c t)) (k0_pay6 (X0_5 m c t)) (k0_pay7 (X0_6 m c t)) (nm m c t) (k0_pay37 (k0_pay5 (X0_4 m c t))) (ix2 a i)
    = mixed m c (ix2 (row t a) i) := by
  refine Eq.trans ?_ (Ref.v39 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (row t a) i).symm
  split_ifs with h h'
  all_goals pointwise [k0_pay53]
  all_goals simp (disch := omega) only [dif_pos, dif_neg]
  · pointwise [k0_pay42, k0_pay40, k0_pay39, k0_pay38, k0_pay37]
    simp only [gateAttn_eq, attn_eq, zero_sub]
    rfl
  · pointwise [k0_pay47, k0_pay45, k0_pay44, k0_pay43]
    simp only [gate_eq, nm_eq, zero_sub]
    rfl
  · have e : (⟨i.val - 512 - 512, by have := i.isLt; omega⟩ : Fin 512) = ⟨i.val - 1024, by have := i.isLt; omega⟩ := Fin.ext (by dsimp only; omega)
    pointwise [k0_pay52, k0_pay50, k0_pay49, k0_pay48]
    simp only [gateMem_eq, mem_eq, zero_sub, e]
    rfl
/-- One row's part of the gradient of the output weight. -/
def weightRow (j : S1536x1024.Idx) (r : Fin 4096) : EReal := mixed m c (ix2 r (j 0)) * (m ((c : Thread nD τ).loc main_arg7)) (ix2 r (j 1))
set_option backward.isDefEq.respectTransparency false in
/-- One point adds its tile's part of the gradient of the output weight. -/
theorem step17 (b : Vec Ideal S1536x1024 .f32) (j : S1536x1024.Idx) :
    k0_pay84 (F := Ideal) (k0_pay53 (iblk m c 0 t) (iblk m c 3 t) (k0_pay5 (X0_4 m c t)) (k0_pay6 (X0_5 m c t)) (k0_pay7 (X0_6 m c t)) (nm m c t) (k0_pay37 (k0_pay5 (X0_4 m c t)))) (k0_pay54 (iblk m c 9 t)) b j
      = b j + ∑ a : Fin 512, weightRow m c j (row t a) := by
  pointwise [k0_pay84, k0_pay54]
  refine congrArg (b j + ·) (Finset.sum_congr rfl fun a _ => ?_)
  exact congrArg₂ (· * ·) (mixed_eq m c t a (j 0)) (dy_eq m c t a (j 1))
theorem zero17 (j : S1536x1024.Idx) : k0_pay83 (F := Ideal) j = 0 := by
  pointwise [k0_pay83]
theorem ref17 (j : S1536x1024.Idx) : dweight m c j = ∑ r : Fin 4096, weightRow m c j r :=
  Ref.v42 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) j
theorem final17 : (dats m 0 c).arrAt 17 cfg0.N = dweight m c := by
  refine (dats m 0 c).arrAt_eq_of_after_last 17 t0_7 (by decide +kernel) _ fun j => ?_
  blk_simp
  rw [after0_17, Pipeline.eq_sum_fin_of_reset_step_apply_last (fun n h => (outsAt0 m c n h).2.2.2.2.2.2.2) 8 (fun _ => 0) _
    (fun t h j => by rw [outsAt0_A m c t h h]; frame_out; exact (step17 m c t _ j).trans (congrArg (· + _) (zero17 j)))
    (fun t h j => by rw [outsAt0_B m c t h h]; frame_out; exact step17 m c t _ j) (le_of_eq N_0) t0_7 rfl j, zero_add, ref17]
  refine Fin.sum_mul_add_congr fun t k hl => ?_
  blk_point [row]

end Cert.OutEIdeal.Mix

theorem Cert.OutEIdeal.algebraic : Cert.algebraic_OutEIdeal_OutERefIdeal := by
  pair_intro
  · run_from Cert.OutEIdeal.Value.run_blocks m g
  · run_from Cert.OutERefIdeal.Named.run m' g'
    · exact (Cert.OutEIdeal.Mix.final10 m c).symm
    · exact (Cert.OutEIdeal.Mix.final11 m c).symm
    · exact (Cert.OutEIdeal.Mix.final12 m c).symm
    · exact (Cert.OutEIdeal.Mix.final13 m c).symm
    · exact (Cert.OutEIdeal.Mix.final14 m c).symm
    · exact (Cert.OutEIdeal.Mix.final15 m c).symm
    · exact (Cert.OutEIdeal.Mix.final16 m c).symm
    · exact (Cert.OutEIdeal.Mix.final17 m c).symm
-- ==== Proof.OutOTile.lean ====
module

public import proofs.«01_k».proof.Proof.OutORef
public import proofs.«01_k».proof.Proof.Gen.OutOIdeal.Skeleton

/-! The payloads of the odd layers' mixing kernel over one tile of 512 rows, group by group and row by row. -/

@[expose] public section

set_option maxRecDepth 16384

noncomputable section

open Idealize.ShloMosaic Idealize.ShloMosaic.TcCoe Idealize.SL.Sem

namespace Cert.OutOIdeal.Tile
open Cert.OutOIdeal Cert.OutOIdeal.Gen Cert.OutRows
open Cert.OutOIdeal.Ref (col hd pl col_hd_pl width)

section Group
variable (v : Vec Ideal S512x256 .f32) (g : Vec Ideal S1x256 .f32) (d : Vec Ideal S512x1024 .f32) (i : Fin 512) (k : Fin 256)
/-- A row of one group. -/
abbrev row : Fin 256 → EReal := fun k => v (ix2 i k)
/-- The word of the constant that moves the mean square off zero. -/
abbrev off : EReal := Ideal.ofBits FTy.f32 897988541#32

theorem var2 : k0_pay28 (F := Ideal) v (ix2 i 0) = var (row v i) width := by
  pointwise [k0_pay28]
  rfl
theorem inv2 : k0_pay29 (F := Ideal) v (ix2 i 0) = inv (row v i) width := by
  pointwise [k0_pay29]
  rw [var2]
  rfl
theorem slope2 : k0_pay30 (F := Ideal) v (ix2 i 0) = slope (row v i) width := by
  pointwise [k0_pay30]
  rw [inv2, var2]
  rfl
theorem normed2 : k0_pay31 (F := Ideal) v (ix2 i k) = normed (row v i) width k := by
  pointwise [k0_pay31]
  rw [inv2]
  rfl
theorem pull2 : k0_pay64 (F := Ideal) v g (k0_pay29 (F := Ideal) v) (k0_pay30 (F := Ideal) v) d (ix2 i k)
    = pull (row v i) (fun k => d (ix2 i (col 2 k)) * g (ix2 0 k)) width k := by
  pointwise [k0_pay64, k0_pay59]
  simp only [inv2, slope2, Fin.sum_univ_one]
  rfl
theorem var3 : k0_pay32 (F := Ideal) v (ix2 i 0) = var (row v i) width := by
  pointwise [k0_pay32]
  rfl
theorem inv3 : k0_pay33 (F := Ideal) v (ix2 i 0) = inv (row v i) width := by
  pointwise [k0_pay33]
  rw [var3]
  rfl
theorem slope3 : k0_pay34 (F := Ideal) v (ix2 i 0) = slope (row v i) width := by
  pointwise [k0_pay34]
  rw [inv3, var3]
  rfl
theorem normed3 : k0_pay35 (F := Ideal) v (ix2 i k) = normed (row v i) width k := by
  pointwise [k0_pay35]
  rw [inv3]
  rfl
theorem pull3 : k0_pay62 (F := Ideal) v g (k0_pay33 (F := Ideal) v) (k0_pay34 (F := Ideal) v) d (ix2 i k)
    = pull (row v i) (fun k => d (ix2 i (col 3 k)) * g (ix2 0 k)) width k := by
  pointwise [k0_pay62, k0_pay60]
  simp only [inv3, slope3, Fin.sum_univ_one]
  rfl
end Group

section Rows
variable (x y : Vec Ideal S512x1024 .f32) (g : Vec Ideal S1x1024 .f32) (d : Vec Ideal S512x1024 .f32)
variable (h : Fin 4) (i : Fin 512) (k : Fin 256) (e : Fin 1024)
/-- Row `i` of the two scans' sum, in group `h`. -/
def X : Fin 256 → EReal := fun k => x (ix2 i (col h k)) + y (ix2 i (col h k))

theorem row0 : row (k0_pay10 (F := Ideal) x y) i = X x y 0 i := by
  funext k
  pointwise [k0_pay10, k0_pay9]
  exact congrArg (fun e => x (ix2 i e) + y (ix2 i e)) (Fin.ext (by simp [col]))
theorem row1 : row (k0_pay11 (F := Ideal) x y) i = X x y 1 i := by
  funext k
  pointwise [k0_pay11, k0_pay9]
  rfl
theorem row2 : row (k0_pay12 (F := Ideal) x y) i = X x y 2 i := by
  funext k
  pointwise [k0_pay12, k0_pay9]
  rfl
theorem row3 : row (k0_pay13 (F := Ideal) x y) i = X x y 3 i := by
  funext k
  pointwise [k0_pay13, k0_pay9]
  rfl
theorem scale0 : k0_pay14 (F := Ideal) g (ix2 0 k) = g (ix2 0 (col 0 k)) := by
  pointwise [k0_pay14, k0_pay8]
  exact congrArg (fun e => g (ix2 0 e)) (Fin.ext (by simp [col]))
theorem scale1 : k0_pay15 (F := Ideal) g (ix2 0 k) = g (ix2 0 (col 1 k)) := by
  pointwise [k0_pay15, k0_pay8]
  rfl
theorem scale2 : k0_pay16 (F := Ideal) g (ix2 0 k) = g (ix2 0 (col 2 k)) := by
  pointwise [k0_pay16, k0_pay8]
  rfl
theorem scale3 : k0_pay17 (F := Ideal) g (ix2 0 k) = g (ix2 0 (col 3 k)) := by
  pointwise [k0_pay17, k0_pay8]
  rfl
theorem var0 : k0_pay18 (F := Ideal) x y (ix2 i 0) = var (X x y 0 i) width := by
  rw [← row0]
  pointwise [k0_pay18]
  rfl
theorem inv0 : k0_pay19 (F := Ideal) x y (ix2 i 0) = inv (X x y 0 i) width := by
  pointwise [k0_pay19]
  rw [var0]
  rfl
theorem slope0 : k0_pay20 (F := Ideal) x y (ix2 i 0) = slope (X x y 0 i) width := by
  pointwise [k0_pay20]
  rw [inv0, var0]
  rfl
theorem normed0 : k0_pay21 (F := Ideal) x y (ix2 i k) = normed (X x y 0 i) width k := by
  pointwise [k0_pay21]
  rw [inv0, ← row0]
  rfl
theorem var1 : k0_pay24 (F := Ideal) (k0_pay23 (F := Ideal) x y) off (ix2 i 0) = var (X x y 1 i) width := by
  rw [← row1]
  pointwise [k0_pay24, k0_pay23]
  rfl
theorem inv1 : k0_pay25 (F := Ideal) (k0_pay23 (F := Ideal) x y) off (ix2 i 0) = inv (X x y 1 i) width := by
  pointwise [k0_pay25]
  rw [var1]
  rfl
theorem slope1 : k0_pay26 (F := Ideal) (k0_pay23 (F := Ideal) x y) off (ix2 i 0) = slope (X x y 1 i) width := by
  pointwise [k0_pay26]
  rw [inv1, var1]
  rfl
theorem normed1 : k0_pay27 (F := Ideal) (k0_pay11 (F := Ideal) x y) (k0_pay23 (F := Ideal) x y) off (ix2 i k) = normed (X x y 1 i) width k := by
  pointwise [k0_pay27]
  rw [inv1, ← row1]
  rfl

/-- The group norm's results over a tile. -/
abbrev norms : Vec Ideal S512x1024 .f32 :=
  k0_pay36 (F := Ideal) (k0_pay11 x y) (k0_pay12 x y) (k0_pay13 x y) (k0_pay15 g) (k0_pay16 g) (k0_pay17 g) (k0_pay22 x y g) (k0_pay23 x y) off
/-- The gradient of the scans' sum over a tile, `d` being the gradient of the group norm's results. -/
abbrev pulls : Vec Ideal S512x1024 .f32 :=
  k0_pay67 (F := Ideal) (k0_pay10 x y) (k0_pay11 x y) (k0_pay14 g) (k0_pay15 g) (k0_pay19 x y) (k0_pay20 x y)
    (k0_pay25 (k0_pay23 x y) off) (k0_pay26 (k0_pay23 x y) off) (k0_pay57 d) (k0_pay58 d)
    (k0_pay62 (k0_pay13 x y) (k0_pay17 g) (k0_pay33 (k0_pay13 x y)) (k0_pay34 (k0_pay13 x y)) d)
    (k0_pay64 (k0_pay12 x y) (k0_pay16 g) (k0_pay29 (k0_pay12 x y)) (k0_pay30 (k0_pay12 x y)) d)
/-- The gradient of the group norm's scale over a tile. -/
abbrev scales : Vec Ideal S1x1024 .f32 :=
  k0_pay66 (F := Ideal) (k0_pay21 x y) (k0_pay57 d) (k0_pay61 (k0_pay35 (k0_pay13 x y)) d) (k0_pay63 (k0_pay31 (k0_pay12 x y)) d)
    (k0_pay65 (k0_pay27 (k0_pay11 x y) (k0_pay23 x y) off) d)

theorem cut0 : k0_pay57 (F := Ideal) d (ix2 i k) = d (ix2 i ⟨k.val, by have := k.isLt; omega⟩) := by
  pointwise [k0_pay57]
theorem cut1 : k0_pay58 (F := Ideal) d (ix2 i k) = d (ix2 i (col 1 k)) := by
  pointwise [k0_pay58]
  rfl
theorem cut2 : k0_pay59 (F := Ideal) d (ix2 i k) = d (ix2 i (col 2 k)) := by
  pointwise [k0_pay59]
  rfl
theorem cut3 : k0_pay60 (F := Ideal) d (ix2 i k) = d (ix2 i (col 3 k)) := by
  pointwise [k0_pay60]
  rfl
theorem first : col 0 k = ⟨k.val, by have := k.isLt; omega⟩ := Fin.ext (by simp [col])
theorem third (h : 512 + k.val - 256 - 256 < 256) : (⟨512 + k.val - 256 - 256, h⟩ : Fin 256) = k := Fin.ext (by dsimp only; omega)
theorem fourth (h : 768 + k.val - 256 - 256 - 256 < 256) : (⟨768 + k.val - 256 - 256 - 256, h⟩ : Fin 256) = k := Fin.ext (by dsimp only; omega)

theorem norms_eq : norms x y g (ix2 i (col h k)) = normed (X x y h i) width k * g (ix2 0 (col h k)) := by
  fin_cases h
  all_goals pointwise [k0_pay36, k0_pay22, col]
  all_goals try simp (disch := omega) only [dif_pos, dif_neg]
  · rw [normed0, scale0, first]
  · rw [normed1, scale1]
    rfl
  · rw [third, normed2, scale2, row2]
    rfl
  · rw [fourth, normed3, scale3, row3]
    rfl
theorem pulls_eq : pulls x y g d (ix2 i (col h k)) = pull (X x y h i) (fun k => d (ix2 i (col h k)) * g (ix2 0 (col h k))) width k := by
  fin_cases h
  all_goals pointwise [k0_pay67, col]
  all_goals try simp (disch := omega) only [dif_pos, dif_neg]
  · simp only [cut0, scale0, inv0, slope0, Fin.sum_univ_one, first]
    rw [← row0]
    rfl
  · simp only [cut1, scale1, inv1, slope1, Fin.sum_univ_one]
    rw [← row1]
    rfl
  · rw [third, pull2, row2]
    simp only [scale2]
    rfl
  · rw [fourth, pull3, row3]
    simp only [scale3]
    rfl
theorem scales_eq : scales x y d (ix2 0 (col h k)) = ∑ i, normed (X x y h i) width k * d (ix2 i (col h k)) := by
  fin_cases h
  all_goals pointwise [k0_pay66, k0_pay61, k0_pay63, k0_pay65, col]
  all_goals try simp (disch := omega) only [dif_pos, dif_neg]
  · simp only [normed0, cut0]
  · simp only [normed1, cut1]
    rfl
  · simp only [third, normed2, cut2, row2]
    rfl
  · simp only [fourth, normed3, cut3, row3]
    rfl
end Rows

end Cert.OutOIdeal.Tile
-- ==== Proof.OutORefNamed.lean ====
module

public import proofs.«01_k».proof.Proof.Gen.OutORefIdeal.Run
public import proofs.«01_k».proof.Proof.Gen.OutORefIdeal.Read

@[expose] public section

noncomputable section

open Idealize.ShloMosaic Idealize.ShloMosaic.TcCoe Idealize.SL.Sem

namespace Cert.OutORefIdeal.Named
open Cert.OutORefIdeal Cert.OutORefIdeal.Gen Cert.OutORefIdeal.Value Cert.OutORefIdeal.Read

/-- The reference's run, each result stated by the named stage that computes it. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v72) = val_main_v72 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v42) = val_main_v42 (F := Ideal) (m ((c.tc : Thread nD τ).loc main_arg3)) (m ((c.tc : Thread nD τ).loc main_arg5)) (m ((c.tc : Thread nD τ).loc main_arg6))
      ∧ r.2.mem ((c.tc : Thread nD τ).loc main_v73) = val_main_v73 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v74) = val_main_v74 (F := Ideal) (m ((c.tc : Thread nD τ).loc main_arg2)) (m ((c.tc : Thread nD τ).loc main_arg3)) (m ((c.tc : Thread nD τ).loc main_arg5)) (m ((c.tc : Thread nD τ).loc main_arg6))
      ∧ r.2.mem ((c.tc : Thread nD τ).loc main_v75) = val_main_v75 (F := Ideal) (m ((c.tc : Thread nD τ).loc main_arg0)) (m ((c.tc : Thread nD τ).loc main_arg1)) (m ((c.tc : Thread nD τ).loc main_arg3)) (m ((c.tc : Thread nD τ).loc main_arg5)) (m ((c.tc : Thread nD τ).loc main_arg6))
      ∧ r.2.mem ((c.tc : Thread nD τ).loc main_v37) = val_main_v37 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6))
      ∧ r.2.mem ((c.tc : Thread nD τ).loc main_arg0) = (m ((c.tc : Thread nD τ).loc main_arg0))
      ∧ r.2.mem ((c.tc : Thread nD τ).loc main_arg1) = (m ((c.tc : Thread nD τ).loc main_arg1))
      ∧ r.2.mem ((c.tc : Thread nD τ).loc main_arg2) = (m ((c.tc : Thread nD τ).loc main_arg2))
      ∧ r.2.mem ((c.tc : Thread nD τ).loc main_arg3) = (m ((c.tc : Thread nD τ).loc main_arg3))
      ∧ r.2.mem ((c.tc : Thread nD τ).loc main_arg4) = (m ((c.tc : Thread nD τ).loc main_arg4))
      ∧ r.2.mem ((c.tc : Thread nD τ).loc main_arg5) = (m ((c.tc : Thread nD τ).loc main_arg5))
      ∧ r.2.mem ((c.tc : Thread nD τ).loc main_arg6) = (m ((c.tc : Thread nD τ).loc main_arg6)) :=
  (θ_run defs _ _).mono (fun _ h c => ⟨(h c).1.trans (val_main_v72_eq (F := Ideal) m c), (h c).2.1.trans (val_main_v42_eq (F := Ideal) (m ((c.tc : Thread nD τ).loc main_arg3)) (m ((c.tc : Thread nD τ).loc main_arg5)) (m ((c.tc : Thread nD τ).loc main_arg6))), (h c).2.2.1.trans (val_main_v73_eq (F := Ideal) m c), (h c).2.2.2.1.trans (val_main_v74_eq (F := Ideal) (m ((c.tc : Thread nD τ).loc main_arg2)) (m ((c.tc : Thread nD τ).loc main_arg3)) (m ((c.tc : Thread nD τ).loc main_arg5)) (m ((c.tc : Thread nD τ).loc main_arg6))), (h c).2.2.2.2.1.trans (val_main_v75_eq (F := Ideal) (m ((c.tc : Thread nD τ).loc main_arg0)) (m ((c.tc : Thread nD τ).loc main_arg1)) (m ((c.tc : Thread nD τ).loc main_arg3)) (m ((c.tc : Thread nD τ).loc main_arg5)) (m ((c.tc : Thread nD τ).loc main_arg6))), (h c).2.2.2.2.2.1.trans (val_main_v37_eq (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6))), (h c).2.2.2.2.2.2⟩) (Cert.OutORefIdeal.Value.run m ρ)

end Cert.OutORefIdeal.Named
-- ==== Proof.OutOValue.lean ====
module

public import proofs.«01_k».proof.Defs
public import proofs.«01_k».proof.Proof.Gen.OutOIdeal.Value
public import Idealize.ShloMosaic.Lib.Claim
public import proofs.«01_k».proof.Proof.OutOTile
public import proofs.«01_k».proof.Proof.Gen.OutORefIdeal.Run
public import proofs.«01_k».proof.Proof.OutORefNamed
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.OutOIdeal.Mix
open Cert.OutOIdeal Cert.OutOIdeal.Gen Cert.OutRows
open Cert.OutOIdeal.Ref (col hd pl col_hd_pl width)
open Cert.OutORefIdeal.Read

section Host
variable {F : FTy → Type} [FloatOps F]
/-- The projections' columns in the kernel's order and 96 columns of zeros, as the host lays them out. -/
def pcols (x : (⟨S4096x4128, .f32⟩ : BufTy).Contents (Elt F)) : (⟨S4096x4224, .f32⟩ : BufTy).Contents (Elt F) :=
  concatenate S4096x4224 1
    [⟨S4096x512, (extractStridedSlice S4096x512 ![0, 0] x slices_S4096x4128_S4096x512_0_0 : (⟨S4096x512, .f32⟩ : BufTy).Contents (Elt F))⟩,
     ⟨S4096x512, (extractStridedSlice S4096x512 ![0, 512] x slices_S4096x4128_S4096x512_0_512 : (⟨S4096x512, .f32⟩ : BufTy).Contents (Elt F))⟩,
     ⟨S4096x1024, (extractStridedSlice S4096x1024 ![0, 1024] x slices_S4096x4128_S4096x1024_0_1024 : (⟨S4096x1024, .f32⟩ : BufTy).Contents (Elt F))⟩,
     ⟨S4096x1024, (extractStridedSlice S4096x1024 ![0, 2048] x slices_S4096x4128_S4096x1024_0_2048 : (⟨S4096x1024, .f32⟩ : BufTy).Contents (Elt F))⟩,
     ⟨S4096x512, (extractStridedSlice S4096x512 ![0, 3104] x slices_S4096x4128_S4096x512_0_3104 : (⟨S4096x512, .f32⟩ : BufTy).Contents (Elt F))⟩,
     ⟨S4096x512, (extractStridedSlice S4096x512 ![0, 3616] x slices_S4096x4128_S4096x512_0_3616 : (⟨S4096x512, .f32⟩ : BufTy).Contents (Elt F))⟩,
     ⟨S4096x32, (extractStridedSlice S4096x32 ![0, 3072] x slices_S4096x4128_S4096x32_0_3072 : (⟨S4096x32, .f32⟩ : BufTy).Contents (Elt F))⟩,
     ⟨S4096x96, (broadcastInDim S4096x96 ![] bcast_S_S4096x96 (constant S_ .f32 0x00000000#32 : (⟨S_, .f32⟩ : BufTy).Contents (Elt F)) : (⟨S4096x96, .f32⟩ : BufTy).Contents (Elt F))⟩]
    concatenates_S4096x512_S4096x512_S4096x1024_S4096x1024_S4096x512_S4096x512_S4096x32_S4096x96_S4096x4224_d1

variable (m : (ℓ : Loc nD τ sig) → Buf (Elt F) ℓ) (c : Dev nD)
theorem V_p : V m c main_v8 = pcols (m ((c : Thread nD τ).loc main_arg3)) := by
  unfold V
  after_results
  rfl
theorem V_g : V m c main_v9 = shapeCast S1x1024 (m ((c : Thread nD τ).loc main_arg4)) shapeCasts_S1024_S1x1024 := by
  unfold V
  after_results
  rfl
theorem V_w : V m c main_v10 = truncf .bf16 (m ((c : Thread nD τ).loc main_arg5)) bitsLt_bf16_f32 := by
  unfold V
  after_results
end Host

variable (m : (ℓ : Loc nD τ sig) → Buf (Elt Ideal) ℓ) (c : Dev nD)

/-- The gradient of the scans' sum. -/
abbrev dsum := val_main_v72 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))
/-- The gradient of the memory's output. -/
abbrev dmem := val_main_v42 (F := Ideal) (m ((c : Thread nD τ).loc main_arg3)) (m ((c : Thread nD τ).loc main_arg5)) (m ((c : Thread nD τ).loc main_arg6))
/-- The gradient of the scans' gate. -/
abbrev dgate := val_main_v73 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))
/-- The gradient of the memory's gate. -/
abbrev dgateMem := val_main_v74 (F := Ideal) (m ((c : Thread nD τ).loc main_arg2)) (m ((c : Thread nD τ).loc main_arg3)) (m ((c : Thread nD τ).loc main_arg5)) (m ((c : Thread nD τ).loc main_arg6))
/-- The gradient of the group norm's scale. -/
abbrev dscale := val_main_v75 (F := Ideal) (m ((c : Thread nD τ).loc main_arg0)) (m ((c : Thread nD τ).loc main_arg1)) (m ((c : Thread nD τ).loc main_arg3)) (m ((c : Thread nD τ).loc main_arg5)) (m ((c : Thread nD τ).loc main_arg6))
/-- The gradient of the output weight. -/
abbrev dweight := val_main_v37 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6))
/-- The group norm's results. -/
abbrev norm := val_main_v29 (F := Ideal) (m ((c : Thread nD τ).loc main_arg0)) (m ((c : Thread nD τ).loc main_arg1)) (m ((c : Thread nD τ).loc main_arg4))
/-- The mixed rows. -/
abbrev mixed := val_main_v34 (F := Ideal) (m ((c : Thread nD τ).loc main_arg0)) (m ((c : Thread nD τ).loc main_arg1)) (m ((c : Thread nD τ).loc main_arg2)) (m ((c : Thread nD τ).loc main_arg3)) (m ((c : Thread nD τ).loc main_arg4))

/-- The block of each window at a point. -/
theorem idx : ∀ t : Fin cfg0.N, win0_0.index t = ![t.val, 0] ∧ win0_1.index t = ![t.val, 0] ∧ win0_2.index t = ![t.val, 0]
    ∧ win0_3.index t = ![t.val, 2] ∧ win0_4.index t = ![t.val, 7] ∧ win0_5.index t = ![0, 0] ∧ win0_6.index t = ![0, 0]
    ∧ win0_7.index t = ![t.val, 0] ∧ win0_8.index t = ![t.val, 0] ∧ win0_9.index t = ![t.val, 0] ∧ win0_10.index t = ![t.val, 0]
    ∧ win0_11.index t = ![t.val, 0] ∧ win0_12.index t = ![0, 0] ∧ win0_13.index t = ![0, 0] :=
  (by decide +kernel : ∀ t : Fin grid0.N, _)

/-- Row `a` of the tile of point `t`. -/
def row (t : Fin cfg0.N) (a : Fin 512) : Fin 4096 := ⟨t.val * 512 + a.val, by have := lt_of_lt_of_eq t.isLt N_0; have := a.isLt; omega⟩

theorem scans (x : (⟨S4096x4128, .f32⟩ : BufTy).Contents (Elt Ideal)) (r : Fin 4096) (e : Fin 1024) :
    pcols (F := Ideal) x (ix2 r ⟨2048 + e.val, by have := e.isLt; omega⟩) = Ref.z x r e := by
  pointwise [pcols]
  simp (disch := omega) only [dif_pos, dif_neg]
  exact congrArg (fun e => x (ix2 r e)) (Fin.ext (by dsimp only; omega))
theorem memo (x : (⟨S4096x4128, .f32⟩ : BufTy).Contents (Elt Ideal)) (r : Fin 4096) (e : Fin 512) :
    pcols (F := Ideal) x (ix2 r ⟨3584 + e.val, by have := e.isLt; omega⟩) = Ref.zm x r e := by
  pointwise [pcols]
  simp (disch := omega) only [dif_pos, dif_neg]
  exact congrArg (fun e => x (ix2 r e)) (Fin.ext (by dsimp only; omega))

variable (t : Fin cfg0.N) (a : Fin 512) (e : Fin 1024)
theorem gate_eq : k0_pay6 (F := Ideal) (X0_3 m c t) (ix2 a e) = Ref.z (m ((c : Thread nD τ).loc main_arg3)) (row t a) e := by
  rw [← scans, ← V_p]
  pointwise [k0_pay6]
  unfold X0_3 Pipeline.Window.fill
  rw [dif_pos (moved0_3 t _)]
  blk_ext [iblk, idx t, row]
theorem gateMem_eq (e : Fin 512) : k0_pay7 (F := Ideal) (X0_4 m c t) (ix2 a e) = Ref.zm (m ((c : Thread nD τ).loc main_arg3)) (row t a) e := by
  rw [← memo, ← V_p]
  pointwise [k0_pay7]
  unfold X0_4 Pipeline.Window.fill
  rw [dif_pos (moved0_4 t _)]
  blk_ext [iblk, idx t, row]
theorem g_eq : iblk m c 5 t (ix2 0 e : S1x1024.Idx) = (m ((c : Thread nD τ).loc main_arg4)) (ix1 e) := by
  have h2 : shapeCast S1x1024 (m ((c : Thread nD τ).loc main_arg4)) shapeCasts_S1024_S1x1024 (ix2 0 e) = (m ((c : Thread nD τ).loc main_arg4)) (ix1 e) := by
    pointwise
  rw [← h2, ← V_g]
  blk_ext [iblk, idx t]
theorem w_eq (i : Fin 1536) : iblk m c 6 t (ix2 i e : S1536x1024.Idx) = (m ((c : Thread nD τ).loc main_arg5)) (ix2 i e) := by
  have h2 : truncf (F := Ideal) .bf16 (m ((c : Thread nD τ).loc main_arg5)) bitsLt_bf16_f32 (ix2 i e) = (m ((c : Thread nD τ).loc main_arg5)) (ix2 i e) := by
    pointwise
  rw [← h2, ← V_w]
  blk_ext [iblk, idx t]
theorem dy_eq : iblk m c 7 t (ix2 a e : S512x1024.Idx) = (m ((c : Thread nD τ).loc main_arg6)) (ix2 (row t a) e) := by
  rw [← V_main_arg6 m c]
  blk_ext [iblk, idx t, row]
theorem mem_eq (e : Fin 512) : iblk m c 2 t (ix2 a e : S512x512.Idx) = (m ((c : Thread nD τ).loc main_arg2)) (ix2 (row t a) e) := by
  rw [← V_main_arg2 m c]
  blk_ext [iblk, idx t, row]
theorem X_eq (h : Fin 4) : Tile.X (iblk m c 0 t) (iblk m c 1 t) h a = Ref.X (m ((c : Thread nD τ).loc main_arg0)) (m ((c : Thread nD τ).loc main_arg1)) h (row t a) := by
  funext k
  unfold Tile.X Ref.X
  blk_point [iblk, V_main_arg0, V_main_arg1, idx t, row]
theorem dmix_eq (i : Fin 1536) : k0_pay47 (F := Ideal) (iblk m c 7 t) (iblk m c 6 t) (ix2 a i) = Ref.dmix (m ((c : Thread nD τ).loc main_arg5)) (m ((c : Thread nD τ).loc main_arg6)) (row t a) i := by
  unfold Ref.dmix
  pointwise [k0_pay47, k0_pay46, val_main_v38]
  simp only [dy_eq, w_eq]
/-- The tile of the gradient of the group norm's results. -/
abbrev dn : Vec Ideal S512x1024 .f32 :=
  k0_pay53 (k0_pay6 (X0_3 m c t)) (k0_pay39 (k0_pay6 (X0_3 m c t))) (iblk m c 7 t) (iblk m c 6 t)
/-- The tile of the group norm's results. -/
abbrev nm : Vec Ideal S512x1024 .f32 := Tile.norms (iblk m c 0 t) (iblk m c 1 t) (iblk m c 5 t)
theorem dn_eq : dn m c t (ix2 a e) = Ref.dnorm (m ((c : Thread nD τ).loc main_arg3)) (m ((c : Thread nD τ).loc main_arg5)) (m ((c : Thread nD τ).loc main_arg6)) (row t a) e := by
  pointwise [k0_pay53, k0_pay48, k0_pay40, k0_pay39, k0_pay38, k0_pay37]
  simp only [gate_eq, dmix_eq, zero_sub]
  rfl
theorem nm_eq : nm m c t (ix2 a e) = norm m c (ix2 (row t a) e) := by
  have h := Tile.norms_eq (iblk m c 0 t) (iblk m c 1 t) (iblk m c 5 t) (hd e) a (pl e)
  rw [col_hd_pl, X_eq] at h
  exact h.trans ((congrArg (_ * ·) (g_eq m c t e)).trans (Ref.v29 (m ((c : Thread nD τ).loc main_arg0)) (m ((c : Thread nD τ).loc main_arg1)) (m ((c : Thread nD τ).loc main_arg4)) (row t a) e).symm)

theorem point8 : Tile.pulls (iblk m c 0 t) (iblk m c 1 t) (iblk m c 5 t) (dn m c t) (ix2 a e) = dsum m c (ix2 (row t a) e) := by
  have h := Tile.pulls_eq (iblk m c 0 t) (iblk m c 1 t) (iblk m c 5 t) (dn m c t) (hd e) a (pl e)
  rw [col_hd_pl, X_eq] at h
  refine h.trans (Eq.trans ?_ (Ref.v72 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (row t a) e).symm)
  refine congrArg (fun d => pull _ d width (pl e)) (funext fun k => ?_)
  exact congrArg₂ (· * ·) (dn_eq m c t a (col (hd e) k)) (g_eq m c t (col (hd e) k))
theorem point9 (e : Fin 512) : k0_pay50 (F := Ideal) (k0_pay7 (X0_4 m c t)) (iblk m c 7 t) (iblk m c 6 t) (ix2 a e) = dmem m c (ix2 (row t a) e) := by
  refine Eq.trans ?_ (Ref.v42 (m ((c : Thread nD τ).loc main_arg3)) (m ((c : Thread nD τ).loc main_arg5)) (m ((c : Thread nD τ).loc main_arg6)) (row t a) e).symm
  pointwise [k0_pay50, k0_pay49, k0_pay44, k0_pay43, k0_pay42, k0_pay41]
  simp only [gateMem_eq, dmix_eq, zero_sub]
  rfl
theorem point10 : k0_pay2 (F := Ideal) (k0_pay56 (k0_pay37 (k0_pay6 (X0_3 m c t)))
      (k0_pay54 (nm m c t) (k0_pay39 (k0_pay6 (X0_3 m c t))) (iblk m c 7 t) (iblk m c 6 t))
      (k0_pay55 (k0_pay6 (X0_3 m c t)) (nm m c t) (k0_pay38 (k0_pay6 (X0_3 m c t))) (iblk m c 7 t) (iblk m c 6 t)) (FloatOps.ofBits FTy.f32 0#32)) (ix2 a e)
    = dgate m c (ix2 (row t a) e) := by
  refine Eq.trans ?_ (Ref.v73 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (row t a) e).symm
  rw [← gateGrad_quotient]
  pointwise [k0_pay2, k0_pay56, k0_pay55, k0_pay54, k0_pay52, k0_pay48, k0_pay39, k0_pay38, k0_pay37]
  simp only [gate_eq, dmix_eq, nm_eq, zero_sub, zero_add]
  rfl
theorem point11 (e : Fin 512) : k0_pay3 (F := Ideal) (k0_pay51 (iblk m c 2 t) (k0_pay7 (X0_4 m c t)) (iblk m c 7 t) (iblk m c 6 t)) (ix2 a e)
    = dgateMem m c (ix2 (row t a) e) := by
  refine Eq.trans ?_ (Ref.v74 (m ((c : Thread nD τ).loc main_arg2)) (m ((c : Thread nD τ).loc main_arg3)) (m ((c : Thread nD τ).loc main_arg5)) (m ((c : Thread nD τ).loc main_arg6)) (row t a) e).symm
  rw [← gateGrad_quotient]
  pointwise [k0_pay3, k0_pay51, k0_pay49, k0_pay43, k0_pay42, k0_pay41]
  simp only [gateMem_eq, dmix_eq, mem_eq, zero_sub]
  rfl

/-- A tile that agrees with a result's rows agrees with it at every index, for 1024 columns -/
theorem at_row1024 {f : Fin cfg0.N → Vec Ideal S512x1024 .f32} {R : Vec Ideal S4096x1024 .f32} (H : ∀ t a e, f t (ix2 a e) = R (ix2 (row t a) e))
    (t : Fin cfg0.N) (y : S512x1024.Idx) (i : S4096x1024.Idx) (h0 : (i 0 : ℕ) = t.val * 512 + y 0) (h1 : (i 1 : ℕ) = y 1) : f t y = R i := by
  have hi : i = ix2 (row t (y 0)) (y 1) := (eq_ix2 i).trans (congrArg₂ ix2 (Fin.ext h0) (Fin.ext h1))
  rw [hi]
  exact (congrArg _ (eq_ix2 y)).trans (H t (y 0) (y 1))
/-- and for 512. -/
theorem at_row512 {f : Fin cfg0.N → Vec Ideal S512x512 .f32} {R : Vec Ideal S4096x512 .f32} (H : ∀ t a e, f t (ix2 a e) = R (ix2 (row t a) e))
    (t : Fin cfg0.N) (y : S512x512.Idx) (i : S4096x512.Idx) (h0 : (i 0 : ℕ) = t.val * 512 + y 0) (h1 : (i 1 : ℕ) = y 1) : f t y = R i := by
  have hi : i = ix2 (row t (y 0)) (y 1) := (eq_ix2 i).trans (congrArg₂ ix2 (Fin.ext h0) (Fin.ext h1))
  rw [hi]
  exact (congrArg _ (eq_ix2 y)).trans (H t (y 0) (y 1))

theorem final8 : (dats m 0 c).arrAt 8 cfg0.N = dsum m c := by
  refine (dats m 0 c).arrAt_eq_of_covers 8 _ (by decide +kernel) fun t _ y => ?_
  blk_simp
  rw [after0_8]
  by_cases h : t.val % 8 = 0
  · rw [outsAt0_A m c t h h]
    frame_out
    refine at_row1024 (point8 m c) t y _ ?_ ?_
    all_goals (blk_simp [idx t] <;> try omega)
  · rw [outsAt0_B m c t h h]
    frame_out
    refine at_row1024 (point8 m c) t y _ ?_ ?_
    all_goals (blk_simp [idx t] <;> try omega)
theorem final9 : (dats m 0 c).arrAt 9 cfg0.N = dmem m c := by
  refine (dats m 0 c).arrAt_eq_of_covers 9 _ (by decide +kernel) fun t _ y => ?_
  blk_simp
  rw [after0_9]
  by_cases h : t.val % 8 = 0
  · rw [outsAt0_A m c t h h]
    frame_out
    refine at_row512 (point9 m c) t y _ ?_ ?_
    all_goals (blk_simp [idx t] <;> try omega)
  · rw [outsAt0_B m c t h h]
    frame_out
    refine at_row512 (point9 m c) t y _ ?_ ?_
    all_goals (blk_simp [idx t] <;> try omega)
theorem final10 : (dats m 0 c).arrAt 10 cfg0.N = dgate m c := by
  refine (dats m 0 c).arrAt_eq_of_covers 10 _ (by decide +kernel) fun t _ y => ?_
  blk_simp
  rw [after0_10]
  by_cases h : t.val % 8 = 0
  · rw [outsAt0_A m c t h h]
    frame_out
    refine at_row1024 (point10 m c) t y _ ?_ ?_
    all_goals (blk_simp [idx t] <;> try omega)
  · rw [outsAt0_B m c t h h]
    frame_out
    refine at_row1024 (point10 m c) t y _ ?_ ?_
    all_goals (blk_simp [idx t] <;> try omega)
theorem final11 : (dats m 0 c).arrAt 11 cfg0.N = dgateMem m c := by
  refine (dats m 0 c).arrAt_eq_of_covers 11 _ (by decide +kernel) fun t _ y => ?_
  blk_simp
  rw [after0_11]
  by_cases h : t.val % 8 = 0
  · rw [outsAt0_A m c t h h]
    frame_out
    refine at_row512 (point11 m c) t y _ ?_ ?_
    all_goals (blk_simp [idx t] <;> try omega)
  · rw [outsAt0_B m c t h h]
    frame_out
    refine at_row512 (point11 m c) t y _ ?_ ?_
    all_goals (blk_simp [idx t] <;> try omega)

/-- One row's part of the gradient of the group norm's scale. -/
def scaleRow (r : Fin 4096) : EReal :=
  normed (Ref.X (m ((c : Thread nD τ).loc main_arg0)) (m ((c : Thread nD τ).loc main_arg1)) (hd e) r) width (pl e) * Ref.dnorm (m ((c : Thread nD τ).loc main_arg3)) (m ((c : Thread nD τ).loc main_arg5)) (m ((c : Thread nD τ).loc main_arg6)) r e
theorem scales_point : Tile.scales (iblk m c 0 t) (iblk m c 1 t) (dn m c t) (ix2 0 e) = ∑ a : Fin 512, scaleRow m c e (row t a) := by
  have h := Tile.scales_eq (iblk m c 0 t) (iblk m c 1 t) (dn m c t) (hd e) (pl e)
  rw [col_hd_pl] at h
  refine h.trans (Finset.sum_congr rfl fun a _ => ?_)
  rw [X_eq]
  exact congrArg (_ * ·) (dn_eq m c t a e)
/-- One point adds its tile's part of the gradient of the group norm's scale. -/
theorem step12 (b : Vec Ideal S1x1024 .f32) (j : S1x1024.Idx) :
    k0_pay5 (F := Ideal) (Tile.scales (iblk m c 0 t) (iblk m c 1 t) (dn m c t)) b j = b j + ∑ a : Fin 512, scaleRow m c (j 1) (row t a) := by
  have hj : j = ix2 0 (j 1) := (eq_ix2 j).trans (congrArg (fun z => ix2 z (j 1)) (Subsingleton.elim (α := Fin 1) _ _))
  refine Eq.trans ?_ (congrArg (b j + ·) (scales_point m c t (j 1)))
  refine Eq.trans ?_ (congrArg (fun i => b j + Tile.scales (iblk m c 0 t) (iblk m c 1 t) (dn m c t) i) hj)
  pointwise [k0_pay5]
theorem zero12 (j : S1x1024.Idx) : k0_pay4 (F := Ideal) j = 0 := by
  pointwise [k0_pay4]
theorem ref12 (j : S1x1024.Idx) : dscale m c j = ∑ r : Fin 4096, scaleRow m c (j 1) r := by
  have hj : j = ix2 0 (j 1) := (eq_ix2 j).trans (congrArg (fun z => ix2 z (j 1)) (Subsingleton.elim (α := Fin 1) _ _))
  exact (congrArg _ hj).trans (Ref.v75 (m ((c : Thread nD τ).loc main_arg0)) (m ((c : Thread nD τ).loc main_arg1)) (m ((c : Thread nD τ).loc main_arg3)) (m ((c : Thread nD τ).loc main_arg5)) (m ((c : Thread nD τ).loc main_arg6)) (j 1))
theorem final12 : (dats m 0 c).arrAt 12 cfg0.N = dscale m c := by
  refine (dats m 0 c).arrAt_eq_of_after_last 12 t0_7 (by decide +kernel) _ fun j => ?_
  blk_simp
  rw [after0_12, Pipeline.eq_sum_fin_of_reset_step_apply_last (fun n h => (outsAt0 m c n h).2.2.2.2.1) 8 (fun _ => 0) _
    (fun t h j => by rw [outsAt0_A m c t h h]; frame_out; exact (step12 m c t _ j).trans (congrArg (· + _) (zero12 j)))
    (fun t h j => by rw [outsAt0_B m c t h h]; frame_out; exact step12 m c t _ j) (le_of_eq N_0) t0_7 rfl j, zero_add, ref12]
  refine Fin.sum_mul_add_congr fun t k hl => ?_
  blk_point [row]

theorem mixed_eq (i : Fin 1536) : k0_pay45 (F := Ideal) (iblk m c 2 t) (k0_pay6 (X0_3 m c t)) (k0_pay7 (X0_4 m c t)) (nm m c t) (k0_pay39 (k0_pay6 (X0_3 m c t))) (ix2 a i)
    = mixed m c (ix2 (row t a) i) := by
  refine Eq.trans ?_ (Ref.v34 (m ((c : Thread nD τ).loc main_arg0)) (m ((c : Thread nD τ).loc main_arg1)) (m ((c : Thread nD τ).loc main_arg2)) (m ((c : Thread nD τ).loc main_arg3)) (m ((c : Thread nD τ).loc main_arg4)) (row t a) i).symm
  split_ifs with h
  · pointwise [k0_pay45]
    simp (disch := omega) only [dif_pos]
    pointwise [k0_pay40, k0_pay39, k0_pay38, k0_pay37]
    simp only [gate_eq, nm_eq, zero_sub]
    rfl
  · pointwise [k0_pay45]
    simp (disch := omega) only [dif_neg]
    pointwise [k0_pay44, k0_pay43, k0_pay42, k0_pay41]
    simp only [gateMem_eq, mem_eq, zero_sub]
    rfl
/-- One row's part of the gradient of the output weight. -/
def weightRow (j : S1536x1024.Idx) (r : Fin 4096) : EReal := mixed m c (ix2 r (j 0)) * (m ((c : Thread nD τ).loc main_arg6)) (ix2 r (j 1))
set_option backward.isDefEq.respectTransparency false in
/-- One point adds its tile's part of the gradient of the output weight. -/
theorem step13 (b : Vec Ideal S1536x1024 .f32) (j : S1536x1024.Idx) :
    k0_pay1 (F := Ideal) (k0_pay69 (F := Ideal) b) (k0_pay70 (F := Ideal)
        (k0_pay45 (iblk m c 2 t) (k0_pay6 (X0_3 m c t)) (k0_pay7 (X0_4 m c t)) (nm m c t) (k0_pay39 (k0_pay6 (X0_3 m c t)))) (k0_pay46 (iblk m c 7 t))) j
      = b j + ∑ a : Fin 512, weightRow m c j (row t a) := by
  pointwise [k0_pay1, k0_pay69, k0_pay70, k0_pay46]
  refine congrArg (b j + ·) (Finset.sum_congr rfl fun a _ => ?_)
  exact congrArg₂ (· * ·) (mixed_eq m c t a (j 0)) (dy_eq m c t a (j 1))
theorem zero13 (j : S1536x1024.Idx) : k0_pay68 (F := Ideal) j = 0 := by
  pointwise [k0_pay68]
theorem ref13 (j : S1536x1024.Idx) : dweight m c j = ∑ r : Fin 4096, weightRow m c j r :=
  Ref.v37 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) j
theorem final13 : (dats m 0 c).arrAt 13 cfg0.N = dweight m c := by
  refine (dats m 0 c).arrAt_eq_of_after_last 13 t0_7 (by decide +kernel) _ fun j => ?_
  blk_simp
  rw [after0_13, Pipeline.eq_sum_fin_of_reset_step_apply_last (fun n h => (outsAt0 m c n h).2.2.2.2.2) 8 (fun _ => 0) _
    (fun t h j => by rw [outsAt0_A m c t h h]; frame_out; exact (step13 m c t _ j).trans (congrArg (· + _) (zero13 j)))
    (fun t h j => by rw [outsAt0_B m c t h h]; frame_out; exact step13 m c t _ j) (le_of_eq N_0) t0_7 rfl j, zero_add, ref13]
  refine Fin.sum_mul_add_congr fun t k hl => ?_
  blk_point [row]

end Cert.OutOIdeal.Mix

theorem Cert.OutOIdeal.algebraic : Cert.algebraic_OutOIdeal_OutORefIdeal := by
  pair_intro
  · run_from Cert.OutOIdeal.Value.run_blocks m g
  · run_from Cert.OutORefIdeal.Named.run m' g'
    · exact (Cert.OutOIdeal.Mix.final8 m c).symm
    · exact (Cert.OutOIdeal.Mix.final9 m c).symm
    · exact (Cert.OutOIdeal.Mix.final10 m c).symm
    · exact (Cert.OutOIdeal.Mix.final11 m c).symm
    · exact (Cert.OutOIdeal.Mix.final12 m c).symm
    · exact (Cert.OutOIdeal.Mix.final13 m c).symm
-- ==== Proof.MemAttnRows.lean ====
module

public import proofs.«01_k».proof.Defs
public import proofs.«01_k».proof.Proof.Gen.MemAttnIdeal.Skeleton
public import Idealize.ShloMosaic.Lib.Claim
public import Idealize.ShloMosaic.Lib.Pointwise

/-! One query row of one head of the memory attention, as functions of that row, the head's keys and values, and the row's cotangent;
    and each of the kernel's payloads read as one of these functions. -/

@[expose] public section

set_option maxRecDepth 16384

noncomputable section

open Idealize.ShloMosaic Idealize.ShloMosaic.TcCoe Idealize.SL.Sem

namespace Cert.MemAttnIdeal.Rows
open Cert.MemAttnIdeal Cert.MemAttnIdeal.Gen

/-- A row of a head. -/
abbrev Row : Type := Fin 128 → EReal
/-- The rows of a head's keys or values. -/
abbrev Mem : Type := Fin 256 → Row

/-- Row `a` of a two-axis vector. -/
abbrev rowOf {n w : ℕ} (x : (⟨2, ![n, w]⟩ : Shape).Idx → EReal) (a : Fin n) : Fin w → EReal := fun d => x (ix2 a d)

/-- The scaled score of the row against memory slot `j`. -/
def score (q : Row) (k : Mem) (j : Fin 256) : EReal := (∑ d, q d * k j d) * Ideal.ofBits .f32 0x3DB504F3#32
/-- The exponential of the score, taken from the row's largest. -/
def expo (q : Row) (k : Mem) (j : Fin 256) : EReal :=
  Ideal.exp (score q k j - Finset.fold max (Ideal.ofBits .f32 0xFF800000#32) (fun x => score q k x) Finset.univ)
/-- The sum of the row's exponentials. -/
def mass (q : Row) (k : Mem) : EReal := ∑ j, expo q k j
/-- The attention weight of slot `j`. -/
def weight (q : Row) (k : Mem) (j : Fin 256) : EReal := Ideal.div (expo q k j) (mass q k)
/-- The cotangent of the weight of slot `j`. -/
def dweight (v : Mem) (o : Row) (j : Fin 256) : EReal := ∑ d, o d * v j d
/-- The cotangent of the row's mass. -/
def dmass (q : Row) (k v : Mem) (o : Row) : EReal :=
  - ∑ j, dweight v o j * Ideal.div 1 (mass q k * mass q k) * expo q k j
/-- The cotangent of the unscaled score of slot `j`. -/
def dscore (q : Row) (k v : Mem) (o : Row) (j : Fin 256) : EReal :=
  (Ideal.div (dweight v o j) (mass q k) + dmass q k v o) * expo q k j * Ideal.ofBits .f32 0x3DB504F3#32
/-- The gradient of the query row. -/
def dquery (q : Row) (k v : Mem) (o : Row) (d : Fin 128) : EReal := ∑ j, dscore q k v o j * k j d

/-- Head `h` of the row's query, key, value or cotangent: 128 columns from `o + 128 h` on. -/
def headOf {n w : ℕ} (x : (⟨2, ![n, w]⟩ : Shape).Idx → EReal) (o : ℕ) (ho : o + 512 ≤ w) (h : Fin 4) (a : Fin n) : Row :=
  fun d => x (ix2 a ⟨o + (h.val * 128 + d.val), by have := h.isLt; have := d.isLt; omega⟩)

section Head0
variable (q o : Vec Ideal S1024x128 .f32) (k v b : Vec Ideal S256x128 .f32) (a : Fin 1024) (j : Fin 256) (d : Fin 128)

theorem pay6 : k0_pay6 (F := Ideal) q k (ix2 a j) = expo (rowOf q a) (rowOf k) j := by
  pointwise [k0_pay6, k0_pay5]
  rfl
theorem pay7 : k0_pay7 (F := Ideal) q k (ix2 a 0) = mass (rowOf q a) (rowOf k) := by
  pointwise [k0_pay7]
  simp only [pay6]
  rfl
theorem pay8 : k0_pay8 (F := Ideal) v o (ix2 a j) = dweight (rowOf v) (rowOf o a) j := by
  pointwise [k0_pay8]
  rfl
theorem pay10 : k0_pay10 (F := Ideal) q k v o (ix2 a 0) = dmass (rowOf q a) (rowOf k) (rowOf v) (rowOf o a) := by
  pointwise [k0_pay10]
  simp only [pay6, pay7, pay8, zero_sub]
  rfl
theorem pay11 : k0_pay11 (F := Ideal) q k (ix2 a j) = mass (rowOf q a) (rowOf k) := by
  pointwise [k0_pay11]
  exact pay7 q k a
theorem pay12 : k0_pay12 (F := Ideal) (k0_pay6 q k) (k0_pay8 v o) (k0_pay10 q k v o) (k0_pay11 q k) (ix2 a j)
    = dscore (rowOf q a) (rowOf k) (rowOf v) (rowOf o a) j := by
  pointwise [k0_pay12]
  simp only [Fin.sum_univ_one, pay6, pay8, pay10, pay11]
  rfl
theorem pay13 : k0_pay13 (F := Ideal) k (k0_pay6 q k) (k0_pay8 v o) (k0_pay10 q k v o) (k0_pay11 q k) (ix2 a d)
    = dquery (rowOf q a) (rowOf k) (rowOf v) (rowOf o a) d := by
  pointwise [k0_pay13]
  simp only [pay12]
  rfl
theorem pay14 : k0_pay14 (F := Ideal) (k0_pay5 q) (k0_pay6 q k) (k0_pay8 v o) (k0_pay10 q k v o) (k0_pay11 q k) b (ix2 j d)
    = b (ix2 j d) + ∑ a, dscore (rowOf q a) (rowOf k) (rowOf v) (rowOf o a) j * q (ix2 a d) := by
  pointwise [k0_pay14, k0_pay5]
  simp only [pay12]
theorem pay15 : k0_pay15 (F := Ideal) (k0_pay9 q k o) b (ix2 j d) = b (ix2 j d) + ∑ a, weight (rowOf q a) (rowOf k) j * o (ix2 a d) := by
  pointwise [k0_pay15, k0_pay9]
  simp only [pay6, pay7]
  rfl
end Head0

section Head1
variable (q o : Vec Ideal S1024x128 .f32) (k v b : Vec Ideal S256x128 .f32) (a : Fin 1024) (j : Fin 256) (d : Fin 128)

theorem pay17 : k0_pay17 (F := Ideal) q k (ix2 a j) = score (rowOf q a) (rowOf k) j := by
  pointwise [k0_pay17, k0_pay16]
  rfl
theorem pay19 : k0_pay19 (F := Ideal) (k0_pay17 q k) (k0_pay18 q k) (ix2 a j) = expo (rowOf q a) (rowOf k) j := by
  pointwise [k0_pay19, k0_pay18]
  simp only [pay17]
  rfl
theorem pay20 : k0_pay20 (F := Ideal) (k0_pay17 q k) (k0_pay18 q k) (ix2 a 0) = mass (rowOf q a) (rowOf k) := by
  pointwise [k0_pay20]
  simp only [pay19]
  rfl
theorem pay22 : k0_pay22 (F := Ideal) v (k0_pay17 q k) (k0_pay18 q k) o (ix2 a j)
    = dscore (rowOf q a) (rowOf k) (rowOf v) (rowOf o a) j := by
  pointwise [k0_pay22]
  simp only [Fin.sum_univ_one, zero_sub, pay19, pay20]
  rfl
theorem pay24 : k0_pay24 (F := Ideal) k v (k0_pay17 q k) (k0_pay18 q k) o (ix2 a d)
    = dquery (rowOf q a) (rowOf k) (rowOf v) (rowOf o a) d := by
  pointwise [k0_pay24]
  simp only [pay22]
  rfl
theorem pay25 : k0_pay25 (F := Ideal) (k0_pay23 (k0_pay16 q) v (k0_pay17 q k) (k0_pay18 q k) o) b (ix2 j d)
    = b (ix2 j d) + ∑ a, dscore (rowOf q a) (rowOf k) (rowOf v) (rowOf o a) j * q (ix2 a d) := by
  pointwise [k0_pay25, k0_pay23, k0_pay16]
  simp only [pay22]
theorem pay26 : k0_pay26 (F := Ideal) (k0_pay21 (k0_pay17 q k) (k0_pay18 q k) o) b (ix2 j d)
    = b (ix2 j d) + ∑ a, weight (rowOf q a) (rowOf k) j * o (ix2 a d) := by
  pointwise [k0_pay26, k0_pay21]
  simp only [pay19, pay20]
  rfl
end Head1

section Head2
variable (q o : Vec Ideal S1024x128 .f32) (k v b : Vec Ideal S256x128 .f32) (a : Fin 1024) (j : Fin 256) (d : Fin 128)

theorem pay28 : k0_pay28 (F := Ideal) q k (ix2 a j) = expo (rowOf q a) (rowOf k) j := by
  pointwise [k0_pay28, k0_pay27]
  rfl
theorem pay29 : k0_pay29 (F := Ideal) q k (ix2 a 0) = mass (rowOf q a) (rowOf k) := by
  pointwise [k0_pay29]
  simp only [pay28]
  rfl
theorem pay30 : k0_pay30 (F := Ideal) v o (ix2 a j) = dweight (rowOf v) (rowOf o a) j := by
  pointwise [k0_pay30]
  rfl
theorem pay33 : k0_pay33 (F := Ideal) (k0_pay28 q k) (k0_pay29 q k) (k0_pay30 v o) (k0_pay32 q k v o) (ix2 a j)
    = dscore (rowOf q a) (rowOf k) (rowOf v) (rowOf o a) j := by
  pointwise [k0_pay33, k0_pay32]
  simp only [Fin.sum_univ_one, zero_sub, pay28, pay29, pay30]
  rfl
theorem pay34 : k0_pay34 (F := Ideal) k (k0_pay28 q k) (k0_pay29 q k) (k0_pay30 v o) (k0_pay32 q k v o) (ix2 a d)
    = dquery (rowOf q a) (rowOf k) (rowOf v) (rowOf o a) d := by
  pointwise [k0_pay34]
  simp only [pay33]
  rfl
theorem pay35 : k0_pay35 (F := Ideal) (k0_pay27 q) (k0_pay28 q k) (k0_pay29 q k) (k0_pay30 v o) (k0_pay32 q k v o) b (ix2 j d)
    = b (ix2 j d) + ∑ a, dscore (rowOf q a) (rowOf k) (rowOf v) (rowOf o a) j * q (ix2 a d) := by
  pointwise [k0_pay35, k0_pay27]
  simp only [pay33]
theorem pay36 : k0_pay36 (F := Ideal) (k0_pay31 q k o) b (ix2 j d) = b (ix2 j d) + ∑ a, weight (rowOf q a) (rowOf k) j * o (ix2 a d) := by
  pointwise [k0_pay36, k0_pay31]
  simp only [pay28, pay29]
  rfl
end Head2

section Head3
variable (q o : Vec Ideal S1024x128 .f32) (k v b : Vec Ideal S256x128 .f32) (a : Fin 1024) (j : Fin 256) (d : Fin 128)

theorem pay39 : k0_pay39 (F := Ideal) k (k0_pay38 q) (ix2 a j) = expo (rowOf q a) (rowOf k) j := by
  pointwise [k0_pay39, k0_pay38, k0_pay37]
  rfl
theorem pay40 : k0_pay40 (F := Ideal) k (k0_pay38 q) (ix2 a 0) = mass (rowOf q a) (rowOf k) := by
  pointwise [k0_pay40]
  simp only [pay39]
  rfl
theorem pay42 : k0_pay42 (F := Ideal) k v (k0_pay38 q) o (ix2 a j)
    = dscore (rowOf q a) (rowOf k) (rowOf v) (rowOf o a) j := by
  pointwise [k0_pay42]
  simp only [Fin.sum_univ_one, zero_sub, pay39, pay40]
  rfl
theorem pay1 : k0_pay1 (F := Ideal) (k0_pay43 k v (k0_pay38 q) o) (ix2 a d)
    = dquery (rowOf q a) (rowOf k) (rowOf v) (rowOf o a) d := by
  pointwise [k0_pay1, k0_pay43]
  simp only [pay42]
  rfl
theorem pay2 : k0_pay2 (F := Ideal) (k0_pay44 (k0_pay37 q) k v (k0_pay38 q) o) b (ix2 j d)
    = b (ix2 j d) + ∑ a, dscore (rowOf q a) (rowOf k) (rowOf v) (rowOf o a) j * q (ix2 a d) := by
  pointwise [k0_pay2, k0_pay44, k0_pay37]
  simp only [pay42]
theorem pay3 : k0_pay3 (F := Ideal) (k0_pay41 k (k0_pay38 q) o) b (ix2 j d) = b (ix2 j d) + ∑ a, weight (rowOf q a) (rowOf k) j * o (ix2 a d) := by
  pointwise [k0_pay3, k0_pay41]
  simp only [pay39, pay40]
  rfl
end Head3

end Cert.MemAttnIdeal.Rows
-- ==== Proof.MemAttnRef.lean ====
module

public import proofs.«01_k».proof.Proof.MemAttnRows
public import proofs.«01_k».proof.Proof.Gen.MemAttnRefIdeal.Read

/-! The stages of the memory attention's reference gradient, head by head and row by row. -/

@[expose] public section

set_option maxRecDepth 16384

noncomputable section

open Idealize.ShloMosaic Idealize.ShloMosaic.TcCoe Idealize.SL.Sem

namespace Cert.MemAttnIdeal.Ref
open Cert.MemAttnRefIdeal Cert.MemAttnRefIdeal.Read Cert.MemAttnIdeal.Rows

variable (p : Vec Ideal S4096x4864 .f32) (kv : Vec Ideal S256x1024 .f32) (g : Vec Ideal S4096x512 .f32)
variable (h : Fin 4) (r : Fin 4096) (s : Fin 256) (d : Fin 128)

/-- The query rows of a head. -/
def Q : Fin 4096 → Row := headOf p 3840 (by decide) h
/-- Its keys. -/
def K : Mem := headOf kv 0 (by decide) h
/-- Its values. -/
def V : Mem := headOf kv 512 (by decide) h
/-- The rows of its cotangent. -/
def O : Fin 4096 → Row := headOf g 0 (by decide) h

theorem v9 (e : Fin 512) : val_main_v9 (F := Ideal) p (ix2 r e) = p (ix2 r ⟨3840 + e.val, by have := e.isLt; omega⟩) := by
  pointwise [val_main_v9]
theorem v16 : val_main_v16 (F := Ideal) p (ix4 0 h r d) = Q p h r d := by
  pointwise [val_main_v16, val_main_v15, val_main_v14]
  rw [v9]
  exact congrArg (fun e => p (ix2 r e)) (Fin.ext (by simp))
theorem v18 : val_main_v18 (F := Ideal) kv (ix4 0 h s d) = K kv h s d := by
  pointwise [val_main_v18, val_main_v17, val_main_v12, val_main_v11]
  exact congrArg (fun e => kv (ix2 s e)) (Fin.ext (by simp))
theorem v20 : val_main_v20 (F := Ideal) kv (ix4 0 h s d) = V kv h s d := by
  pointwise [val_main_v20, val_main_v19, val_main_v13, val_main_v11]
  rfl
theorem v58 : val_main_v58 (F := Ideal) g (ix4 0 h r d) = O g h r d := by
  pointwise [val_main_v58, val_main_v57, val_main_v56]
  exact congrArg (fun e => g (ix2 r e)) (Fin.ext (by simp))
theorem v23 : val_main_v23 (F := Ideal) p kv (ix4 0 h r s) = score (Q p h r) (K kv h) s := by
  pointwise [val_main_v23, val_main_v22, val_main_v21, val_main_cst]
  simp only [v16, v18]
  rfl
theorem v24 : val_main_v24 (F := Ideal) p kv (ix3 0 h r)
    = Finset.fold max (Ideal.ofBits .f32 0xFF800000#32) (fun x => score (Q p h r) (K kv h) x) Finset.univ := by
  pointwise [val_main_v24, val_main_cst_0]
  simp only [v23]
theorem v30 : val_main_v30 (F := Ideal) (ix3 0 h r) = Ideal.ofBits .f32 0xFF800000#32 := by
  pointwise [val_main_v30, val_main_cst_2]
/-- The starting value of a maximum is not above it. -/
theorem max_fold {n : ℕ} (b : EReal) (f : Fin n → EReal) : max b (Finset.fold max b f Finset.univ) = Finset.fold max b f Finset.univ :=
  max_eq_right ((Finset.le_fold_max _).mpr (Or.inl le_rfl))
theorem v31 : val_main_v31 (F := Ideal) p kv (ix3 0 h r)
    = Finset.fold max (Ideal.ofBits .f32 0xFF800000#32) (fun x => score (Q p h r) (K kv h) x) Finset.univ := by
  unfold val_main_v31
  rw [maximumf_apply, v24, v30]
  exact max_fold _ _
theorem v44 : val_main_v44 (F := Ideal) p kv (ix4 0 h r s) = expo (Q p h r) (K kv h) s := by
  pointwise [val_main_v44, val_main_v43, val_main_v42, val_main_v41]
  simp only [v23, v31]
  rfl
theorem v46 : val_main_v46 (F := Ideal) p kv (ix4 0 h r 0) = mass (Q p h r) (K kv h) := by
  pointwise [val_main_v46, val_main_v45, val_main_cst_8]
  simp only [v44]
  rfl
theorem v48 : val_main_v48 (F := Ideal) p kv (ix4 0 h r s) = weight (Q p h r) (K kv h) s := by
  pointwise [val_main_v48, val_main_v47]
  simp only [v44, v46]
  rfl
theorem v61 : val_main_v61 (F := Ideal) kv g (ix4 0 h r s) = dweight (V kv h) (O g h r) s := by
  pointwise [val_main_v61]
  simp only [v58, v20]
  rfl
theorem v67 : val_main_v67 (F := Ideal) p kv g (ix4 0 h r 0) = dmass (Q p h r) (K kv h) (V kv h) (O g h r) := by
  pointwise [val_main_v67, val_main_v66, val_main_v65, val_main_v64, val_main_v63, val_main_v62, val_main_v51, val_main_v50, val_main_v49, val_main_cst_9, val_main_cst_10]
  simp only [v44, v46, v61]
  rfl
/-- A sum over two axes of one entry each. -/
theorem sum_ends (x : Vec Ideal S1x4x4096x1 .f32) (b : EReal) :
    Ideal.hostReduceAdd Cert.MemAttnRefIdeal.Gen.reducesTo_S1x4x4096x1_S4x4096_d0_3 x b (ix2 h r) = b + x (ix4 0 h r 0) := by
  refine congrArg (b + ·) ((Finset.sum_filter_eq_sum_of_fiber _ (fun _ : Fin 1 => (ix4 0 h r 0 : S1x4x4096x1.Idx))
    (fun _ _ _ => Subsingleton.elim _ _) (fun i => ⟨fun e => ⟨0, ?_⟩, ?_⟩) x).trans (Fin.sum_univ_one _))
  · funext a
    match a with
    | ⟨0, _⟩ => exact Subsingleton.elim (α := Fin 1) _ _
    | ⟨1, _⟩ => exact Fin.ext (congrArg Fin.val (congrFun e 0)).symm
    | ⟨2, _⟩ => exact Fin.ext (congrArg Fin.val (congrFun e 1)).symm
    | ⟨3, _⟩ => exact Subsingleton.elim (α := Fin 1) _ _
  · rintro ⟨k, rfl⟩
    funext b
    match b with
    | ⟨0, _⟩ => rfl
    | ⟨1, _⟩ => rfl
theorem v76 : val_main_v76 (F := Ideal) p kv g (ix4 0 h r s) = dscore (Q p h r) (K kv h) (V kv h) (O g h r) s := by
  pointwise [val_main_v76, val_main_v75, val_main_v74, val_main_v73, val_main_v72, val_main_v71, val_main_v70, val_main_v69, val_main_v68, val_main_cst_11, val_main_cst_12]
  simp only [sum_ends, zero_add, v44, v46, v61, v67]
  rfl
theorem v78 : val_main_v78 (F := Ideal) p kv g (ix4 0 h r d) = dquery (Q p h r) (K kv h) (V kv h) (O g h r) d := by
  pointwise [val_main_v78]
  simp only [v76, v18]
  rfl
theorem v77 : val_main_v77 (F := Ideal) p kv g (ix4 0 h s d) = ∑ r, dscore (Q p h r) (K kv h) (V kv h) (O g h r) s * Q p h r d := by
  pointwise [val_main_v77]
  simp only [v76, v16]
theorem v60 : val_main_v60 (F := Ideal) p kv g (ix4 0 h s d) = ∑ r, weight (Q p h r) (K kv h) s * O g h r d := by
  pointwise [val_main_v60, val_main_v59]
  simp only [v58, v48]
  exact Finset.sum_congr rfl fun r _ => mul_comm _ _

/-- The head of a column of 512. -/
def hd (e : Fin 512) : Fin 4 := ⟨e.val / 128, by have := e.isLt; omega⟩
/-- Its place in the head. -/
def pl (e : Fin 512) : Fin 128 := ⟨e.val % 128, Nat.mod_lt _ (by decide)⟩

theorem v88 (e : Fin 512) : val_main_v88 (F := Ideal) p kv g (ix2 r e) = dquery (Q p (hd e) r) (K kv (hd e)) (V kv (hd e)) (O g (hd e) r) (pl e) := by
  pointwise [val_main_v88, val_main_v85, val_main_v84, val_main_v83, val_main_cst_13]
  simp only [Fin.sum_univ_one]
  exact v78 p kv g (hd e) r (pl e)

/-- What row `r` adds to the gradient of the keys and values. -/
def part (s : Fin 256) (e : Fin 1024) (r : Fin 4096) : EReal :=
  if he : e.val < 512 then
    dscore (Q p (hd ⟨e, he⟩) r) (K kv (hd ⟨e, he⟩)) (V kv (hd ⟨e, he⟩)) (O g (hd ⟨e, he⟩) r) s * Q p (hd ⟨e, he⟩) r (pl ⟨e, he⟩)
  else
    weight (Q p (hd ⟨e - 512, by omega⟩) r) (K kv (hd ⟨e - 512, by omega⟩)) s * O g (hd ⟨e - 512, by omega⟩) r (pl ⟨e - 512, by omega⟩)

theorem v87 (e : Fin 1024) : val_main_v87 (F := Ideal) p kv g (ix2 s e) = ∑ r, part p kv g s e r := by
  pointwise [val_main_v87, val_main_v86, val_main_v82, val_main_v81, val_main_v80, val_main_v79, val_main_cst_14]
  simp only [Fin.sum_univ_one]
  by_cases he : e.val < 512
  · simp only [part, dif_pos he]
    exact v77 p kv g (hd ⟨e, he⟩) s (pl ⟨e, he⟩)
  · simp only [part, dif_neg he]
    exact v60 p kv g (hd ⟨e - 512, by omega⟩) s (pl ⟨e - 512, by omega⟩)

/-- The columns of head `h`, read head by head. -/
theorem v88_head (e : Fin 512) (he : e.val = h.val * 128 + d.val) :
    val_main_v88 (F := Ideal) p kv g (ix2 r e) = dquery (Q p h r) (K kv h) (V kv h) (O g h r) d := by
  have h1 : hd e = h := Fin.ext (by have := d.isLt; simp only [hd]; omega)
  have h2 : pl e = d := Fin.ext (by have := d.isLt; simp only [pl]; omega)
  rw [v88, h1, h2]

theorem part_key (e : Fin 1024) (he : e.val = h.val * 128 + d.val) :
    part p kv g s e r = dscore (Q p h r) (K kv h) (V kv h) (O g h r) s * Q p h r d := by
  have hlt : e.val < 512 := by have := d.isLt; have := h.isLt; omega
  have h1 : hd ⟨e, hlt⟩ = h := Fin.ext (by have := d.isLt; simp only [hd]; omega)
  have h2 : pl ⟨e, hlt⟩ = d := Fin.ext (by have := d.isLt; simp only [pl]; omega)
  simp only [part, dif_pos hlt, h1, h2]

theorem part_value (e : Fin 1024) (he : e.val = 512 + (h.val * 128 + d.val)) :
    part p kv g s e r = weight (Q p h r) (K kv h) s * O g h r d := by
  have hlt : ¬ e.val < 512 := by omega
  have h1 : hd ⟨e - 512, by omega⟩ = h := Fin.ext (by have := d.isLt; simp only [hd]; omega)
  have h2 : pl ⟨e - 512, by omega⟩ = d := Fin.ext (by have := d.isLt; simp only [pl]; omega)
  simp only [part, dif_neg hlt, h1, h2]

end Cert.MemAttnIdeal.Ref
-- ==== Proof.MemAttnRefNamed.lean ====
module

public import proofs.«01_k».proof.Proof.Gen.MemAttnRefIdeal.Run
public import proofs.«01_k».proof.Proof.Gen.MemAttnRefIdeal.Read

@[expose] public section

noncomputable section

open Idealize.ShloMosaic Idealize.ShloMosaic.TcCoe Idealize.SL.Sem

namespace Cert.MemAttnRefIdeal.Named
open Cert.MemAttnRefIdeal Cert.MemAttnRefIdeal.Gen Cert.MemAttnRefIdeal.Value Cert.MemAttnRefIdeal.Read

/-- The reference's run, each result stated by the named stage that computes it. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v88) = val_main_v88 (F := Ideal) (m ((c.tc : Thread nD τ).loc main_arg0)) (m ((c.tc : Thread nD τ).loc main_arg1)) (m ((c.tc : Thread nD τ).loc main_arg2))
      ∧ r.2.mem ((c.tc : Thread nD τ).loc main_v87) = val_main_v87 (F := Ideal) (m ((c.tc : Thread nD τ).loc main_arg0)) (m ((c.tc : Thread nD τ).loc main_arg1)) (m ((c.tc : Thread nD τ).loc main_arg2))
      ∧ r.2.mem ((c.tc : Thread nD τ).loc main_arg0) = (m ((c.tc : Thread nD τ).loc main_arg0))
      ∧ r.2.mem ((c.tc : Thread nD τ).loc main_arg1) = (m ((c.tc : Thread nD τ).loc main_arg1))
      ∧ r.2.mem ((c.tc : Thread nD τ).loc main_arg2) = (m ((c.tc : Thread nD τ).loc main_arg2)) :=
  (θ_run defs _ _).mono (fun _ h c => ⟨(h c).1.trans (val_main_v88_eq (F := Ideal) m c), (h c).2.1.trans (val_main_v87_eq (F := Ideal) m c), (h c).2.2⟩) (Cert.MemAttnRefIdeal.Value.run m ρ)

end Cert.MemAttnRefIdeal.Named
-- ==== Proof.MemAttnValue.lean ====
module

public import proofs.«01_k».proof.Defs
public import proofs.«01_k».proof.Proof.Gen.MemAttnIdeal.Value
public import Idealize.ShloMosaic.Lib.Claim
public import proofs.«01_k».proof.Proof.MemAttnRef
public import proofs.«01_k».proof.Proof.MemAttnRefNamed
public import proofs.«01_k».proof.Proof.Gen.MemAttnRefIdeal.Run
public import proofs.«01_k».proof.Proof.Gen.MemAttnRefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.MemAttnIdeal.Norm
open Cert.MemAttnIdeal Cert.MemAttnIdeal.Gen Cert.MemAttnRefIdeal.Read
open Cert.MemAttnIdeal.Rows Cert.MemAttnIdeal.Ref

section Cols
variable {F : FTy → Type} [FloatOps F]
/-- The projections' columns in the kernel's order, as the host lays them out. -/
def pcols (x : (⟨S4096x4864, .f32⟩ : BufTy).Contents (Elt F)) : (⟨S4096x4864, .f32⟩ : BufTy).Contents (Elt F) :=
  concatenate S4096x4864 1
    [⟨S4096x512, (extractStridedSlice S4096x512 ![0, 0] x slices_S4096x4864_S4096x512_0_0 : (⟨S4096x512, .f32⟩ : BufTy).Contents (Elt F))⟩,
     ⟨S4096x512, (extractStridedSlice S4096x512 ![0, 768] x slices_S4096x4864_S4096x512_0_768 : (⟨S4096x512, .f32⟩ : BufTy).Contents (Elt F))⟩,
     ⟨S4096x512, (extractStridedSlice S4096x512 ![0, 1280] x slices_S4096x4864_S4096x512_0_1280 : (⟨S4096x512, .f32⟩ : BufTy).Contents (Elt F))⟩,
     ⟨S4096x512, (extractStridedSlice S4096x512 ![0, 1792] x slices_S4096x4864_S4096x512_0_1792 : (⟨S4096x512, .f32⟩ : BufTy).Contents (Elt F))⟩,
     ⟨S4096x512, (extractStridedSlice S4096x512 ![0, 2304] x slices_S4096x4864_S4096x512_0_2304 : (⟨S4096x512, .f32⟩ : BufTy).Contents (Elt F))⟩,
     ⟨S4096x512, (extractStridedSlice S4096x512 ![0, 2816] x slices_S4096x4864_S4096x512_0_2816 : (⟨S4096x512, .f32⟩ : BufTy).Contents (Elt F))⟩,
     ⟨S4096x512, (extractStridedSlice S4096x512 ![0, 3328] x slices_S4096x4864_S4096x512_0_3328 : (⟨S4096x512, .f32⟩ : BufTy).Contents (Elt F))⟩,
     ⟨S4096x512, (extractStridedSlice S4096x512 ![0, 3840] x slices_S4096x4864_S4096x512_0_3840 : (⟨S4096x512, .f32⟩ : BufTy).Contents (Elt F))⟩,
     ⟨S4096x512, (extractStridedSlice S4096x512 ![0, 4352] x slices_S4096x4864_S4096x512_0_4352 : (⟨S4096x512, .f32⟩ : BufTy).Contents (Elt F))⟩,
     ⟨S4096x128, (extractStridedSlice S4096x128 ![0, 512] x slices_S4096x4864_S4096x128_0_512 : (⟨S4096x128, .f32⟩ : BufTy).Contents (Elt F))⟩,
     ⟨S4096x128, (extractStridedSlice S4096x128 ![0, 640] x slices_S4096x4864_S4096x128_0_640 : (⟨S4096x128, .f32⟩ : BufTy).Contents (Elt F))⟩]
    concatenates_S4096x512_S4096x512_S4096x512_S4096x512_S4096x512_S4096x512_S4096x512_S4096x512_S4096x512_S4096x128_S4096x128_S4096x4864_d1

theorem V_p (m : (ℓ : Loc nD τ sig) → Buf (Elt F) ℓ) (c : Dev nD) : V m c main_v11 = pcols (m ((c : Thread nD τ).loc main_arg0)) := by
  unfold Gen.V
  after_results
  rfl
end Cols

/-- The kernel finds the queries' columns at 3584, the reference at 3840. -/
theorem pcols_apply (x : (⟨S4096x4864, .f32⟩ : BufTy).Contents (Elt Ideal)) (r : Fin 4096) (e : Fin 512) (k k' : Fin 4864)
    (hk : k.val = 3584 + e.val) (hk' : k'.val = 3840 + e.val) : pcols (F := Ideal) x (ix2 r k) = x (ix2 r k') := by
  have he := e.isLt
  pointwise [pcols]
  simp (disch := omega) only [dif_pos, dif_neg]
  exact congrArg (fun k => x (ix2 r k)) (Fin.ext (by dsimp only; omega))

variable (m : (ℓ : Loc nD τ sig) → Buf (Elt Ideal) ℓ)

theorem idx : ∀ t : Fin cfg0.N, win0_0.index t = ![t.val, 7] ∧ win0_1.index t = ![0, 0] ∧ win0_2.index t = ![t.val, 0]
    ∧ win0_3.index t = ![t.val, 0] ∧ win0_4.index t = ![0, 0] :=
  (by decide +kernel : ∀ t : Fin grid0.N, _)

/-- Row `k` of the tile of point `t`. -/
def row (t : Fin cfg0.N) (k : Fin 1024) : Fin 4096 :=
  ⟨t.val * 1024 + k.val, by have := lt_of_lt_of_eq t.isLt N_0; omega⟩

theorem q_eq (c : Dev nD) (t : Fin cfg0.N) (a : Fin 1024) (e : Fin 512) :
    X0_0 m c t (ix2 a e : S1024x512.Idx) = m ((c : Thread nD τ).loc main_arg0) (ix2 (row t a) ⟨3840 + e.val, by have := e.isLt; omega⟩) := by
  unfold X0_0 Pipeline.Window.fill
  rw [dif_pos (moved0_0 t _), ← pcols_apply (m ((c : Thread nD τ).loc main_arg0)) (row t a) e ⟨3584 + e.val, by have := e.isLt; omega⟩ _ rfl rfl, ← V_p]
  blk_ext [iblk, idx t, row]

theorem kv_eq (c : Dev nD) (t : Fin cfg0.N) (s : Fin 256) (e : Fin 1024) :
    iblk m c 1 t (ix2 s e : S256x1024.Idx) = m ((c : Thread nD τ).loc main_arg1) (ix2 s e) := by
  rw [← V_main_arg1 m c]
  blk_ext [iblk, idx t]

theorem o_eq (c : Dev nD) (t : Fin cfg0.N) (a : Fin 1024) (e : Fin 512) :
    iblk m c 2 t (ix2 a e : S1024x512.Idx) = m ((c : Thread nD τ).loc main_arg2) (ix2 (row t a) e) := by
  rw [← V_main_arg2 m c]
  blk_ext [iblk, idx t, row]

/-- Where 128 columns from `o` on sit in the whole. -/
theorem rect_idx {n w o : ℕ} (inb : ∀ b, (![0, o] : Fin 2 → ℕ) b + (![n, 128] : Fin 2 → ℕ) b ≤ (⟨2, ![n, w]⟩ : Shape).size b) (a : Fin n) (d : Fin 128)
    (e : Fin w) (he : e.val = o + d.val) : (Rect.unit (s := (⟨2, ![n, w]⟩ : Shape)) ![0, o] ![n, 128] inb).idx (ix2 a d) = ix2 a e := by
  funext b
  match b with
  | ⟨0, _⟩ => exact Fin.ext (by simp [LoadRect.idx, Rect.unit])
  | ⟨1, _⟩ => exact Fin.ext (by simp [LoadRect.idx, Rect.unit, he])

section Heads
variable (c : Dev nD) (t : Fin cfg0.N) (h : Fin 4) (o : ℕ)

theorem ldX (ho : o = h.val * 128) (inb : ∀ b, (![0, o] : Fin 2 → ℕ) b + (![1024, 128] : Fin 2 → ℕ) b ≤ S1024x512.size b) (a : Fin 1024) (d : Fin 128) :
    X0_0 m c t ((Rect.unit (s := S1024x512) ![0, o] ![1024, 128] inb).idx (ix2 a d)) = Q (m ((c : Thread nD τ).loc main_arg0)) h (row t a) d := by
  have he : o + d.val < 512 := by have := h.isLt; have := d.isLt; omega
  rw [rect_idx (w := 512) inb a d ⟨o + d.val, he⟩ rfl, q_eq]
  subst ho
  rfl

theorem ldO (ho : o = h.val * 128) (inb : ∀ b, (![0, o] : Fin 2 → ℕ) b + (![1024, 128] : Fin 2 → ℕ) b ≤ S1024x512.size b) (a : Fin 1024) (d : Fin 128) :
    iblk m c 2 t ((Rect.unit (s := S1024x512) ![0, o] ![1024, 128] inb).idx (ix2 a d)) = O (m ((c : Thread nD τ).loc main_arg2)) h (row t a) d := by
  have he : o + d.val < 512 := by have := h.isLt; have := d.isLt; omega
  rw [rect_idx (w := 512) inb a d ⟨o + d.val, he⟩ rfl, o_eq]
  exact congrArg (fun e => m ((c : Thread nD τ).loc main_arg2) (ix2 (row t a) e)) (Fin.ext (by simp [ho]))

theorem ldK (ho : o = h.val * 128) (inb : ∀ b, (![0, o] : Fin 2 → ℕ) b + (![256, 128] : Fin 2 → ℕ) b ≤ S256x1024.size b) (s : Fin 256) (d : Fin 128) :
    iblk m c 1 t ((Rect.unit (s := S256x1024) ![0, o] ![256, 128] inb).idx (ix2 s d)) = K (m ((c : Thread nD τ).loc main_arg1)) h s d := by
  have he : o + d.val < 1024 := by have := h.isLt; have := d.isLt; omega
  rw [rect_idx (w := 1024) inb s d ⟨o + d.val, he⟩ rfl, kv_eq]
  exact congrArg (fun e => m ((c : Thread nD τ).loc main_arg1) (ix2 s e)) (Fin.ext (by simp [ho]))

theorem ldV (ho : o = 512 + h.val * 128) (inb : ∀ b, (![0, o] : Fin 2 → ℕ) b + (![256, 128] : Fin 2 → ℕ) b ≤ S256x1024.size b) (s : Fin 256) (d : Fin 128) :
    iblk m c 1 t ((Rect.unit (s := S256x1024) ![0, o] ![256, 128] inb).idx (ix2 s d)) = V (m ((c : Thread nD τ).loc main_arg1)) h s d := by
  have he : o + d.val < 1024 := by have := h.isLt; have := d.isLt; omega
  rw [rect_idx (w := 1024) inb s d ⟨o + d.val, he⟩ rfl, kv_eq]
  exact congrArg (fun e => m ((c : Thread nD τ).loc main_arg1) (ix2 s e)) (Fin.ext (by simp [ho]; omega))

theorem ldB (B : S256x1024.Idx → EReal) (inb : ∀ b, (![0, o] : Fin 2 → ℕ) b + (![256, 128] : Fin 2 → ℕ) b ≤ S256x1024.size b) (x : S256x128.Idx) (j : S256x1024.Idx)
    (h0 : (j 0).val = (x 0).val) (h1 : (j 1).val = o + (x 1).val) : B ((Rect.unit (s := S256x1024) ![0, o] ![256, 128] inb).idx x) = B j := by
  refine congrArg B ?_
  rw [eq_ix2 x, eq_ix2 j]
  exact (rect_idx (w := 1024) inb (x 0) (x 1) (j 1) h1).trans (congrArg (fun s => ix2 s (j 1)) (Fin.ext h0.symm))

section Terms
variable {q o : Vec Ideal S1024x128 .f32} {k v : Vec Ideal S256x128 .f32} (a : Fin 1024) (s : Fin 256) (d : Fin 128)
  (hq : ∀ a d, q (ix2 a d) = Q (m ((c : Thread nD τ).loc main_arg0)) h (row t a) d) (hk : ∀ s d, k (ix2 s d) = K (m ((c : Thread nD τ).loc main_arg1)) h s d)
  (hv : ∀ s d, v (ix2 s d) = V (m ((c : Thread nD τ).loc main_arg1)) h s d) (ho : ∀ a d, o (ix2 a d) = O (m ((c : Thread nD τ).loc main_arg2)) h (row t a) d)
include hq hk hv ho

theorem query_term (e : Fin 512) (he : e.val = h.val * 128 + d.val) : dquery (rowOf q a) (rowOf k) (rowOf v) (rowOf o a) d
    = val_main_v88 (F := Ideal) (m ((c : Thread nD τ).loc main_arg0)) (m ((c : Thread nD τ).loc main_arg1)) (m ((c : Thread nD τ).loc main_arg2)) (ix2 (row t a) e) := by
  rw [v88_head _ _ _ h _ d e he, show rowOf q a = Q _ h (row t a) from funext (hq a), show rowOf k = K _ h from funext fun s => funext (hk s),
    show rowOf v = V _ h from funext fun s => funext (hv s), show rowOf o a = O _ h (row t a) from funext (ho a)]

theorem key_term (e : Fin 1024) (he : e.val = h.val * 128 + d.val) : dscore (rowOf q a) (rowOf k) (rowOf v) (rowOf o a) s * q (ix2 a d)
    = part (m ((c : Thread nD τ).loc main_arg0)) (m ((c : Thread nD τ).loc main_arg1)) (m ((c : Thread nD τ).loc main_arg2)) s e (row t a) := by
  rw [part_key _ _ _ h _ _ d e he, hq, show rowOf q a = Q _ h (row t a) from funext (hq a), show rowOf k = K _ h from funext fun s => funext (hk s),
    show rowOf v = V _ h from funext fun s => funext (hv s), show rowOf o a = O _ h (row t a) from funext (ho a)]

omit hv in
theorem value_term (e : Fin 1024) (he : e.val = 512 + (h.val * 128 + d.val)) : weight (rowOf q a) (rowOf k) s * o (ix2 a d)
    = part (m ((c : Thread nD τ).loc main_arg0)) (m ((c : Thread nD τ).loc main_arg1)) (m ((c : Thread nD τ).loc main_arg2)) s e (row t a) := by
  rw [part_value _ _ _ h _ _ d e he, ho, show rowOf q a = Q _ h (row t a) from funext (hq a), show rowOf k = K _ h from funext fun s => funext (hk s)]

/-- One head's columns of the gradient of the queries. -/
theorem query_piece (y : S1024x512.Idx) (i : S4096x512.Idx) (i0 : (i 0).val = t.val * 1024 + (y 0).val) (i1 : (i 1).val = (y 1).val) (x : S1024x128.Idx)
    (h0 : (y 0).val = (x 0).val) (h1 : (y 1).val = h.val * 128 + (x 1).val) {w : S1024x128.Idx → EReal}
    (hw : ∀ a d, w (ix2 a d) = dquery (rowOf q a) (rowOf k) (rowOf v) (rowOf o a) d) :
    w x = val_main_v88 (F := Ideal) (m ((c : Thread nD τ).loc main_arg0)) (m ((c : Thread nD τ).loc main_arg1)) (m ((c : Thread nD τ).loc main_arg2)) i := by
  have hi : i = ix2 (row t (x 0)) (i 1) := (eq_ix2 i).trans (congrArg (fun r => ix2 r (i 1)) (Fin.ext (by rw [i0, h0]; rfl)))
  rw [hi]
  exact (congrArg w (eq_ix2 x)).trans ((hw (x 0) (x 1)).trans (query_term m c t h (x 0) (x 1) hq hk hv ho (i 1) (i1.trans h1)))

variable {w b : S256x128.Idx → EReal} {B : S256x1024.Idx → EReal} (j : S256x1024.Idx) (x : S256x128.Idx) (h0 : (j 0).val = (x 0).val)
include h0

/-- One head's columns of what a point adds to the gradient of the keys. -/
theorem key_piece (h1 : (j 1).val = h.val * 128 + (x 1).val)
    (hw : ∀ s d, w (ix2 s d) = b (ix2 s d) + ∑ a, dscore (rowOf q a) (rowOf k) (rowOf v) (rowOf o a) s * q (ix2 a d)) (hb : b x = B j) :
    w x = B j + ∑ a, part (m ((c : Thread nD τ).loc main_arg0)) (m ((c : Thread nD τ).loc main_arg1)) (m ((c : Thread nD τ).loc main_arg2)) (j 0) (j 1) (row t a) := by
  refine (congrArg w (eq_ix2 x)).trans ((hw (x 0) (x 1)).trans (congrArg₂ (· + ·) ((congrArg b (eq_ix2 x)).symm.trans hb) (Finset.sum_congr rfl fun a _ => ?_)))
  exact (key_term m c t h a (x 0) (x 1) hq hk hv ho (j 1) h1).trans (congrArg (fun s => part _ _ _ s (j 1) (row t a)) (Fin.ext h0.symm))

omit hv in
/-- One head's columns of what a point adds to the gradient of the values. -/
theorem value_piece (h1 : (j 1).val = 512 + (h.val * 128 + (x 1).val))
    (hw : ∀ s d, w (ix2 s d) = b (ix2 s d) + ∑ a, weight (rowOf q a) (rowOf k) s * o (ix2 a d)) (hb : b x = B j) :
    w x = B j + ∑ a, part (m ((c : Thread nD τ).loc main_arg0)) (m ((c : Thread nD τ).loc main_arg1)) (m ((c : Thread nD τ).loc main_arg2)) (j 0) (j 1) (row t a) := by
  refine (congrArg w (eq_ix2 x)).trans ((hw (x 0) (x 1)).trans (congrArg₂ (· + ·) ((congrArg b (eq_ix2 x)).symm.trans hb) (Finset.sum_congr rfl fun a _ => ?_)))
  exact (value_term m c t h a (x 0) (x 1) hq hk ho (j 1) h1).trans (congrArg (fun s => part _ _ _ s (j 1) (row t a)) (Fin.ext h0.symm))
end Terms
end Heads

/-- A load of 128 columns reads past a write of 128 others. -/
theorem readCov_skip {sig : RefSig} {κ : Kind} {sp : Space} (v : View sig κ sp S256x1024 .f32) (o o' : ℕ) (hd : o + 128 ≤ o' ∨ o' + 128 ≤ o)
    (inb : ∀ a, (![0, o] : Fin 2 → ℕ) a + (![256, 128] : Fin 2 → ℕ) a ≤ S256x1024.size a)
    (inb' : ∀ a, (![0, o'] : Fin 2 → ℕ) a + (![256, 128] : Fin 2 → ℕ) a ≤ S256x1024.size a)
    (x : S256x128.Idx → EReal) (L : List (View.Piece (Elt Ideal) S256x1024 .f32)) :
    v.readCov ((⟨Rect.unit (s := S256x1024) ![0, o] ![256, 128] inb, x⟩ : View.Piece (Elt Ideal) S256x1024 .f32) :: L)
      (Rect.unit (s := S256x1024) ![0, o'] ![256, 128] inb').toLoadRect
      = v.readCov L (Rect.unit (s := S256x1024) ![0, o'] ![256, 128] inb').toLoadRect :=
  View.readCov_cons_of_disjoint v _ L _ (Rect.unit_disjoint (inb := inb) (inb' := inb') 1 hd)

/-- A load after the whole buffer was cleared reads zeros. -/
theorem readCov_clear {sig : RefSig} {κ : Kind} {sp : Space} (v : View sig κ sp S256x1024 .f32) (o' : ℕ)
    (inb : ∀ a, (![0, 0] : Fin 2 → ℕ) a + (![256, 1024] : Fin 2 → ℕ) a ≤ S256x1024.size a)
    (inb' : ∀ a, (![0, o'] : Fin 2 → ℕ) a + (![256, 128] : Fin 2 → ℕ) a ≤ S256x1024.size a) :
    v.readCov [(⟨Rect.unit (s := S256x1024) ![0, 0] ![256, 1024] inb, k0_pay4 (F := Ideal)⟩ : View.Piece (Elt Ideal) S256x1024 .f32)]
      (Rect.unit (s := S256x1024) ![0, o'] ![256, 128] inb').toLoadRect = fun _ => (0 : EReal) := by
  rw [View.readCov_eq_canon']
  funext j
  rw [View.canon_cons_unit_lit (S := S256x1024) inb _ _ (by intro a; fin_cases a <;> rfl)]
  pointwise [k0_pay4]

/-- A write below others plays no part where they write. -/
theorem canon_below {S : Shape} (p : View.Piece (Elt Ideal) S .f32) (y : S.Idx) : ∀ L : List (View.Piece (Elt Ideal) S .f32), (∃ q ∈ L, y ∈ q.1.set) →
    View.canon (L ++ [p]) y = View.canon L y
  | [], hy => by simp at hy
  | q :: L, hy => by
    by_cases hm : y ∈ q.1.set
    · obtain ⟨x, rfl⟩ := q.1.exists_idx_of_mem hm
      exact (View.canon_cons_emb q.1 q.2 (L ++ [p]) x).trans (View.canon_cons_emb q.1 q.2 L x).symm
    · rw [List.cons_append, View.canon_cons_of_not_mem _ _ hm, View.canon_cons_of_not_mem _ _ hm]
      refine canon_below p y L ?_
      obtain ⟨r, hr, hyr⟩ := hy
      rcases List.mem_cons.mp hr with rfl | hr'
      · exact absurd hyr hm
      · exact ⟨r, hr', hyr⟩

theorem final3 (c : Dev nD) : (dats m 0 c).arrAt 3 cfg0.N = val_main_v88 (F := Ideal) (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  by_cases hc : t.val % 4 = 0
  · rw [outsAt0_A m c t hc]
    frame_out
    canon_tiles x h
    · exact query_piece m c t 3 (ldX m c t 3 384 rfl _) (ldK m c t 3 384 rfl _) (ldV m c t 3 896 rfl _) (ldO m c t 3 384 rfl _) y _ (by blk_simp [idx t]) (by blk_simp [idx t]) x h0 (by omega) (fun a d => pay1 _ _ _ _ a d)
    · exact query_piece m c t 2 (ldX m c t 2 256 rfl _) (ldK m c t 2 256 rfl _) (ldV m c t 2 768 rfl _) (ldO m c t 2 256 rfl _) y _ (by blk_simp [idx t]) (by blk_simp [idx t]) x h0 (by omega) (fun a d => pay34 _ _ _ _ a d)
    · exact query_piece m c t 1 (ldX m c t 1 128 rfl _) (ldK m c t 1 128 rfl _) (ldV m c t 1 640 rfl _) (ldO m c t 1 128 rfl _) y _ (by blk_simp [idx t]) (by blk_simp [idx t]) x h0 (by omega) (fun a d => pay24 _ _ _ _ a d)
    · exact query_piece m c t 0 (ldX m c t 0 0 rfl _) (ldK m c t 0 0 rfl _) (ldV m c t 0 512 rfl _) (ldO m c t 0 0 rfl _) y _ (by blk_simp [idx t]) (by blk_simp [idx t]) x h0 (by omega) (fun a d => pay13 _ _ _ _ a d)
  · rw [outsAt0_B m c t hc]
    frame_out
    canon_tiles x h
    · exact query_piece m c t 3 (ldX m c t 3 384 rfl _) (ldK m c t 3 384 rfl _) (ldV m c t 3 896 rfl _) (ldO m c t 3 384 rfl _) y _ (by blk_simp [idx t]) (by blk_simp [idx t]) x h0 (by omega) (fun a d => pay1 _ _ _ _ a d)
    · exact query_piece m c t 2 (ldX m c t 2 256 rfl _) (ldK m c t 2 256 rfl _) (ldV m c t 2 768 rfl _) (ldO m c t 2 256 rfl _) y _ (by blk_simp [idx t]) (by blk_simp [idx t]) x h0 (by omega) (fun a d => pay34 _ _ _ _ a d)
    · exact query_piece m c t 1 (ldX m c t 1 128 rfl _) (ldK m c t 1 128 rfl _) (ldV m c t 1 640 rfl _) (ldO m c t 1 128 rfl _) y _ (by blk_simp [idx t]) (by blk_simp [idx t]) x h0 (by omega) (fun a d => pay24 _ _ _ _ a d)
    · exact query_piece m c t 0 (ldX m c t 0 0 rfl _) (ldK m c t 0 0 rfl _) (ldV m c t 0 512 rfl _) (ldO m c t 0 0 rfl _) y _ (by blk_simp [idx t]) (by blk_simp [idx t]) x h0 (by omega) (fun a d => pay13 _ _ _ _ a d)

theorem step4_A (c : Dev nD) (t : Fin cfg0.N) (hc : t.val % 4 = 0) (j : S256x1024.Idx) : (outsAt0 m c t.val t.isLt).2 j = (fun _ => (0 : EReal)) j
    + ∑ a, part (m ((c : Thread nD τ).loc main_arg0)) (m ((c : Thread nD τ).loc main_arg1)) (m ((c : Thread nD τ).loc main_arg2)) (j 0) (j 1) (row t a) := by
  rw [outsAt0_A m c t hc]
  frame_out
  simp (disch := decide) only [readCov_skip, readCov_clear]
  refine (canon_below _ _ [_, _, _, _, _, _, _, _] (View.cover_of_tiled_head _ _ _ rfl _)).trans ?_
  canon_tiles x h
  · exact value_piece (b := fun _ => (0 : EReal)) (B := fun _ => (0 : EReal)) m c t 3 (ldX m c t 3 384 rfl _) (ldK m c t 3 384 rfl _) (ldO m c t 3 384 rfl _) j x h0 (by omega) (fun s d => pay3 _ _ _ _ s d) rfl
  · exact key_piece (b := fun _ => (0 : EReal)) (B := fun _ => (0 : EReal)) m c t 3 (ldX m c t 3 384 rfl _) (ldK m c t 3 384 rfl _) (ldV m c t 3 896 rfl _) (ldO m c t 3 384 rfl _) j x h0 (by omega) (fun s d => pay2 _ _ _ _ _ s d) rfl
  · exact value_piece (b := fun _ => (0 : EReal)) (B := fun _ => (0 : EReal)) m c t 2 (ldX m c t 2 256 rfl _) (ldK m c t 2 256 rfl _) (ldO m c t 2 256 rfl _) j x h0 (by omega) (fun s d => pay36 _ _ _ _ s d) rfl
  · exact key_piece (b := fun _ => (0 : EReal)) (B := fun _ => (0 : EReal)) m c t 2 (ldX m c t 2 256 rfl _) (ldK m c t 2 256 rfl _) (ldV m c t 2 768 rfl _) (ldO m c t 2 256 rfl _) j x h0 (by omega) (fun s d => pay35 _ _ _ _ _ s d) rfl
  · exact value_piece (b := fun _ => (0 : EReal)) (B := fun _ => (0 : EReal)) m c t 1 (ldX m c t 1 128 rfl _) (ldK m c t 1 128 rfl _) (ldO m c t 1 128 rfl _) j x h0 (by omega) (fun s d => pay26 _ _ _ _ s d) rfl
  · exact key_piece (b := fun _ => (0 : EReal)) (B := fun _ => (0 : EReal)) m c t 1 (ldX m c t 1 128 rfl _) (ldK m c t 1 128 rfl _) (ldV m c t 1 640 rfl _) (ldO m c t 1 128 rfl _) j x h0 (by omega) (fun s d => pay25 _ _ _ _ _ s d) rfl
  · exact value_piece (b := fun _ => (0 : EReal)) (B := fun _ => (0 : EReal)) m c t 0 (ldX m c t 0 0 rfl _) (ldK m c t 0 0 rfl _) (ldO m c t 0 0 rfl _) j x h0 (by omega) (fun s d => pay15 _ _ _ _ s d) rfl
  · exact key_piece (b := fun _ => (0 : EReal)) (B := fun _ => (0 : EReal)) m c t 0 (ldX m c t 0 0 rfl _) (ldK m c t 0 0 rfl _) (ldV m c t 0 512 rfl _) (ldO m c t 0 0 rfl _) j x h0 (by omega) (fun s d => pay14 _ _ _ _ _ s d) rfl

theorem step4_B (c : Dev nD) (t : Fin cfg0.N) (hc : ¬t.val % 4 = 0) (j : S256x1024.Idx) : (outsAt0 m c t.val t.isLt).2 j
    = (outsAt0 m c (t.val - 1) (Nat.lt_of_le_of_lt (Nat.sub_le _ _) t.isLt)).2 j
      + ∑ a, part (m ((c : Thread nD τ).loc main_arg0)) (m ((c : Thread nD τ).loc main_arg1)) (m ((c : Thread nD τ).loc main_arg2)) (j 0) (j 1) (row t a) := by
  rw [outsAt0_B m c t hc]
  frame_out
  canon_tiles x h
  · exact value_piece m c t 3 (ldX m c t 3 384 rfl _) (ldK m c t 3 384 rfl _) (ldO m c t 3 384 rfl _) j x h0 (by omega) (fun s d => pay3 _ _ _ _ s d) (ldB 896 _ _ x j h0 (by omega))
  · exact key_piece m c t 3 (ldX m c t 3 384 rfl _) (ldK m c t 3 384 rfl _) (ldV m c t 3 896 rfl _) (ldO m c t 3 384 rfl _) j x h0 (by omega) (fun s d => pay2 _ _ _ _ _ s d) (ldB 384 _ _ x j h0 (by omega))
  · exact value_piece m c t 2 (ldX m c t 2 256 rfl _) (ldK m c t 2 256 rfl _) (ldO m c t 2 256 rfl _) j x h0 (by omega) (fun s d => pay36 _ _ _ _ s d) (ldB 768 _ _ x j h0 (by omega))
  · exact key_piece m c t 2 (ldX m c t 2 256 rfl _) (ldK m c t 2 256 rfl _) (ldV m c t 2 768 rfl _) (ldO m c t 2 256 rfl _) j x h0 (by omega) (fun s d => pay35 _ _ _ _ _ s d) (ldB 256 _ _ x j h0 (by omega))
  · exact value_piece m c t 1 (ldX m c t 1 128 rfl _) (ldK m c t 1 128 rfl _) (ldO m c t 1 128 rfl _) j x h0 (by omega) (fun s d => pay26 _ _ _ _ s d) (ldB 640 _ _ x j h0 (by omega))
  · exact key_piece m c t 1 (ldX m c t 1 128 rfl _) (ldK m c t 1 128 rfl _) (ldV m c t 1 640 rfl _) (ldO m c t 1 128 rfl _) j x h0 (by omega) (fun s d => pay25 _ _ _ _ _ s d) (ldB 128 _ _ x j h0 (by omega))
  · exact value_piece m c t 0 (ldX m c t 0 0 rfl _) (ldK m c t 0 0 rfl _) (ldO m c t 0 0 rfl _) j x h0 (by omega) (fun s d => pay15 _ _ _ _ s d) (ldB 512 _ _ x j h0 (by omega))
  · exact key_piece m c t 0 (ldX m c t 0 0 rfl _) (ldK m c t 0 0 rfl _) (ldV m c t 0 512 rfl _) (ldO m c t 0 0 rfl _) j x h0 (by omega) (fun s d => pay14 _ _ _ _ _ s d) (ldB 0 _ _ x j h0 (by omega))

theorem final4 (c : Dev nD) : (dats m 0 c).arrAt 4 cfg0.N = val_main_v87 (F := Ideal) (m ((c : Thread nD τ).loc main_arg0)) (m ((c : Thread nD τ).loc main_arg1)) (m ((c : Thread nD τ).loc main_arg2)) := by
  refine (dats m 0 c).arrAt_eq_of_after_last 4 t0_3 (by decide +kernel) _ fun j => ?_
  blk_simp
  rw [after0_4, Pipeline.eq_sum_fin_of_reset_step_apply_last (fun n h => (outsAt0 m c n h).2) 4 (fun _ => 0) _
    (fun t h j => step4_A m c t h j) (fun t h j => step4_B m c t h j) (le_of_eq N_0) t0_3 rfl j, zero_add]
  refine Eq.trans ?_ ((v87 _ _ _ (j 0) (j 1)).symm.trans (congrArg _ (eq_ix2 j).symm))
  refine Fin.sum_mul_add_congr fun t k hl => ?_
  rfl

end Cert.MemAttnIdeal.Norm

theorem Cert.MemAttnIdeal.algebraic : Cert.algebraic_MemAttnIdeal_MemAttnRefIdeal := by
  pair_intro
  · run_from Cert.MemAttnIdeal.Value.run_blocks m g
  · run_from Cert.MemAttnRefIdeal.Named.run m' g'
    · exact (Cert.MemAttnIdeal.Norm.final3 m c).symm
    · exact (Cert.MemAttnIdeal.Norm.final4 m c).symm
-- ==== Proof.MemFwdRef.lean ====
module

public import proofs.«01_k».proof.Proof.MemAttnRef
public import proofs.«01_k».proof.Proof.Gen.MemFwdIdeal.Skeleton
public import proofs.«01_k».proof.Proof.Gen.MemFwdRefIdeal.Read

/-! The memory attention's forward pass, head by head and row by row: the reference's stages and the kernel's payloads, both as the functions
    of one query's row that the gradient is stated with. -/

@[expose] public section

set_option maxRecDepth 16384

noncomputable section

open Idealize.ShloMosaic Idealize.ShloMosaic.TcCoe Idealize.SL.Sem

namespace Cert.MemFwdIdeal.Ref
open Cert.MemFwdRefIdeal Cert.MemFwdRefIdeal.Read Cert.MemAttnIdeal.Rows
open Cert.MemAttnIdeal.Ref (Q K V hd pl max_fold)

/-- The row's attention output: the values in their weights. -/
def mix (q : Row) (k v : Mem) (d : Fin 128) : EReal := ∑ s, weight q k s * v s d

variable (p : Vec Ideal S4096x4864 .f32) (kv : Vec Ideal S256x1024 .f32)
variable (h : Fin 4) (r : Fin 4096) (s : Fin 256) (d : Fin 128)

theorem v12 (e : Fin 512) : val_main_v12 (F := Ideal) p (ix2 r e) = p (ix2 r ⟨3840 + e.val, by have := e.isLt; omega⟩) := by
  pointwise [val_main_v12]
theorem v16 : val_main_v16 (F := Ideal) p (ix4 0 h r d) = Q p h r d := by
  pointwise [val_main_v16, val_main_v15, val_main_v14]
  rw [v12]
  exact congrArg (fun e => p (ix2 r e)) (Fin.ext (by simp))
theorem v18 : val_main_v18 (F := Ideal) kv (ix4 0 h s d) = K kv h s d := by
  pointwise [val_main_v18, val_main_v17, val_main_v1, val_main_v0]
  exact congrArg (fun e => kv (ix2 s e)) (Fin.ext (by simp))
theorem v20 : val_main_v20 (F := Ideal) kv (ix4 0 h s d) = V kv h s d := by
  pointwise [val_main_v20, val_main_v19, val_main_v2, val_main_v0]
  rfl
theorem v23 : val_main_v23 (F := Ideal) p kv (ix4 0 h r s) = score (Q p h r) (K kv h) s := by
  pointwise [val_main_v23, val_main_v22, val_main_v21, val_main_cst]
  simp only [v16, v18]
  rfl
theorem v24 : val_main_v24 (F := Ideal) p kv (ix3 0 h r)
    = Finset.fold max (Ideal.ofBits .f32 0xFF800000#32) (fun x => score (Q p h r) (K kv h) x) Finset.univ := by
  pointwise [val_main_v24, val_main_cst_0]
  simp only [v23]
theorem v25 : val_main_v25 (F := Ideal) (ix3 0 h r) = Ideal.ofBits .f32 0xFF800000#32 := by
  pointwise [val_main_v25, val_main_cst_1]
theorem v26 : val_main_v26 (F := Ideal) p kv (ix3 0 h r)
    = Finset.fold max (Ideal.ofBits .f32 0xFF800000#32) (fun x => score (Q p h r) (K kv h) x) Finset.univ := by
  unfold val_main_v26
  rw [maximumf_apply, v24, v25]
  exact max_fold _ _
theorem v30 : val_main_v30 (F := Ideal) p kv (ix4 0 h r s) = expo (Q p h r) (K kv h) s := by
  pointwise [val_main_v30, val_main_v29, val_main_v28, val_main_v27]
  simp only [v23, v26]
  rfl
theorem v34 : val_main_v34 (F := Ideal) p kv (ix4 0 h r s) = weight (Q p h r) (K kv h) s := by
  pointwise [val_main_v34, val_main_v33, val_main_v32, val_main_v31, val_main_cst_2]
  simp only [v30]
  rfl
theorem v35 : val_main_v35 (F := Ideal) p kv (ix4 0 h r d) = mix (Q p h r) (K kv h) (V kv h) d := by
  pointwise [val_main_v35]
  simp only [v34, v20]
  rfl
/-- The attention's output, the columns of head `h` read head by head. -/
theorem v38 (e : Fin 512) (he : e.val = h.val * 128 + d.val) : val_main_v38 (F := Ideal) p kv (ix2 r e) = mix (Q p h r) (K kv h) (V kv h) d := by
  have h1 : hd e = h := Fin.ext (by have := d.isLt; simp only [hd]; omega)
  have h2 : pl e = d := Fin.ext (by have := d.isLt; simp only [pl]; omega)
  pointwise [val_main_v38, val_main_v37, val_main_v36]
  refine (v35 p kv (hd e) r (pl e)).trans ?_
  rw [h1, h2]

section Tile
open Cert.MemFwdIdeal Cert.MemFwdIdeal.Gen
variable (q : Vec Ideal S1024x128 .f32) (k v : Vec Ideal S256x128 .f32) (a : Fin 1024)
theorem pay2 : k0_pay2 (F := Ideal) q k v (ix2 a d) = mix (rowOf q a) (rowOf k) (rowOf v) d := by
  pointwise [k0_pay2]
  rfl
theorem pay4 : k0_pay4 (F := Ideal) v (k0_pay3 q k) (ix2 a d) = mix (rowOf q a) (rowOf k) (rowOf v) d := by
  pointwise [k0_pay4, k0_pay3]
  rfl
theorem pay5 : k0_pay5 (F := Ideal) q k v (ix2 a d) = mix (rowOf q a) (rowOf k) (rowOf v) d := by
  pointwise [k0_pay5]
  rfl
theorem pay1 : k0_pay1 (F := Ideal) k v (k0_pay6 q) (ix2 a d) = mix (rowOf q a) (rowOf k) (rowOf v) d := by
  pointwise [k0_pay1, k0_pay6]
  rfl
end Tile

end Cert.MemFwdIdeal.Ref
-- ==== Proof.MemFwdRefNamed.lean ====
module

public import proofs.«01_k».proof.Proof.Gen.MemFwdRefIdeal.Run
public import proofs.«01_k».proof.Proof.Gen.MemFwdRefIdeal.Read

@[expose] public section

noncomputable section

open Idealize.ShloMosaic Idealize.ShloMosaic.TcCoe Idealize.SL.Sem

namespace Cert.MemFwdRefIdeal.Named
open Cert.MemFwdRefIdeal Cert.MemFwdRefIdeal.Gen Cert.MemFwdRefIdeal.Value Cert.MemFwdRefIdeal.Read

/-- The reference's run, each result stated by the named stage that computes it. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v38) = val_main_v38 (F := Ideal) (m ((c.tc : Thread nD τ).loc main_arg0)) (m ((c.tc : Thread nD τ).loc main_arg1))
      ∧ r.2.mem ((c.tc : Thread nD τ).loc main_arg0) = (m ((c.tc : Thread nD τ).loc main_arg0))
      ∧ r.2.mem ((c.tc : Thread nD τ).loc main_arg1) = (m ((c.tc : Thread nD τ).loc main_arg1)) :=
  (θ_run defs _ _).mono (fun _ h c => ⟨(h c).1.trans (val_main_v38_eq (F := Ideal) m c), (h c).2⟩) (Cert.MemFwdRefIdeal.Value.run m ρ)

end Cert.MemFwdRefIdeal.Named
-- ==== Proof.MemFwdValue.lean ====
module

public import proofs.«01_k».proof.Defs
public import proofs.«01_k».proof.Proof.Gen.MemFwdIdeal.Value
public import Idealize.ShloMosaic.Lib.Claim
public import proofs.«01_k».proof.Proof.MemAttnValue
public import proofs.«01_k».proof.Proof.MemFwdRef
public import proofs.«01_k».proof.Proof.MemFwdRefNamed
public import proofs.«01_k».proof.Proof.Gen.MemFwdRefIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.MemFwdIdeal.Fwd
open Cert.MemFwdIdeal Cert.MemFwdIdeal.Gen Cert.MemFwdRefIdeal.Read
open Cert.MemAttnIdeal.Rows Cert.MemFwdIdeal.Ref
open Cert.MemAttnIdeal.Ref (Q K V)
open Cert.MemAttnIdeal.Norm (pcols pcols_apply rect_idx)

section Cols
variable {F : FTy → Type} [FloatOps F]
theorem V_p (m : (ℓ : Loc nD τ sig) → Buf (Elt F) ℓ) (c : Dev nD) : Gen.V m c main_v11 = pcols (m ((c : Thread nD τ).loc main_arg0)) := by
  unfold Gen.V
  after_results
  rfl
end Cols

variable (m : (ℓ : Loc nD τ sig) → Buf (Elt Ideal) ℓ) (c : Dev nD)

theorem idx : ∀ t : Fin cfg0.N, win0_0.index t = ![t.val, 7] ∧ win0_1.index t = ![0, 0] ∧ win0_2.index t = ![t.val, 0] :=
  (by decide +kernel : ∀ t : Fin grid0.N, _)

/-- Row `k` of the tile of point `t`. -/
def row (t : Fin cfg0.N) (k : Fin 1024) : Fin 4096 := ⟨t.val * 1024 + k.val, by have := lt_of_lt_of_eq t.isLt N_0; omega⟩

variable (t : Fin cfg0.N) (h : Fin 4) (o : ℕ)

theorem q_eq (a : Fin 1024) (e : Fin 512) :
    X0_0 m c t (ix2 a e : S1024x512.Idx) = m ((c : Thread nD τ).loc main_arg0) (ix2 (row t a) ⟨3840 + e.val, by have := e.isLt; omega⟩) := by
  unfold X0_0 Pipeline.Window.fill
  rw [dif_pos (moved0_0 t _), ← pcols_apply (m ((c : Thread nD τ).loc main_arg0)) (row t a) e ⟨3584 + e.val, by have := e.isLt; omega⟩ _ rfl rfl, ← V_p]
  blk_ext [iblk, idx t, row]

theorem kv_eq (s : Fin 256) (e : Fin 1024) : iblk m c 1 t (ix2 s e : S256x1024.Idx) = m ((c : Thread nD τ).loc main_arg1) (ix2 s e) := by
  rw [← V_main_arg1 m c]
  blk_ext [iblk, idx t]

theorem ldX (ho : o = h.val * 128) (inb : ∀ b, (![0, o] : Fin 2 → ℕ) b + (![1024, 128] : Fin 2 → ℕ) b ≤ S1024x512.size b) (a : Fin 1024) (d : Fin 128) :
    X0_0 m c t ((Rect.unit (s := S1024x512) ![0, o] ![1024, 128] inb).idx (ix2 a d)) = Q (m ((c : Thread nD τ).loc main_arg0)) h (row t a) d := by
  have he : o + d.val < 512 := by have := h.isLt; have := d.isLt; omega
  rw [rect_idx (w := 512) inb a d ⟨o + d.val, he⟩ rfl, q_eq]
  subst ho
  rfl

theorem ldK (ho : o = h.val * 128) (inb : ∀ b, (![0, o] : Fin 2 → ℕ) b + (![256, 128] : Fin 2 → ℕ) b ≤ S256x1024.size b) (s : Fin 256) (d : Fin 128) :
    iblk m c 1 t ((Rect.unit (s := S256x1024) ![0, o] ![256, 128] inb).idx (ix2 s d)) = K (m ((c : Thread nD τ).loc main_arg1)) h s d := by
  have he : o + d.val < 1024 := by have := h.isLt; have := d.isLt; omega
  rw [rect_idx (w := 1024) inb s d ⟨o + d.val, he⟩ rfl, kv_eq]
  exact congrArg (fun e => m ((c : Thread nD τ).loc main_arg1) (ix2 s e)) (Fin.ext (by simp [ho]))

theorem ldV (ho : o = 512 + h.val * 128) (inb : ∀ b, (![0, o] : Fin 2 → ℕ) b + (![256, 128] : Fin 2 → ℕ) b ≤ S256x1024.size b) (s : Fin 256) (d : Fin 128) :
    iblk m c 1 t ((Rect.unit (s := S256x1024) ![0, o] ![256, 128] inb).idx (ix2 s d)) = V (m ((c : Thread nD τ).loc main_arg1)) h s d := by
  have he : o + d.val < 1024 := by have := h.isLt; have := d.isLt; omega
  rw [rect_idx (w := 1024) inb s d ⟨o + d.val, he⟩ rfl, kv_eq]
  exact congrArg (fun e => m ((c : Thread nD τ).loc main_arg1) (ix2 s e)) (Fin.ext (by simp [ho]; omega))

/-- One head's columns of the output. -/
theorem piece {q : Vec Ideal S1024x128 .f32} {k v : Vec Ideal S256x128 .f32}
    (hq : ∀ a d, q (ix2 a d) = Q (m ((c : Thread nD τ).loc main_arg0)) h (row t a) d) (hk : ∀ s d, k (ix2 s d) = K (m ((c : Thread nD τ).loc main_arg1)) h s d)
    (hv : ∀ s d, v (ix2 s d) = V (m ((c : Thread nD τ).loc main_arg1)) h s d)
    (y : S1024x512.Idx) (i : S4096x512.Idx) (i0 : (i 0).val = t.val * 1024 + (y 0).val) (i1 : (i 1).val = (y 1).val) (x : S1024x128.Idx)
    (h0 : (y 0).val = (x 0).val) (h1 : (y 1).val = h.val * 128 + (x 1).val) {w : S1024x128.Idx → EReal}
    (hw : ∀ a d, w (ix2 a d) = mix (rowOf q a) (rowOf k) (rowOf v) d) :
    w x = val_main_v38 (F := Ideal) (m ((c : Thread nD τ).loc main_arg0)) (m ((c : Thread nD τ).loc main_arg1)) i := by
  have hi : i = ix2 (row t (x 0)) (i 1) := (eq_ix2 i).trans (congrArg (fun r => ix2 r (i 1)) (Fin.ext (by rw [i0, h0]; rfl)))
  rw [hi]
  refine (congrArg w (eq_ix2 x)).trans ((hw (x 0) (x 1)).trans (Eq.trans ?_ (v38 _ _ h (row t (x 0)) (x 1) (i 1) (i1.trans h1)).symm))
  rw [show rowOf q (x 0) = Q _ h (row t (x 0)) from funext (hq (x 0)), show rowOf k = K _ h from funext fun s => funext (hk s),
    show rowOf v = V _ h from funext fun s => funext (hv s)]

theorem final2 : (dats m 0 c).arrAt 2 cfg0.N = val_main_v38 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  unfold outsAt0
  frame_out
  canon_tiles x h
  · exact piece m c t 3 (ldX m c t 3 384 rfl _) (ldK m c t 3 384 rfl _) (ldV m c t 3 896 rfl _) y _ (by blk_simp [idx t]) (by blk_simp [idx t]) x h0 (by omega) (fun a d => pay1 _ _ _ _ _)
  · exact piece m c t 2 (ldX m c t 2 256 rfl _) (ldK m c t 2 256 rfl _) (ldV m c t 2 768 rfl _) y _ (by blk_simp [idx t]) (by blk_simp [idx t]) x h0 (by omega) (fun a d => pay5 _ _ _ _ _)
  · exact piece m c t 1 (ldX m c t 1 128 rfl _) (ldK m c t 1 128 rfl _) (ldV m c t 1 640 rfl _) y _ (by blk_simp [idx t]) (by blk_simp [idx t]) x h0 (by omega) (fun a d => pay4 _ _ _ _ _)
  · exact piece m c t 0 (ldX m c t 0 0 rfl _) (ldK m c t 0 0 rfl _) (ldV m c t 0 512 rfl _) y _ (by blk_simp [idx t]) (by blk_simp [idx t]) x h0 (by omega) (fun a d => pay2 _ _ _ _ _)

end Cert.MemFwdIdeal.Fwd

theorem Cert.MemFwdIdeal.algebraic : Cert.algebraic_MemFwdIdeal_MemFwdRefIdeal := by
  pair_intro
  · run_from Cert.MemFwdIdeal.Value.run_blocks m g
  · run_from Cert.MemFwdRefIdeal.Named.run m' g'
    · exact (Cert.MemFwdIdeal.Fwd.final2 m c).symm
-- ==== Proof.AttnFwdRef.lean ====
module

public import proofs.«01_k».proof.Proof.Gen.AttnFwdRefIdeal.Read
public import Idealize.ShloMosaic.Lib.Pointwise

/-! The windowed attention's forward pass, block by block and row by row: the functions of one query's row that both programs are stated with,
    and the reference's stages as those functions. Block `c` holds the queries `c * 128 + i`; its keys are the rows `c * 128 + j` of the keys
    padded by 128 rows of zeros on each side. Head `n * 4 + g` reads the keys and values of head `n`. -/

@[expose] public section

set_option maxRecDepth 16384

noncomputable section

open Idealize.ShloMosaic Idealize.ShloMosaic.TcCoe Idealize.SL.Sem

namespace Cert.AttnFwdIdeal.Rows

/-- How far query `i` of a block is from its key `j`. -/
def dist (i j : ℕ) : EReal :=
  FloatOps.sitofp (F := Ideal) FTy.f32 (IntOp.absi (IntOp.addi (IntOp.subi (BitVec.ofNat 32 i) (BitVec.ofNat 32 j)) 128#32))
/-- The place of key `j` of block `c` in the sequence. -/
def kpos (c j : ℕ) : BitVec 32 := IntOp.addi (IntOp.muli (IntOp.subi (BitVec.ofNat 32 c) 1#32) 128#32) (BitVec.ofNat 32 j)
/-- Whether query `i` of block `c` sees key `j`: within the window, and inside the sequence. -/
def valid (c i j : ℕ) : BitVec 1 :=
  IntOp.andi (IntOp.andi (BitVec.ofBool (decide (dist i j ≤ Ideal.ofBits .f32 0x43000000#32))) (IntOp.cmpi .sge (kpos c j) 0#32))
    (IntOp.cmpi .slt (kpos c j) 4096#32)
/-- The slope of head `u`. -/
def slope (u : ℕ) : EReal :=
  Ideal.pow (Ideal.ofBits .f32 0x40000000#32)
    (Ideal.div (Ideal.ofBits .f32 0xC1000000#32 * (1 + FloatOps.sitofp (F := Ideal) FTy.f32 (BitVec.ofNat 32 u))) (Ideal.ofBits .f32 0x41000000#32))

section Row
variable (q : Fin 64 → EReal) (k v : Fin 384 → Fin 64 → EReal) (sl sk : EReal) (c i : ℕ)
/-- The row's scores. -/
def score (j : Fin 384) : EReal :=
  Scalar.select (valid c i j) ((∑ d, q d * k j d) * Ideal.ofBits .f32 0x3E000000#32 - sl * dist i j) (Ideal.ofBits .f32 0xF149F2CA#32)
/-- The largest score, the sink's among them. -/
def top : EReal := max (Finset.fold max (Ideal.ofBits .f32 0xFF800000#32) (fun j => score q k sl c i j) Finset.univ) sk
/-- The weights before division. -/
def num (j : Fin 384) : EReal := Scalar.select (valid c i j) (Ideal.exp (score q k sl c i j - top q k sl sk c i)) 0
/-- What they are divided by. -/
def mass : EReal := (∑ j, num q k sl sk c i j) + Ideal.exp (sk - top q k sl sk c i)
/-- The row's attention output. -/
def out (d : Fin 64) : EReal := Ideal.div (∑ j, num q k sl sk c i j * v j d) (mass q k sl sk c i)
end Row

end Cert.AttnFwdIdeal.Rows

namespace Cert.AttnFwdIdeal.Ref
open Cert.AttnFwdRefIdeal Cert.AttnFwdRefIdeal.Read Cert.AttnFwdIdeal.Rows

variable (p : Vec Ideal S4096x4864 .f32) (sk : Vec Ideal S8 .f32)
variable (n : Fin 2) (g : Fin 4) (c : Fin 32) (i : Fin 128) (j : Fin 384) (d : Fin 64) (x : Fin 4352) (r : Fin 4096)

/-- The query of row `r`, head `n * 4 + g`. -/
def Q (r : Fin 4096) (d : Fin 64) : EReal := p (ix2 r ⟨(n.val * 4 + g.val) * 64 + d.val, by have := n.isLt; have := g.isLt; have := d.isLt; omega⟩)
/-- The keys' columns (at 512) and the values' (at 640) of head `n`, with 128 rows of zeros before and after. -/
def padded (o : Fin 641) (x : Fin 4352) (d : Fin 64) : EReal :=
  if h : 128 ≤ x.val ∧ x.val < 4224 then
    p (ix2 ⟨x.val - 128, by omega⟩ ⟨o.val + (n.val * 64 + d.val), by have := n.isLt; have := d.isLt; have := o.isLt; omega⟩)
  else 0
/-- Row `j` of block `c`'s keys or values. -/
def near (c : Fin 32) (j : Fin 384) : Fin 4352 := ⟨c.val * 128 + j.val, by omega⟩
def pos (c : Fin 32) (i : Fin 128) : Fin 4096 := ⟨c.val * 128 + i.val, by omega⟩
def K (c : Fin 32) (j : Fin 384) (d : Fin 64) : EReal := padded p n 512 (near c j) d
def V (c : Fin 32) (j : Fin 384) (d : Fin 64) : EReal := padded p n 640 (near c j) d
/-- Head `n * 4 + g`. -/
def hd (n : Fin 2) (g : Fin 4) : Fin 8 := ⟨n.val * 4 + g.val, by omega⟩

theorem v47 : val_main_v47 (F := Ideal) (ix2 i j) = dist i j := by
  pointwise [val_main_v47, val_main_v46, val_main_v45, val_main_v44, val_main_c_1, val_main_v43, val_main_v42, val_main_v41, val_main_v40, val_main_v39, val_main_v38, val_main_v37]
  rfl
theorem v57 : val_main_v57 (F := Ideal) (ix3 c 0 j) = kpos c j := by
  pointwise [val_main_v57, val_main_v56, val_main_v55, val_main_v54, val_main_v53, val_main_v52, val_main_v51, val_main_v50, val_main_v49, val_main_v48, val_main_v40, val_main_v39, val_main_c_2, val_main_c_3]
  rfl
theorem v69 : val_main_v69 (F := Ideal) (ix3 c i j) = valid c i j := by
  pointwise [val_main_v69, val_main_v68, val_main_v67, val_main_v66, val_main_v65, val_main_v64, val_main_v63, val_main_v62, val_main_v61, val_main_v60, val_main_v59, val_main_v58, val_main_c_5, val_main_c_6, val_main_cst_4]
  rw [v47, v57]
  rfl
theorem v78 (u : Fin 8) : val_main_v78 (F := Ideal) (ix1 u) = slope u := by
  pointwise [val_main_v78, val_main_v77, val_main_v76, val_main_v75, val_main_v74, val_main_v73, val_main_v72, val_main_v71, val_main_v70, val_main_cst_7, val_main_cst_8, val_main_cst_9, val_main_cst_10]
  rfl
theorem v32 : val_main_v32 (F := Ideal) p (ix6 0 n g c i d) = Q p n g (pos c i) d := by
  pointwise [val_main_v32, val_main_v13, val_main_v12, val_main_v11, val_main_v0]
  rfl
theorem v16 : val_main_v16 (F := Ideal) p (ix4 0 n r d) = p (ix2 r ⟨512 + (n.val * 64 + d.val), by omega⟩) := by
  pointwise [val_main_v16, val_main_v15, val_main_v14, val_main_v1]
theorem v19 : val_main_v19 (F := Ideal) p (ix4 0 n r d) = p (ix2 r ⟨640 + (n.val * 64 + d.val), by omega⟩) := by
  pointwise [val_main_v19, val_main_v18, val_main_v17, val_main_v2]
theorem v20 : val_main_v20 (F := Ideal) p (ix4 0 n x d) = padded p n 512 x d := by
  pointwise [val_main_v20, val_main_call0_v0, val_main_c]
  have hx := x.isLt
  unfold padded
  by_cases h : 128 ≤ x.val ∧ x.val < 4224
  · rw [dif_pos h, dif_pos (by omega)]
    exact v16 p n d _
  · rw [dif_neg h, dif_neg (by omega)]
    show ((((0#32 : BitVec 32).toInt : ℤ) : ℝ) : EReal) = 0
    simp
theorem v26 : val_main_v26 (F := Ideal) p (ix4 0 n x d) = padded p n 640 x d := by
  pointwise [val_main_v26, val_main_call1_v0, val_main_c_0]
  have hx := x.isLt
  unfold padded
  by_cases h : 128 ≤ x.val ∧ x.val < 4224
  · rw [dif_pos h, dif_pos (by omega)]
    exact v19 p n d _
  · rw [dif_neg h, dif_neg (by omega)]
    show ((((0#32 : BitVec 32).toInt : ℤ) : ℝ) : EReal) = 0
    simp
theorem v25 : val_main_v25 (F := Ideal) p (ix5 0 n c j d) = K p n c j d := by
  pointwise [val_main_v25, val_main_v24, val_main_v23, val_main_v22, val_main_v21]
  simp only [v20]
  split_ifs <;> exact congrArg (fun x => padded p n 512 x d) (Fin.ext (by simp only [near]; try omega))
theorem v31 : val_main_v31 (F := Ideal) p (ix5 0 n c j d) = V p n c j d := by
  pointwise [val_main_v31, val_main_v30, val_main_v29, val_main_v28, val_main_v27]
  simp only [v26]
  split_ifs <;> exact congrArg (fun x => padded p n 640 x d) (Fin.ext (by simp only [near]; try omega))
theorem v36 : val_main_v36 (F := Ideal) p (ix6 0 n g c i j) = (∑ d, Q p n g (pos c i) d * K p n c j d) * Ideal.ofBits .f32 0x3E000000#32 := by
  pointwise [val_main_v36, val_main_v35, val_main_cst, val_main_v34, val_main_v33]
  simp only [v25, v32]
  exact congrArg (· * _) (Finset.sum_congr rfl fun d _ => mul_comm _ _)
theorem v87 : val_main_v87 (F := Ideal) p (ix6 0 n g c i j) = score (Q p n g (pos c i)) (K p n c) (slope (hd n g)) c i j := by
  pointwise [val_main_v87, val_main_call2_v0, val_main_call2_v1, val_main_call2_v2, val_main_cst_11, val_main_v86, val_main_v85, val_main_v84, val_main_v83, val_main_v82, val_main_v81, val_main_v80, val_main_v79]
  rw [v69, v36, v78, v47]
  rfl

/-- The indices that drop to one query's are its line along the keys. -/
theorem line : (Finset.univ.filter fun t => Gen.reducesTo_S1x2x4x32x128x384_S1x2x4x32x128_d5.drop t = ix5 0 n g c i)
    = Finset.univ.image (fun s : Fin 384 => ix6 0 n g c i s) := by
  ext t
  simp only [Finset.mem_filter, Finset.mem_univ, true_and, Finset.mem_image]
  constructor
  · intro e
    refine ⟨t 5, funext fun b => Fin.ext ?_⟩
    match b with
    | ⟨0, _⟩ => exact (Nat.lt_one_iff.mp (t 0).isLt).symm
    | ⟨1, _⟩ => exact (congrArg Fin.val (congrFun e 1)).symm
    | ⟨2, _⟩ => exact (congrArg Fin.val (congrFun e 2)).symm
    | ⟨3, _⟩ => exact (congrArg Fin.val (congrFun e 3)).symm
    | ⟨4, _⟩ => exact (congrArg Fin.val (congrFun e 4)).symm
    | ⟨5, _⟩ => rfl
  · rintro ⟨s, rfl⟩
    refine funext fun b => Fin.ext ?_
    match b with
    | ⟨0, _⟩ => rfl
    | ⟨1, _⟩ => rfl
    | ⟨2, _⟩ => rfl
    | ⟨3, _⟩ => rfl
    | ⟨4, _⟩ => rfl
theorem line_inj : Function.Injective (fun s : Fin 384 => (ix6 0 n g c i s : S1x2x4x32x128x384.Idx)) := fun s s' e => congrFun e 5

theorem v89 : val_main_v89 (F := Ideal) p (ix5 0 n g c i)
    = Finset.fold max (Ideal.ofBits .f32 0xFF800000#32) (fun j => score (Q p n g (pos c i)) (K p n c) (slope (hd n g)) c i j) Finset.univ := by
  pointwise [val_main_v89, val_main_cst_12]
  rw [line, Finset.fold_image (fun s _ s' _ e => line_inj n g c i e)]
  exact congrArg (fun f => Finset.fold max _ f Finset.univ) (funext fun s => v87 p n g c i s)
theorem v92 : val_main_v92 (F := Ideal) sk (ix6 0 n g c i 0) = sk (ix1 (hd n g)) := by
  pointwise [val_main_v92, val_main_v91, val_main_v88]
  rfl
theorem v101 : val_main_v101 (F := Ideal) sk (ix6 0 n g c i 0) = sk (ix1 (hd n g)) := by
  pointwise [val_main_v101, val_main_v100, val_main_v88]
  rfl
theorem v93 : val_main_v93 (F := Ideal) p sk (ix6 0 n g c i 0) = top (Q p n g (pos c i)) (K p n c) (slope (hd n g)) (sk (ix1 (hd n g))) c i := by
  rw [val_main_v93_apply, v92, val_main_v90_apply, show idx_main_v90 (ix6 0 n g c i 0) = ix5 0 n g c i from
    funext fun b => match b with | ⟨0, _⟩ => rfl | ⟨1, _⟩ => rfl | ⟨2, _⟩ => rfl | ⟨3, _⟩ => rfl | ⟨4, _⟩ => rfl, v89]
  rfl
theorem v97 : val_main_v97 (F := Ideal) p sk (ix6 0 n g c i j) = num (Q p n g (pos c i)) (K p n c) (slope (hd n g)) (sk (ix1 (hd n g))) c i j := by
  pointwise [val_main_v97, val_main_call3_v0, val_main_call3_v1, val_main_call3_v2, val_main_cst_13, val_main_v96, val_main_v95, val_main_v94]
  rw [v69, v87, v93]
  exact congrArg (Scalar.select _ _) Ideal.ofBits_zero_f32
theorem v98 : val_main_v98 (F := Ideal) p sk (ix5 0 n g c i) = ∑ j, num (Q p n g (pos c i)) (K p n c) (slope (hd n g)) (sk (ix1 (hd n g))) c i j := by
  pointwise [val_main_v98, val_main_cst_14]
  unfold Ideal.hostReduceAdd
  rw [zero_add, line, Finset.sum_image (fun s _ s' _ e => line_inj n g c i e)]
  exact Finset.sum_congr rfl fun s _ => v97 p sk n g c i s
theorem v104 : val_main_v104 (F := Ideal) p sk (ix6 0 n g c i 0) = mass (Q p n g (pos c i)) (K p n c) (slope (hd n g)) (sk (ix1 (hd n g))) c i := by
  rw [val_main_v104_apply, val_main_v99_apply, show idx_main_v99 (ix6 0 n g c i 0) = ix5 0 n g c i from
    funext fun b => match b with | ⟨0, _⟩ => rfl | ⟨1, _⟩ => rfl | ⟨2, _⟩ => rfl | ⟨3, _⟩ => rfl | ⟨4, _⟩ => rfl, v98]
  pointwise [val_main_v103, val_main_v102]
  rw [v101, v93]
  rfl
theorem v108 : val_main_v108 (F := Ideal) p sk (ix6 0 n g c i d)
    = out (Q p n g (pos c i)) (K p n c) (V p n c) (slope (hd n g)) (sk (ix1 (hd n g))) c i d := by
  pointwise [val_main_v108, val_main_v107, val_main_v106, val_main_v105]
  simp only [v31, v97, v104]
  exact congrArg (fun s => Ideal.div s _) (Finset.sum_congr rfl fun j _ => mul_comm _ _)
/-- The attention's output, the columns of head `n * 4 + g` of block `c` read row by row. -/
theorem v112 (e : Fin 512) (he : e.val = (n.val * 4 + g.val) * 64 + d.val) : val_main_v112 (F := Ideal) p sk (ix2 (pos c i) e)
    = out (Q p n g (pos c i)) (K p n c) (V p n c) (slope (hd n g)) (sk (ix1 (hd n g))) c i d := by
  refine Eq.trans ?_ (v108 p sk n g c i d)
  pointwise [val_main_v112, val_main_v111, val_main_v110, val_main_v109]
  exact congrArg (val_main_v108 (F := Ideal) p sk) (funext fun b => Fin.ext (by
    have := i.isLt; have := c.isLt; have := d.isLt; have := n.isLt; have := g.isLt
    match b with
    | ⟨0, _⟩ => rfl
    | ⟨1, _⟩ => show e.val / 64 / 4 = n.val; omega
    | ⟨2, _⟩ => show e.val / 64 % 4 = g.val; omega
    | ⟨3, _⟩ => show (c.val * 128 + i.val) / 128 = c.val; omega
    | ⟨4, _⟩ => show (c.val * 128 + i.val) % 128 = i.val; omega
    | ⟨5, _⟩ => show e.val % 64 = d.val; omega))

end Cert.AttnFwdIdeal.Ref
-- ==== Proof.AttnFwdTile.lean ====
module

public import proofs.«01_k».proof.Proof.AttnFwdRef
public import proofs.«01_k».proof.Proof.Gen.AttnFwdIdeal.Skeleton

/-! The windowed attention's kernel payloads: row `a = g * 128 + i` of a tile holds query `i` of the block's head `g`, and its output is the
    row function `Rows.out` at `i`. -/

@[expose] public section

set_option maxRecDepth 16384

noncomputable section

open Idealize.ShloMosaic Idealize.ShloMosaic.TcCoe Idealize.SL.Sem

namespace Cert.AttnFwdIdeal.Tile
open Cert.AttnFwdIdeal Cert.AttnFwdIdeal.Gen Cert.AttnFwdIdeal.Rows

/-- The kernel's remainder of a row by 128, its sign fixed up, is the row's place in its head. -/
theorem rem : ∀ a : Fin 512,
    Scalar.select
      (IntOp.andi
        (IntOp.xori (IntOp.cmpi .slt (IntOp.remsi .vector (BitVec.ofNat 32 a.val) 128#32) 0#32) (Scalar.cmpi .slt 128#32 0#32))
        (IntOp.cmpi .ne (IntOp.remsi .vector (BitVec.ofNat 32 a.val) 128#32) 0#32))
      (IntOp.addi (IntOp.remsi .vector (BitVec.ofNat 32 a.val) 128#32) 128#32)
      (IntOp.remsi .vector (BitVec.ofNat 32 a.val) 128#32) = BitVec.ofNat 32 (a.val % 128) := by
  decide +kernel

variable (a : Fin 512) (j : Fin 384) (d : Fin 64) (c : Fin 32)
theorem pay11 : k0_pay11 (ix2 a j) = BitVec.ofNat 32 (a.val % 128) := by
  pointwise [k0_pay11]
  exact rem a
theorem pay23 : k0_pay23 (F := Ideal) 128#32 k0_pay22 (ix2 a j) = Rows.dist (a.val % 128) j := by
  pointwise [k0_pay23, k0_pay22]
  unfold Rows.dist
  rw [← rem a]
  rfl
theorem pay24 : k0_pay24 (F := Ideal) (BitVec.ofNat 32 c) 128#32 k0_pay22 (ix2 a j) = valid c (a.val % 128) j := by
  pointwise [k0_pay24]
  rw [pay23]
  rfl

variable (q : Vec Ideal S512x64 .f32) (k v : Vec Ideal S384x64 .f32) (s l : Vec Ideal S512x1 .f32)

/-- The row of the output: the tile's row `a` of the queries, all keys and values, and the row's sink and slope. -/
def tileOut (c : ℕ) (a : Fin 512) (d : Fin 64) : EReal :=
  out (fun d => q (ix2 a d)) (fun j d => k (ix2 j d)) (fun j d => v (ix2 j d)) (l (ix2 a 0)) (s (ix2 a 0)) c (a.val % 128) d

/-- A masked weight times a value. -/
theorem select_mul_zero (b : BitVec 1) (x y : EReal) : Scalar.select b (x * y) 0 = Scalar.select b x 0 * y := by
  unfold Scalar.select
  split_ifs
  · rfl
  · exact (zero_mul y).symm

theorem pay12 : k0_pay12 (F := Ideal) (BitVec.ofNat 32 c) q k v s l k0_pay11 (ix2 a d) = tileOut q k v s l c a d := by
  pointwise [k0_pay12]
  simp only [pay11, select_mul_zero]
  rfl
theorem pay25 : k0_pay25 (F := Ideal) (BitVec.ofNat 32 c) q k l 128#32 k0_pay22 (ix2 a j)
    = score (fun d => q (ix2 a d)) (fun j d => k (ix2 j d)) (l (ix2 a 0)) c (a.val % 128) j := by
  pointwise [k0_pay25]
  rw [pay23, pay24]
  rfl
theorem pay26 : k0_pay26 (F := Ideal) (BitVec.ofNat 32 c) q k s l 128#32 k0_pay22 (ix2 a 0)
    = top (fun d => q (ix2 a d)) (fun j d => k (ix2 j d)) (l (ix2 a 0)) (s (ix2 a 0)) c (a.val % 128) := by
  pointwise [k0_pay26]
  simp only [pay25]
  rfl
theorem pay27 : k0_pay27 (F := Ideal) (BitVec.ofNat 32 c) q k s l 128#32 k0_pay22 (ix2 a j)
    = Ideal.exp (score (fun d => q (ix2 a d)) (fun j d => k (ix2 j d)) (l (ix2 a 0)) c (a.val % 128) j
      - top (fun d => q (ix2 a d)) (fun j d => k (ix2 j d)) (l (ix2 a 0)) (s (ix2 a 0)) c (a.val % 128)) := by
  pointwise [k0_pay27]
  rw [pay25, pay26]
theorem pay1_at (w : IVec S512x384 1) (t : Vec Ideal S512x1 .f32) (u : Vec Ideal S512x384 .f32) (z : EReal) :
    k0_pay1 (F := Ideal) v s w t u z (ix2 a d)
      = Ideal.div (∑ j, Scalar.select (w (ix2 a j)) (u (ix2 a j)) z * v (ix2 j d))
          ((∑ j, Scalar.select (w (ix2 a j)) (u (ix2 a j)) z) + Ideal.exp (s (ix2 a 0) - t (ix2 a 0))) := by
  pointwise [k0_pay1]
theorem pay1 : k0_pay1 (F := Ideal) v s (k0_pay24 (F := Ideal) (BitVec.ofNat 32 c) 128#32 k0_pay22)
      (k0_pay26 (F := Ideal) (BitVec.ofNat 32 c) q k s l 128#32 k0_pay22) (k0_pay27 (F := Ideal) (BitVec.ofNat 32 c) q k s l 128#32 k0_pay22)
      (Ideal.ofBits .f32 0x00000000#32) (ix2 a d) = tileOut q k v s l c a d := by
  rw [pay1_at]
  simp only [pay24, pay26, pay27, Ideal.ofBits_zero_f32]
  rfl

/-- Row `i` of head `g` in a tile of four heads. -/
def at4 (g : Fin 4) (i : Fin 128) : Fin 512 := ⟨g.val * 128 + i.val, by omega⟩
theorem pay6 (v w x y : Vec Ideal S128x64 .f32) (g : Fin 4) (i : Fin 128) :
    k0_pay6 (F := Ideal) v w x y (ix2 (at4 g i) d) = (![v, w, x, y] g) (ix2 i d) := by
  obtain ⟨a, ha⟩ : ∃ a, a = at4 g i := ⟨_, rfl⟩
  have hi := i.isLt
  have hv : a.val = g.val * 128 + i.val := congrArg Fin.val ha
  rw [← ha]
  clear ha
  fin_cases g
  all_goals dsimp only at hv
  all_goals pointwise [k0_pay6]
  all_goals simp (disch := omega) only [dif_pos, dif_neg]
  · exact congrArg (fun r => v (ix2 r d)) (Fin.ext (by dsimp only; omega))
  · exact congrArg (fun r => w (ix2 r d)) (Fin.ext (by dsimp only; omega))
  · exact congrArg (fun r => x (ix2 r d)) (Fin.ext (by dsimp only; omega))
  · exact congrArg (fun r => y (ix2 r d)) (Fin.ext (by dsimp only; omega))
theorem pay17 (v w x y : Vec Ideal S128x64 .f32) (g : Fin 4) (i : Fin 128) :
    k0_pay17 (F := Ideal) v w x y (ix2 (at4 g i) d) = (![v, w, x, y] g) (ix2 i d) :=
  pay6 d v w x y g i
/-! The tiles as loaded. -/
section Load
theorem pay7 (y : Vec Ideal S384x64 .f32) : k0_pay7 (F := Ideal) y (ix2 j d) = y (ix2 j d) := by
  pointwise [k0_pay7]
theorem pay8 (y : Vec Ideal S384x64 .f32) : k0_pay8 (F := Ideal) y (ix2 j d) = y (ix2 j d) := by
  pointwise [k0_pay8]
theorem pay18 (y : Vec Ideal S384x64 .f32) : k0_pay18 (F := Ideal) y (ix2 j d) = y (ix2 j d) := by
  pointwise [k0_pay18]
theorem pay19 (y : Vec Ideal S384x64 .f32) : k0_pay19 (F := Ideal) y (ix2 j d) = y (ix2 j d) := by
  pointwise [k0_pay19]
theorem pay9 (y : Vec Ideal S512x1 .f32) : k0_pay9 (F := Ideal) y (ix2 a 0) = y (ix2 a 0) := by
  pointwise [k0_pay9]
theorem pay10 (y : Vec Ideal S512x1 .f32) : k0_pay10 (F := Ideal) y (ix2 a 0) = y (ix2 a 0) := by
  pointwise [k0_pay10]
theorem pay20 (y : Vec Ideal S512x1 .f32) : k0_pay20 (F := Ideal) y (ix2 a 0) = y (ix2 a 0) := by
  pointwise [k0_pay20]
theorem pay21 (y : Vec Ideal S512x1 .f32) : k0_pay21 (F := Ideal) y (ix2 a 0) = y (ix2 a 0) := by
  pointwise [k0_pay21]
end Load

/-! Each head's 128 rows of a tile of four heads. -/
section Cut
variable (i : Fin 128) (y : Vec Ideal S512x64 .f32) (b : BitVec 32) (w : IVec S512x384 32) (o : IVec S512x384 1) (u : Vec Ideal S512x384 .f32) (z : EReal)
theorem pay13 : k0_pay13 (F := Ideal) b q k v s l w (ix2 i d) = k0_pay12 (F := Ideal) b q k v s l w (ix2 (at4 0 i) d) := by
  pointwise [k0_pay13]
  exact congrArg (fun r => k0_pay12 (F := Ideal) b q k v s l w (ix2 r d)) (Fin.ext (by simp [at4]))
theorem pay14 : k0_pay14 (F := Ideal) y (ix2 i d) = y (ix2 (at4 1 i) d) := by
  pointwise [k0_pay14]
  exact congrArg (fun r => y (ix2 r d)) (Fin.ext (by simp [at4]))
theorem pay15 : k0_pay15 (F := Ideal) y (ix2 i d) = y (ix2 (at4 2 i) d) := by
  pointwise [k0_pay15]
  exact congrArg (fun r => y (ix2 r d)) (Fin.ext (by simp [at4]))
theorem pay16 : k0_pay16 (F := Ideal) y (ix2 i d) = y (ix2 (at4 3 i) d) := by
  pointwise [k0_pay16]
  exact congrArg (fun r => y (ix2 r d)) (Fin.ext (by simp [at4]))
theorem pay2 : k0_pay2 (F := Ideal) v s o l u z (ix2 i d) = k0_pay1 (F := Ideal) v s o l u z (ix2 (at4 0 i) d) := by
  pointwise [k0_pay2]
  exact congrArg (fun r => k0_pay1 (F := Ideal) v s o l u z (ix2 r d)) (Fin.ext (by simp [at4]))
theorem pay3 : k0_pay3 (F := Ideal) v s o l u z (ix2 i d) = k0_pay1 (F := Ideal) v s o l u z (ix2 (at4 1 i) d) := by
  pointwise [k0_pay3]
  exact congrArg (fun r => k0_pay1 (F := Ideal) v s o l u z (ix2 r d)) (Fin.ext (by simp [at4]))
theorem pay4 : k0_pay4 (F := Ideal) v s o l u z (ix2 i d) = k0_pay1 (F := Ideal) v s o l u z (ix2 (at4 2 i) d) := by
  pointwise [k0_pay4]
  exact congrArg (fun r => k0_pay1 (F := Ideal) v s o l u z (ix2 r d)) (Fin.ext (by simp [at4]))
theorem pay5 : k0_pay5 (F := Ideal) v s o l u z (ix2 i d) = k0_pay1 (F := Ideal) v s o l u z (ix2 (at4 3 i) d) := by
  pointwise [k0_pay5]
  exact congrArg (fun r => k0_pay1 (F := Ideal) v s o l u z (ix2 r d)) (Fin.ext (by simp [at4]))
end Cut

end Cert.AttnFwdIdeal.Tile
-- ==== Proof.AttnFwdRefNamed.lean ====
module

public import proofs.«01_k».proof.Proof.Gen.AttnFwdRefIdeal.Run
public import proofs.«01_k».proof.Proof.Gen.AttnFwdRefIdeal.Read

@[expose] public section

noncomputable section

open Idealize.ShloMosaic Idealize.ShloMosaic.TcCoe Idealize.SL.Sem

namespace Cert.AttnFwdRefIdeal.Named
open Cert.AttnFwdRefIdeal Cert.AttnFwdRefIdeal.Gen Cert.AttnFwdRefIdeal.Value Cert.AttnFwdRefIdeal.Read

/-- The reference's run, each result stated by the named stage that computes it. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v112) = val_main_v112 (F := Ideal) (m ((c.tc : Thread nD τ).loc main_arg0)) (m ((c.tc : Thread nD τ).loc main_arg1))
      ∧ r.2.mem ((c.tc : Thread nD τ).loc main_arg0) = (m ((c.tc : Thread nD τ).loc main_arg0))
      ∧ r.2.mem ((c.tc : Thread nD τ).loc main_arg1) = (m ((c.tc : Thread nD τ).loc main_arg1)) :=
  (θ_run defs _ _).mono (fun _ h c => ⟨(h c).1.trans (val_main_v112_eq (F := Ideal) m c), (h c).2⟩) (Cert.AttnFwdRefIdeal.Value.run m ρ)

end Cert.AttnFwdRefIdeal.Named
-- ==== Proof.AttnFwdValue.lean ====
module

public import proofs.«01_k».proof.Defs
public import proofs.«01_k».proof.Proof.Gen.AttnFwdIdeal.Value
public import Idealize.ShloMosaic.Lib.Claim
public import proofs.«01_k».proof.Proof.MemAttnValue
public import proofs.«01_k».proof.Proof.AttnFwdTile
public import proofs.«01_k».proof.Proof.AttnFwdRefNamed
public import proofs.«01_k».proof.Proof.Gen.AttnFwdRefIdeal.Run
public import Idealize.ShloMosaic.Lib.Pipeline.ValueKit
public import Idealize.ShloMosaic.Lib.Pointwise

/-! The windowed attention's forward pass: what each tile of the kernel loads, and the output it leaves, against the reference's. -/

@[expose] public section

set_option maxRecDepth 16384

noncomputable section

open Idealize.ShloMosaic Idealize.ShloMosaic.TcCoe Idealize.SL.Sem
open Idealize.ShloMosaic.Pipeline (Dat)

namespace Cert.AttnFwdIdeal.Fwd
open Cert.AttnFwdIdeal Cert.AttnFwdIdeal.Gen Cert.AttnFwdRefIdeal.Read
open Cert.AttnFwdIdeal.Rows Cert.AttnFwdIdeal.Ref Cert.AttnFwdIdeal.Tile
open Cert.MemAttnIdeal.Norm (pcols)

section Cols
variable {F : FTy → Type} [FloatOps F]
variable (m : (ℓ : Loc nD τ sig) → Buf (Elt F) ℓ) (c : Dev nD)
theorem V_p : Gen.V m c main_v11 = pcols (m ((c : Thread nD τ).loc main_arg0)) := by
  simp only [Gen.V, hostOps0, hostOps0_1, hostOps0_2, List.flatten_cons, List.flatten_nil, List.append_nil, List.cons_append, List.nil_append]
  after_results
  rfl
/-- The last 256 of the kernel's columns, padded by 128 rows of zeros on each side. -/
def kvPad (x : (⟨S4096x4864, .f32⟩ : BufTy).Contents (Elt F)) : (⟨S4352x256, .f32⟩ : BufTy).Contents (Elt F) :=
  pad S4352x256 ![128, 0] ![128, 0] ![0, 0] (extractStridedSlice S4096x256 ![0, 4608] (pcols x) slices_S4096x4864_S4096x256_0_4608)
    (sitofp .f32 (constantI S_ 32 0#32)) pads_S4096x256_S4352x256_1281280_000 h_S_
theorem V_kv : Gen.V m c main_v25 = kvPad (m ((c : Thread nD τ).loc main_arg0)) := by
  simp only [Gen.V, hostOps0, hostOps0_1, hostOps0_2, List.flatten_cons, List.flatten_nil, List.append_nil, List.cons_append, List.nil_append]
  after_results
  rfl
/-- Each head's number, 128 times over. -/
def per128 (x : (⟨S8, .f32⟩ : BufTy).Contents (Elt F)) : (⟨S1024x1, .f32⟩ : BufTy).Contents (Elt F) :=
  shapeCast S1024x1 (shapeCast S1024 (broadcastInDim S8x128 ![0] bcast_S8_S8x128_0 x) shapeCasts_S8x128_S1024) shapeCasts_S1024_S1024x1
theorem V_sink : Gen.V m c main_v28 = per128 (m ((c : Thread nD τ).loc main_arg1)) := by
  simp only [Gen.V, hostOps0, hostOps0_1, hostOps0_2, List.flatten_cons, List.flatten_nil, List.append_nil, List.cons_append, List.nil_append]
  after_results
  rfl
theorem V_slope : Gen.V m c main_v23 = per128 (val_main_v78 (F := F)) := by
  simp only [Gen.V, hostOps0, hostOps0_1, hostOps0_2, List.flatten_cons, List.flatten_nil, List.append_nil, List.cons_append, List.nil_append]
  after_results
  rfl
end Cols

/-- The kernel finds the queries' columns where the reference does. -/
theorem pcols_q (x : (⟨S4096x4864, .f32⟩ : BufTy).Contents (Elt Ideal)) (r : Fin 4096) (e : Fin 512) (k : Fin 4864) (hk : k.val = e.val) :
    pcols (F := Ideal) x (ix2 r k) = x (ix2 r k) := by
  have he := e.isLt
  pointwise [pcols]
  simp (disch := omega) only [dif_pos]
/-- The keys' and values' columns stand last in the kernel's order. -/
theorem pcols_kv (x : (⟨S4096x4864, .f32⟩ : BufTy).Contents (Elt Ideal)) (r : Fin 4096) (e : Fin 256) (k k' : Fin 4864)
    (hk : k.val = 4608 + e.val) (hk' : k'.val = 512 + e.val) : pcols (F := Ideal) x (ix2 r k) = x (ix2 r k') := by
  have he := e.isLt
  pointwise [pcols]
  simp (disch := omega) only [dif_neg]
  split_ifs
  all_goals exact congrArg (fun k => x (ix2 r k)) (Fin.ext (by dsimp only; omega))
theorem kvPad_apply (x : (⟨S4096x4864, .f32⟩ : BufTy).Contents (Elt Ideal)) (n : Fin 2) (o : Fin 641) (w : Fin 4352) (d : Fin 64) (e : Fin 256)
    (he : 512 + e.val = o.val + (n.val * 64 + d.val)) : kvPad (F := Ideal) x (ix2 w e) = padded x n o w d := by
  have := w.isLt
  unfold padded
  pointwise [kvPad]
  by_cases h : 128 ≤ w.val ∧ w.val < 4224
  · rw [dif_pos h, dif_pos ⟨h.1, by omega⟩]
    exact pcols_kv x _ e _ _ rfl he.symm
  · rw [dif_neg h, dif_neg (by omega)]
    show ((((0#32 : BitVec 32).toInt : ℤ) : ℝ) : EReal) = 0
    simp
theorem per128_apply (x : (⟨S8, .f32⟩ : BufTy).Contents (Elt Ideal)) (u : Fin 8) (a : Fin 1024) (ha : a.val / 128 = u.val) :
    per128 (F := Ideal) x (ix2 a 0) = x (ix1 u) := by
  pointwise [per128]
  exact congrArg (fun u => x (ix1 u)) (Fin.ext ha)

variable (m : (ℓ : Loc nD τ sig) → Buf (Elt Ideal) ℓ) (c : Dev nD)

theorem idx : ∀ t : Fin cfg0.N, win0_0.index t = ![t.val, 0] ∧ win0_1.index t = ![0, 0] ∧ win0_2.index t = ![0, 0] ∧ win0_3.index t = ![0, 0]
    ∧ win0_4.index t = ![t.val, 0] :=
  (by decide +kernel : ∀ t : Fin grid0.N, _)
/-- The first row of the keys that point `t` loads, and the block it works on. -/
theorem off : ∀ t : Fin cfg0.N, k0_off1 (grid0.coords t) = ![t.val * 128, 0] ∧ k0_off2 (grid0.coords t) = ![t.val * 128, 128]
    ∧ k0_off3 (grid0.coords t) = ![t.val * 128, 64] ∧ k0_off4 (grid0.coords t) = ![t.val * 128, 192] ∧ (grid0.coords t 0).val = t.val :=
  (by decide +kernel : ∀ t : Fin grid0.N, _)

/-- The block of point `t`. -/
def blk (t : Fin cfg0.N) : Fin 32 := ⟨t.val, lt_of_lt_of_eq t.isLt N_0⟩

variable (t : Fin cfg0.N) (n : Fin 2) (g : Fin 4)

theorem q_eq (i : Fin 128) (e : Fin 512) :
    X0_0 m c t (ix2 i e : S128x512.Idx) = m ((c : Thread nD τ).loc main_arg0) (ix2 (pos (blk t) i) ⟨e.val, by have := e.isLt; omega⟩) := by
  unfold X0_0 Pipeline.Window.fill
  rw [dif_pos (moved0_0 t _), ← pcols_q (m ((c : Thread nD τ).loc main_arg0)) (pos (blk t) i) e _ rfl, ← V_p]
  blk_ext [iblk, idx t, pos, blk]
theorem kv_eq (o : Fin 641) (w : Fin 4352) (d : Fin 64) (e : Fin 256) (he : 512 + e.val = o.val + (n.val * 64 + d.val)) :
    iblk m c 1 t (ix2 w e : S4352x256.Idx) = padded (m ((c : Thread nD τ).loc main_arg0)) n o w d := by
  rw [← kvPad_apply _ n o w d e he, ← V_kv]
  blk_ext [iblk, idx t]
theorem sink_eq (u : Fin 8) (a : Fin 1024) (ha : a.val / 128 = u.val) :
    iblk m c 2 t (ix2 a 0 : S1024x1.Idx) = m ((c : Thread nD τ).loc main_arg1) (ix1 u) := by
  rw [← per128_apply (m ((c : Thread nD τ).loc main_arg1)) u a ha, ← V_sink]
  blk_ext [iblk, idx t]
theorem slope_eq (u : Fin 8) (a : Fin 1024) (ha : a.val / 128 = u.val) : iblk m c 3 t (ix2 a 0 : S1024x1.Idx) = slope u := by
  rw [← v78, ← per128_apply (val_main_v78 (F := Ideal)) u a ha, ← V_slope m c]
  blk_ext [iblk, idx t]

/-- Where a rectangle's index sits in the whole. -/
theorem rect_at {h w h' w' o o' : ℕ} (inb : ∀ b, (![o, o'] : Fin 2 → ℕ) b + (![h', w'] : Fin 2 → ℕ) b ≤ (⟨2, ![h, w]⟩ : Shape).size b) (a : Fin h') (d : Fin w')
    (a' : Fin h) (e : Fin w) (ha : a'.val = o + a.val) (he : e.val = o' + d.val) :
    (Rect.unit (s := (⟨2, ![h, w]⟩ : Shape)) ![o, o'] ![h', w'] inb).idx (ix2 a d) = ix2 a' e := by
  funext b
  match b with
  | ⟨0, _⟩ => exact Fin.ext (by simp [LoadRect.idx, Rect.unit, ha])
  | ⟨1, _⟩ => exact Fin.ext (by simp [LoadRect.idx, Rect.unit, he])

theorem ldQ (o : ℕ) (ho : o = (n.val * 4 + g.val) * 64) (inb : ∀ b, (![0, o] : Fin 2 → ℕ) b + (![128, 64] : Fin 2 → ℕ) b ≤ S128x512.size b)
    (i : Fin 128) (d : Fin 64) :
    X0_0 m c t ((Rect.unit (s := S128x512) ![0, o] ![128, 64] inb).idx (ix2 i d)) = Q (m ((c : Thread nD τ).loc main_arg0)) n g (pos (blk t) i) d := by
  have he : o + d.val < 512 := by have := n.isLt; have := g.isLt; have := d.isLt; omega
  rw [rect_at (w := 512) inb i d i ⟨o + d.val, he⟩ (by simp) rfl, q_eq]
  subst ho
  rfl
/-- The queries of four heads, one under the other. -/
theorem ldQ4 (o : Fin 4 → ℕ) (ho : ∀ g : Fin 4, o g = (n.val * 4 + g.val) * 64)
    (inb : ∀ g b, (![0, o g] : Fin 2 → ℕ) b + (![128, 64] : Fin 2 → ℕ) b ≤ S128x512.size b) (i : Fin 128) (d : Fin 64) :
    k0_pay6 (F := Ideal) (fun e => X0_0 m c t ((Rect.unit (s := S128x512) ![0, o 0] ![128, 64] (inb 0)).idx e))
        (fun e => X0_0 m c t ((Rect.unit (s := S128x512) ![0, o 1] ![128, 64] (inb 1)).idx e))
        (fun e => X0_0 m c t ((Rect.unit (s := S128x512) ![0, o 2] ![128, 64] (inb 2)).idx e))
        (fun e => X0_0 m c t ((Rect.unit (s := S128x512) ![0, o 3] ![128, 64] (inb 3)).idx e)) (ix2 (at4 g i) d)
      = Q (m ((c : Thread nD τ).loc main_arg0)) n g (pos (blk t) i) d := by
  refine (Tile.pay6 d _ _ _ _ g i).trans ?_
  fin_cases g
  · exact ldQ m c t n 0 _ (ho 0) _ i d
  · exact ldQ m c t n 1 _ (ho 1) _ i d
  · exact ldQ m c t n 2 _ (ho 2) _ i d
  · exact ldQ m c t n 3 _ (ho 3) _ i d
theorem ldKV (f : Fin 2 → ℕ) (o' : ℕ) (hf : f = ![t.val * 128, o']) (o : Fin 641) (ho : 512 + o' = o.val + n.val * 64)
    (inb : ∀ b, f b + (![384, 64] : Fin 2 → ℕ) b ≤ S4352x256.size b) (j : Fin 384) (d : Fin 64) :
    iblk m c 1 t ((Rect.unit (s := S4352x256) f ![384, 64] inb).idx (ix2 j d))
      = padded (m ((c : Thread nD τ).loc main_arg0)) n o (near (blk t) j) d := by
  subst hf
  have he : o' + d.val < 256 := by have := n.isLt; have := d.isLt; have := inb 1; simp at this; omega
  rw [rect_at (w := 256) inb j d (near (blk t) j) ⟨o' + d.val, he⟩ rfl rfl]
  exact kv_eq m c t n o _ d _ (by dsimp only; omega)
theorem ldS (o : ℕ) (ho : o = n.val * 512) (inb : ∀ b, (![o, 0] : Fin 2 → ℕ) b + (![512, 1] : Fin 2 → ℕ) b ≤ S1024x1.size b) (i : Fin 128) :
    iblk m c 2 t ((Rect.unit (s := S1024x1) ![o, 0] ![512, 1] inb).idx (ix2 (at4 g i) 0)) = m ((c : Thread nD τ).loc main_arg1) (ix1 (hd n g)) := by
  have := n.isLt; have := g.isLt; have := i.isLt
  rw [rect_at (h := 1024) inb (at4 g i) 0 ⟨o + (at4 g i).val, by simp only [at4]; omega⟩ 0 rfl rfl]
  exact sink_eq m c t _ _ (by simp only [at4, hd]; omega)
theorem ldL (o : ℕ) (ho : o = n.val * 512) (inb : ∀ b, (![o, 0] : Fin 2 → ℕ) b + (![512, 1] : Fin 2 → ℕ) b ≤ S1024x1.size b) (i : Fin 128) :
    iblk m c 3 t ((Rect.unit (s := S1024x1) ![o, 0] ![512, 1] inb).idx (ix2 (at4 g i) 0)) = slope (hd n g) := by
  have := n.isLt; have := g.isLt; have := i.isLt
  rw [rect_at (h := 1024) inb (at4 g i) 0 ⟨o + (at4 g i).val, by simp only [at4]; omega⟩ 0 rfl rfl]
  exact slope_eq m c t _ _ (by simp only [at4, hd]; omega)

/-- One head's columns of the output, cut from the tile of its four heads. -/
theorem piece {q : Vec Ideal S512x64 .f32} {k v : Vec Ideal S384x64 .f32} {s l : Vec Ideal S512x1 .f32}
    (hq : ∀ i d, q (ix2 (at4 g i) d) = Q (m ((c : Thread nD τ).loc main_arg0)) n g (pos (blk t) i) d)
    (hk : ∀ j d, k (ix2 j d) = K (m ((c : Thread nD τ).loc main_arg0)) n (blk t) j d)
    (hv : ∀ j d, v (ix2 j d) = V (m ((c : Thread nD τ).loc main_arg0)) n (blk t) j d)
    (hs : ∀ i, s (ix2 (at4 g i) 0) = m ((c : Thread nD τ).loc main_arg1) (ix1 (hd n g)))
    (hl : ∀ i, l (ix2 (at4 g i) 0) = slope (hd n g))
    (y : S128x512.Idx) (z : S4096x512.Idx) (z0 : (z 0).val = t.val * 128 + (y 0).val) (z1 : (z 1).val = (y 1).val) (x : S128x64.Idx)
    (h0 : (y 0).val = (x 0).val) (h1 : (y 1).val = (n.val * 4 + g.val) * 64 + (x 1).val) {w : S128x64.Idx → EReal}
    (hw : ∀ i d, w (ix2 i d) = tileOut q k v s l (blk t) (at4 g i) d) :
    w x = val_main_v112 (F := Ideal) (m ((c : Thread nD τ).loc main_arg0)) (m ((c : Thread nD τ).loc main_arg1)) z := by
  have hz : z = ix2 (pos (blk t) (x 0)) (z 1) := (eq_ix2 z).trans (congrArg (fun r => ix2 r (z 1)) (Fin.ext (by rw [z0, h0]; rfl)))
  rw [hz]
  refine (congrArg w (eq_ix2 x)).trans ((hw (x 0) (x 1)).trans (Eq.trans ?_ (v112 _ _ n g (blk t) (x 0) (x 1) (z 1) (z1.trans h1)).symm))
  unfold tileOut
  rw [hs (x 0), hl (x 0), show (fun d => q (ix2 (at4 g (x 0)) d)) = Q _ n g (pos (blk t) (x 0)) from funext (hq (x 0)),
    show (fun j d => k (ix2 j d)) = K _ n (blk t) from funext fun j => funext (hk j),
    show (fun j d => v (ix2 j d)) = V _ n (blk t) from funext fun j => funext (hv j),
    show (at4 g (x 0)).val % 128 = (x 0).val from by have : (x 0).val < 128 := (x 0).isLt; simp only [at4]; omega]

set_option maxHeartbeats 1600000 in
theorem final4 : (dats m 0 c).arrAt 4 cfg0.N = val_main_v112 (F := Ideal) (m ((c : Thread nD τ).loc main_arg0)) (m ((c : Thread nD τ).loc main_arg1)) := by
  refine (dats m 0 c).arrAt_eq_of_covers 4 _ (by decide +kernel) fun t _ y => ?_
  blk_simp
  rw [after0_4]
  unfold outsAt0
  frame_out
  rw [(off t).2.2.2.2]
  have tq1 := fun g => ldQ4 m c t 1 g ![256, 320, 384, 448] (by decide) (by decide)
  have tk1 := ldKV m c t 1 _ 64 (off t).2.2.1 512 rfl (k0_off3_inb _)
  have tv1 := ldKV m c t 1 _ 192 (off t).2.2.2.1 640 rfl (k0_off4_inb _)
  have ts1 := fun g => ldS m c t 1 g 512 rfl (by decide)
  have tl1 := fun g => ldL m c t 1 g 512 rfl (by decide)
  have tq0 := fun g => ldQ4 m c t 0 g ![0, 64, 128, 192] (by decide) (by decide)
  have tk0 := ldKV m c t 0 _ 0 (off t).1 512 rfl (k0_off1_inb _)
  have tv0 := ldKV m c t 0 _ 128 (off t).2.1 640 rfl (k0_off2_inb _)
  have ts0 := fun g => ldS m c t 0 g 0 rfl (by decide)
  have tl0 := fun g => ldL m c t 0 g 0 rfl (by decide)
  canon_tiles x h
  · refine piece m c t 1 3 ?_ ?_ ?_ ?_ ?_ y _ (by blk_simp [idx t]) (by blk_simp [idx t]) x h0 h1 (fun i d => (Tile.pay5 _ _ _ _ _ _ _ _).trans (Tile.pay1 _ _ _ _ _ _ _ _))
    exacts [tq1 3, fun j d => (Tile.pay18 j d _).trans (tk1 j d), fun j d => (Tile.pay19 j d _).trans (tv1 j d),
      fun i => (Tile.pay20 _ _).trans (ts1 3 i), fun i => (Tile.pay21 _ _).trans (tl1 3 i)]
  · refine piece m c t 1 2 ?_ ?_ ?_ ?_ ?_ y _ (by blk_simp [idx t]) (by blk_simp [idx t]) x h0 h1 (fun i d => (Tile.pay4 _ _ _ _ _ _ _ _).trans (Tile.pay1 _ _ _ _ _ _ _ _))
    exacts [tq1 2, fun j d => (Tile.pay18 j d _).trans (tk1 j d), fun j d => (Tile.pay19 j d _).trans (tv1 j d),
      fun i => (Tile.pay20 _ _).trans (ts1 2 i), fun i => (Tile.pay21 _ _).trans (tl1 2 i)]
  · refine piece m c t 1 1 ?_ ?_ ?_ ?_ ?_ y _ (by blk_simp [idx t]) (by blk_simp [idx t]) x h0 h1 (fun i d => (Tile.pay3 _ _ _ _ _ _ _ _).trans (Tile.pay1 _ _ _ _ _ _ _ _))
    exacts [tq1 1, fun j d => (Tile.pay18 j d _).trans (tk1 j d), fun j d => (Tile.pay19 j d _).trans (tv1 j d),
      fun i => (Tile.pay20 _ _).trans (ts1 1 i), fun i => (Tile.pay21 _ _).trans (tl1 1 i)]
  · refine piece m c t 1 0 ?_ ?_ ?_ ?_ ?_ y _ (by blk_simp [idx t]) (by blk_simp [idx t]) x h0 h1 (fun i d => (Tile.pay2 _ _ _ _ _ _ _ _).trans (Tile.pay1 _ _ _ _ _ _ _ _))
    exacts [tq1 0, fun j d => (Tile.pay18 j d _).trans (tk1 j d), fun j d => (Tile.pay19 j d _).trans (tv1 j d),
      fun i => (Tile.pay20 _ _).trans (ts1 0 i), fun i => (Tile.pay21 _ _).trans (tl1 0 i)]
  · refine piece m c t 0 3 ?_ ?_ ?_ ?_ ?_ y _ (by blk_simp [idx t]) (by blk_simp [idx t]) x h0 h1 (fun i d => (Tile.pay16 _ _ _).trans (pay12 _ _ _ _ _ _ _ _))
    exacts [tq0 3, fun j d => (Tile.pay7 j d _).trans (tk0 j d), fun j d => (Tile.pay8 j d _).trans (tv0 j d),
      fun i => (Tile.pay9 _ _).trans (ts0 3 i), fun i => (Tile.pay10 _ _).trans (tl0 3 i)]
  · refine piece m c t 0 2 ?_ ?_ ?_ ?_ ?_ y _ (by blk_simp [idx t]) (by blk_simp [idx t]) x h0 h1 (fun i d => (Tile.pay15 _ _ _).trans (pay12 _ _ _ _ _ _ _ _))
    exacts [tq0 2, fun j d => (Tile.pay7 j d _).trans (tk0 j d), fun j d => (Tile.pay8 j d _).trans (tv0 j d),
      fun i => (Tile.pay9 _ _).trans (ts0 2 i), fun i => (Tile.pay10 _ _).trans (tl0 2 i)]
  · refine piece m c t 0 1 ?_ ?_ ?_ ?_ ?_ y _ (by blk_simp [idx t]) (by blk_simp [idx t]) x h0 h1 (fun i d => (Tile.pay14 _ _ _).trans (pay12 _ _ _ _ _ _ _ _))
    exacts [tq0 1, fun j d => (Tile.pay7 j d _).trans (tk0 j d), fun j d => (Tile.pay8 j d _).trans (tv0 j d),
      fun i => (Tile.pay9 _ _).trans (ts0 1 i), fun i => (Tile.pay10 _ _).trans (tl0 1 i)]
  · refine piece m c t 0 0 ?_ ?_ ?_ ?_ ?_ y _ (by blk_simp [idx t]) (by blk_simp [idx t]) x h0 (h1.trans (by simp)) (fun i d => (Tile.pay13 _ _ _ _ _ _ _ _ _).trans (pay12 _ _ _ _ _ _ _ _))
    exacts [tq0 0, fun j d => (Tile.pay7 j d _).trans (tk0 j d), fun j d => (Tile.pay8 j d _).trans (tv0 j d),
      fun i => (Tile.pay9 _ _).trans (ts0 0 i), fun i => (Tile.pay10 _ _).trans (tl0 0 i)]

end Cert.AttnFwdIdeal.Fwd

theorem Cert.AttnFwdIdeal.algebraic : Cert.algebraic_AttnFwdIdeal_AttnFwdRefIdeal := by
  pair_intro
  · run_from Cert.AttnFwdIdeal.Value.run_blocks m g
  · run_from Cert.AttnFwdRefIdeal.Named.run m' g'
    · exact (Cert.AttnFwdIdeal.Fwd.final4 m c).symm
-- ==== Proof.OutEFwdRefNamed.lean ====
module

public import proofs.«01_k».proof.Proof.Gen.OutEFwdRefIdeal.Run
public import proofs.«01_k».proof.Proof.Gen.OutEFwdRefIdeal.Read

@[expose] public section

noncomputable section

open Idealize.ShloMosaic Idealize.ShloMosaic.TcCoe Idealize.SL.Sem

namespace Cert.OutEFwdRefIdeal.Named
open Cert.OutEFwdRefIdeal Cert.OutEFwdRefIdeal.Gen Cert.OutEFwdRefIdeal.Value Cert.OutEFwdRefIdeal.Read

/-- The reference's run, each result stated by the named stage that computes it. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v38) = val_main_v38 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = (m ((c.tc : Thread nD τ).loc main_arg0))
      ∧ r.2.mem ((c.tc : Thread nD τ).loc main_arg1) = (m ((c.tc : Thread nD τ).loc main_arg1))
      ∧ r.2.mem ((c.tc : Thread nD τ).loc main_arg2) = (m ((c.tc : Thread nD τ).loc main_arg2))
      ∧ r.2.mem ((c.tc : Thread nD τ).loc main_arg3) = (m ((c.tc : Thread nD τ).loc main_arg3))
      ∧ r.2.mem ((c.tc : Thread nD τ).loc main_arg4) = (m ((c.tc : Thread nD τ).loc main_arg4))
      ∧ r.2.mem ((c.tc : Thread nD τ).loc main_arg5) = (m ((c.tc : Thread nD τ).loc main_arg5))
      ∧ r.2.mem ((c.tc : Thread nD τ).loc main_arg6) = (m ((c.tc : Thread nD τ).loc main_arg6))
      ∧ r.2.mem ((c.tc : Thread nD τ).loc main_arg7) = (m ((c.tc : Thread nD τ).loc main_arg7)) :=
  (θ_run defs _ _).mono (fun _ h c => ⟨(h c).1.trans (val_main_v38_eq (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))), (h c).2⟩) (Cert.OutEFwdRefIdeal.Value.run m ρ)

end Cert.OutEFwdRefIdeal.Named
-- ==== Proof.TileRows.lean ====
module

public import Idealize.ShloMosaic.Lib.Claim
public import Idealize.ShloMosaic.Lib.Pointwise

/-! Tiles of whole rows: a tile that holds, row by row, the rows of a result holds the result at every index of its block. -/

@[expose] public section

noncomputable section

open Idealize.ShloMosaic Idealize.ShloMosaic.TcCoe

namespace Cert.TileRows

theorem at_row {T : Type} {p q n : ℕ} {ρ : T → Fin p → Fin q} {f : T → (⟨2, ![p, n]⟩ : Shape).Idx → EReal} {R : (⟨2, ![q, n]⟩ : Shape).Idx → EReal}
    (H : ∀ t a e, f t (ix2 a e) = R (ix2 (ρ t a) e)) (t : T) (y : (⟨2, ![p, n]⟩ : Shape).Idx) (i : (⟨2, ![q, n]⟩ : Shape).Idx)
    (h0 : (i 0 : ℕ) = ρ t (y 0)) (h1 : (i 1 : ℕ) = y 1) : f t y = R i := by
  have hi : i = ix2 (ρ t (y 0)) (y 1) := (eq_ix2 i).trans (congrArg₂ ix2 (Fin.ext h0) (Fin.ext h1))
  rw [hi]
  exact (congrArg _ (eq_ix2 y)).trans (H t (y 0) (y 1))

end Cert.TileRows
-- ==== Proof.OutEFwdValue.lean ====
module

public import proofs.«01_k».proof.Defs
public import proofs.«01_k».proof.Proof.Gen.OutEFwdIdeal.Value
public import Idealize.ShloMosaic.Lib.Claim
public import proofs.«01_k».proof.Proof.OutEValue
public import proofs.«01_k».proof.Proof.Gen.OutEFwdRefIdeal.Run
public import proofs.«01_k».proof.Proof.OutEFwdRefNamed
public import proofs.«01_k».proof.Proof.TileRows
public import Idealize.ShloMosaic.Lib.Pipeline.ValueKit
public import Idealize.ShloMosaic.Lib.Pointwise

/-! The even layers' mixing, forward: the mixed rows, as the gradient of the mixing states them, times the output weight, over the layer's input. -/

@[expose] public section

set_option maxRecDepth 16384

noncomputable section

open Idealize.ShloMosaic Idealize.ShloMosaic.TcCoe Idealize.SL.Sem
open Idealize.ShloMosaic.Pipeline (Dat)

namespace Cert.OutEFwdIdeal.Mix
open Cert.OutEFwdIdeal Cert.OutEFwdIdeal.Gen Cert.OutRows
open Cert.OutEFwdRefIdeal.Read

section Host
variable {F : FTy → Type} [FloatOps F]
variable (m : (ℓ : Loc nD τ sig) → Buf (Elt F) ℓ) (c : Dev nD)
theorem V_p : V m c main_v11 = Cert.OutEIdeal.Mix.pcols (m ((c : Thread nD τ).loc main_arg4)) := by
  unfold V
  after_results
  rfl
theorem V_g : V m c main_v12 = shapeCast S1x512 (m ((c : Thread nD τ).loc main_arg5)) shapeCasts_S512_S1x512 := by
  unfold V
  after_results
  rfl
theorem V_w : V m c main_v13 = truncf .bf16 (m ((c : Thread nD τ).loc main_arg6)) bitsLt_bf16_f32 := by
  unfold V
  after_results
end Host

variable (m : (ℓ : Loc nD τ sig) → Buf (Elt Ideal) ℓ) (c : Dev nD)

section Ref
variable (x0 x1 x2 x3 : Vec Ideal S4096x512 .f32) (x4 : Vec Ideal S4096x4864 .f32) (x5 : Vec Ideal S512 .f32)
  (x6 : Vec Ideal S1536x1024 .f32) (x7 : Vec Ideal S4096x1024 .f32)
/-- The reference's mixed rows are those of the gradient's reference. -/
theorem mixed_same : val_main_v36 (F := Ideal) x0 x1 x2 x3 x4 x5 = Cert.OutERefIdeal.Read.val_main_v39 (F := Ideal) x0 x1 x2 x3 x4 x5 := rfl
theorem out_at (r : Fin 4096) (e : Fin 1024) : val_main_v38 (F := Ideal) x0 x1 x2 x3 x4 x5 x6 x7 (ix2 r e)
    = x7 (ix2 r e) + ∑ i : Fin 1536, Cert.OutERefIdeal.Read.val_main_v39 (F := Ideal) x0 x1 x2 x3 x4 x5 (ix2 r i) * x6 (ix2 i e) := by
  pointwise [val_main_v38, val_main_v37]
  rw [mixed_same]
end Ref

/-- The layer's output. -/
abbrev out := val_main_v38 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))

/-- The block of each window at a point. -/
theorem idx : ∀ t : Fin cfg0.N, win0_0.index t = ![t.val, 0] ∧ win0_1.index t = ![t.val, 0] ∧ win0_2.index t = ![t.val, 0] ∧ win0_3.index t = ![t.val, 0]
    ∧ win0_4.index t = ![t.val, 1] ∧ win0_5.index t = ![t.val, 6] ∧ win0_6.index t = ![t.val, 8] ∧ win0_7.index t = ![0, 0]
    ∧ win0_8.index t = ![0, 0] ∧ win0_9.index t = ![t.val, 0] ∧ win0_10.index t = ![t.val, 0] :=
  (by decide +kernel : ∀ t : Fin grid0.N, _)

/-- Row `a` of the tile of point `t`. -/
def row (t : Fin cfg0.N) (a : Fin 512) : Fin 4096 := ⟨t.val * 512 + a.val, by have := lt_of_lt_of_eq t.isLt N_0; have := a.isLt; omega⟩

variable (t : Fin cfg0.N) (a : Fin 512) (e : Fin 512)
theorem gateAttn_eq : k0_pay2 (F := Ideal) (X0_4 m c t) (ix2 a e) = Cert.OutEIdeal.Ref.za (m ((c : Thread nD τ).loc main_arg4)) (row t a) e := by
  rw [← Cert.OutEIdeal.Mix.attn, ← V_p]
  pointwise [k0_pay2]
  unfold X0_4 Pipeline.Window.fill
  rw [dif_pos (moved0_4 t _)]
  blk_ext [iblk, idx t, row]
theorem gate_eq : k0_pay3 (F := Ideal) (X0_5 m c t) (ix2 a e) = Cert.OutEIdeal.Ref.z (m ((c : Thread nD τ).loc main_arg4)) (row t a) e := by
  rw [← Cert.OutEIdeal.Mix.scans, ← V_p]
  pointwise [k0_pay3]
  unfold X0_5 Pipeline.Window.fill
  rw [dif_pos (moved0_5 t _)]
  blk_ext [iblk, idx t, row]
theorem gateMem_eq : k0_pay4 (F := Ideal) (X0_6 m c t) (ix2 a e) = Cert.OutEIdeal.Ref.zm (m ((c : Thread nD τ).loc main_arg4)) (row t a) e := by
  rw [← Cert.OutEIdeal.Mix.memo, ← V_p]
  pointwise [k0_pay4]
  unfold X0_6 Pipeline.Window.fill
  rw [dif_pos (moved0_6 t _)]
  blk_ext [iblk, idx t, row]
theorem g_eq : iblk m c 7 t (ix2 0 e : S1x512.Idx) = (m ((c : Thread nD τ).loc main_arg5)) (ix1 e) := by
  have h2 : shapeCast S1x512 (m ((c : Thread nD τ).loc main_arg5)) shapeCasts_S512_S1x512 (ix2 0 e) = (m ((c : Thread nD τ).loc main_arg5)) (ix1 e) := by
    pointwise
  rw [← h2, ← V_g]
  blk_ext [iblk, idx t]
theorem w_eq (i : Fin 1536) (e : Fin 1024) : iblk m c 8 t (ix2 i e : S1536x1024.Idx) = (m ((c : Thread nD τ).loc main_arg6)) (ix2 i e) := by
  have h2 : truncf (F := Ideal) .bf16 (m ((c : Thread nD τ).loc main_arg6)) bitsLt_bf16_f32 (ix2 i e) = (m ((c : Thread nD τ).loc main_arg6)) (ix2 i e) := by
    pointwise
  rw [← h2, ← V_w]
  blk_ext [iblk, idx t]
theorem x_eq (e : Fin 1024) : iblk m c 9 t (ix2 a e : S512x1024.Idx) = (m ((c : Thread nD τ).loc main_arg7)) (ix2 (row t a) e) := by
  rw [← V_main_arg7 m c]
  blk_ext [iblk, idx t, row]
theorem mem_eq : iblk m c 3 t (ix2 a e : S512x512.Idx) = (m ((c : Thread nD τ).loc main_arg3)) (ix2 (row t a) e) := by
  rw [← V_main_arg3 m c]
  blk_ext [iblk, idx t, row]
theorem attn_eq : iblk m c 0 t (ix2 a e : S512x512.Idx) = (m ((c : Thread nD τ).loc main_arg0)) (ix2 (row t a) e) := by
  rw [← V_main_arg0 m c]
  blk_ext [iblk, idx t, row]
theorem X_eq (h : Fin 4) : Cert.OutEIdeal.Tile.X (iblk m c 1 t) (iblk m c 2 t) h a = Cert.OutEIdeal.Ref.X (m ((c : Thread nD τ).loc main_arg1)) (m ((c : Thread nD τ).loc main_arg2)) h (row t a) := by
  funext k
  unfold Cert.OutEIdeal.Tile.X Cert.OutEIdeal.Ref.X
  blk_point [iblk, V_main_arg1, V_main_arg2, idx t, row]

/-- The tile of the group norm's results. -/
abbrev nm : Vec Ideal S512x512 .f32 :=
  k0_pay15 (k0_pay7 (iblk m c 1 t) (iblk m c 2 t)) (k0_pay8 (iblk m c 1 t) (iblk m c 2 t)) (k0_pay9 (iblk m c 1 t) (iblk m c 2 t))
    (k0_pay10 (iblk m c 7 t)) (k0_pay11 (iblk m c 7 t)) (k0_pay12 (iblk m c 7 t)) (k0_pay13 (iblk m c 1 t) (iblk m c 2 t) (iblk m c 7 t))
    (k0_pay14 (iblk m c 1 t) (iblk m c 2 t))
theorem nm_same : nm m c t = Cert.OutEIdeal.Tile.norms (iblk m c 1 t) (iblk m c 2 t) (iblk m c 7 t) := rfl
theorem nm_eq : nm m c t (ix2 a e) = Cert.OutERefIdeal.Read.val_main_v34 (F := Ideal) (m ((c : Thread nD τ).loc main_arg1)) (m ((c : Thread nD τ).loc main_arg2)) (m ((c : Thread nD τ).loc main_arg5)) (ix2 (row t a) e) := by
  have h := Cert.OutEIdeal.Tile.norms_eq (iblk m c 1 t) (iblk m c 2 t) (iblk m c 7 t) (Cert.OutEIdeal.Ref.hd e) a (Cert.OutEIdeal.Ref.pl e)
  rw [Cert.OutEIdeal.Ref.col_hd_pl, X_eq] at h
  rw [nm_same]
  exact h.trans ((congrArg (_ * ·) (g_eq m c t e)).trans (Cert.OutEIdeal.Ref.v34 (m ((c : Thread nD τ).loc main_arg1)) (m ((c : Thread nD τ).loc main_arg2)) (m ((c : Thread nD τ).loc main_arg5)) (row t a) e).symm)

theorem point (e : Fin 1024) : k0_pay1 (F := Ideal) (iblk m c 3 t) (k0_pay3 (X0_5 m c t)) (k0_pay4 (X0_6 m c t)) (nm m c t) (k0_pay16 (iblk m c 0 t) (k0_pay2 (X0_4 m c t)))
      (k0_pay17 (k0_pay3 (X0_5 m c t))) k0_pay18 (iblk m c 9 t) (iblk m c 8 t) (ix2 a e) = out m c (ix2 (row t a) e) := by
  refine Eq.trans ?_ (out_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (row t a) e).symm
  pointwise [k0_pay1]
  refine congrArg₂ (· + ·) (x_eq m c t a e) (Finset.sum_congr rfl fun i _ => congrArg₂ (· * ·) ?_ (w_eq m c t i e))
  refine Eq.trans ?_ (Cert.OutEIdeal.Ref.v39 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (row t a) i).symm
  by_cases h : i.val < 512
  · simp (disch := first | omega | rfl) only [dif_pos, dif_neg]
    pointwise [k0_pay16]
    simp only [gateAttn_eq, attn_eq, zero_sub]
    rfl
  · by_cases h' : i.val < 1024
    · simp (disch := first | omega | rfl) only [dif_pos, dif_neg]
      pointwise [k0_pay17, k0_pay18]
      simp only [gate_eq, nm_eq, zero_sub]
      rfl
    · have e : (⟨i.val - 512 - 512, by have := i.isLt; omega⟩ : Fin 512) = ⟨i.val - 1024, by have := i.isLt; omega⟩ := Fin.ext (by dsimp only; omega)
      simp (disch := first | omega | rfl) only [dif_pos, dif_neg]
      pointwise
      simp only [gateMem_eq, mem_eq, zero_sub, e]
      rfl

theorem final : (dats m 0 c).arrAt 10 cfg0.N = out m c := by
  refine (dats m 0 c).arrAt_eq_of_covers 10 _ (by decide +kernel) fun t _ y => ?_
  blk_simp
  rw [after0_10]
  unfold outsAt0
  frame_out
  refine TileRows.at_row (ρ := row) (point m c) t y _ ?_ ?_
  all_goals (blk_simp [idx t, row] <;> try omega)

end Cert.OutEFwdIdeal.Mix

theorem Cert.OutEFwdIdeal.algebraic : Cert.algebraic_OutEFwdIdeal_OutEFwdRefIdeal := by
  pair_intro
  · run_from Cert.OutEFwdIdeal.Value.run_blocks m g
  · run_from Cert.OutEFwdRefIdeal.Named.run m' g'
    · exact (Cert.OutEFwdIdeal.Mix.final m c).symm
-- ==== Proof.OutOFwdRefNamed.lean ====
module

public import proofs.«01_k».proof.Proof.Gen.OutOFwdRefIdeal.Run
public import proofs.«01_k».proof.Proof.Gen.OutOFwdRefIdeal.Read

@[expose] public section

noncomputable section

open Idealize.ShloMosaic Idealize.ShloMosaic.TcCoe Idealize.SL.Sem

namespace Cert.OutOFwdRefIdeal.Named
open Cert.OutOFwdRefIdeal Cert.OutOFwdRefIdeal.Gen Cert.OutOFwdRefIdeal.Value Cert.OutOFwdRefIdeal.Read

/-- The reference's run, each result stated by the named stage that computes it. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v33) = val_main_v33 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = (m ((c.tc : Thread nD τ).loc main_arg0))
      ∧ r.2.mem ((c.tc : Thread nD τ).loc main_arg1) = (m ((c.tc : Thread nD τ).loc main_arg1))
      ∧ r.2.mem ((c.tc : Thread nD τ).loc main_arg2) = (m ((c.tc : Thread nD τ).loc main_arg2))
      ∧ r.2.mem ((c.tc : Thread nD τ).loc main_arg3) = (m ((c.tc : Thread nD τ).loc main_arg3))
      ∧ r.2.mem ((c.tc : Thread nD τ).loc main_arg4) = (m ((c.tc : Thread nD τ).loc main_arg4))
      ∧ r.2.mem ((c.tc : Thread nD τ).loc main_arg5) = (m ((c.tc : Thread nD τ).loc main_arg5))
      ∧ r.2.mem ((c.tc : Thread nD τ).loc main_arg6) = (m ((c.tc : Thread nD τ).loc main_arg6)) :=
  (θ_run defs _ _).mono (fun _ h c => ⟨(h c).1.trans (val_main_v33_eq (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))), (h c).2⟩) (Cert.OutOFwdRefIdeal.Value.run m ρ)

end Cert.OutOFwdRefIdeal.Named
-- ==== Proof.OutOFwdValue.lean ====
module

public import proofs.«01_k».proof.Defs
public import proofs.«01_k».proof.Proof.Gen.OutOFwdIdeal.Value
public import Idealize.ShloMosaic.Lib.Claim
public import proofs.«01_k».proof.Proof.OutOValue
public import proofs.«01_k».proof.Proof.Gen.OutOFwdRefIdeal.Run
public import proofs.«01_k».proof.Proof.OutOFwdRefNamed
public import proofs.«01_k».proof.Proof.TileRows
public import Idealize.ShloMosaic.Lib.Pipeline.ValueKit
public import Idealize.ShloMosaic.Lib.Pointwise

/-! The odd layers' mixing, forward: the mixed rows, as the gradient of the mixing states them, times the output weight, over the layer's input. -/

@[expose] public section

set_option maxRecDepth 16384

noncomputable section

open Idealize.ShloMosaic Idealize.ShloMosaic.TcCoe Idealize.SL.Sem
open Idealize.ShloMosaic.Pipeline (Dat)

namespace Cert.OutOFwdIdeal.Mix
open Cert.OutOFwdIdeal Cert.OutOFwdIdeal.Gen Cert.OutRows
open Cert.OutOFwdRefIdeal.Read

section Host
variable {F : FTy → Type} [FloatOps F]
variable (m : (ℓ : Loc nD τ sig) → Buf (Elt F) ℓ) (c : Dev nD)
theorem V_p : V m c main_v8 = Cert.OutOIdeal.Mix.pcols (m ((c : Thread nD τ).loc main_arg3)) := by
  unfold V
  after_results
  rfl
theorem V_g : V m c main_v9 = shapeCast S1x1024 (m ((c : Thread nD τ).loc main_arg4)) shapeCasts_S1024_S1x1024 := by
  unfold V
  after_results
  rfl
theorem V_w : V m c main_v10 = truncf .bf16 (m ((c : Thread nD τ).loc main_arg5)) bitsLt_bf16_f32 := by
  unfold V
  after_results
end Host

variable (m : (ℓ : Loc nD τ sig) → Buf (Elt Ideal) ℓ) (c : Dev nD)

section Ref
variable (x0 x1 : Vec Ideal S4096x1024 .f32) (x2 : Vec Ideal S4096x512 .f32) (x3 : Vec Ideal S4096x4128 .f32) (x4 : Vec Ideal S1024 .f32)
  (x5 : Vec Ideal S1536x1024 .f32) (x6 : Vec Ideal S4096x1024 .f32)
/-- The reference's mixed rows are those of the gradient's reference. -/
theorem mixed_same : val_main_v31 (F := Ideal) x0 x1 x2 x3 x4 = Cert.OutORefIdeal.Read.val_main_v34 (F := Ideal) x0 x1 x2 x3 x4 := rfl
theorem out_at (r : Fin 4096) (e : Fin 1024) : val_main_v33 (F := Ideal) x0 x1 x2 x3 x4 x5 x6 (ix2 r e)
    = x6 (ix2 r e) + ∑ i : Fin 1536, Cert.OutORefIdeal.Read.val_main_v34 (F := Ideal) x0 x1 x2 x3 x4 (ix2 r i) * x5 (ix2 i e) := by
  pointwise [val_main_v33, val_main_v32]
  rw [mixed_same]
end Ref

/-- The mixed rows. -/
abbrev mixed := Cert.OutORefIdeal.Read.val_main_v34 (F := Ideal) (m ((c : Thread nD τ).loc main_arg0)) (m ((c : Thread nD τ).loc main_arg1)) (m ((c : Thread nD τ).loc main_arg2)) (m ((c : Thread nD τ).loc main_arg3)) (m ((c : Thread nD τ).loc main_arg4))
/-- The layer's output. -/
abbrev out := val_main_v33 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))

/-- The block of each window at a point. -/
theorem idx : ∀ t : Fin cfg0.N, win0_0.index t = ![t.val, 0] ∧ win0_1.index t = ![t.val, 0] ∧ win0_2.index t = ![t.val, 0]
    ∧ win0_3.index t = ![t.val, 2] ∧ win0_4.index t = ![t.val, 7] ∧ win0_5.index t = ![0, 0] ∧ win0_6.index t = ![0, 0]
    ∧ win0_7.index t = ![t.val, 0] ∧ win0_8.index t = ![t.val, 0] :=
  (by decide +kernel : ∀ t : Fin grid0.N, _)

/-- Row `a` of the tile of point `t`. -/
def row (t : Fin cfg0.N) (a : Fin 512) : Fin 4096 := ⟨t.val * 512 + a.val, by have := lt_of_lt_of_eq t.isLt N_0; have := a.isLt; omega⟩

variable (t : Fin cfg0.N) (a : Fin 512) (e : Fin 1024)
theorem gate_eq : k0_pay2 (F := Ideal) (X0_3 m c t) (ix2 a e) = Cert.OutOIdeal.Ref.z (m ((c : Thread nD τ).loc main_arg3)) (row t a) e := by
  rw [← Cert.OutOIdeal.Mix.scans, ← V_p]
  pointwise [k0_pay2]
  unfold X0_3 Pipeline.Window.fill
  rw [dif_pos (moved0_3 t _)]
  blk_ext [iblk, idx t, row]
theorem gateMem_eq (e : Fin 512) : k0_pay3 (F := Ideal) (X0_4 m c t) (ix2 a e) = Cert.OutOIdeal.Ref.zm (m ((c : Thread nD τ).loc main_arg3)) (row t a) e := by
  rw [← Cert.OutOIdeal.Mix.memo, ← V_p]
  pointwise [k0_pay3]
  unfold X0_4 Pipeline.Window.fill
  rw [dif_pos (moved0_4 t _)]
  blk_ext [iblk, idx t, row]
theorem g_eq : iblk m c 5 t (ix2 0 e : S1x1024.Idx) = (m ((c : Thread nD τ).loc main_arg4)) (ix1 e) := by
  have h2 : shapeCast S1x1024 (m ((c : Thread nD τ).loc main_arg4)) shapeCasts_S1024_S1x1024 (ix2 0 e) = (m ((c : Thread nD τ).loc main_arg4)) (ix1 e) := by
    pointwise
  rw [← h2, ← V_g]
  blk_ext [iblk, idx t]
theorem w_eq (i : Fin 1536) : iblk m c 6 t (ix2 i e : S1536x1024.Idx) = (m ((c : Thread nD τ).loc main_arg5)) (ix2 i e) := by
  have h2 : truncf (F := Ideal) .bf16 (m ((c : Thread nD τ).loc main_arg5)) bitsLt_bf16_f32 (ix2 i e) = (m ((c : Thread nD τ).loc main_arg5)) (ix2 i e) := by
    pointwise
  rw [← h2, ← V_w]
  blk_ext [iblk, idx t]
theorem x_eq : iblk m c 7 t (ix2 a e : S512x1024.Idx) = (m ((c : Thread nD τ).loc main_arg6)) (ix2 (row t a) e) := by
  rw [← V_main_arg6 m c]
  blk_ext [iblk, idx t, row]
theorem mem_eq (e : Fin 512) : iblk m c 2 t (ix2 a e : S512x512.Idx) = (m ((c : Thread nD τ).loc main_arg2)) (ix2 (row t a) e) := by
  rw [← V_main_arg2 m c]
  blk_ext [iblk, idx t, row]
theorem X_eq (h : Fin 4) : Cert.OutOIdeal.Tile.X (iblk m c 0 t) (iblk m c 1 t) h a = Cert.OutOIdeal.Ref.X (m ((c : Thread nD τ).loc main_arg0)) (m ((c : Thread nD τ).loc main_arg1)) h (row t a) := by
  funext k
  unfold Cert.OutOIdeal.Tile.X Cert.OutOIdeal.Ref.X
  blk_point [iblk, V_main_arg0, V_main_arg1, idx t, row]

/-- The tile of the mixed rows. -/
abbrev mixTile : Vec Ideal S512x1536 .f32 :=
  k0_pay13 (iblk m c 2 t) (k0_pay2 (X0_3 m c t)) (k0_pay3 (X0_4 m c t)) (k0_pay6 (iblk m c 0 t) (iblk m c 1 t)) (k0_pay7 (iblk m c 0 t) (iblk m c 1 t))
    (k0_pay8 (iblk m c 5 t)) (k0_pay9 (iblk m c 5 t)) (k0_pay10 (iblk m c 0 t) (iblk m c 1 t) (iblk m c 5 t)) (k0_pay11 (iblk m c 0 t) (iblk m c 1 t))
    (k0_pay12 (iblk m c 5 t))
/-- The tile of the group norm's results. -/
abbrev nm : Vec Ideal S512x1024 .f32 := Cert.OutOIdeal.Tile.norms (iblk m c 0 t) (iblk m c 1 t) (iblk m c 5 t)
theorem nm_eq : nm m c t (ix2 a e) = Cert.OutORefIdeal.Read.val_main_v29 (F := Ideal) (m ((c : Thread nD τ).loc main_arg0)) (m ((c : Thread nD τ).loc main_arg1)) (m ((c : Thread nD τ).loc main_arg4)) (ix2 (row t a) e) := by
  have h := Cert.OutOIdeal.Tile.norms_eq (iblk m c 0 t) (iblk m c 1 t) (iblk m c 5 t) (Cert.OutOIdeal.Ref.hd e) a (Cert.OutOIdeal.Ref.pl e)
  rw [Cert.OutOIdeal.Ref.col_hd_pl, X_eq] at h
  exact h.trans ((congrArg (_ * ·) (g_eq m c t e)).trans (Cert.OutOIdeal.Ref.v29 (m ((c : Thread nD τ).loc main_arg0)) (m ((c : Thread nD τ).loc main_arg1)) (m ((c : Thread nD τ).loc main_arg4)) (row t a) e).symm)
/-- It is the tile that the gradient's kernel multiplies. -/
theorem mixTile_same : mixTile m c t = Cert.OutOIdeal.Gen.k0_pay45 (F := Ideal) (iblk m c 2 t) (k0_pay2 (X0_3 m c t)) (k0_pay3 (X0_4 m c t)) (nm m c t) (Cert.OutOIdeal.Gen.k0_pay39 (k0_pay2 (X0_3 m c t))) := rfl
theorem mixed_eq (i : Fin 1536) : mixTile m c t (ix2 a i) = mixed m c (ix2 (row t a) i) := by
  rw [mixTile_same]
  refine Eq.trans ?_ (Cert.OutOIdeal.Ref.v34 (m ((c : Thread nD τ).loc main_arg0)) (m ((c : Thread nD τ).loc main_arg1)) (m ((c : Thread nD τ).loc main_arg2)) (m ((c : Thread nD τ).loc main_arg3)) (m ((c : Thread nD τ).loc main_arg4)) (row t a) i).symm
  split_ifs with h
  · pointwise [Cert.OutOIdeal.Gen.k0_pay45]
    simp (disch := omega) only [dif_pos]
    pointwise [Cert.OutOIdeal.Gen.k0_pay40, Cert.OutOIdeal.Gen.k0_pay39, Cert.OutOIdeal.Gen.k0_pay38, Cert.OutOIdeal.Gen.k0_pay37]
    simp only [gate_eq, nm_eq, zero_sub]
    rfl
  · pointwise [Cert.OutOIdeal.Gen.k0_pay45]
    simp (disch := omega) only [dif_neg]
    pointwise [Cert.OutOIdeal.Gen.k0_pay44, Cert.OutOIdeal.Gen.k0_pay43, Cert.OutOIdeal.Gen.k0_pay42, Cert.OutOIdeal.Gen.k0_pay41]
    simp only [gateMem_eq, mem_eq, zero_sub]
    rfl

theorem point : k0_pay1 (F := Ideal) (mixTile m c t) (iblk m c 7 t) (iblk m c 6 t) (ix2 a e) = out m c (ix2 (row t a) e) := by
  refine Eq.trans ?_ (out_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (row t a) e).symm
  pointwise [k0_pay1]
  exact congrArg₂ (· + ·) (x_eq m c t a e) (Finset.sum_congr rfl fun i _ => congrArg₂ (· * ·) (mixed_eq m c t a i) (w_eq m c t e i))

theorem final : (dats m 0 c).arrAt 8 cfg0.N = out m c := by
  refine (dats m 0 c).arrAt_eq_of_covers 8 _ (by decide +kernel) fun t _ y => ?_
  blk_simp
  rw [after0_8]
  unfold outsAt0
  frame_out
  refine TileRows.at_row (ρ := row) (point m c) t y _ ?_ ?_
  all_goals (blk_simp [idx t, row] <;> try omega)

end Cert.OutOFwdIdeal.Mix

theorem Cert.OutOFwdIdeal.algebraic : Cert.algebraic_OutOFwdIdeal_OutOFwdRefIdeal := by
  pair_intro
  · run_from Cert.OutOFwdIdeal.Value.run_blocks m g
  · run_from Cert.OutOFwdRefIdeal.Named.run m' g'
    · exact (Cert.OutOFwdIdeal.Mix.final m c).symm
-- ==== Proof.InEFwdRefNamed.lean ====
module

public import proofs.«01_k».proof.Proof.Gen.InEFwdRefIdeal.Run
public import proofs.«01_k».proof.Proof.Gen.InEFwdRefIdeal.Read

@[expose] public section

noncomputable section

open Idealize.ShloMosaic Idealize.ShloMosaic.TcCoe Idealize.SL.Sem

namespace Cert.InEFwdRefIdeal.Named
open Cert.InEFwdRefIdeal Cert.InEFwdRefIdeal.Gen Cert.InEFwdRefIdeal.Value Cert.InEFwdRefIdeal.Read

/-- The reference's run, each result stated by the named stage that computes it. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v25) = val_main_v25 (F := Ideal) (m ((c.tc : Thread nD τ).loc main_arg0)) (m ((c.tc : Thread nD τ).loc main_arg1))
      ∧ r.2.mem ((c.tc : Thread nD τ).loc main_v26) = val_main_v26 (F := Ideal) (m ((c.tc : Thread nD τ).loc main_arg0)) (m ((c.tc : Thread nD τ).loc main_arg1)) (m ((c.tc : Thread nD τ).loc main_arg2))
      ∧ r.2.mem ((c.tc : Thread nD τ).loc main_arg0) = (m ((c.tc : Thread nD τ).loc main_arg0))
      ∧ r.2.mem ((c.tc : Thread nD τ).loc main_arg1) = (m ((c.tc : Thread nD τ).loc main_arg1))
      ∧ r.2.mem ((c.tc : Thread nD τ).loc main_arg2) = (m ((c.tc : Thread nD τ).loc main_arg2)) :=
  (θ_run defs _ _).mono (fun _ h c => ⟨(h c).1.trans (val_main_v25_eq (F := Ideal) (m ((c.tc : Thread nD τ).loc main_arg0)) (m ((c.tc : Thread nD τ).loc main_arg1))), (h c).2.1.trans (val_main_v26_eq (F := Ideal) m c), (h c).2.2⟩) (Cert.InEFwdRefIdeal.Value.run m ρ)

end Cert.InEFwdRefIdeal.Named
-- ==== Proof.InEFwdValue.lean ====
module

public import proofs.«01_k».proof.Defs
public import proofs.«01_k».proof.Proof.Gen.InEFwdIdeal.Value
public import Idealize.ShloMosaic.Lib.Claim
public import proofs.«01_k».proof.Proof.OutRows
public import proofs.«01_k».proof.Proof.InECols
public import proofs.«01_k».proof.Proof.Gen.InEFwdRefIdeal.Run
public import proofs.«01_k».proof.Proof.InEFwdRefNamed
public import proofs.«01_k».proof.Proof.TileRows
public import Idealize.ShloMosaic.Lib.Pipeline.ValueKit
public import Idealize.ShloMosaic.Lib.Pointwise

/-! The even layers' norm and input projection: the normalised rows, and their products with the weight's columns in the kernel's order. -/

@[expose] public section

set_option maxRecDepth 16384

noncomputable section

open Idealize.ShloMosaic Idealize.ShloMosaic.TcCoe Idealize.SL.Sem
open Idealize.ShloMosaic.Pipeline (Dat)

namespace Cert.InEFwdIdeal.Project
open Cert.InEFwdIdeal Cert.InEFwdIdeal.Gen Cert.OutRows
open Cert.InEFwdRefIdeal.Read
open Cert.InEIdeal.Cols (col wcols wcols_apply)

section Host
variable {F : FTy → Type} [FloatOps F] (m : (ℓ : Loc nD τ sig) → Buf (Elt F) ℓ) (c : Dev nD)
theorem V_w : V m c main_v12 = wcols (m ((c : Thread nD τ).loc main_arg2)) := by
  unfold V
  after_results
  rfl
theorem V_g : V m c main_v13 = shapeCast S1x1024 (m ((c : Thread nD τ).loc main_arg1)) shapeCasts_S1024_S1x1024 := by
  unfold V
  after_results
  rfl
end Host

section Rows
variable (x0 : Vec Ideal S4096x1024 .f32) (x1 : Vec Ideal S1024 .f32) (x2 : Vec Ideal S1024x4864 .f32) (r : Fin 4096)
/-- The width of a row, 1024, as its word. -/
abbrev width : EReal := Ideal.ofBits .f32 0x44800000#32
/-- A row of the input. -/
abbrev xs : Fin 1024 → EReal := fun e => x0 (ix2 r e)
/-- The reference's normalised rows. -/
theorem v12 (e : Fin 1024) : val_main_v12 (F := Ideal) x0 x1 (ix2 r e) = normed (xs x0 r) width e * x1 (ix1 e) := by
  pointwise [val_main_v12, val_main_v11, val_main_v10, val_main_v9, val_main_v8, val_main_v7, val_main_v6, val_main_v5, val_main_v4, val_main_v3, val_main_v2, val_main_v1, val_main_v0, val_main_cst, val_main_cst_0, val_main_cst_1]
  rfl
/-- The reference's projections, column by column. -/
theorem laid_out (k : Fin 4864) : val_main_v26 (F := Ideal) x0 x1 x2 (ix2 r k) = ∑ e : Fin 1024, val_main_v12 (F := Ideal) x0 x1 (ix2 r e) * x2 (ix2 e (col k)) := by
  have h : val_main_v26 (F := Ideal) x0 x1 x2 (ix2 r k) = val_main_v13 (F := Ideal) x0 x1 x2 (ix2 r (col k)) := by
    pointwise [val_main_v26, val_main_v14, val_main_v15, val_main_v16, val_main_v17, val_main_v18, val_main_v19, val_main_v20, val_main_v21, val_main_v22, val_main_v23, val_main_v24]
    repeat' refine Cert.Consts.dite_eq_of (fun h => ?_) (fun h => ?_)
    all_goals exact congrArg (fun k => val_main_v13 (F := Ideal) x0 x1 x2 (ix2 r k)) (Fin.ext (by simp only [col]; split_ifs <;> omega))
  rw [h]
  pointwise [val_main_v13]
end Rows

variable (m : (ℓ : Loc nD τ sig) → Buf (Elt Ideal) ℓ) (c : Dev nD)
/-- The normalised rows, -/
abbrev rows := val_main_v12 (F := Ideal) (m ((c : Thread nD τ).loc main_arg0)) (m ((c : Thread nD τ).loc main_arg1))
/-- as the kernel saves them, -/
abbrev saved := val_main_v25 (F := Ideal) (m ((c : Thread nD τ).loc main_arg0)) (m ((c : Thread nD τ).loc main_arg1))
/-- and the projections. -/
abbrev out := val_main_v26 (F := Ideal) (m ((c : Thread nD τ).loc main_arg0)) (m ((c : Thread nD τ).loc main_arg1)) (m ((c : Thread nD τ).loc main_arg2))
theorem saved_at (r : Fin 4096) (e : Fin 1024) : saved m c (ix2 r e) = rows m c (ix2 r e) := by
  pointwise [val_main_v25]

theorem idx : ∀ t : Fin cfg0.N, win0_0.index t = ![t.val, 0] ∧ win0_1.index t = ![0, 0] ∧ win0_2.index t = ![0, 0]
    ∧ win0_3.index t = ![t.val, 0] ∧ win0_4.index t = ![t.val, 0] :=
  (by decide +kernel : ∀ t : Fin grid0.N, _)

/-- Row `a` of the tile of point `t`. -/
def row (t : Fin cfg0.N) (a : Fin 512) : Fin 4096 := ⟨t.val * 512 + a.val, by have := lt_of_lt_of_eq t.isLt N_0; have := a.isLt; omega⟩

variable (t : Fin cfg0.N) (a : Fin 512)
theorem x_eq (e : Fin 1024) : iblk m c 0 t (ix2 a e : S512x1024.Idx) = (m ((c : Thread nD τ).loc main_arg0)) (ix2 (row t a) e) := by
  rw [← V_main_arg0 m c]
  blk_ext [iblk, idx t, row]
theorem g_eq (e : Fin 1024) : iblk m c 1 t (ix2 0 e : S1x1024.Idx) = (m ((c : Thread nD τ).loc main_arg1)) (ix1 e) := by
  have h2 : shapeCast S1x1024 (m ((c : Thread nD τ).loc main_arg1)) shapeCasts_S1024_S1x1024 (ix2 0 e) = (m ((c : Thread nD τ).loc main_arg1)) (ix1 e) := by
    pointwise
  rw [← h2, ← V_g]
  blk_ext [iblk, idx t]
theorem w_eq (e : Fin 1024) (k : Fin 4864) : iblk m c 2 t (ix2 e k : S1024x4864.Idx) = (m ((c : Thread nD τ).loc main_arg2)) (ix2 e (col k)) := by
  rw [← wcols_apply (m ((c : Thread nD τ).loc main_arg2)) e k, ← V_w]
  blk_ext [iblk, idx t]

theorem rows_eq (e : Fin 1024) : k0_pay1 (F := Ideal) (iblk m c 0 t) (iblk m c 1 t) (ix2 a e) = rows m c (ix2 (row t a) e) := by
  refine Eq.trans ?_ (v12 (m ((c : Thread nD τ).loc main_arg0)) (m ((c : Thread nD τ).loc main_arg1)) (row t a) e).symm
  pointwise [k0_pay1]
  simp only [x_eq, g_eq]
  rfl
theorem out_eq (k : Fin 4864) : k0_pay2 (F := Ideal) (iblk m c 0 t) (iblk m c 1 t) (iblk m c 2 t) (ix2 a k) = out m c (ix2 (row t a) k) := by
  refine Eq.trans ?_ (laid_out (m ((c : Thread nD τ).loc main_arg0)) (m ((c : Thread nD τ).loc main_arg1)) (m ((c : Thread nD τ).loc main_arg2)) (row t a) k).symm
  pointwise [k0_pay2]
  exact Finset.sum_congr rfl fun e _ => congrArg₂ (· * ·) (rows_eq m c t a e) (w_eq m c t e k)

theorem final3 : (dats m 0 c).arrAt 3 cfg0.N = saved m c := by
  refine (dats m 0 c).arrAt_eq_of_covers 3 _ (by decide +kernel) fun t _ y => ?_
  blk_simp
  rw [after0_3]
  frame_out
  refine TileRows.at_row (ρ := row) (fun t a e => (rows_eq m c t a e).trans (saved_at m c _ _).symm) t y _ ?_ ?_
  all_goals (blk_simp [idx t, row] <;> try omega)
theorem final4 : (dats m 0 c).arrAt 4 cfg0.N = out m c := by
  refine (dats m 0 c).arrAt_eq_of_covers 4 _ (by decide +kernel) fun t _ y => ?_
  blk_simp
  rw [after0_4]
  frame_out
  refine TileRows.at_row (ρ := row) (out_eq m c) t y _ ?_ ?_
  all_goals (blk_simp [idx t, row] <;> try omega)

end Cert.InEFwdIdeal.Project

theorem Cert.InEFwdIdeal.algebraic : Cert.algebraic_InEFwdIdeal_InEFwdRefIdeal := by
  pair_intro
  · run_from Cert.InEFwdIdeal.Value.run_blocks m g
  · run_from Cert.InEFwdRefIdeal.Named.run m' g'
    · exact (Cert.InEFwdIdeal.Project.final3 m c).symm
    · exact (Cert.InEFwdIdeal.Project.final4 m c).symm
-- ==== Proof.InOFwdRefNamed.lean ====
module

public import proofs.«01_k».proof.Proof.Gen.InOFwdRefIdeal.Run
public import proofs.«01_k».proof.Proof.Gen.InOFwdRefIdeal.Read

@[expose] public section

noncomputable section

open Idealize.ShloMosaic Idealize.ShloMosaic.TcCoe Idealize.SL.Sem

namespace Cert.InOFwdRefIdeal.Named
open Cert.InOFwdRefIdeal Cert.InOFwdRefIdeal.Gen Cert.InOFwdRefIdeal.Value Cert.InOFwdRefIdeal.Read

/-- The reference's run, each result stated by the named stage that computes it. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v22) = val_main_v22 (F := Ideal) (m ((c.tc : Thread nD τ).loc main_arg0)) (m ((c.tc : Thread nD τ).loc main_arg1))
      ∧ r.2.mem ((c.tc : Thread nD τ).loc main_v24) = val_main_v24 (F := Ideal) (m ((c.tc : Thread nD τ).loc main_arg0)) (m ((c.tc : Thread nD τ).loc main_arg1)) (m ((c.tc : Thread nD τ).loc main_arg2))
      ∧ r.2.mem ((c.tc : Thread nD τ).loc main_arg0) = (m ((c.tc : Thread nD τ).loc main_arg0))
      ∧ r.2.mem ((c.tc : Thread nD τ).loc main_arg1) = (m ((c.tc : Thread nD τ).loc main_arg1))
      ∧ r.2.mem ((c.tc : Thread nD τ).loc main_arg2) = (m ((c.tc : Thread nD τ).loc main_arg2)) :=
  (θ_run defs _ _).mono (fun _ h c => ⟨(h c).1.trans (val_main_v22_eq (F := Ideal) (m ((c.tc : Thread nD τ).loc main_arg0)) (m ((c.tc : Thread nD τ).loc main_arg1))), (h c).2.1.trans (val_main_v24_eq (F := Ideal) m c), (h c).2.2⟩) (Cert.InOFwdRefIdeal.Value.run m ρ)

end Cert.InOFwdRefIdeal.Named
-- ==== Proof.InOFwdValue.lean ====
module

public import proofs.«01_k».proof.Defs
public import proofs.«01_k».proof.Proof.Gen.InOFwdIdeal.Value
public import Idealize.ShloMosaic.Lib.Claim
public import proofs.«01_k».proof.Proof.OutRows
public import proofs.«01_k».proof.Proof.InOCols
public import proofs.«01_k».proof.Proof.Gen.InOFwdRefIdeal.Run
public import proofs.«01_k».proof.Proof.InOFwdRefNamed
public import proofs.«01_k».proof.Proof.TileRows
public import Idealize.ShloMosaic.Lib.Pipeline.ValueKit
public import Idealize.ShloMosaic.Lib.Pointwise

/-! The odd layers' norm and input projection: the normalised rows, and their products with the weight's columns in the kernel's order. -/

@[expose] public section

set_option maxRecDepth 16384

noncomputable section

open Idealize.ShloMosaic Idealize.ShloMosaic.TcCoe Idealize.SL.Sem
open Idealize.ShloMosaic.Pipeline (Dat)

namespace Cert.InOFwdIdeal.Project
open Cert.InOFwdIdeal Cert.InOFwdIdeal.Gen Cert.OutRows
open Cert.InOFwdRefIdeal.Read
open Cert.InOIdeal.Cols (col col_val laid wcols wcols_apply)

section Host
variable {F : FTy → Type} [FloatOps F] (m : (ℓ : Loc nD τ sig) → Buf (Elt F) ℓ) (c : Dev nD)
theorem V_w : V m c main_v9 = wcols (m ((c : Thread nD τ).loc main_arg2)) := by
  unfold V
  after_results
  rfl
theorem V_g : V m c main_v10 = shapeCast S1x1024 (m ((c : Thread nD τ).loc main_arg1)) shapeCasts_S1024_S1x1024 := by
  unfold V
  after_results
  rfl
end Host

section Rows
variable (x0 : Vec Ideal S4096x1024 .f32) (x1 : Vec Ideal S1024 .f32) (x2 : Vec Ideal S1024x4128 .f32) (r : Fin 4096)
/-- The width of a row, 1024, as its word. -/
abbrev width : EReal := Ideal.ofBits .f32 0x44800000#32
/-- A row of the input. -/
abbrev xs : Fin 1024 → EReal := fun e => x0 (ix2 r e)
/-- The reference's normalised rows. -/
theorem v12 (e : Fin 1024) : val_main_v12 (F := Ideal) x0 x1 (ix2 r e) = normed (xs x0 r) width e * x1 (ix1 e) := by
  pointwise [val_main_v12, val_main_v11, val_main_v10, val_main_v9, val_main_v8, val_main_v7, val_main_v6, val_main_v5, val_main_v4, val_main_v3, val_main_v2, val_main_v1, val_main_v0, val_main_cst, val_main_cst_0, val_main_cst_1]
  rfl
/-- The reference's projections, column by column. -/
theorem laid_out (k : Fin 4224) : val_main_v24 (F := Ideal) x0 x1 x2 (ix2 r k)
    = laid (fun k => ∑ e : Fin 1024, val_main_v12 (F := Ideal) x0 x1 (ix2 r e) * x2 (ix2 e k)) k := by
  have hd : ∀ k, val_main_v13 (F := Ideal) x0 x1 x2 (ix2 r k) = ∑ e : Fin 1024, val_main_v12 (F := Ideal) x0 x1 (ix2 r e) * x2 (ix2 e k) := by
    intro k
    pointwise [val_main_v13]
  unfold laid
  by_cases h : k.val < 4128
  · rw [dif_pos h]
    refine Eq.trans ?_ (hd _)
    have hc := col_val ⟨k.val, h⟩
    dsimp only at hc
    pointwise [val_main_v24, val_main_v14, val_main_v15, val_main_v16, val_main_v17, val_main_v18, val_main_v19, val_main_v20, val_main_v21]
    repeat' refine Cert.Consts.dite_eq_of (fun h => ?_) (fun h => ?_)
    all_goals first | exact congrArg (fun k => val_main_v13 (F := Ideal) x0 x1 x2 (ix2 r k)) (Fin.ext (by dsimp only; omega)) | (exfalso; omega)
  · rw [dif_neg h]
    pointwise [val_main_v24, val_main_v23, val_main_cst_2]
    simp (disch := omega) only [dif_neg]
end Rows

variable (m : (ℓ : Loc nD τ sig) → Buf (Elt Ideal) ℓ) (c : Dev nD)
/-- The normalised rows, -/
abbrev rows := val_main_v12 (F := Ideal) (m ((c : Thread nD τ).loc main_arg0)) (m ((c : Thread nD τ).loc main_arg1))
/-- as the kernel saves them, -/
abbrev saved := val_main_v22 (F := Ideal) (m ((c : Thread nD τ).loc main_arg0)) (m ((c : Thread nD τ).loc main_arg1))
/-- and the projections. -/
abbrev out := val_main_v24 (F := Ideal) (m ((c : Thread nD τ).loc main_arg0)) (m ((c : Thread nD τ).loc main_arg1)) (m ((c : Thread nD τ).loc main_arg2))
theorem saved_at (r : Fin 4096) (e : Fin 1024) : saved m c (ix2 r e) = rows m c (ix2 r e) := by
  pointwise [val_main_v22]

theorem idx : ∀ t : Fin cfg0.N, win0_0.index t = ![t.val, 0] ∧ win0_1.index t = ![0, 0] ∧ win0_2.index t = ![0, 0]
    ∧ win0_3.index t = ![t.val, 0] ∧ win0_4.index t = ![t.val, 0] :=
  (by decide +kernel : ∀ t : Fin grid0.N, _)

/-- Row `a` of the tile of point `t`. -/
def row (t : Fin cfg0.N) (a : Fin 512) : Fin 4096 := ⟨t.val * 512 + a.val, by have := lt_of_lt_of_eq t.isLt N_0; have := a.isLt; omega⟩

variable (t : Fin cfg0.N) (a : Fin 512)
theorem x_eq (e : Fin 1024) : iblk m c 0 t (ix2 a e : S512x1024.Idx) = (m ((c : Thread nD τ).loc main_arg0)) (ix2 (row t a) e) := by
  rw [← V_main_arg0 m c]
  blk_ext [iblk, idx t, row]
theorem g_eq (e : Fin 1024) : iblk m c 1 t (ix2 0 e : S1x1024.Idx) = (m ((c : Thread nD τ).loc main_arg1)) (ix1 e) := by
  have h2 : shapeCast S1x1024 (m ((c : Thread nD τ).loc main_arg1)) shapeCasts_S1024_S1x1024 (ix2 0 e) = (m ((c : Thread nD τ).loc main_arg1)) (ix1 e) := by
    pointwise
  rw [← h2, ← V_g]
  blk_ext [iblk, idx t]
theorem w_eq (e : Fin 1024) (k : Fin 4224) : iblk m c 2 t (ix2 e k : S1024x4224.Idx) = laid (fun k => (m ((c : Thread nD τ).loc main_arg2)) (ix2 e k)) k := by
  rw [← wcols_apply (m ((c : Thread nD τ).loc main_arg2)) e k, ← V_w]
  blk_ext [iblk, idx t]

theorem rows_eq (e : Fin 1024) : k0_pay1 (F := Ideal) (iblk m c 0 t) (iblk m c 1 t) (ix2 a e) = rows m c (ix2 (row t a) e) := by
  refine Eq.trans ?_ (v12 (m ((c : Thread nD τ).loc main_arg0)) (m ((c : Thread nD τ).loc main_arg1)) (row t a) e).symm
  pointwise [k0_pay1]
  simp only [x_eq, g_eq]
  rfl
theorem out_eq (k : Fin 4224) : k0_pay2 (F := Ideal) (iblk m c 0 t) (iblk m c 1 t) (iblk m c 2 t) (ix2 a k) = out m c (ix2 (row t a) k) := by
  refine Eq.trans ?_ (laid_out (m ((c : Thread nD τ).loc main_arg0)) (m ((c : Thread nD τ).loc main_arg1)) (m ((c : Thread nD τ).loc main_arg2)) (row t a) k).symm
  pointwise [k0_pay2]
  refine (Finset.sum_congr rfl fun e _ => congrArg₂ (· * ·) (rows_eq m c t a e) (w_eq m c t e k)).trans ?_
  unfold laid
  split_ifs with h
  · rfl
  · simp only [mul_zero, Finset.sum_const_zero]

theorem final3 : (dats m 0 c).arrAt 3 cfg0.N = saved m c := by
  refine (dats m 0 c).arrAt_eq_of_covers 3 _ (by decide +kernel) fun t _ y => ?_
  blk_simp
  rw [after0_3]
  frame_out
  refine TileRows.at_row (ρ := row) (fun t a e => (rows_eq m c t a e).trans (saved_at m c _ _).symm) t y _ ?_ ?_
  all_goals (blk_simp [idx t, row] <;> try omega)
theorem final4 : (dats m 0 c).arrAt 4 cfg0.N = out m c := by
  refine (dats m 0 c).arrAt_eq_of_covers 4 _ (by decide +kernel) fun t _ y => ?_
  blk_simp
  rw [after0_4]
  frame_out
  refine TileRows.at_row (ρ := row) (out_eq m c) t y _ ?_ ?_
  all_goals (blk_simp [idx t, row] <;> try omega)

end Cert.InOFwdIdeal.Project

theorem Cert.InOFwdIdeal.algebraic : Cert.algebraic_InOFwdIdeal_InOFwdRefIdeal := by
  pair_intro
  · run_from Cert.InOFwdIdeal.Value.run_blocks m g
  · run_from Cert.InOFwdRefIdeal.Named.run m' g'
    · exact (Cert.InOFwdIdeal.Project.final3 m c).symm
    · exact (Cert.InOFwdIdeal.Project.final4 m c).symm
-- ==== Proof.MemRmsFwdValue.lean ====
module

public import proofs.«01_k».proof.Defs
public import proofs.«01_k».proof.Proof.Gen.MemRmsFwdIdeal.Value
public import Idealize.ShloMosaic.Lib.Claim
public import proofs.«01_k».proof.Proof.Gen.MemRmsFwdRefIdeal.Run
public import proofs.«01_k».proof.Proof.Gen.MemRmsFwdRefIdeal.Read
public import proofs.«01_k».proof.Proof.OutRows
public import proofs.«01_k».proof.Proof.TileRows
public import Idealize.ShloMosaic.Lib.Pipeline.ValueKit
public import Idealize.ShloMosaic.Lib.Pointwise

/-! The memory norm, forward: every row of the memory, normalised and scaled. -/

@[expose] public section

set_option maxRecDepth 16384

noncomputable section

open Idealize.ShloMosaic Idealize.ShloMosaic.TcCoe Idealize.SL.Sem
open Idealize.ShloMosaic.Pipeline (Dat)

namespace Cert.MemRmsFwdIdeal.Norm
open Cert.MemRmsFwdIdeal Cert.MemRmsFwdIdeal.Gen Cert.OutRows
open Cert.MemRmsFwdRefIdeal.Read

section Ref
variable (x0 : Vec Ideal S256x1024 .f32) (x1 : Vec Ideal S1024 .f32) (r : Fin 256) (e : Fin 1024)
/-- The width of a row, 1024, as its word. -/
abbrev width : EReal := Ideal.ofBits .f32 0x44800000#32
/-- The reference's normalised rows. -/
theorem v13 : val_main_v13 (F := Ideal) x0 x1 (ix2 r e) = normed (fun e => x0 (ix2 r e)) width e * x1 (ix1 e) := by
  pointwise [val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  rfl
end Ref

variable (m : (ℓ : Loc nD τ sig) → Buf (Elt Ideal) ℓ) (c : Dev nD)
/-- The normalised memory. -/
abbrev out := val_main_v13 (F := Ideal) (m ((c : Thread nD τ).loc main_arg0)) (m ((c : Thread nD τ).loc main_arg1))

/-- Every window's block index is zero: the one grid point sees whole arrays. -/
theorem idx : ∀ t : Fin cfg0.N, win0_0.index t = ![0, 0] ∧ win0_1.index t = ![0, 0] ∧ win0_2.index t = ![0, 0] :=
  (by decide +kernel : ∀ t : Fin grid0.N, _)

variable (t : Fin cfg0.N) (a : Fin 256) (e : Fin 1024)
theorem x_eq : iblk m c 0 t (ix2 a e : S256x1024.Idx) = (m ((c : Thread nD τ).loc main_arg0)) (ix2 a e) := by
  rw [← V_main_arg0 m c]
  blk_ext [iblk, idx t]
theorem g_eq : iblk m c 1 t (ix2 0 e : S1x1024.Idx) = (m ((c : Thread nD τ).loc main_arg1)) (ix1 e) := by
  have h : V m c main_v0 = shapeCast S1x1024 (m ((c : Thread nD τ).loc main_arg1)) shapeCasts_S1024_S1x1024 := by
    unfold V
    after_results
    rfl
  have h2 : shapeCast S1x1024 (m ((c : Thread nD τ).loc main_arg1)) shapeCasts_S1024_S1x1024 (ix2 0 e) = (m ((c : Thread nD τ).loc main_arg1)) (ix1 e) := by
    pointwise
  rw [← h2, ← h]
  blk_ext [iblk, idx t]
theorem point : k0_pay1 (F := Ideal) (iblk m c 0 t) (iblk m c 1 t) (ix2 a e) = out m c (ix2 a e) := by
  refine Eq.trans ?_ (v13 (m ((c : Thread nD τ).loc main_arg0)) (m ((c : Thread nD τ).loc main_arg1)) a e).symm
  pointwise [k0_pay1]
  simp only [x_eq, g_eq]
  rfl
theorem final : (dats m 0 c).arrAt 2 cfg0.N = out m c := by
  refine (dats m 0 c).arrAt_eq_of_covers 2 _ (by decide +kernel) fun t _ y => ?_
  blk_simp
  rw [after0_2]
  frame_out
  refine TileRows.at_row (ρ := fun _ a => a) (point m c) t y _ ?_ ?_
  all_goals (blk_simp [idx t] <;> try omega)

end Cert.MemRmsFwdIdeal.Norm

/-- The kernel's normalised memory is the reference's. -/
theorem Cert.MemRmsFwdIdeal.algebraic : Cert.algebraic_MemRmsFwdIdeal_MemRmsFwdRefIdeal := by
  pair_intro
  · run_from Cert.MemRmsFwdIdeal.Value.run_blocks m g
  · run_from Cert.MemRmsFwdRefIdeal.Value.run m' g'
    exact (Cert.MemRmsFwdIdeal.Norm.final m c).symm
-- ==== Proof.lean ====
module

public import proofs.«01_k».proof.Defs
public import proofs.«01_k».proof.Proof.Gen.MemRms
public import proofs.«01_k».proof.Proof.Gen.MemRms.Frame
public import proofs.«01_k».proof.Proof.Gen.MemRmsIdeal
public import proofs.«01_k».proof.Proof.Gen.MemRmsIdeal.Frame
public import proofs.«01_k».proof.Proof.Gen.MemRmsRefIdeal
public import proofs.«01_k».proof.Proof.Gen.MemRmsRefIdeal.Run
public import proofs.«01_k».proof.Proof.Gen.Loss
public import proofs.«01_k».proof.Proof.Gen.Loss.Frame
public import proofs.«01_k».proof.Proof.Gen.LossIdeal
public import proofs.«01_k».proof.Proof.Gen.LossIdeal.Frame
public import proofs.«01_k».proof.Proof.Gen.LossRefIdeal
public import proofs.«01_k».proof.Proof.Gen.LossRefIdeal.Run
public import proofs.«01_k».proof.Proof.Gen.InE
public import proofs.«01_k».proof.Proof.Gen.InE.Frame
public import proofs.«01_k».proof.Proof.Gen.InEIdeal
public import proofs.«01_k».proof.Proof.Gen.InEIdeal.Frame
public import proofs.«01_k».proof.Proof.Gen.InERefIdeal
public import proofs.«01_k».proof.Proof.Gen.InERefIdeal.Run
public import proofs.«01_k».proof.Proof.Gen.InO
public import proofs.«01_k».proof.Proof.Gen.InO.Frame
public import proofs.«01_k».proof.Proof.Gen.InOIdeal
public import proofs.«01_k».proof.Proof.Gen.InOIdeal.Frame
public import proofs.«01_k».proof.Proof.Gen.InORefIdeal
public import proofs.«01_k».proof.Proof.Gen.InORefIdeal.Run
public import proofs.«01_k».proof.Proof.Gen.OutE
public import proofs.«01_k».proof.Proof.Gen.OutE.Frame
public import proofs.«01_k».proof.Proof.Gen.OutEIdeal
public import proofs.«01_k».proof.Proof.Gen.OutEIdeal.Frame
public import proofs.«01_k».proof.Proof.Gen.OutERefIdeal
public import proofs.«01_k».proof.Proof.Gen.OutERefIdeal.Run
public import proofs.«01_k».proof.Proof.Gen.OutO
public import proofs.«01_k».proof.Proof.Gen.OutO.Frame
public import proofs.«01_k».proof.Proof.Gen.OutOIdeal
public import proofs.«01_k».proof.Proof.Gen.OutOIdeal.Frame
public import proofs.«01_k».proof.Proof.Gen.OutORefIdeal
public import proofs.«01_k».proof.Proof.Gen.OutORefIdeal.Run
public import proofs.«01_k».proof.Proof.Gen.MemAttn
public import proofs.«01_k».proof.Proof.Gen.MemAttn.Frame
public import proofs.«01_k».proof.Proof.Gen.MemAttnIdeal
public import proofs.«01_k».proof.Proof.Gen.MemAttnIdeal.Frame
public import proofs.«01_k».proof.Proof.Gen.MemAttnRefIdeal
public import proofs.«01_k».proof.Proof.Gen.MemAttnRefIdeal.Run
public import proofs.«01_k».proof.Proof.Gen.MemFwd
public import proofs.«01_k».proof.Proof.Gen.MemFwd.Frame
public import proofs.«01_k».proof.Proof.Gen.MemFwdIdeal
public import proofs.«01_k».proof.Proof.Gen.MemFwdIdeal.Frame
public import proofs.«01_k».proof.Proof.Gen.MemFwdRefIdeal
public import proofs.«01_k».proof.Proof.Gen.MemFwdRefIdeal.Run
public import proofs.«01_k».proof.Proof.Gen.AttnFwd
public import proofs.«01_k».proof.Proof.Gen.AttnFwd.Frame
public import proofs.«01_k».proof.Proof.Gen.AttnFwdIdeal
public import proofs.«01_k».proof.Proof.Gen.AttnFwdIdeal.Frame
public import proofs.«01_k».proof.Proof.Gen.AttnFwdRefIdeal
public import proofs.«01_k».proof.Proof.Gen.AttnFwdRefIdeal.Run
public import proofs.«01_k».proof.Proof.Gen.OutEFwd
public import proofs.«01_k».proof.Proof.Gen.OutEFwd.Frame
public import proofs.«01_k».proof.Proof.Gen.OutEFwdIdeal
public import proofs.«01_k».proof.Proof.Gen.OutEFwdIdeal.Frame
public import proofs.«01_k».proof.Proof.Gen.OutEFwdRefIdeal
public import proofs.«01_k».proof.Proof.Gen.OutEFwdRefIdeal.Run
public import proofs.«01_k».proof.Proof.Gen.OutOFwd
public import proofs.«01_k».proof.Proof.Gen.OutOFwd.Frame
public import proofs.«01_k».proof.Proof.Gen.OutOFwdIdeal
public import proofs.«01_k».proof.Proof.Gen.OutOFwdIdeal.Frame
public import proofs.«01_k».proof.Proof.Gen.OutOFwdRefIdeal
public import proofs.«01_k».proof.Proof.Gen.OutOFwdRefIdeal.Run
public import proofs.«01_k».proof.Proof.Gen.InEFwd
public import proofs.«01_k».proof.Proof.Gen.InEFwd.Frame
public import proofs.«01_k».proof.Proof.Gen.InEFwdIdeal
public import proofs.«01_k».proof.Proof.Gen.InEFwdIdeal.Frame
public import proofs.«01_k».proof.Proof.Gen.InEFwdRefIdeal
public import proofs.«01_k».proof.Proof.Gen.InEFwdRefIdeal.Run
public import proofs.«01_k».proof.Proof.Gen.InOFwd
public import proofs.«01_k».proof.Proof.Gen.InOFwd.Frame
public import proofs.«01_k».proof.Proof.Gen.InOFwdIdeal
public import proofs.«01_k».proof.Proof.Gen.InOFwdIdeal.Frame
public import proofs.«01_k».proof.Proof.Gen.InOFwdRefIdeal
public import proofs.«01_k».proof.Proof.Gen.InOFwdRefIdeal.Run
public import proofs.«01_k».proof.Proof.Gen.MemRmsFwd
public import proofs.«01_k».proof.Proof.Gen.MemRmsFwd.Frame
public import proofs.«01_k».proof.Proof.Gen.MemRmsFwdIdeal
public import proofs.«01_k».proof.Proof.Gen.MemRmsFwdIdeal.Frame
public import proofs.«01_k».proof.Proof.Gen.MemRmsFwdRefIdeal
public import proofs.«01_k».proof.Proof.Gen.MemRmsFwdRefIdeal.Run
public import proofs.«01_k».proof.Proof.MemRmsValue
public import proofs.«01_k».proof.Proof.LossValue
public import proofs.«01_k».proof.Proof.InEValue
public import proofs.«01_k».proof.Proof.InOValue
public import proofs.«01_k».proof.Proof.OutEValue
public import proofs.«01_k».proof.Proof.OutOValue
public import proofs.«01_k».proof.Proof.MemAttnValue
public import proofs.«01_k».proof.Proof.MemFwdValue
public import proofs.«01_k».proof.Proof.AttnFwdValue
public import proofs.«01_k».proof.Proof.OutEFwdValue
public import proofs.«01_k».proof.Proof.OutOFwdValue
public import proofs.«01_k».proof.Proof.InEFwdValue
public import proofs.«01_k».proof.Proof.InOFwdValue
public import proofs.«01_k».proof.Proof.MemRmsFwdValue

@[expose] public section

noncomputable section

namespace Cert.Proof

open Idealize.ShloMosaic Idealize.SL.Sem

/-- `Cert.quiescent_MemRmsRefIdeal`: the reference is a straight-line host program, whose run keeps every argument, and it declares no semaphore. -/
theorem MemRmsRefIdeal_frame : Cert.quiescent_MemRmsRefIdeal := fun m ρ _ =>
  (θ_run Cert.MemRmsRefIdeal.defs _ _).mono (fun r h => ⟨fun c => (h c).2, sem_eq_zero_of_no_sems (by decide) r.2⟩)
    (Cert.MemRmsRefIdeal.Value.run m ρ)

/-- `Cert.quiescent_LossRefIdeal`: the reference is a straight-line host program, whose run keeps every argument, and it declares no semaphore. -/
theorem LossRefIdeal_frame : Cert.quiescent_LossRefIdeal := fun m ρ _ =>
  (θ_run Cert.LossRefIdeal.defs _ _).mono (fun r h => ⟨fun c => (h c).2.2.2, sem_eq_zero_of_no_sems (by decide) r.2⟩)
    (Cert.LossRefIdeal.Value.run m ρ)

/-- `Cert.quiescent_InERefIdeal`: the reference is a straight-line host program, whose run keeps every argument, and it declares no semaphore. -/
theorem InERefIdeal_frame : Cert.quiescent_InERefIdeal := fun m ρ _ =>
  (θ_run Cert.InERefIdeal.defs _ _).mono (fun r h => ⟨fun c => (h c).2.2.2, sem_eq_zero_of_no_sems (by decide) r.2⟩)
    (Cert.InERefIdeal.Value.run m ρ)

/-- `Cert.quiescent_InORefIdeal`: the reference is a straight-line host program, whose run keeps every argument, and it declares no semaphore. -/
theorem InORefIdeal_frame : Cert.quiescent_InORefIdeal := fun m ρ _ =>
  (θ_run Cert.InORefIdeal.defs _ _).mono (fun r h => ⟨fun c => (h c).2.2.2, sem_eq_zero_of_no_sems (by decide) r.2⟩)
    (Cert.InORefIdeal.Value.run m ρ)

/-- `Cert.quiescent_OutERefIdeal`: the reference is a straight-line host program, whose run keeps every argument, and it declares no semaphore. -/
theorem OutERefIdeal_frame : Cert.quiescent_OutERefIdeal := fun m ρ _ =>
  (θ_run Cert.OutERefIdeal.defs _ _).mono (fun r h => ⟨fun c => (h c).2.2.2.2.2.2.2.2, sem_eq_zero_of_no_sems (by decide) r.2⟩)
    (Cert.OutERefIdeal.Value.run m ρ)

/-- `Cert.quiescent_OutORefIdeal`: the reference is a straight-line host program, whose run keeps every argument, and it declares no semaphore. -/
theorem OutORefIdeal_frame : Cert.quiescent_OutORefIdeal := fun m ρ _ =>
  (θ_run Cert.OutORefIdeal.defs _ _).mono (fun r h => ⟨fun c => (h c).2.2.2.2.2.2, sem_eq_zero_of_no_sems (by decide) r.2⟩)
    (Cert.OutORefIdeal.Value.run m ρ)

/-- `Cert.quiescent_MemAttnRefIdeal`: the reference is a straight-line host program, whose run keeps every argument, and it declares no semaphore. -/
theorem MemAttnRefIdeal_frame : Cert.quiescent_MemAttnRefIdeal := fun m ρ _ =>
  (θ_run Cert.MemAttnRefIdeal.defs _ _).mono (fun r h => ⟨fun c => (h c).2.2, sem_eq_zero_of_no_sems (by decide) r.2⟩)
    (Cert.MemAttnRefIdeal.Value.run m ρ)

/-- `Cert.quiescent_MemFwdRefIdeal`: the reference is a straight-line host program, whose run keeps every argument, and it declares no semaphore. -/
theorem MemFwdRefIdeal_frame : Cert.quiescent_MemFwdRefIdeal := fun m ρ _ =>
  (θ_run Cert.MemFwdRefIdeal.defs _ _).mono (fun r h => ⟨fun c => (h c).2, sem_eq_zero_of_no_sems (by decide) r.2⟩)
    (Cert.MemFwdRefIdeal.Value.run m ρ)

/-- `Cert.quiescent_AttnFwdRefIdeal`: the reference is a straight-line host program, whose run keeps every argument, and it declares no semaphore. -/
theorem AttnFwdRefIdeal_frame : Cert.quiescent_AttnFwdRefIdeal := fun m ρ _ =>
  (θ_run Cert.AttnFwdRefIdeal.defs _ _).mono (fun r h => ⟨fun c => (h c).2, sem_eq_zero_of_no_sems (by decide) r.2⟩)
    (Cert.AttnFwdRefIdeal.Value.run m ρ)

/-- `Cert.quiescent_OutEFwdRefIdeal`: the reference is a straight-line host program, whose run keeps every argument, and it declares no semaphore. -/
theorem OutEFwdRefIdeal_frame : Cert.quiescent_OutEFwdRefIdeal := fun m ρ _ =>
  (θ_run Cert.OutEFwdRefIdeal.defs _ _).mono (fun r h => ⟨fun c => (h c).2, sem_eq_zero_of_no_sems (by decide) r.2⟩)
    (Cert.OutEFwdRefIdeal.Value.run m ρ)

/-- `Cert.quiescent_OutOFwdRefIdeal`: the reference is a straight-line host program, whose run keeps every argument, and it declares no semaphore. -/
theorem OutOFwdRefIdeal_frame : Cert.quiescent_OutOFwdRefIdeal := fun m ρ _ =>
  (θ_run Cert.OutOFwdRefIdeal.defs _ _).mono (fun r h => ⟨fun c => (h c).2, sem_eq_zero_of_no_sems (by decide) r.2⟩)
    (Cert.OutOFwdRefIdeal.Value.run m ρ)

/-- `Cert.quiescent_InEFwdRefIdeal`: the reference is a straight-line host program, whose run keeps every argument, and it declares no semaphore. -/
theorem InEFwdRefIdeal_frame : Cert.quiescent_InEFwdRefIdeal := fun m ρ _ =>
  (θ_run Cert.InEFwdRefIdeal.defs _ _).mono (fun r h => ⟨fun c => (h c).2.2, sem_eq_zero_of_no_sems (by decide) r.2⟩)
    (Cert.InEFwdRefIdeal.Value.run m ρ)

/-- `Cert.quiescent_InOFwdRefIdeal`: the reference is a straight-line host program, whose run keeps every argument, and it declares no semaphore. -/
theorem InOFwdRefIdeal_frame : Cert.quiescent_InOFwdRefIdeal := fun m ρ _ =>
  (θ_run Cert.InOFwdRefIdeal.defs _ _).mono (fun r h => ⟨fun c => (h c).2.2, sem_eq_zero_of_no_sems (by decide) r.2⟩)
    (Cert.InOFwdRefIdeal.Value.run m ρ)

/-- `Cert.quiescent_MemRmsFwdRefIdeal`: the reference is a straight-line host program, whose run keeps every argument, and it declares no semaphore. -/
theorem MemRmsFwdRefIdeal_frame : Cert.quiescent_MemRmsFwdRefIdeal := fun m ρ _ =>
  (θ_run Cert.MemRmsFwdRefIdeal.defs _ _).mono (fun r h => ⟨fun c => (h c).2, sem_eq_zero_of_no_sems (by decide) r.2⟩)
    (Cert.MemRmsFwdRefIdeal.Value.run m ρ)

theorem claim : Cert.Claim :=
  ⟨Cert.MemRms.Gen.facts, Cert.MemRmsIdeal.Gen.facts, Cert.MemRmsRefIdeal.Gen.facts,
    Cert.Loss.Gen.facts, Cert.LossIdeal.Gen.facts, Cert.LossRefIdeal.Gen.facts,
    Cert.InE.Gen.facts, Cert.InEIdeal.Gen.facts, Cert.InERefIdeal.Gen.facts,
    Cert.InO.Gen.facts, Cert.InOIdeal.Gen.facts, Cert.InORefIdeal.Gen.facts,
    Cert.OutE.Gen.facts, Cert.OutEIdeal.Gen.facts, Cert.OutERefIdeal.Gen.facts,
    Cert.OutO.Gen.facts, Cert.OutOIdeal.Gen.facts, Cert.OutORefIdeal.Gen.facts,
    Cert.MemAttn.Gen.facts, Cert.MemAttnIdeal.Gen.facts, Cert.MemAttnRefIdeal.Gen.facts,
    Cert.MemFwd.Gen.facts, Cert.MemFwdIdeal.Gen.facts, Cert.MemFwdRefIdeal.Gen.facts,
    Cert.AttnFwd.Gen.facts, Cert.AttnFwdIdeal.Gen.facts, Cert.AttnFwdRefIdeal.Gen.facts,
    Cert.OutEFwd.Gen.facts, Cert.OutEFwdIdeal.Gen.facts, Cert.OutEFwdRefIdeal.Gen.facts,
    Cert.OutOFwd.Gen.facts, Cert.OutOFwdIdeal.Gen.facts, Cert.OutOFwdRefIdeal.Gen.facts,
    Cert.InEFwd.Gen.facts, Cert.InEFwdIdeal.Gen.facts, Cert.InEFwdRefIdeal.Gen.facts,
    Cert.InOFwd.Gen.facts, Cert.InOFwdIdeal.Gen.facts, Cert.InOFwdRefIdeal.Gen.facts,
    Cert.MemRmsFwd.Gen.facts, Cert.MemRmsFwdIdeal.Gen.facts, Cert.MemRmsFwdRefIdeal.Gen.facts,
    fun m ρ _ => Cert.MemRms.Gen.frame m ρ,
    fun m ρ _ => Cert.MemRmsIdeal.Gen.frame m ρ,
    MemRmsRefIdeal_frame,
    fun m ρ _ => Cert.Loss.Gen.frame m ρ,
    fun m ρ _ => Cert.LossIdeal.Gen.frame m ρ,
    LossRefIdeal_frame,
    fun m ρ _ => Cert.InE.Gen.frame m ρ,
    fun m ρ _ => Cert.InEIdeal.Gen.frame m ρ,
    InERefIdeal_frame,
    fun m ρ _ => Cert.InO.Gen.frame m ρ,
    fun m ρ _ => Cert.InOIdeal.Gen.frame m ρ,
    InORefIdeal_frame,
    fun m ρ _ => Cert.OutE.Gen.frame m ρ,
    fun m ρ _ => Cert.OutEIdeal.Gen.frame m ρ,
    OutERefIdeal_frame,
    fun m ρ _ => Cert.OutO.Gen.frame m ρ,
    fun m ρ _ => Cert.OutOIdeal.Gen.frame m ρ,
    OutORefIdeal_frame,
    fun m ρ _ => Cert.MemAttn.Gen.frame m ρ,
    fun m ρ _ => Cert.MemAttnIdeal.Gen.frame m ρ,
    MemAttnRefIdeal_frame,
    fun m ρ _ => Cert.MemFwd.Gen.frame m ρ,
    fun m ρ _ => Cert.MemFwdIdeal.Gen.frame m ρ,
    MemFwdRefIdeal_frame,
    fun m ρ _ => Cert.AttnFwd.Gen.frame m ρ,
    fun m ρ _ => Cert.AttnFwdIdeal.Gen.frame m ρ,
    AttnFwdRefIdeal_frame,
    fun m ρ _ => Cert.OutEFwd.Gen.frame m ρ,
    fun m ρ _ => Cert.OutEFwdIdeal.Gen.frame m ρ,
    OutEFwdRefIdeal_frame,
    fun m ρ _ => Cert.OutOFwd.Gen.frame m ρ,
    fun m ρ _ => Cert.OutOFwdIdeal.Gen.frame m ρ,
    OutOFwdRefIdeal_frame,
    fun m ρ _ => Cert.InEFwd.Gen.frame m ρ,
    fun m ρ _ => Cert.InEFwdIdeal.Gen.frame m ρ,
    InEFwdRefIdeal_frame,
    fun m ρ _ => Cert.InOFwd.Gen.frame m ρ,
    fun m ρ _ => Cert.InOFwdIdeal.Gen.frame m ρ,
    InOFwdRefIdeal_frame,
    fun m ρ _ => Cert.MemRmsFwd.Gen.frame m ρ,
    fun m ρ _ => Cert.MemRmsFwdIdeal.Gen.frame m ρ,
    MemRmsFwdRefIdeal_frame,
    trivial,
    Cert.MemRmsIdeal.algebraic,
    trivial,
    Cert.LossIdeal.algebraic,
    trivial,
    Cert.InEIdeal.algebraic,
    trivial,
    Cert.InOIdeal.algebraic,
    trivial,
    Cert.OutEIdeal.algebraic,
    trivial,
    Cert.OutOIdeal.algebraic,
    trivial,
    Cert.MemAttnIdeal.algebraic,
    trivial,
    Cert.MemFwdIdeal.algebraic,
    trivial,
    Cert.AttnFwdIdeal.algebraic,
    trivial,
    Cert.OutEFwdIdeal.algebraic,
    trivial,
    Cert.OutOFwdIdeal.algebraic,
    trivial,
    Cert.InEFwdIdeal.algebraic,
    trivial,
    Cert.InOFwdIdeal.algebraic,
    trivial,
    Cert.MemRmsFwdIdeal.algebraic⟩

end Cert.Proof

end
